-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Reference12Ideal (m : (ℓ : Loc Cert.Reference12Ideal.nD Cert.Reference12Ideal.τ Cert.Reference12Ideal.sig) → Buf (Elt Ideal) ℓ) : Prop :=
  True

def Pre_Kernel13 (m : (ℓ : Loc Cert.Kernel13.nD Cert.Kernel13.τ Cert.Kernel13.sig) → Buf (Elt Bits) ℓ) : Prop :=
  True

def Pre_Kernel13Ideal (m : (ℓ : Loc Cert.Kernel13Ideal.nD Cert.Kernel13Ideal.τ Cert.Kernel13Ideal.sig) → Buf (Elt Ideal) ℓ) : Prop :=
  True

def Pre_Reference13Ideal (m : (ℓ : Loc Cert.Reference13Ideal.nD Cert.Reference13Ideal.τ Cert.Reference13Ideal.sig) → Buf (Elt Ideal) ℓ) : Prop :=
  True

def Pre_Kernel14 (m : (ℓ : Loc Cert.Kernel14.nD Cert.Kernel14.τ Cert.Kernel14.sig) → Buf (Elt Bits) ℓ) : Prop :=
  True

def Pre_Kernel14Ideal (m : (ℓ : Loc Cert.Kernel14Ideal.nD Cert.Kernel14Ideal.τ Cert.Kernel14Ideal.sig) → Buf (Elt Ideal) ℓ) : Prop :=
  True

def Pre_Reference14Ideal (m : (ℓ : Loc Cert.Reference14Ideal.nD Cert.Reference14Ideal.τ Cert.Reference14Ideal.sig) → Buf (Elt Ideal) ℓ) : Prop :=
  True

def Pre_Kernel15 (m : (ℓ : Loc Cert.Kernel15.nD Cert.Kernel15.τ Cert.Kernel15.sig) → Buf (Elt Bits) ℓ) : Prop :=
  True

def Pre_Kernel15Ideal (m : (ℓ : Loc Cert.Kernel15Ideal.nD Cert.Kernel15Ideal.τ Cert.Kernel15Ideal.sig) → Buf (Elt Ideal) ℓ) : Prop :=
  True

def Pre_Reference15Ideal (m : (ℓ : Loc Cert.Reference15Ideal.nD Cert.Reference15Ideal.τ Cert.Reference15Ideal.sig) → Buf (Elt Ideal) ℓ) : Prop :=
  True

def Pre_Kernel16 (m : (ℓ : Loc Cert.Kernel16.nD Cert.Kernel16.τ Cert.Kernel16.sig) → Buf (Elt Bits) ℓ) : Prop :=
  True

def Pre_Kernel16Ideal (m : (ℓ : Loc Cert.Kernel16Ideal.nD Cert.Kernel16Ideal.τ Cert.Kernel16Ideal.sig) → Buf (Elt Ideal) ℓ) : Prop :=
  True

def Pre_Reference16Ideal (m : (ℓ : Loc Cert.Reference16Ideal.nD Cert.Reference16Ideal.τ Cert.Reference16Ideal.sig) → Buf (Elt Ideal) ℓ) : Prop :=
  True

def Pre_Kernel17 (m : (ℓ : Loc Cert.Kernel17.nD Cert.Kernel17.τ Cert.Kernel17.sig) → Buf (Elt Bits) ℓ) : Prop :=
  True

def Pre_Kernel17Ideal (m : (ℓ : Loc Cert.Kernel17Ideal.nD Cert.Kernel17Ideal.τ Cert.Kernel17Ideal.sig) → Buf (Elt Ideal) ℓ) : Prop :=
  True

def Pre_Reference17Ideal (m : (ℓ : Loc Cert.Reference17Ideal.nD Cert.Reference17Ideal.τ Cert.Reference17Ideal.sig) → Buf (Elt Ideal) ℓ) : Prop :=
  True

def Pre_Kernel18 (m : (ℓ : Loc Cert.Kernel18.nD Cert.Kernel18.τ Cert.Kernel18.sig) → Buf (Elt Bits) ℓ) : Prop :=
  True

def Pre_Kernel18Ideal (m : (ℓ : Loc Cert.Kernel18Ideal.nD Cert.Kernel18Ideal.τ Cert.Kernel18Ideal.sig) → Buf (Elt Ideal) ℓ) : Prop :=
  True

def Pre_Reference18Ideal (m : (ℓ : Loc Cert.Reference18Ideal.nD Cert.Reference18Ideal.τ Cert.Reference18Ideal.sig) → Buf (Elt Ideal) ℓ) : Prop :=
  True

def Pre_Kernel19 (m : (ℓ : Loc Cert.Kernel19.nD Cert.Kernel19.τ Cert.Kernel19.sig) → Buf (Elt Bits) ℓ) : Prop :=
  True

def Pre_Kernel19Ideal (m : (ℓ : Loc Cert.Kernel19Ideal.nD Cert.Kernel19Ideal.τ Cert.Kernel19Ideal.sig) → Buf (Elt Ideal) ℓ) : Prop :=
  True

def Pre_Reference19Ideal (m : (ℓ : Loc Cert.Reference19Ideal.nD Cert.Reference19Ideal.τ Cert.Reference19Ideal.sig) → Buf (Elt Ideal) ℓ) : Prop :=
  True

def Pre_Kernel20 (m : (ℓ : Loc Cert.Kernel20.nD Cert.Kernel20.τ Cert.Kernel20.sig) → Buf (Elt Bits) ℓ) : Prop :=
  True

def Pre_Kernel20Ideal (m : (ℓ : Loc Cert.Kernel20Ideal.nD Cert.Kernel20Ideal.τ Cert.Kernel20Ideal.sig) → Buf (Elt Ideal) ℓ) : Prop :=
  True

def Pre_Reference20Ideal (m : (ℓ : Loc Cert.Reference20Ideal.nD Cert.Reference20Ideal.τ Cert.Reference20Ideal.sig) → Buf (Elt Ideal) ℓ) : Prop :=
  True

def Pre_Kernel21 (m : (ℓ : Loc Cert.Kernel21.nD Cert.Kernel21.τ Cert.Kernel21.sig) → Buf (Elt Bits) ℓ) : Prop :=
  True

def Pre_Kernel21Ideal (m : (ℓ : Loc Cert.Kernel21Ideal.nD Cert.Kernel21Ideal.τ Cert.Kernel21Ideal.sig) → Buf (Elt Ideal) ℓ) : Prop :=
  True

def Pre_Reference21Ideal (m : (ℓ : Loc Cert.Reference21Ideal.nD Cert.Reference21Ideal.τ Cert.Reference21Ideal.sig) → Buf (Elt Ideal) ℓ) : Prop :=
  True

def Pre_Kernel22 (m : (ℓ : Loc Cert.Kernel22.nD Cert.Kernel22.τ Cert.Kernel22.sig) → Buf (Elt Bits) ℓ) : Prop :=
  True

def Pre_Kernel22Ideal (m : (ℓ : Loc Cert.Kernel22Ideal.nD Cert.Kernel22Ideal.τ Cert.Kernel22Ideal.sig) → Buf (Elt Ideal) ℓ) : Prop :=
  True

def Pre_Reference22Ideal (m : (ℓ : Loc Cert.Reference22Ideal.nD Cert.Reference22Ideal.τ Cert.Reference22Ideal.sig) → Buf (Elt Ideal) ℓ) : Prop :=
  True

def Pre_Kernel23 (m : (ℓ : Loc Cert.Kernel23.nD Cert.Kernel23.τ Cert.Kernel23.sig) → Buf (Elt Bits) ℓ) : Prop :=
  True

def Pre_Kernel23Ideal (m : (ℓ : Loc Cert.Kernel23Ideal.nD Cert.Kernel23Ideal.τ Cert.Kernel23Ideal.sig) → Buf (Elt Ideal) ℓ) : Prop :=
  True

def Pre_Reference23Ideal (m : (ℓ : Loc Cert.Reference23Ideal.nD Cert.Reference23Ideal.τ Cert.Reference23Ideal.sig) → Buf (Elt Ideal) ℓ) : Prop :=
  True

def Pre_Kernel24 (m : (ℓ : Loc Cert.Kernel24.nD Cert.Kernel24.τ Cert.Kernel24.sig) → Buf (Elt Bits) ℓ) : Prop :=
  True

def Pre_Kernel24Ideal (m : (ℓ : Loc Cert.Kernel24Ideal.nD Cert.Kernel24Ideal.τ Cert.Kernel24Ideal.sig) → Buf (Elt Ideal) ℓ) : Prop :=
  True

def Pre_Reference24Ideal (m : (ℓ : Loc Cert.Reference24Ideal.nD Cert.Reference24Ideal.τ Cert.Reference24Ideal.sig) → Buf (Elt Ideal) ℓ) : Prop :=
  True

def Pre_Kernel25 (m : (ℓ : Loc Cert.Kernel25.nD Cert.Kernel25.τ Cert.Kernel25.sig) → Buf (Elt Bits) ℓ) : Prop :=
  True

def Pre_Kernel25Ideal (m : (ℓ : Loc Cert.Kernel25Ideal.nD Cert.Kernel25Ideal.τ Cert.Kernel25Ideal.sig) → Buf (Elt Ideal) ℓ) : Prop :=
  True

def Pre_Reference25Ideal (m : (ℓ : Loc Cert.Reference25Ideal.nD Cert.Reference25Ideal.τ Cert.Reference25Ideal.sig) → Buf (Elt Ideal) ℓ) : Prop :=
  True

def Pre_Kernel26 (m : (ℓ : Loc Cert.Kernel26.nD Cert.Kernel26.τ Cert.Kernel26.sig) → Buf (Elt Bits) ℓ) : Prop :=
  True

def Pre_Kernel26Ideal (m : (ℓ : Loc Cert.Kernel26Ideal.nD Cert.Kernel26Ideal.τ Cert.Kernel26Ideal.sig) → Buf (Elt Ideal) ℓ) : Prop :=
  True

def Pre_Reference26Ideal (m : (ℓ : Loc Cert.Reference26Ideal.nD Cert.Reference26Ideal.τ Cert.Reference26Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1)
      ∧ r.2.mem ((c.tc : Thread Cert.Kernel11.nD Cert.Kernel11.τ).loc Cert.Kernel11.main_arg2) = m ((c.tc : Thread Cert.Kernel11.nD Cert.Kernel11.τ).loc Cert.Kernel11.main_arg2))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
      ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1)
      ∧ r.2.mem ((c.tc : Thread Cert.Reference11Ideal.nD Cert.Reference11Ideal.τ).loc Cert.Reference11Ideal.main_arg2) = m ((c.tc : Thread Cert.Reference11Ideal.nD Cert.Reference11Ideal.τ).loc Cert.Reference11Ideal.main_arg2))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1))
      ∧ r.2.sem = fun _ => 0)

def quiescent_Kernel13 [hKernel13 : Cert.Kernel13.Facts] : Prop :=
  ∀ (m : (ℓ : Loc Cert.Kernel13.nD Cert.Kernel13.τ Cert.Kernel13.sig) → Buf (Elt Bits) ℓ) (g : Dev Cert.Kernel13.nD → PrngReg), Pre_Kernel13 m →
    θ_run (Cert.Kernel13.defs (F := Bits)) (onTc (τ := Cert.Kernel13.τ) (Cert.Kernel13.main (F := Bits))) ⟨m, fun _ => 0, g⟩ (fun r => (∀ c : Dev Cert.Kernel13.nD,
      r.2.mem ((c.tc : Thread Cert.Kernel13.nD Cert.Kernel13.τ).loc Cert.Kernel13.main_arg0) = m ((c.tc : Thread Cert.Kernel13.nD Cert.Kernel13.τ).loc Cert.Kernel13.main_arg0)
      ∧ r.2.mem ((c.tc : Thread Cert.Kernel13.nD Cert.Kernel13.τ).loc Cert.Kernel13.main_arg1) = m ((c.tc : Thread Cert.Kernel13.nD Cert.Kernel13.τ).loc Cert.Kernel13.main_arg1))
      ∧ r.2.sem = fun _ => 0)

def quiescent_Kernel13Ideal [hKernel13Ideal : Cert.Kernel13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg), Pre_Kernel13Ideal m →
    θ_run (Cert.Kernel13Ideal.defs (F := Ideal)) (onTc (τ := Cert.Kernel13Ideal.τ) (Cert.Kernel13Ideal.main (F := Ideal))) ⟨m, fun _ => 0, g⟩ (fun r => (∀ c : Dev Cert.Kernel13Ideal.nD,
      r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
      ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1))
      ∧ r.2.sem = fun _ => 0)

def quiescent_Reference13Ideal [hReference13Ideal : Cert.Reference13Ideal.Facts] : Prop :=
  ∀ (m : (ℓ : Loc Cert.Reference13Ideal.nD Cert.Reference13Ideal.τ Cert.Reference13Ideal.sig) → Buf (Elt Ideal) ℓ) (g : Dev Cert.Reference13Ideal.nD → PrngReg), Pre_Reference13Ideal m →
    θ_run (Cert.Reference13Ideal.defs (F := Ideal)) (onTc (τ := Cert.Reference13Ideal.τ) (Cert.Reference13Ideal.main (F := Ideal))) ⟨m, fun _ => 0, g⟩ (fun r => (∀ c : Dev Cert.Reference13Ideal.nD,
      r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0)
      ∧ r.2.mem ((c.tc : Thread Cert.Reference13Ideal.nD Cert.Reference13Ideal.τ).loc Cert.Reference13Ideal.main_arg1) = m ((c.tc : Thread Cert.Reference13Ideal.nD Cert.Reference13Ideal.τ).loc Cert.Reference13Ideal.main_arg1))
      ∧ r.2.sem = fun _ => 0)

def quiescent_Kernel14 [hKernel14 : Cert.Kernel14.Facts] : Prop :=
  ∀ (m : (ℓ : Loc Cert.Kernel14.nD Cert.Kernel14.τ Cert.Kernel14.sig) → Buf (Elt Bits) ℓ) (g : Dev Cert.Kernel14.nD → PrngReg), Pre_Kernel14 m →
    θ_run (Cert.Kernel14.defs (F := Bits)) (onTc (τ := Cert.Kernel14.τ) (Cert.Kernel14.main (F := Bits))) ⟨m, fun _ => 0, g⟩ (fun r => (∀ c : Dev Cert.Kernel14.nD,
      r.2.mem ((c.tc : Thread Cert.Kernel14.nD Cert.Kernel14.τ).loc Cert.Kernel14.main_arg0) = m ((c.tc : Thread Cert.Kernel14.nD Cert.Kernel14.τ).loc Cert.Kernel14.main_arg0)
      ∧ r.2.mem ((c.tc : Thread Cert.Kernel14.nD Cert.Kernel14.τ).loc Cert.Kernel14.main_arg1) = m ((c.tc : Thread Cert.Kernel14.nD Cert.Kernel14.τ).loc Cert.Kernel14.main_arg1)
      ∧ r.2.mem ((c.tc : Thread Cert.Kernel14.nD Cert.Kernel14.τ).loc Cert.Kernel14.main_arg2) = m ((c.tc : Thread Cert.Kernel14.nD Cert.Kernel14.τ).loc Cert.Kernel14.main_arg2))
      ∧ r.2.sem = fun _ => 0)

def quiescent_Kernel14Ideal [hKernel14Ideal : Cert.Kernel14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg), Pre_Kernel14Ideal m →
    θ_run (Cert.Kernel14Ideal.defs (F := Ideal)) (onTc (τ := Cert.Kernel14Ideal.τ) (Cert.Kernel14Ideal.main (F := Ideal))) ⟨m, fun _ => 0, g⟩ (fun r => (∀ c : Dev Cert.Kernel14Ideal.nD,
      r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
      ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
      ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2))
      ∧ r.2.sem = fun _ => 0)

def quiescent_Reference14Ideal [hReference14Ideal : Cert.Reference14Ideal.Facts] : Prop :=
  ∀ (m : (ℓ : Loc Cert.Reference14Ideal.nD Cert.Reference14Ideal.τ Cert.Reference14Ideal.sig) → Buf (Elt Ideal) ℓ) (g : Dev Cert.Reference14Ideal.nD → PrngReg), Pre_Reference14Ideal m →
    θ_run (Cert.Reference14Ideal.defs (F := Ideal)) (onTc (τ := Cert.Reference14Ideal.τ) (Cert.Reference14Ideal.main (F := Ideal))) ⟨m, fun _ => 0, g⟩ (fun r => (∀ c : Dev Cert.Reference14Ideal.nD,
      r.2.mem ((c.tc : Thread Cert.Reference14Ideal.nD Cert.Reference14Ideal.τ).loc Cert.Reference14Ideal.main_arg0) = m ((c.tc : Thread Cert.Reference14Ideal.nD Cert.Reference14Ideal.τ).loc Cert.Reference14Ideal.main_arg0)
      ∧ r.2.mem ((c.tc : Thread Cert.Reference14Ideal.nD Cert.Reference14Ideal.τ).loc Cert.Reference14Ideal.main_arg1) = m ((c.tc : Thread Cert.Reference14Ideal.nD Cert.Reference14Ideal.τ).loc Cert.Reference14Ideal.main_arg1)
      ∧ r.2.mem ((c.tc : Thread Cert.Reference14Ideal.nD Cert.Reference14Ideal.τ).loc Cert.Reference14Ideal.main_arg2) = m ((c.tc : Thread Cert.Reference14Ideal.nD Cert.Reference14Ideal.τ).loc Cert.Reference14Ideal.main_arg2))
      ∧ r.2.sem = fun _ => 0)

def quiescent_Kernel15 [hKernel15 : Cert.Kernel15.Facts] : Prop :=
  ∀ (m : (ℓ : Loc Cert.Kernel15.nD Cert.Kernel15.τ Cert.Kernel15.sig) → Buf (Elt Bits) ℓ) (g : Dev Cert.Kernel15.nD → PrngReg), Pre_Kernel15 m →
    θ_run (Cert.Kernel15.defs (F := Bits)) (onTc (τ := Cert.Kernel15.τ) (Cert.Kernel15.main (F := Bits))) ⟨m, fun _ => 0, g⟩ (fun r => (∀ c : Dev Cert.Kernel15.nD,
      r.2.mem ((c.tc : Thread Cert.Kernel15.nD Cert.Kernel15.τ).loc Cert.Kernel15.main_arg0) = m ((c.tc : Thread Cert.Kernel15.nD Cert.Kernel15.τ).loc Cert.Kernel15.main_arg0)
      ∧ r.2.mem ((c.tc : Thread Cert.Kernel15.nD Cert.Kernel15.τ).loc Cert.Kernel15.main_arg1) = m ((c.tc : Thread Cert.Kernel15.nD Cert.Kernel15.τ).loc Cert.Kernel15.main_arg1)
      ∧ r.2.mem ((c.tc : Thread Cert.Kernel15.nD Cert.Kernel15.τ).loc Cert.Kernel15.main_arg2) = m ((c.tc : Thread Cert.Kernel15.nD Cert.Kernel15.τ).loc Cert.Kernel15.main_arg2)
      ∧ r.2.mem ((c.tc : Thread Cert.Kernel15.nD Cert.Kernel15.τ).loc Cert.Kernel15.main_arg3) = m ((c.tc : Thread Cert.Kernel15.nD Cert.Kernel15.τ).loc Cert.Kernel15.main_arg3)
      ∧ r.2.mem ((c.tc : Thread Cert.Kernel15.nD Cert.Kernel15.τ).loc Cert.Kernel15.main_arg4) = m ((c.tc : Thread Cert.Kernel15.nD Cert.Kernel15.τ).loc Cert.Kernel15.main_arg4))
      ∧ r.2.sem = fun _ => 0)

def quiescent_Kernel15Ideal [hKernel15Ideal : Cert.Kernel15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg), Pre_Kernel15Ideal m →
    θ_run (Cert.Kernel15Ideal.defs (F := Ideal)) (onTc (τ := Cert.Kernel15Ideal.τ) (Cert.Kernel15Ideal.main (F := Ideal))) ⟨m, fun _ => 0, g⟩ (fun r => (∀ c : Dev Cert.Kernel15Ideal.nD,
      r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
      ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
      ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2)
      ∧ r.2.mem ((c.tc : Thread Cert.Kernel15Ideal.nD Cert.Kernel15Ideal.τ).loc Cert.Kernel15Ideal.main_arg3) = m ((c.tc : Thread Cert.Kernel15Ideal.nD Cert.Kernel15Ideal.τ).loc Cert.Kernel15Ideal.main_arg3)
      ∧ r.2.mem ((c.tc : Thread Cert.Kernel15Ideal.nD Cert.Kernel15Ideal.τ).loc Cert.Kernel15Ideal.main_arg4) = m ((c.tc : Thread Cert.Kernel15Ideal.nD Cert.Kernel15Ideal.τ).loc Cert.Kernel15Ideal.main_arg4))
      ∧ r.2.sem = fun _ => 0)

def quiescent_Reference15Ideal [hReference15Ideal : Cert.Reference15Ideal.Facts] : Prop :=
  ∀ (m : (ℓ : Loc Cert.Reference15Ideal.nD Cert.Reference15Ideal.τ Cert.Reference15Ideal.sig) → Buf (Elt Ideal) ℓ) (g : Dev Cert.Reference15Ideal.nD → PrngReg), Pre_Reference15Ideal m →
    θ_run (Cert.Reference15Ideal.defs (F := Ideal)) (onTc (τ := Cert.Reference15Ideal.τ) (Cert.Reference15Ideal.main (F := Ideal))) ⟨m, fun _ => 0, g⟩ (fun r => (∀ c : Dev Cert.Reference15Ideal.nD,
      r.2.mem ((c.tc : Thread Cert.Reference15Ideal.nD Cert.Reference15Ideal.τ).loc Cert.Reference15Ideal.main_arg0) = m ((c.tc : Thread Cert.Reference15Ideal.nD Cert.Reference15Ideal.τ).loc Cert.Reference15Ideal.main_arg0)
      ∧ r.2.mem ((c.tc : Thread Cert.Reference15Ideal.nD Cert.Reference15Ideal.τ).loc Cert.Reference15Ideal.main_arg1) = m ((c.tc : Thread Cert.Reference15Ideal.nD Cert.Reference15Ideal.τ).loc Cert.Reference15Ideal.main_arg1)
      ∧ r.2.mem ((c.tc : Thread Cert.Reference15Ideal.nD Cert.Reference15Ideal.τ).loc Cert.Reference15Ideal.main_arg2) = m ((c.tc : Thread Cert.Reference15Ideal.nD Cert.Reference15Ideal.τ).loc Cert.Reference15Ideal.main_arg2)
      ∧ r.2.mem ((c.tc : Thread Cert.Reference15Ideal.nD Cert.Reference15Ideal.τ).loc Cert.Reference15Ideal.main_arg3) = m ((c.tc : Thread Cert.Reference15Ideal.nD Cert.Reference15Ideal.τ).loc Cert.Reference15Ideal.main_arg3)
      ∧ r.2.mem ((c.tc : Thread Cert.Reference15Ideal.nD Cert.Reference15Ideal.τ).loc Cert.Reference15Ideal.main_arg4) = m ((c.tc : Thread Cert.Reference15Ideal.nD Cert.Reference15Ideal.τ).loc Cert.Reference15Ideal.main_arg4))
      ∧ r.2.sem = fun _ => 0)

def quiescent_Kernel16 [hKernel16 : Cert.Kernel16.Facts] : Prop :=
  ∀ (m : (ℓ : Loc Cert.Kernel16.nD Cert.Kernel16.τ Cert.Kernel16.sig) → Buf (Elt Bits) ℓ) (g : Dev Cert.Kernel16.nD → PrngReg), Pre_Kernel16 m →
    θ_run (Cert.Kernel16.defs (F := Bits)) (onTc (τ := Cert.Kernel16.τ) (Cert.Kernel16.main (F := Bits))) ⟨m, fun _ => 0, g⟩ (fun r => (∀ c : Dev Cert.Kernel16.nD,
      r.2.mem ((c.tc : Thread Cert.Kernel16.nD Cert.Kernel16.τ).loc Cert.Kernel16.main_arg0) = m ((c.tc : Thread Cert.Kernel16.nD Cert.Kernel16.τ).loc Cert.Kernel16.main_arg0)
      ∧ r.2.mem ((c.tc : Thread Cert.Kernel16.nD Cert.Kernel16.τ).loc Cert.Kernel16.main_arg1) = m ((c.tc : Thread Cert.Kernel16.nD Cert.Kernel16.τ).loc Cert.Kernel16.main_arg1)
      ∧ r.2.mem ((c.tc : Thread Cert.Kernel16.nD Cert.Kernel16.τ).loc Cert.Kernel16.main_arg2) = m ((c.tc : Thread Cert.Kernel16.nD Cert.Kernel16.τ).loc Cert.Kernel16.main_arg2)
      ∧ r.2.mem ((c.tc : Thread Cert.Kernel16.nD Cert.Kernel16.τ).loc Cert.Kernel16.main_arg3) = m ((c.tc : Thread Cert.Kernel16.nD Cert.Kernel16.τ).loc Cert.Kernel16.main_arg3))
      ∧ r.2.sem = fun _ => 0)

def quiescent_Kernel16Ideal [hKernel16Ideal : Cert.Kernel16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg), Pre_Kernel16Ideal m →
    θ_run (Cert.Kernel16Ideal.defs (F := Ideal)) (onTc (τ := Cert.Kernel16Ideal.τ) (Cert.Kernel16Ideal.main (F := Ideal))) ⟨m, fun _ => 0, g⟩ (fun r => (∀ c : Dev Cert.Kernel16Ideal.nD,
      r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
      ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1)
      ∧ r.2.mem ((c.tc : Thread Cert.Kernel16Ideal.nD Cert.Kernel16Ideal.τ).loc Cert.Kernel16Ideal.main_arg2) = m ((c.tc : Thread Cert.Kernel16Ideal.nD Cert.Kernel16Ideal.τ).loc Cert.Kernel16Ideal.main_arg2)
      ∧ r.2.mem ((c.tc : Thread Cert.Kernel16Ideal.nD Cert.Kernel16Ideal.τ).loc Cert.Kernel16Ideal.main_arg3) = m ((c.tc : Thread Cert.Kernel16Ideal.nD Cert.Kernel16Ideal.τ).loc Cert.Kernel16Ideal.main_arg3))
      ∧ r.2.sem = fun _ => 0)

def quiescent_Reference16Ideal [hReference16Ideal : Cert.Reference16Ideal.Facts] : Prop :=
  ∀ (m : (ℓ : Loc Cert.Reference16Ideal.nD Cert.Reference16Ideal.τ Cert.Reference16Ideal.sig) → Buf (Elt Ideal) ℓ) (g : Dev Cert.Reference16Ideal.nD → PrngReg), Pre_Reference16Ideal m →
    θ_run (Cert.Reference16Ideal.defs (F := Ideal)) (onTc (τ := Cert.Reference16Ideal.τ) (Cert.Reference16Ideal.main (F := Ideal))) ⟨m, fun _ => 0, g⟩ (fun r => (∀ c : Dev Cert.Reference16Ideal.nD,
      r.2.mem ((c.tc : Thread Cert.Reference16Ideal.nD Cert.Reference16Ideal.τ).loc Cert.Reference16Ideal.main_arg0) = m ((c.tc : Thread Cert.Reference16Ideal.nD Cert.Reference16Ideal.τ).loc Cert.Reference16Ideal.main_arg0)
      ∧ r.2.mem ((c.tc : Thread Cert.Reference16Ideal.nD Cert.Reference16Ideal.τ).loc Cert.Reference16Ideal.main_arg1) = m ((c.tc : Thread Cert.Reference16Ideal.nD Cert.Reference16Ideal.τ).loc Cert.Reference16Ideal.main_arg1)
      ∧ r.2.mem ((c.tc : Thread Cert.Reference16Ideal.nD Cert.Reference16Ideal.τ).loc Cert.Reference16Ideal.main_arg2) = m ((c.tc : Thread Cert.Reference16Ideal.nD Cert.Reference16Ideal.τ).loc Cert.Reference16Ideal.main_arg2)
      ∧ r.2.mem ((c.tc : Thread Cert.Reference16Ideal.nD Cert.Reference16Ideal.τ).loc Cert.Reference16Ideal.main_arg3) = m ((c.tc : Thread Cert.Reference16Ideal.nD Cert.Reference16Ideal.τ).loc Cert.Reference16Ideal.main_arg3))
      ∧ r.2.sem = fun _ => 0)

def quiescent_Kernel17 [hKernel17 : Cert.Kernel17.Facts] : Prop :=
  ∀ (m : (ℓ : Loc Cert.Kernel17.nD Cert.Kernel17.τ Cert.Kernel17.sig) → Buf (Elt Bits) ℓ) (g : Dev Cert.Kernel17.nD → PrngReg), Pre_Kernel17 m →
    θ_run (Cert.Kernel17.defs (F := Bits)) (onTc (τ := Cert.Kernel17.τ) (Cert.Kernel17.main (F := Bits))) ⟨m, fun _ => 0, g⟩ (fun r => (∀ c : Dev Cert.Kernel17.nD,
      r.2.mem ((c.tc : Thread Cert.Kernel17.nD Cert.Kernel17.τ).loc Cert.Kernel17.main_arg0) = m ((c.tc : Thread Cert.Kernel17.nD Cert.Kernel17.τ).loc Cert.Kernel17.main_arg0)
      ∧ r.2.mem ((c.tc : Thread Cert.Kernel17.nD Cert.Kernel17.τ).loc Cert.Kernel17.main_arg1) = m ((c.tc : Thread Cert.Kernel17.nD Cert.Kernel17.τ).loc Cert.Kernel17.main_arg1)
      ∧ r.2.mem ((c.tc : Thread Cert.Kernel17.nD Cert.Kernel17.τ).loc Cert.Kernel17.main_arg2) = m ((c.tc : Thread Cert.Kernel17.nD Cert.Kernel17.τ).loc Cert.Kernel17.main_arg2)
      ∧ r.2.mem ((c.tc : Thread Cert.Kernel17.nD Cert.Kernel17.τ).loc Cert.Kernel17.main_arg3) = m ((c.tc : Thread Cert.Kernel17.nD Cert.Kernel17.τ).loc Cert.Kernel17.main_arg3))
      ∧ r.2.sem = fun _ => 0)

def quiescent_Kernel17Ideal [hKernel17Ideal : Cert.Kernel17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg), Pre_Kernel17Ideal m →
    θ_run (Cert.Kernel17Ideal.defs (F := Ideal)) (onTc (τ := Cert.Kernel17Ideal.τ) (Cert.Kernel17Ideal.main (F := Ideal))) ⟨m, fun _ => 0, g⟩ (fun r => (∀ c : Dev Cert.Kernel17Ideal.nD,
      r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
      ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1)
      ∧ r.2.mem ((c.tc : Thread Cert.Kernel17Ideal.nD Cert.Kernel17Ideal.τ).loc Cert.Kernel17Ideal.main_arg2) = m ((c.tc : Thread Cert.Kernel17Ideal.nD Cert.Kernel17Ideal.τ).loc Cert.Kernel17Ideal.main_arg2)
      ∧ r.2.mem ((c.tc : Thread Cert.Kernel17Ideal.nD Cert.Kernel17Ideal.τ).loc Cert.Kernel17Ideal.main_arg3) = m ((c.tc : Thread Cert.Kernel17Ideal.nD Cert.Kernel17Ideal.τ).loc Cert.Kernel17Ideal.main_arg3))
      ∧ r.2.sem = fun _ => 0)

def quiescent_Reference17Ideal [hReference17Ideal : Cert.Reference17Ideal.Facts] : Prop :=
  ∀ (m : (ℓ : Loc Cert.Reference17Ideal.nD Cert.Reference17Ideal.τ Cert.Reference17Ideal.sig) → Buf (Elt Ideal) ℓ) (g : Dev Cert.Reference17Ideal.nD → PrngReg), Pre_Reference17Ideal m →
    θ_run (Cert.Reference17Ideal.defs (F := Ideal)) (onTc (τ := Cert.Reference17Ideal.τ) (Cert.Reference17Ideal.main (F := Ideal))) ⟨m, fun _ => 0, g⟩ (fun r => (∀ c : Dev Cert.Reference17Ideal.nD,
      r.2.mem ((c.tc : Thread Cert.Reference17Ideal.nD Cert.Reference17Ideal.τ).loc Cert.Reference17Ideal.main_arg0) = m ((c.tc : Thread Cert.Reference17Ideal.nD Cert.Reference17Ideal.τ).loc Cert.Reference17Ideal.main_arg0)
      ∧ r.2.mem ((c.tc : Thread Cert.Reference17Ideal.nD Cert.Reference17Ideal.τ).loc Cert.Reference17Ideal.main_arg1) = m ((c.tc : Thread Cert.Reference17Ideal.nD Cert.Reference17Ideal.τ).loc Cert.Reference17Ideal.main_arg1)
      ∧ r.2.mem ((c.tc : Thread Cert.Reference17Ideal.nD Cert.Reference17Ideal.τ).loc Cert.Reference17Ideal.main_arg2) = m ((c.tc : Thread Cert.Reference17Ideal.nD Cert.Reference17Ideal.τ).loc Cert.Reference17Ideal.main_arg2)
      ∧ r.2.mem ((c.tc : Thread Cert.Reference17Ideal.nD Cert.Reference17Ideal.τ).loc Cert.Reference17Ideal.main_arg3) = m ((c.tc : Thread Cert.Reference17Ideal.nD Cert.Reference17Ideal.τ).loc Cert.Reference17Ideal.main_arg3))
      ∧ r.2.sem = fun _ => 0)

def quiescent_Kernel18 [hKernel18 : Cert.Kernel18.Facts] : Prop :=
  ∀ (m : (ℓ : Loc Cert.Kernel18.nD Cert.Kernel18.τ Cert.Kernel18.sig) → Buf (Elt Bits) ℓ) (g : Dev Cert.Kernel18.nD → PrngReg), Pre_Kernel18 m →
    θ_run (Cert.Kernel18.defs (F := Bits)) (onTc (τ := Cert.Kernel18.τ) (Cert.Kernel18.main (F := Bits))) ⟨m, fun _ => 0, g⟩ (fun r => (∀ c : Dev Cert.Kernel18.nD,
      r.2.mem ((c.tc : Thread Cert.Kernel18.nD Cert.Kernel18.τ).loc Cert.Kernel18.main_arg0) = m ((c.tc : Thread Cert.Kernel18.nD Cert.Kernel18.τ).loc Cert.Kernel18.main_arg0)
      ∧ r.2.mem ((c.tc : Thread Cert.Kernel18.nD Cert.Kernel18.τ).loc Cert.Kernel18.main_arg1) = m ((c.tc : Thread Cert.Kernel18.nD Cert.Kernel18.τ).loc Cert.Kernel18.main_arg1)
      ∧ r.2.mem ((c.tc : Thread Cert.Kernel18.nD Cert.Kernel18.τ).loc Cert.Kernel18.main_arg2) = m ((c.tc : Thread Cert.Kernel18.nD Cert.Kernel18.τ).loc Cert.Kernel18.main_arg2)
      ∧ r.2.mem ((c.tc : Thread Cert.Kernel18.nD Cert.Kernel18.τ).loc Cert.Kernel18.main_arg3) = m ((c.tc : Thread Cert.Kernel18.nD Cert.Kernel18.τ).loc Cert.Kernel18.main_arg3)
      ∧ r.2.mem ((c.tc : Thread Cert.Kernel18.nD Cert.Kernel18.τ).loc Cert.Kernel18.main_arg4) = m ((c.tc : Thread Cert.Kernel18.nD Cert.Kernel18.τ).loc Cert.Kernel18.main_arg4)
      ∧ r.2.mem ((c.tc : Thread Cert.Kernel18.nD Cert.Kernel18.τ).loc Cert.Kernel18.main_arg5) = m ((c.tc : Thread Cert.Kernel18.nD Cert.Kernel18.τ).loc Cert.Kernel18.main_arg5))
      ∧ r.2.sem = fun _ => 0)

def quiescent_Kernel18Ideal [hKernel18Ideal : Cert.Kernel18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg), Pre_Kernel18Ideal m →
    θ_run (Cert.Kernel18Ideal.defs (F := Ideal)) (onTc (τ := Cert.Kernel18Ideal.τ) (Cert.Kernel18Ideal.main (F := Ideal))) ⟨m, fun _ => 0, g⟩ (fun r => (∀ c : Dev Cert.Kernel18Ideal.nD,
      r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
      ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1)
      ∧ r.2.mem ((c.tc : Thread Cert.Kernel18Ideal.nD Cert.Kernel18Ideal.τ).loc Cert.Kernel18Ideal.main_arg2) = m ((c.tc : Thread Cert.Kernel18Ideal.nD Cert.Kernel18Ideal.τ).loc Cert.Kernel18Ideal.main_arg2)
      ∧ r.2.mem ((c.tc : Thread Cert.Kernel18Ideal.nD Cert.Kernel18Ideal.τ).loc Cert.Kernel18Ideal.main_arg3) = m ((c.tc : Thread Cert.Kernel18Ideal.nD Cert.Kernel18Ideal.τ).loc Cert.Kernel18Ideal.main_arg3)
      ∧ r.2.mem ((c.tc : Thread Cert.Kernel18Ideal.nD Cert.Kernel18Ideal.τ).loc Cert.Kernel18Ideal.main_arg4) = m ((c.tc : Thread Cert.Kernel18Ideal.nD Cert.Kernel18Ideal.τ).loc Cert.Kernel18Ideal.main_arg4)
      ∧ r.2.mem ((c.tc : Thread Cert.Kernel18Ideal.nD Cert.Kernel18Ideal.τ).loc Cert.Kernel18Ideal.main_arg5) = m ((c.tc : Thread Cert.Kernel18Ideal.nD Cert.Kernel18Ideal.τ).loc Cert.Kernel18Ideal.main_arg5))
      ∧ r.2.sem = fun _ => 0)

def quiescent_Reference18Ideal [hReference18Ideal : Cert.Reference18Ideal.Facts] : Prop :=
  ∀ (m : (ℓ : Loc Cert.Reference18Ideal.nD Cert.Reference18Ideal.τ Cert.Reference18Ideal.sig) → Buf (Elt Ideal) ℓ) (g : Dev Cert.Reference18Ideal.nD → PrngReg), Pre_Reference18Ideal m →
    θ_run (Cert.Reference18Ideal.defs (F := Ideal)) (onTc (τ := Cert.Reference18Ideal.τ) (Cert.Reference18Ideal.main (F := Ideal))) ⟨m, fun _ => 0, g⟩ (fun r => (∀ c : Dev Cert.Reference18Ideal.nD,
      r.2.mem ((c.tc : Thread Cert.Reference18Ideal.nD Cert.Reference18Ideal.τ).loc Cert.Reference18Ideal.main_arg0) = m ((c.tc : Thread Cert.Reference18Ideal.nD Cert.Reference18Ideal.τ).loc Cert.Reference18Ideal.main_arg0)
      ∧ r.2.mem ((c.tc : Thread Cert.Reference18Ideal.nD Cert.Reference18Ideal.τ).loc Cert.Reference18Ideal.main_arg1) = m ((c.tc : Thread Cert.Reference18Ideal.nD Cert.Reference18Ideal.τ).loc Cert.Reference18Ideal.main_arg1)
      ∧ r.2.mem ((c.tc : Thread Cert.Reference18Ideal.nD Cert.Reference18Ideal.τ).loc Cert.Reference18Ideal.main_arg2) = m ((c.tc : Thread Cert.Reference18Ideal.nD Cert.Reference18Ideal.τ).loc Cert.Reference18Ideal.main_arg2)
      ∧ r.2.mem ((c.tc : Thread Cert.Reference18Ideal.nD Cert.Reference18Ideal.τ).loc Cert.Reference18Ideal.main_arg3) = m ((c.tc : Thread Cert.Reference18Ideal.nD Cert.Reference18Ideal.τ).loc Cert.Reference18Ideal.main_arg3)
      ∧ r.2.mem ((c.tc : Thread Cert.Reference18Ideal.nD Cert.Reference18Ideal.τ).loc Cert.Reference18Ideal.main_arg4) = m ((c.tc : Thread Cert.Reference18Ideal.nD Cert.Reference18Ideal.τ).loc Cert.Reference18Ideal.main_arg4)
      ∧ r.2.mem ((c.tc : Thread Cert.Reference18Ideal.nD Cert.Reference18Ideal.τ).loc Cert.Reference18Ideal.main_arg5) = m ((c.tc : Thread Cert.Reference18Ideal.nD Cert.Reference18Ideal.τ).loc Cert.Reference18Ideal.main_arg5))
      ∧ r.2.sem = fun _ => 0)

def quiescent_Kernel19 [hKernel19 : Cert.Kernel19.Facts] : Prop :=
  ∀ (m : (ℓ : Loc Cert.Kernel19.nD Cert.Kernel19.τ Cert.Kernel19.sig) → Buf (Elt Bits) ℓ) (g : Dev Cert.Kernel19.nD → PrngReg), Pre_Kernel19 m →
    θ_run (Cert.Kernel19.defs (F := Bits)) (onTc (τ := Cert.Kernel19.τ) (Cert.Kernel19.main (F := Bits))) ⟨m, fun _ => 0, g⟩ (fun r => (∀ c : Dev Cert.Kernel19.nD,
      r.2.mem ((c.tc : Thread Cert.Kernel19.nD Cert.Kernel19.τ).loc Cert.Kernel19.main_arg0) = m ((c.tc : Thread Cert.Kernel19.nD Cert.Kernel19.τ).loc Cert.Kernel19.main_arg0)
      ∧ r.2.mem ((c.tc : Thread Cert.Kernel19.nD Cert.Kernel19.τ).loc Cert.Kernel19.main_arg1) = m ((c.tc : Thread Cert.Kernel19.nD Cert.Kernel19.τ).loc Cert.Kernel19.main_arg1)
      ∧ r.2.mem ((c.tc : Thread Cert.Kernel19.nD Cert.Kernel19.τ).loc Cert.Kernel19.main_arg2) = m ((c.tc : Thread Cert.Kernel19.nD Cert.Kernel19.τ).loc Cert.Kernel19.main_arg2)
      ∧ r.2.mem ((c.tc : Thread Cert.Kernel19.nD Cert.Kernel19.τ).loc Cert.Kernel19.main_arg3) = m ((c.tc : Thread Cert.Kernel19.nD Cert.Kernel19.τ).loc Cert.Kernel19.main_arg3))
      ∧ r.2.sem = fun _ => 0)

def quiescent_Kernel19Ideal [hKernel19Ideal : Cert.Kernel19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg), Pre_Kernel19Ideal m →
    θ_run (Cert.Kernel19Ideal.defs (F := Ideal)) (onTc (τ := Cert.Kernel19Ideal.τ) (Cert.Kernel19Ideal.main (F := Ideal))) ⟨m, fun _ => 0, g⟩ (fun r => (∀ c : Dev Cert.Kernel19Ideal.nD,
      r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
      ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1)
      ∧ r.2.mem ((c.tc : Thread Cert.Kernel19Ideal.nD Cert.Kernel19Ideal.τ).loc Cert.Kernel19Ideal.main_arg2) = m ((c.tc : Thread Cert.Kernel19Ideal.nD Cert.Kernel19Ideal.τ).loc Cert.Kernel19Ideal.main_arg2)
      ∧ r.2.mem ((c.tc : Thread Cert.Kernel19Ideal.nD Cert.Kernel19Ideal.τ).loc Cert.Kernel19Ideal.main_arg3) = m ((c.tc : Thread Cert.Kernel19Ideal.nD Cert.Kernel19Ideal.τ).loc Cert.Kernel19Ideal.main_arg3))
      ∧ r.2.sem = fun _ => 0)

def quiescent_Reference19Ideal [hReference19Ideal : Cert.Reference19Ideal.Facts] : Prop :=
  ∀ (m : (ℓ : Loc Cert.Reference19Ideal.nD Cert.Reference19Ideal.τ Cert.Reference19Ideal.sig) → Buf (Elt Ideal) ℓ) (g : Dev Cert.Reference19Ideal.nD → PrngReg), Pre_Reference19Ideal m →
    θ_run (Cert.Reference19Ideal.defs (F := Ideal)) (onTc (τ := Cert.Reference19Ideal.τ) (Cert.Reference19Ideal.main (F := Ideal))) ⟨m, fun _ => 0, g⟩ (fun r => (∀ c : Dev Cert.Reference19Ideal.nD,
      r.2.mem ((c.tc : Thread Cert.Reference19Ideal.nD Cert.Reference19Ideal.τ).loc Cert.Reference19Ideal.main_arg0) = m ((c.tc : Thread Cert.Reference19Ideal.nD Cert.Reference19Ideal.τ).loc Cert.Reference19Ideal.main_arg0)
      ∧ r.2.mem ((c.tc : Thread Cert.Reference19Ideal.nD Cert.Reference19Ideal.τ).loc Cert.Reference19Ideal.main_arg1) = m ((c.tc : Thread Cert.Reference19Ideal.nD Cert.Reference19Ideal.τ).loc Cert.Reference19Ideal.main_arg1)
      ∧ r.2.mem ((c.tc : Thread Cert.Reference19Ideal.nD Cert.Reference19Ideal.τ).loc Cert.Reference19Ideal.main_arg2) = m ((c.tc : Thread Cert.Reference19Ideal.nD Cert.Reference19Ideal.τ).loc Cert.Reference19Ideal.main_arg2)
      ∧ r.2.mem ((c.tc : Thread Cert.Reference19Ideal.nD Cert.Reference19Ideal.τ).loc Cert.Reference19Ideal.main_arg3) = m ((c.tc : Thread Cert.Reference19Ideal.nD Cert.Reference19Ideal.τ).loc Cert.Reference19Ideal.main_arg3))
      ∧ r.2.sem = fun _ => 0)

def quiescent_Kernel20 [hKernel20 : Cert.Kernel20.Facts] : Prop :=
  ∀ (m : (ℓ : Loc Cert.Kernel20.nD Cert.Kernel20.τ Cert.Kernel20.sig) → Buf (Elt Bits) ℓ) (g : Dev Cert.Kernel20.nD → PrngReg), Pre_Kernel20 m →
    θ_run (Cert.Kernel20.defs (F := Bits)) (onTc (τ := Cert.Kernel20.τ) (Cert.Kernel20.main (F := Bits))) ⟨m, fun _ => 0, g⟩ (fun r => (∀ c : Dev Cert.Kernel20.nD,
      r.2.mem ((c.tc : Thread Cert.Kernel20.nD Cert.Kernel20.τ).loc Cert.Kernel20.main_arg0) = m ((c.tc : Thread Cert.Kernel20.nD Cert.Kernel20.τ).loc Cert.Kernel20.main_arg0)
      ∧ r.2.mem ((c.tc : Thread Cert.Kernel20.nD Cert.Kernel20.τ).loc Cert.Kernel20.main_arg1) = m ((c.tc : Thread Cert.Kernel20.nD Cert.Kernel20.τ).loc Cert.Kernel20.main_arg1))
      ∧ r.2.sem = fun _ => 0)

def quiescent_Kernel20Ideal [hKernel20Ideal : Cert.Kernel20Ideal.Facts] : Prop :=
  ∀ (m : (ℓ : Loc Cert.Kernel20Ideal.nD Cert.Kernel20Ideal.τ Cert.Kernel20Ideal.sig) → Buf (Elt Ideal) ℓ) (g : Dev Cert.Kernel20Ideal.nD → PrngReg), Pre_Kernel20Ideal m →
    θ_run (Cert.Kernel20Ideal.defs (F := Ideal)) (onTc (τ := Cert.Kernel20Ideal.τ) (Cert.Kernel20Ideal.main (F := Ideal))) ⟨m, fun _ => 0, g⟩ (fun r => (∀ c : Dev Cert.Kernel20Ideal.nD,
      r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
      ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1))
      ∧ r.2.sem = fun _ => 0)

def quiescent_Reference20Ideal [hReference20Ideal : Cert.Reference20Ideal.Facts] : Prop :=
  ∀ (m : (ℓ : Loc Cert.Reference20Ideal.nD Cert.Reference20Ideal.τ Cert.Reference20Ideal.sig) → Buf (Elt Ideal) ℓ) (g : Dev Cert.Reference20Ideal.nD → PrngReg), Pre_Reference20Ideal m →
    θ_run (Cert.Reference20Ideal.defs (F := Ideal)) (onTc (τ := Cert.Reference20Ideal.τ) (Cert.Reference20Ideal.main (F := Ideal))) ⟨m, fun _ => 0, g⟩ (fun r => (∀ c : Dev Cert.Reference20Ideal.nD,
      r.2.mem ((c.tc : Thread Cert.Reference20Ideal.nD Cert.Reference20Ideal.τ).loc Cert.Reference20Ideal.main_arg0) = m ((c.tc : Thread Cert.Reference20Ideal.nD Cert.Reference20Ideal.τ).loc Cert.Reference20Ideal.main_arg0)
      ∧ r.2.mem ((c.tc : Thread Cert.Reference20Ideal.nD Cert.Reference20Ideal.τ).loc Cert.Reference20Ideal.main_arg1) = m ((c.tc : Thread Cert.Reference20Ideal.nD Cert.Reference20Ideal.τ).loc Cert.Reference20Ideal.main_arg1))
      ∧ r.2.sem = fun _ => 0)

def quiescent_Kernel21 [hKernel21 : Cert.Kernel21.Facts] : Prop :=
  ∀ (m : (ℓ : Loc Cert.Kernel21.nD Cert.Kernel21.τ Cert.Kernel21.sig) → Buf (Elt Bits) ℓ) (g : Dev Cert.Kernel21.nD → PrngReg), Pre_Kernel21 m →
    θ_run (Cert.Kernel21.defs (F := Bits)) (onTc (τ := Cert.Kernel21.τ) (Cert.Kernel21.main (F := Bits))) ⟨m, fun _ => 0, g⟩ (fun r => (∀ c : Dev Cert.Kernel21.nD,
      r.2.mem ((c.tc : Thread Cert.Kernel21.nD Cert.Kernel21.τ).loc Cert.Kernel21.main_arg0) = m ((c.tc : Thread Cert.Kernel21.nD Cert.Kernel21.τ).loc Cert.Kernel21.main_arg0)
      ∧ r.2.mem ((c.tc : Thread Cert.Kernel21.nD Cert.Kernel21.τ).loc Cert.Kernel21.main_arg1) = m ((c.tc : Thread Cert.Kernel21.nD Cert.Kernel21.τ).loc Cert.Kernel21.main_arg1)
      ∧ r.2.mem ((c.tc : Thread Cert.Kernel21.nD Cert.Kernel21.τ).loc Cert.Kernel21.main_arg2) = m ((c.tc : Thread Cert.Kernel21.nD Cert.Kernel21.τ).loc Cert.Kernel21.main_arg2))
      ∧ r.2.sem = fun _ => 0)

def quiescent_Kernel21Ideal [hKernel21Ideal : Cert.Kernel21Ideal.Facts] : Prop :=
  ∀ (m : (ℓ : Loc Cert.Kernel21Ideal.nD Cert.Kernel21Ideal.τ Cert.Kernel21Ideal.sig) → Buf (Elt Ideal) ℓ) (g : Dev Cert.Kernel21Ideal.nD → PrngReg), Pre_Kernel21Ideal m →
    θ_run (Cert.Kernel21Ideal.defs (F := Ideal)) (onTc (τ := Cert.Kernel21Ideal.τ) (Cert.Kernel21Ideal.main (F := Ideal))) ⟨m, fun _ => 0, g⟩ (fun r => (∀ c : Dev Cert.Kernel21Ideal.nD,
      r.2.mem ((c.tc : Thread Cert.Kernel21Ideal.nD Cert.Kernel21Ideal.τ).loc Cert.Kernel21Ideal.main_arg0) = m ((c.tc : Thread Cert.Kernel21Ideal.nD Cert.Kernel21Ideal.τ).loc Cert.Kernel21Ideal.main_arg0)
      ∧ r.2.mem ((c.tc : Thread Cert.Kernel21Ideal.nD Cert.Kernel21Ideal.τ).loc Cert.Kernel21Ideal.main_arg1) = m ((c.tc : Thread Cert.Kernel21Ideal.nD Cert.Kernel21Ideal.τ).loc Cert.Kernel21Ideal.main_arg1)
      ∧ r.2.mem ((c.tc : Thread Cert.Kernel21Ideal.nD Cert.Kernel21Ideal.τ).loc Cert.Kernel21Ideal.main_arg2) = m ((c.tc : Thread Cert.Kernel21Ideal.nD Cert.Kernel21Ideal.τ).loc Cert.Kernel21Ideal.main_arg2))
      ∧ r.2.sem = fun _ => 0)

def quiescent_Reference21Ideal [hReference21Ideal : Cert.Reference21Ideal.Facts] : Prop :=
  ∀ (m : (ℓ : Loc Cert.Reference21Ideal.nD Cert.Reference21Ideal.τ Cert.Reference21Ideal.sig) → Buf (Elt Ideal) ℓ) (g : Dev Cert.Reference21Ideal.nD → PrngReg), Pre_Reference21Ideal m →
    θ_run (Cert.Reference21Ideal.defs (F := Ideal)) (onTc (τ := Cert.Reference21Ideal.τ) (Cert.Reference21Ideal.main (F := Ideal))) ⟨m, fun _ => 0, g⟩ (fun r => (∀ c : Dev Cert.Reference21Ideal.nD,
      r.2.mem ((c.tc : Thread Cert.Reference21Ideal.nD Cert.Reference21Ideal.τ).loc Cert.Reference21Ideal.main_arg0) = m ((c.tc : Thread Cert.Reference21Ideal.nD Cert.Reference21Ideal.τ).loc Cert.Reference21Ideal.main_arg0)
      ∧ r.2.mem ((c.tc : Thread Cert.Reference21Ideal.nD Cert.Reference21Ideal.τ).loc Cert.Reference21Ideal.main_arg1) = m ((c.tc : Thread Cert.Reference21Ideal.nD Cert.Reference21Ideal.τ).loc Cert.Reference21Ideal.main_arg1)
      ∧ r.2.mem ((c.tc : Thread Cert.Reference21Ideal.nD Cert.Reference21Ideal.τ).loc Cert.Reference21Ideal.main_arg2) = m ((c.tc : Thread Cert.Reference21Ideal.nD Cert.Reference21Ideal.τ).loc Cert.Reference21Ideal.main_arg2))
      ∧ r.2.sem = fun _ => 0)

def quiescent_Kernel22 [hKernel22 : Cert.Kernel22.Facts] : Prop :=
  ∀ (m : (ℓ : Loc Cert.Kernel22.nD Cert.Kernel22.τ Cert.Kernel22.sig) → Buf (Elt Bits) ℓ) (g : Dev Cert.Kernel22.nD → PrngReg), Pre_Kernel22 m →
    θ_run (Cert.Kernel22.defs (F := Bits)) (onTc (τ := Cert.Kernel22.τ) (Cert.Kernel22.main (F := Bits))) ⟨m, fun _ => 0, g⟩ (fun r => (∀ c : Dev Cert.Kernel22.nD,
      r.2.mem ((c.tc : Thread Cert.Kernel22.nD Cert.Kernel22.τ).loc Cert.Kernel22.main_arg0) = m ((c.tc : Thread Cert.Kernel22.nD Cert.Kernel22.τ).loc Cert.Kernel22.main_arg0)
      ∧ r.2.mem ((c.tc : Thread Cert.Kernel22.nD Cert.Kernel22.τ).loc Cert.Kernel22.main_arg1) = m ((c.tc : Thread Cert.Kernel22.nD Cert.Kernel22.τ).loc Cert.Kernel22.main_arg1)
      ∧ r.2.mem ((c.tc : Thread Cert.Kernel22.nD Cert.Kernel22.τ).loc Cert.Kernel22.main_arg2) = m ((c.tc : Thread Cert.Kernel22.nD Cert.Kernel22.τ).loc Cert.Kernel22.main_arg2)
      ∧ r.2.mem ((c.tc : Thread Cert.Kernel22.nD Cert.Kernel22.τ).loc Cert.Kernel22.main_arg3) = m ((c.tc : Thread Cert.Kernel22.nD Cert.Kernel22.τ).loc Cert.Kernel22.main_arg3))
      ∧ r.2.sem = fun _ => 0)

def quiescent_Kernel22Ideal [hKernel22Ideal : Cert.Kernel22Ideal.Facts] : Prop :=
  ∀ (m : (ℓ : Loc Cert.Kernel22Ideal.nD Cert.Kernel22Ideal.τ Cert.Kernel22Ideal.sig) → Buf (Elt Ideal) ℓ) (g : Dev Cert.Kernel22Ideal.nD → PrngReg), Pre_Kernel22Ideal m →
    θ_run (Cert.Kernel22Ideal.defs (F := Ideal)) (onTc (τ := Cert.Kernel22Ideal.τ) (Cert.Kernel22Ideal.main (F := Ideal))) ⟨m, fun _ => 0, g⟩ (fun r => (∀ c : Dev Cert.Kernel22Ideal.nD,
      r.2.mem ((c.tc : Thread Cert.Kernel22Ideal.nD Cert.Kernel22Ideal.τ).loc Cert.Kernel22Ideal.main_arg0) = m ((c.tc : Thread Cert.Kernel22Ideal.nD Cert.Kernel22Ideal.τ).loc Cert.Kernel22Ideal.main_arg0)
      ∧ r.2.mem ((c.tc : Thread Cert.Kernel22Ideal.nD Cert.Kernel22Ideal.τ).loc Cert.Kernel22Ideal.main_arg1) = m ((c.tc : Thread Cert.Kernel22Ideal.nD Cert.Kernel22Ideal.τ).loc Cert.Kernel22Ideal.main_arg1)
      ∧ r.2.mem ((c.tc : Thread Cert.Kernel22Ideal.nD Cert.Kernel22Ideal.τ).loc Cert.Kernel22Ideal.main_arg2) = m ((c.tc : Thread Cert.Kernel22Ideal.nD Cert.Kernel22Ideal.τ).loc Cert.Kernel22Ideal.main_arg2)
      ∧ r.2.mem ((c.tc : Thread Cert.Kernel22Ideal.nD Cert.Kernel22Ideal.τ).loc Cert.Kernel22Ideal.main_arg3) = m ((c.tc : Thread Cert.Kernel22Ideal.nD Cert.Kernel22Ideal.τ).loc Cert.Kernel22Ideal.main_arg3))
      ∧ r.2.sem = fun _ => 0)

def quiescent_Reference22Ideal [hReference22Ideal : Cert.Reference22Ideal.Facts] : Prop :=
  ∀ (m : (ℓ : Loc Cert.Reference22Ideal.nD Cert.Reference22Ideal.τ Cert.Reference22Ideal.sig) → Buf (Elt Ideal) ℓ) (g : Dev Cert.Reference22Ideal.nD → PrngReg), Pre_Reference22Ideal m →
    θ_run (Cert.Reference22Ideal.defs (F := Ideal)) (onTc (τ := Cert.Reference22Ideal.τ) (Cert.Reference22Ideal.main (F := Ideal))) ⟨m, fun _ => 0, g⟩ (fun r => (∀ c : Dev Cert.Reference22Ideal.nD,
      r.2.mem ((c.tc : Thread Cert.Reference22Ideal.nD Cert.Reference22Ideal.τ).loc Cert.Reference22Ideal.main_arg0) = m ((c.tc : Thread Cert.Reference22Ideal.nD Cert.Reference22Ideal.τ).loc Cert.Reference22Ideal.main_arg0)
      ∧ r.2.mem ((c.tc : Thread Cert.Reference22Ideal.nD Cert.Reference22Ideal.τ).loc Cert.Reference22Ideal.main_arg1) = m ((c.tc : Thread Cert.Reference22Ideal.nD Cert.Reference22Ideal.τ).loc Cert.Reference22Ideal.main_arg1)
      ∧ r.2.mem ((c.tc : Thread Cert.Reference22Ideal.nD Cert.Reference22Ideal.τ).loc Cert.Reference22Ideal.main_arg2) = m ((c.tc : Thread Cert.Reference22Ideal.nD Cert.Reference22Ideal.τ).loc Cert.Reference22Ideal.main_arg2)
      ∧ r.2.mem ((c.tc : Thread Cert.Reference22Ideal.nD Cert.Reference22Ideal.τ).loc Cert.Reference22Ideal.main_arg3) = m ((c.tc : Thread Cert.Reference22Ideal.nD Cert.Reference22Ideal.τ).loc Cert.Reference22Ideal.main_arg3))
      ∧ r.2.sem = fun _ => 0)

def quiescent_Kernel23 [hKernel23 : Cert.Kernel23.Facts] : Prop :=
  ∀ (m : (ℓ : Loc Cert.Kernel23.nD Cert.Kernel23.τ Cert.Kernel23.sig) → Buf (Elt Bits) ℓ) (g : Dev Cert.Kernel23.nD → PrngReg), Pre_Kernel23 m →
    θ_run (Cert.Kernel23.defs (F := Bits)) (onTc (τ := Cert.Kernel23.τ) (Cert.Kernel23.main (F := Bits))) ⟨m, fun _ => 0, g⟩ (fun r => (∀ c : Dev Cert.Kernel23.nD,
      r.2.mem ((c.tc : Thread Cert.Kernel23.nD Cert.Kernel23.τ).loc Cert.Kernel23.main_arg0) = m ((c.tc : Thread Cert.Kernel23.nD Cert.Kernel23.τ).loc Cert.Kernel23.main_arg0)
      ∧ r.2.mem ((c.tc : Thread Cert.Kernel23.nD Cert.Kernel23.τ).loc Cert.Kernel23.main_arg1) = m ((c.tc : Thread Cert.Kernel23.nD Cert.Kernel23.τ).loc Cert.Kernel23.main_arg1))
      ∧ r.2.sem = fun _ => 0)

def quiescent_Kernel23Ideal [hKernel23Ideal : Cert.Kernel23Ideal.Facts] : Prop :=
  ∀ (m : (ℓ : Loc Cert.Kernel23Ideal.nD Cert.Kernel23Ideal.τ Cert.Kernel23Ideal.sig) → Buf (Elt Ideal) ℓ) (g : Dev Cert.Kernel23Ideal.nD → PrngReg), Pre_Kernel23Ideal m →
    θ_run (Cert.Kernel23Ideal.defs (F := Ideal)) (onTc (τ := Cert.Kernel23Ideal.τ) (Cert.Kernel23Ideal.main (F := Ideal))) ⟨m, fun _ => 0, g⟩ (fun r => (∀ c : Dev Cert.Kernel23Ideal.nD,
      r.2.mem ((c.tc : Thread Cert.Kernel23Ideal.nD Cert.Kernel23Ideal.τ).loc Cert.Kernel23Ideal.main_arg0) = m ((c.tc : Thread Cert.Kernel23Ideal.nD Cert.Kernel23Ideal.τ).loc Cert.Kernel23Ideal.main_arg0)
      ∧ r.2.mem ((c.tc : Thread Cert.Kernel23Ideal.nD Cert.Kernel23Ideal.τ).loc Cert.Kernel23Ideal.main_arg1) = m ((c.tc : Thread Cert.Kernel23Ideal.nD Cert.Kernel23Ideal.τ).loc Cert.Kernel23Ideal.main_arg1))
      ∧ r.2.sem = fun _ => 0)

def quiescent_Reference23Ideal [hReference23Ideal : Cert.Reference23Ideal.Facts] : Prop :=
  ∀ (m : (ℓ : Loc Cert.Reference23Ideal.nD Cert.Reference23Ideal.τ Cert.Reference23Ideal.sig) → Buf (Elt Ideal) ℓ) (g : Dev Cert.Reference23Ideal.nD → PrngReg), Pre_Reference23Ideal m →
    θ_run (Cert.Reference23Ideal.defs (F := Ideal)) (onTc (τ := Cert.Reference23Ideal.τ) (Cert.Reference23Ideal.main (F := Ideal))) ⟨m, fun _ => 0, g⟩ (fun r => (∀ c : Dev Cert.Reference23Ideal.nD,
      r.2.mem ((c.tc : Thread Cert.Reference23Ideal.nD Cert.Reference23Ideal.τ).loc Cert.Reference23Ideal.main_arg0) = m ((c.tc : Thread Cert.Reference23Ideal.nD Cert.Reference23Ideal.τ).loc Cert.Reference23Ideal.main_arg0)
      ∧ r.2.mem ((c.tc : Thread Cert.Reference23Ideal.nD Cert.Reference23Ideal.τ).loc Cert.Reference23Ideal.main_arg1) = m ((c.tc : Thread Cert.Reference23Ideal.nD Cert.Reference23Ideal.τ).loc Cert.Reference23Ideal.main_arg1))
      ∧ r.2.sem = fun _ => 0)

def quiescent_Kernel24 [hKernel24 : Cert.Kernel24.Facts] : Prop :=
  ∀ (m : (ℓ : Loc Cert.Kernel24.nD Cert.Kernel24.τ Cert.Kernel24.sig) → Buf (Elt Bits) ℓ) (g : Dev Cert.Kernel24.nD → PrngReg), Pre_Kernel24 m →
    θ_run (Cert.Kernel24.defs (F := Bits)) (onTc (τ := Cert.Kernel24.τ) (Cert.Kernel24.main (F := Bits))) ⟨m, fun _ => 0, g⟩ (fun r => (∀ c : Dev Cert.Kernel24.nD,
      r.2.mem ((c.tc : Thread Cert.Kernel24.nD Cert.Kernel24.τ).loc Cert.Kernel24.main_arg0) = m ((c.tc : Thread Cert.Kernel24.nD Cert.Kernel24.τ).loc Cert.Kernel24.main_arg0)
      ∧ r.2.mem ((c.tc : Thread Cert.Kernel24.nD Cert.Kernel24.τ).loc Cert.Kernel24.main_arg1) = m ((c.tc : Thread Cert.Kernel24.nD Cert.Kernel24.τ).loc Cert.Kernel24.main_arg1)
      ∧ r.2.mem ((c.tc : Thread Cert.Kernel24.nD Cert.Kernel24.τ).loc Cert.Kernel24.main_arg2) = m ((c.tc : Thread Cert.Kernel24.nD Cert.Kernel24.τ).loc Cert.Kernel24.main_arg2))
      ∧ r.2.sem = fun _ => 0)

def quiescent_Kernel24Ideal [hKernel24Ideal : Cert.Kernel24Ideal.Facts] : Prop :=
  ∀ (m : (ℓ : Loc Cert.Kernel24Ideal.nD Cert.Kernel24Ideal.τ Cert.Kernel24Ideal.sig) → Buf (Elt Ideal) ℓ) (g : Dev Cert.Kernel24Ideal.nD → PrngReg), Pre_Kernel24Ideal m →
    θ_run (Cert.Kernel24Ideal.defs (F := Ideal)) (onTc (τ := Cert.Kernel24Ideal.τ) (Cert.Kernel24Ideal.main (F := Ideal))) ⟨m, fun _ => 0, g⟩ (fun r => (∀ c : Dev Cert.Kernel24Ideal.nD,
      r.2.mem ((c.tc : Thread Cert.Kernel24Ideal.nD Cert.Kernel24Ideal.τ).loc Cert.Kernel24Ideal.main_arg0) = m ((c.tc : Thread Cert.Kernel24Ideal.nD Cert.Kernel24Ideal.τ).loc Cert.Kernel24Ideal.main_arg0)
      ∧ r.2.mem ((c.tc : Thread Cert.Kernel24Ideal.nD Cert.Kernel24Ideal.τ).loc Cert.Kernel24Ideal.main_arg1) = m ((c.tc : Thread Cert.Kernel24Ideal.nD Cert.Kernel24Ideal.τ).loc Cert.Kernel24Ideal.main_arg1)
      ∧ r.2.mem ((c.tc : Thread Cert.Kernel24Ideal.nD Cert.Kernel24Ideal.τ).loc Cert.Kernel24Ideal.main_arg2) = m ((c.tc : Thread Cert.Kernel24Ideal.nD Cert.Kernel24Ideal.τ).loc Cert.Kernel24Ideal.main_arg2))
      ∧ r.2.sem = fun _ => 0)

def quiescent_Reference24Ideal [hReference24Ideal : Cert.Reference24Ideal.Facts] : Prop :=
  ∀ (m : (ℓ : Loc Cert.Reference24Ideal.nD Cert.Reference24Ideal.τ Cert.Reference24Ideal.sig) → Buf (Elt Ideal) ℓ) (g : Dev Cert.Reference24Ideal.nD → PrngReg), Pre_Reference24Ideal m →
    θ_run (Cert.Reference24Ideal.defs (F := Ideal)) (onTc (τ := Cert.Reference24Ideal.τ) (Cert.Reference24Ideal.main (F := Ideal))) ⟨m, fun _ => 0, g⟩ (fun r => (∀ c : Dev Cert.Reference24Ideal.nD,
      r.2.mem ((c.tc : Thread Cert.Reference24Ideal.nD Cert.Reference24Ideal.τ).loc Cert.Reference24Ideal.main_arg0) = m ((c.tc : Thread Cert.Reference24Ideal.nD Cert.Reference24Ideal.τ).loc Cert.Reference24Ideal.main_arg0)
      ∧ r.2.mem ((c.tc : Thread Cert.Reference24Ideal.nD Cert.Reference24Ideal.τ).loc Cert.Reference24Ideal.main_arg1) = m ((c.tc : Thread Cert.Reference24Ideal.nD Cert.Reference24Ideal.τ).loc Cert.Reference24Ideal.main_arg1)
      ∧ r.2.mem ((c.tc : Thread Cert.Reference24Ideal.nD Cert.Reference24Ideal.τ).loc Cert.Reference24Ideal.main_arg2) = m ((c.tc : Thread Cert.Reference24Ideal.nD Cert.Reference24Ideal.τ).loc Cert.Reference24Ideal.main_arg2))
      ∧ r.2.sem = fun _ => 0)

def quiescent_Kernel25 [hKernel25 : Cert.Kernel25.Facts] : Prop :=
  ∀ (m : (ℓ : Loc Cert.Kernel25.nD Cert.Kernel25.τ Cert.Kernel25.sig) → Buf (Elt Bits) ℓ) (g : Dev Cert.Kernel25.nD → PrngReg), Pre_Kernel25 m →
    θ_run (Cert.Kernel25.defs (F := Bits)) (onTc (τ := Cert.Kernel25.τ) (Cert.Kernel25.main (F := Bits))) ⟨m, fun _ => 0, g⟩ (fun r => (∀ c : Dev Cert.Kernel25.nD,
      r.2.mem ((c.tc : Thread Cert.Kernel25.nD Cert.Kernel25.τ).loc Cert.Kernel25.main_arg0) = m ((c.tc : Thread Cert.Kernel25.nD Cert.Kernel25.τ).loc Cert.Kernel25.main_arg0)
      ∧ r.2.mem ((c.tc : Thread Cert.Kernel25.nD Cert.Kernel25.τ).loc Cert.Kernel25.main_arg1) = m ((c.tc : Thread Cert.Kernel25.nD Cert.Kernel25.τ).loc Cert.Kernel25.main_arg1)
      ∧ r.2.mem ((c.tc : Thread Cert.Kernel25.nD Cert.Kernel25.τ).loc Cert.Kernel25.main_arg2) = m ((c.tc : Thread Cert.Kernel25.nD Cert.Kernel25.τ).loc Cert.Kernel25.main_arg2)
      ∧ r.2.mem ((c.tc : Thread Cert.Kernel25.nD Cert.Kernel25.τ).loc Cert.Kernel25.main_arg3) = m ((c.tc : Thread Cert.Kernel25.nD Cert.Kernel25.τ).loc Cert.Kernel25.main_arg3)
      ∧ r.2.mem ((c.tc : Thread Cert.Kernel25.nD Cert.Kernel25.τ).loc Cert.Kernel25.main_arg4) = m ((c.tc : Thread Cert.Kernel25.nD Cert.Kernel25.τ).loc Cert.Kernel25.main_arg4)
      ∧ r.2.mem ((c.tc : Thread Cert.Kernel25.nD Cert.Kernel25.τ).loc Cert.Kernel25.main_arg5) = m ((c.tc : Thread Cert.Kernel25.nD Cert.Kernel25.τ).loc Cert.Kernel25.main_arg5)
      ∧ r.2.mem ((c.tc : Thread Cert.Kernel25.nD Cert.Kernel25.τ).loc Cert.Kernel25.main_arg6) = m ((c.tc : Thread Cert.Kernel25.nD Cert.Kernel25.τ).loc Cert.Kernel25.main_arg6)
      ∧ r.2.mem ((c.tc : Thread Cert.Kernel25.nD Cert.Kernel25.τ).loc Cert.Kernel25.main_arg7) = m ((c.tc : Thread Cert.Kernel25.nD Cert.Kernel25.τ).loc Cert.Kernel25.main_arg7))
      ∧ r.2.sem = fun _ => 0)

def quiescent_Kernel25Ideal [hKernel25Ideal : Cert.Kernel25Ideal.Facts] : Prop :=
  ∀ (m : (ℓ : Loc Cert.Kernel25Ideal.nD Cert.Kernel25Ideal.τ Cert.Kernel25Ideal.sig) → Buf (Elt Ideal) ℓ) (g : Dev Cert.Kernel25Ideal.nD → PrngReg), Pre_Kernel25Ideal m →
    θ_run (Cert.Kernel25Ideal.defs (F := Ideal)) (onTc (τ := Cert.Kernel25Ideal.τ) (Cert.Kernel25Ideal.main (F := Ideal))) ⟨m, fun _ => 0, g⟩ (fun r => (∀ c : Dev Cert.Kernel25Ideal.nD,
      r.2.mem ((c.tc : Thread Cert.Kernel25Ideal.nD Cert.Kernel25Ideal.τ).loc Cert.Kernel25Ideal.main_arg0) = m ((c.tc : Thread Cert.Kernel25Ideal.nD Cert.Kernel25Ideal.τ).loc Cert.Kernel25Ideal.main_arg0)
      ∧ r.2.mem ((c.tc : Thread Cert.Kernel25Ideal.nD Cert.Kernel25Ideal.τ).loc Cert.Kernel25Ideal.main_arg1) = m ((c.tc : Thread Cert.Kernel25Ideal.nD Cert.Kernel25Ideal.τ).loc Cert.Kernel25Ideal.main_arg1)
      ∧ r.2.mem ((c.tc : Thread Cert.Kernel25Ideal.nD Cert.Kernel25Ideal.τ).loc Cert.Kernel25Ideal.main_arg2) = m ((c.tc : Thread Cert.Kernel25Ideal.nD Cert.Kernel25Ideal.τ).loc Cert.Kernel25Ideal.main_arg2)
      ∧ r.2.mem ((c.tc : Thread Cert.Kernel25Ideal.nD Cert.Kernel25Ideal.τ).loc Cert.Kernel25Ideal.main_arg3) = m ((c.tc : Thread Cert.Kernel25Ideal.nD Cert.Kernel25Ideal.τ).loc Cert.Kernel25Ideal.main_arg3)
      ∧ r.2.mem ((c.tc : Thread Cert.Kernel25Ideal.nD Cert.Kernel25Ideal.τ).loc Cert.Kernel25Ideal.main_arg4) = m ((c.tc : Thread Cert.Kernel25Ideal.nD Cert.Kernel25Ideal.τ).loc Cert.Kernel25Ideal.main_arg4)
      ∧ r.2.mem ((c.tc : Thread Cert.Kernel25Ideal.nD Cert.Kernel25Ideal.τ).loc Cert.Kernel25Ideal.main_arg5) = m ((c.tc : Thread Cert.Kernel25Ideal.nD Cert.Kernel25Ideal.τ).loc Cert.Kernel25Ideal.main_arg5)
      ∧ r.2.mem ((c.tc : Thread Cert.Kernel25Ideal.nD Cert.Kernel25Ideal.τ).loc Cert.Kernel25Ideal.main_arg6) = m ((c.tc : Thread Cert.Kernel25Ideal.nD Cert.Kernel25Ideal.τ).loc Cert.Kernel25Ideal.main_arg6)
      ∧ r.2.mem ((c.tc : Thread Cert.Kernel25Ideal.nD Cert.Kernel25Ideal.τ).loc Cert.Kernel25Ideal.main_arg7) = m ((c.tc : Thread Cert.Kernel25Ideal.nD Cert.Kernel25Ideal.τ).loc Cert.Kernel25Ideal.main_arg7))
      ∧ r.2.sem = fun _ => 0)

def quiescent_Reference25Ideal [hReference25Ideal : Cert.Reference25Ideal.Facts] : Prop :=
  ∀ (m : (ℓ : Loc Cert.Reference25Ideal.nD Cert.Reference25Ideal.τ Cert.Reference25Ideal.sig) → Buf (Elt Ideal) ℓ) (g : Dev Cert.Reference25Ideal.nD → PrngReg), Pre_Reference25Ideal m →
    θ_run (Cert.Reference25Ideal.defs (F := Ideal)) (onTc (τ := Cert.Reference25Ideal.τ) (Cert.Reference25Ideal.main (F := Ideal))) ⟨m, fun _ => 0, g⟩ (fun r => (∀ c : Dev Cert.Reference25Ideal.nD,
      r.2.mem ((c.tc : Thread Cert.Reference25Ideal.nD Cert.Reference25Ideal.τ).loc Cert.Reference25Ideal.main_arg0) = m ((c.tc : Thread Cert.Reference25Ideal.nD Cert.Reference25Ideal.τ).loc Cert.Reference25Ideal.main_arg0)
      ∧ r.2.mem ((c.tc : Thread Cert.Reference25Ideal.nD Cert.Reference25Ideal.τ).loc Cert.Reference25Ideal.main_arg1) = m ((c.tc : Thread Cert.Reference25Ideal.nD Cert.Reference25Ideal.τ).loc Cert.Reference25Ideal.main_arg1)
      ∧ r.2.mem ((c.tc : Thread Cert.Reference25Ideal.nD Cert.Reference25Ideal.τ).loc Cert.Reference25Ideal.main_arg2) = m ((c.tc : Thread Cert.Reference25Ideal.nD Cert.Reference25Ideal.τ).loc Cert.Reference25Ideal.main_arg2)
      ∧ r.2.mem ((c.tc : Thread Cert.Reference25Ideal.nD Cert.Reference25Ideal.τ).loc Cert.Reference25Ideal.main_arg3) = m ((c.tc : Thread Cert.Reference25Ideal.nD Cert.Reference25Ideal.τ).loc Cert.Reference25Ideal.main_arg3)
      ∧ r.2.mem ((c.tc : Thread Cert.Reference25Ideal.nD Cert.Reference25Ideal.τ).loc Cert.Reference25Ideal.main_arg4) = m ((c.tc : Thread Cert.Reference25Ideal.nD Cert.Reference25Ideal.τ).loc Cert.Reference25Ideal.main_arg4)
      ∧ r.2.mem ((c.tc : Thread Cert.Reference25Ideal.nD Cert.Reference25Ideal.τ).loc Cert.Reference25Ideal.main_arg5) = m ((c.tc : Thread Cert.Reference25Ideal.nD Cert.Reference25Ideal.τ).loc Cert.Reference25Ideal.main_arg5)
      ∧ r.2.mem ((c.tc : Thread Cert.Reference25Ideal.nD Cert.Reference25Ideal.τ).loc Cert.Reference25Ideal.main_arg6) = m ((c.tc : Thread Cert.Reference25Ideal.nD Cert.Reference25Ideal.τ).loc Cert.Reference25Ideal.main_arg6)
      ∧ r.2.mem ((c.tc : Thread Cert.Reference25Ideal.nD Cert.Reference25Ideal.τ).loc Cert.Reference25Ideal.main_arg7) = m ((c.tc : Thread Cert.Reference25Ideal.nD Cert.Reference25Ideal.τ).loc Cert.Reference25Ideal.main_arg7))
      ∧ r.2.sem = fun _ => 0)

def quiescent_Kernel26 [hKernel26 : Cert.Kernel26.Facts] : Prop :=
  ∀ (m : (ℓ : Loc Cert.Kernel26.nD Cert.Kernel26.τ Cert.Kernel26.sig) → Buf (Elt Bits) ℓ) (g : Dev Cert.Kernel26.nD → PrngReg), Pre_Kernel26 m →
    θ_run (Cert.Kernel26.defs (F := Bits)) (onTc (τ := Cert.Kernel26.τ) (Cert.Kernel26.main (F := Bits))) ⟨m, fun _ => 0, g⟩ (fun r => (∀ c : Dev Cert.Kernel26.nD,
      r.2.mem ((c.tc : Thread Cert.Kernel26.nD Cert.Kernel26.τ).loc Cert.Kernel26.main_arg0) = m ((c.tc : Thread Cert.Kernel26.nD Cert.Kernel26.τ).loc Cert.Kernel26.main_arg0)
      ∧ r.2.mem ((c.tc : Thread Cert.Kernel26.nD Cert.Kernel26.τ).loc Cert.Kernel26.main_arg1) = m ((c.tc : Thread Cert.Kernel26.nD Cert.Kernel26.τ).loc Cert.Kernel26.main_arg1)
      ∧ r.2.mem ((c.tc : Thread Cert.Kernel26.nD Cert.Kernel26.τ).loc Cert.Kernel26.main_arg2) = m ((c.tc : Thread Cert.Kernel26.nD Cert.Kernel26.τ).loc Cert.Kernel26.main_arg2)
      ∧ r.2.mem ((c.tc : Thread Cert.Kernel26.nD Cert.Kernel26.τ).loc Cert.Kernel26.main_arg3) = m ((c.tc : Thread Cert.Kernel26.nD Cert.Kernel26.τ).loc Cert.Kernel26.main_arg3)
      ∧ r.2.mem ((c.tc : Thread Cert.Kernel26.nD Cert.Kernel26.τ).loc Cert.Kernel26.main_arg4) = m ((c.tc : Thread Cert.Kernel26.nD Cert.Kernel26.τ).loc Cert.Kernel26.main_arg4)
      ∧ r.2.mem ((c.tc : Thread Cert.Kernel26.nD Cert.Kernel26.τ).loc Cert.Kernel26.main_arg5) = m ((c.tc : Thread Cert.Kernel26.nD Cert.Kernel26.τ).loc Cert.Kernel26.main_arg5)
      ∧ r.2.mem ((c.tc : Thread Cert.Kernel26.nD Cert.Kernel26.τ).loc Cert.Kernel26.main_arg6) = m ((c.tc : Thread Cert.Kernel26.nD Cert.Kernel26.τ).loc Cert.Kernel26.main_arg6)
      ∧ r.2.mem ((c.tc : Thread Cert.Kernel26.nD Cert.Kernel26.τ).loc Cert.Kernel26.main_arg7) = m ((c.tc : Thread Cert.Kernel26.nD Cert.Kernel26.τ).loc Cert.Kernel26.main_arg7))
      ∧ r.2.sem = fun _ => 0)

def quiescent_Kernel26Ideal [hKernel26Ideal : Cert.Kernel26Ideal.Facts] : Prop :=
  ∀ (m : (ℓ : Loc Cert.Kernel26Ideal.nD Cert.Kernel26Ideal.τ Cert.Kernel26Ideal.sig) → Buf (Elt Ideal) ℓ) (g : Dev Cert.Kernel26Ideal.nD → PrngReg), Pre_Kernel26Ideal m →
    θ_run (Cert.Kernel26Ideal.defs (F := Ideal)) (onTc (τ := Cert.Kernel26Ideal.τ) (Cert.Kernel26Ideal.main (F := Ideal))) ⟨m, fun _ => 0, g⟩ (fun r => (∀ c : Dev Cert.Kernel26Ideal.nD,
      r.2.mem ((c.tc : Thread Cert.Kernel26Ideal.nD Cert.Kernel26Ideal.τ).loc Cert.Kernel26Ideal.main_arg0) = m ((c.tc : Thread Cert.Kernel26Ideal.nD Cert.Kernel26Ideal.τ).loc Cert.Kernel26Ideal.main_arg0)
      ∧ r.2.mem ((c.tc : Thread Cert.Kernel26Ideal.nD Cert.Kernel26Ideal.τ).loc Cert.Kernel26Ideal.main_arg1) = m ((c.tc : Thread Cert.Kernel26Ideal.nD Cert.Kernel26Ideal.τ).loc Cert.Kernel26Ideal.main_arg1)
      ∧ r.2.mem ((c.tc : Thread Cert.Kernel26Ideal.nD Cert.Kernel26Ideal.τ).loc Cert.Kernel26Ideal.main_arg2) = m ((c.tc : Thread Cert.Kernel26Ideal.nD Cert.Kernel26Ideal.τ).loc Cert.Kernel26Ideal.main_arg2)
      ∧ r.2.mem ((c.tc : Thread Cert.Kernel26Ideal.nD Cert.Kernel26Ideal.τ).loc Cert.Kernel26Ideal.main_arg3) = m ((c.tc : Thread Cert.Kernel26Ideal.nD Cert.Kernel26Ideal.τ).loc Cert.Kernel26Ideal.main_arg3)
      ∧ r.2.mem ((c.tc : Thread Cert.Kernel26Ideal.nD Cert.Kernel26Ideal.τ).loc Cert.Kernel26Ideal.main_arg4) = m ((c.tc : Thread Cert.Kernel26Ideal.nD Cert.Kernel26Ideal.τ).loc Cert.Kernel26Ideal.main_arg4)
      ∧ r.2.mem ((c.tc : Thread Cert.Kernel26Ideal.nD Cert.Kernel26Ideal.τ).loc Cert.Kernel26Ideal.main_arg5) = m ((c.tc : Thread Cert.Kernel26Ideal.nD Cert.Kernel26Ideal.τ).loc Cert.Kernel26Ideal.main_arg5)
      ∧ r.2.mem ((c.tc : Thread Cert.Kernel26Ideal.nD Cert.Kernel26Ideal.τ).loc Cert.Kernel26Ideal.main_arg6) = m ((c.tc : Thread Cert.Kernel26Ideal.nD Cert.Kernel26Ideal.τ).loc Cert.Kernel26Ideal.main_arg6)
      ∧ r.2.mem ((c.tc : Thread Cert.Kernel26Ideal.nD Cert.Kernel26Ideal.τ).loc Cert.Kernel26Ideal.main_arg7) = m ((c.tc : Thread Cert.Kernel26Ideal.nD Cert.Kernel26Ideal.τ).loc Cert.Kernel26Ideal.main_arg7))
      ∧ r.2.sem = fun _ => 0)

def quiescent_Reference26Ideal [hReference26Ideal : Cert.Reference26Ideal.Facts] : Prop :=
  ∀ (m : (ℓ : Loc Cert.Reference26Ideal.nD Cert.Reference26Ideal.τ Cert.Reference26Ideal.sig) → Buf (Elt Ideal) ℓ) (g : Dev Cert.Reference26Ideal.nD → PrngReg), Pre_Reference26Ideal m →
    θ_run (Cert.Reference26Ideal.defs (F := Ideal)) (onTc (τ := Cert.Reference26Ideal.τ) (Cert.Reference26Ideal.main (F := Ideal))) ⟨m, fun _ => 0, g⟩ (fun r => (∀ c : Dev Cert.Reference26Ideal.nD,
      r.2.mem ((c.tc : Thread Cert.Reference26Ideal.nD Cert.Reference26Ideal.τ).loc Cert.Reference26Ideal.main_arg0) = m ((c.tc : Thread Cert.Reference26Ideal.nD Cert.Reference26Ideal.τ).loc Cert.Reference26Ideal.main_arg0)
      ∧ r.2.mem ((c.tc : Thread Cert.Reference26Ideal.nD Cert.Reference26Ideal.τ).loc Cert.Reference26Ideal.main_arg1) = m ((c.tc : Thread Cert.Reference26Ideal.nD Cert.Reference26Ideal.τ).loc Cert.Reference26Ideal.main_arg1)
      ∧ r.2.mem ((c.tc : Thread Cert.Reference26Ideal.nD Cert.Reference26Ideal.τ).loc Cert.Reference26Ideal.main_arg2) = m ((c.tc : Thread Cert.Reference26Ideal.nD Cert.Reference26Ideal.τ).loc Cert.Reference26Ideal.main_arg2)
      ∧ r.2.mem ((c.tc : Thread Cert.Reference26Ideal.nD Cert.Reference26Ideal.τ).loc Cert.Reference26Ideal.main_arg3) = m ((c.tc : Thread Cert.Reference26Ideal.nD Cert.Reference26Ideal.τ).loc Cert.Reference26Ideal.main_arg3)
      ∧ r.2.mem ((c.tc : Thread Cert.Reference26Ideal.nD Cert.Reference26Ideal.τ).loc Cert.Reference26Ideal.main_arg4) = m ((c.tc : Thread Cert.Reference26Ideal.nD Cert.Reference26Ideal.τ).loc Cert.Reference26Ideal.main_arg4)
      ∧ r.2.mem ((c.tc : Thread Cert.Reference26Ideal.nD Cert.Reference26Ideal.τ).loc Cert.Reference26Ideal.main_arg5) = m ((c.tc : Thread Cert.Reference26Ideal.nD Cert.Reference26Ideal.τ).loc Cert.Reference26Ideal.main_arg5)
      ∧ r.2.mem ((c.tc : Thread Cert.Reference26Ideal.nD Cert.Reference26Ideal.τ).loc Cert.Reference26Ideal.main_arg6) = m ((c.tc : Thread Cert.Reference26Ideal.nD Cert.Reference26Ideal.τ).loc Cert.Reference26Ideal.main_arg6)
      ∧ r.2.mem ((c.tc : Thread Cert.Reference26Ideal.nD Cert.Reference26Ideal.τ).loc Cert.Reference26Ideal.main_arg7) = m ((c.tc : Thread Cert.Reference26Ideal.nD Cert.Reference26Ideal.τ).loc Cert.Reference26Ideal.main_arg7))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v1_0)) (v1 : (c : Dev Cert.KernelIdeal.nD) → Buf (Elt Ideal) ((c.tc : Thread Cert.KernelIdeal.nD Cert.KernelIdeal.τ).loc Cert.KernelIdeal.main_v1_1)) (v2 : (c : Dev Cert.KernelIdeal.nD) → Buf (Elt Ideal) ((c.tc : Thread Cert.KernelIdeal.nD Cert.KernelIdeal.τ).loc Cert.KernelIdeal.main_v1_2)) (v3 : (c : Dev Cert.KernelIdeal.nD) → Buf (Elt Ideal) ((c.tc : Thread Cert.KernelIdeal.nD Cert.KernelIdeal.τ).loc Cert.KernelIdeal.main_v1_3)) (v4 : (c : Dev Cert.KernelIdeal.nD) → Buf (Elt Ideal) ((c.tc : Thread Cert.KernelIdeal.nD Cert.KernelIdeal.τ).loc Cert.KernelIdeal.main_v1_4)) (v5 : (c : Dev Cert.KernelIdeal.nD) → Buf (Elt Ideal) ((c.tc : Thread Cert.KernelIdeal.nD Cert.KernelIdeal.τ).loc Cert.KernelIdeal.main_v1_5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1_0) = v0 c
          ∧ r.2.mem ((c.tc : Thread Cert.KernelIdeal.nD Cert.KernelIdeal.τ).loc Cert.KernelIdeal.main_v1_1) = v1 c
          ∧ r.2.mem ((c.tc : Thread Cert.KernelIdeal.nD Cert.KernelIdeal.τ).loc Cert.KernelIdeal.main_v1_2) = v2 c
          ∧ r.2.mem ((c.tc : Thread Cert.KernelIdeal.nD Cert.KernelIdeal.τ).loc Cert.KernelIdeal.main_v1_3) = v3 c
          ∧ r.2.mem ((c.tc : Thread Cert.KernelIdeal.nD Cert.KernelIdeal.τ).loc Cert.KernelIdeal.main_v1_4) = v4 c
          ∧ r.2.mem ((c.tc : Thread Cert.KernelIdeal.nD Cert.KernelIdeal.τ).loc Cert.KernelIdeal.main_v1_5) = v5 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v39) = v0 c
          ∧ r.2.mem ((c.tc : Thread Cert.ReferenceIdeal.nD Cert.ReferenceIdeal.τ).loc Cert.ReferenceIdeal.main_v37) = v1 c
          ∧ r.2.mem ((c.tc : Thread Cert.ReferenceIdeal.nD Cert.ReferenceIdeal.τ).loc Cert.ReferenceIdeal.main_v35) = v2 c
          ∧ r.2.mem ((c.tc : Thread Cert.ReferenceIdeal.nD Cert.ReferenceIdeal.τ).loc Cert.ReferenceIdeal.main_v33) = v3 c
          ∧ r.2.mem ((c.tc : Thread Cert.ReferenceIdeal.nD Cert.ReferenceIdeal.τ).loc Cert.ReferenceIdeal.main_v31) = v4 c
          ∧ r.2.mem ((c.tc : Thread Cert.ReferenceIdeal.nD Cert.ReferenceIdeal.τ).loc Cert.ReferenceIdeal.main_v29) = v5 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)) →
    ∃ (v0 : (c : Dev Cert.Kernel2Ideal.nD) → Buf (Elt Ideal) ((c.tc : Thread Cert.Kernel2Ideal.nD Cert.Kernel2Ideal.τ).loc Cert.Kernel2Ideal.main_v0)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v0) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v6) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)) →
    ∃ (v0 : (c : Dev Cert.Kernel3Ideal.nD) → Buf (Elt Ideal) ((c.tc : Thread Cert.Kernel3Ideal.nD Cert.Kernel3Ideal.τ).loc Cert.Kernel3Ideal.main_v0)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v0) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v10) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)) →
    ∃ (v0 : (c : Dev Cert.Kernel4Ideal.nD) → Buf (Elt Ideal) ((c.tc : Thread Cert.Kernel4Ideal.nD Cert.Kernel4Ideal.τ).loc Cert.Kernel4Ideal.main_v0)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v0) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v6) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)) →
    ∃ (v0 : (c : Dev Cert.Kernel5Ideal.nD) → Buf (Elt Ideal) ((c.tc : Thread Cert.Kernel5Ideal.nD Cert.Kernel5Ideal.τ).loc Cert.Kernel5Ideal.main_v0)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v0) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v10) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)) →
    ∃ (v0 : (c : Dev Cert.Kernel6Ideal.nD) → Buf (Elt Ideal) ((c.tc : Thread Cert.Kernel6Ideal.nD Cert.Kernel6Ideal.τ).loc Cert.Kernel6Ideal.main_v0)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v0) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v8) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)) →
    ∃ (v0 : (c : Dev Cert.Kernel7Ideal.nD) → Buf (Elt Ideal) ((c.tc : Thread Cert.Kernel7Ideal.nD Cert.Kernel7Ideal.τ).loc Cert.Kernel7Ideal.main_v0)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v0) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v5) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)
      ∧ m' ((c.tc : Thread Cert.Reference8Ideal.nD Cert.Reference8Ideal.τ).loc Cert.Reference8Ideal.main_arg2) = m ((c.tc : Thread Cert.Kernel8Ideal.nD Cert.Kernel8Ideal.τ).loc Cert.Kernel8Ideal.main_arg2)) →
    ∃ (v0 : (c : Dev Cert.Kernel8Ideal.nD) → Buf (Elt Ideal) ((c.tc : Thread Cert.Kernel8Ideal.nD Cert.Kernel8Ideal.τ).loc Cert.Kernel8Ideal.main_v0)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v0) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
          ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v15) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1)
          ∧ r.2.mem ((c.tc : Thread Cert.Reference8Ideal.nD Cert.Reference8Ideal.τ).loc Cert.Reference8Ideal.main_arg2) = m' ((c.tc : Thread Cert.Reference8Ideal.nD Cert.Reference8Ideal.τ).loc Cert.Reference8Ideal.main_arg2))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)) →
    ∃ (v0 : (c : Dev Cert.Kernel9Ideal.nD) → Buf (Elt Ideal) ((c.tc : Thread Cert.Kernel9Ideal.nD Cert.Kernel9Ideal.τ).loc Cert.Kernel9Ideal.main_v0)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v0) = v0 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v6) = v0 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)) →
    ∃ (v0 : (c : Dev Cert.Kernel10Ideal.nD) → Buf (Elt Ideal) ((c.tc : Thread Cert.Kernel10Ideal.nD Cert.Kernel10Ideal.τ).loc Cert.Kernel10Ideal.main_v0)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v0) = v0 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v4) = v0 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1))

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)
      ∧ m' ((c.tc : Thread Cert.Reference11Ideal.nD Cert.Reference11Ideal.τ).loc Cert.Reference11Ideal.main_arg2) = m ((c.tc : Thread Cert.Kernel11Ideal.nD Cert.Kernel11Ideal.τ).loc Cert.Kernel11Ideal.main_arg2)) →
    ∃ (v0 : (c : Dev Cert.Kernel11Ideal.nD) → Buf (Elt Ideal) ((c.tc : Thread Cert.Kernel11Ideal.nD Cert.Kernel11Ideal.τ).loc Cert.Kernel11Ideal.main_v0)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v0) = v0 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
          ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v4) = v0 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1)
          ∧ r.2.mem ((c.tc : Thread Cert.Reference11Ideal.nD Cert.Reference11Ideal.τ).loc Cert.Reference11Ideal.main_arg2) = m' ((c.tc : Thread Cert.Reference11Ideal.nD Cert.Reference11Ideal.τ).loc Cert.Reference11Ideal.main_arg2))

def preserves_Kernel12_Kernel12Ideal : Prop :=
  True

def algebraic_Kernel12Ideal_Reference12Ideal [hKernel12Ideal : Cert.Kernel12Ideal.Facts] [hReference12Ideal : Cert.Reference12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)
      ∧ m' ((c.tc : Thread Cert.Reference12Ideal.nD Cert.Reference12Ideal.τ).loc Cert.Reference12Ideal.main_arg1) = m ((c.tc : Thread Cert.Kernel12Ideal.nD Cert.Kernel12Ideal.τ).loc Cert.Kernel12Ideal.main_arg1)) →
    ∃ (v0 : (c : Dev Cert.Kernel12Ideal.nD) → Buf (Elt Ideal) ((c.tc : Thread Cert.Kernel12Ideal.nD Cert.Kernel12Ideal.τ).loc Cert.Kernel12Ideal.main_v0)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v0) = v0 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
          ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_v3) = v0 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0)
          ∧ r.2.mem ((c.tc : Thread Cert.Reference12Ideal.nD Cert.Reference12Ideal.τ).loc Cert.Reference12Ideal.main_arg1) = m' ((c.tc : Thread Cert.Reference12Ideal.nD Cert.Reference12Ideal.τ).loc Cert.Reference12Ideal.main_arg1))

def preserves_Kernel13_Kernel13Ideal : Prop :=
  True

def algebraic_Kernel13Ideal_Reference13Ideal [hKernel13Ideal : Cert.Kernel13Ideal.Facts] [hReference13Ideal : Cert.Reference13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg)
    (m' : (ℓ : Loc Cert.Reference13Ideal.nD Cert.Reference13Ideal.τ Cert.Reference13Ideal.sig) → Buf (Elt Ideal) ℓ) (g' : Dev Cert.Reference13Ideal.nD → PrngReg), Pre_Kernel13Ideal m →
    (∀ c : Dev Cert.Kernel13Ideal.nD,
      m' ((c.tc : Thread Cert.Reference13Ideal.nD Cert.Reference13Ideal.τ).loc Cert.Reference13Ideal.main_arg0) = m ((c.tc : Thread Cert.Kernel13Ideal.nD Cert.Kernel13Ideal.τ).loc Cert.Kernel13Ideal.main_arg0)
      ∧ m' ((c.tc : Thread Cert.Reference13Ideal.nD Cert.Reference13Ideal.τ).loc Cert.Reference13Ideal.main_arg1) = m ((c.tc : Thread Cert.Kernel13Ideal.nD Cert.Kernel13Ideal.τ).loc Cert.Kernel13Ideal.main_arg1)) →
    ∃ (v0 : (c : Dev Cert.Kernel13Ideal.nD) → Buf (Elt Ideal) ((c.tc : Thread Cert.Kernel13Ideal.nD Cert.Kernel13Ideal.τ).loc Cert.Kernel13Ideal.main_v0_0)) (v1 : (c : Dev Cert.Kernel13Ideal.nD) → Buf (Elt Ideal) ((c.tc : Thread Cert.Kernel13Ideal.nD Cert.Kernel13Ideal.τ).loc Cert.Kernel13Ideal.main_v0_1)),
      θ_run (Cert.Kernel13Ideal.defs (F := Ideal)) (onTc (τ := Cert.Kernel13Ideal.τ) (Cert.Kernel13Ideal.main (F := Ideal))) ⟨m, fun _ => 0, g⟩ (fun r => ∀ c : Dev Cert.Kernel13Ideal.nD,
          r.2.mem ((c.tc : Thread Cert.Kernel13Ideal.nD Cert.Kernel13Ideal.τ).loc Cert.Kernel13Ideal.main_v0_0) = v0 c
          ∧ r.2.mem ((c.tc : Thread Cert.Kernel13Ideal.nD Cert.Kernel13Ideal.τ).loc Cert.Kernel13Ideal.main_v0_1) = v1 c
          ∧ r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
          ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1))
      ∧ θ_run (Cert.Reference13Ideal.defs (F := Ideal)) (onTc (τ := Cert.Reference13Ideal.τ) (Cert.Reference13Ideal.main (F := Ideal))) ⟨m', fun _ => 0, g'⟩ (fun r => ∀ c : Dev Cert.Reference13Ideal.nD,
          r.2.mem ((c.tc : Thread Cert.Reference13Ideal.nD Cert.Reference13Ideal.τ).loc Cert.Reference13Ideal.main_v4) = v0 c
          ∧ r.2.mem ((c.tc : Thread Cert.Reference13Ideal.nD Cert.Reference13Ideal.τ).loc Cert.Reference13Ideal.main_v7) = v1 c
          ∧ r.2.mem ((c.tc : Thread Cert.Reference13Ideal.nD Cert.Reference13Ideal.τ).loc Cert.Reference13Ideal.main_arg0) = m' ((c.tc : Thread Cert.Reference13Ideal.nD Cert.Reference13Ideal.τ).loc Cert.Reference13Ideal.main_arg0)
          ∧ r.2.mem ((c.tc : Thread Cert.Reference13Ideal.nD Cert.Reference13Ideal.τ).loc Cert.Reference13Ideal.main_arg1) = m' ((c.tc : Thread Cert.Reference13Ideal.nD Cert.Reference13Ideal.τ).loc Cert.Reference13Ideal.main_arg1))

def preserves_Kernel14_Kernel14Ideal : Prop :=
  True

def algebraic_Kernel14Ideal_Reference14Ideal [hKernel14Ideal : Cert.Kernel14Ideal.Facts] [hReference14Ideal : Cert.Reference14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg)
    (m' : (ℓ : Loc Cert.Reference14Ideal.nD Cert.Reference14Ideal.τ Cert.Reference14Ideal.sig) → Buf (Elt Ideal) ℓ) (g' : Dev Cert.Reference14Ideal.nD → PrngReg), Pre_Kernel14Ideal m →
    (∀ c : Dev Cert.Kernel14Ideal.nD,
      m' ((c.tc : Thread Cert.Reference14Ideal.nD Cert.Reference14Ideal.τ).loc Cert.Reference14Ideal.main_arg0) = m ((c.tc : Thread Cert.Kernel14Ideal.nD Cert.Kernel14Ideal.τ).loc Cert.Kernel14Ideal.main_arg0)
      ∧ m' ((c.tc : Thread Cert.Reference14Ideal.nD Cert.Reference14Ideal.τ).loc Cert.Reference14Ideal.main_arg1) = m ((c.tc : Thread Cert.Kernel14Ideal.nD Cert.Kernel14Ideal.τ).loc Cert.Kernel14Ideal.main_arg1)
      ∧ m' ((c.tc : Thread Cert.Reference14Ideal.nD Cert.Reference14Ideal.τ).loc Cert.Reference14Ideal.main_arg2) = m ((c.tc : Thread Cert.Kernel14Ideal.nD Cert.Kernel14Ideal.τ).loc Cert.Kernel14Ideal.main_arg2)) →
    ∃ (v0 : (c : Dev Cert.Kernel14Ideal.nD) → Buf (Elt Ideal) ((c.tc : Thread Cert.Kernel14Ideal.nD Cert.Kernel14Ideal.τ).loc Cert.Kernel14Ideal.main_v0)),
      θ_run (Cert.Kernel14Ideal.defs (F := Ideal)) (onTc (τ := Cert.Kernel14Ideal.τ) (Cert.Kernel14Ideal.main (F := Ideal))) ⟨m, fun _ => 0, g⟩ (fun r => ∀ c : Dev Cert.Kernel14Ideal.nD,
          r.2.mem ((c.tc : Thread Cert.Kernel14Ideal.nD Cert.Kernel14Ideal.τ).loc Cert.Kernel14Ideal.main_v0) = v0 c
          ∧ r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
          ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
          ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2))
      ∧ θ_run (Cert.Reference14Ideal.defs (F := Ideal)) (onTc (τ := Cert.Reference14Ideal.τ) (Cert.Reference14Ideal.main (F := Ideal))) ⟨m', fun _ => 0, g'⟩ (fun r => ∀ c : Dev Cert.Reference14Ideal.nD,
          r.2.mem ((c.tc : Thread Cert.Reference14Ideal.nD Cert.Reference14Ideal.τ).loc Cert.Reference14Ideal.main_v4) = v0 c
          ∧ r.2.mem ((c.tc : Thread Cert.Reference14Ideal.nD Cert.Reference14Ideal.τ).loc Cert.Reference14Ideal.main_arg0) = m' ((c.tc : Thread Cert.Reference14Ideal.nD Cert.Reference14Ideal.τ).loc Cert.Reference14Ideal.main_arg0)
          ∧ r.2.mem ((c.tc : Thread Cert.Reference14Ideal.nD Cert.Reference14Ideal.τ).loc Cert.Reference14Ideal.main_arg1) = m' ((c.tc : Thread Cert.Reference14Ideal.nD Cert.Reference14Ideal.τ).loc Cert.Reference14Ideal.main_arg1)
          ∧ r.2.mem ((c.tc : Thread Cert.Reference14Ideal.nD Cert.Reference14Ideal.τ).loc Cert.Reference14Ideal.main_arg2) = m' ((c.tc : Thread Cert.Reference14Ideal.nD Cert.Reference14Ideal.τ).loc Cert.Reference14Ideal.main_arg2))

def preserves_Kernel15_Kernel15Ideal : Prop :=
  True

def algebraic_Kernel15Ideal_Reference15Ideal [hKernel15Ideal : Cert.Kernel15Ideal.Facts] [hReference15Ideal : Cert.Reference15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg)
    (m' : (ℓ : Loc Cert.Reference15Ideal.nD Cert.Reference15Ideal.τ Cert.Reference15Ideal.sig) → Buf (Elt Ideal) ℓ) (g' : Dev Cert.Reference15Ideal.nD → PrngReg), Pre_Kernel15Ideal m →
    (∀ c : Dev Cert.Kernel15Ideal.nD,
      m' ((c.tc : Thread Cert.Reference15Ideal.nD Cert.Reference15Ideal.τ).loc Cert.Reference15Ideal.main_arg0) = m ((c.tc : Thread Cert.Kernel15Ideal.nD Cert.Kernel15Ideal.τ).loc Cert.Kernel15Ideal.main_arg0)
      ∧ m' ((c.tc : Thread Cert.Reference15Ideal.nD Cert.Reference15Ideal.τ).loc Cert.Reference15Ideal.main_arg1) = m ((c.tc : Thread Cert.Kernel15Ideal.nD Cert.Kernel15Ideal.τ).loc Cert.Kernel15Ideal.main_arg1)
      ∧ m' ((c.tc : Thread Cert.Reference15Ideal.nD Cert.Reference15Ideal.τ).loc Cert.Reference15Ideal.main_arg2) = m ((c.tc : Thread Cert.Kernel15Ideal.nD Cert.Kernel15Ideal.τ).loc Cert.Kernel15Ideal.main_arg2)
      ∧ m' ((c.tc : Thread Cert.Reference15Ideal.nD Cert.Reference15Ideal.τ).loc Cert.Reference15Ideal.main_arg3) = m ((c.tc : Thread Cert.Kernel15Ideal.nD Cert.Kernel15Ideal.τ).loc Cert.Kernel15Ideal.main_arg3)
      ∧ m' ((c.tc : Thread Cert.Reference15Ideal.nD Cert.Reference15Ideal.τ).loc Cert.Reference15Ideal.main_arg4) = m ((c.tc : Thread Cert.Kernel15Ideal.nD Cert.Kernel15Ideal.τ).loc Cert.Kernel15Ideal.main_arg4)) →
    ∃ (v0 : (c : Dev Cert.Kernel15Ideal.nD) → Buf (Elt Ideal) ((c.tc : Thread Cert.Kernel15Ideal.nD Cert.Kernel15Ideal.τ).loc Cert.Kernel15Ideal.main_v0_0)) (v1 : (c : Dev Cert.Kernel15Ideal.nD) → Buf (Elt Ideal) ((c.tc : Thread Cert.Kernel15Ideal.nD Cert.Kernel15Ideal.τ).loc Cert.Kernel15Ideal.main_v0_1)) (v2 : (c : Dev Cert.Kernel15Ideal.nD) → Buf (Elt Ideal) ((c.tc : Thread Cert.Kernel15Ideal.nD Cert.Kernel15Ideal.τ).loc Cert.Kernel15Ideal.main_v0_2)) (v3 : (c : Dev Cert.Kernel15Ideal.nD) → Buf (Elt Ideal) ((c.tc : Thread Cert.Kernel15Ideal.nD Cert.Kernel15Ideal.τ).loc Cert.Kernel15Ideal.main_v0_3)),
      θ_run (Cert.Kernel15Ideal.defs (F := Ideal)) (onTc (τ := Cert.Kernel15Ideal.τ) (Cert.Kernel15Ideal.main (F := Ideal))) ⟨m, fun _ => 0, g⟩ (fun r => ∀ c : Dev Cert.Kernel15Ideal.nD,
          r.2.mem ((c.tc : Thread Cert.Kernel15Ideal.nD Cert.Kernel15Ideal.τ).loc Cert.Kernel15Ideal.main_v0_0) = v0 c
          ∧ r.2.mem ((c.tc : Thread Cert.Kernel15Ideal.nD Cert.Kernel15Ideal.τ).loc Cert.Kernel15Ideal.main_v0_1) = v1 c
          ∧ r.2.mem ((c.tc : Thread Cert.Kernel15Ideal.nD Cert.Kernel15Ideal.τ).loc Cert.Kernel15Ideal.main_v0_2) = v2 c
          ∧ r.2.mem ((c.tc : Thread Cert.Kernel15Ideal.nD Cert.Kernel15Ideal.τ).loc Cert.Kernel15Ideal.main_v0_3) = v3 c
          ∧ r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
          ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
          ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2)
          ∧ r.2.mem ((c.tc : Thread Cert.Kernel15Ideal.nD Cert.Kernel15Ideal.τ).loc Cert.Kernel15Ideal.main_arg3) = m ((c.tc : Thread Cert.Kernel15Ideal.nD Cert.Kernel15Ideal.τ).loc Cert.Kernel15Ideal.main_arg3)
          ∧ r.2.mem ((c.tc : Thread Cert.Kernel15Ideal.nD Cert.Kernel15Ideal.τ).loc Cert.Kernel15Ideal.main_arg4) = m ((c.tc : Thread Cert.Kernel15Ideal.nD Cert.Kernel15Ideal.τ).loc Cert.Kernel15Ideal.main_arg4))
      ∧ θ_run (Cert.Reference15Ideal.defs (F := Ideal)) (onTc (τ := Cert.Reference15Ideal.τ) (Cert.Reference15Ideal.main (F := Ideal))) ⟨m', fun _ => 0, g'⟩ (fun r => ∀ c : Dev Cert.Reference15Ideal.nD,
          r.2.mem ((c.tc : Thread Cert.Reference15Ideal.nD Cert.Reference15Ideal.τ).loc Cert.Reference15Ideal.main_v42) = v0 c
          ∧ r.2.mem ((c.tc : Thread Cert.Reference15Ideal.nD Cert.Reference15Ideal.τ).loc Cert.Reference15Ideal.main_v43) = v1 c
          ∧ r.2.mem ((c.tc : Thread Cert.Reference15Ideal.nD Cert.Reference15Ideal.τ).loc Cert.Reference15Ideal.main_v44) = v2 c
          ∧ r.2.mem ((c.tc : Thread Cert.Reference15Ideal.nD Cert.Reference15Ideal.τ).loc Cert.Reference15Ideal.main_v45) = v3 c
          ∧ r.2.mem ((c.tc : Thread Cert.Reference15Ideal.nD Cert.Reference15Ideal.τ).loc Cert.Reference15Ideal.main_arg0) = m' ((c.tc : Thread Cert.Reference15Ideal.nD Cert.Reference15Ideal.τ).loc Cert.Reference15Ideal.main_arg0)
          ∧ r.2.mem ((c.tc : Thread Cert.Reference15Ideal.nD Cert.Reference15Ideal.τ).loc Cert.Reference15Ideal.main_arg1) = m' ((c.tc : Thread Cert.Reference15Ideal.nD Cert.Reference15Ideal.τ).loc Cert.Reference15Ideal.main_arg1)
          ∧ r.2.mem ((c.tc : Thread Cert.Reference15Ideal.nD Cert.Reference15Ideal.τ).loc Cert.Reference15Ideal.main_arg2) = m' ((c.tc : Thread Cert.Reference15Ideal.nD Cert.Reference15Ideal.τ).loc Cert.Reference15Ideal.main_arg2)
          ∧ r.2.mem ((c.tc : Thread Cert.Reference15Ideal.nD Cert.Reference15Ideal.τ).loc Cert.Reference15Ideal.main_arg3) = m' ((c.tc : Thread Cert.Reference15Ideal.nD Cert.Reference15Ideal.τ).loc Cert.Reference15Ideal.main_arg3)
          ∧ r.2.mem ((c.tc : Thread Cert.Reference15Ideal.nD Cert.Reference15Ideal.τ).loc Cert.Reference15Ideal.main_arg4) = m' ((c.tc : Thread Cert.Reference15Ideal.nD Cert.Reference15Ideal.τ).loc Cert.Reference15Ideal.main_arg4))

def preserves_Kernel16_Kernel16Ideal : Prop :=
  True

def algebraic_Kernel16Ideal_Reference16Ideal [hKernel16Ideal : Cert.Kernel16Ideal.Facts] [hReference16Ideal : Cert.Reference16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg)
    (m' : (ℓ : Loc Cert.Reference16Ideal.nD Cert.Reference16Ideal.τ Cert.Reference16Ideal.sig) → Buf (Elt Ideal) ℓ) (g' : Dev Cert.Reference16Ideal.nD → PrngReg), Pre_Kernel16Ideal m →
    (∀ c : Dev Cert.Kernel16Ideal.nD,
      m' ((c.tc : Thread Cert.Reference16Ideal.nD Cert.Reference16Ideal.τ).loc Cert.Reference16Ideal.main_arg0) = m ((c.tc : Thread Cert.Kernel16Ideal.nD Cert.Kernel16Ideal.τ).loc Cert.Kernel16Ideal.main_arg0)
      ∧ m' ((c.tc : Thread Cert.Reference16Ideal.nD Cert.Reference16Ideal.τ).loc Cert.Reference16Ideal.main_arg1) = m ((c.tc : Thread Cert.Kernel16Ideal.nD Cert.Kernel16Ideal.τ).loc Cert.Kernel16Ideal.main_arg1)
      ∧ m' ((c.tc : Thread Cert.Reference16Ideal.nD Cert.Reference16Ideal.τ).loc Cert.Reference16Ideal.main_arg2) = m ((c.tc : Thread Cert.Kernel16Ideal.nD Cert.Kernel16Ideal.τ).loc Cert.Kernel16Ideal.main_arg2)
      ∧ m' ((c.tc : Thread Cert.Reference16Ideal.nD Cert.Reference16Ideal.τ).loc Cert.Reference16Ideal.main_arg3) = m ((c.tc : Thread Cert.Kernel16Ideal.nD Cert.Kernel16Ideal.τ).loc Cert.Kernel16Ideal.main_arg3)) →
    ∃ (v0 : (c : Dev Cert.Kernel16Ideal.nD) → Buf (Elt Ideal) ((c.tc : Thread Cert.Kernel16Ideal.nD Cert.Kernel16Ideal.τ).loc Cert.Kernel16Ideal.main_v0_0)) (v1 : (c : Dev Cert.Kernel16Ideal.nD) → Buf (Elt Ideal) ((c.tc : Thread Cert.Kernel16Ideal.nD Cert.Kernel16Ideal.τ).loc Cert.Kernel16Ideal.main_v0_1)) (v2 : (c : Dev Cert.Kernel16Ideal.nD) → Buf (Elt Ideal) ((c.tc : Thread Cert.Kernel16Ideal.nD Cert.Kernel16Ideal.τ).loc Cert.Kernel16Ideal.main_v0_2)),
      θ_run (Cert.Kernel16Ideal.defs (F := Ideal)) (onTc (τ := Cert.Kernel16Ideal.τ) (Cert.Kernel16Ideal.main (F := Ideal))) ⟨m, fun _ => 0, g⟩ (fun r => ∀ c : Dev Cert.Kernel16Ideal.nD,
          r.2.mem ((c.tc : Thread Cert.Kernel16Ideal.nD Cert.Kernel16Ideal.τ).loc Cert.Kernel16Ideal.main_v0_0) = v0 c
          ∧ r.2.mem ((c.tc : Thread Cert.Kernel16Ideal.nD Cert.Kernel16Ideal.τ).loc Cert.Kernel16Ideal.main_v0_1) = v1 c
          ∧ r.2.mem ((c.tc : Thread Cert.Kernel16Ideal.nD Cert.Kernel16Ideal.τ).loc Cert.Kernel16Ideal.main_v0_2) = v2 c
          ∧ r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
          ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1)
          ∧ r.2.mem ((c.tc : Thread Cert.Kernel16Ideal.nD Cert.Kernel16Ideal.τ).loc Cert.Kernel16Ideal.main_arg2) = m ((c.tc : Thread Cert.Kernel16Ideal.nD Cert.Kernel16Ideal.τ).loc Cert.Kernel16Ideal.main_arg2)
          ∧ r.2.mem ((c.tc : Thread Cert.Kernel16Ideal.nD Cert.Kernel16Ideal.τ).loc Cert.Kernel16Ideal.main_arg3) = m ((c.tc : Thread Cert.Kernel16Ideal.nD Cert.Kernel16Ideal.τ).loc Cert.Kernel16Ideal.main_arg3))
      ∧ θ_run (Cert.Reference16Ideal.defs (F := Ideal)) (onTc (τ := Cert.Reference16Ideal.τ) (Cert.Reference16Ideal.main (F := Ideal))) ⟨m', fun _ => 0, g'⟩ (fun r => ∀ c : Dev Cert.Reference16Ideal.nD,
          r.2.mem ((c.tc : Thread Cert.Reference16Ideal.nD Cert.Reference16Ideal.τ).loc Cert.Reference16Ideal.main_v37) = v0 c
          ∧ r.2.mem ((c.tc : Thread Cert.Reference16Ideal.nD Cert.Reference16Ideal.τ).loc Cert.Reference16Ideal.main_v38) = v1 c
          ∧ r.2.mem ((c.tc : Thread Cert.Reference16Ideal.nD Cert.Reference16Ideal.τ).loc Cert.Reference16Ideal.main_v39) = v2 c
          ∧ r.2.mem ((c.tc : Thread Cert.Reference16Ideal.nD Cert.Reference16Ideal.τ).loc Cert.Reference16Ideal.main_arg0) = m' ((c.tc : Thread Cert.Reference16Ideal.nD Cert.Reference16Ideal.τ).loc Cert.Reference16Ideal.main_arg0)
          ∧ r.2.mem ((c.tc : Thread Cert.Reference16Ideal.nD Cert.Reference16Ideal.τ).loc Cert.Reference16Ideal.main_arg1) = m' ((c.tc : Thread Cert.Reference16Ideal.nD Cert.Reference16Ideal.τ).loc Cert.Reference16Ideal.main_arg1)
          ∧ r.2.mem ((c.tc : Thread Cert.Reference16Ideal.nD Cert.Reference16Ideal.τ).loc Cert.Reference16Ideal.main_arg2) = m' ((c.tc : Thread Cert.Reference16Ideal.nD Cert.Reference16Ideal.τ).loc Cert.Reference16Ideal.main_arg2)
          ∧ r.2.mem ((c.tc : Thread Cert.Reference16Ideal.nD Cert.Reference16Ideal.τ).loc Cert.Reference16Ideal.main_arg3) = m' ((c.tc : Thread Cert.Reference16Ideal.nD Cert.Reference16Ideal.τ).loc Cert.Reference16Ideal.main_arg3))

def preserves_Kernel17_Kernel17Ideal : Prop :=
  True

def algebraic_Kernel17Ideal_Reference17Ideal [hKernel17Ideal : Cert.Kernel17Ideal.Facts] [hReference17Ideal : Cert.Reference17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg)
    (m' : (ℓ : Loc Cert.Reference17Ideal.nD Cert.Reference17Ideal.τ Cert.Reference17Ideal.sig) → Buf (Elt Ideal) ℓ) (g' : Dev Cert.Reference17Ideal.nD → PrngReg), Pre_Kernel17Ideal m →
    (∀ c : Dev Cert.Kernel17Ideal.nD,
      m' ((c.tc : Thread Cert.Reference17Ideal.nD Cert.Reference17Ideal.τ).loc Cert.Reference17Ideal.main_arg0) = m ((c.tc : Thread Cert.Kernel17Ideal.nD Cert.Kernel17Ideal.τ).loc Cert.Kernel17Ideal.main_arg0)
      ∧ m' ((c.tc : Thread Cert.Reference17Ideal.nD Cert.Reference17Ideal.τ).loc Cert.Reference17Ideal.main_arg1) = m ((c.tc : Thread Cert.Kernel17Ideal.nD Cert.Kernel17Ideal.τ).loc Cert.Kernel17Ideal.main_arg1)
      ∧ m' ((c.tc : Thread Cert.Reference17Ideal.nD Cert.Reference17Ideal.τ).loc Cert.Reference17Ideal.main_arg2) = m ((c.tc : Thread Cert.Kernel17Ideal.nD Cert.Kernel17Ideal.τ).loc Cert.Kernel17Ideal.main_arg2)
      ∧ m' ((c.tc : Thread Cert.Reference17Ideal.nD Cert.Reference17Ideal.τ).loc Cert.Reference17Ideal.main_arg3) = m ((c.tc : Thread Cert.Kernel17Ideal.nD Cert.Kernel17Ideal.τ).loc Cert.Kernel17Ideal.main_arg3)) →
    ∃ (v0 : (c : Dev Cert.Kernel17Ideal.nD) → Buf (Elt Ideal) ((c.tc : Thread Cert.Kernel17Ideal.nD Cert.Kernel17Ideal.τ).loc Cert.Kernel17Ideal.main_v0_0)) (v1 : (c : Dev Cert.Kernel17Ideal.nD) → Buf (Elt Ideal) ((c.tc : Thread Cert.Kernel17Ideal.nD Cert.Kernel17Ideal.τ).loc Cert.Kernel17Ideal.main_v0_1)) (v2 : (c : Dev Cert.Kernel17Ideal.nD) → Buf (Elt Ideal) ((c.tc : Thread Cert.Kernel17Ideal.nD Cert.Kernel17Ideal.τ).loc Cert.Kernel17Ideal.main_v0_2)),
      θ_run (Cert.Kernel17Ideal.defs (F := Ideal)) (onTc (τ := Cert.Kernel17Ideal.τ) (Cert.Kernel17Ideal.main (F := Ideal))) ⟨m, fun _ => 0, g⟩ (fun r => ∀ c : Dev Cert.Kernel17Ideal.nD,
          r.2.mem ((c.tc : Thread Cert.Kernel17Ideal.nD Cert.Kernel17Ideal.τ).loc Cert.Kernel17Ideal.main_v0_0) = v0 c
          ∧ r.2.mem ((c.tc : Thread Cert.Kernel17Ideal.nD Cert.Kernel17Ideal.τ).loc Cert.Kernel17Ideal.main_v0_1) = v1 c
          ∧ r.2.mem ((c.tc : Thread Cert.Kernel17Ideal.nD Cert.Kernel17Ideal.τ).loc Cert.Kernel17Ideal.main_v0_2) = v2 c
          ∧ r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
          ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1)
          ∧ r.2.mem ((c.tc : Thread Cert.Kernel17Ideal.nD Cert.Kernel17Ideal.τ).loc Cert.Kernel17Ideal.main_arg2) = m ((c.tc : Thread Cert.Kernel17Ideal.nD Cert.Kernel17Ideal.τ).loc Cert.Kernel17Ideal.main_arg2)
          ∧ r.2.mem ((c.tc : Thread Cert.Kernel17Ideal.nD Cert.Kernel17Ideal.τ).loc Cert.Kernel17Ideal.main_arg3) = m ((c.tc : Thread Cert.Kernel17Ideal.nD Cert.Kernel17Ideal.τ).loc Cert.Kernel17Ideal.main_arg3))
      ∧ θ_run (Cert.Reference17Ideal.defs (F := Ideal)) (onTc (τ := Cert.Reference17Ideal.τ) (Cert.Reference17Ideal.main (F := Ideal))) ⟨m', fun _ => 0, g'⟩ (fun r => ∀ c : Dev Cert.Reference17Ideal.nD,
          r.2.mem ((c.tc : Thread Cert.Reference17Ideal.nD Cert.Reference17Ideal.τ).loc Cert.Reference17Ideal.main_v48) = v0 c
          ∧ r.2.mem ((c.tc : Thread Cert.Reference17Ideal.nD Cert.Reference17Ideal.τ).loc Cert.Reference17Ideal.main_v49) = v1 c
          ∧ r.2.mem ((c.tc : Thread Cert.Reference17Ideal.nD Cert.Reference17Ideal.τ).loc Cert.Reference17Ideal.main_v50) = v2 c
          ∧ r.2.mem ((c.tc : Thread Cert.Reference17Ideal.nD Cert.Reference17Ideal.τ).loc Cert.Reference17Ideal.main_arg0) = m' ((c.tc : Thread Cert.Reference17Ideal.nD Cert.Reference17Ideal.τ).loc Cert.Reference17Ideal.main_arg0)
          ∧ r.2.mem ((c.tc : Thread Cert.Reference17Ideal.nD Cert.Reference17Ideal.τ).loc Cert.Reference17Ideal.main_arg1) = m' ((c.tc : Thread Cert.Reference17Ideal.nD Cert.Reference17Ideal.τ).loc Cert.Reference17Ideal.main_arg1)
          ∧ r.2.mem ((c.tc : Thread Cert.Reference17Ideal.nD Cert.Reference17Ideal.τ).loc Cert.Reference17Ideal.main_arg2) = m' ((c.tc : Thread Cert.Reference17Ideal.nD Cert.Reference17Ideal.τ).loc Cert.Reference17Ideal.main_arg2)
          ∧ r.2.mem ((c.tc : Thread Cert.Reference17Ideal.nD Cert.Reference17Ideal.τ).loc Cert.Reference17Ideal.main_arg3) = m' ((c.tc : Thread Cert.Reference17Ideal.nD Cert.Reference17Ideal.τ).loc Cert.Reference17Ideal.main_arg3))

def preserves_Kernel18_Kernel18Ideal : Prop :=
  True

def algebraic_Kernel18Ideal_Reference18Ideal [hKernel18Ideal : Cert.Kernel18Ideal.Facts] [hReference18Ideal : Cert.Reference18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg)
    (m' : (ℓ : Loc Cert.Reference18Ideal.nD Cert.Reference18Ideal.τ Cert.Reference18Ideal.sig) → Buf (Elt Ideal) ℓ) (g' : Dev Cert.Reference18Ideal.nD → PrngReg), Pre_Kernel18Ideal m →
    (∀ c : Dev Cert.Kernel18Ideal.nD,
      m' ((c.tc : Thread Cert.Reference18Ideal.nD Cert.Reference18Ideal.τ).loc Cert.Reference18Ideal.main_arg0) = m ((c.tc : Thread Cert.Kernel18Ideal.nD Cert.Kernel18Ideal.τ).loc Cert.Kernel18Ideal.main_arg0)
      ∧ m' ((c.tc : Thread Cert.Reference18Ideal.nD Cert.Reference18Ideal.τ).loc Cert.Reference18Ideal.main_arg1) = m ((c.tc : Thread Cert.Kernel18Ideal.nD Cert.Kernel18Ideal.τ).loc Cert.Kernel18Ideal.main_arg1)
      ∧ m' ((c.tc : Thread Cert.Reference18Ideal.nD Cert.Reference18Ideal.τ).loc Cert.Reference18Ideal.main_arg2) = m ((c.tc : Thread Cert.Kernel18Ideal.nD Cert.Kernel18Ideal.τ).loc Cert.Kernel18Ideal.main_arg2)
      ∧ m' ((c.tc : Thread Cert.Reference18Ideal.nD Cert.Reference18Ideal.τ).loc Cert.Reference18Ideal.main_arg3) = m ((c.tc : Thread Cert.Kernel18Ideal.nD Cert.Kernel18Ideal.τ).loc Cert.Kernel18Ideal.main_arg3)
      ∧ m' ((c.tc : Thread Cert.Reference18Ideal.nD Cert.Reference18Ideal.τ).loc Cert.Reference18Ideal.main_arg4) = m ((c.tc : Thread Cert.Kernel18Ideal.nD Cert.Kernel18Ideal.τ).loc Cert.Kernel18Ideal.main_arg4)
      ∧ m' ((c.tc : Thread Cert.Reference18Ideal.nD Cert.Reference18Ideal.τ).loc Cert.Reference18Ideal.main_arg5) = m ((c.tc : Thread Cert.Kernel18Ideal.nD Cert.Kernel18Ideal.τ).loc Cert.Kernel18Ideal.main_arg5)) →
    ∃ (v0 : (c : Dev Cert.Kernel18Ideal.nD) → Buf (Elt Ideal) ((c.tc : Thread Cert.Kernel18Ideal.nD Cert.Kernel18Ideal.τ).loc Cert.Kernel18Ideal.main_v0_0)) (v1 : (c : Dev Cert.Kernel18Ideal.nD) → Buf (Elt Ideal) ((c.tc : Thread Cert.Kernel18Ideal.nD Cert.Kernel18Ideal.τ).loc Cert.Kernel18Ideal.main_v0_1)) (v2 : (c : Dev Cert.Kernel18Ideal.nD) → Buf (Elt Ideal) ((c.tc : Thread Cert.Kernel18Ideal.nD Cert.Kernel18Ideal.τ).loc Cert.Kernel18Ideal.main_v0_2)) (v3 : (c : Dev Cert.Kernel18Ideal.nD) → Buf (Elt Ideal) ((c.tc : Thread Cert.Kernel18Ideal.nD Cert.Kernel18Ideal.τ).loc Cert.Kernel18Ideal.main_v0_3)) (v4 : (c : Dev Cert.Kernel18Ideal.nD) → Buf (Elt Ideal) ((c.tc : Thread Cert.Kernel18Ideal.nD Cert.Kernel18Ideal.τ).loc Cert.Kernel18Ideal.main_v0_4)),
      θ_run (Cert.Kernel18Ideal.defs (F := Ideal)) (onTc (τ := Cert.Kernel18Ideal.τ) (Cert.Kernel18Ideal.main (F := Ideal))) ⟨m, fun _ => 0, g⟩ (fun r => ∀ c : Dev Cert.Kernel18Ideal.nD,
          r.2.mem ((c.tc : Thread Cert.Kernel18Ideal.nD Cert.Kernel18Ideal.τ).loc Cert.Kernel18Ideal.main_v0_0) = v0 c
          ∧ r.2.mem ((c.tc : Thread Cert.Kernel18Ideal.nD Cert.Kernel18Ideal.τ).loc Cert.Kernel18Ideal.main_v0_1) = v1 c
          ∧ r.2.mem ((c.tc : Thread Cert.Kernel18Ideal.nD Cert.Kernel18Ideal.τ).loc Cert.Kernel18Ideal.main_v0_2) = v2 c
          ∧ r.2.mem ((c.tc : Thread Cert.Kernel18Ideal.nD Cert.Kernel18Ideal.τ).loc Cert.Kernel18Ideal.main_v0_3) = v3 c
          ∧ r.2.mem ((c.tc : Thread Cert.Kernel18Ideal.nD Cert.Kernel18Ideal.τ).loc Cert.Kernel18Ideal.main_v0_4) = v4 c
          ∧ r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
          ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1)
          ∧ r.2.mem ((c.tc : Thread Cert.Kernel18Ideal.nD Cert.Kernel18Ideal.τ).loc Cert.Kernel18Ideal.main_arg2) = m ((c.tc : Thread Cert.Kernel18Ideal.nD Cert.Kernel18Ideal.τ).loc Cert.Kernel18Ideal.main_arg2)
          ∧ r.2.mem ((c.tc : Thread Cert.Kernel18Ideal.nD Cert.Kernel18Ideal.τ).loc Cert.Kernel18Ideal.main_arg3) = m ((c.tc : Thread Cert.Kernel18Ideal.nD Cert.Kernel18Ideal.τ).loc Cert.Kernel18Ideal.main_arg3)
          ∧ r.2.mem ((c.tc : Thread Cert.Kernel18Ideal.nD Cert.Kernel18Ideal.τ).loc Cert.Kernel18Ideal.main_arg4) = m ((c.tc : Thread Cert.Kernel18Ideal.nD Cert.Kernel18Ideal.τ).loc Cert.Kernel18Ideal.main_arg4)
          ∧ r.2.mem ((c.tc : Thread Cert.Kernel18Ideal.nD Cert.Kernel18Ideal.τ).loc Cert.Kernel18Ideal.main_arg5) = m ((c.tc : Thread Cert.Kernel18Ideal.nD Cert.Kernel18Ideal.τ).loc Cert.Kernel18Ideal.main_arg5))
      ∧ θ_run (Cert.Reference18Ideal.defs (F := Ideal)) (onTc (τ := Cert.Reference18Ideal.τ) (Cert.Reference18Ideal.main (F := Ideal))) ⟨m', fun _ => 0, g'⟩ (fun r => ∀ c : Dev Cert.Reference18Ideal.nD,
          r.2.mem ((c.tc : Thread Cert.Reference18Ideal.nD Cert.Reference18Ideal.τ).loc Cert.Reference18Ideal.main_v97) = v0 c
          ∧ r.2.mem ((c.tc : Thread Cert.Reference18Ideal.nD Cert.Reference18Ideal.τ).loc Cert.Reference18Ideal.main_v98) = v1 c
          ∧ r.2.mem ((c.tc : Thread Cert.Reference18Ideal.nD Cert.Reference18Ideal.τ).loc Cert.Reference18Ideal.main_v99) = v2 c
          ∧ r.2.mem ((c.tc : Thread Cert.Reference18Ideal.nD Cert.Reference18Ideal.τ).loc Cert.Reference18Ideal.main_v100) = v3 c
          ∧ r.2.mem ((c.tc : Thread Cert.Reference18Ideal.nD Cert.Reference18Ideal.τ).loc Cert.Reference18Ideal.main_v101) = v4 c
          ∧ r.2.mem ((c.tc : Thread Cert.Reference18Ideal.nD Cert.Reference18Ideal.τ).loc Cert.Reference18Ideal.main_arg0) = m' ((c.tc : Thread Cert.Reference18Ideal.nD Cert.Reference18Ideal.τ).loc Cert.Reference18Ideal.main_arg0)
          ∧ r.2.mem ((c.tc : Thread Cert.Reference18Ideal.nD Cert.Reference18Ideal.τ).loc Cert.Reference18Ideal.main_arg1) = m' ((c.tc : Thread Cert.Reference18Ideal.nD Cert.Reference18Ideal.τ).loc Cert.Reference18Ideal.main_arg1)
          ∧ r.2.mem ((c.tc : Thread Cert.Reference18Ideal.nD Cert.Reference18Ideal.τ).loc Cert.Reference18Ideal.main_arg2) = m' ((c.tc : Thread Cert.Reference18Ideal.nD Cert.Reference18Ideal.τ).loc Cert.Reference18Ideal.main_arg2)
          ∧ r.2.mem ((c.tc : Thread Cert.Reference18Ideal.nD Cert.Reference18Ideal.τ).loc Cert.Reference18Ideal.main_arg3) = m' ((c.tc : Thread Cert.Reference18Ideal.nD Cert.Reference18Ideal.τ).loc Cert.Reference18Ideal.main_arg3)
          ∧ r.2.mem ((c.tc : Thread Cert.Reference18Ideal.nD Cert.Reference18Ideal.τ).loc Cert.Reference18Ideal.main_arg4) = m' ((c.tc : Thread Cert.Reference18Ideal.nD Cert.Reference18Ideal.τ).loc Cert.Reference18Ideal.main_arg4)
          ∧ r.2.mem ((c.tc : Thread Cert.Reference18Ideal.nD Cert.Reference18Ideal.τ).loc Cert.Reference18Ideal.main_arg5) = m' ((c.tc : Thread Cert.Reference18Ideal.nD Cert.Reference18Ideal.τ).loc Cert.Reference18Ideal.main_arg5))

def preserves_Kernel19_Kernel19Ideal : Prop :=
  True

def algebraic_Kernel19Ideal_Reference19Ideal [hKernel19Ideal : Cert.Kernel19Ideal.Facts] [hReference19Ideal : Cert.Reference19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg)
    (m' : (ℓ : Loc Cert.Reference19Ideal.nD Cert.Reference19Ideal.τ Cert.Reference19Ideal.sig) → Buf (Elt Ideal) ℓ) (g' : Dev Cert.Reference19Ideal.nD → PrngReg), Pre_Kernel19Ideal m →
    (∀ c : Dev Cert.Kernel19Ideal.nD,
      m' ((c.tc : Thread Cert.Reference19Ideal.nD Cert.Reference19Ideal.τ).loc Cert.Reference19Ideal.main_arg0) = m ((c.tc : Thread Cert.Kernel19Ideal.nD Cert.Kernel19Ideal.τ).loc Cert.Kernel19Ideal.main_arg0)
      ∧ m' ((c.tc : Thread Cert.Reference19Ideal.nD Cert.Reference19Ideal.τ).loc Cert.Reference19Ideal.main_arg1) = m ((c.tc : Thread Cert.Kernel19Ideal.nD Cert.Kernel19Ideal.τ).loc Cert.Kernel19Ideal.main_arg1)
      ∧ m' ((c.tc : Thread Cert.Reference19Ideal.nD Cert.Reference19Ideal.τ).loc Cert.Reference19Ideal.main_arg2) = m ((c.tc : Thread Cert.Kernel19Ideal.nD Cert.Kernel19Ideal.τ).loc Cert.Kernel19Ideal.main_arg2)
      ∧ m' ((c.tc : Thread Cert.Reference19Ideal.nD Cert.Reference19Ideal.τ).loc Cert.Reference19Ideal.main_arg3) = m ((c.tc : Thread Cert.Kernel19Ideal.nD Cert.Kernel19Ideal.τ).loc Cert.Kernel19Ideal.main_arg3)) →
    ∃ (v0 : (c : Dev Cert.Kernel19Ideal.nD) → Buf (Elt Ideal) ((c.tc : Thread Cert.Kernel19Ideal.nD Cert.Kernel19Ideal.τ).loc Cert.Kernel19Ideal.main_v0)),
      θ_run (Cert.Kernel19Ideal.defs (F := Ideal)) (onTc (τ := Cert.Kernel19Ideal.τ) (Cert.Kernel19Ideal.main (F := Ideal))) ⟨m, fun _ => 0, g⟩ (fun r => ∀ c : Dev Cert.Kernel19Ideal.nD,
          r.2.mem ((c.tc : Thread Cert.Kernel19Ideal.nD Cert.Kernel19Ideal.τ).loc Cert.Kernel19Ideal.main_v0) = v0 c
          ∧ r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
          ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1)
          ∧ r.2.mem ((c.tc : Thread Cert.Kernel19Ideal.nD Cert.Kernel19Ideal.τ).loc Cert.Kernel19Ideal.main_arg2) = m ((c.tc : Thread Cert.Kernel19Ideal.nD Cert.Kernel19Ideal.τ).loc Cert.Kernel19Ideal.main_arg2)
          ∧ r.2.mem ((c.tc : Thread Cert.Kernel19Ideal.nD Cert.Kernel19Ideal.τ).loc Cert.Kernel19Ideal.main_arg3) = m ((c.tc : Thread Cert.Kernel19Ideal.nD Cert.Kernel19Ideal.τ).loc Cert.Kernel19Ideal.main_arg3))
      ∧ θ_run (Cert.Reference19Ideal.defs (F := Ideal)) (onTc (τ := Cert.Reference19Ideal.τ) (Cert.Reference19Ideal.main (F := Ideal))) ⟨m', fun _ => 0, g'⟩ (fun r => ∀ c : Dev Cert.Reference19Ideal.nD,
          r.2.mem ((c.tc : Thread Cert.Reference19Ideal.nD Cert.Reference19Ideal.τ).loc Cert.Reference19Ideal.main_v19) = v0 c
          ∧ r.2.mem ((c.tc : Thread Cert.Reference19Ideal.nD Cert.Reference19Ideal.τ).loc Cert.Reference19Ideal.main_arg0) = m' ((c.tc : Thread Cert.Reference19Ideal.nD Cert.Reference19Ideal.τ).loc Cert.Reference19Ideal.main_arg0)
          ∧ r.2.mem ((c.tc : Thread Cert.Reference19Ideal.nD Cert.Reference19Ideal.τ).loc Cert.Reference19Ideal.main_arg1) = m' ((c.tc : Thread Cert.Reference19Ideal.nD Cert.Reference19Ideal.τ).loc Cert.Reference19Ideal.main_arg1)
          ∧ r.2.mem ((c.tc : Thread Cert.Reference19Ideal.nD Cert.Reference19Ideal.τ).loc Cert.Reference19Ideal.main_arg2) = m' ((c.tc : Thread Cert.Reference19Ideal.nD Cert.Reference19Ideal.τ).loc Cert.Reference19Ideal.main_arg2)
          ∧ r.2.mem ((c.tc : Thread Cert.Reference19Ideal.nD Cert.Reference19Ideal.τ).loc Cert.Reference19Ideal.main_arg3) = m' ((c.tc : Thread Cert.Reference19Ideal.nD Cert.Reference19Ideal.τ).loc Cert.Reference19Ideal.main_arg3))

def preserves_Kernel20_Kernel20Ideal : Prop :=
  True

def algebraic_Kernel20Ideal_Reference20Ideal [hKernel20Ideal : Cert.Kernel20Ideal.Facts] [hReference20Ideal : Cert.Reference20Ideal.Facts] : Prop :=
  ∀ (m : (ℓ : Loc Cert.Kernel20Ideal.nD Cert.Kernel20Ideal.τ Cert.Kernel20Ideal.sig) → Buf (Elt Ideal) ℓ) (g : Dev Cert.Kernel20Ideal.nD → PrngReg)
    (m' : (ℓ : Loc Cert.Reference20Ideal.nD Cert.Reference20Ideal.τ Cert.Reference20Ideal.sig) → Buf (Elt Ideal) ℓ) (g' : Dev Cert.Reference20Ideal.nD → PrngReg), Pre_Kernel20Ideal m →
    (∀ c : Dev Cert.Kernel20Ideal.nD,
      m' ((c.tc : Thread Cert.Reference20Ideal.nD Cert.Reference20Ideal.τ).loc Cert.Reference20Ideal.main_arg0) = m ((c.tc : Thread Cert.Kernel20Ideal.nD Cert.Kernel20Ideal.τ).loc Cert.Kernel20Ideal.main_arg0)
      ∧ m' ((c.tc : Thread Cert.Reference20Ideal.nD Cert.Reference20Ideal.τ).loc Cert.Reference20Ideal.main_arg1) = m ((c.tc : Thread Cert.Kernel20Ideal.nD Cert.Kernel20Ideal.τ).loc Cert.Kernel20Ideal.main_arg1)) →
    ∃ (v0 : (c : Dev Cert.Kernel20Ideal.nD) → Buf (Elt Ideal) ((c.tc : Thread Cert.Kernel20Ideal.nD Cert.Kernel20Ideal.τ).loc Cert.Kernel20Ideal.main_v0)),
      θ_run (Cert.Kernel20Ideal.defs (F := Ideal)) (onTc (τ := Cert.Kernel20Ideal.τ) (Cert.Kernel20Ideal.main (F := Ideal))) ⟨m, fun _ => 0, g⟩ (fun r => ∀ c : Dev Cert.Kernel20Ideal.nD,
          r.2.mem ((c.tc : Thread Cert.Kernel20Ideal.nD Cert.Kernel20Ideal.τ).loc Cert.Kernel20Ideal.main_v0) = v0 c
          ∧ r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
          ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1))
      ∧ θ_run (Cert.Reference20Ideal.defs (F := Ideal)) (onTc (τ := Cert.Reference20Ideal.τ) (Cert.Reference20Ideal.main (F := Ideal))) ⟨m', fun _ => 0, g'⟩ (fun r => ∀ c : Dev Cert.Reference20Ideal.nD,
          r.2.mem ((c.tc : Thread Cert.Reference20Ideal.nD Cert.Reference20Ideal.τ).loc Cert.Reference20Ideal.main_v14) = v0 c
          ∧ r.2.mem ((c.tc : Thread Cert.Reference20Ideal.nD Cert.Reference20Ideal.τ).loc Cert.Reference20Ideal.main_arg0) = m' ((c.tc : Thread Cert.Reference20Ideal.nD Cert.Reference20Ideal.τ).loc Cert.Reference20Ideal.main_arg0)
          ∧ r.2.mem ((c.tc : Thread Cert.Reference20Ideal.nD Cert.Reference20Ideal.τ).loc Cert.Reference20Ideal.main_arg1) = m' ((c.tc : Thread Cert.Reference20Ideal.nD Cert.Reference20Ideal.τ).loc Cert.Reference20Ideal.main_arg1))

def preserves_Kernel21_Kernel21Ideal : Prop :=
  True

def algebraic_Kernel21Ideal_Reference21Ideal [hKernel21Ideal : Cert.Kernel21Ideal.Facts] [hReference21Ideal : Cert.Reference21Ideal.Facts] : Prop :=
  ∀ (m : (ℓ : Loc Cert.Kernel21Ideal.nD Cert.Kernel21Ideal.τ Cert.Kernel21Ideal.sig) → Buf (Elt Ideal) ℓ) (g : Dev Cert.Kernel21Ideal.nD → PrngReg)
    (m' : (ℓ : Loc Cert.Reference21Ideal.nD Cert.Reference21Ideal.τ Cert.Reference21Ideal.sig) → Buf (Elt Ideal) ℓ) (g' : Dev Cert.Reference21Ideal.nD → PrngReg), Pre_Kernel21Ideal m →
    (∀ c : Dev Cert.Kernel21Ideal.nD,
      m' ((c.tc : Thread Cert.Reference21Ideal.nD Cert.Reference21Ideal.τ).loc Cert.Reference21Ideal.main_arg0) = m ((c.tc : Thread Cert.Kernel21Ideal.nD Cert.Kernel21Ideal.τ).loc Cert.Kernel21Ideal.main_arg0)
      ∧ m' ((c.tc : Thread Cert.Reference21Ideal.nD Cert.Reference21Ideal.τ).loc Cert.Reference21Ideal.main_arg1) = m ((c.tc : Thread Cert.Kernel21Ideal.nD Cert.Kernel21Ideal.τ).loc Cert.Kernel21Ideal.main_arg1)
      ∧ m' ((c.tc : Thread Cert.Reference21Ideal.nD Cert.Reference21Ideal.τ).loc Cert.Reference21Ideal.main_arg2) = m ((c.tc : Thread Cert.Kernel21Ideal.nD Cert.Kernel21Ideal.τ).loc Cert.Kernel21Ideal.main_arg2)) →
    ∃ (v0 : (c : Dev Cert.Kernel21Ideal.nD) → Buf (Elt Ideal) ((c.tc : Thread Cert.Kernel21Ideal.nD Cert.Kernel21Ideal.τ).loc Cert.Kernel21Ideal.main_v0)),
      θ_run (Cert.Kernel21Ideal.defs (F := Ideal)) (onTc (τ := Cert.Kernel21Ideal.τ) (Cert.Kernel21Ideal.main (F := Ideal))) ⟨m, fun _ => 0, g⟩ (fun r => ∀ c : Dev Cert.Kernel21Ideal.nD,
          r.2.mem ((c.tc : Thread Cert.Kernel21Ideal.nD Cert.Kernel21Ideal.τ).loc Cert.Kernel21Ideal.main_v0) = v0 c
          ∧ r.2.mem ((c.tc : Thread Cert.Kernel21Ideal.nD Cert.Kernel21Ideal.τ).loc Cert.Kernel21Ideal.main_arg0) = m ((c.tc : Thread Cert.Kernel21Ideal.nD Cert.Kernel21Ideal.τ).loc Cert.Kernel21Ideal.main_arg0)
          ∧ r.2.mem ((c.tc : Thread Cert.Kernel21Ideal.nD Cert.Kernel21Ideal.τ).loc Cert.Kernel21Ideal.main_arg1) = m ((c.tc : Thread Cert.Kernel21Ideal.nD Cert.Kernel21Ideal.τ).loc Cert.Kernel21Ideal.main_arg1)
          ∧ r.2.mem ((c.tc : Thread Cert.Kernel21Ideal.nD Cert.Kernel21Ideal.τ).loc Cert.Kernel21Ideal.main_arg2) = m ((c.tc : Thread Cert.Kernel21Ideal.nD Cert.Kernel21Ideal.τ).loc Cert.Kernel21Ideal.main_arg2))
      ∧ θ_run (Cert.Reference21Ideal.defs (F := Ideal)) (onTc (τ := Cert.Reference21Ideal.τ) (Cert.Reference21Ideal.main (F := Ideal))) ⟨m', fun _ => 0, g'⟩ (fun r => ∀ c : Dev Cert.Reference21Ideal.nD,
          r.2.mem ((c.tc : Thread Cert.Reference21Ideal.nD Cert.Reference21Ideal.τ).loc Cert.Reference21Ideal.main_v20) = v0 c
          ∧ r.2.mem ((c.tc : Thread Cert.Reference21Ideal.nD Cert.Reference21Ideal.τ).loc Cert.Reference21Ideal.main_arg0) = m' ((c.tc : Thread Cert.Reference21Ideal.nD Cert.Reference21Ideal.τ).loc Cert.Reference21Ideal.main_arg0)
          ∧ r.2.mem ((c.tc : Thread Cert.Reference21Ideal.nD Cert.Reference21Ideal.τ).loc Cert.Reference21Ideal.main_arg1) = m' ((c.tc : Thread Cert.Reference21Ideal.nD Cert.Reference21Ideal.τ).loc Cert.Reference21Ideal.main_arg1)
          ∧ r.2.mem ((c.tc : Thread Cert.Reference21Ideal.nD Cert.Reference21Ideal.τ).loc Cert.Reference21Ideal.main_arg2) = m' ((c.tc : Thread Cert.Reference21Ideal.nD Cert.Reference21Ideal.τ).loc Cert.Reference21Ideal.main_arg2))

def preserves_Kernel22_Kernel22Ideal : Prop :=
  True

def algebraic_Kernel22Ideal_Reference22Ideal [hKernel22Ideal : Cert.Kernel22Ideal.Facts] [hReference22Ideal : Cert.Reference22Ideal.Facts] : Prop :=
  ∀ (m : (ℓ : Loc Cert.Kernel22Ideal.nD Cert.Kernel22Ideal.τ Cert.Kernel22Ideal.sig) → Buf (Elt Ideal) ℓ) (g : Dev Cert.Kernel22Ideal.nD → PrngReg)
    (m' : (ℓ : Loc Cert.Reference22Ideal.nD Cert.Reference22Ideal.τ Cert.Reference22Ideal.sig) → Buf (Elt Ideal) ℓ) (g' : Dev Cert.Reference22Ideal.nD → PrngReg), Pre_Kernel22Ideal m →
    (∀ c : Dev Cert.Kernel22Ideal.nD,
      m' ((c.tc : Thread Cert.Reference22Ideal.nD Cert.Reference22Ideal.τ).loc Cert.Reference22Ideal.main_arg0) = m ((c.tc : Thread Cert.Kernel22Ideal.nD Cert.Kernel22Ideal.τ).loc Cert.Kernel22Ideal.main_arg0)
      ∧ m' ((c.tc : Thread Cert.Reference22Ideal.nD Cert.Reference22Ideal.τ).loc Cert.Reference22Ideal.main_arg1) = m ((c.tc : Thread Cert.Kernel22Ideal.nD Cert.Kernel22Ideal.τ).loc Cert.Kernel22Ideal.main_arg1)
      ∧ m' ((c.tc : Thread Cert.Reference22Ideal.nD Cert.Reference22Ideal.τ).loc Cert.Reference22Ideal.main_arg2) = m ((c.tc : Thread Cert.Kernel22Ideal.nD Cert.Kernel22Ideal.τ).loc Cert.Kernel22Ideal.main_arg2)
      ∧ m' ((c.tc : Thread Cert.Reference22Ideal.nD Cert.Reference22Ideal.τ).loc Cert.Reference22Ideal.main_arg3) = m ((c.tc : Thread Cert.Kernel22Ideal.nD Cert.Kernel22Ideal.τ).loc Cert.Kernel22Ideal.main_arg3)) →
    ∃ (v0 : (c : Dev Cert.Kernel22Ideal.nD) → Buf (Elt Ideal) ((c.tc : Thread Cert.Kernel22Ideal.nD Cert.Kernel22Ideal.τ).loc Cert.Kernel22Ideal.main_v0_0)) (v1 : (c : Dev Cert.Kernel22Ideal.nD) → Buf (Elt Ideal) ((c.tc : Thread Cert.Kernel22Ideal.nD Cert.Kernel22Ideal.τ).loc Cert.Kernel22Ideal.main_v0_1)) (v2 : (c : Dev Cert.Kernel22Ideal.nD) → Buf (Elt Ideal) ((c.tc : Thread Cert.Kernel22Ideal.nD Cert.Kernel22Ideal.τ).loc Cert.Kernel22Ideal.main_v0_2)) (v3 : (c : Dev Cert.Kernel22Ideal.nD) → Buf (Elt Ideal) ((c.tc : Thread Cert.Kernel22Ideal.nD Cert.Kernel22Ideal.τ).loc Cert.Kernel22Ideal.main_v0_3)),
      θ_run (Cert.Kernel22Ideal.defs (F := Ideal)) (onTc (τ := Cert.Kernel22Ideal.τ) (Cert.Kernel22Ideal.main (F := Ideal))) ⟨m, fun _ => 0, g⟩ (fun r => ∀ c : Dev Cert.Kernel22Ideal.nD,
          r.2.mem ((c.tc : Thread Cert.Kernel22Ideal.nD Cert.Kernel22Ideal.τ).loc Cert.Kernel22Ideal.main_v0_0) = v0 c
          ∧ r.2.mem ((c.tc : Thread Cert.Kernel22Ideal.nD Cert.Kernel22Ideal.τ).loc Cert.Kernel22Ideal.main_v0_1) = v1 c
          ∧ r.2.mem ((c.tc : Thread Cert.Kernel22Ideal.nD Cert.Kernel22Ideal.τ).loc Cert.Kernel22Ideal.main_v0_2) = v2 c
          ∧ r.2.mem ((c.tc : Thread Cert.Kernel22Ideal.nD Cert.Kernel22Ideal.τ).loc Cert.Kernel22Ideal.main_v0_3) = v3 c
          ∧ r.2.mem ((c.tc : Thread Cert.Kernel22Ideal.nD Cert.Kernel22Ideal.τ).loc Cert.Kernel22Ideal.main_arg0) = m ((c.tc : Thread Cert.Kernel22Ideal.nD Cert.Kernel22Ideal.τ).loc Cert.Kernel22Ideal.main_arg0)
          ∧ r.2.mem ((c.tc : Thread Cert.Kernel22Ideal.nD Cert.Kernel22Ideal.τ).loc Cert.Kernel22Ideal.main_arg1) = m ((c.tc : Thread Cert.Kernel22Ideal.nD Cert.Kernel22Ideal.τ).loc Cert.Kernel22Ideal.main_arg1)
          ∧ r.2.mem ((c.tc : Thread Cert.Kernel22Ideal.nD Cert.Kernel22Ideal.τ).loc Cert.Kernel22Ideal.main_arg2) = m ((c.tc : Thread Cert.Kernel22Ideal.nD Cert.Kernel22Ideal.τ).loc Cert.Kernel22Ideal.main_arg2)
          ∧ r.2.mem ((c.tc : Thread Cert.Kernel22Ideal.nD Cert.Kernel22Ideal.τ).loc Cert.Kernel22Ideal.main_arg3) = m ((c.tc : Thread Cert.Kernel22Ideal.nD Cert.Kernel22Ideal.τ).loc Cert.Kernel22Ideal.main_arg3))
      ∧ θ_run (Cert.Reference22Ideal.defs (F := Ideal)) (onTc (τ := Cert.Reference22Ideal.τ) (Cert.Reference22Ideal.main (F := Ideal))) ⟨m', fun _ => 0, g'⟩ (fun r => ∀ c : Dev Cert.Reference22Ideal.nD,
          r.2.mem ((c.tc : Thread Cert.Reference22Ideal.nD Cert.Reference22Ideal.τ).loc Cert.Reference22Ideal.main_v0) = v0 c
          ∧ r.2.mem ((c.tc : Thread Cert.Reference22Ideal.nD Cert.Reference22Ideal.τ).loc Cert.Reference22Ideal.main_v24) = v1 c
          ∧ r.2.mem ((c.tc : Thread Cert.Reference22Ideal.nD Cert.Reference22Ideal.τ).loc Cert.Reference22Ideal.main_v5) = v2 c
          ∧ r.2.mem ((c.tc : Thread Cert.Reference22Ideal.nD Cert.Reference22Ideal.τ).loc Cert.Reference22Ideal.main_v11) = v3 c
          ∧ r.2.mem ((c.tc : Thread Cert.Reference22Ideal.nD Cert.Reference22Ideal.τ).loc Cert.Reference22Ideal.main_arg0) = m' ((c.tc : Thread Cert.Reference22Ideal.nD Cert.Reference22Ideal.τ).loc Cert.Reference22Ideal.main_arg0)
          ∧ r.2.mem ((c.tc : Thread Cert.Reference22Ideal.nD Cert.Reference22Ideal.τ).loc Cert.Reference22Ideal.main_arg1) = m' ((c.tc : Thread Cert.Reference22Ideal.nD Cert.Reference22Ideal.τ).loc Cert.Reference22Ideal.main_arg1)
          ∧ r.2.mem ((c.tc : Thread Cert.Reference22Ideal.nD Cert.Reference22Ideal.τ).loc Cert.Reference22Ideal.main_arg2) = m' ((c.tc : Thread Cert.Reference22Ideal.nD Cert.Reference22Ideal.τ).loc Cert.Reference22Ideal.main_arg2)
          ∧ r.2.mem ((c.tc : Thread Cert.Reference22Ideal.nD Cert.Reference22Ideal.τ).loc Cert.Reference22Ideal.main_arg3) = m' ((c.tc : Thread Cert.Reference22Ideal.nD Cert.Reference22Ideal.τ).loc Cert.Reference22Ideal.main_arg3))

def preserves_Kernel23_Kernel23Ideal : Prop :=
  True

def algebraic_Kernel23Ideal_Reference23Ideal [hKernel23Ideal : Cert.Kernel23Ideal.Facts] [hReference23Ideal : Cert.Reference23Ideal.Facts] : Prop :=
  ∀ (m : (ℓ : Loc Cert.Kernel23Ideal.nD Cert.Kernel23Ideal.τ Cert.Kernel23Ideal.sig) → Buf (Elt Ideal) ℓ) (g : Dev Cert.Kernel23Ideal.nD → PrngReg)
    (m' : (ℓ : Loc Cert.Reference23Ideal.nD Cert.Reference23Ideal.τ Cert.Reference23Ideal.sig) → Buf (Elt Ideal) ℓ) (g' : Dev Cert.Reference23Ideal.nD → PrngReg), Pre_Kernel23Ideal m →
    (∀ c : Dev Cert.Kernel23Ideal.nD,
      m' ((c.tc : Thread Cert.Reference23Ideal.nD Cert.Reference23Ideal.τ).loc Cert.Reference23Ideal.main_arg0) = m ((c.tc : Thread Cert.Kernel23Ideal.nD Cert.Kernel23Ideal.τ).loc Cert.Kernel23Ideal.main_arg0)
      ∧ m' ((c.tc : Thread Cert.Reference23Ideal.nD Cert.Reference23Ideal.τ).loc Cert.Reference23Ideal.main_arg1) = m ((c.tc : Thread Cert.Kernel23Ideal.nD Cert.Kernel23Ideal.τ).loc Cert.Kernel23Ideal.main_arg1)) →
    ∃ (v0 : (c : Dev Cert.Kernel23Ideal.nD) → Buf (Elt Ideal) ((c.tc : Thread Cert.Kernel23Ideal.nD Cert.Kernel23Ideal.τ).loc Cert.Kernel23Ideal.main_v0_0)) (v1 : (c : Dev Cert.Kernel23Ideal.nD) → Buf (Elt Ideal) ((c.tc : Thread Cert.Kernel23Ideal.nD Cert.Kernel23Ideal.τ).loc Cert.Kernel23Ideal.main_v0_1)) (v2 : (c : Dev Cert.Kernel23Ideal.nD) → Buf (Elt Ideal) ((c.tc : Thread Cert.Kernel23Ideal.nD Cert.Kernel23Ideal.τ).loc Cert.Kernel23Ideal.main_v0_2)),
      θ_run (Cert.Kernel23Ideal.defs (F := Ideal)) (onTc (τ := Cert.Kernel23Ideal.τ) (Cert.Kernel23Ideal.main (F := Ideal))) ⟨m, fun _ => 0, g⟩ (fun r => ∀ c : Dev Cert.Kernel23Ideal.nD,
          r.2.mem ((c.tc : Thread Cert.Kernel23Ideal.nD Cert.Kernel23Ideal.τ).loc Cert.Kernel23Ideal.main_v0_0) = v0 c
          ∧ r.2.mem ((c.tc : Thread Cert.Kernel23Ideal.nD Cert.Kernel23Ideal.τ).loc Cert.Kernel23Ideal.main_v0_1) = v1 c
          ∧ r.2.mem ((c.tc : Thread Cert.Kernel23Ideal.nD Cert.Kernel23Ideal.τ).loc Cert.Kernel23Ideal.main_v0_2) = v2 c
          ∧ r.2.mem ((c.tc : Thread Cert.Kernel23Ideal.nD Cert.Kernel23Ideal.τ).loc Cert.Kernel23Ideal.main_arg0) = m ((c.tc : Thread Cert.Kernel23Ideal.nD Cert.Kernel23Ideal.τ).loc Cert.Kernel23Ideal.main_arg0)
          ∧ r.2.mem ((c.tc : Thread Cert.Kernel23Ideal.nD Cert.Kernel23Ideal.τ).loc Cert.Kernel23Ideal.main_arg1) = m ((c.tc : Thread Cert.Kernel23Ideal.nD Cert.Kernel23Ideal.τ).loc Cert.Kernel23Ideal.main_arg1))
      ∧ θ_run (Cert.Reference23Ideal.defs (F := Ideal)) (onTc (τ := Cert.Reference23Ideal.τ) (Cert.Reference23Ideal.main (F := Ideal))) ⟨m', fun _ => 0, g'⟩ (fun r => ∀ c : Dev Cert.Reference23Ideal.nD,
          r.2.mem ((c.tc : Thread Cert.Reference23Ideal.nD Cert.Reference23Ideal.τ).loc Cert.Reference23Ideal.main_v14) = v0 c
          ∧ r.2.mem ((c.tc : Thread Cert.Reference23Ideal.nD Cert.Reference23Ideal.τ).loc Cert.Reference23Ideal.main_v15) = v1 c
          ∧ r.2.mem ((c.tc : Thread Cert.Reference23Ideal.nD Cert.Reference23Ideal.τ).loc Cert.Reference23Ideal.main_v23) = v2 c
          ∧ r.2.mem ((c.tc : Thread Cert.Reference23Ideal.nD Cert.Reference23Ideal.τ).loc Cert.Reference23Ideal.main_arg0) = m' ((c.tc : Thread Cert.Reference23Ideal.nD Cert.Reference23Ideal.τ).loc Cert.Reference23Ideal.main_arg0)
          ∧ r.2.mem ((c.tc : Thread Cert.Reference23Ideal.nD Cert.Reference23Ideal.τ).loc Cert.Reference23Ideal.main_arg1) = m' ((c.tc : Thread Cert.Reference23Ideal.nD Cert.Reference23Ideal.τ).loc Cert.Reference23Ideal.main_arg1))

def preserves_Kernel24_Kernel24Ideal : Prop :=
  True

def algebraic_Kernel24Ideal_Reference24Ideal [hKernel24Ideal : Cert.Kernel24Ideal.Facts] [hReference24Ideal : Cert.Reference24Ideal.Facts] : Prop :=
  ∀ (m : (ℓ : Loc Cert.Kernel24Ideal.nD Cert.Kernel24Ideal.τ Cert.Kernel24Ideal.sig) → Buf (Elt Ideal) ℓ) (g : Dev Cert.Kernel24Ideal.nD → PrngReg)
    (m' : (ℓ : Loc Cert.Reference24Ideal.nD Cert.Reference24Ideal.τ Cert.Reference24Ideal.sig) → Buf (Elt Ideal) ℓ) (g' : Dev Cert.Reference24Ideal.nD → PrngReg), Pre_Kernel24Ideal m →
    (∀ c : Dev Cert.Kernel24Ideal.nD,
      m' ((c.tc : Thread Cert.Reference24Ideal.nD Cert.Reference24Ideal.τ).loc Cert.Reference24Ideal.main_arg0) = m ((c.tc : Thread Cert.Kernel24Ideal.nD Cert.Kernel24Ideal.τ).loc Cert.Kernel24Ideal.main_arg0)
      ∧ m' ((c.tc : Thread Cert.Reference24Ideal.nD Cert.Reference24Ideal.τ).loc Cert.Reference24Ideal.main_arg1) = m ((c.tc : Thread Cert.Kernel24Ideal.nD Cert.Kernel24Ideal.τ).loc Cert.Kernel24Ideal.main_arg1)
      ∧ m' ((c.tc : Thread Cert.Reference24Ideal.nD Cert.Reference24Ideal.τ).loc Cert.Reference24Ideal.main_arg2) = m ((c.tc : Thread Cert.Kernel24Ideal.nD Cert.Kernel24Ideal.τ).loc Cert.Kernel24Ideal.main_arg2)) →
    ∃ (v0 : (c : Dev Cert.Kernel24Ideal.nD) → Buf (Elt Ideal) ((c.tc : Thread Cert.Kernel24Ideal.nD Cert.Kernel24Ideal.τ).loc Cert.Kernel24Ideal.main_v0_0)) (v1 : (c : Dev Cert.Kernel24Ideal.nD) → Buf (Elt Ideal) ((c.tc : Thread Cert.Kernel24Ideal.nD Cert.Kernel24Ideal.τ).loc Cert.Kernel24Ideal.main_v0_1)) (v2 : (c : Dev Cert.Kernel24Ideal.nD) → Buf (Elt Ideal) ((c.tc : Thread Cert.Kernel24Ideal.nD Cert.Kernel24Ideal.τ).loc Cert.Kernel24Ideal.main_v0_2)),
      θ_run (Cert.Kernel24Ideal.defs (F := Ideal)) (onTc (τ := Cert.Kernel24Ideal.τ) (Cert.Kernel24Ideal.main (F := Ideal))) ⟨m, fun _ => 0, g⟩ (fun r => ∀ c : Dev Cert.Kernel24Ideal.nD,
          r.2.mem ((c.tc : Thread Cert.Kernel24Ideal.nD Cert.Kernel24Ideal.τ).loc Cert.Kernel24Ideal.main_v0_0) = v0 c
          ∧ r.2.mem ((c.tc : Thread Cert.Kernel24Ideal.nD Cert.Kernel24Ideal.τ).loc Cert.Kernel24Ideal.main_v0_1) = v1 c
          ∧ r.2.mem ((c.tc : Thread Cert.Kernel24Ideal.nD Cert.Kernel24Ideal.τ).loc Cert.Kernel24Ideal.main_v0_2) = v2 c
          ∧ r.2.mem ((c.tc : Thread Cert.Kernel24Ideal.nD Cert.Kernel24Ideal.τ).loc Cert.Kernel24Ideal.main_arg0) = m ((c.tc : Thread Cert.Kernel24Ideal.nD Cert.Kernel24Ideal.τ).loc Cert.Kernel24Ideal.main_arg0)
          ∧ r.2.mem ((c.tc : Thread Cert.Kernel24Ideal.nD Cert.Kernel24Ideal.τ).loc Cert.Kernel24Ideal.main_arg1) = m ((c.tc : Thread Cert.Kernel24Ideal.nD Cert.Kernel24Ideal.τ).loc Cert.Kernel24Ideal.main_arg1)
          ∧ r.2.mem ((c.tc : Thread Cert.Kernel24Ideal.nD Cert.Kernel24Ideal.τ).loc Cert.Kernel24Ideal.main_arg2) = m ((c.tc : Thread Cert.Kernel24Ideal.nD Cert.Kernel24Ideal.τ).loc Cert.Kernel24Ideal.main_arg2))
      ∧ θ_run (Cert.Reference24Ideal.defs (F := Ideal)) (onTc (τ := Cert.Reference24Ideal.τ) (Cert.Reference24Ideal.main (F := Ideal))) ⟨m', fun _ => 0, g'⟩ (fun r => ∀ c : Dev Cert.Reference24Ideal.nD,
          r.2.mem ((c.tc : Thread Cert.Reference24Ideal.nD Cert.Reference24Ideal.τ).loc Cert.Reference24Ideal.main_v38) = v0 c
          ∧ r.2.mem ((c.tc : Thread Cert.Reference24Ideal.nD Cert.Reference24Ideal.τ).loc Cert.Reference24Ideal.main_v39) = v1 c
          ∧ r.2.mem ((c.tc : Thread Cert.Reference24Ideal.nD Cert.Reference24Ideal.τ).loc Cert.Reference24Ideal.main_v43) = v2 c
          ∧ r.2.mem ((c.tc : Thread Cert.Reference24Ideal.nD Cert.Reference24Ideal.τ).loc Cert.Reference24Ideal.main_arg0) = m' ((c.tc : Thread Cert.Reference24Ideal.nD Cert.Reference24Ideal.τ).loc Cert.Reference24Ideal.main_arg0)
          ∧ r.2.mem ((c.tc : Thread Cert.Reference24Ideal.nD Cert.Reference24Ideal.τ).loc Cert.Reference24Ideal.main_arg1) = m' ((c.tc : Thread Cert.Reference24Ideal.nD Cert.Reference24Ideal.τ).loc Cert.Reference24Ideal.main_arg1)
          ∧ r.2.mem ((c.tc : Thread Cert.Reference24Ideal.nD Cert.Reference24Ideal.τ).loc Cert.Reference24Ideal.main_arg2) = m' ((c.tc : Thread Cert.Reference24Ideal.nD Cert.Reference24Ideal.τ).loc Cert.Reference24Ideal.main_arg2))

def preserves_Kernel25_Kernel25Ideal : Prop :=
  True

def algebraic_Kernel25Ideal_Reference25Ideal [hKernel25Ideal : Cert.Kernel25Ideal.Facts] [hReference25Ideal : Cert.Reference25Ideal.Facts] : Prop :=
  ∀ (m : (ℓ : Loc Cert.Kernel25Ideal.nD Cert.Kernel25Ideal.τ Cert.Kernel25Ideal.sig) → Buf (Elt Ideal) ℓ) (g : Dev Cert.Kernel25Ideal.nD → PrngReg)
    (m' : (ℓ : Loc Cert.Reference25Ideal.nD Cert.Reference25Ideal.τ Cert.Reference25Ideal.sig) → Buf (Elt Ideal) ℓ) (g' : Dev Cert.Reference25Ideal.nD → PrngReg), Pre_Kernel25Ideal m →
    (∀ c : Dev Cert.Kernel25Ideal.nD,
      m' ((c.tc : Thread Cert.Reference25Ideal.nD Cert.Reference25Ideal.τ).loc Cert.Reference25Ideal.main_arg0) = m ((c.tc : Thread Cert.Kernel25Ideal.nD Cert.Kernel25Ideal.τ).loc Cert.Kernel25Ideal.main_arg0)
      ∧ m' ((c.tc : Thread Cert.Reference25Ideal.nD Cert.Reference25Ideal.τ).loc Cert.Reference25Ideal.main_arg1) = m ((c.tc : Thread Cert.Kernel25Ideal.nD Cert.Kernel25Ideal.τ).loc Cert.Kernel25Ideal.main_arg1)
      ∧ m' ((c.tc : Thread Cert.Reference25Ideal.nD Cert.Reference25Ideal.τ).loc Cert.Reference25Ideal.main_arg2) = m ((c.tc : Thread Cert.Kernel25Ideal.nD Cert.Kernel25Ideal.τ).loc Cert.Kernel25Ideal.main_arg2)
      ∧ m' ((c.tc : Thread Cert.Reference25Ideal.nD Cert.Reference25Ideal.τ).loc Cert.Reference25Ideal.main_arg3) = m ((c.tc : Thread Cert.Kernel25Ideal.nD Cert.Kernel25Ideal.τ).loc Cert.Kernel25Ideal.main_arg3)
      ∧ m' ((c.tc : Thread Cert.Reference25Ideal.nD Cert.Reference25Ideal.τ).loc Cert.Reference25Ideal.main_arg4) = m ((c.tc : Thread Cert.Kernel25Ideal.nD Cert.Kernel25Ideal.τ).loc Cert.Kernel25Ideal.main_arg4)
      ∧ m' ((c.tc : Thread Cert.Reference25Ideal.nD Cert.Reference25Ideal.τ).loc Cert.Reference25Ideal.main_arg5) = m ((c.tc : Thread Cert.Kernel25Ideal.nD Cert.Kernel25Ideal.τ).loc Cert.Kernel25Ideal.main_arg5)
      ∧ m' ((c.tc : Thread Cert.Reference25Ideal.nD Cert.Reference25Ideal.τ).loc Cert.Reference25Ideal.main_arg6) = m ((c.tc : Thread Cert.Kernel25Ideal.nD Cert.Kernel25Ideal.τ).loc Cert.Kernel25Ideal.main_arg6)
      ∧ m' ((c.tc : Thread Cert.Reference25Ideal.nD Cert.Reference25Ideal.τ).loc Cert.Reference25Ideal.main_arg7) = m ((c.tc : Thread Cert.Kernel25Ideal.nD Cert.Kernel25Ideal.τ).loc Cert.Kernel25Ideal.main_arg7)) →
    ∃ (v0 : (c : Dev Cert.Kernel25Ideal.nD) → Buf (Elt Ideal) ((c.tc : Thread Cert.Kernel25Ideal.nD Cert.Kernel25Ideal.τ).loc Cert.Kernel25Ideal.main_v0_0)) (v1 : (c : Dev Cert.Kernel25Ideal.nD) → Buf (Elt Ideal) ((c.tc : Thread Cert.Kernel25Ideal.nD Cert.Kernel25Ideal.τ).loc Cert.Kernel25Ideal.main_v0_1)) (v2 : (c : Dev Cert.Kernel25Ideal.nD) → Buf (Elt Ideal) ((c.tc : Thread Cert.Kernel25Ideal.nD Cert.Kernel25Ideal.τ).loc Cert.Kernel25Ideal.main_v0_2)) (v3 : (c : Dev Cert.Kernel25Ideal.nD) → Buf (Elt Ideal) ((c.tc : Thread Cert.Kernel25Ideal.nD Cert.Kernel25Ideal.τ).loc Cert.Kernel25Ideal.main_v0_3)),
      θ_run (Cert.Kernel25Ideal.defs (F := Ideal)) (onTc (τ := Cert.Kernel25Ideal.τ) (Cert.Kernel25Ideal.main (F := Ideal))) ⟨m, fun _ => 0, g⟩ (fun r => ∀ c : Dev Cert.Kernel25Ideal.nD,
          r.2.mem ((c.tc : Thread Cert.Kernel25Ideal.nD Cert.Kernel25Ideal.τ).loc Cert.Kernel25Ideal.main_v0_0) = v0 c
          ∧ r.2.mem ((c.tc : Thread Cert.Kernel25Ideal.nD Cert.Kernel25Ideal.τ).loc Cert.Kernel25Ideal.main_v0_1) = v1 c
          ∧ r.2.mem ((c.tc : Thread Cert.Kernel25Ideal.nD Cert.Kernel25Ideal.τ).loc Cert.Kernel25Ideal.main_v0_2) = v2 c
          ∧ r.2.mem ((c.tc : Thread Cert.Kernel25Ideal.nD Cert.Kernel25Ideal.τ).loc Cert.Kernel25Ideal.main_v0_3) = v3 c
          ∧ r.2.mem ((c.tc : Thread Cert.Kernel25Ideal.nD Cert.Kernel25Ideal.τ).loc Cert.Kernel25Ideal.main_arg0) = m ((c.tc : Thread Cert.Kernel25Ideal.nD Cert.Kernel25Ideal.τ).loc Cert.Kernel25Ideal.main_arg0)
          ∧ r.2.mem ((c.tc : Thread Cert.Kernel25Ideal.nD Cert.Kernel25Ideal.τ).loc Cert.Kernel25Ideal.main_arg1) = m ((c.tc : Thread Cert.Kernel25Ideal.nD Cert.Kernel25Ideal.τ).loc Cert.Kernel25Ideal.main_arg1)
          ∧ r.2.mem ((c.tc : Thread Cert.Kernel25Ideal.nD Cert.Kernel25Ideal.τ).loc Cert.Kernel25Ideal.main_arg2) = m ((c.tc : Thread Cert.Kernel25Ideal.nD Cert.Kernel25Ideal.τ).loc Cert.Kernel25Ideal.main_arg2)
          ∧ r.2.mem ((c.tc : Thread Cert.Kernel25Ideal.nD Cert.Kernel25Ideal.τ).loc Cert.Kernel25Ideal.main_arg3) = m ((c.tc : Thread Cert.Kernel25Ideal.nD Cert.Kernel25Ideal.τ).loc Cert.Kernel25Ideal.main_arg3)
          ∧ r.2.mem ((c.tc : Thread Cert.Kernel25Ideal.nD Cert.Kernel25Ideal.τ).loc Cert.Kernel25Ideal.main_arg4) = m ((c.tc : Thread Cert.Kernel25Ideal.nD Cert.Kernel25Ideal.τ).loc Cert.Kernel25Ideal.main_arg4)
          ∧ r.2.mem ((c.tc : Thread Cert.Kernel25Ideal.nD Cert.Kernel25Ideal.τ).loc Cert.Kernel25Ideal.main_arg5) = m ((c.tc : Thread Cert.Kernel25Ideal.nD Cert.Kernel25Ideal.τ).loc Cert.Kernel25Ideal.main_arg5)
          ∧ r.2.mem ((c.tc : Thread Cert.Kernel25Ideal.nD Cert.Kernel25Ideal.τ).loc Cert.Kernel25Ideal.main_arg6) = m ((c.tc : Thread Cert.Kernel25Ideal.nD Cert.Kernel25Ideal.τ).loc Cert.Kernel25Ideal.main_arg6)
          ∧ r.2.mem ((c.tc : Thread Cert.Kernel25Ideal.nD Cert.Kernel25Ideal.τ).loc Cert.Kernel25Ideal.main_arg7) = m ((c.tc : Thread Cert.Kernel25Ideal.nD Cert.Kernel25Ideal.τ).loc Cert.Kernel25Ideal.main_arg7))
      ∧ θ_run (Cert.Reference25Ideal.defs (F := Ideal)) (onTc (τ := Cert.Reference25Ideal.τ) (Cert.Reference25Ideal.main (F := Ideal))) ⟨m', fun _ => 0, g'⟩ (fun r => ∀ c : Dev Cert.Reference25Ideal.nD,
          r.2.mem ((c.tc : Thread Cert.Reference25Ideal.nD Cert.Reference25Ideal.τ).loc Cert.Reference25Ideal.main_v34) = v0 c
          ∧ r.2.mem ((c.tc : Thread Cert.Reference25Ideal.nD Cert.Reference25Ideal.τ).loc Cert.Reference25Ideal.main_v37) = v1 c
          ∧ r.2.mem ((c.tc : Thread Cert.Reference25Ideal.nD Cert.Reference25Ideal.τ).loc Cert.Reference25Ideal.main_v40) = v2 c
          ∧ r.2.mem ((c.tc : Thread Cert.Reference25Ideal.nD Cert.Reference25Ideal.τ).loc Cert.Reference25Ideal.main_v43) = v3 c
          ∧ r.2.mem ((c.tc : Thread Cert.Reference25Ideal.nD Cert.Reference25Ideal.τ).loc Cert.Reference25Ideal.main_arg0) = m' ((c.tc : Thread Cert.Reference25Ideal.nD Cert.Reference25Ideal.τ).loc Cert.Reference25Ideal.main_arg0)
          ∧ r.2.mem ((c.tc : Thread Cert.Reference25Ideal.nD Cert.Reference25Ideal.τ).loc Cert.Reference25Ideal.main_arg1) = m' ((c.tc : Thread Cert.Reference25Ideal.nD Cert.Reference25Ideal.τ).loc Cert.Reference25Ideal.main_arg1)
          ∧ r.2.mem ((c.tc : Thread Cert.Reference25Ideal.nD Cert.Reference25Ideal.τ).loc Cert.Reference25Ideal.main_arg2) = m' ((c.tc : Thread Cert.Reference25Ideal.nD Cert.Reference25Ideal.τ).loc Cert.Reference25Ideal.main_arg2)
          ∧ r.2.mem ((c.tc : Thread Cert.Reference25Ideal.nD Cert.Reference25Ideal.τ).loc Cert.Reference25Ideal.main_arg3) = m' ((c.tc : Thread Cert.Reference25Ideal.nD Cert.Reference25Ideal.τ).loc Cert.Reference25Ideal.main_arg3)
          ∧ r.2.mem ((c.tc : Thread Cert.Reference25Ideal.nD Cert.Reference25Ideal.τ).loc Cert.Reference25Ideal.main_arg4) = m' ((c.tc : Thread Cert.Reference25Ideal.nD Cert.Reference25Ideal.τ).loc Cert.Reference25Ideal.main_arg4)
          ∧ r.2.mem ((c.tc : Thread Cert.Reference25Ideal.nD Cert.Reference25Ideal.τ).loc Cert.Reference25Ideal.main_arg5) = m' ((c.tc : Thread Cert.Reference25Ideal.nD Cert.Reference25Ideal.τ).loc Cert.Reference25Ideal.main_arg5)
          ∧ r.2.mem ((c.tc : Thread Cert.Reference25Ideal.nD Cert.Reference25Ideal.τ).loc Cert.Reference25Ideal.main_arg6) = m' ((c.tc : Thread Cert.Reference25Ideal.nD Cert.Reference25Ideal.τ).loc Cert.Reference25Ideal.main_arg6)
          ∧ r.2.mem ((c.tc : Thread Cert.Reference25Ideal.nD Cert.Reference25Ideal.τ).loc Cert.Reference25Ideal.main_arg7) = m' ((c.tc : Thread Cert.Reference25Ideal.nD Cert.Reference25Ideal.τ).loc Cert.Reference25Ideal.main_arg7))

def preserves_Kernel26_Kernel26Ideal : Prop :=
  True

def algebraic_Kernel26Ideal_Reference26Ideal [hKernel26Ideal : Cert.Kernel26Ideal.Facts] [hReference26Ideal : Cert.Reference26Ideal.Facts] : Prop :=
  ∀ (m : (ℓ : Loc Cert.Kernel26Ideal.nD Cert.Kernel26Ideal.τ Cert.Kernel26Ideal.sig) → Buf (Elt Ideal) ℓ) (g : Dev Cert.Kernel26Ideal.nD → PrngReg)
    (m' : (ℓ : Loc Cert.Reference26Ideal.nD Cert.Reference26Ideal.τ Cert.Reference26Ideal.sig) → Buf (Elt Ideal) ℓ) (g' : Dev Cert.Reference26Ideal.nD → PrngReg), Pre_Kernel26Ideal m →
    (∀ c : Dev Cert.Kernel26Ideal.nD,
      m' ((c.tc : Thread Cert.Reference26Ideal.nD Cert.Reference26Ideal.τ).loc Cert.Reference26Ideal.main_arg0) = m ((c.tc : Thread Cert.Kernel26Ideal.nD Cert.Kernel26Ideal.τ).loc Cert.Kernel26Ideal.main_arg0)
      ∧ m' ((c.tc : Thread Cert.Reference26Ideal.nD Cert.Reference26Ideal.τ).loc Cert.Reference26Ideal.main_arg1) = m ((c.tc : Thread Cert.Kernel26Ideal.nD Cert.Kernel26Ideal.τ).loc Cert.Kernel26Ideal.main_arg1)
      ∧ m' ((c.tc : Thread Cert.Reference26Ideal.nD Cert.Reference26Ideal.τ).loc Cert.Reference26Ideal.main_arg2) = m ((c.tc : Thread Cert.Kernel26Ideal.nD Cert.Kernel26Ideal.τ).loc Cert.Kernel26Ideal.main_arg2)
      ∧ m' ((c.tc : Thread Cert.Reference26Ideal.nD Cert.Reference26Ideal.τ).loc Cert.Reference26Ideal.main_arg3) = m ((c.tc : Thread Cert.Kernel26Ideal.nD Cert.Kernel26Ideal.τ).loc Cert.Kernel26Ideal.main_arg3)
      ∧ m' ((c.tc : Thread Cert.Reference26Ideal.nD Cert.Reference26Ideal.τ).loc Cert.Reference26Ideal.main_arg4) = m ((c.tc : Thread Cert.Kernel26Ideal.nD Cert.Kernel26Ideal.τ).loc Cert.Kernel26Ideal.main_arg4)
      ∧ m' ((c.tc : Thread Cert.Reference26Ideal.nD Cert.Reference26Ideal.τ).loc Cert.Reference26Ideal.main_arg5) = m ((c.tc : Thread Cert.Kernel26Ideal.nD Cert.Kernel26Ideal.τ).loc Cert.Kernel26Ideal.main_arg5)
      ∧ m' ((c.tc : Thread Cert.Reference26Ideal.nD Cert.Reference26Ideal.τ).loc Cert.Reference26Ideal.main_arg6) = m ((c.tc : Thread Cert.Kernel26Ideal.nD Cert.Kernel26Ideal.τ).loc Cert.Kernel26Ideal.main_arg6)
      ∧ m' ((c.tc : Thread Cert.Reference26Ideal.nD Cert.Reference26Ideal.τ).loc Cert.Reference26Ideal.main_arg7) = m ((c.tc : Thread Cert.Kernel26Ideal.nD Cert.Kernel26Ideal.τ).loc Cert.Kernel26Ideal.main_arg7)) →
    ∃ (v0 : (c : Dev Cert.Kernel26Ideal.nD) → Buf (Elt Ideal) ((c.tc : Thread Cert.Kernel26Ideal.nD Cert.Kernel26Ideal.τ).loc Cert.Kernel26Ideal.main_v0_0)) (v1 : (c : Dev Cert.Kernel26Ideal.nD) → Buf (Elt Ideal) ((c.tc : Thread Cert.Kernel26Ideal.nD Cert.Kernel26Ideal.τ).loc Cert.Kernel26Ideal.main_v0_1)) (v2 : (c : Dev Cert.Kernel26Ideal.nD) → Buf (Elt Ideal) ((c.tc : Thread Cert.Kernel26Ideal.nD Cert.Kernel26Ideal.τ).loc Cert.Kernel26Ideal.main_v0_2)) (v3 : (c : Dev Cert.Kernel26Ideal.nD) → Buf (Elt Ideal) ((c.tc : Thread Cert.Kernel26Ideal.nD Cert.Kernel26Ideal.τ).loc Cert.Kernel26Ideal.main_v0_3)),
      θ_run (Cert.Kernel26Ideal.defs (F := Ideal)) (onTc (τ := Cert.Kernel26Ideal.τ) (Cert.Kernel26Ideal.main (F := Ideal))) ⟨m, fun _ => 0, g⟩ (fun r => ∀ c : Dev Cert.Kernel26Ideal.nD,
          r.2.mem ((c.tc : Thread Cert.Kernel26Ideal.nD Cert.Kernel26Ideal.τ).loc Cert.Kernel26Ideal.main_v0_0) = v0 c
          ∧ r.2.mem ((c.tc : Thread Cert.Kernel26Ideal.nD Cert.Kernel26Ideal.τ).loc Cert.Kernel26Ideal.main_v0_1) = v1 c
          ∧ r.2.mem ((c.tc : Thread Cert.Kernel26Ideal.nD Cert.Kernel26Ideal.τ).loc Cert.Kernel26Ideal.main_v0_2) = v2 c
          ∧ r.2.mem ((c.tc : Thread Cert.Kernel26Ideal.nD Cert.Kernel26Ideal.τ).loc Cert.Kernel26Ideal.main_v0_3) = v3 c
          ∧ r.2.mem ((c.tc : Thread Cert.Kernel26Ideal.nD Cert.Kernel26Ideal.τ).loc Cert.Kernel26Ideal.main_arg0) = m ((c.tc : Thread Cert.Kernel26Ideal.nD Cert.Kernel26Ideal.τ).loc Cert.Kernel26Ideal.main_arg0)
          ∧ r.2.mem ((c.tc : Thread Cert.Kernel26Ideal.nD Cert.Kernel26Ideal.τ).loc Cert.Kernel26Ideal.main_arg1) = m ((c.tc : Thread Cert.Kernel26Ideal.nD Cert.Kernel26Ideal.τ).loc Cert.Kernel26Ideal.main_arg1)
          ∧ r.2.mem ((c.tc : Thread Cert.Kernel26Ideal.nD Cert.Kernel26Ideal.τ).loc Cert.Kernel26Ideal.main_arg2) = m ((c.tc : Thread Cert.Kernel26Ideal.nD Cert.Kernel26Ideal.τ).loc Cert.Kernel26Ideal.main_arg2)
          ∧ r.2.mem ((c.tc : Thread Cert.Kernel26Ideal.nD Cert.Kernel26Ideal.τ).loc Cert.Kernel26Ideal.main_arg3) = m ((c.tc : Thread Cert.Kernel26Ideal.nD Cert.Kernel26Ideal.τ).loc Cert.Kernel26Ideal.main_arg3)
          ∧ r.2.mem ((c.tc : Thread Cert.Kernel26Ideal.nD Cert.Kernel26Ideal.τ).loc Cert.Kernel26Ideal.main_arg4) = m ((c.tc : Thread Cert.Kernel26Ideal.nD Cert.Kernel26Ideal.τ).loc Cert.Kernel26Ideal.main_arg4)
          ∧ r.2.mem ((c.tc : Thread Cert.Kernel26Ideal.nD Cert.Kernel26Ideal.τ).loc Cert.Kernel26Ideal.main_arg5) = m ((c.tc : Thread Cert.Kernel26Ideal.nD Cert.Kernel26Ideal.τ).loc Cert.Kernel26Ideal.main_arg5)
          ∧ r.2.mem ((c.tc : Thread Cert.Kernel26Ideal.nD Cert.Kernel26Ideal.τ).loc Cert.Kernel26Ideal.main_arg6) = m ((c.tc : Thread Cert.Kernel26Ideal.nD Cert.Kernel26Ideal.τ).loc Cert.Kernel26Ideal.main_arg6)
          ∧ r.2.mem ((c.tc : Thread Cert.Kernel26Ideal.nD Cert.Kernel26Ideal.τ).loc Cert.Kernel26Ideal.main_arg7) = m ((c.tc : Thread Cert.Kernel26Ideal.nD Cert.Kernel26Ideal.τ).loc Cert.Kernel26Ideal.main_arg7))
      ∧ θ_run (Cert.Reference26Ideal.defs (F := Ideal)) (onTc (τ := Cert.Reference26Ideal.τ) (Cert.Reference26Ideal.main (F := Ideal))) ⟨m', fun _ => 0, g'⟩ (fun r => ∀ c : Dev Cert.Reference26Ideal.nD,
          r.2.mem ((c.tc : Thread Cert.Reference26Ideal.nD Cert.Reference26Ideal.τ).loc Cert.Reference26Ideal.main_v34) = v0 c
          ∧ r.2.mem ((c.tc : Thread Cert.Reference26Ideal.nD Cert.Reference26Ideal.τ).loc Cert.Reference26Ideal.main_v37) = v1 c
          ∧ r.2.mem ((c.tc : Thread Cert.Reference26Ideal.nD Cert.Reference26Ideal.τ).loc Cert.Reference26Ideal.main_v40) = v2 c
          ∧ r.2.mem ((c.tc : Thread Cert.Reference26Ideal.nD Cert.Reference26Ideal.τ).loc Cert.Reference26Ideal.main_v43) = v3 c
          ∧ r.2.mem ((c.tc : Thread Cert.Reference26Ideal.nD Cert.Reference26Ideal.τ).loc Cert.Reference26Ideal.main_arg0) = m' ((c.tc : Thread Cert.Reference26Ideal.nD Cert.Reference26Ideal.τ).loc Cert.Reference26Ideal.main_arg0)
          ∧ r.2.mem ((c.tc : Thread Cert.Reference26Ideal.nD Cert.Reference26Ideal.τ).loc Cert.Reference26Ideal.main_arg1) = m' ((c.tc : Thread Cert.Reference26Ideal.nD Cert.Reference26Ideal.τ).loc Cert.Reference26Ideal.main_arg1)
          ∧ r.2.mem ((c.tc : Thread Cert.Reference26Ideal.nD Cert.Reference26Ideal.τ).loc Cert.Reference26Ideal.main_arg2) = m' ((c.tc : Thread Cert.Reference26Ideal.nD Cert.Reference26Ideal.τ).loc Cert.Reference26Ideal.main_arg2)
          ∧ r.2.mem ((c.tc : Thread Cert.Reference26Ideal.nD Cert.Reference26Ideal.τ).loc Cert.Reference26Ideal.main_arg3) = m' ((c.tc : Thread Cert.Reference26Ideal.nD Cert.Reference26Ideal.τ).loc Cert.Reference26Ideal.main_arg3)
          ∧ r.2.mem ((c.tc : Thread Cert.Reference26Ideal.nD Cert.Reference26Ideal.τ).loc Cert.Reference26Ideal.main_arg4) = m' ((c.tc : Thread Cert.Reference26Ideal.nD Cert.Reference26Ideal.τ).loc Cert.Reference26Ideal.main_arg4)
          ∧ r.2.mem ((c.tc : Thread Cert.Reference26Ideal.nD Cert.Reference26Ideal.τ).loc Cert.Reference26Ideal.main_arg5) = m' ((c.tc : Thread Cert.Reference26Ideal.nD Cert.Reference26Ideal.τ).loc Cert.Reference26Ideal.main_arg5)
          ∧ r.2.mem ((c.tc : Thread Cert.Reference26Ideal.nD Cert.Reference26Ideal.τ).loc Cert.Reference26Ideal.main_arg6) = m' ((c.tc : Thread Cert.Reference26Ideal.nD Cert.Reference26Ideal.τ).loc Cert.Reference26Ideal.main_arg6)
          ∧ r.2.mem ((c.tc : Thread Cert.Reference26Ideal.nD Cert.Reference26Ideal.τ).loc Cert.Reference26Ideal.main_arg7) = m' ((c.tc : Thread Cert.Reference26Ideal.nD Cert.Reference26Ideal.τ).loc Cert.Reference26Ideal.main_arg7))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hKernel12 : Cert.Kernel12.Facts) (hKernel12Ideal : Cert.Kernel12Ideal.Facts) (hReference12Ideal : Cert.Reference12Ideal.Facts) (hKernel13 : Cert.Kernel13.Facts) (hKernel13Ideal : Cert.Kernel13Ideal.Facts) (hReference13Ideal : Cert.Reference13Ideal.Facts) (hKernel14 : Cert.Kernel14.Facts) (hKernel14Ideal : Cert.Kernel14Ideal.Facts) (hReference14Ideal : Cert.Reference14Ideal.Facts) (hKernel15 : Cert.Kernel15.Facts) (hKernel15Ideal : Cert.Kernel15Ideal.Facts) (hReference15Ideal : Cert.Reference15Ideal.Facts) (hKernel16 : Cert.Kernel16.Facts) (hKernel16Ideal : Cert.Kernel16Ideal.Facts) (hReference16Ideal : Cert.Reference16Ideal.Facts) (hKernel17 : Cert.Kernel17.Facts) (hKernel17Ideal : Cert.Kernel17Ideal.Facts) (hReference17Ideal : Cert.Reference17Ideal.Facts) (hKernel18 : Cert.Kernel18.Facts) (hKernel18Ideal : Cert.Kernel18Ideal.Facts) (hReference18Ideal : Cert.Reference18Ideal.Facts) (hKernel19 : Cert.Kernel19.Facts) (hKernel19Ideal : Cert.Kernel19Ideal.Facts) (hReference19Ideal : Cert.Reference19Ideal.Facts) (hKernel20 : Cert.Kernel20.Facts) (hKernel20Ideal : Cert.Kernel20Ideal.Facts) (hReference20Ideal : Cert.Reference20Ideal.Facts) (hKernel21 : Cert.Kernel21.Facts) (hKernel21Ideal : Cert.Kernel21Ideal.Facts) (hReference21Ideal : Cert.Reference21Ideal.Facts) (hKernel22 : Cert.Kernel22.Facts) (hKernel22Ideal : Cert.Kernel22Ideal.Facts) (hReference22Ideal : Cert.Reference22Ideal.Facts) (hKernel23 : Cert.Kernel23.Facts) (hKernel23Ideal : Cert.Kernel23Ideal.Facts) (hReference23Ideal : Cert.Reference23Ideal.Facts) (hKernel24 : Cert.Kernel24.Facts) (hKernel24Ideal : Cert.Kernel24Ideal.Facts) (hReference24Ideal : Cert.Reference24Ideal.Facts) (hKernel25 : Cert.Kernel25.Facts) (hKernel25Ideal : Cert.Kernel25Ideal.Facts) (hReference25Ideal : Cert.Reference25Ideal.Facts) (hKernel26 : Cert.Kernel26.Facts) (hKernel26Ideal : Cert.Kernel26Ideal.Facts) (hReference26Ideal : Cert.Reference26Ideal.Facts),
    quiescent_Kernel (hKernel := hKernel)
    ∧ quiescent_KernelIdeal (hKernelIdeal := hKernelIdeal)
    ∧ quiescent_ReferenceIdeal (hReferenceIdeal := hReferenceIdeal)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Reference11Ideal (hReference11Ideal := hReference11Ideal)
    ∧ quiescent_Kernel12 (hKernel12 := hKernel12)
    ∧ quiescent_Kernel12Ideal (hKernel12Ideal := hKernel12Ideal)
    ∧ quiescent_Reference12Ideal (hReference12Ideal := hReference12Ideal)
    ∧ quiescent_Kernel13 (hKernel13 := hKernel13)
    ∧ quiescent_Kernel13Ideal (hKernel13Ideal := hKernel13Ideal)
    ∧ quiescent_Reference13Ideal (hReference13Ideal := hReference13Ideal)
    ∧ quiescent_Kernel14 (hKernel14 := hKernel14)
    ∧ quiescent_Kernel14Ideal (hKernel14Ideal := hKernel14Ideal)
    ∧ quiescent_Reference14Ideal (hReference14Ideal := hReference14Ideal)
    ∧ quiescent_Kernel15 (hKernel15 := hKernel15)
    ∧ quiescent_Kernel15Ideal (hKernel15Ideal := hKernel15Ideal)
    ∧ quiescent_Reference15Ideal (hReference15Ideal := hReference15Ideal)
    ∧ quiescent_Kernel16 (hKernel16 := hKernel16)
    ∧ quiescent_Kernel16Ideal (hKernel16Ideal := hKernel16Ideal)
    ∧ quiescent_Reference16Ideal (hReference16Ideal := hReference16Ideal)
    ∧ quiescent_Kernel17 (hKernel17 := hKernel17)
    ∧ quiescent_Kernel17Ideal (hKernel17Ideal := hKernel17Ideal)
    ∧ quiescent_Reference17Ideal (hReference17Ideal := hReference17Ideal)
    ∧ quiescent_Kernel18 (hKernel18 := hKernel18)
    ∧ quiescent_Kernel18Ideal (hKernel18Ideal := hKernel18Ideal)
    ∧ quiescent_Reference18Ideal (hReference18Ideal := hReference18Ideal)
    ∧ quiescent_Kernel19 (hKernel19 := hKernel19)
    ∧ quiescent_Kernel19Ideal (hKernel19Ideal := hKernel19Ideal)
    ∧ quiescent_Reference19Ideal (hReference19Ideal := hReference19Ideal)
    ∧ quiescent_Kernel20 (hKernel20 := hKernel20)
    ∧ quiescent_Kernel20Ideal (hKernel20Ideal := hKernel20Ideal)
    ∧ quiescent_Reference20Ideal (hReference20Ideal := hReference20Ideal)
    ∧ quiescent_Kernel21 (hKernel21 := hKernel21)
    ∧ quiescent_Kernel21Ideal (hKernel21Ideal := hKernel21Ideal)
    ∧ quiescent_Reference21Ideal (hReference21Ideal := hReference21Ideal)
    ∧ quiescent_Kernel22 (hKernel22 := hKernel22)
    ∧ quiescent_Kernel22Ideal (hKernel22Ideal := hKernel22Ideal)
    ∧ quiescent_Reference22Ideal (hReference22Ideal := hReference22Ideal)
    ∧ quiescent_Kernel23 (hKernel23 := hKernel23)
    ∧ quiescent_Kernel23Ideal (hKernel23Ideal := hKernel23Ideal)
    ∧ quiescent_Reference23Ideal (hReference23Ideal := hReference23Ideal)
    ∧ quiescent_Kernel24 (hKernel24 := hKernel24)
    ∧ quiescent_Kernel24Ideal (hKernel24Ideal := hKernel24Ideal)
    ∧ quiescent_Reference24Ideal (hReference24Ideal := hReference24Ideal)
    ∧ quiescent_Kernel25 (hKernel25 := hKernel25)
    ∧ quiescent_Kernel25Ideal (hKernel25Ideal := hKernel25Ideal)
    ∧ quiescent_Reference25Ideal (hReference25Ideal := hReference25Ideal)
    ∧ quiescent_Kernel26 (hKernel26 := hKernel26)
    ∧ quiescent_Kernel26Ideal (hKernel26Ideal := hKernel26Ideal)
    ∧ quiescent_Reference26Ideal (hReference26Ideal := hReference26Ideal)
    ∧ preserves_Kernel_KernelIdeal
    ∧ algebraic_KernelIdeal_ReferenceIdeal (hKernelIdeal := hKernelIdeal) (hReferenceIdeal := hReferenceIdeal)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal (hKernel11Ideal := hKernel11Ideal) (hReference11Ideal := hReference11Ideal)
    ∧ preserves_Kernel12_Kernel12Ideal
    ∧ algebraic_Kernel12Ideal_Reference12Ideal (hKernel12Ideal := hKernel12Ideal) (hReference12Ideal := hReference12Ideal)
    ∧ preserves_Kernel13_Kernel13Ideal
    ∧ algebraic_Kernel13Ideal_Reference13Ideal (hKernel13Ideal := hKernel13Ideal) (hReference13Ideal := hReference13Ideal)
    ∧ preserves_Kernel14_Kernel14Ideal
    ∧ algebraic_Kernel14Ideal_Reference14Ideal (hKernel14Ideal := hKernel14Ideal) (hReference14Ideal := hReference14Ideal)
    ∧ preserves_Kernel15_Kernel15Ideal
    ∧ algebraic_Kernel15Ideal_Reference15Ideal (hKernel15Ideal := hKernel15Ideal) (hReference15Ideal := hReference15Ideal)
    ∧ preserves_Kernel16_Kernel16Ideal
    ∧ algebraic_Kernel16Ideal_Reference16Ideal (hKernel16Ideal := hKernel16Ideal) (hReference16Ideal := hReference16Ideal)
    ∧ preserves_Kernel17_Kernel17Ideal
    ∧ algebraic_Kernel17Ideal_Reference17Ideal (hKernel17Ideal := hKernel17Ideal) (hReference17Ideal := hReference17Ideal)
    ∧ preserves_Kernel18_Kernel18Ideal
    ∧ algebraic_Kernel18Ideal_Reference18Ideal (hKernel18Ideal := hKernel18Ideal) (hReference18Ideal := hReference18Ideal)
    ∧ preserves_Kernel19_Kernel19Ideal
    ∧ algebraic_Kernel19Ideal_Reference19Ideal (hKernel19Ideal := hKernel19Ideal) (hReference19Ideal := hReference19Ideal)
    ∧ preserves_Kernel20_Kernel20Ideal
    ∧ algebraic_Kernel20Ideal_Reference20Ideal (hKernel20Ideal := hKernel20Ideal) (hReference20Ideal := hReference20Ideal)
    ∧ preserves_Kernel21_Kernel21Ideal
    ∧ algebraic_Kernel21Ideal_Reference21Ideal (hKernel21Ideal := hKernel21Ideal) (hReference21Ideal := hReference21Ideal)
    ∧ preserves_Kernel22_Kernel22Ideal
    ∧ algebraic_Kernel22Ideal_Reference22Ideal (hKernel22Ideal := hKernel22Ideal) (hReference22Ideal := hReference22Ideal)
    ∧ preserves_Kernel23_Kernel23Ideal
    ∧ algebraic_Kernel23Ideal_Reference23Ideal (hKernel23Ideal := hKernel23Ideal) (hReference23Ideal := hReference23Ideal)
    ∧ preserves_Kernel24_Kernel24Ideal
    ∧ algebraic_Kernel24Ideal_Reference24Ideal (hKernel24Ideal := hKernel24Ideal) (hReference24Ideal := hReference24Ideal)
    ∧ preserves_Kernel25_Kernel25Ideal
    ∧ algebraic_Kernel25Ideal_Reference25Ideal (hKernel25Ideal := hKernel25Ideal) (hReference25Ideal := hReference25Ideal)
    ∧ preserves_Kernel26_Kernel26Ideal
    ∧ algebraic_Kernel26Ideal_Reference26Ideal (hKernel26Ideal := hKernel26Ideal) (hReference26Ideal := hReference26Ideal)
-- ==== Kernel.lean ====
abbrev S8x2048x128 : Shape := ⟨3, ![8, 2048, 128]⟩
abbrev S8x2048x64 : Shape := ⟨3, ![8, 2048, 64]⟩
abbrev S8x32x1x128 : Shape := ⟨4, ![8, 32, 1, 128]⟩
abbrev S8x32x128x128 : Shape := ⟨4, ![8, 32, 128, 128]⟩
abbrev S8x64x128 : Shape := ⟨3, ![8, 64, 128]⟩
abbrev S8x64x64 : Shape := ⟨3, ![8, 64, 64]⟩
abbrev S8x1x1x128 : Shape := ⟨4, ![8, 1, 1, 128]⟩
abbrev S8x1x128x128 : Shape := ⟨4, ![8, 1, 128, 128]⟩
abbrev S8x128x128 : Shape := ⟨3, ![8, 128, 128]⟩
abbrev S1x128x128 : Shape := ⟨3, ![1, 128, 128]⟩
abbrev S128x128 : Shape := ⟨2, ![128, 128]⟩
abbrev S1x1x128x128 : Shape := ⟨4, ![1, 1, 128, 128]⟩
abbrev S1x64x128 : Shape := ⟨3, ![1, 64, 128]⟩
abbrev S64x128 : Shape := ⟨2, ![64, 128]⟩
abbrev S1x64x64 : Shape := ⟨3, ![1, 64, 64]⟩
abbrev S64x64 : Shape := ⟨2, ![64, 64]⟩
abbrev S1x1x1x128 : Shape := ⟨4, ![1, 1, 1, 128]⟩
abbrev S1x128 : Shape := ⟨2, ![1, 128]⟩
abbrev S128 : Shape := ⟨1, ![128]⟩

abbrev nBuf : Space → Nat
  | .hbm => 15
  | .vmem => 46
  | .smem => 0
  | _ => 0

abbrev bufTy : (tb : Table) → Fin (tcTables nBuf tb) → BufTy
  | .hbm, ⟨0, _⟩ => ⟨S8x2048x128, .f32⟩
  | .hbm, ⟨1, _⟩ => ⟨S8x2048x128, .f32⟩
  | .hbm, ⟨2, _⟩ => ⟨S8x2048x64, .f32⟩
  | .hbm, ⟨3, _⟩ => ⟨S8x2048x128, .f32⟩
  | .hbm, ⟨4, _⟩ => ⟨S8x2048x128, .f32⟩
  | .hbm, ⟨5, _⟩ => ⟨S8x32x1x128, .f32⟩
  | .hbm, ⟨6, _⟩ => ⟨S8x2048x128, .f32⟩
  | .hbm, ⟨7, _⟩ => ⟨S8x2048x128, .f32⟩
  | .hbm, ⟨8, _⟩ => ⟨S8x32x128x128, .f32⟩
  | .hbm, ⟨9, _⟩ => ⟨S8x2048x128, .f32⟩
  | .hbm, ⟨10, _⟩ => ⟨S8x2048x128, .f32⟩
  | .hbm, ⟨11, _⟩ => ⟨S8x2048x64, .f32⟩
  | .hbm, ⟨12, _⟩ => ⟨S8x2048x128, .f32⟩
  | .hbm, ⟨13, _⟩ => ⟨S8x2048x128, .f32⟩
  | .hbm, ⟨14, _⟩ => ⟨S8x32x1x128, .f32⟩
  | .local _ .vmem, ⟨0, _⟩ => ⟨S8x64x128, .f32⟩
  | .local _ .vmem, ⟨1, _⟩ => ⟨S8x64x128, .f32⟩
  | .local _ .vmem, ⟨2, _⟩ => ⟨S8x64x128, .f32⟩
  | .local _ .vmem, ⟨3, _⟩ => ⟨S8x64x128, .f32⟩
  | .local _ .vmem, ⟨4, _⟩ => ⟨S8x64x64, .f32⟩
  | .local _ .vmem, ⟨5, _⟩ => ⟨S8x64x64, .f32⟩
  | .local _ .vmem, ⟨6, _⟩ => ⟨S8x64x128, .f32⟩
  | .local _ .vmem, ⟨7, _⟩ => ⟨S8x64x128, .f32⟩
  | .local _ .vmem, ⟨8, _⟩ => ⟨S8x64x128, .f32⟩
  | .local _ .vmem, ⟨9, _⟩ => ⟨S8x64x128, .f32⟩
  | .local _ .vmem, ⟨10, _⟩ => ⟨S8x1x1x128, .f32⟩
  | .local _ .vmem, ⟨11, _⟩ => ⟨S8x1x1x128, .f32⟩
  | .local _ .vmem, ⟨12, _⟩ => ⟨S8x64x128, .f32⟩
  | .local _ .vmem, ⟨13, _⟩ => ⟨S8x64x128, .f32⟩
  | .local _ .vmem, ⟨14, _⟩ => ⟨S8x1x128x128, .f32⟩
  | .local _ .vmem, ⟨15, _⟩ => ⟨S8x1x128x128, .f32⟩
  | .local _ .vmem, ⟨16, _⟩ => ⟨S8x128x128, .f32⟩
  | .local _ .vmem, ⟨17, _⟩ => ⟨S8x64x128, .f32⟩
  | .local _ .vmem, ⟨18, _⟩ => ⟨S8x64x128, .f32⟩
  | .local _ .vmem, ⟨19, _⟩ => ⟨S8x64x128, .f32⟩
  | .local _ .vmem, ⟨20, _⟩ => ⟨S8x64x128, .f32⟩
  | .local _ .vmem, ⟨21, _⟩ => ⟨S8x64x64, .f32⟩
  | .local _ .vmem, ⟨22, _⟩ => ⟨S8x64x64, .f32⟩
  | .local _ .vmem, ⟨23, _⟩ => ⟨S8x64x128, .f32⟩
  | .local _ .vmem, ⟨24, _⟩ => ⟨S8x64x128, .f32⟩
  | .local _ .vmem, ⟨25, _⟩ => ⟨S8x64x128, .f32⟩
  | .local _ .vmem, ⟨26, _⟩ => ⟨S8x64x128, .f32⟩
  | .local _ .vmem, ⟨27, _⟩ => ⟨S8x1x1x128, .f32⟩
  | .local _ .vmem, ⟨28, _⟩ => ⟨S8x1x1x128, .f32⟩
  | .local _ .vmem, ⟨29, _⟩ => ⟨S8x1x128x128, .f32⟩
  | .local _ .vmem, ⟨30, _⟩ => ⟨S8x1x128x128, .f32⟩
  | .local _ .vmem, ⟨31, _⟩ => ⟨S8x64x128, .f32⟩
  | .local _ .vmem, ⟨32, _⟩ => ⟨S8x64x128, .f32⟩
  | .local _ .vmem, ⟨33, _⟩ => ⟨S8x64x128, .f32⟩
  | .local _ .vmem, ⟨34, _⟩ => ⟨S8x64x128, .f32⟩
  | .local _ .vmem, ⟨35, _⟩ => ⟨S8x64x128, .f32⟩
  | .local _ .vmem, ⟨36, _⟩ => ⟨S8x64x128, .f32⟩
  | .local _ .vmem, ⟨37, _⟩ => ⟨S8x64x64, .f32⟩
  | .local _ .vmem, ⟨38, _⟩ => ⟨S8x64x64, .f32⟩
  | .local _ .vmem, ⟨39, _⟩ => ⟨S8x64x128, .f32⟩
  | .local _ .vmem, ⟨40, _⟩ => ⟨S8x64x128, .f32⟩
  | .local _ .vmem, ⟨41, _⟩ => ⟨S8x64x128, .f32⟩
  | .local _ .vmem, ⟨42, _⟩ => ⟨S8x64x128, .f32⟩
  | .local _ .vmem, ⟨43, _⟩ => ⟨S8x1x1x128, .f32⟩
  | .local _ .vmem, ⟨44, _⟩ => ⟨S8x1x1x128, .f32⟩
  | .local _ .vmem, ⟨45, _⟩ => ⟨S8x128x128, .f32⟩
  | _, _ => ⟨S8x2048x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | _, _ => false

abbrev semScoped : Fin 0 → Bool
  | ⟨_, h⟩ => absurd h (Nat.not_lt_zero _)

abbrev dmaSemScoped : Fin 44 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | _ => false

abbrev sig : RefSig :=
  ofTc nBuf bufTy 0 44 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0_0 : Ref sig .tc := ⟨.hbm, 7, rfl⟩
abbrev main_v0_1 : Ref sig .tc := ⟨.hbm, 8, rfl⟩
abbrev main_v1_0 : Ref sig .tc := ⟨.hbm, 9, rfl⟩
abbrev main_v1_1 : Ref sig .tc := ⟨.hbm, 10, rfl⟩
abbrev main_v1_2 : Ref sig .tc := ⟨.hbm, 11, rfl⟩
abbrev main_v1_3 : Ref sig .tc := ⟨.hbm, 12, rfl⟩
abbrev main_v1_4 : Ref sig .tc := ⟨.hbm, 13, rfl⟩
abbrev main_v1_5 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_scratch0 : Ref sig .tc := ⟨.vmem, 16, rfl⟩
abbrev cc1_stg0_0 : Ref sig .tc := ⟨.vmem, 17, rfl⟩
abbrev cc1_stg0_1 : Ref sig .tc := ⟨.vmem, 18, rfl⟩
abbrev cc1_stg1_0 : Ref sig .tc := ⟨.vmem, 19, rfl⟩
abbrev cc1_stg1_1 : Ref sig .tc := ⟨.vmem, 20, rfl⟩
abbrev cc1_stg2_0 : Ref sig .tc := ⟨.vmem, 21, rfl⟩
abbrev cc1_stg2_1 : Ref sig .tc := ⟨.vmem, 22, rfl⟩
abbrev cc1_stg3_0 : Ref sig .tc := ⟨.vmem, 23, rfl⟩
abbrev cc1_stg3_1 : Ref sig .tc := ⟨.vmem, 24, rfl⟩
abbrev cc1_stg4_0 : Ref sig .tc := ⟨.vmem, 25, rfl⟩
abbrev cc1_stg4_1 : Ref sig .tc := ⟨.vmem, 26, rfl⟩
abbrev cc1_stg5_0 : Ref sig .tc := ⟨.vmem, 27, rfl⟩
abbrev cc1_stg5_1 : Ref sig .tc := ⟨.vmem, 28, rfl⟩
abbrev cc1_stg6_0 : Ref sig .tc := ⟨.vmem, 29, rfl⟩
abbrev cc1_stg6_1 : Ref sig .tc := ⟨.vmem, 30, rfl⟩
abbrev cc1_stg7_0 : Ref sig .tc := ⟨.vmem, 31, rfl⟩
abbrev cc1_stg7_1 : Ref sig .tc := ⟨.vmem, 32, rfl⟩
abbrev cc1_stg8_0 : Ref sig .tc := ⟨.vmem, 33, rfl⟩
abbrev cc1_stg8_1 : Ref sig .tc := ⟨.vmem, 34, rfl⟩
abbrev cc1_stg9_0 : Ref sig .tc := ⟨.vmem, 35, rfl⟩
abbrev cc1_stg9_1 : Ref sig .tc := ⟨.vmem, 36, rfl⟩
abbrev cc1_stg10_0 : Ref sig .tc := ⟨.vmem, 37, rfl⟩
abbrev cc1_stg10_1 : Ref sig .tc := ⟨.vmem, 38, rfl⟩
abbrev cc1_stg11_0 : Ref sig .tc := ⟨.vmem, 39, rfl⟩
abbrev cc1_stg11_1 : Ref sig .tc := ⟨.vmem, 40, rfl⟩
abbrev cc1_stg12_0 : Ref sig .tc := ⟨.vmem, 41, rfl⟩
abbrev cc1_stg12_1 : Ref sig .tc := ⟨.vmem, 42, rfl⟩
abbrev cc1_stg13_0 : Ref sig .tc := ⟨.vmem, 43, rfl⟩
abbrev cc1_stg13_1 : Ref sig .tc := ⟨.vmem, 44, rfl⟩
abbrev cc1_scratch0 : Ref sig .tc := ⟨.vmem, 45, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc1_sem0_0 : DmaSem sig := 16
abbrev cc1_sem0_1 : DmaSem sig := 17
abbrev cc1_sem1_0 : DmaSem sig := 18
abbrev cc1_sem1_1 : DmaSem sig := 19
abbrev cc1_sem2_0 : DmaSem sig := 20
abbrev cc1_sem2_1 : DmaSem sig := 21
abbrev cc1_sem3_0 : DmaSem sig := 22
abbrev cc1_sem3_1 : DmaSem sig := 23
abbrev cc1_sem4_0 : DmaSem sig := 24
abbrev cc1_sem4_1 : DmaSem sig := 25
abbrev cc1_sem5_0 : DmaSem sig := 26
abbrev cc1_sem5_1 : DmaSem sig := 27
abbrev cc1_sem6_0 : DmaSem sig := 28
abbrev cc1_sem6_1 : DmaSem sig := 29
abbrev cc1_sem7_0 : DmaSem sig := 30
abbrev cc1_sem7_1 : DmaSem sig := 31
abbrev cc1_sem8_0 : DmaSem sig := 32
abbrev cc1_sem8_1 : DmaSem sig := 33
abbrev cc1_sem9_0 : DmaSem sig := 34
abbrev cc1_sem9_1 : DmaSem sig := 35
abbrev cc1_sem10_0 : DmaSem sig := 36
abbrev cc1_sem10_1 : DmaSem sig := 37
abbrev cc1_sem11_0 : DmaSem sig := 38
abbrev cc1_sem11_1 : DmaSem sig := 39
abbrev cc1_sem12_0 : DmaSem sig := 40
abbrev cc1_sem12_1 : DmaSem sig := 41
abbrev cc1_sem13_0 : DmaSem sig := 42
abbrev cc1_sem13_1 : DmaSem sig := 43

abbrev nD : Nat := 1
abbrev τ : Topo := Topo.v7x

variable {F : FTy → Type} [FloatOps F]

abbrev grid0 : Pipeline.Grid := ⟨2, ![1, 32], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 2 → Memref sig .tc .vmem S8x64x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S8x64x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S8x64x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S8x64x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S8x64x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S8x1x1x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S8x64x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S8x1x128x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev grid1 : Pipeline.Grid := ⟨2, ![1, 32], ![false, false]⟩

def cc1_transform_0 (i : grid1.Coords) : Fin 3 → Nat :=
  let arg0 : BitVec 32 := BitVec.ofNat 32 (i 0).val
  let arg1 : BitVec 32 := BitVec.ofNat 32 (i 1).val
  let c31_i32 : BitVec 32 := 31#32
  let v0 : BitVec 32 := Scalar.subi c31_i32 arg1
  let c0_i32 : BitVec 32 := 0#32
  let c0_i32_0 : BitVec 32 := 0#32
  ![arg0.toNat, v0.toNat, c0_i32.toNat]

def cc1_transform_1 (i : grid1.Coords) : Fin 3 → Nat :=
  let arg0 : BitVec 32 := BitVec.ofNat 32 (i 0).val
  let arg1 : BitVec 32 := BitVec.ofNat 32 (i 1).val
  let c31_i32 : BitVec 32 := 31#32
  let v0 : BitVec 32 := Scalar.subi c31_i32 arg1
  let c0_i32 : BitVec 32 := 0#32
  let c0_i32_0 : BitVec 32 := 0#32
  ![arg0.toNat, v0.toNat, c0_i32.toNat]

def cc1_transform_2 (i : grid1.Coords) : Fin 3 → Nat :=
  let arg0 : BitVec 32 := BitVec.ofNat 32 (i 0).val
  let arg1 : BitVec 32 := BitVec.ofNat 32 (i 1).val
  let c31_i32 : BitVec 32 := 31#32
  let v0 : BitVec 32 := Scalar.subi c31_i32 arg1
  let c0_i32 : BitVec 32 := 0#32
  let c0_i32_0 : BitVec 32 := 0#32
  ![arg0.toNat, v0.toNat, c0_i32.toNat]

def cc1_transform_3 (i : grid1.Coords) : Fin 3 → Nat :=
  let arg0 : BitVec 32 := BitVec.ofNat 32 (i 0).val
  let arg1 : BitVec 32 := BitVec.ofNat 32 (i 1).val
  let c31_i32 : BitVec 32 := 31#32
  let v0 : BitVec 32 := Scalar.subi c31_i32 arg1
  let c0_i32 : BitVec 32 := 0#32
  let c0_i32_0 : BitVec 32 := 0#32
  ![arg0.toNat, v0.toNat, c0_i32.toNat]

def cc1_transform_4 (i : grid1.Coords) : Fin 3 → Nat :=
  let arg0 : BitVec 32 := BitVec.ofNat 32 (i 0).val
  let arg1 : BitVec 32 := BitVec.ofNat 32 (i 1).val
  let c31_i32 : BitVec 32 := 31#32
  let v0 : BitVec 32 := Scalar.subi c31_i32 arg1
  let c0_i32 : BitVec 32 := 0#32
  let c0_i32_0 : BitVec 32 := 0#32
  ![arg0.toNat, v0.toNat, c0_i32.toNat]

def cc1_transform_5 (i : grid1.Coords) : Fin 4 → Nat :=
  let arg0 : BitVec 32 := BitVec.ofNat 32 (i 0).val
  let arg1 : BitVec 32 := BitVec.ofNat 32 (i 1).val
  let c31_i32 : BitVec 32 := 31#32
  let v0 : BitVec 32 := Scalar.subi c31_i32 arg1
  let c0_i32 : BitVec 32 := 0#32
  let c0_i32_0 : BitVec 32 := 0#32
  let c0_i32_1 : BitVec 32 := 0#32
  ![arg0.toNat, v0.toNat, c0_i32.toNat, c0_i32_0.toNat]

def cc1_transform_6 (i : grid1.Coords) : Fin 4 → Nat :=
  let arg0 : BitVec 32 := BitVec.ofNat 32 (i 0).val
  let arg1 : BitVec 32 := BitVec.ofNat 32 (i 1).val
  let c31_i32 : BitVec 32 := 31#32
  let v0 : BitVec 32 := Scalar.subi c31_i32 arg1
  let c0_i32 : BitVec 32 := 0#32
  let c0_i32_0 : BitVec 32 := 0#32
  let c0_i32_1 : BitVec 32 := 0#32
  ![arg0.toNat, v0.toNat, c0_i32.toNat, c0_i32_0.toNat]

def cc1_transform_7 (i : grid1.Coords) : Fin 3 → Nat :=
  let arg0 : BitVec 32 := BitVec.ofNat 32 (i 0).val
  let arg1 : BitVec 32 := BitVec.ofNat 32 (i 1).val
  let c31_i32 : BitVec 32 := 31#32
  let v0 : BitVec 32 := Scalar.subi c31_i32 arg1
  let c0_i32 : BitVec 32 := 0#32
  let c0_i32_0 : BitVec 32 := 0#32
  ![arg0.toNat, v0.toNat, c0_i32.toNat]

def cc1_transform_8 (i : grid1.Coords) : Fin 3 → Nat :=
  let arg0 : BitVec 32 := BitVec.ofNat 32 (i 0).val
  let arg1 : BitVec 32 := BitVec.ofNat 32 (i 1).val
  let c31_i32 : BitVec 32 := 31#32
  let v0 : BitVec 32 := Scalar.subi c31_i32 arg1
  let c0_i32 : BitVec 32 := 0#32
  let c0_i32_0 : BitVec 32 := 0#32
  ![arg0.toNat, v0.toNat, c0_i32.toNat]

def cc1_transform_9 (i : grid1.Coords) : Fin 3 → Nat :=
  let arg0 : BitVec 32 := BitVec.ofNat 32 (i 0).val
  let arg1 : BitVec 32 := BitVec.ofNat 32 (i 1).val
  let c31_i32 : BitVec 32 := 31#32
  let v0 : BitVec 32 := Scalar.subi c31_i32 arg1
  let c0_i32 : BitVec 32 := 0#32
  let c0_i32_0 : BitVec 32 := 0#32
  ![arg0.toNat, v0.toNat, c0_i32.toNat]

def cc1_transform_10 (i : grid1.Coords) : Fin 3 → Nat :=
  let arg0 : BitVec 32 := BitVec.ofNat 32 (i 0).val
  let arg1 : BitVec 32 := BitVec.ofNat 32 (i 1).val
  let c31_i32 : BitVec 32 := 31#32
  let v0 : BitVec 32 := Scalar.subi c31_i32 arg1
  let c0_i32 : BitVec 32 := 0#32
  let c0_i32_0 : BitVec 32 := 0#32
  ![arg0.toNat, v0.toNat, c0_i32.toNat]

def cc1_transform_11 (i : grid1.Coords) : Fin 3 → Nat :=
  let arg0 : BitVec 32 := BitVec.ofNat 32 (i 0).val
  let arg1 : BitVec 32 := BitVec.ofNat 32 (i 1).val
  let c31_i32 : BitVec 32 := 31#32
  let v0 : BitVec 32 := Scalar.subi c31_i32 arg1
  let c0_i32 : BitVec 32 := 0#32
  let c0_i32_0 : BitVec 32 := 0#32
  ![arg0.toNat, v0.toNat, c0_i32.toNat]

def cc1_transform_12 (i : grid1.Coords) : Fin 3 → Nat :=
  let arg0 : BitVec 32 := BitVec.ofNat 32 (i 0).val
  let arg1 : BitVec 32 := BitVec.ofNat 32 (i 1).val
  let c31_i32 : BitVec 32 := 31#32
  let v0 : BitVec 32 := Scalar.subi c31_i32 arg1
  let c0_i32 : BitVec 32 := 0#32
  let c0_i32_0 : BitVec 32 := 0#32
  ![arg0.toNat, v0.toNat, c0_i32.toNat]

def cc1_transform_13 (i : grid1.Coords) : Fin 4 → Nat :=
  let arg0 : BitVec 32 := BitVec.ofNat 32 (i 0).val
  let arg1 : BitVec 32 := BitVec.ofNat 32 (i 1).val
  let c31_i32 : BitVec 32 := 31#32
  let v0 : BitVec 32 := Scalar.subi c31_i32 arg1
  let c0_i32 : BitVec 32 := 0#32
  let c0_i32_0 : BitVec 32 := 0#32
  let c0_i32_1 : BitVec 32 := 0#32
  ![arg0.toNat, v0.toNat, c0_i32.toNat, c0_i32_0.toNat]

abbrev stage1_0 : Fin 2 → Memref sig .tc .vmem S8x64x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S8x64x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true]

abbrev stage1_2 : Fin 2 → Memref sig .tc .vmem S8x64x64 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

abbrev stage1_3 : Fin 2 → Memref sig .tc .vmem S8x64x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]

abbrev stage1_4 : Fin 2 → Memref sig .tc .vmem S8x64x128 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, true]

abbrev stage1_5 : Fin 2 → Memref sig .tc .vmem S8x1x1x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, true]

abbrev stage1_6 : Fin 2 → Memref sig .tc .vmem S8x1x128x128 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true, true]

abbrev stage1_7 : Fin 2 → Memref sig .tc .vmem S8x64x128 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true, true]

abbrev stage1_8 : Fin 2 → Memref sig .tc .vmem S8x64x128 .f32 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true, true]

abbrev stage1_9 : Fin 2 → Memref sig .tc .vmem S8x64x128 .f32 := fun | 0 => Memref.whole cc1_stg9_0 | 1 => Memref.whole cc1_stg9_1 | ⟨_ + 2, h⟩ => absurd h (Nat.not_lt.2 (Nat.le_add_left _ _))
abbrev sem1_9 : Fin 2 → DmaSem sig := fun | 0 => cc1_sem9_0 | 1 => cc1_sem9_1 | ⟨_ + 2, h⟩ => absurd h (Nat.not_lt.2 (Nat.le_add_left _ _))
abbrev reads1_9 : Fin grid1.rank → Bool := ![true, true]

abbrev stage1_10 : Fin 2 → Memref sig .tc .vmem S8x64x64 .f32 := fun | 0 => Memref.whole cc1_stg10_0 | 1 => Memref.whole cc1_stg10_1 | ⟨_ + 2, h⟩ => absurd h (Nat.not_lt.2 (Nat.le_add_left _ _))
abbrev sem1_10 : Fin 2 → DmaSem sig := fun | 0 => cc1_sem10_0 | 1 => cc1_sem10_1 | ⟨_ + 2, h⟩ => absurd h (Nat.not_lt.2 (Nat.le_add_left _ _))
abbrev reads1_10 : Fin grid1.rank → Bool := ![true, true]

abbrev stage1_11 : Fin 2 → Memref sig .tc .vmem S8x64x128 .f32 := fun | 0 => Memref.whole cc1_stg11_0 | 1 => Memref.whole cc1_stg11_1 | ⟨_ + 2, h⟩ => absurd h (Nat.not_lt.2 (Nat.le_add_left _ _))
abbrev sem1_11 : Fin 2 → DmaSem sig := fun | 0 => cc1_sem11_0 | 1 => cc1_sem11_1 | ⟨_ + 2, h⟩ => absurd h (Nat.not_lt.2 (Nat.le_add_left _ _))
abbrev reads1_11 : Fin grid1.rank → Bool := ![true, true]

abbrev stage1_12 : Fin 2 → Memref sig .tc .vmem S8x64x128 .f32 := fun | 0 => Memref.whole cc1_stg12_0 | 1 => Memref.whole cc1_stg12_1 | ⟨_ + 2, h⟩ => absurd h (Nat.not_lt.2 (Nat.le_add_left _ _))
abbrev sem1_12 : Fin 2 → DmaSem sig := fun | 0 => cc1_sem12_0 | 1 => cc1_sem12_1 | ⟨_ + 2, h⟩ => absurd h (Nat.not_lt.2 (Nat.le_add_left _ _))
abbrev reads1_12 : Fin grid1.rank → Bool := ![true, true]

abbrev stage1_13 : Fin 2 → Memref sig .tc .vmem S8x1x1x128 .f32 := fun | 0 => Memref.whole cc1_stg13_0 | 1 => Memref.whole cc1_stg13_1 | ⟨_ + 2, h⟩ => absurd h (Nat.not_lt.2 (Nat.le_add_left _ _))
abbrev sem1_13 : Fin 2 → DmaSem sig := fun | 0 => cc1_sem13_0 | 1 => cc1_sem13_1 | ⟨_ + 2, h⟩ => absurd h (Nat.not_lt.2 (Nat.le_add_left _ _))
abbrev reads1_13 : Fin grid1.rank → Bool := ![true, true]
-- ==== ReferenceIdeal.lean ====
abbrev S8x2048x128 : Shape := ⟨3, ![8, 2048, 128]⟩
abbrev S8x2048x64 : Shape := ⟨3, ![8, 2048, 64]⟩
abbrev S8x32x1x128 : Shape := ⟨4, ![8, 32, 1, 128]⟩
abbrev S8x32x64x128 : Shape := ⟨4, ![8, 32, 64, 128]⟩
abbrev S32x8x64x128 : Shape := ⟨4, ![32, 8, 64, 128]⟩
abbrev S8x32x64x64 : Shape := ⟨4, ![8, 32, 64, 64]⟩
abbrev S32x8x64x64 : Shape := ⟨4, ![32, 8, 64, 64]⟩
abbrev S32x8x1x128 : Shape := ⟨4, ![32, 8, 1, 128]⟩
abbrev S_ : Shape := ⟨0, ![]⟩
abbrev S8x128x128 : Shape := ⟨3, ![8, 128, 128]⟩
abbrev S32x8x128x128 : Shape := ⟨4, ![32, 8, 128, 128]⟩
abbrev S1x8x64x128 : Shape := ⟨4, ![1, 8, 64, 128]⟩
abbrev S8x64x128 : Shape := ⟨3, ![8, 64, 128]⟩
abbrev S1x8x64x64 : Shape := ⟨4, ![1, 8, 64, 64]⟩
abbrev S8x64x64 : Shape := ⟨3, ![8, 64, 64]⟩
abbrev S1x8x1x128 : Shape := ⟨4, ![1, 8, 1, 128]⟩
abbrev S8x1x128 : Shape := ⟨3, ![8, 1, 128]⟩
abbrev S1x8x128x128 : Shape := ⟨4, ![1, 8, 128, 128]⟩
abbrev S8x128x64 : Shape := ⟨3, ![8, 128, 64]⟩
abbrev S8x128 : Shape := ⟨2, ![8, 128]⟩

abbrev nBuf : Space → Nat
  | .hbm => 245
  | .vmem => 0
  | .smem => 0
  | _ => 0

abbrev hbmTy0_0 (i : Nat) : BufTy := match i % 128 with
  | 0 => ⟨S8x2048x128, .f32⟩
  | 1 => ⟨S8x2048x128, .f32⟩
  | 2 => ⟨S8x2048x64, .f32⟩
  | 3 => ⟨S8x2048x128, .f32⟩
  | 4 => ⟨S8x2048x128, .f32⟩
  | 5 => ⟨S8x32x1x128, .f32⟩
  | 6 => ⟨S8x2048x128, .f32⟩
  | 7 => ⟨S8x32x64x128, .f32⟩
  | 8 => ⟨S32x8x64x128, .f32⟩
  | 9 => ⟨S8x32x64x128, .f32⟩
  | 10 => ⟨S32x8x64x128, .f32⟩
  | 11 => ⟨S8x32x64x64, .f32⟩
  | 12 => ⟨S32x8x64x64, .f32⟩
  | 13 => ⟨S8x32x64x128, .f32⟩
  | 14 => ⟨S32x8x64x128, .f32⟩
  | 15 => ⟨S8x32x64x128, .f32⟩
  | 16 => ⟨S32x8x64x128, .f32⟩
  | 17 => ⟨S32x8x1x128, .f32⟩
  | 18 => ⟨S_, .f32⟩
  | 19 => ⟨S8x128x128, .f32⟩
  | 20 => ⟨S_, .f32⟩
  | 21 => ⟨S32x8x64x128, .f32⟩
  | 22 => ⟨S_, .f32⟩
  | 23 => ⟨S32x8x128x128, .f32⟩
  | 24 => ⟨S_, .f32⟩
  | 25 => ⟨S32x8x64x128, .f32⟩
  | 26 => ⟨S_, .i32⟩
  | 27 => ⟨S32x8x64x128, .f32⟩
  | 28 => ⟨S32x8x64x128, .f32⟩
  | 29 => ⟨S32x8x64x64, .f32⟩
  | 30 => ⟨S32x8x64x128, .f32⟩
  | 31 => ⟨S32x8x64x128, .f32⟩
  | 32 => ⟨S32x8x1x128, .f32⟩
  | 33 => ⟨S_, .i32⟩
  | 34 => ⟨S8x128x128, .f32⟩
  | 35 => ⟨S32x8x64x128, .f32⟩
  | 36 => ⟨S32x8x128x128, .f32⟩
  | 37 => ⟨S32x8x64x128, .f32⟩
  | 38 => ⟨S_, .i32⟩
  | 39 => ⟨S_, .i1⟩
  | 40 => ⟨S_, .i32⟩
  | 41 => ⟨S_, .i32⟩
  | 42 => ⟨S_, .i32⟩
  | 43 => ⟨S1x8x64x128, .f32⟩
  | 44 => ⟨S8x64x128, .f32⟩
  | 45 => ⟨S_, .i32⟩
  | 46 => ⟨S_, .i32⟩
  | 47 => ⟨S_, .i32⟩
  | 48 => ⟨S1x8x64x128, .f32⟩
  | 49 => ⟨S8x64x128, .f32⟩
  | 50 => ⟨S_, .i32⟩
  | 51 => ⟨S_, .i32⟩
  | 52 => ⟨S_, .i32⟩
  | 53 => ⟨S1x8x64x64, .f32⟩
  | 54 => ⟨S8x64x64, .f32⟩
  | 55 => ⟨S_, .i32⟩
  | 56 => ⟨S_, .i32⟩
  | 57 => ⟨S_, .i32⟩
  | 58 => ⟨S1x8x64x128, .f32⟩
  | 59 => ⟨S8x64x128, .f32⟩
  | 60 => ⟨S_, .i32⟩
  | 61 => ⟨S_, .i32⟩
  | 62 => ⟨S_, .i32⟩
  | 63 => ⟨S1x8x64x128, .f32⟩
  | 64 => ⟨S8x64x128, .f32⟩
  | 65 => ⟨S_, .i32⟩
  | 66 => ⟨S_, .i32⟩
  | 67 => ⟨S_, .i32⟩
  | 68 => ⟨S1x8x1x128, .f32⟩
  | 69 => ⟨S8x1x128, .f32⟩
  | 70 => ⟨S8x64x128, .f32⟩
  | 71 => ⟨S8x64x128, .f32⟩
  | 72 => ⟨S8x64x128, .f32⟩
  | 73 => ⟨S8x64x128, .f32⟩
  | 74 => ⟨S8x64x128, .f32⟩
  | 75 => ⟨S8x128x128, .f32⟩
  | 76 => ⟨S8x128x128, .f32⟩
  | 77 => ⟨S8x128x128, .f32⟩
  | 78 => ⟨S8x128x128, .f32⟩
  | 79 => ⟨S1x8x64x128, .f32⟩
  | 80 => ⟨S_, .i32⟩
  | 81 => ⟨S_, .i32⟩
  | 82 => ⟨S_, .i32⟩
  | 83 => ⟨S32x8x64x128, .f32⟩
  | 84 => ⟨S1x8x128x128, .f32⟩
  | 85 => ⟨S_, .i32⟩
  | 86 => ⟨S_, .i32⟩
  | 87 => ⟨S_, .i32⟩
  | 88 => ⟨S32x8x128x128, .f32⟩
  | 89 => ⟨S1x8x64x128, .f32⟩
  | 90 => ⟨S_, .i32⟩
  | 91 => ⟨S_, .i32⟩
  | 92 => ⟨S_, .i32⟩
  | 93 => ⟨S32x8x64x128, .f32⟩
  | 94 => ⟨S_, .i32⟩
  | 95 => ⟨S_, .i32⟩
  | 96 => ⟨S8x32x64x128, .f32⟩
  | 97 => ⟨S8x2048x128, .f32⟩
  | 98 => ⟨S_, .f32⟩
  | 99 => ⟨S8x128x128, .f32⟩
  | 100 => ⟨S8x32x64x128, .f32⟩
  | 101 => ⟨S32x8x64x128, .f32⟩
  | 102 => ⟨S_, .f32⟩
  | 103 => ⟨S8x128x128, .f32⟩
  | 104 => ⟨S_, .f32⟩
  | 105 => ⟨S32x8x64x128, .f32⟩
  | 106 => ⟨S_, .f32⟩
  | 107 => ⟨S32x8x64x128, .f32⟩
  | 108 => ⟨S_, .f32⟩
  | 109 => ⟨S32x8x64x64, .f32⟩
  | 110 => ⟨S_, .f32⟩
  | 111 => ⟨S32x8x64x128, .f32⟩
  | 112 => ⟨S_, .f32⟩
  | 113 => ⟨S32x8x64x128, .f32⟩
  | 114 => ⟨S_, .f32⟩
  | 115 => ⟨S32x8x1x128, .f32⟩
  | 116 => ⟨S_, .i32⟩
  | 117 => ⟨S32x8x64x128, .f32⟩
  | 118 => ⟨S32x8x128x128, .f32⟩
  | 119 => ⟨S32x8x64x128, .f32⟩
  | 120 => ⟨S32x8x64x128, .f32⟩
  | 121 => ⟨S32x8x64x128, .f32⟩
  | 122 => ⟨S32x8x64x64, .f32⟩
  | 123 => ⟨S32x8x1x128, .f32⟩
  | 124 => ⟨S32x8x64x128, .f32⟩
  | 125 => ⟨S_, .i32⟩
  | 126 => ⟨S8x128x128, .f32⟩
  | 127 => ⟨S32x8x64x128, .f32⟩
  | _ => ⟨S8x2048x128, .f32⟩

abbrev hbmTy0_1 (i : Nat) : BufTy := match i % 128 with
  | 0 => ⟨S32x8x64x128, .f32⟩
  | 1 => ⟨S32x8x64x64, .f32⟩
  | 2 => ⟨S32x8x64x128, .f32⟩
  | 3 => ⟨S32x8x64x128, .f32⟩
  | 4 => ⟨S32x8x1x128, .f32⟩
  | 5 => ⟨S_, .i32⟩
  | 6 => ⟨S_, .i1⟩
  | 7 => ⟨S_, .i32⟩
  | 8 => ⟨S_, .i32⟩
  | 9 => ⟨S_, .i32⟩
  | 10 => ⟨S_, .i32⟩
  | 11 => ⟨S_, .i32⟩
  | 12 => ⟨S_, .i32⟩
  | 13 => ⟨S_, .i32⟩
  | 14 => ⟨S1x8x64x128, .f32⟩
  | 15 => ⟨S8x64x128, .f32⟩
  | 16 => ⟨S_, .i32⟩
  | 17 => ⟨S_, .i32⟩
  | 18 => ⟨S_, .i32⟩
  | 19 => ⟨S1x8x128x128, .f32⟩
  | 20 => ⟨S8x128x128, .f32⟩
  | 21 => ⟨S_, .i32⟩
  | 22 => ⟨S_, .i32⟩
  | 23 => ⟨S_, .i32⟩
  | 24 => ⟨S1x8x64x128, .f32⟩
  | 25 => ⟨S8x64x128, .f32⟩
  | 26 => ⟨S_, .i32⟩
  | 27 => ⟨S_, .i32⟩
  | 28 => ⟨S_, .i32⟩
  | 29 => ⟨S1x8x64x128, .f32⟩
  | 30 => ⟨S8x64x128, .f32⟩
  | 31 => ⟨S_, .i32⟩
  | 32 => ⟨S_, .i32⟩
  | 33 => ⟨S_, .i32⟩
  | 34 => ⟨S1x8x64x128, .f32⟩
  | 35 => ⟨S8x64x128, .f32⟩
  | 36 => ⟨S_, .i32⟩
  | 37 => ⟨S_, .i32⟩
  | 38 => ⟨S_, .i32⟩
  | 39 => ⟨S1x8x64x64, .f32⟩
  | 40 => ⟨S8x64x64, .f32⟩
  | 41 => ⟨S_, .i32⟩
  | 42 => ⟨S_, .i32⟩
  | 43 => ⟨S_, .i32⟩
  | 44 => ⟨S1x8x1x128, .f32⟩
  | 45 => ⟨S8x1x128, .f32⟩
  | 46 => ⟨S_, .i32⟩
  | 47 => ⟨S_, .i32⟩
  | 48 => ⟨S_, .i32⟩
  | 49 => ⟨S1x8x64x128, .f32⟩
  | 50 => ⟨S8x64x128, .f32⟩
  | 51 => ⟨S8x128x64, .f32⟩
  | 52 => ⟨S8x64x128, .f32⟩
  | 53 => ⟨S8x128x64, .f32⟩
  | 54 => ⟨S8x64x128, .f32⟩
  | 55 => ⟨S8x128x128, .f32⟩
  | 56 => ⟨S_, .f32⟩
  | 57 => ⟨S8x128, .f32⟩
  | 58 => ⟨S8x1x128, .f32⟩
  | 59 => ⟨S8x128x128, .f32⟩
  | 60 => ⟨S8x128x128, .f32⟩
  | 61 => ⟨S8x128x64, .f32⟩
  | 62 => ⟨S8x64x128, .f32⟩
  | 63 => ⟨S8x64x128, .f32⟩
  | 64 => ⟨S8x64x64, .f32⟩
  | 65 => ⟨S8x128x128, .f32⟩
  | 66 => ⟨S8x128x128, .f32⟩
  | 67 => ⟨S8x128x128, .f32⟩
  | 68 => ⟨S8x64x128, .f32⟩
  | 69 => ⟨S8x64x128, .f32⟩
  | 70 => ⟨S8x128x128, .f32⟩
  | 71 => ⟨S8x128x128, .f32⟩
  | 72 => ⟨S8x128x128, .f32⟩
  | 73 => ⟨S8x64x128, .f32⟩
  | 74 => ⟨S1x8x64x128, .f32⟩
  | 75 => ⟨S_, .i32⟩
  | 76 => ⟨S_, .i32⟩
  | 77 => ⟨S_, .i32⟩
  | 78 => ⟨S32x8x64x128, .f32⟩
  | 79 => ⟨S1x8x64x128, .f32⟩
  | 80 => ⟨S_, .i32⟩
  | 81 => ⟨S_, .i32⟩
  | 82 => ⟨S_, .i32⟩
  | 83 => ⟨S32x8x64x128, .f32⟩
  | 84 => ⟨S1x8x64x64, .f32⟩
  | 85 => ⟨S_, .i32⟩
  | 86 => ⟨S_, .i32⟩
  | 87 => ⟨S_, .i32⟩
  | 88 => ⟨S32x8x64x64, .f32⟩
  | 89 => ⟨S1x8x64x128, .f32⟩
  | 90 => ⟨S_, .i32⟩
  | 91 => ⟨S_, .i32⟩
  | 92 => ⟨S_, .i32⟩
  | 93 => ⟨S32x8x64x128, .f32⟩
  | 94 => ⟨S1x8x64x128, .f32⟩
  | 95 => ⟨S_, .i32⟩
  | 96 => ⟨S_, .i32⟩
  | 97 => ⟨S_, .i32⟩
  | 98 => ⟨S32x8x64x128, .f32⟩
  | 99 => ⟨S1x8x1x128, .f32⟩
  | 100 => ⟨S_, .i32⟩
  | 101 => ⟨S_, .i32⟩
  | 102 => ⟨S_, .i32⟩
  | 103 => ⟨S32x8x1x128, .f32⟩
  | 104 => ⟨S_, .i32⟩
  | 105 => ⟨S_, .i32⟩
  | 106 => ⟨S8x32x1x128, .f32⟩
  | 107 => ⟨S8x32x64x128, .f32⟩
  | 108 => ⟨S8x2048x128, .f32⟩
  | 109 => ⟨S8x32x64x128, .f32⟩
  | 110 => ⟨S8x2048x128, .f32⟩
  | 111 => ⟨S8x32x64x64, .f32⟩
  | 112 => ⟨S8x2048x64, .f32⟩
  | 113 => ⟨S8x32x64x128, .f32⟩
  | 114 => ⟨S8x2048x128, .f32⟩
  | 115 => ⟨S8x32x64x128, .f32⟩
  | 116 => ⟨S8x2048x128, .f32⟩
  | _ => ⟨S8x2048x128, .f32⟩

abbrev hbmTy (i : Nat) : BufTy := match i / 128 with
  | 0 => hbmTy0_0 i
  | 1 => hbmTy0_1 i
  | _ => ⟨S8x2048x128, .f32⟩

abbrev bufTy : (tb : Table) → Fin (tcTables nBuf tb) → BufTy
  | .hbm, ⟨i, _⟩ => hbmTy i
  | _, _ => ⟨S8x2048x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_cst : Ref sig .tc := ⟨.hbm, 18, rfl⟩
abbrev main_v11 : Ref sig .tc := ⟨.hbm, 19, rfl⟩
abbrev main_cst_0 : Ref sig .tc := ⟨.hbm, 20, rfl⟩
abbrev main_v12 : Ref sig .tc := ⟨.hbm, 21, rfl⟩
abbrev main_cst_1 : Ref sig .tc := ⟨.hbm, 22, rfl⟩
abbrev main_v13 : Ref sig .tc := ⟨.hbm, 23, rfl⟩
abbrev main_cst_2 : Ref sig .tc := ⟨.hbm, 24, rfl⟩
abbrev main_v14 : Ref sig .tc := ⟨.hbm, 25, rfl⟩
abbrev main_c : Ref sig .tc := ⟨.hbm, 26, rfl⟩
abbrev main_v15_0 : Ref sig .tc := ⟨.hbm, 27, rfl⟩
abbrev main_v15_1 : Ref sig .tc := ⟨.hbm, 28, rfl⟩
abbrev main_v15_2 : Ref sig .tc := ⟨.hbm, 29, rfl⟩
abbrev main_v15_3 : Ref sig .tc := ⟨.hbm, 30, rfl⟩
abbrev main_v15_4 : Ref sig .tc := ⟨.hbm, 31, rfl⟩
abbrev main_v15_5 : Ref sig .tc := ⟨.hbm, 32, rfl⟩
abbrev main_v15_6 : Ref sig .tc := ⟨.hbm, 33, rfl⟩
abbrev main_v15_7 : Ref sig .tc := ⟨.hbm, 34, rfl⟩
abbrev main_v15_8 : Ref sig .tc := ⟨.hbm, 35, rfl⟩
abbrev main_v15_9 : Ref sig .tc := ⟨.hbm, 36, rfl⟩
abbrev main_v15_10 : Ref sig .tc := ⟨.hbm, 37, rfl⟩
abbrev main_while0c_c_22 : Ref sig .tc := ⟨.hbm, 38, rfl⟩
abbrev main_while0c_v40 : Ref sig .tc := ⟨.hbm, 39, rfl⟩
abbrev main_while0b_call0_c : Ref sig .tc := ⟨.hbm, 40, rfl⟩
abbrev main_while0b_call0_c_0 : Ref sig .tc := ⟨.hbm, 41, rfl⟩
abbrev main_while0b_call0_c_1 : Ref sig .tc := ⟨.hbm, 42, rfl⟩
abbrev main_while0b_call0_v0 : Ref sig .tc := ⟨.hbm, 43, rfl⟩
abbrev main_while0b_v40 : Ref sig .tc := ⟨.hbm, 44, rfl⟩
abbrev main_while0b_call1_c : Ref sig .tc := ⟨.hbm, 45, rfl⟩
abbrev main_while0b_call1_c_0 : Ref sig .tc := ⟨.hbm, 46, rfl⟩
abbrev main_while0b_call1_c_1 : Ref sig .tc := ⟨.hbm, 47, rfl⟩
abbrev main_while0b_call1_v0 : Ref sig .tc := ⟨.hbm, 48, rfl⟩
abbrev main_while0b_v41 : Ref sig .tc := ⟨.hbm, 49, rfl⟩
abbrev main_while0b_call2_c : Ref sig .tc := ⟨.hbm, 50, rfl⟩
abbrev main_while0b_call2_c_0 : Ref sig .tc := ⟨.hbm, 51, rfl⟩
abbrev main_while0b_call2_c_1 : Ref sig .tc := ⟨.hbm, 52, rfl⟩
abbrev main_while0b_call2_v0 : Ref sig .tc := ⟨.hbm, 53, rfl⟩
abbrev main_while0b_v42 : Ref sig .tc := ⟨.hbm, 54, rfl⟩
abbrev main_while0b_call3_c : Ref sig .tc := ⟨.hbm, 55, rfl⟩
abbrev main_while0b_call3_c_0 : Ref sig .tc := ⟨.hbm, 56, rfl⟩
abbrev main_while0b_call3_c_1 : Ref sig .tc := ⟨.hbm, 57, rfl⟩
abbrev main_while0b_call3_v0 : Ref sig .tc := ⟨.hbm, 58, rfl⟩
abbrev main_while0b_v43 : Ref sig .tc := ⟨.hbm, 59, rfl⟩
abbrev main_while0b_call4_c : Ref sig .tc := ⟨.hbm, 60, rfl⟩
abbrev main_while0b_call4_c_0 : Ref sig .tc := ⟨.hbm, 61, rfl⟩
abbrev main_while0b_call4_c_1 : Ref sig .tc := ⟨.hbm, 62, rfl⟩
abbrev main_while0b_call4_v0 : Ref sig .tc := ⟨.hbm, 63, rfl⟩
abbrev main_while0b_v44 : Ref sig .tc := ⟨.hbm, 64, rfl⟩
abbrev main_while0b_call5_c : Ref sig .tc := ⟨.hbm, 65, rfl⟩
abbrev main_while0b_call5_c_0 : Ref sig .tc := ⟨.hbm, 66, rfl⟩
abbrev main_while0b_call5_c_1 : Ref sig .tc := ⟨.hbm, 67, rfl⟩
abbrev main_while0b_call5_v0 : Ref sig .tc := ⟨.hbm, 68, rfl⟩
abbrev main_while0b_v45 : Ref sig .tc := ⟨.hbm, 69, rfl⟩
abbrev main_while0b_v46 : Ref sig .tc := ⟨.hbm, 70, rfl⟩
abbrev main_while0b_v47 : Ref sig .tc := ⟨.hbm, 71, rfl⟩
abbrev main_while0b_v48 : Ref sig .tc := ⟨.hbm, 72, rfl⟩
abbrev main_while0b_v49 : Ref sig .tc := ⟨.hbm, 73, rfl⟩
abbrev main_while0b_v50 : Ref sig .tc := ⟨.hbm, 74, rfl⟩
abbrev main_while0b_v51 : Ref sig .tc := ⟨.hbm, 75, rfl⟩
abbrev main_while0b_v52 : Ref sig .tc := ⟨.hbm, 76, rfl⟩
abbrev main_while0b_v53 : Ref sig .tc := ⟨.hbm, 77, rfl⟩
abbrev main_while0b_v54 : Ref sig .tc := ⟨.hbm, 78, rfl⟩
abbrev main_while0b_call6_v0 : Ref sig .tc := ⟨.hbm, 79, rfl⟩
abbrev main_while0b_call6_c : Ref sig .tc := ⟨.hbm, 80, rfl⟩
abbrev main_while0b_call6_c_0 : Ref sig .tc := ⟨.hbm, 81, rfl⟩
abbrev main_while0b_call6_c_1 : Ref sig .tc := ⟨.hbm, 82, rfl⟩
abbrev main_while0b_v55 : Ref sig .tc := ⟨.hbm, 83, rfl⟩
abbrev main_while0b_call7_v0 : Ref sig .tc := ⟨.hbm, 84, rfl⟩
abbrev main_while0b_call7_c : Ref sig .tc := ⟨.hbm, 85, rfl⟩
abbrev main_while0b_call7_c_0 : Ref sig .tc := ⟨.hbm, 86, rfl⟩
abbrev main_while0b_call7_c_1 : Ref sig .tc := ⟨.hbm, 87, rfl⟩
abbrev main_while0b_v56 : Ref sig .tc := ⟨.hbm, 88, rfl⟩
abbrev main_while0b_call8_v0 : Ref sig .tc := ⟨.hbm, 89, rfl⟩
abbrev main_while0b_call8_c : Ref sig .tc := ⟨.hbm, 90, rfl⟩
abbrev main_while0b_call8_c_0 : Ref sig .tc := ⟨.hbm, 91, rfl⟩
abbrev main_while0b_call8_c_1 : Ref sig .tc := ⟨.hbm, 92, rfl⟩
abbrev main_while0b_v57 : Ref sig .tc := ⟨.hbm, 93, rfl⟩
abbrev main_while0b_c_22 : Ref sig .tc := ⟨.hbm, 94, rfl⟩
abbrev main_while0b_v58 : Ref sig .tc := ⟨.hbm, 95, rfl⟩
abbrev main_v16 : Ref sig .tc := ⟨.hbm, 96, rfl⟩
abbrev main_v17 : Ref sig .tc := ⟨.hbm, 97, rfl⟩
abbrev main_cst_3 : Ref sig .tc := ⟨.hbm, 98, rfl⟩
abbrev main_v18 : Ref sig .tc := ⟨.hbm, 99, rfl⟩
abbrev main_v19 : Ref sig .tc := ⟨.hbm, 100, rfl⟩
abbrev main_v20 : Ref sig .tc := ⟨.hbm, 101, rfl⟩
abbrev main_cst_4 : Ref sig .tc := ⟨.hbm, 102, rfl⟩
abbrev main_v21 : Ref sig .tc := ⟨.hbm, 103, rfl⟩
abbrev main_cst_5 : Ref sig .tc := ⟨.hbm, 104, rfl⟩
abbrev main_v22 : Ref sig .tc := ⟨.hbm, 105, rfl⟩
abbrev main_cst_6 : Ref sig .tc := ⟨.hbm, 106, rfl⟩
abbrev main_v23 : Ref sig .tc := ⟨.hbm, 107, rfl⟩
abbrev main_cst_7 : Ref sig .tc := ⟨.hbm, 108, rfl⟩
abbrev main_v24 : Ref sig .tc := ⟨.hbm, 109, rfl⟩
abbrev main_cst_8 : Ref sig .tc := ⟨.hbm, 110, rfl⟩
abbrev main_v25 : Ref sig .tc := ⟨.hbm, 111, rfl⟩
abbrev main_cst_9 : Ref sig .tc := ⟨.hbm, 112, rfl⟩
abbrev main_v26 : Ref sig .tc := ⟨.hbm, 113, rfl⟩
abbrev main_cst_10 : Ref sig .tc := ⟨.hbm, 114, rfl⟩
abbrev main_v27 : Ref sig .tc := ⟨.hbm, 115, rfl⟩
abbrev main_c_11 : Ref sig .tc := ⟨.hbm, 116, rfl⟩
abbrev main_v28_0 : Ref sig .tc := ⟨.hbm, 117, rfl⟩
abbrev main_v28_1 : Ref sig .tc := ⟨.hbm, 118, rfl⟩
abbrev main_v28_2 : Ref sig .tc := ⟨.hbm, 119, rfl⟩
abbrev main_v28_3 : Ref sig .tc := ⟨.hbm, 120, rfl⟩
abbrev main_v28_4 : Ref sig .tc := ⟨.hbm, 121, rfl⟩
abbrev main_v28_5 : Ref sig .tc := ⟨.hbm, 122, rfl⟩
abbrev main_v28_6 : Ref sig .tc := ⟨.hbm, 123, rfl⟩
abbrev main_v28_7 : Ref sig .tc := ⟨.hbm, 124, rfl⟩
abbrev main_v28_8 : Ref sig .tc := ⟨.hbm, 125, rfl⟩
abbrev main_v28_9 : Ref sig .tc := ⟨.hbm, 126, rfl⟩
abbrev main_v28_10 : Ref sig .tc := ⟨.hbm, 127, rfl⟩
abbrev main_v28_11 : Ref sig .tc := ⟨.hbm, 128, rfl⟩
abbrev main_v28_12 : Ref sig .tc := ⟨.hbm, 129, rfl⟩
abbrev main_v28_13 : Ref sig .tc := ⟨.hbm, 130, rfl⟩
abbrev main_v28_14 : Ref sig .tc := ⟨.hbm, 131, rfl⟩
abbrev main_v28_15 : Ref sig .tc := ⟨.hbm, 132, rfl⟩
abbrev main_while1c_c_27 : Ref sig .tc := ⟨.hbm, 133, rfl⟩
abbrev main_while1c_v40 : Ref sig .tc := ⟨.hbm, 134, rfl⟩
abbrev main_while1b_c_27 : Ref sig .tc := ⟨.hbm, 135, rfl⟩
abbrev main_while1b_v40 : Ref sig .tc := ⟨.hbm, 136, rfl⟩
abbrev main_while1b_c_28 : Ref sig .tc := ⟨.hbm, 137, rfl⟩
abbrev main_while1b_v41 : Ref sig .tc := ⟨.hbm, 138, rfl⟩
abbrev main_while1b_call9_c : Ref sig .tc := ⟨.hbm, 139, rfl⟩
abbrev main_while1b_call9_c_0 : Ref sig .tc := ⟨.hbm, 140, rfl⟩
abbrev main_while1b_call9_c_1 : Ref sig .tc := ⟨.hbm, 141, rfl⟩
abbrev main_while1b_call9_v0 : Ref sig .tc := ⟨.hbm, 142, rfl⟩
abbrev main_while1b_v42 : Ref sig .tc := ⟨.hbm, 143, rfl⟩
abbrev main_while1b_call10_c : Ref sig .tc := ⟨.hbm, 144, rfl⟩
abbrev main_while1b_call10_c_0 : Ref sig .tc := ⟨.hbm, 145, rfl⟩
abbrev main_while1b_call10_c_1 : Ref sig .tc := ⟨.hbm, 146, rfl⟩
abbrev main_while1b_call10_v0 : Ref sig .tc := ⟨.hbm, 147, rfl⟩
abbrev main_while1b_v43 : Ref sig .tc := ⟨.hbm, 148, rfl⟩
abbrev main_while1b_call11_c : Ref sig .tc := ⟨.hbm, 149, rfl⟩
abbrev main_while1b_call11_c_0 : Ref sig .tc := ⟨.hbm, 150, rfl⟩
abbrev main_while1b_call11_c_1 : Ref sig .tc := ⟨.hbm, 151, rfl⟩
abbrev main_while1b_call11_v0 : Ref sig .tc := ⟨.hbm, 152, rfl⟩
abbrev main_while1b_v44 : Ref sig .tc := ⟨.hbm, 153, rfl⟩
abbrev main_while1b_call12_c : Ref sig .tc := ⟨.hbm, 154, rfl⟩
abbrev main_while1b_call12_c_0 : Ref sig .tc := ⟨.hbm, 155, rfl⟩
abbrev main_while1b_call12_c_1 : Ref sig .tc := ⟨.hbm, 156, rfl⟩
abbrev main_while1b_call12_v0 : Ref sig .tc := ⟨.hbm, 157, rfl⟩
abbrev main_while1b_v45 : Ref sig .tc := ⟨.hbm, 158, rfl⟩
abbrev main_while1b_call13_c : Ref sig .tc := ⟨.hbm, 159, rfl⟩
abbrev main_while1b_call13_c_0 : Ref sig .tc := ⟨.hbm, 160, rfl⟩
abbrev main_while1b_call13_c_1 : Ref sig .tc := ⟨.hbm, 161, rfl⟩
abbrev main_while1b_call13_v0 : Ref sig .tc := ⟨.hbm, 162, rfl⟩
abbrev main_while1b_v46 : Ref sig .tc := ⟨.hbm, 163, rfl⟩
abbrev main_while1b_call14_c : Ref sig .tc := ⟨.hbm, 164, rfl⟩
abbrev main_while1b_call14_c_0 : Ref sig .tc := ⟨.hbm, 165, rfl⟩
abbrev main_while1b_call14_c_1 : Ref sig .tc := ⟨.hbm, 166, rfl⟩
abbrev main_while1b_call14_v0 : Ref sig .tc := ⟨.hbm, 167, rfl⟩
abbrev main_while1b_v47 : Ref sig .tc := ⟨.hbm, 168, rfl⟩
abbrev main_while1b_call15_c : Ref sig .tc := ⟨.hbm, 169, rfl⟩
abbrev main_while1b_call15_c_0 : Ref sig .tc := ⟨.hbm, 170, rfl⟩
abbrev main_while1b_call15_c_1 : Ref sig .tc := ⟨.hbm, 171, rfl⟩
abbrev main_while1b_call15_v0 : Ref sig .tc := ⟨.hbm, 172, rfl⟩
abbrev main_while1b_v48 : Ref sig .tc := ⟨.hbm, 173, rfl⟩
abbrev main_while1b_call16_c : Ref sig .tc := ⟨.hbm, 174, rfl⟩
abbrev main_while1b_call16_c_0 : Ref sig .tc := ⟨.hbm, 175, rfl⟩
abbrev main_while1b_call16_c_1 : Ref sig .tc := ⟨.hbm, 176, rfl⟩
abbrev main_while1b_call16_v0 : Ref sig .tc := ⟨.hbm, 177, rfl⟩
abbrev main_while1b_v49 : Ref sig .tc := ⟨.hbm, 178, rfl⟩
abbrev main_while1b_v50 : Ref sig .tc := ⟨.hbm, 179, rfl⟩
abbrev main_while1b_v51 : Ref sig .tc := ⟨.hbm, 180, rfl⟩
abbrev main_while1b_v52 : Ref sig .tc := ⟨.hbm, 181, rfl⟩
abbrev main_while1b_v53 : Ref sig .tc := ⟨.hbm, 182, rfl⟩
abbrev main_while1b_v54 : Ref sig .tc := ⟨.hbm, 183, rfl⟩
abbrev main_while1b_cst_29 : Ref sig .tc := ⟨.hbm, 184, rfl⟩
abbrev main_while1b_v55 : Ref sig .tc := ⟨.hbm, 185, rfl⟩
abbrev main_while1b_v56 : Ref sig .tc := ⟨.hbm, 186, rfl⟩
abbrev main_while1b_v57 : Ref sig .tc := ⟨.hbm, 187, rfl⟩
abbrev main_while1b_v58 : Ref sig .tc := ⟨.hbm, 188, rfl⟩
abbrev main_while1b_v59 : Ref sig .tc := ⟨.hbm, 189, rfl⟩
abbrev main_while1b_v60 : Ref sig .tc := ⟨.hbm, 190, rfl⟩
abbrev main_while1b_v61 : Ref sig .tc := ⟨.hbm, 191, rfl⟩
abbrev main_while1b_v62 : Ref sig .tc := ⟨.hbm, 192, rfl⟩
abbrev main_while1b_v63 : Ref sig .tc := ⟨.hbm, 193, rfl⟩
abbrev main_while1b_v64 : Ref sig .tc := ⟨.hbm, 194, rfl⟩
abbrev main_while1b_v65 : Ref sig .tc := ⟨.hbm, 195, rfl⟩
abbrev main_while1b_v66 : Ref sig .tc := ⟨.hbm, 196, rfl⟩
abbrev main_while1b_v67 : Ref sig .tc := ⟨.hbm, 197, rfl⟩
abbrev main_while1b_v68 : Ref sig .tc := ⟨.hbm, 198, rfl⟩
abbrev main_while1b_v69 : Ref sig .tc := ⟨.hbm, 199, rfl⟩
abbrev main_while1b_v70 : Ref sig .tc := ⟨.hbm, 200, rfl⟩
abbrev main_while1b_v71 : Ref sig .tc := ⟨.hbm, 201, rfl⟩
abbrev main_while1b_call17_v0 : Ref sig .tc := ⟨.hbm, 202, rfl⟩
abbrev main_while1b_call17_c : Ref sig .tc := ⟨.hbm, 203, rfl⟩
abbrev main_while1b_call17_c_0 : Ref sig .tc := ⟨.hbm, 204, rfl⟩
abbrev main_while1b_call17_c_1 : Ref sig .tc := ⟨.hbm, 205, rfl⟩
abbrev main_while1b_v72 : Ref sig .tc := ⟨.hbm, 206, rfl⟩
abbrev main_while1b_call18_v0 : Ref sig .tc := ⟨.hbm, 207, rfl⟩
abbrev main_while1b_call18_c : Ref sig .tc := ⟨.hbm, 208, rfl⟩
abbrev main_while1b_call18_c_0 : Ref sig .tc := ⟨.hbm, 209, rfl⟩
abbrev main_while1b_call18_c_1 : Ref sig .tc := ⟨.hbm, 210, rfl⟩
abbrev main_while1b_v73 : Ref sig .tc := ⟨.hbm, 211, rfl⟩
abbrev main_while1b_call19_v0 : Ref sig .tc := ⟨.hbm, 212, rfl⟩
abbrev main_while1b_call19_c : Ref sig .tc := ⟨.hbm, 213, rfl⟩
abbrev main_while1b_call19_c_0 : Ref sig .tc := ⟨.hbm, 214, rfl⟩
abbrev main_while1b_call19_c_1 : Ref sig .tc := ⟨.hbm, 215, rfl⟩
abbrev main_while1b_v74 : Ref sig .tc := ⟨.hbm, 216, rfl⟩
abbrev main_while1b_call20_v0 : Ref sig .tc := ⟨.hbm, 217, rfl⟩
abbrev main_while1b_call20_c : Ref sig .tc := ⟨.hbm, 218, rfl⟩
abbrev main_while1b_call20_c_0 : Ref sig .tc := ⟨.hbm, 219, rfl⟩
abbrev main_while1b_call20_c_1 : Ref sig .tc := ⟨.hbm, 220, rfl⟩
abbrev main_while1b_v75 : Ref sig .tc := ⟨.hbm, 221, rfl⟩
abbrev main_while1b_call21_v0 : Ref sig .tc := ⟨.hbm, 222, rfl⟩
abbrev main_while1b_call21_c : Ref sig .tc := ⟨.hbm, 223, rfl⟩
abbrev main_while1b_call21_c_0 : Ref sig .tc := ⟨.hbm, 224, rfl⟩
abbrev main_while1b_call21_c_1 : Ref sig .tc := ⟨.hbm, 225, rfl⟩
abbrev main_while1b_v76 : Ref sig .tc := ⟨.hbm, 226, rfl⟩
abbrev main_while1b_call22_v0 : Ref sig .tc := ⟨.hbm, 227, rfl⟩
abbrev main_while1b_call22_c : Ref sig .tc := ⟨.hbm, 228, rfl⟩
abbrev main_while1b_call22_c_0 : Ref sig .tc := ⟨.hbm, 229, rfl⟩
abbrev main_while1b_call22_c_1 : Ref sig .tc := ⟨.hbm, 230, rfl⟩
abbrev main_while1b_v77 : Ref sig .tc := ⟨.hbm, 231, rfl⟩
abbrev main_while1b_c_30 : Ref sig .tc := ⟨.hbm, 232, rfl⟩
abbrev main_while1b_v78 : Ref sig .tc := ⟨.hbm, 233, rfl⟩
abbrev main_v29 : Ref sig .tc := ⟨.hbm, 234, rfl⟩
abbrev main_v30 : Ref sig .tc := ⟨.hbm, 235, rfl⟩
abbrev main_v31 : Ref sig .tc := ⟨.hbm, 236, rfl⟩
abbrev main_v32 : Ref sig .tc := ⟨.hbm, 237, rfl⟩
abbrev main_v33 : Ref sig .tc := ⟨.hbm, 238, rfl⟩
abbrev main_v34 : Ref sig .tc := ⟨.hbm, 239, rfl⟩
abbrev main_v35 : Ref sig .tc := ⟨.hbm, 240, rfl⟩
abbrev main_v36 : Ref sig .tc := ⟨.hbm, 241, rfl⟩
abbrev main_v37 : Ref sig .tc := ⟨.hbm, 242, rfl⟩
abbrev main_v38 : Ref sig .tc := ⟨.hbm, 243, rfl⟩
abbrev main_v39 : Ref sig .tc := ⟨.hbm, 244, rfl⟩

abbrev nD : Nat := 1
abbrev τ : Topo := Topo.v7x

variable {F : FTy → Type} [FloatOps F]

abbrev main_while0_count : Scf.Loop 32 := ⟨0#32, 32#32, 1#32⟩

abbrev main_while1_count : Scf.Loop 32 := ⟨0#32, 32#32, 1#32⟩
-- ==== Kernel2.lean ====
abbrev S2048x8192 : Shape := ⟨2, ![2048, 8192]⟩
abbrev S2048x2048 : Shape := ⟨2, ![2048, 2048]⟩
abbrev S8192x2048 : Shape := ⟨2, ![8192, 2048]⟩
abbrev S2048x1024 : Shape := ⟨2, ![2048, 1024]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S2048x8192, .bf16⟩
  | .hbm, ⟨1, _⟩ => ⟨S2048x2048, .bf16⟩
  | .hbm, ⟨2, _⟩ => ⟨S8192x2048, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .bf16⟩
  | .local _ .vmem, ⟨5, _⟩ => ⟨S1024x1024, .bf16⟩
  | _, _ => ⟨S2048x8192, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference2Ideal.lean ====
abbrev S2048x8192 : Shape := ⟨2, ![2048, 8192]⟩
abbrev S2048x2048 : Shape := ⟨2, ![2048, 2048]⟩
abbrev S_ : Shape := ⟨0, ![]⟩
abbrev S8192x2048 : Shape := ⟨2, ![8192, 2048]⟩

abbrev nBuf : Space → Nat
  | .hbm => 10
  | .vmem => 0
  | .smem => 0
  | _ => 0

abbrev bufTy : (tb : Table) → Fin (tcTables nBuf tb) → BufTy
  | .hbm, ⟨0, _⟩ => ⟨S2048x8192, .bf16⟩
  | .hbm, ⟨1, _⟩ => ⟨S2048x2048, .bf16⟩
  | .hbm, ⟨2, _⟩ => ⟨S2048x8192, .f32⟩
  | .hbm, ⟨3, _⟩ => ⟨S2048x2048, .f32⟩
  | .hbm, ⟨4, _⟩ => ⟨S_, .f32⟩
  | .hbm, ⟨5, _⟩ => ⟨S8192x2048, .f32⟩
  | .hbm, ⟨6, _⟩ => ⟨S2048x2048, .f32⟩
  | .hbm, ⟨7, _⟩ => ⟨S2048x8192, .f32⟩
  | .hbm, ⟨8, _⟩ => ⟨S8192x2048, .f32⟩
  | .hbm, ⟨9, _⟩ => ⟨S8192x2048, .bf16⟩
  | _, _ => ⟨S2048x8192, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel3.lean ====
abbrev S2048x2048 : Shape := ⟨2, ![2048, 2048]⟩
abbrev S2048x8192 : Shape := ⟨2, ![2048, 8192]⟩
abbrev S8x2048x1024 : Shape := ⟨3, ![8, 2048, 1024]⟩
abbrev S2048x1024 : Shape := ⟨2, ![2048, 1024]⟩
abbrev S1x1024x1024 : Shape := ⟨3, ![1, 1024, 1024]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S2048x2048, .bf16⟩
  | .hbm, ⟨1, _⟩ => ⟨S2048x8192, .bf16⟩
  | .hbm, ⟨2, _⟩ => ⟨S8x2048x1024, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1x1024x1024, .bf16⟩
  | .local _ .vmem, ⟨5, _⟩ => ⟨S1x1024x1024, .bf16⟩
  | _, _ => ⟨S2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg1 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg0.toNat, v26.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference3Ideal.lean ====
abbrev S2048x2048 : Shape := ⟨2, ![2048, 2048]⟩
abbrev S2048x8192 : Shape := ⟨2, ![2048, 8192]⟩
abbrev S_ : Shape := ⟨0, ![]⟩
abbrev S8x2048x1024 : Shape := ⟨3, ![8, 2048, 1024]⟩
abbrev S2048x8x1024 : Shape := ⟨3, ![2048, 8, 1024]⟩
abbrev S8192x2048 : Shape := ⟨2, ![8192, 2048]⟩

abbrev nBuf : Space → Nat
  | .hbm => 14
  | .vmem => 0
  | .smem => 0
  | _ => 0

abbrev bufTy : (tb : Table) → Fin (tcTables nBuf tb) → BufTy
  | .hbm, ⟨0, _⟩ => ⟨S2048x2048, .bf16⟩
  | .hbm, ⟨1, _⟩ => ⟨S2048x8192, .bf16⟩
  | .hbm, ⟨2, _⟩ => ⟨S2048x2048, .f32⟩
  | .hbm, ⟨3, _⟩ => ⟨S2048x8192, .f32⟩
  | .hbm, ⟨4, _⟩ => ⟨S_, .f32⟩
  | .hbm, ⟨5, _⟩ => ⟨S8x2048x1024, .f32⟩
  | .hbm, ⟨6, _⟩ => ⟨S2048x8x1024, .f32⟩
  | .hbm, ⟨7, _⟩ => ⟨S2048x8192, .f32⟩
  | .hbm, ⟨8, _⟩ => ⟨S2048x8192, .f32⟩
  | .hbm, ⟨9, _⟩ => ⟨S8192x2048, .f32⟩
  | .hbm, ⟨10, _⟩ => ⟨S2048x8192, .f32⟩
  | .hbm, ⟨11, _⟩ => ⟨S2048x8x1024, .f32⟩
  | .hbm, ⟨12, _⟩ => ⟨S8x2048x1024, .f32⟩
  | .hbm, ⟨13, _⟩ => ⟨S8x2048x1024, .bf16⟩
  | _, _ => ⟨S2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩

abbrev nD : Nat := 1
abbrev τ : Topo := Topo.v7x

variable {F : FTy → Type} [FloatOps F]
-- ==== Kernel4.lean ====
abbrev S2048x2048 : Shape := ⟨2, ![2048, 2048]⟩
abbrev S2048x1024 : Shape := ⟨2, ![2048, 1024]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S2048x2048, .bf16⟩
  | .hbm, ⟨1, _⟩ => ⟨S2048x2048, .bf16⟩
  | .hbm, ⟨2, _⟩ => ⟨S2048x2048, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .bf16⟩
  | .local _ .vmem, ⟨5, _⟩ => ⟨S1024x1024, .bf16⟩
  | _, _ => ⟨S2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference4Ideal.lean ====
abbrev S2048x2048 : Shape := ⟨2, ![2048, 2048]⟩
abbrev S_ : Shape := ⟨0, ![]⟩

abbrev nBuf : Space → Nat
  | .hbm => 10
  | .vmem => 0
  | .smem => 0
  | _ => 0

abbrev bufTy : (tb : Table) → Fin (tcTables nBuf tb) → BufTy
  | .hbm, ⟨0, _⟩ => ⟨S2048x2048, .bf16⟩
  | .hbm, ⟨1, _⟩ => ⟨S2048x2048, .bf16⟩
  | .hbm, ⟨2, _⟩ => ⟨S2048x2048, .f32⟩
  | .hbm, ⟨3, _⟩ => ⟨S2048x2048, .f32⟩
  | .hbm, ⟨4, _⟩ => ⟨S_, .f32⟩
  | .hbm, ⟨5, _⟩ => ⟨S2048x2048, .f32⟩
  | .hbm, ⟨6, _⟩ => ⟨S2048x2048, .f32⟩
  | .hbm, ⟨7, _⟩ => ⟨S2048x2048, .f32⟩
  | .hbm, ⟨8, _⟩ => ⟨S2048x2048, .f32⟩
  | .hbm, ⟨9, _⟩ => ⟨S2048x2048, .bf16⟩
  | _, _ => ⟨S2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel5.lean ====
abbrev S2048x1024 : Shape := ⟨2, ![2048, 1024]⟩
abbrev S2048x2048 : Shape := ⟨2, ![2048, 2048]⟩
abbrev S8x1024x256 : Shape := ⟨3, ![8, 1024, 256]⟩
abbrev S2048x256 : Shape := ⟨2, ![2048, 256]⟩
abbrev S1x1024x256 : Shape := ⟨3, ![1, 1024, 256]⟩
abbrev S1024x256 : Shape := ⟨2, ![1024, 256]⟩

abbrev nBuf : Space → Nat
  | .hbm => 3
  | .vmem => 5
  | .smem => 0
  | _ => 0

abbrev bufTy : (tb : Table) → Fin (tcTables nBuf tb) → BufTy
  | .hbm, ⟨0, _⟩ => ⟨S2048x1024, .bf16⟩
  | .hbm, ⟨1, _⟩ => ⟨S2048x2048, .bf16⟩
  | .hbm, ⟨2, _⟩ => ⟨S8x1024x256, .bf16⟩
  | .local _ .vmem, ⟨0, _⟩ => ⟨S2048x1024, .bf16⟩
  | .local _ .vmem, ⟨1, _⟩ => ⟨S2048x256, .bf16⟩
  | .local _ .vmem, ⟨2, _⟩ => ⟨S2048x256, .bf16⟩
  | .local _ .vmem, ⟨3, _⟩ => ⟨S1x1024x256, .bf16⟩
  | .local _ .vmem, ⟨4, _⟩ => ⟨S1x1024x256, .bf16⟩
  | _, _ => ⟨S2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![1, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg1 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg0.toNat, v26.toNat]

abbrev stage0_0 : Fin 1 → Memref sig .tc .vmem S2048x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 2 → Memref sig .tc .vmem S2048x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference5Ideal.lean ====
abbrev S2048x1024 : Shape := ⟨2, ![2048, 1024]⟩
abbrev S2048x2048 : Shape := ⟨2, ![2048, 2048]⟩
abbrev S_ : Shape := ⟨0, ![]⟩
abbrev S8x1024x256 : Shape := ⟨3, ![8, 1024, 256]⟩
abbrev S1024x8x256 : Shape := ⟨3, ![1024, 8, 256]⟩
abbrev S1024x2048 : Shape := ⟨2, ![1024, 2048]⟩

abbrev nBuf : Space → Nat
  | .hbm => 14
  | .vmem => 0
  | .smem => 0
  | _ => 0

abbrev bufTy : (tb : Table) → Fin (tcTables nBuf tb) → BufTy
  | .hbm, ⟨0, _⟩ => ⟨S2048x1024, .bf16⟩
  | .hbm, ⟨1, _⟩ => ⟨S2048x2048, .bf16⟩
  | .hbm, ⟨2, _⟩ => ⟨S2048x1024, .f32⟩
  | .hbm, ⟨3, _⟩ => ⟨S2048x2048, .f32⟩
  | .hbm, ⟨4, _⟩ => ⟨S_, .f32⟩
  | .hbm, ⟨5, _⟩ => ⟨S8x1024x256, .f32⟩
  | .hbm, ⟨6, _⟩ => ⟨S1024x8x256, .f32⟩
  | .hbm, ⟨7, _⟩ => ⟨S1024x2048, .f32⟩
  | .hbm, ⟨8, _⟩ => ⟨S2048x2048, .f32⟩
  | .hbm, ⟨9, _⟩ => ⟨S2048x1024, .f32⟩
  | .hbm, ⟨10, _⟩ => ⟨S1024x2048, .f32⟩
  | .hbm, ⟨11, _⟩ => ⟨S1024x8x256, .f32⟩
  | .hbm, ⟨12, _⟩ => ⟨S8x1024x256, .f32⟩
  | .hbm, ⟨13, _⟩ => ⟨S8x1024x256, .bf16⟩
  | _, _ => ⟨S2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩

abbrev nD : Nat := 1
abbrev τ : Topo := Topo.v7x

variable {F : FTy → Type} [FloatOps F]
-- ==== Kernel6.lean ====
abbrev S2048x15488 : Shape := ⟨2, ![2048, 15488]⟩
abbrev S2048x2048 : Shape := ⟨2, ![2048, 2048]⟩
abbrev S15488x2048 : Shape := ⟨2, ![15488, 2048]⟩
abbrev S2048x1408 : Shape := ⟨2, ![2048, 1408]⟩
abbrev S2048x1024 : Shape := ⟨2, ![2048, 1024]⟩
abbrev S1408x1024 : Shape := ⟨2, ![1408, 1024]⟩

abbrev nBuf : Space → Nat
  | .hbm => 3
  | .vmem => 6
  | .smem => 0
  | _ => 0

abbrev bufTy : (tb : Table) → Fin (tcTables nBuf tb) → BufTy
  | .hbm, ⟨0, _⟩ => ⟨S2048x15488, .bf16⟩
  | .hbm, ⟨1, _⟩ => ⟨S2048x2048, .bf16⟩
  | .hbm, ⟨2, _⟩ => ⟨S15488x2048, .bf16⟩
  | .local _ .vmem, ⟨0, _⟩ => ⟨S2048x1408, .bf16⟩
  | .local _ .vmem, ⟨1, _⟩ => ⟨S2048x1408, .bf16⟩
  | .local _ .vmem, ⟨2, _⟩ => ⟨S2048x1024, .bf16⟩
  | .local _ .vmem, ⟨3, _⟩ => ⟨S2048x1024, .bf16⟩
  | .local _ .vmem, ⟨4, _⟩ => ⟨S1408x1024, .bf16⟩
  | .local _ .vmem, ⟨5, _⟩ => ⟨S1408x1024, .bf16⟩
  | _, _ => ⟨S2048x15488, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![11, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1408x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference6Ideal.lean ====
abbrev S2048x15488 : Shape := ⟨2, ![2048, 15488]⟩
abbrev S2048x2048 : Shape := ⟨2, ![2048, 2048]⟩
abbrev S_ : Shape := ⟨0, ![]⟩
abbrev S15488x2048 : Shape := ⟨2, ![15488, 2048]⟩

abbrev nBuf : Space → Nat
  | .hbm => 12
  | .vmem => 0
  | .smem => 0
  | _ => 0

abbrev bufTy : (tb : Table) → Fin (tcTables nBuf tb) → BufTy
  | .hbm, ⟨0, _⟩ => ⟨S2048x15488, .bf16⟩
  | .hbm, ⟨1, _⟩ => ⟨S2048x2048, .bf16⟩
  | .hbm, ⟨2, _⟩ => ⟨S2048x15488, .f32⟩
  | .hbm, ⟨3, _⟩ => ⟨S2048x2048, .f32⟩
  | .hbm, ⟨4, _⟩ => ⟨S_, .f32⟩
  | .hbm, ⟨5, _⟩ => ⟨S15488x2048, .f32⟩
  | .hbm, ⟨6, _⟩ => ⟨S2048x15488, .f32⟩
  | .hbm, ⟨7, _⟩ => ⟨S2048x15488, .f32⟩
  | .hbm, ⟨8, _⟩ => ⟨S15488x2048, .f32⟩
  | .hbm, ⟨9, _⟩ => ⟨S2048x15488, .f32⟩
  | .hbm, ⟨10, _⟩ => ⟨S15488x2048, .f32⟩
  | .hbm, ⟨11, _⟩ => ⟨S15488x2048, .bf16⟩
  | _, _ => ⟨S2048x15488, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩

abbrev nD : Nat := 1
abbrev τ : Topo := Topo.v7x

variable {F : FTy → Type} [FloatOps F]
-- ==== Kernel7.lean ====
abbrev S2048x15488 : Shape := ⟨2, ![2048, 15488]⟩
abbrev S15488x2048 : Shape := ⟨2, ![15488, 2048]⟩
abbrev S2048x2048 : Shape := ⟨2, ![2048, 2048]⟩
abbrev S1024x1408 : Shape := ⟨2, ![1024, 1408]⟩
abbrev S1408x1024 : Shape := ⟨2, ![1408, 1024]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S2048x15488, .bf16⟩
  | .hbm, ⟨1, _⟩ => ⟨S15488x2048, .bf16⟩
  | .hbm, ⟨2, _⟩ => ⟨S2048x2048, .f32⟩
  | .local _ .vmem, ⟨0, _⟩ => ⟨S1024x1408, .bf16⟩
  | .local _ .vmem, ⟨1, _⟩ => ⟨S1024x1408, .bf16⟩
  | .local _ .vmem, ⟨2, _⟩ => ⟨S1408x1024, .bf16⟩
  | .local _ .vmem, ⟨3, _⟩ => ⟨S1408x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S2048x15488, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 2, 11], ![false, false, false]⟩

def k0_cond3 (i : grid0.Coords) : BitVec 1 :=
  let arg2 : BitVec 32 := BitVec.ofNat 32 (i 2).val
  let c10_i32 : BitVec 32 := 10#32
  let v9 : BitVec 1 := Scalar.cmpi .eq arg2 c10_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1408x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference7Ideal.lean ====
abbrev S2048x15488 : Shape := ⟨2, ![2048, 15488]⟩
abbrev S15488x2048 : Shape := ⟨2, ![15488, 2048]⟩
abbrev S_ : Shape := ⟨0, ![]⟩
abbrev S2048x2048 : Shape := ⟨2, ![2048, 2048]⟩

abbrev nBuf : Space → Nat
  | .hbm => 9
  | .vmem => 0
  | .smem => 0
  | _ => 0

abbrev bufTy : (tb : Table) → Fin (tcTables nBuf tb) → BufTy
  | .hbm, ⟨0, _⟩ => ⟨S2048x15488, .bf16⟩
  | .hbm, ⟨1, _⟩ => ⟨S15488x2048, .bf16⟩
  | .hbm, ⟨2, _⟩ => ⟨S2048x15488, .f32⟩
  | .hbm, ⟨3, _⟩ => ⟨S15488x2048, .f32⟩
  | .hbm, ⟨4, _⟩ => ⟨S_, .f32⟩
  | .hbm, ⟨5, _⟩ => ⟨S2048x2048, .f32⟩
  | .hbm, ⟨6, _⟩ => ⟨S2048x15488, .f32⟩
  | .hbm, ⟨7, _⟩ => ⟨S2048x15488, .f32⟩
  | .hbm, ⟨8, _⟩ => ⟨S2048x2048, .f32⟩
  | _, _ => ⟨S2048x15488, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel8.lean ====
abbrev S2048x2048 : Shape := ⟨2, ![2048, 2048]⟩
abbrev S8x1024x2048 : Shape := ⟨3, ![8, 1024, 2048]⟩
abbrev S2048x8192 : Shape := ⟨2, ![2048, 8192]⟩
abbrev S1024x2048 : Shape := ⟨2, ![1024, 2048]⟩
abbrev S1x1024x2048 : Shape := ⟨3, ![1, 1024, 2048]⟩
abbrev S1024x1024 : Shape := ⟨2, ![1024, 1024]⟩

abbrev nBuf : Space → Nat
  | .hbm => 4
  | .vmem => 8
  | .smem => 0
  | _ => 0

abbrev bufTy : (tb : Table) → Fin (tcTables nBuf tb) → BufTy
  | .hbm, ⟨0, _⟩ => ⟨S2048x2048, .bf16⟩
  | .hbm, ⟨1, _⟩ => ⟨S8x1024x2048, .bf16⟩
  | .hbm, ⟨2, _⟩ => ⟨S2048x8192, .f32⟩
  | .hbm, ⟨3, _⟩ => ⟨S2048x8192, .bf16⟩
  | .local _ .vmem, ⟨0, _⟩ => ⟨S1024x2048, .bf16⟩
  | .local _ .vmem, ⟨1, _⟩ => ⟨S1024x2048, .bf16⟩
  | .local _ .vmem, ⟨2, _⟩ => ⟨S1x1024x2048, .bf16⟩
  | .local _ .vmem, ⟨3, _⟩ => ⟨S1x1024x2048, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .bf16⟩
  | .local _ .vmem, ⟨7, _⟩ => ⟨S1024x1024, .bf16⟩
  | _, _ => ⟨S2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![2, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg1 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, v26.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Reference8Ideal.lean ====
abbrev S2048x2048 : Shape := ⟨2, ![2048, 2048]⟩
abbrev S8x1024x2048 : Shape := ⟨3, ![8, 1024, 2048]⟩
abbrev S2048x8192 : Shape := ⟨2, ![2048, 8192]⟩
abbrev S_ : Shape := ⟨0, ![]⟩
abbrev S8192x2048 : Shape := ⟨2, ![8192, 2048]⟩

abbrev nBuf : Space → Nat
  | .hbm => 25
  | .vmem => 0
  | .smem => 0
  | _ => 0

abbrev bufTy : (tb : Table) → Fin (tcTables nBuf tb) → BufTy
  | .hbm, ⟨0, _⟩ => ⟨S2048x2048, .bf16⟩
  | .hbm, ⟨1, _⟩ => ⟨S8x1024x2048, .bf16⟩
  | .hbm, ⟨2, _⟩ => ⟨S2048x8192, .f32⟩
  | .hbm, ⟨3, _⟩ => ⟨S2048x2048, .f32⟩
  | .hbm, ⟨4, _⟩ => ⟨S8x1024x2048, .f32⟩
  | .hbm, ⟨5, _⟩ => ⟨S_, .f32⟩
  | .hbm, ⟨6, _⟩ => ⟨S2048x8192, .f32⟩
  | .hbm, ⟨7, _⟩ => ⟨S2048x8192, .f32⟩
  | .hbm, ⟨8, _⟩ => ⟨S_, .f32⟩
  | .hbm, ⟨9, _⟩ => ⟨S2048x8192, .f32⟩
  | .hbm, ⟨10, _⟩ => ⟨S2048x8192, .i1⟩
  | .hbm, ⟨11, _⟩ => ⟨S_, .f32⟩
  | .hbm, ⟨12, _⟩ => ⟨S2048x8192, .f32⟩
  | .hbm, ⟨13, _⟩ => ⟨S2048x8192, .f32⟩
  | .hbm, ⟨14, _⟩ => ⟨S_, .f32⟩
  | .hbm, ⟨15, _⟩ => ⟨S2048x8192, .f32⟩
  | .hbm, ⟨16, _⟩ => ⟨S2048x8192, .f32⟩
  | .hbm, ⟨17, _⟩ => ⟨S8192x2048, .f32⟩
  | .hbm, ⟨18, _⟩ => ⟨S2048x2048, .f32⟩
  | .hbm, ⟨19, _⟩ => ⟨S2048x8192, .f32⟩
  | .hbm, ⟨20, _⟩ => ⟨S2048x8192, .f32⟩
  | .hbm, ⟨21, _⟩ => ⟨S_, .f32⟩
  | .hbm, ⟨22, _⟩ => ⟨S2048x8192, .f32⟩
  | .hbm, ⟨23, _⟩ => ⟨S2048x8192, .f32⟩
  | .hbm, ⟨24, _⟩ => ⟨S2048x8192, .bf16⟩
  | _, _ => ⟨S2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_call0_cst : Ref sig .tc := ⟨.hbm, 5, rfl⟩
abbrev main_call0_v0 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst_2 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩

abbrev nD : Nat := 1
abbrev τ : Topo := Topo.v7x

variable {F : FTy → Type} [FloatOps F]
-- ==== Kernel9.lean ====
abbrev S2048x2048 : Shape := ⟨2, ![2048, 2048]⟩
abbrev S8x1024x256 : Shape := ⟨3, ![8, 1024, 256]⟩
abbrev S2048x1024 : Shape := ⟨2, ![2048, 1024]⟩
abbrev S1024x256 : Shape := ⟨2, ![1024, 256]⟩
abbrev S1x1024x256 : Shape := ⟨3, ![1, 1024, 256]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S2048x2048, .bf16⟩
  | .hbm, ⟨1, _⟩ => ⟨S8x1024x256, .bf16⟩
  | .hbm, ⟨2, _⟩ => ⟨S2048x1024, .f32⟩
  | .local _ .vmem, ⟨0, _⟩ => ⟨S1024x256, .bf16⟩
  | .local _ .vmem, ⟨1, _⟩ => ⟨S1024x256, .bf16⟩
  | .local _ .vmem, ⟨2, _⟩ => ⟨S1x1024x256, .bf16⟩
  | .local _ .vmem, ⟨3, _⟩ => ⟨S1x1024x256, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 1, 8], ![false, false, false]⟩

def k0_cond3 (i : grid0.Coords) : BitVec 1 :=
  let arg2 : BitVec 32 := BitVec.ofNat 32 (i 2).val
  let c7_i32 : BitVec 32 := 7#32
  let v10 : BitVec 1 := Scalar.cmpi .eq arg2 c7_i32
  let v11 : BitVec 32 := Scalar.extui v10
  let c0_i32_7 : BitVec 32 := 0#32
  let v12 : BitVec 1 := Scalar.cmpi .ne v11 c0_i32_7
  v12

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg2 c1_i32
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg2 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg2 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg1.toNat, v26.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1024x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference9Ideal.lean ====
abbrev S2048x2048 : Shape := ⟨2, ![2048, 2048]⟩
abbrev S8x1024x256 : Shape := ⟨3, ![8, 1024, 256]⟩
abbrev S_ : Shape := ⟨0, ![]⟩
abbrev S2048x1024 : Shape := ⟨2, ![2048, 1024]⟩
abbrev S1024x8x256 : Shape := ⟨3, ![1024, 8, 256]⟩
abbrev S1024x2048 : Shape := ⟨2, ![1024, 2048]⟩

abbrev nBuf : Space → Nat
  | .hbm => 10
  | .vmem => 0
  | .smem => 0
  | _ => 0

abbrev bufTy : (tb : Table) → Fin (tcTables nBuf tb) → BufTy
  | .hbm, ⟨0, _⟩ => ⟨S2048x2048, .bf16⟩
  | .hbm, ⟨1, _⟩ => ⟨S8x1024x256, .bf16⟩
  | .hbm, ⟨2, _⟩ => ⟨S2048x2048, .f32⟩
  | .hbm, ⟨3, _⟩ => ⟨S8x1024x256, .f32⟩
  | .hbm, ⟨4, _⟩ => ⟨S_, .f32⟩
  | .hbm, ⟨5, _⟩ => ⟨S2048x1024, .f32⟩
  | .hbm, ⟨6, _⟩ => ⟨S1024x8x256, .f32⟩
  | .hbm, ⟨7, _⟩ => ⟨S1024x2048, .f32⟩
  | .hbm, ⟨8, _⟩ => ⟨S2048x2048, .f32⟩
  | .hbm, ⟨9, _⟩ => ⟨S2048x1024, .f32⟩
  | _, _ => ⟨S2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel10.lean ====
abbrev S2048x1024 : Shape := ⟨2, ![2048, 1024]⟩
abbrev S8x1024x256 : Shape := ⟨3, ![8, 1024, 256]⟩
abbrev S2048x2048 : Shape := ⟨2, ![2048, 2048]⟩
abbrev S1024x1024 : Shape := ⟨2, ![1024, 1024]⟩
abbrev S1x1024x256 : Shape := ⟨3, ![1, 1024, 256]⟩
abbrev S1024x256 : Shape := ⟨2, ![1024, 256]⟩

abbrev nBuf : Space → Nat
  | .hbm => 3
  | .vmem => 6
  | .smem => 0
  | _ => 0

abbrev bufTy : (tb : Table) → Fin (tcTables nBuf tb) → BufTy
  | .hbm, ⟨0, _⟩ => ⟨S2048x1024, .bf16⟩
  | .hbm, ⟨1, _⟩ => ⟨S8x1024x256, .bf16⟩
  | .hbm, ⟨2, _⟩ => ⟨S2048x2048, .f32⟩
  | .local _ .vmem, ⟨0, _⟩ => ⟨S1024x1024, .bf16⟩
  | .local _ .vmem, ⟨1, _⟩ => ⟨S1024x1024, .bf16⟩
  | .local _ .vmem, ⟨2, _⟩ => ⟨S1x1024x256, .bf16⟩
  | .local _ .vmem, ⟨3, _⟩ => ⟨S1x1024x256, .bf16⟩
  | .local _ .vmem, ⟨4, _⟩ => ⟨S1024x256, .f32⟩
  | .local _ .vmem, ⟨5, _⟩ => ⟨S1024x256, .f32⟩
  | _, _ => ⟨S2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg1 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg2.toNat, v26.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1024x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference10Ideal.lean ====
abbrev S2048x1024 : Shape := ⟨2, ![2048, 1024]⟩
abbrev S8x1024x256 : Shape := ⟨3, ![8, 1024, 256]⟩
abbrev S1024x8x256 : Shape := ⟨3, ![1024, 8, 256]⟩
abbrev S1024x2048 : Shape := ⟨2, ![1024, 2048]⟩
abbrev S2048x2048 : Shape := ⟨2, ![2048, 2048]⟩

abbrev nBuf : Space → Nat
  | .hbm => 7
  | .vmem => 0
  | .smem => 0
  | _ => 0

abbrev bufTy : (tb : Table) → Fin (tcTables nBuf tb) → BufTy
  | .hbm, ⟨0, _⟩ => ⟨S2048x1024, .bf16⟩
  | .hbm, ⟨1, _⟩ => ⟨S8x1024x256, .bf16⟩
  | .hbm, ⟨2, _⟩ => ⟨S2048x1024, .f32⟩
  | .hbm, ⟨3, _⟩ => ⟨S8x1024x256, .f32⟩
  | .hbm, ⟨4, _⟩ => ⟨S1024x8x256, .f32⟩
  | .hbm, ⟨5, _⟩ => ⟨S1024x2048, .f32⟩
  | .hbm, ⟨6, _⟩ => ⟨S2048x2048, .f32⟩
  | _, _ => ⟨S2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== Kernel11.lean ====
abbrev S2048x2048 : Shape := ⟨2, ![2048, 2048]⟩
abbrev S8x256x2048 : Shape := ⟨3, ![8, 256, 2048]⟩
abbrev S1024x2048 : Shape := ⟨2, ![1024, 2048]⟩
abbrev S8x256x1024 : Shape := ⟨3, ![8, 256, 1024]⟩
abbrev S1024x1024 : Shape := ⟨2, ![1024, 1024]⟩
abbrev S2048x1024 : Shape := ⟨2, ![2048, 1024]⟩

abbrev nBuf : Space → Nat
  | .hbm => 4
  | .vmem => 8
  | .smem => 0
  | _ => 0

abbrev bufTy : (tb : Table) → Fin (tcTables nBuf tb) → BufTy
  | .hbm, ⟨0, _⟩ => ⟨S2048x2048, .bf16⟩
  | .hbm, ⟨1, _⟩ => ⟨S8x256x2048, .bf16⟩
  | .hbm, ⟨2, _⟩ => ⟨S2048x2048, .f32⟩
  | .hbm, ⟨3, _⟩ => ⟨S2048x2048, .f32⟩
  | .local _ .vmem, ⟨0, _⟩ => ⟨S1024x2048, .bf16⟩
  | .local _ .vmem, ⟨1, _⟩ => ⟨S1024x2048, .bf16⟩
  | .local _ .vmem, ⟨2, _⟩ => ⟨S8x256x1024, .bf16⟩
  | .local _ .vmem, ⟨3, _⟩ => ⟨S8x256x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S1024x1024, .f32⟩
  | _, _ => ⟨S2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![2, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, c0_i32.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S8x256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Reference11Ideal.lean ====
abbrev S2048x2048 : Shape := ⟨2, ![2048, 2048]⟩
abbrev S8x256x2048 : Shape := ⟨3, ![8, 256, 2048]⟩

abbrev nBuf : Space → Nat
  | .hbm => 8
  | .vmem => 0
  | .smem => 0
  | _ => 0

abbrev bufTy : (tb : Table) → Fin (tcTables nBuf tb) → BufTy
  | .hbm, ⟨0, _⟩ => ⟨S2048x2048, .bf16⟩
  | .hbm, ⟨1, _⟩ => ⟨S8x256x2048, .bf16⟩
  | .hbm, ⟨2, _⟩ => ⟨S2048x2048, .f32⟩
  | .hbm, ⟨3, _⟩ => ⟨S2048x2048, .f32⟩
  | .hbm, ⟨4, _⟩ => ⟨S8x256x2048, .f32⟩
  | .hbm, ⟨5, _⟩ => ⟨S2048x2048, .f32⟩
  | .hbm, ⟨6, _⟩ => ⟨S2048x2048, .f32⟩
  | .hbm, ⟨7, _⟩ => ⟨S2048x2048, .f32⟩
  | _, _ => ⟨S2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel12.lean ====
abbrev S2048x2048 : Shape := ⟨2, ![2048, 2048]⟩
abbrev S15488x2048 : Shape := ⟨2, ![15488, 2048]⟩
abbrev S2048x15488 : Shape := ⟨2, ![2048, 15488]⟩
abbrev S1024x2048 : Shape := ⟨2, ![1024, 2048]⟩
abbrev S1408x2048 : Shape := ⟨2, ![1408, 2048]⟩
abbrev S1024x1408 : Shape := ⟨2, ![1024, 1408]⟩

abbrev nBuf : Space → Nat
  | .hbm => 3
  | .vmem => 6
  | .smem => 0
  | _ => 0

abbrev bufTy : (tb : Table) → Fin (tcTables nBuf tb) → BufTy
  | .hbm, ⟨0, _⟩ => ⟨S2048x2048, .bf16⟩
  | .hbm, ⟨1, _⟩ => ⟨S15488x2048, .bf16⟩
  | .hbm, ⟨2, _⟩ => ⟨S2048x15488, .f32⟩
  | .local _ .vmem, ⟨0, _⟩ => ⟨S1024x2048, .bf16⟩
  | .local _ .vmem, ⟨1, _⟩ => ⟨S1024x2048, .bf16⟩
  | .local _ .vmem, ⟨2, _⟩ => ⟨S1408x2048, .bf16⟩
  | .local _ .vmem, ⟨3, _⟩ => ⟨S1408x2048, .bf16⟩
  | .local _ .vmem, ⟨4, _⟩ => ⟨S1024x1408, .f32⟩
  | .local _ .vmem, ⟨5, _⟩ => ⟨S1024x1408, .f32⟩
  | _, _ => ⟨S2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 11, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1408x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference12Ideal.lean ====
abbrev S2048x2048 : Shape := ⟨2, ![2048, 2048]⟩
abbrev S15488x2048 : Shape := ⟨2, ![15488, 2048]⟩
abbrev S2048x15488 : Shape := ⟨2, ![2048, 15488]⟩

abbrev nBuf : Space → Nat
  | .hbm => 6
  | .vmem => 0
  | .smem => 0
  | _ => 0

abbrev bufTy : (tb : Table) → Fin (tcTables nBuf tb) → BufTy
  | .hbm, ⟨0, _⟩ => ⟨S2048x2048, .bf16⟩
  | .hbm, ⟨1, _⟩ => ⟨S15488x2048, .bf16⟩
  | .hbm, ⟨2, _⟩ => ⟨S2048x2048, .f32⟩
  | .hbm, ⟨3, _⟩ => ⟨S15488x2048, .f32⟩
  | .hbm, ⟨4, _⟩ => ⟨S2048x15488, .f32⟩
  | .hbm, ⟨5, _⟩ => ⟨S2048x15488, .f32⟩
  | _, _ => ⟨S2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== Kernel13.lean ====
abbrev S2048x2048 : Shape := ⟨2, ![2048, 2048]⟩
abbrev S8x2048x1024 : Shape := ⟨3, ![8, 2048, 1024]⟩
abbrev S2048x8192 : Shape := ⟨2, ![2048, 8192]⟩
abbrev S1024x2048 : Shape := ⟨2, ![1024, 2048]⟩
abbrev S1x2048x1024 : Shape := ⟨3, ![1, 2048, 1024]⟩
abbrev S1024x1024 : Shape := ⟨2, ![1024, 1024]⟩
abbrev S2048x1024 : Shape := ⟨2, ![2048, 1024]⟩

abbrev nBuf : Space → Nat
  | .hbm => 4
  | .vmem => 8
  | .smem => 0
  | _ => 0

abbrev bufTy : (tb : Table) → Fin (tcTables nBuf tb) → BufTy
  | .hbm, ⟨0, _⟩ => ⟨S2048x2048, .bf16⟩
  | .hbm, ⟨1, _⟩ => ⟨S8x2048x1024, .bf16⟩
  | .hbm, ⟨2, _⟩ => ⟨S2048x8192, .f32⟩
  | .hbm, ⟨3, _⟩ => ⟨S2048x8192, .bf16⟩
  | .local _ .vmem, ⟨0, _⟩ => ⟨S1024x2048, .bf16⟩
  | .local _ .vmem, ⟨1, _⟩ => ⟨S1024x2048, .bf16⟩
  | .local _ .vmem, ⟨2, _⟩ => ⟨S1x2048x1024, .bf16⟩
  | .local _ .vmem, ⟨3, _⟩ => ⟨S1x2048x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .bf16⟩
  | .local _ .vmem, ⟨7, _⟩ => ⟨S1024x1024, .bf16⟩
  | _, _ => ⟨S2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![2, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg1 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg2.toNat, v26.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Reference13Ideal.lean ====
abbrev S2048x2048 : Shape := ⟨2, ![2048, 2048]⟩
abbrev S8x2048x1024 : Shape := ⟨3, ![8, 2048, 1024]⟩
abbrev S2048x8x1024 : Shape := ⟨3, ![2048, 8, 1024]⟩
abbrev S2048x8192 : Shape := ⟨2, ![2048, 8192]⟩
abbrev S_ : Shape := ⟨0, ![]⟩

abbrev nBuf : Space → Nat
  | .hbm => 12
  | .vmem => 0
  | .smem => 0
  | _ => 0

abbrev bufTy : (tb : Table) → Fin (tcTables nBuf tb) → BufTy
  | .hbm, ⟨0, _⟩ => ⟨S2048x2048, .bf16⟩
  | .hbm, ⟨1, _⟩ => ⟨S8x2048x1024, .bf16⟩
  | .hbm, ⟨2, _⟩ => ⟨S2048x2048, .f32⟩
  | .hbm, ⟨3, _⟩ => ⟨S8x2048x1024, .f32⟩
  | .hbm, ⟨4, _⟩ => ⟨S2048x8x1024, .f32⟩
  | .hbm, ⟨5, _⟩ => ⟨S2048x8192, .f32⟩
  | .hbm, ⟨6, _⟩ => ⟨S2048x8192, .f32⟩
  | .hbm, ⟨7, _⟩ => ⟨S_, .f32⟩
  | .hbm, ⟨8, _⟩ => ⟨S2048x8192, .f32⟩
  | .hbm, ⟨9, _⟩ => ⟨S2048x8192, .f32⟩
  | .hbm, ⟨10, _⟩ => ⟨S2048x8192, .f32⟩
  | .hbm, ⟨11, _⟩ => ⟨S2048x8192, .bf16⟩
  | _, _ => ⟨S2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_call0_cst : Ref sig .tc := ⟨.hbm, 7, rfl⟩
abbrev main_call0_v0 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩

abbrev nD : Nat := 1
abbrev τ : Topo := Topo.v7x

variable {F : FTy → Type} [FloatOps F]
-- ==== Kernel14.lean ====
abbrev S2048x8192 : Shape := ⟨2, ![2048, 8192]⟩
abbrev S8x1024x2048 : Shape := ⟨3, ![8, 1024, 2048]⟩
abbrev S2048x2048 : Shape := ⟨2, ![2048, 2048]⟩
abbrev S1024x2048 : Shape := ⟨2, ![1024, 2048]⟩
abbrev S2x1024x1024 : Shape := ⟨3, ![2, 1024, 1024]⟩
abbrev S1024x1024 : Shape := ⟨2, ![1024, 1024]⟩
abbrev S2048x1024 : Shape := ⟨2, ![2048, 1024]⟩

abbrev nBuf : Space → Nat
  | .hbm => 4
  | .vmem => 9
  | .smem => 0
  | _ => 0

abbrev bufTy : (tb : Table) → Fin (tcTables nBuf tb) → BufTy
  | .hbm, ⟨0, _⟩ => ⟨S2048x8192, .bf16⟩
  | .hbm, ⟨1, _⟩ => ⟨S8x1024x2048, .bf16⟩
  | .hbm, ⟨2, _⟩ => ⟨S2048x2048, .f32⟩
  | .hbm, ⟨3, _⟩ => ⟨S2048x2048, .f32⟩
  | .local _ .vmem, ⟨0, _⟩ => ⟨S1024x2048, .bf16⟩
  | .local _ .vmem, ⟨1, _⟩ => ⟨S1024x2048, .bf16⟩
  | .local _ .vmem, ⟨2, _⟩ => ⟨S2x1024x1024, .bf16⟩
  | .local _ .vmem, ⟨3, _⟩ => ⟨S2x1024x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S1024x1024, .f32⟩
  | .local _ .vmem, ⟨8, _⟩ => ⟨S1024x1024, .f32⟩
  | _, _ => ⟨S2048x8192, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![2, 2, 4], ![false, false, false]⟩

def k0_cond3 (i : grid0.Coords) : BitVec 1 :=
  let arg2 : BitVec 32 := BitVec.ofNat 32 (i 2).val
  let c3_i32 : BitVec 32 := 3#32
  let v10 : BitVec 1 := Scalar.cmpi .eq arg2 c3_i32
  let v11 : BitVec 32 := Scalar.extui v10
  let c0_i32_7 : BitVec 32 := 0#32
  let v12 : BitVec 1 := Scalar.cmpi .ne v11 c0_i32_7
  v12

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, c0_i32.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2x1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Reference14Ideal.lean ====
abbrev S2048x8192 : Shape := ⟨2, ![2048, 8192]⟩
abbrev S8x1024x2048 : Shape := ⟨3, ![8, 1024, 2048]⟩
abbrev S2048x2048 : Shape := ⟨2, ![2048, 2048]⟩
abbrev S8192x2048 : Shape := ⟨2, ![8192, 2048]⟩

abbrev nBuf : Space → Nat
  | .hbm => 8
  | .vmem => 0
  | .smem => 0
  | _ => 0

abbrev bufTy : (tb : Table) → Fin (tcTables nBuf tb) → BufTy
  | .hbm, ⟨0, _⟩ => ⟨S2048x8192, .bf16⟩
  | .hbm, ⟨1, _⟩ => ⟨S8x1024x2048, .bf16⟩
  | .hbm, ⟨2, _⟩ => ⟨S2048x2048, .f32⟩
  | .hbm, ⟨3, _⟩ => ⟨S2048x8192, .f32⟩
  | .hbm, ⟨4, _⟩ => ⟨S8x1024x2048, .f32⟩
  | .hbm, ⟨5, _⟩ => ⟨S8192x2048, .f32⟩
  | .hbm, ⟨6, _⟩ => ⟨S2048x2048, .f32⟩
  | .hbm, ⟨7, _⟩ => ⟨S2048x2048, .f32⟩
  | _, _ => ⟨S2048x8192, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel15.lean ====
abbrev S2048x15488 : Shape := ⟨2, ![2048, 15488]⟩
abbrev S2048x2048 : Shape := ⟨2, ![2048, 2048]⟩
abbrev S3x2048x2048 : Shape := ⟨3, ![3, 2048, 2048]⟩
abbrev S256x1024 : Shape := ⟨2, ![256, 1024]⟩
abbrev S3x256x1024 : Shape := ⟨3, ![3, 256, 1024]⟩
abbrev S1x256x1024 : Shape := ⟨3, ![1, 256, 1024]⟩

abbrev nBuf : Space → Nat
  | .hbm => 9
  | .vmem => 22
  | .smem => 0
  | _ => 0

abbrev bufTy : (tb : Table) → Fin (tcTables nBuf tb) → BufTy
  | .hbm, ⟨0, _⟩ => ⟨S2048x15488, .f32⟩
  | .hbm, ⟨1, _⟩ => ⟨S2048x2048, .f32⟩
  | .hbm, ⟨2, _⟩ => ⟨S2048x2048, .f32⟩
  | .hbm, ⟨3, _⟩ => ⟨S2048x2048, .f32⟩
  | .hbm, ⟨4, _⟩ => ⟨S2048x2048, .f32⟩
  | .hbm, ⟨5, _⟩ => ⟨S3x2048x2048, .bf16⟩
  | .hbm, ⟨6, _⟩ => ⟨S2048x2048, .bf16⟩
  | .hbm, ⟨7, _⟩ => ⟨S2048x2048, .bf16⟩
  | .hbm, ⟨8, _⟩ => ⟨S2048x2048, .bf16⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | .local _ .vmem, ⟨7, _⟩ => ⟨S256x1024, .f32⟩
  | .local _ .vmem, ⟨8, _⟩ => ⟨S256x1024, .f32⟩
  | .local _ .vmem, ⟨9, _⟩ => ⟨S256x1024, .f32⟩
  | .local _ .vmem, ⟨10, _⟩ => ⟨S256x1024, .f32⟩
  | .local _ .vmem, ⟨11, _⟩ => ⟨S256x1024, .f32⟩
  | .local _ .vmem, ⟨12, _⟩ => ⟨S256x1024, .f32⟩
  | .local _ .vmem, ⟨13, _⟩ => ⟨S256x1024, .f32⟩
  | .local _ .vmem, ⟨14, _⟩ => ⟨S3x256x1024, .bf16⟩
  | .local _ .vmem, ⟨15, _⟩ => ⟨S3x256x1024, .bf16⟩
  | .local _ .vmem, ⟨16, _⟩ => ⟨S256x1024, .bf16⟩
  | .local _ .vmem, ⟨17, _⟩ => ⟨S256x1024, .bf16⟩
  | .local _ .vmem, ⟨18, _⟩ => ⟨S256x1024, .bf16⟩
  | .local _ .vmem, ⟨19, _⟩ => ⟨S256x1024, .bf16⟩
  | .local _ .vmem, ⟨20, _⟩ => ⟨S256x1024, .bf16⟩
  | .local _ .vmem, ⟨21, _⟩ => ⟨S256x1024, .bf16⟩
  | _, _ => ⟨S2048x15488, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21

abbrev nD : Nat := 1
abbrev τ : Topo := Topo.v7x

variable {F : FTy → Type} [FloatOps F]

abbrev grid0 : Pipeline.Grid := ⟨2, ![8, 2], ![false, false]⟩

def cc0_transform_0 (i : grid0.Coords) : Fin 2 → Nat :=
  let arg0 : BitVec 32 := BitVec.ofNat 32 (i 0).val
  let arg1 : BitVec 32 := BitVec.ofNat 32 (i 1).val
  let c9_i32 : BitVec 32 := 9#32
  let v0 : BitVec 32 := Scalar.addi c9_i32 arg1
  let c0_i32 : BitVec 32 := 0#32
  ![arg0.toNat, v0.toNat]

def cc0_transform_1 (i : grid0.Coords) : Fin 2 → Nat :=
  let arg0 : BitVec 32 := BitVec.ofNat 32 (i 0).val
  let arg1 : BitVec 32 := BitVec.ofNat 32 (i 1).val
  let c11_i32 : BitVec 32 := 11#32
  let v0 : BitVec 32 := Scalar.addi c11_i32 arg1
  let c0_i32 : BitVec 32 := 0#32
  ![arg0.toNat, v0.toNat]

def cc0_transform_2 (i : grid0.Coords) : Fin 2 → Nat :=
  let arg0 : BitVec 32 := BitVec.ofNat 32 (i 0).val
  let arg1 : BitVec 32 := BitVec.ofNat 32 (i 1).val
  let c13_i32 : BitVec 32 := 13#32
  let v0 : BitVec 32 := Scalar.addi c13_i32 arg1
  let c0_i32 : BitVec 32 := 0#32
  ![arg0.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S3x256x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S256x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S256x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S256x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]
-- ==== Reference15Ideal.lean ====
abbrev S2048x15488 : Shape := ⟨2, ![2048, 15488]⟩
abbrev S2048x2048 : Shape := ⟨2, ![2048, 2048]⟩
abbrev S2048x6144 : Shape := ⟨2, ![2048, 6144]⟩
abbrev S_ : Shape := ⟨0, ![]⟩
abbrev S2048x3x2048 : Shape := ⟨3, ![2048, 3, 2048]⟩
abbrev S2048x1x2048 : Shape := ⟨3, ![2048, 1, 2048]⟩
abbrev S3x2048x2048 : Shape := ⟨3, ![3, 2048, 2048]⟩

abbrev nBuf : Space → Nat
  | .hbm => 57
  | .vmem => 0
  | .smem => 0
  | _ => 0

abbrev bufTy : (tb : Table) → Fin (tcTables nBuf tb) → BufTy
  | .hbm, ⟨0, _⟩ => ⟨S2048x15488, .f32⟩
  | .hbm, ⟨1, _⟩ => ⟨S2048x2048, .f32⟩
  | .hbm, ⟨2, _⟩ => ⟨S2048x2048, .f32⟩
  | .hbm, ⟨3, _⟩ => ⟨S2048x2048, .f32⟩
  | .hbm, ⟨4, _⟩ => ⟨S2048x2048, .f32⟩
  | .hbm, ⟨5, _⟩ => ⟨S2048x6144, .f32⟩
  | .hbm, ⟨6, _⟩ => ⟨S2048x6144, .f32⟩
  | .hbm, ⟨7, _⟩ => ⟨S2048x6144, .f32⟩
  | .hbm, ⟨8, _⟩ => ⟨S_, .f32⟩
  | .hbm, ⟨9, _⟩ => ⟨S2048x6144, .f32⟩
  | .hbm, ⟨10, _⟩ => ⟨S2048x6144, .f32⟩
  | .hbm, ⟨11, _⟩ => ⟨S_, .f32⟩
  | .hbm, ⟨12, _⟩ => ⟨S2048x6144, .f32⟩
  | .hbm, ⟨13, _⟩ => ⟨S2048x6144, .f32⟩
  | .hbm, ⟨14, _⟩ => ⟨S_, .f32⟩
  | .hbm, ⟨15, _⟩ => ⟨S2048x6144, .f32⟩
  | .hbm, ⟨16, _⟩ => ⟨S2048x6144, .f32⟩
  | .hbm, ⟨17, _⟩ => ⟨S2048x6144, .f32⟩
  | .hbm, ⟨18, _⟩ => ⟨S2048x3x2048, .f32⟩
  | .hbm, ⟨19, _⟩ => ⟨S2048x1x2048, .f32⟩
  | .hbm, ⟨20, _⟩ => ⟨S2048x2048, .f32⟩
  | .hbm, ⟨21, _⟩ => ⟨S2048x2048, .f32⟩
  | .hbm, ⟨22, _⟩ => ⟨S2048x1x2048, .f32⟩
  | .hbm, ⟨23, _⟩ => ⟨S2048x2048, .f32⟩
  | .hbm, ⟨24, _⟩ => ⟨S2048x2048, .f32⟩
  | .hbm, ⟨25, _⟩ => ⟨S2048x2048, .f32⟩
  | .hbm, ⟨26, _⟩ => ⟨S2048x1x2048, .f32⟩
  | .hbm, ⟨27, _⟩ => ⟨S2048x2048, .f32⟩
  | .hbm, ⟨28, _⟩ => ⟨S2048x2048, .f32⟩
  | .hbm, ⟨29, _⟩ => ⟨S2048x2048, .f32⟩
  | .hbm, ⟨30, _⟩ => ⟨S2048x2048, .f32⟩
  | .hbm, ⟨31, _⟩ => ⟨S2048x2048, .f32⟩
  | .hbm, ⟨32, _⟩ => ⟨S2048x2048, .f32⟩
  | .hbm, ⟨33, _⟩ => ⟨S2048x2048, .f32⟩
  | .hbm, ⟨34, _⟩ => ⟨S2048x1x2048, .f32⟩
  | .hbm, ⟨35, _⟩ => ⟨S_, .f32⟩
  | .hbm, ⟨36, _⟩ => ⟨S2048x3x2048, .f32⟩
  | .hbm, ⟨37, _⟩ => ⟨S2048x2048, .f32⟩
  | .hbm, ⟨38, _⟩ => ⟨S2048x2048, .f32⟩
  | .hbm, ⟨39, _⟩ => ⟨S2048x1x2048, .f32⟩
  | .hbm, ⟨40, _⟩ => ⟨S_, .f32⟩
  | .hbm, ⟨41, _⟩ => ⟨S2048x3x2048, .f32⟩
  | .hbm, ⟨42, _⟩ => ⟨S2048x3x2048, .f32⟩
  | .hbm, ⟨43, _⟩ => ⟨S2048x2048, .f32⟩
  | .hbm, ⟨44, _⟩ => ⟨S2048x2048, .f32⟩
  | .hbm, ⟨45, _⟩ => ⟨S2048x1x2048, .f32⟩
  | .hbm, ⟨46, _⟩ => ⟨S_, .f32⟩
  | .hbm, ⟨47, _⟩ => ⟨S2048x3x2048, .f32⟩
  | .hbm, ⟨48, _⟩ => ⟨S2048x3x2048, .f32⟩
  | .hbm, ⟨49, _⟩ => ⟨S2048x6144, .f32⟩
  | .hbm, ⟨50, _⟩ => ⟨S2048x6144, .f32⟩
  | .hbm, ⟨51, _⟩ => ⟨S2048x3x2048, .f32⟩
  | .hbm, ⟨52, _⟩ => ⟨S3x2048x2048, .f32⟩
  | .hbm, ⟨53, _⟩ => ⟨S3x2048x2048, .bf16⟩
  | .hbm, ⟨54, _⟩ => ⟨S2048x2048, .bf16⟩
  | .hbm, ⟨55, _⟩ => ⟨S2048x2048, .bf16⟩
  | .hbm, ⟨56, _⟩ => ⟨S2048x2048, .bf16⟩
  | _, _ => ⟨S2048x15488, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_cst_2 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_cst_3 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_cst_4 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_v45 : Ref sig .tc := ⟨.hbm, 56, rfl⟩

abbrev nD : Nat := 1
abbrev τ : Topo := Topo.v7x

variable {F : FTy → Type} [FloatOps F]
-- ==== Kernel16.lean ====
abbrev S2048x2048 : Shape := ⟨2, ![2048, 2048]⟩
abbrev S1x2048 : Shape := ⟨2, ![1, 2048]⟩
abbrev S256x2048 : Shape := ⟨2, ![256, 2048]⟩
abbrev S256 : Shape := ⟨1, ![256]⟩
abbrev S256x1 : Shape := ⟨2, ![256, 1]⟩
abbrev S2048 : Shape := ⟨1, ![2048]⟩

abbrev nBuf : Space → Nat
  | .hbm => 7
  | .vmem => 12
  | .smem => 0
  | _ => 0

abbrev bufTy : (tb : Table) → Fin (tcTables nBuf tb) → BufTy
  | .hbm, ⟨0, _⟩ => ⟨S2048x2048, .f32⟩
  | .hbm, ⟨1, _⟩ => ⟨S1x2048, .f32⟩
  | .hbm, ⟨2, _⟩ => ⟨S2048x2048, .f32⟩
  | .hbm, ⟨3, _⟩ => ⟨S2048x2048, .f32⟩
  | .hbm, ⟨4, _⟩ => ⟨S2048x2048, .f32⟩
  | .hbm, ⟨5, _⟩ => ⟨S2048x2048, .bf16⟩
  | .hbm, ⟨6, _⟩ => ⟨S1x2048, .f32⟩
  | .local _ .vmem, ⟨0, _⟩ => ⟨S256x2048, .f32⟩
  | .local _ .vmem, ⟨1, _⟩ => ⟨S256x2048, .f32⟩
  | .local _ .vmem, ⟨2, _⟩ => ⟨S1x2048, .f32⟩
  | .local _ .vmem, ⟨3, _⟩ => ⟨S256x2048, .f32⟩
  | .local _ .vmem, ⟨4, _⟩ => ⟨S256x2048, .f32⟩
  | .local _ .vmem, ⟨5, _⟩ => ⟨S256x2048, .f32⟩
  | .local _ .vmem, ⟨6, _⟩ => ⟨S256x2048, .f32⟩
  | .local _ .vmem, ⟨7, _⟩ => ⟨S256x2048, .f32⟩
  | .local _ .vmem, ⟨8, _⟩ => ⟨S256x2048, .f32⟩
  | .local _ .vmem, ⟨9, _⟩ => ⟨S256x2048, .bf16⟩
  | .local _ .vmem, ⟨10, _⟩ => ⟨S256x2048, .bf16⟩
  | .local _ .vmem, ⟨11, _⟩ => ⟨S1x2048, .f32⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== Reference16Ideal.lean ====
abbrev S2048x2048 : Shape := ⟨2, ![2048, 2048]⟩
abbrev S1x2048 : Shape := ⟨2, ![1, 2048]⟩
abbrev S2048 : Shape := ⟨1, ![2048]⟩
abbrev S_ : Shape := ⟨0, ![]⟩
abbrev S2048x1 : Shape := ⟨2, ![2048, 1]⟩

abbrev nBuf : Space → Nat
  | .hbm => 53
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S1x2048, .f32⟩
  | .hbm, ⟨2, _⟩ => ⟨S2048x2048, .f32⟩
  | .hbm, ⟨3, _⟩ => ⟨S2048x2048, .f32⟩
  | .hbm, ⟨4, _⟩ => ⟨S2048, .f32⟩
  | .hbm, ⟨5, _⟩ => ⟨S2048x2048, .f32⟩
  | .hbm, ⟨6, _⟩ => ⟨S_, .f32⟩
  | .hbm, ⟨7, _⟩ => ⟨S2048, .f32⟩
  | .hbm, ⟨8, _⟩ => ⟨S2048x1, .f32⟩
  | .hbm, ⟨9, _⟩ => ⟨S_, .f32⟩
  | .hbm, ⟨10, _⟩ => ⟨S2048x1, .f32⟩
  | .hbm, ⟨11, _⟩ => ⟨S2048x1, .f32⟩
  | .hbm, ⟨12, _⟩ => ⟨S_, .f32⟩
  | .hbm, ⟨13, _⟩ => ⟨S2048x1, .f32⟩
  | .hbm, ⟨14, _⟩ => ⟨S2048x1, .f32⟩
  | .hbm, ⟨15, _⟩ => ⟨S2048x1, .f32⟩
  | .hbm, ⟨16, _⟩ => ⟨S2048x1, .f32⟩
  | .hbm, ⟨17, _⟩ => ⟨S_, .f32⟩
  | .hbm, ⟨18, _⟩ => ⟨S2048x1, .f32⟩
  | .hbm, ⟨19, _⟩ => ⟨S2048x1, .f32⟩
  | .hbm, ⟨20, _⟩ => ⟨S2048x2048, .f32⟩
  | .hbm, ⟨21, _⟩ => ⟨S2048x2048, .f32⟩
  | .hbm, ⟨22, _⟩ => ⟨S1x2048, .f32⟩
  | .hbm, ⟨23, _⟩ => ⟨S2048x2048, .f32⟩
  | .hbm, ⟨24, _⟩ => ⟨S2048x2048, .f32⟩
  | .hbm, ⟨25, _⟩ => ⟨S2048x2048, .f32⟩
  | .hbm, ⟨26, _⟩ => ⟨S_, .f32⟩
  | .hbm, ⟨27, _⟩ => ⟨S2048, .f32⟩
  | .hbm, ⟨28, _⟩ => ⟨S1x2048, .f32⟩
  | .hbm, ⟨29, _⟩ => ⟨S2048x2048, .f32⟩
  | .hbm, ⟨30, _⟩ => ⟨S2048x2048, .f32⟩
  | .hbm, ⟨31, _⟩ => ⟨S_, .f32⟩
  | .hbm, ⟨32, _⟩ => ⟨S2048, .f32⟩
  | .hbm, ⟨33, _⟩ => ⟨S2048x2048, .f32⟩
  | .hbm, ⟨34, _⟩ => ⟨S_, .f32⟩
  | .hbm, ⟨35, _⟩ => ⟨S2048, .f32⟩
  | .hbm, ⟨36, _⟩ => ⟨S2048x1, .f32⟩
  | .hbm, ⟨37, _⟩ => ⟨S2048x2048, .f32⟩
  | .hbm, ⟨38, _⟩ => ⟨S2048x2048, .f32⟩
  | .hbm, ⟨39, _⟩ => ⟨S2048x1, .f32⟩
  | .hbm, ⟨40, _⟩ => ⟨S_, .f32⟩
  | .hbm, ⟨41, _⟩ => ⟨S2048x1, .f32⟩
  | .hbm, ⟨42, _⟩ => ⟨S2048x1, .f32⟩
  | .hbm, ⟨43, _⟩ => ⟨S_, .f32⟩
  | .hbm, ⟨44, _⟩ => ⟨S2048, .f32⟩
  | .hbm, ⟨45, _⟩ => ⟨S2048x2048, .f32⟩
  | .hbm, ⟨46, _⟩ => ⟨S2048x2048, .f32⟩
  | .hbm, ⟨47, _⟩ => ⟨S2048x2048, .f32⟩
  | .hbm, ⟨48, _⟩ => ⟨S2048x2048, .f32⟩
  | .hbm, ⟨49, _⟩ => ⟨S2048x2048, .f32⟩
  | .hbm, ⟨50, _⟩ => ⟨S2048x2048, .f32⟩
  | .hbm, ⟨51, _⟩ => ⟨S2048x2048, .bf16⟩
  | .hbm, ⟨52, _⟩ => ⟨S1x2048, .f32⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_cst_1 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst_2 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_cst_3 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_cst_4 : Ref sig .tc := ⟨.hbm, 31, rfl⟩
abbrev main_v22 : Ref sig .tc := ⟨.hbm, 32, rfl⟩
abbrev main_v23 : Ref sig .tc := ⟨.hbm, 33, rfl⟩
abbrev main_cst_5 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_cst_6 : Ref sig .tc := ⟨.hbm, 40, rfl⟩
abbrev main_v29 : Ref sig .tc := ⟨.hbm, 41, rfl⟩
abbrev main_v30 : Ref sig .tc := ⟨.hbm, 42, rfl⟩
abbrev main_cst_7 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩

abbrev nD : Nat := 1
abbrev τ : Topo := Topo.v7x

variable {F : FTy → Type} [FloatOps F]
-- ==== Kernel17.lean ====
abbrev S8x2048x128 : Shape := ⟨3, ![8, 2048, 128]⟩
abbrev S2048x15488 : Shape := ⟨2, ![2048, 15488]⟩
abbrev S1x128 : Shape := ⟨2, ![1, 128]⟩
abbrev S2048x1024 : Shape := ⟨2, ![2048, 1024]⟩
abbrev S1x512x128 : Shape := ⟨3, ![1, 512, 128]⟩
abbrev S512x128 : Shape := ⟨2, ![512, 128]⟩
abbrev S512 : Shape := ⟨1, ![512]⟩
abbrev S512x1 : Shape := ⟨2, ![512, 1]⟩
abbrev S128 : Shape := ⟨1, ![128]⟩

abbrev nBuf : Space → Nat
  | .hbm => 7
  | .vmem => 12
  | .smem => 0
  | _ => 0

abbrev bufTy : (tb : Table) → Fin (tcTables nBuf tb) → BufTy
  | .hbm, ⟨0, _⟩ => ⟨S8x2048x128, .f32⟩
  | .hbm, ⟨1, _⟩ => ⟨S2048x15488, .f32⟩
  | .hbm, ⟨2, _⟩ => ⟨S1x128, .f32⟩
  | .hbm, ⟨3, _⟩ => ⟨S2048x1024, .f32⟩
  | .hbm, ⟨4, _⟩ => ⟨S8x2048x128, .f32⟩
  | .hbm, ⟨5, _⟩ => ⟨S2048x1024, .bf16⟩
  | .hbm, ⟨6, _⟩ => ⟨S1x128, .f32⟩
  | .local _ .vmem, ⟨0, _⟩ => ⟨S1x512x128, .f32⟩
  | .local _ .vmem, ⟨1, _⟩ => ⟨S1x512x128, .f32⟩
  | .local _ .vmem, ⟨2, _⟩ => ⟨S512x128, .f32⟩
  | .local _ .vmem, ⟨3, _⟩ => ⟨S512x128, .f32⟩
  | .local _ .vmem, ⟨4, _⟩ => ⟨S1x128, .f32⟩
  | .local _ .vmem, ⟨5, _⟩ => ⟨S512x128, .f32⟩
  | .local _ .vmem, ⟨6, _⟩ => ⟨S512x128, .f32⟩
  | .local _ .vmem, ⟨7, _⟩ => ⟨S1x512x128, .f32⟩
  | .local _ .vmem, ⟨8, _⟩ => ⟨S1x512x128, .f32⟩
  | .local _ .vmem, ⟨9, _⟩ => ⟨S512x128, .bf16⟩
  | .local _ .vmem, ⟨10, _⟩ => ⟨S512x128, .bf16⟩
  | .local _ .vmem, ⟨11, _⟩ => ⟨S1x128, .f32⟩
  | _, _ => ⟨S8x2048x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11

abbrev nD : Nat := 1
abbrev τ : Topo := Topo.v7x

variable {F : FTy → Type} [FloatOps F]

abbrev grid0 : Pipeline.Grid := ⟨2, ![8, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c24_i32 : BitVec 32 := 24#32
  let v0 : BitVec 32 := Scalar.addi c24_i32 arg0
  let c0_i32 : BitVec 32 := 0#32
  ![arg1.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1x512x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S512x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S512x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x512x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S512x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]
-- ==== Reference17Ideal.lean ====
abbrev S8x2048x128 : Shape := ⟨3, ![8, 2048, 128]⟩
abbrev S2048x15488 : Shape := ⟨2, ![2048, 15488]⟩
abbrev S1x128 : Shape := ⟨2, ![1, 128]⟩
abbrev S2048x1024 : Shape := ⟨2, ![2048, 1024]⟩
abbrev S128 : Shape := ⟨1, ![128]⟩
abbrev S2048x8x128 : Shape := ⟨3, ![2048, 8, 128]⟩
abbrev S_ : Shape := ⟨0, ![]⟩
abbrev S2048x8 : Shape := ⟨2, ![2048, 8]⟩
abbrev S2048x8x1 : Shape := ⟨3, ![2048, 8, 1]⟩
abbrev S1x1x128 : Shape := ⟨3, ![1, 1, 128]⟩

abbrev nBuf : Space → Nat
  | .hbm => 79
  | .vmem => 0
  | .smem => 0
  | _ => 0

abbrev bufTy : (tb : Table) → Fin (tcTables nBuf tb) → BufTy
  | .hbm, ⟨0, _⟩ => ⟨S8x2048x128, .f32⟩
  | .hbm, ⟨1, _⟩ => ⟨S2048x15488, .f32⟩
  | .hbm, ⟨2, _⟩ => ⟨S1x128, .f32⟩
  | .hbm, ⟨3, _⟩ => ⟨S2048x1024, .f32⟩
  | .hbm, ⟨4, _⟩ => ⟨S2048x1024, .f32⟩
  | .hbm, ⟨5, _⟩ => ⟨S128, .f32⟩
  | .hbm, ⟨6, _⟩ => ⟨S2048x8x128, .f32⟩
  | .hbm, ⟨7, _⟩ => ⟨S2048x8x128, .f32⟩
  | .hbm, ⟨8, _⟩ => ⟨S_, .f32⟩
  | .hbm, ⟨9, _⟩ => ⟨S2048x8, .f32⟩
  | .hbm, ⟨10, _⟩ => ⟨S2048x8x1, .f32⟩
  | .hbm, ⟨11, _⟩ => ⟨S_, .f32⟩
  | .hbm, ⟨12, _⟩ => ⟨S2048x8x1, .f32⟩
  | .hbm, ⟨13, _⟩ => ⟨S2048x8x1, .f32⟩
  | .hbm, ⟨14, _⟩ => ⟨S_, .f32⟩
  | .hbm, ⟨15, _⟩ => ⟨S2048x8x1, .f32⟩
  | .hbm, ⟨16, _⟩ => ⟨S2048x8x1, .f32⟩
  | .hbm, ⟨17, _⟩ => ⟨S2048x8x1, .f32⟩
  | .hbm, ⟨18, _⟩ => ⟨S2048x8x1, .f32⟩
  | .hbm, ⟨19, _⟩ => ⟨S_, .f32⟩
  | .hbm, ⟨20, _⟩ => ⟨S2048x8x1, .f32⟩
  | .hbm, ⟨21, _⟩ => ⟨S2048x8x1, .f32⟩
  | .hbm, ⟨22, _⟩ => ⟨S2048x8x128, .f32⟩
  | .hbm, ⟨23, _⟩ => ⟨S2048x8x128, .f32⟩
  | .hbm, ⟨24, _⟩ => ⟨S1x1x128, .f32⟩
  | .hbm, ⟨25, _⟩ => ⟨S2048x8x128, .f32⟩
  | .hbm, ⟨26, _⟩ => ⟨S2048x8x128, .f32⟩
  | .hbm, ⟨27, _⟩ => ⟨S2048x8x128, .f32⟩
  | .hbm, ⟨28, _⟩ => ⟨S2048x8x128, .f32⟩
  | .hbm, ⟨29, _⟩ => ⟨S2048x8x128, .f32⟩
  | .hbm, ⟨30, _⟩ => ⟨S_, .f32⟩
  | .hbm, ⟨31, _⟩ => ⟨S2048x8x128, .f32⟩
  | .hbm, ⟨32, _⟩ => ⟨S2048x8x128, .f32⟩
  | .hbm, ⟨33, _⟩ => ⟨S_, .f32⟩
  | .hbm, ⟨34, _⟩ => ⟨S2048x8x128, .f32⟩
  | .hbm, ⟨35, _⟩ => ⟨S2048x8x128, .f32⟩
  | .hbm, ⟨36, _⟩ => ⟨S_, .f32⟩
  | .hbm, ⟨37, _⟩ => ⟨S2048x8x128, .f32⟩
  | .hbm, ⟨38, _⟩ => ⟨S2048x8x128, .f32⟩
  | .hbm, ⟨39, _⟩ => ⟨S2048x8x128, .f32⟩
  | .hbm, ⟨40, _⟩ => ⟨S2048x8x128, .f32⟩
  | .hbm, ⟨41, _⟩ => ⟨S2048x8x128, .f32⟩
  | .hbm, ⟨42, _⟩ => ⟨S2048x1024, .f32⟩
  | .hbm, ⟨43, _⟩ => ⟨S2048x8x128, .f32⟩
  | .hbm, ⟨44, _⟩ => ⟨S2048x8x128, .f32⟩
  | .hbm, ⟨45, _⟩ => ⟨S2048x8x128, .f32⟩
  | .hbm, ⟨46, _⟩ => ⟨S2048x8x128, .f32⟩
  | .hbm, ⟨47, _⟩ => ⟨S2048x8x128, .f32⟩
  | .hbm, ⟨48, _⟩ => ⟨S2048x8x128, .f32⟩
  | .hbm, ⟨49, _⟩ => ⟨S2048x8x128, .f32⟩
  | .hbm, ⟨50, _⟩ => ⟨S2048x1024, .f32⟩
  | .hbm, ⟨51, _⟩ => ⟨S2048x8x128, .f32⟩
  | .hbm, ⟨52, _⟩ => ⟨S_, .f32⟩
  | .hbm, ⟨53, _⟩ => ⟨S128, .f32⟩
  | .hbm, ⟨54, _⟩ => ⟨S1x1x128, .f32⟩
  | .hbm, ⟨55, _⟩ => ⟨S2048x8x128, .f32⟩
  | .hbm, ⟨56, _⟩ => ⟨S2048x8x128, .f32⟩
  | .hbm, ⟨57, _⟩ => ⟨S_, .f32⟩
  | .hbm, ⟨58, _⟩ => ⟨S128, .f32⟩
  | .hbm, ⟨59, _⟩ => ⟨S2048x8x128, .f32⟩
  | .hbm, ⟨60, _⟩ => ⟨S_, .f32⟩
  | .hbm, ⟨61, _⟩ => ⟨S2048x8, .f32⟩
  | .hbm, ⟨62, _⟩ => ⟨S2048x8x1, .f32⟩
  | .hbm, ⟨63, _⟩ => ⟨S2048x8x128, .f32⟩
  | .hbm, ⟨64, _⟩ => ⟨S2048x8x128, .f32⟩
  | .hbm, ⟨65, _⟩ => ⟨S2048x8x1, .f32⟩
  | .hbm, ⟨66, _⟩ => ⟨S_, .f32⟩
  | .hbm, ⟨67, _⟩ => ⟨S2048x8x1, .f32⟩
  | .hbm, ⟨68, _⟩ => ⟨S2048x8x1, .f32⟩
  | .hbm, ⟨69, _⟩ => ⟨S_, .f32⟩
  | .hbm, ⟨70, _⟩ => ⟨S2048x8, .f32⟩
  | .hbm, ⟨71, _⟩ => ⟨S2048x8x128, .f32⟩
  | .hbm, ⟨72, _⟩ => ⟨S2048x8x128, .f32⟩
  | .hbm, ⟨73, _⟩ => ⟨S2048x8x128, .f32⟩
  | .hbm, ⟨74, _⟩ => ⟨S2048x8x128, .f32⟩
  | .hbm, ⟨75, _⟩ => ⟨S2048x8x128, .f32⟩
  | .hbm, ⟨76, _⟩ => ⟨S8x2048x128, .f32⟩
  | .hbm, ⟨77, _⟩ => ⟨S2048x1024, .bf16⟩
  | .hbm, ⟨78, _⟩ => ⟨S1x128, .f32⟩
  | _, _ => ⟨S8x2048x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_v5 : Ref sig .tc := ⟨.hbm, 10, rfl⟩
abbrev main_cst_0 : Ref sig .tc := ⟨.hbm, 11, rfl⟩
abbrev main_v6 : Ref sig .tc := ⟨.hbm, 12, rfl⟩
abbrev main_v7 : Ref sig .tc := ⟨.hbm, 13, rfl⟩
abbrev main_cst_1 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_cst_2 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_call0_v0 : Ref sig .tc := ⟨.hbm, 28, rfl⟩
abbrev main_call0_v1 : Ref sig .tc := ⟨.hbm, 29, rfl⟩
abbrev main_call0_cst : Ref sig .tc := ⟨.hbm, 30, rfl⟩
abbrev main_call0_v2 : Ref sig .tc := ⟨.hbm, 31, rfl⟩
abbrev main_call0_v3 : Ref sig .tc := ⟨.hbm, 32, rfl⟩
abbrev main_call0_cst_0 : Ref sig .tc := ⟨.hbm, 33, rfl⟩
abbrev main_call0_v4 : Ref sig .tc := ⟨.hbm, 34, rfl⟩
abbrev main_v20_2 : Ref sig .tc := ⟨.hbm, 35, rfl⟩
abbrev main_call0_cst_1 : Ref sig .tc := ⟨.hbm, 36, rfl⟩
abbrev main_call0_v6 : Ref sig .tc := ⟨.hbm, 37, rfl⟩
abbrev main_call0_v7 : Ref sig .tc := ⟨.hbm, 38, rfl⟩
abbrev main_v20_1 : Ref sig .tc := ⟨.hbm, 39, rfl⟩
abbrev main_v20_0 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_call1_v0 : Ref sig .tc := ⟨.hbm, 46, rfl⟩
abbrev main_call1_v1 : Ref sig .tc := ⟨.hbm, 47, rfl⟩
abbrev main_call1_v2 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_cst_3 : Ref sig .tc := ⟨.hbm, 52, rfl⟩
abbrev main_v29 : Ref sig .tc := ⟨.hbm, 53, rfl⟩
abbrev main_v30 : Ref sig .tc := ⟨.hbm, 54, rfl⟩
abbrev main_v31 : Ref sig .tc := ⟨.hbm, 55, rfl⟩
abbrev main_v32 : Ref sig .tc := ⟨.hbm, 56, rfl⟩
abbrev main_cst_4 : Ref sig .tc := ⟨.hbm, 57, rfl⟩
abbrev main_v33 : Ref sig .tc := ⟨.hbm, 58, rfl⟩
abbrev main_v34 : Ref sig .tc := ⟨.hbm, 59, rfl⟩
abbrev main_cst_5 : Ref sig .tc := ⟨.hbm, 60, rfl⟩
abbrev main_v35 : Ref sig .tc := ⟨.hbm, 61, rfl⟩
abbrev main_v36 : Ref sig .tc := ⟨.hbm, 62, rfl⟩
abbrev main_v37 : Ref sig .tc := ⟨.hbm, 63, rfl⟩
abbrev main_v38 : Ref sig .tc := ⟨.hbm, 64, rfl⟩
abbrev main_v39 : Ref sig .tc := ⟨.hbm, 65, rfl⟩
abbrev main_cst_6 : Ref sig .tc := ⟨.hbm, 66, rfl⟩
abbrev main_v40 : Ref sig .tc := ⟨.hbm, 67, rfl⟩
abbrev main_v41 : Ref sig .tc := ⟨.hbm, 68, rfl⟩
abbrev main_cst_7 : Ref sig .tc := ⟨.hbm, 69, rfl⟩
abbrev main_v42 : Ref sig .tc := ⟨.hbm, 70, rfl⟩
abbrev main_v43 : Ref sig .tc := ⟨.hbm, 71, rfl⟩
abbrev main_v44 : Ref sig .tc := ⟨.hbm, 72, rfl⟩
abbrev main_v45 : Ref sig .tc := ⟨.hbm, 73, rfl⟩
abbrev main_v46 : Ref sig .tc := ⟨.hbm, 74, rfl⟩
abbrev main_v47 : Ref sig .tc := ⟨.hbm, 75, rfl⟩
abbrev main_v48 : Ref sig .tc := ⟨.hbm, 76, rfl⟩
abbrev main_v49 : Ref sig .tc := ⟨.hbm, 77, rfl⟩
abbrev main_v50 : Ref sig .tc := ⟨.hbm, 78, rfl⟩

abbrev nD : Nat := 1
abbrev τ : Topo := Topo.v7x

variable {F : FTy → Type} [FloatOps F]
-- ==== Kernel18.lean ====
abbrev S2048x15488 : Shape := ⟨2, ![2048, 15488]⟩
abbrev S1x128 : Shape := ⟨2, ![1, 128]⟩
abbrev S8x2048x128 : Shape := ⟨3, ![8, 2048, 128]⟩
abbrev S2048x1024 : Shape := ⟨2, ![2048, 1024]⟩
abbrev S512x128 : Shape := ⟨2, ![512, 128]⟩
abbrev S1x512x128 : Shape := ⟨3, ![1, 512, 128]⟩
abbrev S512 : Shape := ⟨1, ![512]⟩
abbrev S512x1 : Shape := ⟨2, ![512, 1]⟩
abbrev S128 : Shape := ⟨1, ![128]⟩

abbrev nBuf : Space → Nat
  | .hbm => 11
  | .vmem => 20
  | .smem => 0
  | _ => 0

abbrev bufTy : (tb : Table) → Fin (tcTables nBuf tb) → BufTy
  | .hbm, ⟨0, _⟩ => ⟨S2048x15488, .f32⟩
  | .hbm, ⟨1, _⟩ => ⟨S1x128, .f32⟩
  | .hbm, ⟨2, _⟩ => ⟨S1x128, .f32⟩
  | .hbm, ⟨3, _⟩ => ⟨S8x2048x128, .f32⟩
  | .hbm, ⟨4, _⟩ => ⟨S8x2048x128, .f32⟩
  | .hbm, ⟨5, _⟩ => ⟨S8x2048x128, .f32⟩
  | .hbm, ⟨6, _⟩ => ⟨S2048x1024, .bf16⟩
  | .hbm, ⟨7, _⟩ => ⟨S2048x1024, .bf16⟩
  | .hbm, ⟨8, _⟩ => ⟨S2048x1024, .bf16⟩
  | .hbm, ⟨9, _⟩ => ⟨S1x128, .f32⟩
  | .hbm, ⟨10, _⟩ => ⟨S1x128, .f32⟩
  | .local _ .vmem, ⟨0, _⟩ => ⟨S512x128, .f32⟩
  | .local _ .vmem, ⟨1, _⟩ => ⟨S512x128, .f32⟩
  | .local _ .vmem, ⟨2, _⟩ => ⟨S512x128, .f32⟩
  | .local _ .vmem, ⟨3, _⟩ => ⟨S512x128, .f32⟩
  | .local _ .vmem, ⟨4, _⟩ => ⟨S1x128, .f32⟩
  | .local _ .vmem, ⟨5, _⟩ => ⟨S1x128, .f32⟩
  | .local _ .vmem, ⟨6, _⟩ => ⟨S1x512x128, .f32⟩
  | .local _ .vmem, ⟨7, _⟩ => ⟨S1x512x128, .f32⟩
  | .local _ .vmem, ⟨8, _⟩ => ⟨S1x512x128, .f32⟩
  | .local _ .vmem, ⟨9, _⟩ => ⟨S1x512x128, .f32⟩
  | .local _ .vmem, ⟨10, _⟩ => ⟨S1x512x128, .f32⟩
  | .local _ .vmem, ⟨11, _⟩ => ⟨S1x512x128, .f32⟩
  | .local _ .vmem, ⟨12, _⟩ => ⟨S512x128, .bf16⟩
  | .local _ .vmem, ⟨13, _⟩ => ⟨S512x128, .bf16⟩
  | .local _ .vmem, ⟨14, _⟩ => ⟨S512x128, .bf16⟩
  | .local _ .vmem, ⟨15, _⟩ => ⟨S512x128, .bf16⟩
  | .local _ .vmem, ⟨16, _⟩ => ⟨S512x128, .bf16⟩
  | .local _ .vmem, ⟨17, _⟩ => ⟨S512x128, .bf16⟩
  | .local _ .vmem, ⟨18, _⟩ => ⟨S1x128, .f32⟩
  | .local _ .vmem, ⟨19, _⟩ => ⟨S1x128, .f32⟩
  | _, _ => ⟨S2048x15488, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev main_v0_2 : Ref sig .tc := ⟨.hbm, 8, rfl⟩
abbrev main_v0_3 : Ref sig .tc := ⟨.hbm, 9, rfl⟩
abbrev main_v0_4 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg11_0 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem9_1 : DmaSem sig := 17
abbrev cc0_sem10_0 : DmaSem sig := 18
abbrev cc0_sem11_0 : DmaSem sig := 19

abbrev nD : Nat := 1
abbrev τ : Topo := Topo.v7x

variable {F : FTy → Type} [FloatOps F]

abbrev grid0 : Pipeline.Grid := ⟨2, ![8, 4], ![false, false]⟩

def cc0_transform_0 (i : grid0.Coords) : Fin 2 → Nat :=
  let arg0 : BitVec 32 := BitVec.ofNat 32 (i 0).val
  let arg1 : BitVec 32 := BitVec.ofNat 32 (i 1).val
  let c48_i32 : BitVec 32 := 48#32
  let v0 : BitVec 32 := Scalar.addi c48_i32 arg0
  let c0_i32 : BitVec 32 := 0#32
  ![arg1.toNat, v0.toNat]

def cc0_transform_1 (i : grid0.Coords) : Fin 2 → Nat :=
  let arg0 : BitVec 32 := BitVec.ofNat 32 (i 0).val
  let arg1 : BitVec 32 := BitVec.ofNat 32 (i 1).val
  let c56_i32 : BitVec 32 := 56#32
  let v0 : BitVec 32 := Scalar.addi c56_i32 arg0
  let c0_i32 : BitVec 32 := 0#32
  ![arg1.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S512x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1x512x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x512x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x512x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S512x128 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S512x128 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S512x128 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 1 → Memref sig .tc .vmem S1x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S1x128 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]
-- ==== Reference18Ideal.lean ====
abbrev S2048x15488 : Shape := ⟨2, ![2048, 15488]⟩
abbrev S1x128 : Shape := ⟨2, ![1, 128]⟩
abbrev S8x2048x128 : Shape := ⟨3, ![8, 2048, 128]⟩
abbrev S2048x1024 : Shape := ⟨2, ![2048, 1024]⟩
abbrev S128 : Shape := ⟨1, ![128]⟩
abbrev S2048x8x128 : Shape := ⟨3, ![2048, 8, 128]⟩
abbrev S_ : Shape := ⟨0, ![]⟩
abbrev S2048x8 : Shape := ⟨2, ![2048, 8]⟩
abbrev S2048x8x1 : Shape := ⟨3, ![2048, 8, 1]⟩
abbrev S1x1x128 : Shape := ⟨3, ![1, 1, 128]⟩

abbrev nBuf : Space → Nat
  | .hbm => 126
  | .vmem => 0
  | .smem => 0
  | _ => 0

abbrev bufTy : (tb : Table) → Fin (tcTables nBuf tb) → BufTy
  | .hbm, ⟨0, _⟩ => ⟨S2048x15488, .f32⟩
  | .hbm, ⟨1, _⟩ => ⟨S1x128, .f32⟩
  | .hbm, ⟨2, _⟩ => ⟨S1x128, .f32⟩
  | .hbm, ⟨3, _⟩ => ⟨S8x2048x128, .f32⟩
  | .hbm, ⟨4, _⟩ => ⟨S8x2048x128, .f32⟩
  | .hbm, ⟨5, _⟩ => ⟨S8x2048x128, .f32⟩
  | .hbm, ⟨6, _⟩ => ⟨S2048x1024, .f32⟩
  | .hbm, ⟨7, _⟩ => ⟨S128, .f32⟩
  | .hbm, ⟨8, _⟩ => ⟨S2048x8x128, .f32⟩
  | .hbm, ⟨9, _⟩ => ⟨S2048x8x128, .f32⟩
  | .hbm, ⟨10, _⟩ => ⟨S_, .f32⟩
  | .hbm, ⟨11, _⟩ => ⟨S2048x8, .f32⟩
  | .hbm, ⟨12, _⟩ => ⟨S2048x8x1, .f32⟩
  | .hbm, ⟨13, _⟩ => ⟨S_, .f32⟩
  | .hbm, ⟨14, _⟩ => ⟨S2048x8x1, .f32⟩
  | .hbm, ⟨15, _⟩ => ⟨S2048x8x1, .f32⟩
  | .hbm, ⟨16, _⟩ => ⟨S_, .f32⟩
  | .hbm, ⟨17, _⟩ => ⟨S2048x8x1, .f32⟩
  | .hbm, ⟨18, _⟩ => ⟨S2048x8x1, .f32⟩
  | .hbm, ⟨19, _⟩ => ⟨S2048x8x1, .f32⟩
  | .hbm, ⟨20, _⟩ => ⟨S2048x8x1, .f32⟩
  | .hbm, ⟨21, _⟩ => ⟨S_, .f32⟩
  | .hbm, ⟨22, _⟩ => ⟨S2048x8x1, .f32⟩
  | .hbm, ⟨23, _⟩ => ⟨S2048x8x1, .f32⟩
  | .hbm, ⟨24, _⟩ => ⟨S2048x8x128, .f32⟩
  | .hbm, ⟨25, _⟩ => ⟨S2048x8x128, .f32⟩
  | .hbm, ⟨26, _⟩ => ⟨S1x1x128, .f32⟩
  | .hbm, ⟨27, _⟩ => ⟨S2048x8x128, .f32⟩
  | .hbm, ⟨28, _⟩ => ⟨S2048x8x128, .f32⟩
  | .hbm, ⟨29, _⟩ => ⟨S2048x1024, .f32⟩
  | .hbm, ⟨30, _⟩ => ⟨S2048x8x128, .f32⟩
  | .hbm, ⟨31, _⟩ => ⟨S8x2048x128, .f32⟩
  | .hbm, ⟨32, _⟩ => ⟨S2048x8x128, .f32⟩
  | .hbm, ⟨33, _⟩ => ⟨S2048x1024, .f32⟩
  | .hbm, ⟨34, _⟩ => ⟨S2048x8x128, .f32⟩
  | .hbm, ⟨35, _⟩ => ⟨S2048x8x128, .f32⟩
  | .hbm, ⟨36, _⟩ => ⟨S_, .f32⟩
  | .hbm, ⟨37, _⟩ => ⟨S128, .f32⟩
  | .hbm, ⟨38, _⟩ => ⟨S1x1x128, .f32⟩
  | .hbm, ⟨39, _⟩ => ⟨S2048x8x128, .f32⟩
  | .hbm, ⟨40, _⟩ => ⟨S2048x8x128, .f32⟩
  | .hbm, ⟨41, _⟩ => ⟨S_, .f32⟩
  | .hbm, ⟨42, _⟩ => ⟨S128, .f32⟩
  | .hbm, ⟨43, _⟩ => ⟨S2048x8x128, .f32⟩
  | .hbm, ⟨44, _⟩ => ⟨S_, .f32⟩
  | .hbm, ⟨45, _⟩ => ⟨S2048x8, .f32⟩
  | .hbm, ⟨46, _⟩ => ⟨S2048x8x1, .f32⟩
  | .hbm, ⟨47, _⟩ => ⟨S2048x8x128, .f32⟩
  | .hbm, ⟨48, _⟩ => ⟨S2048x8x128, .f32⟩
  | .hbm, ⟨49, _⟩ => ⟨S2048x8x1, .f32⟩
  | .hbm, ⟨50, _⟩ => ⟨S_, .f32⟩
  | .hbm, ⟨51, _⟩ => ⟨S2048x8x1, .f32⟩
  | .hbm, ⟨52, _⟩ => ⟨S2048x8x1, .f32⟩
  | .hbm, ⟨53, _⟩ => ⟨S_, .f32⟩
  | .hbm, ⟨54, _⟩ => ⟨S2048x8, .f32⟩
  | .hbm, ⟨55, _⟩ => ⟨S2048x8x128, .f32⟩
  | .hbm, ⟨56, _⟩ => ⟨S2048x8x128, .f32⟩
  | .hbm, ⟨57, _⟩ => ⟨S2048x8x128, .f32⟩
  | .hbm, ⟨58, _⟩ => ⟨S2048x8x128, .f32⟩
  | .hbm, ⟨59, _⟩ => ⟨S2048x8x128, .f32⟩
  | .hbm, ⟨60, _⟩ => ⟨S2048x1024, .f32⟩
  | .hbm, ⟨61, _⟩ => ⟨S2048x1024, .f32⟩
  | .hbm, ⟨62, _⟩ => ⟨S128, .f32⟩
  | .hbm, ⟨63, _⟩ => ⟨S2048x8x128, .f32⟩
  | .hbm, ⟨64, _⟩ => ⟨S2048x8x128, .f32⟩
  | .hbm, ⟨65, _⟩ => ⟨S_, .f32⟩
  | .hbm, ⟨66, _⟩ => ⟨S2048x8, .f32⟩
  | .hbm, ⟨67, _⟩ => ⟨S2048x8x1, .f32⟩
  | .hbm, ⟨68, _⟩ => ⟨S_, .f32⟩
  | .hbm, ⟨69, _⟩ => ⟨S2048x8x1, .f32⟩
  | .hbm, ⟨70, _⟩ => ⟨S2048x8x1, .f32⟩
  | .hbm, ⟨71, _⟩ => ⟨S_, .f32⟩
  | .hbm, ⟨72, _⟩ => ⟨S2048x8x1, .f32⟩
  | .hbm, ⟨73, _⟩ => ⟨S2048x8x1, .f32⟩
  | .hbm, ⟨74, _⟩ => ⟨S2048x8x1, .f32⟩
  | .hbm, ⟨75, _⟩ => ⟨S2048x8x1, .f32⟩
  | .hbm, ⟨76, _⟩ => ⟨S_, .f32⟩
  | .hbm, ⟨77, _⟩ => ⟨S2048x8x1, .f32⟩
  | .hbm, ⟨78, _⟩ => ⟨S2048x8x1, .f32⟩
  | .hbm, ⟨79, _⟩ => ⟨S2048x8x128, .f32⟩
  | .hbm, ⟨80, _⟩ => ⟨S2048x8x128, .f32⟩
  | .hbm, ⟨81, _⟩ => ⟨S1x1x128, .f32⟩
  | .hbm, ⟨82, _⟩ => ⟨S2048x8x128, .f32⟩
  | .hbm, ⟨83, _⟩ => ⟨S2048x8x128, .f32⟩
  | .hbm, ⟨84, _⟩ => ⟨S2048x1024, .f32⟩
  | .hbm, ⟨85, _⟩ => ⟨S2048x8x128, .f32⟩
  | .hbm, ⟨86, _⟩ => ⟨S8x2048x128, .f32⟩
  | .hbm, ⟨87, _⟩ => ⟨S2048x8x128, .f32⟩
  | .hbm, ⟨88, _⟩ => ⟨S2048x1024, .f32⟩
  | .hbm, ⟨89, _⟩ => ⟨S2048x8x128, .f32⟩
  | .hbm, ⟨90, _⟩ => ⟨S2048x8x128, .f32⟩
  | .hbm, ⟨91, _⟩ => ⟨S_, .f32⟩
  | .hbm, ⟨92, _⟩ => ⟨S128, .f32⟩
  | .hbm, ⟨93, _⟩ => ⟨S1x1x128, .f32⟩
  | .hbm, ⟨94, _⟩ => ⟨S2048x8x128, .f32⟩
  | .hbm, ⟨95, _⟩ => ⟨S2048x8x128, .f32⟩
  | .hbm, ⟨96, _⟩ => ⟨S_, .f32⟩
  | .hbm, ⟨97, _⟩ => ⟨S128, .f32⟩
  | .hbm, ⟨98, _⟩ => ⟨S2048x8x128, .f32⟩
  | .hbm, ⟨99, _⟩ => ⟨S_, .f32⟩
  | .hbm, ⟨100, _⟩ => ⟨S2048x8, .f32⟩
  | .hbm, ⟨101, _⟩ => ⟨S2048x8x1, .f32⟩
  | .hbm, ⟨102, _⟩ => ⟨S2048x8x128, .f32⟩
  | .hbm, ⟨103, _⟩ => ⟨S2048x8x128, .f32⟩
  | .hbm, ⟨104, _⟩ => ⟨S2048x8x1, .f32⟩
  | .hbm, ⟨105, _⟩ => ⟨S_, .f32⟩
  | .hbm, ⟨106, _⟩ => ⟨S2048x8x1, .f32⟩
  | .hbm, ⟨107, _⟩ => ⟨S2048x8x1, .f32⟩
  | .hbm, ⟨108, _⟩ => ⟨S_, .f32⟩
  | .hbm, ⟨109, _⟩ => ⟨S2048x8, .f32⟩
  | .hbm, ⟨110, _⟩ => ⟨S2048x8x128, .f32⟩
  | .hbm, ⟨111, _⟩ => ⟨S2048x8x128, .f32⟩
  | .hbm, ⟨112, _⟩ => ⟨S2048x8x128, .f32⟩
  | .hbm, ⟨113, _⟩ => ⟨S2048x8x128, .f32⟩
  | .hbm, ⟨114, _⟩ => ⟨S2048x8x128, .f32⟩
  | .hbm, ⟨115, _⟩ => ⟨S2048x1024, .f32⟩
  | .hbm, ⟨116, _⟩ => ⟨S2048x1024, .f32⟩
  | .hbm, ⟨117, _⟩ => ⟨S2048x8x128, .f32⟩
  | .hbm, ⟨118, _⟩ => ⟨S8x2048x128, .f32⟩
  | .hbm, ⟨119, _⟩ => ⟨S2048x8x128, .f32⟩
  | .hbm, ⟨120, _⟩ => ⟨S2048x1024, .f32⟩
  | .hbm, ⟨121, _⟩ => ⟨S2048x1024, .bf16⟩
  | .hbm, ⟨122, _⟩ => ⟨S2048x1024, .bf16⟩
  | .hbm, ⟨123, _⟩ => ⟨S2048x1024, .bf16⟩
  | .hbm, ⟨124, _⟩ => ⟨S1x128, .f32⟩
  | .hbm, ⟨125, _⟩ => ⟨S1x128, .f32⟩
  | _, _ => ⟨S2048x15488, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst : Ref sig .tc := ⟨.hbm, 10, rfl⟩
abbrev main_v4 : Ref sig .tc := ⟨.hbm, 11, rfl⟩
abbrev main_v5 : Ref sig .tc := ⟨.hbm, 12, rfl⟩
abbrev main_cst_0 : Ref sig .tc := ⟨.hbm, 13, rfl⟩
abbrev main_v6 : Ref sig .tc := ⟨.hbm, 14, rfl⟩
abbrev main_v7 : Ref sig .tc := ⟨.hbm, 15, rfl⟩
abbrev main_cst_1 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_2 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_cst_3 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_cst_4 : Ref sig .tc := ⟨.hbm, 41, rfl⟩
abbrev main_v30 : Ref sig .tc := ⟨.hbm, 42, rfl⟩
abbrev main_v31 : Ref sig .tc := ⟨.hbm, 43, rfl⟩
abbrev main_cst_5 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_cst_6 : Ref sig .tc := ⟨.hbm, 50, rfl⟩
abbrev main_v37 : Ref sig .tc := ⟨.hbm, 51, rfl⟩
abbrev main_v38 : Ref sig .tc := ⟨.hbm, 52, rfl⟩
abbrev main_cst_7 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_cst_8 : Ref sig .tc := ⟨.hbm, 65, rfl⟩
abbrev main_v50 : Ref sig .tc := ⟨.hbm, 66, rfl⟩
abbrev main_v51 : Ref sig .tc := ⟨.hbm, 67, rfl⟩
abbrev main_cst_9 : Ref sig .tc := ⟨.hbm, 68, rfl⟩
abbrev main_v52 : Ref sig .tc := ⟨.hbm, 69, rfl⟩
abbrev main_v53 : Ref sig .tc := ⟨.hbm, 70, rfl⟩
abbrev main_cst_10 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩
abbrev main_v57 : Ref sig .tc := ⟨.hbm, 75, rfl⟩
abbrev main_cst_11 : Ref sig .tc := ⟨.hbm, 76, rfl⟩
abbrev main_v58 : Ref sig .tc := ⟨.hbm, 77, rfl⟩
abbrev main_v59 : Ref sig .tc := ⟨.hbm, 78, rfl⟩
abbrev main_v60 : Ref sig .tc := ⟨.hbm, 79, rfl⟩
abbrev main_v61 : Ref sig .tc := ⟨.hbm, 80, rfl⟩
abbrev main_v62 : Ref sig .tc := ⟨.hbm, 81, rfl⟩
abbrev main_v63 : Ref sig .tc := ⟨.hbm, 82, rfl⟩
abbrev main_v64 : Ref sig .tc := ⟨.hbm, 83, rfl⟩
abbrev main_v65 : Ref sig .tc := ⟨.hbm, 84, rfl⟩
abbrev main_v66 : Ref sig .tc := ⟨.hbm, 85, rfl⟩
abbrev main_v67 : Ref sig .tc := ⟨.hbm, 86, rfl⟩
abbrev main_v68 : Ref sig .tc := ⟨.hbm, 87, rfl⟩
abbrev main_v69 : Ref sig .tc := ⟨.hbm, 88, rfl⟩
abbrev main_v70 : Ref sig .tc := ⟨.hbm, 89, rfl⟩
abbrev main_v71 : Ref sig .tc := ⟨.hbm, 90, rfl⟩
abbrev main_cst_12 : Ref sig .tc := ⟨.hbm, 91, rfl⟩
abbrev main_v72 : Ref sig .tc := ⟨.hbm, 92, rfl⟩
abbrev main_v73 : Ref sig .tc := ⟨.hbm, 93, rfl⟩
abbrev main_v74 : Ref sig .tc := ⟨.hbm, 94, rfl⟩
abbrev main_v75 : Ref sig .tc := ⟨.hbm, 95, rfl⟩
abbrev main_cst_13 : Ref sig .tc := ⟨.hbm, 96, rfl⟩
abbrev main_v76 : Ref sig .tc := ⟨.hbm, 97, rfl⟩
abbrev main_v77 : Ref sig .tc := ⟨.hbm, 98, rfl⟩
abbrev main_cst_14 : Ref sig .tc := ⟨.hbm, 99, rfl⟩
abbrev main_v78 : Ref sig .tc := ⟨.hbm, 100, rfl⟩
abbrev main_v79 : Ref sig .tc := ⟨.hbm, 101, rfl⟩
abbrev main_v80 : Ref sig .tc := ⟨.hbm, 102, rfl⟩
abbrev main_v81 : Ref sig .tc := ⟨.hbm, 103, rfl⟩
abbrev main_v82 : Ref sig .tc := ⟨.hbm, 104, rfl⟩
abbrev main_cst_15 : Ref sig .tc := ⟨.hbm, 105, rfl⟩
abbrev main_v83 : Ref sig .tc := ⟨.hbm, 106, rfl⟩
abbrev main_v84 : Ref sig .tc := ⟨.hbm, 107, rfl⟩
abbrev main_cst_16 : Ref sig .tc := ⟨.hbm, 108, rfl⟩
abbrev main_v85 : Ref sig .tc := ⟨.hbm, 109, rfl⟩
abbrev main_v86 : Ref sig .tc := ⟨.hbm, 110, rfl⟩
abbrev main_v87 : Ref sig .tc := ⟨.hbm, 111, rfl⟩
abbrev main_v88 : Ref sig .tc := ⟨.hbm, 112, rfl⟩
abbrev main_v89 : Ref sig .tc := ⟨.hbm, 113, rfl⟩
abbrev main_v90 : Ref sig .tc := ⟨.hbm, 114, rfl⟩
abbrev main_v91 : Ref sig .tc := ⟨.hbm, 115, rfl⟩
abbrev main_v92 : Ref sig .tc := ⟨.hbm, 116, rfl⟩
abbrev main_v93 : Ref sig .tc := ⟨.hbm, 117, rfl⟩
abbrev main_v94 : Ref sig .tc := ⟨.hbm, 118, rfl⟩
abbrev main_v95 : Ref sig .tc := ⟨.hbm, 119, rfl⟩
abbrev main_v96 : Ref sig .tc := ⟨.hbm, 120, rfl⟩
abbrev main_v97 : Ref sig .tc := ⟨.hbm, 121, rfl⟩
abbrev main_v98 : Ref sig .tc := ⟨.hbm, 122, rfl⟩
abbrev main_v99 : Ref sig .tc := ⟨.hbm, 123, rfl⟩
abbrev main_v100 : Ref sig .tc := ⟨.hbm, 124, rfl⟩
abbrev main_v101 : Ref sig .tc := ⟨.hbm, 125, rfl⟩

abbrev nD : Nat := 1
abbrev τ : Topo := Topo.v7x

variable {F : FTy → Type} [FloatOps F]
-- ==== Kernel19.lean ====
abbrev S2048x15488 : Shape := ⟨2, ![2048, 15488]⟩
abbrev S2048x2048 : Shape := ⟨2, ![2048, 2048]⟩
abbrev S256x1024 : Shape := ⟨2, ![256, 1024]⟩

abbrev nBuf : Space → Nat
  | .hbm => 5
  | .vmem => 14
  | .smem => 0
  | _ => 0

abbrev bufTy : (tb : Table) → Fin (tcTables nBuf tb) → BufTy
  | .hbm, ⟨0, _⟩ => ⟨S2048x15488, .f32⟩
  | .hbm, ⟨1, _⟩ => ⟨S2048x2048, .f32⟩
  | .hbm, ⟨2, _⟩ => ⟨S2048x2048, .f32⟩
  | .hbm, ⟨3, _⟩ => ⟨S2048x2048, .f32⟩
  | .hbm, ⟨4, _⟩ => ⟨S2048x2048, .bf16⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | .local _ .vmem, ⟨7, _⟩ => ⟨S256x1024, .f32⟩
  | .local _ .vmem, ⟨8, _⟩ => ⟨S256x1024, .f32⟩
  | .local _ .vmem, ⟨9, _⟩ => ⟨S256x1024, .f32⟩
  | .local _ .vmem, ⟨10, _⟩ => ⟨S256x1024, .f32⟩
  | .local _ .vmem, ⟨11, _⟩ => ⟨S256x1024, .f32⟩
  | .local _ .vmem, ⟨12, _⟩ => ⟨S256x1024, .bf16⟩
  | .local _ .vmem, ⟨13, _⟩ => ⟨S256x1024, .bf16⟩
  | _, _ => ⟨S2048x15488, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![8, 2], ![false, false]⟩

def cc0_transform_0 (i : grid0.Coords) : Fin 2 → Nat :=
  let arg0 : BitVec 32 := BitVec.ofNat 32 (i 0).val
  let arg1 : BitVec 32 := BitVec.ofNat 32 (i 1).val
  let c9_i32 : BitVec 32 := 9#32
  let v0 : BitVec 32 := Scalar.addi c9_i32 arg1
  let c0_i32 : BitVec 32 := 0#32
  ![arg0.toNat, v0.toNat]

def cc0_transform_1 (i : grid0.Coords) : Fin 2 → Nat :=
  let arg0 : BitVec 32 := BitVec.ofNat 32 (i 0).val
  let arg1 : BitVec 32 := BitVec.ofNat 32 (i 1).val
  let c11_i32 : BitVec 32 := 11#32
  let v0 : BitVec 32 := Scalar.addi c11_i32 arg1
  let c0_i32 : BitVec 32 := 0#32
  ![arg0.toNat, v0.toNat]

def cc0_transform_2 (i : grid0.Coords) : Fin 2 → Nat :=
  let arg0 : BitVec 32 := BitVec.ofNat 32 (i 0).val
  let arg1 : BitVec 32 := BitVec.ofNat 32 (i 1).val
  let c13_i32 : BitVec 32 := 13#32
  let v0 : BitVec 32 := Scalar.addi c13_i32 arg1
  let c0_i32 : BitVec 32 := 0#32
  ![arg0.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S256x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== Reference19Ideal.lean ====
abbrev S2048x15488 : Shape := ⟨2, ![2048, 15488]⟩
abbrev S2048x2048 : Shape := ⟨2, ![2048, 2048]⟩
abbrev S2048x6144 : Shape := ⟨2, ![2048, 6144]⟩
abbrev S_ : Shape := ⟨0, ![]⟩
abbrev S2048x3x2048 : Shape := ⟨3, ![2048, 3, 2048]⟩
abbrev S2048x1x2048 : Shape := ⟨3, ![2048, 1, 2048]⟩

abbrev nBuf : Space → Nat
  | .hbm => 26
  | .vmem => 0
  | .smem => 0
  | _ => 0

abbrev bufTy : (tb : Table) → Fin (tcTables nBuf tb) → BufTy
  | .hbm, ⟨0, _⟩ => ⟨S2048x15488, .f32⟩
  | .hbm, ⟨1, _⟩ => ⟨S2048x2048, .f32⟩
  | .hbm, ⟨2, _⟩ => ⟨S2048x2048, .f32⟩
  | .hbm, ⟨3, _⟩ => ⟨S2048x2048, .f32⟩
  | .hbm, ⟨4, _⟩ => ⟨S2048x6144, .f32⟩
  | .hbm, ⟨5, _⟩ => ⟨S2048x6144, .f32⟩
  | .hbm, ⟨6, _⟩ => ⟨S2048x6144, .f32⟩
  | .hbm, ⟨7, _⟩ => ⟨S_, .f32⟩
  | .hbm, ⟨8, _⟩ => ⟨S2048x6144, .f32⟩
  | .hbm, ⟨9, _⟩ => ⟨S2048x6144, .f32⟩
  | .hbm, ⟨10, _⟩ => ⟨S_, .f32⟩
  | .hbm, ⟨11, _⟩ => ⟨S2048x6144, .f32⟩
  | .hbm, ⟨12, _⟩ => ⟨S2048x6144, .f32⟩
  | .hbm, ⟨13, _⟩ => ⟨S2048x3x2048, .f32⟩
  | .hbm, ⟨14, _⟩ => ⟨S2048x1x2048, .f32⟩
  | .hbm, ⟨15, _⟩ => ⟨S2048x2048, .f32⟩
  | .hbm, ⟨16, _⟩ => ⟨S2048x2048, .f32⟩
  | .hbm, ⟨17, _⟩ => ⟨S2048x1x2048, .f32⟩
  | .hbm, ⟨18, _⟩ => ⟨S2048x2048, .f32⟩
  | .hbm, ⟨19, _⟩ => ⟨S2048x2048, .f32⟩
  | .hbm, ⟨20, _⟩ => ⟨S2048x2048, .f32⟩
  | .hbm, ⟨21, _⟩ => ⟨S2048x1x2048, .f32⟩
  | .hbm, ⟨22, _⟩ => ⟨S2048x2048, .f32⟩
  | .hbm, ⟨23, _⟩ => ⟨S2048x2048, .f32⟩
  | .hbm, ⟨24, _⟩ => ⟨S2048x2048, .f32⟩
  | .hbm, ⟨25, _⟩ => ⟨S2048x2048, .bf16⟩
  | _, _ => ⟨S2048x15488, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_cst_0 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩

abbrev nD : Nat := 1
abbrev τ : Topo := Topo.v7x

variable {F : FTy → Type} [FloatOps F]
-- ==== Kernel20.lean ====
abbrev S2048x2048 : Shape := ⟨2, ![2048, 2048]⟩
abbrev S1x2048 : Shape := ⟨2, ![1, 2048]⟩
abbrev S256x2048 : Shape := ⟨2, ![256, 2048]⟩
abbrev S256 : Shape := ⟨1, ![256]⟩
abbrev S256x1 : Shape := ⟨2, ![256, 1]⟩

abbrev nBuf : Space → Nat
  | .hbm => 3
  | .vmem => 5
  | .smem => 0
  | _ => 0

abbrev bufTy : (tb : Table) → Fin (tcTables nBuf tb) → BufTy
  | .hbm, ⟨0, _⟩ => ⟨S2048x2048, .f32⟩
  | .hbm, ⟨1, _⟩ => ⟨S1x2048, .f32⟩
  | .hbm, ⟨2, _⟩ => ⟨S2048x2048, .bf16⟩
  | .local _ .vmem, ⟨0, _⟩ => ⟨S256x2048, .f32⟩
  | .local _ .vmem, ⟨1, _⟩ => ⟨S256x2048, .f32⟩
  | .local _ .vmem, ⟨2, _⟩ => ⟨S1x2048, .f32⟩
  | .local _ .vmem, ⟨3, _⟩ => ⟨S256x2048, .bf16⟩
  | .local _ .vmem, ⟨4, _⟩ => ⟨S256x2048, .bf16⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Reference20Ideal.lean ====
abbrev S2048x2048 : Shape := ⟨2, ![2048, 2048]⟩
abbrev S1x2048 : Shape := ⟨2, ![1, 2048]⟩
abbrev S2048 : Shape := ⟨1, ![2048]⟩
abbrev S_ : Shape := ⟨0, ![]⟩
abbrev S2048x1 : Shape := ⟨2, ![2048, 1]⟩

abbrev nBuf : Space → Nat
  | .hbm => 20
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S1x2048, .f32⟩
  | .hbm, ⟨2, _⟩ => ⟨S2048, .f32⟩
  | .hbm, ⟨3, _⟩ => ⟨S2048x2048, .f32⟩
  | .hbm, ⟨4, _⟩ => ⟨S_, .f32⟩
  | .hbm, ⟨5, _⟩ => ⟨S2048, .f32⟩
  | .hbm, ⟨6, _⟩ => ⟨S2048x1, .f32⟩
  | .hbm, ⟨7, _⟩ => ⟨S_, .f32⟩
  | .hbm, ⟨8, _⟩ => ⟨S2048x1, .f32⟩
  | .hbm, ⟨9, _⟩ => ⟨S2048x1, .f32⟩
  | .hbm, ⟨10, _⟩ => ⟨S_, .f32⟩
  | .hbm, ⟨11, _⟩ => ⟨S2048x1, .f32⟩
  | .hbm, ⟨12, _⟩ => ⟨S2048x1, .f32⟩
  | .hbm, ⟨13, _⟩ => ⟨S2048x1, .f32⟩
  | .hbm, ⟨14, _⟩ => ⟨S2048x2048, .f32⟩
  | .hbm, ⟨15, _⟩ => ⟨S2048x2048, .f32⟩
  | .hbm, ⟨16, _⟩ => ⟨S1x2048, .f32⟩
  | .hbm, ⟨17, _⟩ => ⟨S2048x2048, .f32⟩
  | .hbm, ⟨18, _⟩ => ⟨S2048x2048, .f32⟩
  | .hbm, ⟨19, _⟩ => ⟨S2048x2048, .bf16⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_cst_1 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩

abbrev nD : Nat := 1
abbrev τ : Topo := Topo.v7x

variable {F : FTy → Type} [FloatOps F]
-- ==== Kernel21.lean ====
abbrev S8x2048x128 : Shape := ⟨3, ![8, 2048, 128]⟩
abbrev S2048x15488 : Shape := ⟨2, ![2048, 15488]⟩
abbrev S1x128 : Shape := ⟨2, ![1, 128]⟩
abbrev S2048x1024 : Shape := ⟨2, ![2048, 1024]⟩
abbrev S1x512x128 : Shape := ⟨3, ![1, 512, 128]⟩
abbrev S512x128 : Shape := ⟨2, ![512, 128]⟩
abbrev S512 : Shape := ⟨1, ![512]⟩
abbrev S512x1 : Shape := ⟨2, ![512, 1]⟩

abbrev nBuf : Space → Nat
  | .hbm => 4
  | .vmem => 7
  | .smem => 0
  | _ => 0

abbrev bufTy : (tb : Table) → Fin (tcTables nBuf tb) → BufTy
  | .hbm, ⟨0, _⟩ => ⟨S8x2048x128, .f32⟩
  | .hbm, ⟨1, _⟩ => ⟨S2048x15488, .f32⟩
  | .hbm, ⟨2, _⟩ => ⟨S1x128, .f32⟩
  | .hbm, ⟨3, _⟩ => ⟨S2048x1024, .bf16⟩
  | .local _ .vmem, ⟨0, _⟩ => ⟨S1x512x128, .f32⟩
  | .local _ .vmem, ⟨1, _⟩ => ⟨S1x512x128, .f32⟩
  | .local _ .vmem, ⟨2, _⟩ => ⟨S512x128, .f32⟩
  | .local _ .vmem, ⟨3, _⟩ => ⟨S512x128, .f32⟩
  | .local _ .vmem, ⟨4, _⟩ => ⟨S1x128, .f32⟩
  | .local _ .vmem, ⟨5, _⟩ => ⟨S512x128, .bf16⟩
  | .local _ .vmem, ⟨6, _⟩ => ⟨S512x128, .bf16⟩
  | _, _ => ⟨S8x2048x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![8, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c24_i32 : BitVec 32 := 24#32
  let v0 : BitVec 32 := Scalar.addi c24_i32 arg0
  let c0_i32 : BitVec 32 := 0#32
  ![arg1.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1x512x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S512x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S512x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference21Ideal.lean ====
abbrev S8x2048x128 : Shape := ⟨3, ![8, 2048, 128]⟩
abbrev S2048x15488 : Shape := ⟨2, ![2048, 15488]⟩
abbrev S1x128 : Shape := ⟨2, ![1, 128]⟩
abbrev S2048x1024 : Shape := ⟨2, ![2048, 1024]⟩
abbrev S128 : Shape := ⟨1, ![128]⟩
abbrev S2048x8x128 : Shape := ⟨3, ![2048, 8, 128]⟩
abbrev S_ : Shape := ⟨0, ![]⟩
abbrev S2048x8 : Shape := ⟨2, ![2048, 8]⟩
abbrev S2048x8x1 : Shape := ⟨3, ![2048, 8, 1]⟩
abbrev S1x1x128 : Shape := ⟨3, ![1, 1, 128]⟩

abbrev nBuf : Space → Nat
  | .hbm => 35
  | .vmem => 0
  | .smem => 0
  | _ => 0

abbrev bufTy : (tb : Table) → Fin (tcTables nBuf tb) → BufTy
  | .hbm, ⟨0, _⟩ => ⟨S8x2048x128, .f32⟩
  | .hbm, ⟨1, _⟩ => ⟨S2048x15488, .f32⟩
  | .hbm, ⟨2, _⟩ => ⟨S1x128, .f32⟩
  | .hbm, ⟨3, _⟩ => ⟨S2048x1024, .f32⟩
  | .hbm, ⟨4, _⟩ => ⟨S128, .f32⟩
  | .hbm, ⟨5, _⟩ => ⟨S2048x8x128, .f32⟩
  | .hbm, ⟨6, _⟩ => ⟨S2048x8x128, .f32⟩
  | .hbm, ⟨7, _⟩ => ⟨S_, .f32⟩
  | .hbm, ⟨8, _⟩ => ⟨S2048x8, .f32⟩
  | .hbm, ⟨9, _⟩ => ⟨S2048x8x1, .f32⟩
  | .hbm, ⟨10, _⟩ => ⟨S_, .f32⟩
  | .hbm, ⟨11, _⟩ => ⟨S2048x8x1, .f32⟩
  | .hbm, ⟨12, _⟩ => ⟨S2048x8x1, .f32⟩
  | .hbm, ⟨13, _⟩ => ⟨S_, .f32⟩
  | .hbm, ⟨14, _⟩ => ⟨S2048x8x1, .f32⟩
  | .hbm, ⟨15, _⟩ => ⟨S2048x8x1, .f32⟩
  | .hbm, ⟨16, _⟩ => ⟨S2048x8x1, .f32⟩
  | .hbm, ⟨17, _⟩ => ⟨S2048x8x128, .f32⟩
  | .hbm, ⟨18, _⟩ => ⟨S2048x8x128, .f32⟩
  | .hbm, ⟨19, _⟩ => ⟨S1x1x128, .f32⟩
  | .hbm, ⟨20, _⟩ => ⟨S2048x8x128, .f32⟩
  | .hbm, ⟨21, _⟩ => ⟨S2048x8x128, .f32⟩
  | .hbm, ⟨22, _⟩ => ⟨S2048x8x128, .f32⟩
  | .hbm, ⟨23, _⟩ => ⟨S2048x8x128, .f32⟩
  | .hbm, ⟨24, _⟩ => ⟨S2048x8x128, .f32⟩
  | .hbm, ⟨25, _⟩ => ⟨S_, .f32⟩
  | .hbm, ⟨26, _⟩ => ⟨S2048x8x128, .f32⟩
  | .hbm, ⟨27, _⟩ => ⟨S2048x8x128, .f32⟩
  | .hbm, ⟨28, _⟩ => ⟨S_, .f32⟩
  | .hbm, ⟨29, _⟩ => ⟨S2048x8x128, .f32⟩
  | .hbm, ⟨30, _⟩ => ⟨S2048x8x128, .f32⟩
  | .hbm, ⟨31, _⟩ => ⟨S2048x8x128, .f32⟩
  | .hbm, ⟨32, _⟩ => ⟨S2048x8x128, .f32⟩
  | .hbm, ⟨33, _⟩ => ⟨S2048x1024, .f32⟩
  | .hbm, ⟨34, _⟩ => ⟨S2048x1024, .bf16⟩
  | _, _ => ⟨S8x2048x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst : Ref sig .tc := ⟨.hbm, 7, rfl⟩
abbrev main_v4 : Ref sig .tc := ⟨.hbm, 8, rfl⟩
abbrev main_v5 : Ref sig .tc := ⟨.hbm, 9, rfl⟩
abbrev main_cst_0 : Ref sig .tc := ⟨.hbm, 10, rfl⟩
abbrev main_v6 : Ref sig .tc := ⟨.hbm, 11, rfl⟩
abbrev main_v7 : Ref sig .tc := ⟨.hbm, 12, rfl⟩
abbrev main_cst_1 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_call0_v0 : Ref sig .tc := ⟨.hbm, 23, rfl⟩
abbrev main_call0_v1 : Ref sig .tc := ⟨.hbm, 24, rfl⟩
abbrev main_call0_cst : Ref sig .tc := ⟨.hbm, 25, rfl⟩
abbrev main_call0_v2 : Ref sig .tc := ⟨.hbm, 26, rfl⟩
abbrev main_call0_v3 : Ref sig .tc := ⟨.hbm, 27, rfl⟩
abbrev main_call0_cst_0 : Ref sig .tc := ⟨.hbm, 28, rfl⟩
abbrev main_call0_v4 : Ref sig .tc := ⟨.hbm, 29, rfl⟩
abbrev main_call0_v5 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩

abbrev nD : Nat := 1
abbrev τ : Topo := Topo.v7x

variable {F : FTy → Type} [FloatOps F]
-- ==== Kernel22.lean ====
abbrev S8x4688x128 : Shape := ⟨3, ![8, 4688, 128]⟩
abbrev S4688x128 : Shape := ⟨2, ![4688, 128]⟩
abbrev S1x4688x128 : Shape := ⟨3, ![1, 4688, 128]⟩

abbrev nBuf : Space → Nat
  | .hbm => 8
  | .vmem => 8
  | .smem => 0
  | _ => 0

abbrev bufTy : (tb : Table) → Fin (tcTables nBuf tb) → BufTy
  | .hbm, ⟨0, _⟩ => ⟨S8x4688x128, .f32⟩
  | .hbm, ⟨1, _⟩ => ⟨S4688x128, .f32⟩
  | .hbm, ⟨2, _⟩ => ⟨S4688x128, .f32⟩
  | .hbm, ⟨3, _⟩ => ⟨S4688x128, .f32⟩
  | .hbm, ⟨4, _⟩ => ⟨S4688x128, .f32⟩
  | .hbm, ⟨5, _⟩ => ⟨S4688x128, .f32⟩
  | .hbm, ⟨6, _⟩ => ⟨S4688x128, .f32⟩
  | .hbm, ⟨7, _⟩ => ⟨S4688x128, .f32⟩
  | .local _ .vmem, ⟨0, _⟩ => ⟨S8x4688x128, .f32⟩
  | .local _ .vmem, ⟨1, _⟩ => ⟨S4688x128, .f32⟩
  | .local _ .vmem, ⟨2, _⟩ => ⟨S4688x128, .f32⟩
  | .local _ .vmem, ⟨3, _⟩ => ⟨S4688x128, .f32⟩
  | .local _ .vmem, ⟨4, _⟩ => ⟨S4688x128, .f32⟩
  | .local _ .vmem, ⟨5, _⟩ => ⟨S4688x128, .f32⟩
  | .local _ .vmem, ⟨6, _⟩ => ⟨S4688x128, .f32⟩
  | .local _ .vmem, ⟨7, _⟩ => ⟨S4688x128, .f32⟩
  | _, _ => ⟨S8x4688x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S8x4688x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S4688x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S4688x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S4688x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S4688x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S4688x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S4688x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S4688x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== Reference22Ideal.lean ====
abbrev S8x4688x128 : Shape := ⟨3, ![8, 4688, 128]⟩
abbrev S4688x128 : Shape := ⟨2, ![4688, 128]⟩
abbrev S_ : Shape := ⟨0, ![]⟩

abbrev nBuf : Space → Nat
  | .hbm => 39
  | .vmem => 0
  | .smem => 0
  | _ => 0

abbrev bufTy : (tb : Table) → Fin (tcTables nBuf tb) → BufTy
  | .hbm, ⟨0, _⟩ => ⟨S8x4688x128, .f32⟩
  | .hbm, ⟨1, _⟩ => ⟨S4688x128, .f32⟩
  | .hbm, ⟨2, _⟩ => ⟨S4688x128, .f32⟩
  | .hbm, ⟨3, _⟩ => ⟨S4688x128, .f32⟩
  | .hbm, ⟨4, _⟩ => ⟨S_, .f32⟩
  | .hbm, ⟨5, _⟩ => ⟨S4688x128, .f32⟩
  | .hbm, ⟨6, _⟩ => ⟨S_, .f32⟩
  | .hbm, ⟨7, _⟩ => ⟨S4688x128, .f32⟩
  | .hbm, ⟨8, _⟩ => ⟨S4688x128, .f32⟩
  | .hbm, ⟨9, _⟩ => ⟨S_, .f32⟩
  | .hbm, ⟨10, _⟩ => ⟨S4688x128, .f32⟩
  | .hbm, ⟨11, _⟩ => ⟨S4688x128, .f32⟩
  | .hbm, ⟨12, _⟩ => ⟨S4688x128, .f32⟩
  | .hbm, ⟨13, _⟩ => ⟨S_, .f32⟩
  | .hbm, ⟨14, _⟩ => ⟨S4688x128, .f32⟩
  | .hbm, ⟨15, _⟩ => ⟨S4688x128, .f32⟩
  | .hbm, ⟨16, _⟩ => ⟨S4688x128, .f32⟩
  | .hbm, ⟨17, _⟩ => ⟨S_, .f32⟩
  | .hbm, ⟨18, _⟩ => ⟨S4688x128, .f32⟩
  | .hbm, ⟨19, _⟩ => ⟨S4688x128, .f32⟩
  | .hbm, ⟨20, _⟩ => ⟨S4688x128, .f32⟩
  | .hbm, ⟨21, _⟩ => ⟨S_, .f32⟩
  | .hbm, ⟨22, _⟩ => ⟨S4688x128, .f32⟩
  | .hbm, ⟨23, _⟩ => ⟨S4688x128, .f32⟩
  | .hbm, ⟨24, _⟩ => ⟨S_, .f32⟩
  | .hbm, ⟨25, _⟩ => ⟨S4688x128, .f32⟩
  | .hbm, ⟨26, _⟩ => ⟨S4688x128, .f32⟩
  | .hbm, ⟨27, _⟩ => ⟨S4688x128, .f32⟩
  | .hbm, ⟨28, _⟩ => ⟨S_, .f32⟩
  | .hbm, ⟨29, _⟩ => ⟨S4688x128, .f32⟩
  | .hbm, ⟨30, _⟩ => ⟨S4688x128, .f32⟩
  | .hbm, ⟨31, _⟩ => ⟨S4688x128, .f32⟩
  | .hbm, ⟨32, _⟩ => ⟨S_, .f32⟩
  | .hbm, ⟨33, _⟩ => ⟨S4688x128, .f32⟩
  | .hbm, ⟨34, _⟩ => ⟨S4688x128, .f32⟩
  | .hbm, ⟨35, _⟩ => ⟨S4688x128, .f32⟩
  | .hbm, ⟨36, _⟩ => ⟨S_, .f32⟩
  | .hbm, ⟨37, _⟩ => ⟨S4688x128, .f32⟩
  | .hbm, ⟨38, _⟩ => ⟨S4688x128, .f32⟩
  | _, _ => ⟨S8x4688x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_cst_0 : Ref sig .tc := ⟨.hbm, 6, rfl⟩
abbrev main_v1 : Ref sig .tc := ⟨.hbm, 7, rfl⟩
abbrev main_v2 : Ref sig .tc := ⟨.hbm, 8, rfl⟩
abbrev main_cst_1 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst_2 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_3 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_4 : Ref sig .tc := ⟨.hbm, 21, rfl⟩
abbrev main_v12 : Ref sig .tc := ⟨.hbm, 22, rfl⟩
abbrev main_v13 : Ref sig .tc := ⟨.hbm, 23, rfl⟩
abbrev main_cst_5 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_6 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_7 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_8 : Ref sig .tc := ⟨.hbm, 36, rfl⟩
abbrev main_v23 : Ref sig .tc := ⟨.hbm, 37, rfl⟩
abbrev main_v24 : Ref sig .tc := ⟨.hbm, 38, rfl⟩

abbrev nD : Nat := 1
abbrev τ : Topo := Topo.v7x

variable {F : FTy → Type} [FloatOps F]
-- ==== Kernel23.lean ====
abbrev S2048x2048 : Shape := ⟨2, ![2048, 2048]⟩
abbrev S8x128 : Shape := ⟨2, ![8, 128]⟩
abbrev S256x2048 : Shape := ⟨2, ![256, 2048]⟩
abbrev S256 : Shape := ⟨1, ![256]⟩
abbrev S256x1 : Shape := ⟨2, ![256, 1]⟩
abbrev S1 : Shape := ⟨1, ![1]⟩
abbrev S1x1 : Shape := ⟨2, ![1, 1]⟩

abbrev nBuf : Space → Nat
  | .hbm => 5
  | .vmem => 9
  | .smem => 0
  | _ => 0

abbrev bufTy : (tb : Table) → Fin (tcTables nBuf tb) → BufTy
  | .hbm, ⟨0, _⟩ => ⟨S2048x2048, .f32⟩
  | .hbm, ⟨1, _⟩ => ⟨S2048x2048, .f32⟩
  | .hbm, ⟨2, _⟩ => ⟨S2048x2048, .f32⟩
  | .hbm, ⟨3, _⟩ => ⟨S2048x2048, .bf16⟩
  | .hbm, ⟨4, _⟩ => ⟨S8x128, .f32⟩
  | .local _ .vmem, ⟨0, _⟩ => ⟨S256x2048, .f32⟩
  | .local _ .vmem, ⟨1, _⟩ => ⟨S256x2048, .f32⟩
  | .local _ .vmem, ⟨2, _⟩ => ⟨S256x2048, .f32⟩
  | .local _ .vmem, ⟨3, _⟩ => ⟨S256x2048, .f32⟩
  | .local _ .vmem, ⟨4, _⟩ => ⟨S256x2048, .f32⟩
  | .local _ .vmem, ⟨5, _⟩ => ⟨S256x2048, .f32⟩
  | .local _ .vmem, ⟨6, _⟩ => ⟨S256x2048, .bf16⟩
  | .local _ .vmem, ⟨7, _⟩ => ⟨S256x2048, .bf16⟩
  | .local _ .vmem, ⟨8, _⟩ => ⟨S8x128, .f32⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev main_v0_2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S8x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]
-- ==== Reference23Ideal.lean ====
abbrev S2048x2048 : Shape := ⟨2, ![2048, 2048]⟩
abbrev S_ : Shape := ⟨0, ![]⟩
abbrev S2048 : Shape := ⟨1, ![2048]⟩
abbrev S8x128 : Shape := ⟨2, ![8, 128]⟩

abbrev nBuf : Space → Nat
  | .hbm => 38
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S2048x2048, .f32⟩
  | .hbm, ⟨2, _⟩ => ⟨S2048x2048, .f32⟩
  | .hbm, ⟨3, _⟩ => ⟨S2048x2048, .f32⟩
  | .hbm, ⟨4, _⟩ => ⟨S_, .f32⟩
  | .hbm, ⟨5, _⟩ => ⟨S2048x2048, .f32⟩
  | .hbm, ⟨6, _⟩ => ⟨S2048x2048, .f32⟩
  | .hbm, ⟨7, _⟩ => ⟨S_, .f32⟩
  | .hbm, ⟨8, _⟩ => ⟨S2048, .f32⟩
  | .hbm, ⟨9, _⟩ => ⟨S_, .f32⟩
  | .hbm, ⟨10, _⟩ => ⟨S2048, .f32⟩
  | .hbm, ⟨11, _⟩ => ⟨S2048, .f32⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S_, .f32⟩
  | .hbm, ⟨18, _⟩ => ⟨S_, .f32⟩
  | .hbm, ⟨19, _⟩ => ⟨S2048, .f32⟩
  | .hbm, ⟨20, _⟩ => ⟨S_, .f32⟩
  | .hbm, ⟨21, _⟩ => ⟨S2048, .f32⟩
  | .hbm, ⟨22, _⟩ => ⟨S2048, .f32⟩
  | .hbm, ⟨23, _⟩ => ⟨S2048x2048, .f32⟩
  | .hbm, ⟨24, _⟩ => ⟨S2048x2048, .f32⟩
  | .hbm, ⟨25, _⟩ => ⟨S2048x2048, .bf16⟩
  | .hbm, ⟨26, _⟩ => ⟨S2048x2048, .f32⟩
  | .hbm, ⟨27, _⟩ => ⟨S2048x2048, .f32⟩
  | .hbm, ⟨28, _⟩ => ⟨S_, .f32⟩
  | .hbm, ⟨29, _⟩ => ⟨S2048, .f32⟩
  | .hbm, ⟨30, _⟩ => ⟨S_, .f32⟩
  | .hbm, ⟨31, _⟩ => ⟨S2048, .f32⟩
  | .hbm, ⟨32, _⟩ => ⟨S2048, .f32⟩
  | .hbm, ⟨33, _⟩ => ⟨S_, .f32⟩
  | .hbm, ⟨34, _⟩ => ⟨S_, .f32⟩
  | .hbm, ⟨35, _⟩ => ⟨S_, .f32⟩
  | .hbm, ⟨36, _⟩ => ⟨S_, .f32⟩
  | .hbm, ⟨37, _⟩ => ⟨S8x128, .f32⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_cst_2 : Ref sig .tc := ⟨.hbm, 12, rfl⟩
abbrev main_v7 : Ref sig .tc := ⟨.hbm, 13, rfl⟩
abbrev main_cst_3 : Ref sig .tc := ⟨.hbm, 14, rfl⟩
abbrev main_v8 : Ref sig .tc := ⟨.hbm, 15, rfl⟩
abbrev main_cst_4 : Ref sig .tc := ⟨.hbm, 16, rfl⟩
abbrev main_cst_5 : Ref sig .tc := ⟨.hbm, 17, rfl⟩
abbrev main_v9 : Ref sig .tc := ⟨.hbm, 18, rfl⟩
abbrev main_v10 : Ref sig .tc := ⟨.hbm, 19, rfl⟩
abbrev main_cst_6 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_cst_7 : Ref sig .tc := ⟨.hbm, 28, rfl⟩
abbrev main_v18 : Ref sig .tc := ⟨.hbm, 29, rfl⟩
abbrev main_cst_8 : Ref sig .tc := ⟨.hbm, 30, rfl⟩
abbrev main_v19 : Ref sig .tc := ⟨.hbm, 31, rfl⟩
abbrev main_v20 : Ref sig .tc := ⟨.hbm, 32, rfl⟩
abbrev main_cst_9 : Ref sig .tc := ⟨.hbm, 33, rfl⟩
abbrev main_v21 : Ref sig .tc := ⟨.hbm, 34, rfl⟩
abbrev main_cst_10 : Ref sig .tc := ⟨.hbm, 35, rfl⟩
abbrev main_v22 : Ref sig .tc := ⟨.hbm, 36, rfl⟩
abbrev main_v23 : Ref sig .tc := ⟨.hbm, 37, rfl⟩

abbrev nD : Nat := 1
abbrev τ : Topo := Topo.v7x

variable {F : FTy → Type} [FloatOps F]
-- ==== Kernel24.lean ====
abbrev S2048x15488 : Shape := ⟨2, ![2048, 15488]⟩
abbrev S1x128 : Shape := ⟨2, ![1, 128]⟩
abbrev S8x2048x128 : Shape := ⟨3, ![8, 2048, 128]⟩
abbrev S512x128 : Shape := ⟨2, ![512, 128]⟩
abbrev S1x512x128 : Shape := ⟨3, ![1, 512, 128]⟩
abbrev S512 : Shape := ⟨1, ![512]⟩
abbrev S512x1 : Shape := ⟨2, ![512, 1]⟩

abbrev nBuf : Space → Nat
  | .hbm => 6
  | .vmem => 14
  | .smem => 0
  | _ => 0

abbrev bufTy : (tb : Table) → Fin (tcTables nBuf tb) → BufTy
  | .hbm, ⟨0, _⟩ => ⟨S2048x15488, .f32⟩
  | .hbm, ⟨1, _⟩ => ⟨S1x128, .f32⟩
  | .hbm, ⟨2, _⟩ => ⟨S1x128, .f32⟩
  | .hbm, ⟨3, _⟩ => ⟨S8x2048x128, .bf16⟩
  | .hbm, ⟨4, _⟩ => ⟨S8x2048x128, .bf16⟩
  | .hbm, ⟨5, _⟩ => ⟨S8x2048x128, .bf16⟩
  | .local _ .vmem, ⟨0, _⟩ => ⟨S512x128, .f32⟩
  | .local _ .vmem, ⟨1, _⟩ => ⟨S512x128, .f32⟩
  | .local _ .vmem, ⟨2, _⟩ => ⟨S512x128, .f32⟩
  | .local _ .vmem, ⟨3, _⟩ => ⟨S512x128, .f32⟩
  | .local _ .vmem, ⟨4, _⟩ => ⟨S512x128, .f32⟩
  | .local _ .vmem, ⟨5, _⟩ => ⟨S512x128, .f32⟩
  | .local _ .vmem, ⟨6, _⟩ => ⟨S1x128, .f32⟩
  | .local _ .vmem, ⟨7, _⟩ => ⟨S1x128, .f32⟩
  | .local _ .vmem, ⟨8, _⟩ => ⟨S1x512x128, .bf16⟩
  | .local _ .vmem, ⟨9, _⟩ => ⟨S1x512x128, .bf16⟩
  | .local _ .vmem, ⟨10, _⟩ => ⟨S1x512x128, .bf16⟩
  | .local _ .vmem, ⟨11, _⟩ => ⟨S1x512x128, .bf16⟩
  | .local _ .vmem, ⟨12, _⟩ => ⟨S1x512x128, .bf16⟩
  | .local _ .vmem, ⟨13, _⟩ => ⟨S1x512x128, .bf16⟩
  | _, _ => ⟨S2048x15488, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev main_v0_2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13

abbrev nD : Nat := 1
abbrev τ : Topo := Topo.v7x

variable {F : FTy → Type} [FloatOps F]

abbrev grid0 : Pipeline.Grid := ⟨2, ![8, 4], ![false, false]⟩

def cc0_transform_0 (i : grid0.Coords) : Fin 2 → Nat :=
  let arg0 : BitVec 32 := BitVec.ofNat 32 (i 0).val
  let arg1 : BitVec 32 := BitVec.ofNat 32 (i 1).val
  let c48_i32 : BitVec 32 := 48#32
  let v0 : BitVec 32 := Scalar.addi c48_i32 arg0
  let c0_i32 : BitVec 32 := 0#32
  ![arg1.toNat, v0.toNat]

def cc0_transform_1 (i : grid0.Coords) : Fin 2 → Nat :=
  let arg0 : BitVec 32 := BitVec.ofNat 32 (i 0).val
  let arg1 : BitVec 32 := BitVec.ofNat 32 (i 1).val
  let c56_i32 : BitVec 32 := 56#32
  let v0 : BitVec 32 := Scalar.addi c56_i32 arg0
  let c0_i32 : BitVec 32 := 0#32
  ![arg1.toNat, v0.toNat]

def cc0_transform_2 (i : grid0.Coords) : Fin 2 → Nat :=
  let arg0 : BitVec 32 := BitVec.ofNat 32 (i 0).val
  let arg1 : BitVec 32 := BitVec.ofNat 32 (i 1).val
  let c64_i32 : BitVec 32 := 64#32
  let v0 : BitVec 32 := Scalar.addi c64_i32 arg0
  let c0_i32 : BitVec 32 := 0#32
  ![arg1.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S512x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S512x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S512x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1x512x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x512x128 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x512x128 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== Reference24Ideal.lean ====
abbrev S2048x15488 : Shape := ⟨2, ![2048, 15488]⟩
abbrev S1x128 : Shape := ⟨2, ![1, 128]⟩
abbrev S2048x1024 : Shape := ⟨2, ![2048, 1024]⟩
abbrev S128 : Shape := ⟨1, ![128]⟩
abbrev S2048x8x128 : Shape := ⟨3, ![2048, 8, 128]⟩
abbrev S_ : Shape := ⟨0, ![]⟩
abbrev S2048x8 : Shape := ⟨2, ![2048, 8]⟩
abbrev S2048x8x1 : Shape := ⟨3, ![2048, 8, 1]⟩
abbrev S1x1x128 : Shape := ⟨3, ![1, 1, 128]⟩
abbrev S8x2048x128 : Shape := ⟨3, ![8, 2048, 128]⟩

abbrev nBuf : Space → Nat
  | .hbm => 53
  | .vmem => 0
  | .smem => 0
  | _ => 0

abbrev bufTy : (tb : Table) → Fin (tcTables nBuf tb) → BufTy
  | .hbm, ⟨0, _⟩ => ⟨S2048x15488, .f32⟩
  | .hbm, ⟨1, _⟩ => ⟨S1x128, .f32⟩
  | .hbm, ⟨2, _⟩ => ⟨S1x128, .f32⟩
  | .hbm, ⟨3, _⟩ => ⟨S2048x1024, .f32⟩
  | .hbm, ⟨4, _⟩ => ⟨S128, .f32⟩
  | .hbm, ⟨5, _⟩ => ⟨S2048x8x128, .f32⟩
  | .hbm, ⟨6, _⟩ => ⟨S2048x8x128, .f32⟩
  | .hbm, ⟨7, _⟩ => ⟨S_, .f32⟩
  | .hbm, ⟨8, _⟩ => ⟨S2048x8, .f32⟩
  | .hbm, ⟨9, _⟩ => ⟨S2048x8x1, .f32⟩
  | .hbm, ⟨10, _⟩ => ⟨S_, .f32⟩
  | .hbm, ⟨11, _⟩ => ⟨S2048x8x1, .f32⟩
  | .hbm, ⟨12, _⟩ => ⟨S2048x8x1, .f32⟩
  | .hbm, ⟨13, _⟩ => ⟨S_, .f32⟩
  | .hbm, ⟨14, _⟩ => ⟨S2048x8x1, .f32⟩
  | .hbm, ⟨15, _⟩ => ⟨S2048x8x1, .f32⟩
  | .hbm, ⟨16, _⟩ => ⟨S2048x8x1, .f32⟩
  | .hbm, ⟨17, _⟩ => ⟨S2048x8x128, .f32⟩
  | .hbm, ⟨18, _⟩ => ⟨S2048x8x128, .f32⟩
  | .hbm, ⟨19, _⟩ => ⟨S1x1x128, .f32⟩
  | .hbm, ⟨20, _⟩ => ⟨S2048x8x128, .f32⟩
  | .hbm, ⟨21, _⟩ => ⟨S2048x8x128, .f32⟩
  | .hbm, ⟨22, _⟩ => ⟨S2048x1024, .f32⟩
  | .hbm, ⟨23, _⟩ => ⟨S2048x8x128, .f32⟩
  | .hbm, ⟨24, _⟩ => ⟨S8x2048x128, .f32⟩
  | .hbm, ⟨25, _⟩ => ⟨S2048x1024, .f32⟩
  | .hbm, ⟨26, _⟩ => ⟨S128, .f32⟩
  | .hbm, ⟨27, _⟩ => ⟨S2048x8x128, .f32⟩
  | .hbm, ⟨28, _⟩ => ⟨S2048x8x128, .f32⟩
  | .hbm, ⟨29, _⟩ => ⟨S_, .f32⟩
  | .hbm, ⟨30, _⟩ => ⟨S2048x8, .f32⟩
  | .hbm, ⟨31, _⟩ => ⟨S2048x8x1, .f32⟩
  | .hbm, ⟨32, _⟩ => ⟨S_, .f32⟩
  | .hbm, ⟨33, _⟩ => ⟨S2048x8x1, .f32⟩
  | .hbm, ⟨34, _⟩ => ⟨S2048x8x1, .f32⟩
  | .hbm, ⟨35, _⟩ => ⟨S_, .f32⟩
  | .hbm, ⟨36, _⟩ => ⟨S2048x8x1, .f32⟩
  | .hbm, ⟨37, _⟩ => ⟨S2048x8x1, .f32⟩
  | .hbm, ⟨38, _⟩ => ⟨S2048x8x1, .f32⟩
  | .hbm, ⟨39, _⟩ => ⟨S2048x8x128, .f32⟩
  | .hbm, ⟨40, _⟩ => ⟨S2048x8x128, .f32⟩
  | .hbm, ⟨41, _⟩ => ⟨S1x1x128, .f32⟩
  | .hbm, ⟨42, _⟩ => ⟨S2048x8x128, .f32⟩
  | .hbm, ⟨43, _⟩ => ⟨S2048x8x128, .f32⟩
  | .hbm, ⟨44, _⟩ => ⟨S2048x1024, .f32⟩
  | .hbm, ⟨45, _⟩ => ⟨S2048x8x128, .f32⟩
  | .hbm, ⟨46, _⟩ => ⟨S8x2048x128, .f32⟩
  | .hbm, ⟨47, _⟩ => ⟨S8x2048x128, .bf16⟩
  | .hbm, ⟨48, _⟩ => ⟨S8x2048x128, .bf16⟩
  | .hbm, ⟨49, _⟩ => ⟨S2048x1024, .f32⟩
  | .hbm, ⟨50, _⟩ => ⟨S2048x8x128, .f32⟩
  | .hbm, ⟨51, _⟩ => ⟨S8x2048x128, .f32⟩
  | .hbm, ⟨52, _⟩ => ⟨S8x2048x128, .bf16⟩
  | _, _ => ⟨S2048x15488, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst : Ref sig .tc := ⟨.hbm, 7, rfl⟩
abbrev main_v4 : Ref sig .tc := ⟨.hbm, 8, rfl⟩
abbrev main_v5 : Ref sig .tc := ⟨.hbm, 9, rfl⟩
abbrev main_cst_0 : Ref sig .tc := ⟨.hbm, 10, rfl⟩
abbrev main_v6 : Ref sig .tc := ⟨.hbm, 11, rfl⟩
abbrev main_v7 : Ref sig .tc := ⟨.hbm, 12, rfl⟩
abbrev main_cst_1 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_cst_2 : Ref sig .tc := ⟨.hbm, 29, rfl⟩
abbrev main_v23 : Ref sig .tc := ⟨.hbm, 30, rfl⟩
abbrev main_v24 : Ref sig .tc := ⟨.hbm, 31, rfl⟩
abbrev main_cst_3 : Ref sig .tc := ⟨.hbm, 32, rfl⟩
abbrev main_v25 : Ref sig .tc := ⟨.hbm, 33, rfl⟩
abbrev main_v26 : Ref sig .tc := ⟨.hbm, 34, rfl⟩
abbrev main_cst_4 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_v39 : Ref sig .tc := ⟨.hbm, 48, rfl⟩
abbrev main_v40 : Ref sig .tc := ⟨.hbm, 49, rfl⟩
abbrev main_v41 : Ref sig .tc := ⟨.hbm, 50, rfl⟩
abbrev main_v42 : Ref sig .tc := ⟨.hbm, 51, rfl⟩
abbrev main_v43 : Ref sig .tc := ⟨.hbm, 52, rfl⟩

abbrev nD : Nat := 1
abbrev τ : Topo := Topo.v7x

variable {F : FTy → Type} [FloatOps F]
-- ==== Kernel25.lean ====
abbrev S4x256x2048 : Shape := ⟨3, ![4, 256, 2048]⟩
abbrev S4x128x2048 : Shape := ⟨3, ![4, 128, 2048]⟩
abbrev S1x128x2048 : Shape := ⟨3, ![1, 128, 2048]⟩
abbrev S128x2048 : Shape := ⟨2, ![128, 2048]⟩

abbrev nBuf : Space → Nat
  | .hbm => 12
  | .vmem => 16
  | .smem => 0
  | _ => 0

abbrev bufTy : (tb : Table) → Fin (tcTables nBuf tb) → BufTy
  | .hbm, ⟨0, _⟩ => ⟨S4x256x2048, .bf16⟩
  | .hbm, ⟨1, _⟩ => ⟨S4x256x2048, .f32⟩
  | .hbm, ⟨2, _⟩ => ⟨S4x256x2048, .f32⟩
  | .hbm, ⟨3, _⟩ => ⟨S4x256x2048, .f32⟩
  | .hbm, ⟨4, _⟩ => ⟨S4x256x2048, .f32⟩
  | .hbm, ⟨5, _⟩ => ⟨S4x256x2048, .f32⟩
  | .hbm, ⟨6, _⟩ => ⟨S4x256x2048, .f32⟩
  | .hbm, ⟨7, _⟩ => ⟨S4x256x2048, .f32⟩
  | .hbm, ⟨8, _⟩ => ⟨S4x256x2048, .f32⟩
  | .hbm, ⟨9, _⟩ => ⟨S4x256x2048, .f32⟩
  | .hbm, ⟨10, _⟩ => ⟨S4x256x2048, .f32⟩
  | .hbm, ⟨11, _⟩ => ⟨S4x256x2048, .f32⟩
  | .local _ .vmem, ⟨0, _⟩ => ⟨S4x128x2048, .bf16⟩
  | .local _ .vmem, ⟨1, _⟩ => ⟨S4x128x2048, .bf16⟩
  | .local _ .vmem, ⟨2, _⟩ => ⟨S1x128x2048, .f32⟩
  | .local _ .vmem, ⟨3, _⟩ => ⟨S1x128x2048, .f32⟩
  | .local _ .vmem, ⟨4, _⟩ => ⟨S1x128x2048, .f32⟩
  | .local _ .vmem, ⟨5, _⟩ => ⟨S1x128x2048, .f32⟩
  | .local _ .vmem, ⟨6, _⟩ => ⟨S1x128x2048, .f32⟩
  | .local _ .vmem, ⟨7, _⟩ => ⟨S1x128x2048, .f32⟩
  | .local _ .vmem, ⟨8, _⟩ => ⟨S1x128x2048, .f32⟩
  | .local _ .vmem, ⟨9, _⟩ => ⟨S1x128x2048, .f32⟩
  | .local _ .vmem, ⟨10, _⟩ => ⟨S1x128x2048, .f32⟩
  | .local _ .vmem, ⟨11, _⟩ => ⟨S1x128x2048, .f32⟩
  | .local _ .vmem, ⟨12, _⟩ => ⟨S1x128x2048, .f32⟩
  | .local _ .vmem, ⟨13, _⟩ => ⟨S1x128x2048, .f32⟩
  | .local _ .vmem, ⟨14, _⟩ => ⟨S1x128x2048, .f32⟩
  | .local _ .vmem, ⟨15, _⟩ => ⟨S1x128x2048, .f32⟩
  | _, _ => ⟨S4x256x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0_0 : Ref sig .tc := ⟨.hbm, 8, rfl⟩
abbrev main_v0_1 : Ref sig .tc := ⟨.hbm, 9, rfl⟩
abbrev main_v0_2 : Ref sig .tc := ⟨.hbm, 10, rfl⟩
abbrev main_v0_3 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![2, 1], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

abbrev stage0_0 : Fin 2 → Memref sig .tc .vmem S4x128x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x128x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x128x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x128x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x128x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x128x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x128x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x128x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== Reference25Ideal.lean ====
abbrev S4x256x2048 : Shape := ⟨3, ![4, 256, 2048]⟩
abbrev S_ : Shape := ⟨0, ![]⟩
abbrev S256x2048 : Shape := ⟨2, ![256, 2048]⟩
abbrev S1x256x2048 : Shape := ⟨3, ![1, 256, 2048]⟩
abbrev S3x256x2048 : Shape := ⟨3, ![3, 256, 2048]⟩

abbrev nBuf : Space → Nat
  | .hbm => 62
  | .vmem => 0
  | .smem => 0
  | _ => 0

abbrev bufTy : (tb : Table) → Fin (tcTables nBuf tb) → BufTy
  | .hbm, ⟨0, _⟩ => ⟨S4x256x2048, .bf16⟩
  | .hbm, ⟨1, _⟩ => ⟨S4x256x2048, .f32⟩
  | .hbm, ⟨2, _⟩ => ⟨S4x256x2048, .f32⟩
  | .hbm, ⟨3, _⟩ => ⟨S4x256x2048, .f32⟩
  | .hbm, ⟨4, _⟩ => ⟨S4x256x2048, .f32⟩
  | .hbm, ⟨5, _⟩ => ⟨S4x256x2048, .f32⟩
  | .hbm, ⟨6, _⟩ => ⟨S4x256x2048, .f32⟩
  | .hbm, ⟨7, _⟩ => ⟨S4x256x2048, .f32⟩
  | .hbm, ⟨8, _⟩ => ⟨S4x256x2048, .f32⟩
  | .hbm, ⟨9, _⟩ => ⟨S_, .f32⟩
  | .hbm, ⟨10, _⟩ => ⟨S256x2048, .f32⟩
  | .hbm, ⟨11, _⟩ => ⟨S1x256x2048, .f32⟩
  | .hbm, ⟨12, _⟩ => ⟨S256x2048, .f32⟩
  | .hbm, ⟨13, _⟩ => ⟨S1x256x2048, .f32⟩
  | .hbm, ⟨14, _⟩ => ⟨S256x2048, .f32⟩
  | .hbm, ⟨15, _⟩ => ⟨S1x256x2048, .f32⟩
  | .hbm, ⟨16, _⟩ => ⟨S256x2048, .f32⟩
  | .hbm, ⟨17, _⟩ => ⟨S_, .f32⟩
  | .hbm, ⟨18, _⟩ => ⟨S256x2048, .f32⟩
  | .hbm, ⟨19, _⟩ => ⟨S256x2048, .f32⟩
  | .hbm, ⟨20, _⟩ => ⟨S_, .f32⟩
  | .hbm, ⟨21, _⟩ => ⟨S256x2048, .f32⟩
  | .hbm, ⟨22, _⟩ => ⟨S256x2048, .f32⟩
  | .hbm, ⟨23, _⟩ => ⟨S256x2048, .f32⟩
  | .hbm, ⟨24, _⟩ => ⟨S_, .f32⟩
  | .hbm, ⟨25, _⟩ => ⟨S256x2048, .f32⟩
  | .hbm, ⟨26, _⟩ => ⟨S256x2048, .f32⟩
  | .hbm, ⟨27, _⟩ => ⟨S256x2048, .f32⟩
  | .hbm, ⟨28, _⟩ => ⟨S_, .f32⟩
  | .hbm, ⟨29, _⟩ => ⟨S256x2048, .f32⟩
  | .hbm, ⟨30, _⟩ => ⟨S256x2048, .f32⟩
  | .hbm, ⟨31, _⟩ => ⟨S256x2048, .f32⟩
  | .hbm, ⟨32, _⟩ => ⟨S_, .f32⟩
  | .hbm, ⟨33, _⟩ => ⟨S256x2048, .f32⟩
  | .hbm, ⟨34, _⟩ => ⟨S256x2048, .f32⟩
  | .hbm, ⟨35, _⟩ => ⟨S_, .f32⟩
  | .hbm, ⟨36, _⟩ => ⟨S256x2048, .f32⟩
  | .hbm, ⟨37, _⟩ => ⟨S256x2048, .f32⟩
  | .hbm, ⟨38, _⟩ => ⟨S256x2048, .f32⟩
  | .hbm, ⟨39, _⟩ => ⟨S_, .f32⟩
  | .hbm, ⟨40, _⟩ => ⟨S256x2048, .f32⟩
  | .hbm, ⟨41, _⟩ => ⟨S256x2048, .f32⟩
  | .hbm, ⟨42, _⟩ => ⟨S256x2048, .f32⟩
  | .hbm, ⟨43, _⟩ => ⟨S_, .f32⟩
  | .hbm, ⟨44, _⟩ => ⟨S256x2048, .f32⟩
  | .hbm, ⟨45, _⟩ => ⟨S256x2048, .f32⟩
  | .hbm, ⟨46, _⟩ => ⟨S256x2048, .f32⟩
  | .hbm, ⟨47, _⟩ => ⟨S_, .f32⟩
  | .hbm, ⟨48, _⟩ => ⟨S256x2048, .f32⟩
  | .hbm, ⟨49, _⟩ => ⟨S256x2048, .f32⟩
  | .hbm, ⟨50, _⟩ => ⟨S1x256x2048, .f32⟩
  | .hbm, ⟨51, _⟩ => ⟨S3x256x2048, .f32⟩
  | .hbm, ⟨52, _⟩ => ⟨S4x256x2048, .f32⟩
  | .hbm, ⟨53, _⟩ => ⟨S1x256x2048, .f32⟩
  | .hbm, ⟨54, _⟩ => ⟨S3x256x2048, .f32⟩
  | .hbm, ⟨55, _⟩ => ⟨S4x256x2048, .f32⟩
  | .hbm, ⟨56, _⟩ => ⟨S1x256x2048, .f32⟩
  | .hbm, ⟨57, _⟩ => ⟨S3x256x2048, .f32⟩
  | .hbm, ⟨58, _⟩ => ⟨S4x256x2048, .f32⟩
  | .hbm, ⟨59, _⟩ => ⟨S1x256x2048, .f32⟩
  | .hbm, ⟨60, _⟩ => ⟨S3x256x2048, .f32⟩
  | .hbm, ⟨61, _⟩ => ⟨S4x256x2048, .f32⟩
  | _, _ => ⟨S4x256x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_cst : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_cst_0 : Ref sig .tc := ⟨.hbm, 17, rfl⟩
abbrev main_v8 : Ref sig .tc := ⟨.hbm, 18, rfl⟩
abbrev main_v9 : Ref sig .tc := ⟨.hbm, 19, rfl⟩
abbrev main_cst_1 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_cst_2 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_cst_3 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_cst_4 : Ref sig .tc := ⟨.hbm, 32, rfl⟩
abbrev main_v19 : Ref sig .tc := ⟨.hbm, 33, rfl⟩
abbrev main_v20 : Ref sig .tc := ⟨.hbm, 34, rfl⟩
abbrev main_cst_5 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_cst_6 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_cst_7 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_cst_8 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩

abbrev nD : Nat := 1
abbrev τ : Topo := Topo.v7x

variable {F : FTy → Type} [FloatOps F]
-- ==== Kernel26.lean ====
abbrev S4x1024x256 : Shape := ⟨3, ![4, 1024, 256]⟩
abbrev S1x1024x256 : Shape := ⟨3, ![1, 1024, 256]⟩
abbrev S1024x256 : Shape := ⟨2, ![1024, 256]⟩

abbrev nBuf : Space → Nat
  | .hbm => 12
  | .vmem => 8
  | .smem => 0
  | _ => 0

abbrev bufTy : (tb : Table) → Fin (tcTables nBuf tb) → BufTy
  | .hbm, ⟨0, _⟩ => ⟨S4x1024x256, .bf16⟩
  | .hbm, ⟨1, _⟩ => ⟨S4x1024x256, .f32⟩
  | .hbm, ⟨2, _⟩ => ⟨S4x1024x256, .f32⟩
  | .hbm, ⟨3, _⟩ => ⟨S4x1024x256, .f32⟩
  | .hbm, ⟨4, _⟩ => ⟨S4x1024x256, .f32⟩
  | .hbm, ⟨5, _⟩ => ⟨S4x1024x256, .f32⟩
  | .hbm, ⟨6, _⟩ => ⟨S4x1024x256, .f32⟩
  | .hbm, ⟨7, _⟩ => ⟨S4x1024x256, .f32⟩
  | .hbm, ⟨8, _⟩ => ⟨S4x1024x256, .f32⟩
  | .hbm, ⟨9, _⟩ => ⟨S4x1024x256, .f32⟩
  | .hbm, ⟨10, _⟩ => ⟨S4x1024x256, .f32⟩
  | .hbm, ⟨11, _⟩ => ⟨S4x1024x256, .f32⟩
  | .local _ .vmem, ⟨0, _⟩ => ⟨S4x1024x256, .bf16⟩
  | .local _ .vmem, ⟨1, _⟩ => ⟨S1x1024x256, .f32⟩
  | .local _ .vmem, ⟨2, _⟩ => ⟨S1x1024x256, .f32⟩
  | .local _ .vmem, ⟨3, _⟩ => ⟨S1x1024x256, .f32⟩
  | .local _ .vmem, ⟨4, _⟩ => ⟨S1x1024x256, .f32⟩
  | .local _ .vmem, ⟨5, _⟩ => ⟨S1x1024x256, .f32⟩
  | .local _ .vmem, ⟨6, _⟩ => ⟨S1x1024x256, .f32⟩
  | .local _ .vmem, ⟨7, _⟩ => ⟨S1x1024x256, .f32⟩
  | _, _ => ⟨S4x1024x256, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0_0 : Ref sig .tc := ⟨.hbm, 8, rfl⟩
abbrev main_v0_1 : Ref sig .tc := ⟨.hbm, 9, rfl⟩
abbrev main_v0_2 : Ref sig .tc := ⟨.hbm, 10, rfl⟩
abbrev main_v0_3 : Ref sig .tc := ⟨.hbm, 11, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨2, ![1, 1], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

abbrev stage0_0 : Fin 1 → Memref sig .tc .vmem S4x1024x256 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, true]

abbrev stage0_1 : Fin 1 → Memref sig .tc .vmem S1x1024x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, true]

abbrev stage0_2 : Fin 1 → Memref sig .tc .vmem S1x1024x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true]

abbrev stage0_3 : Fin 1 → Memref sig .tc .vmem S1x1024x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, true]

abbrev stage0_4 : Fin 1 → Memref sig .tc .vmem S1x1024x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true, true]

abbrev stage0_5 : Fin 1 → Memref sig .tc .vmem S1x1024x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true, true]

abbrev stage0_6 : Fin 1 → Memref sig .tc .vmem S1x1024x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true, true]

abbrev stage0_7 : Fin 1 → Memref sig .tc .vmem S1x1024x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true, true]
-- ==== Reference26Ideal.lean ====
abbrev S4x1024x256 : Shape := ⟨3, ![4, 1024, 256]⟩
abbrev S_ : Shape := ⟨0, ![]⟩
abbrev S1024x256 : Shape := ⟨2, ![1024, 256]⟩
abbrev S1x1024x256 : Shape := ⟨3, ![1, 1024, 256]⟩
abbrev S3x1024x256 : Shape := ⟨3, ![3, 1024, 256]⟩

abbrev nBuf : Space → Nat
  | .hbm => 62
  | .vmem => 0
  | .smem => 0
  | _ => 0

abbrev bufTy : (tb : Table) → Fin (tcTables nBuf tb) → BufTy
  | .hbm, ⟨0, _⟩ => ⟨S4x1024x256, .bf16⟩
  | .hbm, ⟨1, _⟩ => ⟨S4x1024x256, .f32⟩
  | .hbm, ⟨2, _⟩ => ⟨S4x1024x256, .f32⟩
  | .hbm, ⟨3, _⟩ => ⟨S4x1024x256, .f32⟩
  | .hbm, ⟨4, _⟩ => ⟨S4x1024x256, .f32⟩
  | .hbm, ⟨5, _⟩ => ⟨S4x1024x256, .f32⟩
  | .hbm, ⟨6, _⟩ => ⟨S4x1024x256, .f32⟩
  | .hbm, ⟨7, _⟩ => ⟨S4x1024x256, .f32⟩
  | .hbm, ⟨8, _⟩ => ⟨S4x1024x256, .f32⟩
  | .hbm, ⟨9, _⟩ => ⟨S_, .f32⟩
  | .hbm, ⟨10, _⟩ => ⟨S1024x256, .f32⟩
  | .hbm, ⟨11, _⟩ => ⟨S1x1024x256, .f32⟩
  | .hbm, ⟨12, _⟩ => ⟨S1024x256, .f32⟩
  | .hbm, ⟨13, _⟩ => ⟨S1x1024x256, .f32⟩
  | .hbm, ⟨14, _⟩ => ⟨S1024x256, .f32⟩
  | .hbm, ⟨15, _⟩ => ⟨S1x1024x256, .f32⟩
  | .hbm, ⟨16, _⟩ => ⟨S1024x256, .f32⟩
  | .hbm, ⟨17, _⟩ => ⟨S_, .f32⟩
  | .hbm, ⟨18, _⟩ => ⟨S1024x256, .f32⟩
  | .hbm, ⟨19, _⟩ => ⟨S1024x256, .f32⟩
  | .hbm, ⟨20, _⟩ => ⟨S_, .f32⟩
  | .hbm, ⟨21, _⟩ => ⟨S1024x256, .f32⟩
  | .hbm, ⟨22, _⟩ => ⟨S1024x256, .f32⟩
  | .hbm, ⟨23, _⟩ => ⟨S1024x256, .f32⟩
  | .hbm, ⟨24, _⟩ => ⟨S_, .f32⟩
  | .hbm, ⟨25, _⟩ => ⟨S1024x256, .f32⟩
  | .hbm, ⟨26, _⟩ => ⟨S1024x256, .f32⟩
  | .hbm, ⟨27, _⟩ => ⟨S1024x256, .f32⟩
  | .hbm, ⟨28, _⟩ => ⟨S_, .f32⟩
  | .hbm, ⟨29, _⟩ => ⟨S1024x256, .f32⟩
  | .hbm, ⟨30, _⟩ => ⟨S1024x256, .f32⟩
  | .hbm, ⟨31, _⟩ => ⟨S1024x256, .f32⟩
  | .hbm, ⟨32, _⟩ => ⟨S_, .f32⟩
  | .hbm, ⟨33, _⟩ => ⟨S1024x256, .f32⟩
  | .hbm, ⟨34, _⟩ => ⟨S1024x256, .f32⟩
  | .hbm, ⟨35, _⟩ => ⟨S_, .f32⟩
  | .hbm, ⟨36, _⟩ => ⟨S1024x256, .f32⟩
  | .hbm, ⟨37, _⟩ => ⟨S1024x256, .f32⟩
  | .hbm, ⟨38, _⟩ => ⟨S1024x256, .f32⟩
  | .hbm, ⟨39, _⟩ => ⟨S_, .f32⟩
  | .hbm, ⟨40, _⟩ => ⟨S1024x256, .f32⟩
  | .hbm, ⟨41, _⟩ => ⟨S1024x256, .f32⟩
  | .hbm, ⟨42, _⟩ => ⟨S1024x256, .f32⟩
  | .hbm, ⟨43, _⟩ => ⟨S_, .f32⟩
  | .hbm, ⟨44, _⟩ => ⟨S1024x256, .f32⟩
  | .hbm, ⟨45, _⟩ => ⟨S1024x256, .f32⟩
  | .hbm, ⟨46, _⟩ => ⟨S1024x256, .f32⟩
  | .hbm, ⟨47, _⟩ => ⟨S_, .f32⟩
  | .hbm, ⟨48, _⟩ => ⟨S1024x256, .f32⟩
  | .hbm, ⟨49, _⟩ => ⟨S1024x256, .f32⟩
  | .hbm, ⟨50, _⟩ => ⟨S1x1024x256, .f32⟩
  | .hbm, ⟨51, _⟩ => ⟨S3x1024x256, .f32⟩
  | .hbm, ⟨52, _⟩ => ⟨S4x1024x256, .f32⟩
  | .hbm, ⟨53, _⟩ => ⟨S1x1024x256, .f32⟩
  | .hbm, ⟨54, _⟩ => ⟨S3x1024x256, .f32⟩
  | .hbm, ⟨55, _⟩ => ⟨S4x1024x256, .f32⟩
  | .hbm, ⟨56, _⟩ => ⟨S1x1024x256, .f32⟩
  | .hbm, ⟨57, _⟩ => ⟨S3x1024x256, .f32⟩
  | .hbm, ⟨58, _⟩ => ⟨S4x1024x256, .f32⟩
  | .hbm, ⟨59, _⟩ => ⟨S1x1024x256, .f32⟩
  | .hbm, ⟨60, _⟩ => ⟨S3x1024x256, .f32⟩
  | .hbm, ⟨61, _⟩ => ⟨S4x1024x256, .f32⟩
  | _, _ => ⟨S4x1024x256, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_cst : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_cst_0 : Ref sig .tc := ⟨.hbm, 17, rfl⟩
abbrev main_v8 : Ref sig .tc := ⟨.hbm, 18, rfl⟩
abbrev main_v9 : Ref sig .tc := ⟨.hbm, 19, rfl⟩
abbrev main_cst_1 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_cst_2 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_cst_3 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_cst_4 : Ref sig .tc := ⟨.hbm, 32, rfl⟩
abbrev main_v19 : Ref sig .tc := ⟨.hbm, 33, rfl⟩
abbrev main_v20 : Ref sig .tc := ⟨.hbm, 34, rfl⟩
abbrev main_cst_5 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_cst_6 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_cst_7 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_cst_8 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩

abbrev nD : Nat := 1
abbrev τ : Topo := Topo.v7x

variable {F : FTy → Type} [FloatOps F]
-- ==== Proof.Split.lean ====
module

public import Idealize.ShloMosaic.Lib.Pipeline.ValueKit

@[expose] public section

/-! Indices split in a block and a place in it. -/

namespace Cert.Split

def at8x1024 (p : Fin 8) (q : Fin 1024) : Fin 8192 := ⟨p.val * 1024 + q.val, by omega⟩
def at8x256 (p : Fin 8) (q : Fin 256) : Fin 2048 := ⟨p.val * 256 + q.val, by omega⟩
def hi1024 (k : Fin 8192) : Fin 8 := ⟨k.val / 1024, by omega⟩
def lo1024 (k : Fin 8192) : Fin 1024 := ⟨k.val % 1024, by omega⟩
def hi256 (k : Fin 2048) : Fin 8 := ⟨k.val / 256, by omega⟩
def lo256 (k : Fin 2048) : Fin 256 := ⟨k.val % 256, by omega⟩

/-- The literal 2.0, as the extended real that its float word stands for. -/
noncomputable abbrev two : EReal := Idealize.ShloMosaic.Ideal.ofBits Idealize.ShloMosaic.FTy.f32 1073741824#32

end Cert.Split
-- ==== Proof.FfDownDw.lean ====
module

public import Idealize.ShloMosaic.Lib.Pipeline.ValueKit
public import Idealize.ShloMosaic.Lib.StableHlo.RunClose
public import proofs.«01_k».proof.Proof.Split
public import proofs.«01_k».proof.Proof.Gen.Kernel2Ideal.Value
public import proofs.«01_k».proof.Proof.Gen.Reference2Ideal.Run

@[expose] public section

noncomputable section

/-! The gradient of the second feed-forward weight: what the call leaves, entry by entry, and what the reference computes. -/

namespace Cert.Kernel2Ideal.FfDownDw

open Cert.Kernel2Ideal Cert.Kernel2Ideal.Gen
open Idealize.ShloMosaic Idealize.ShloMosaic.TcCoe Idealize.ShloMosaic.Tactic Idealize.SL.Sem
open Idealize.ShloMosaic.Pipeline (Dat)

/-- Entry by entry, the result. -/
def G (a0 : S2048x8192.Idx → EReal) (a1 : S2048x2048.Idx → EReal) (i : S8192x2048.Idx) : EReal := ∑ k : Fin 2048, a0 (ix2 k (i 0)) * a1 (ix2 k (i 1))

/-- What a grid point stores. -/
theorem stored (x0 : Vec Ideal S2048x1024 .bf16) (x1 : Vec Ideal S2048x1024 .bf16) (y : S1024x1024.Idx) :
    out0_2 (F := Ideal) x0 x1 y = (∑ k : Fin 2048, x0 (ix2 k (y 0)) * x1 (ix2 k (y 1)) : EReal) := by
  frame_out
  pointwise [k0_pay1] <;> blk_point

theorem idx : ∀ t : Fin cfg0.N, win0_0.index t = ![0, win0_2.index t 0] ∧ win0_1.index t = ![0, win0_2.index t 1] :=
  (by decide +kernel : ∀ t : Fin grid0.N, _)

variable (m : (ℓ : Loc nD τ sig) → Buf (Elt Ideal) ℓ)

/-- The array after the call. -/
theorem final (c : Dev nD) : (dats m 0 c).arrAt 2 cfg0.N = G (m ((c : Thread nD τ).loc main_arg0)) (m ((c : Thread nD τ).loc main_arg1)) := by
  refine (dats m 0 c).arrAt_eq_of_covers 2 _ (by decide +kernel) fun t hf y => ?_
  blk_simp
  rw [after0_2]
  refine (stored _ _ _).trans ?_
  exact Finset.sum_congr rfl fun k _ => congrArg₂ (fun (a b : EReal) => a * b) (by blk_ext [iblk, idx t]) (by blk_ext [iblk, idx t])

end Cert.Kernel2Ideal.FfDownDw

namespace Cert.Reference2Ideal.FfDownDw

open Cert.Reference2Ideal Cert.Reference2Ideal.Gen
open Idealize.ShloMosaic Idealize.ShloMosaic.TcCoe Idealize.ShloMosaic.Tactic Idealize.SL.Sem

/-- The reference's result is the same array. -/
theorem value (a0 : FVec Ideal S2048x8192 .bf16) (a1 : FVec Ideal S2048x2048 .bf16) :
    truncf .bf16 (transpose S8192x2048 [1, 0] (Host.dotGeneral dot_S2048x2048_S2048x8192_S2048x8192_0_0_1_1_n_n none (extf .f32 a1 bitsLt_bf16_f32) (extf .f32 a0 bitsLt_bf16_f32)) transposes_S2048x8192_S8192x2048_1_0) bitsLt_bf16_f32 = Cert.Kernel2Ideal.FfDownDw.G a0 a1 := by
  funext i
  pointwise [Cert.Kernel2Ideal.FfDownDw.G]
  exact Finset.sum_congr rfl fun _ _ => mul_comm _ _

end Cert.Reference2Ideal.FfDownDw

end
-- ==== Proof.FfUpDw.lean ====
module

public import Idealize.ShloMosaic.Lib.Pipeline.ValueKit
public import Idealize.ShloMosaic.Lib.StableHlo.RunClose
public import proofs.«01_k».proof.Proof.Split
public import proofs.«01_k».proof.Proof.Gen.Kernel3Ideal.Value
public import proofs.«01_k».proof.Proof.Gen.Reference3Ideal.Run

@[expose] public section

noncomputable section

/-! The gradient of the first feed-forward weight, a slab of its columns for each device: what the call leaves, entry by entry, and what the reference computes. -/

namespace Cert.Kernel3Ideal.FfUpDw

open Cert.Kernel3Ideal Cert.Kernel3Ideal.Gen
open Idealize.ShloMosaic Idealize.ShloMosaic.TcCoe Idealize.ShloMosaic.Tactic Idealize.SL.Sem
open Idealize.ShloMosaic.Pipeline (Dat)

/-- Entry by entry, the result. -/
def G (a0 : S2048x2048.Idx → EReal) (a1 : S2048x8192.Idx → EReal) (i : S8x2048x1024.Idx) : EReal := ∑ k : Fin 2048, a0 (ix2 k (i 1)) * a1 (ix2 k (Cert.Split.at8x1024 (i 0) (i 2)))

/-- What a grid point stores. -/
theorem stored (x0 : Vec Ideal S2048x1024 .bf16) (x1 : Vec Ideal S2048x1024 .bf16) (y : S1x1024x1024.Idx) :
    out0_2 (F := Ideal) x0 x1 y = (∑ k : Fin 2048, x0 (ix2 k (y 1)) * x1 (ix2 k (y 2)) : EReal) := by
  frame_out
  pointwise [k0_pay1] <;> blk_point

theorem idx : ∀ t : Fin cfg0.N, win0_0.index t = ![0, win0_2.index t 1] ∧ win0_1.index t = ![0, win0_2.index t 0] ∧ win0_2.index t 2 = 0 :=
  (by decide +kernel : ∀ t : Fin grid0.N, _)

variable (m : (ℓ : Loc nD τ sig) → Buf (Elt Ideal) ℓ)

/-- The array after the call. -/
theorem final (c : Dev nD) : (dats m 0 c).arrAt 2 cfg0.N = G (m ((c : Thread nD τ).loc main_arg0)) (m ((c : Thread nD τ).loc main_arg1)) := by
  refine (dats m 0 c).arrAt_eq_of_covers 2 _ (by decide +kernel) fun t hf y => ?_
  blk_simp
  rw [after0_2]
  refine (stored _ _ _).trans ?_
  exact Finset.sum_congr rfl fun k _ => congrArg₂ (fun (a b : EReal) => a * b) (by blk_ext [iblk, idx t]) (by blk_ext [iblk, idx t, Cert.Split.hi1024, Cert.Split.lo1024, Cert.Split.hi256, Cert.Split.lo256, Cert.Split.at8x1024, Cert.Split.at8x256])

end Cert.Kernel3Ideal.FfUpDw

namespace Cert.Reference3Ideal.FfUpDw

open Cert.Reference3Ideal Cert.Reference3Ideal.Gen
open Idealize.ShloMosaic Idealize.ShloMosaic.TcCoe Idealize.ShloMosaic.Tactic Idealize.SL.Sem

/-- The reference's result is the same array. -/
theorem value (a0 : FVec Ideal S2048x2048 .bf16) (a1 : FVec Ideal S2048x8192 .bf16) :
    truncf .bf16 (transpose S8x2048x1024 [1, 0, 2] (shapeCast _ (transpose S2048x8192 [1, 0] (Host.dotGeneral dot_S2048x8192_S2048x2048_S8192x2048_0_0_1_1_n_n none (extf .f32 a1 bitsLt_bf16_f32) (extf .f32 a0 bitsLt_bf16_f32)) transposes_S8192x2048_S2048x8192_1_0) shapeCasts_S2048x8192_S2048x8x1024) transposes_S2048x8x1024_S8x2048x1024_1_0_2) bitsLt_bf16_f32 = Cert.Kernel3Ideal.FfUpDw.G a0 a1 := by
  funext i
  pointwise [Cert.Kernel3Ideal.FfUpDw.G]
  exact Finset.sum_congr rfl fun _ _ => mul_comm _ _

end Cert.Reference3Ideal.FfUpDw

end
-- ==== Proof.OutDw.lean ====
module

public import Idealize.ShloMosaic.Lib.Pipeline.ValueKit
public import Idealize.ShloMosaic.Lib.StableHlo.RunClose
public import proofs.«01_k».proof.Proof.Split
public import proofs.«01_k».proof.Proof.Gen.Kernel4Ideal.Value
public import proofs.«01_k».proof.Proof.Gen.Reference4Ideal.Run

@[expose] public section

noncomputable section

/-! The gradient of the mixer's output projection: what the call leaves, entry by entry, and what the reference computes. -/

namespace Cert.Kernel4Ideal.OutDw

open Cert.Kernel4Ideal Cert.Kernel4Ideal.Gen
open Idealize.ShloMosaic Idealize.ShloMosaic.TcCoe Idealize.ShloMosaic.Tactic Idealize.SL.Sem
open Idealize.ShloMosaic.Pipeline (Dat)

/-- Entry by entry, the result. -/
def G (a0 : S2048x2048.Idx → EReal) (a1 : S2048x2048.Idx → EReal) (i : S2048x2048.Idx) : EReal := ∑ k : Fin 2048, a0 (ix2 k (i 0)) * a1 (ix2 k (i 1))

/-- What a grid point stores. -/
theorem stored (x0 : Vec Ideal S2048x1024 .bf16) (x1 : Vec Ideal S2048x1024 .bf16) (y : S1024x1024.Idx) :
    out0_2 (F := Ideal) x0 x1 y = (∑ k : Fin 2048, x0 (ix2 k (y 0)) * x1 (ix2 k (y 1)) : EReal) := by
  frame_out
  pointwise [k0_pay1] <;> blk_point

theorem idx : ∀ t : Fin cfg0.N, win0_0.index t = ![0, win0_2.index t 0] ∧ win0_1.index t = ![0, win0_2.index t 1] :=
  (by decide +kernel : ∀ t : Fin grid0.N, _)

variable (m : (ℓ : Loc nD τ sig) → Buf (Elt Ideal) ℓ)

/-- The array after the call. -/
theorem final (c : Dev nD) : (dats m 0 c).arrAt 2 cfg0.N = G (m ((c : Thread nD τ).loc main_arg0)) (m ((c : Thread nD τ).loc main_arg1)) := by
  refine (dats m 0 c).arrAt_eq_of_covers 2 _ (by decide +kernel) fun t hf y => ?_
  blk_simp
  rw [after0_2]
  refine (stored _ _ _).trans ?_
  exact Finset.sum_congr rfl fun k _ => congrArg₂ (fun (a b : EReal) => a * b) (by blk_ext [iblk, idx t]) (by blk_ext [iblk, idx t])

end Cert.Kernel4Ideal.OutDw

namespace Cert.Reference4Ideal.OutDw

open Cert.Reference4Ideal Cert.Reference4Ideal.Gen
open Idealize.ShloMosaic Idealize.ShloMosaic.TcCoe Idealize.ShloMosaic.Tactic Idealize.SL.Sem

/-- The reference's result is the same array. -/
theorem value (a0 : FVec Ideal S2048x2048 .bf16) (a1 : FVec Ideal S2048x2048 .bf16) :
    truncf .bf16 (transpose S2048x2048 [1, 0] (Host.dotGeneral dot_S2048x2048_S2048x2048_S2048x2048_0_0_1_1_n_n none (extf .f32 a1 bitsLt_bf16_f32) (extf .f32 a0 bitsLt_bf16_f32)) transposes_S2048x2048_S2048x2048_1_0) bitsLt_bf16_f32 = Cert.Kernel4Ideal.OutDw.G a0 a1 := by
  funext i
  pointwise [Cert.Kernel4Ideal.OutDw.G]
  exact Finset.sum_congr rfl fun _ _ => mul_comm _ _

end Cert.Reference4Ideal.OutDw

end
-- ==== Proof.BranchDw.lean ====
module

public import Idealize.ShloMosaic.Lib.Pipeline.ValueKit
public import Idealize.ShloMosaic.Lib.StableHlo.RunClose
public import proofs.«01_k».proof.Proof.Split
public import proofs.«01_k».proof.Proof.Gen.Kernel5Ideal.Value
public import proofs.«01_k».proof.Proof.Gen.Reference5Ideal.Run

@[expose] public section

noncomputable section

/-! The gradient of a branch's output projection, a slab of its columns for each device: what the call leaves, entry by entry, and what the reference computes. -/

namespace Cert.Kernel5Ideal.BranchDw

open Cert.Kernel5Ideal Cert.Kernel5Ideal.Gen
open Idealize.ShloMosaic Idealize.ShloMosaic.TcCoe Idealize.ShloMosaic.Tactic Idealize.SL.Sem
open Idealize.ShloMosaic.Pipeline (Dat)

/-- Entry by entry, the result. -/
def G (a0 : S2048x1024.Idx → EReal) (a1 : S2048x2048.Idx → EReal) (i : S8x1024x256.Idx) : EReal := ∑ k : Fin 2048, a0 (ix2 k (i 1)) * a1 (ix2 k (Cert.Split.at8x256 (i 0) (i 2)))

/-- What a grid point stores. -/
theorem stored (x0 : Vec Ideal S2048x1024 .bf16) (x1 : Vec Ideal S2048x256 .bf16) (y : S1x1024x256.Idx) :
    out0_2 (F := Ideal) x0 x1 y = (∑ k : Fin 2048, x0 (ix2 k (y 1)) * x1 (ix2 k (y 2)) : EReal) := by
  frame_out
  pointwise [k0_pay1] <;> blk_point

theorem idx : ∀ t : Fin cfg0.N, win0_0.index t = ![0, win0_2.index t 1] ∧ win0_1.index t = ![0, win0_2.index t 0] ∧ win0_2.index t 2 = 0 :=
  (by decide +kernel : ∀ t : Fin grid0.N, _)

variable (m : (ℓ : Loc nD τ sig) → Buf (Elt Ideal) ℓ)

/-- The array after the call. -/
theorem final (c : Dev nD) : (dats m 0 c).arrAt 2 cfg0.N = G (m ((c : Thread nD τ).loc main_arg0)) (m ((c : Thread nD τ).loc main_arg1)) := by
  refine (dats m 0 c).arrAt_eq_of_covers 2 _ (by decide +kernel) fun t hf y => ?_
  blk_simp
  rw [after0_2]
  refine (stored _ _ _).trans ?_
  exact Finset.sum_congr rfl fun k _ => congrArg₂ (fun (a b : EReal) => a * b) (by blk_ext [iblk, idx t]) (by blk_ext [iblk, idx t, Cert.Split.hi1024, Cert.Split.lo1024, Cert.Split.hi256, Cert.Split.lo256, Cert.Split.at8x1024, Cert.Split.at8x256])

end Cert.Kernel5Ideal.BranchDw

namespace Cert.Reference5Ideal.BranchDw

open Cert.Reference5Ideal Cert.Reference5Ideal.Gen
open Idealize.ShloMosaic Idealize.ShloMosaic.TcCoe Idealize.ShloMosaic.Tactic Idealize.SL.Sem

/-- The reference's result is the same array. -/
theorem value (a0 : FVec Ideal S2048x1024 .bf16) (a1 : FVec Ideal S2048x2048 .bf16) :
    truncf .bf16 (transpose S8x1024x256 [1, 0, 2] (shapeCast _ (transpose S1024x2048 [1, 0] (Host.dotGeneral dot_S2048x2048_S2048x1024_S2048x1024_0_0_1_1_n_n none (extf .f32 a1 bitsLt_bf16_f32) (extf .f32 a0 bitsLt_bf16_f32)) transposes_S2048x1024_S1024x2048_1_0) shapeCasts_S1024x2048_S1024x8x256) transposes_S1024x8x256_S8x1024x256_1_0_2) bitsLt_bf16_f32 = Cert.Kernel5Ideal.BranchDw.G a0 a1 := by
  funext i
  pointwise [Cert.Kernel5Ideal.BranchDw.G]
  exact Finset.sum_congr rfl fun _ _ => mul_comm _ _

end Cert.Reference5Ideal.BranchDw

end
-- ==== Proof.InDw.lean ====
module

public import Idealize.ShloMosaic.Lib.Pipeline.ValueKit
public import Idealize.ShloMosaic.Lib.StableHlo.RunClose
public import proofs.«01_k».proof.Proof.Split
public import proofs.«01_k».proof.Proof.Gen.Kernel6Ideal.Value
public import proofs.«01_k».proof.Proof.Gen.Reference6Ideal.Run

@[expose] public section

noncomputable section

/-! The gradient of the input projection, transposed: what the call leaves, entry by entry, and what the reference computes. -/

namespace Cert.Kernel6Ideal.InDw

open Cert.Kernel6Ideal Cert.Kernel6Ideal.Gen
open Idealize.ShloMosaic Idealize.ShloMosaic.TcCoe Idealize.ShloMosaic.Tactic Idealize.SL.Sem
open Idealize.ShloMosaic.Pipeline (Dat)

/-- Entry by entry, the result. -/
def G (a0 : S2048x15488.Idx → EReal) (a1 : S2048x2048.Idx → EReal) (i : S15488x2048.Idx) : EReal := ∑ k : Fin 2048, a0 (ix2 k (i 0)) * a1 (ix2 k (i 1))

/-- What a grid point stores. -/
theorem stored (x0 : Vec Ideal S2048x1408 .bf16) (x1 : Vec Ideal S2048x1024 .bf16) (y : S1408x1024.Idx) :
    out0_2 (F := Ideal) x0 x1 y = (∑ k : Fin 2048, x0 (ix2 k (y 0)) * x1 (ix2 k (y 1)) : EReal) := by
  frame_out
  pointwise [k0_pay1] <;> blk_point

theorem idx : ∀ t : Fin cfg0.N, win0_0.index t = ![0, win0_2.index t 0] ∧ win0_1.index t = ![0, win0_2.index t 1] :=
  (by decide +kernel : ∀ t : Fin grid0.N, _)

variable (m : (ℓ : Loc nD τ sig) → Buf (Elt Ideal) ℓ)

/-- The array after the call. -/
theorem final (c : Dev nD) : (dats m 0 c).arrAt 2 cfg0.N = G (m ((c : Thread nD τ).loc main_arg0)) (m ((c : Thread nD τ).loc main_arg1)) := by
  refine (dats m 0 c).arrAt_eq_of_covers 2 _ (by decide +kernel) fun t hf y => ?_
  blk_simp
  rw [after0_2]
  refine (stored _ _ _).trans ?_
  exact Finset.sum_congr rfl fun k _ => congrArg₂ (fun (a b : EReal) => a * b) (by blk_ext [iblk, idx t]) (by blk_ext [iblk, idx t])

end Cert.Kernel6Ideal.InDw

namespace Cert.Reference6Ideal.InDw

open Cert.Reference6Ideal Cert.Reference6Ideal.Gen
open Idealize.ShloMosaic Idealize.ShloMosaic.TcCoe Idealize.ShloMosaic.Tactic Idealize.SL.Sem

/-- The reference's result is the same array. -/
theorem value (a0 : FVec Ideal S2048x15488 .bf16) (a1 : FVec Ideal S2048x2048 .bf16) :
    truncf .bf16 (transpose S15488x2048 [1, 0] (transpose S2048x15488 [1, 0] (Host.dotGeneral dot_S2048x15488_S2048x2048_S15488x2048_0_0_1_1_n_n none (extf .f32 a0 bitsLt_bf16_f32) (extf .f32 a1 bitsLt_bf16_f32)) transposes_S15488x2048_S2048x15488_1_0) transposes_S2048x15488_S15488x2048_1_0) bitsLt_bf16_f32 = Cert.Kernel6Ideal.InDw.G a0 a1 := by
  funext i
  pointwise [Cert.Kernel6Ideal.InDw.G]

end Cert.Reference6Ideal.InDw

end
-- ==== Proof.InDx.lean ====
module

public import Idealize.ShloMosaic.Lib.Pipeline.ValueKit
public import Idealize.ShloMosaic.Lib.Pipeline.ReadBack
public import Idealize.ShloMosaic.Lib.StableHlo.RunClose
public import proofs.«01_k».proof.Proof.Split
public import proofs.«01_k».proof.Proof.Gen.Kernel7Ideal.Value
public import proofs.«01_k».proof.Proof.Gen.Reference7Ideal.Run

@[expose] public section

noncomputable section

/-! The gradient that enters a layer's normalised activation: a product accumulated over blocks of the contracted columns. -/

namespace Cert.Kernel7Ideal.InDx

open Cert.Kernel7Ideal Cert.Kernel7Ideal.Gen
open Idealize.ShloMosaic Idealize.ShloMosaic.TcCoe Idealize.ShloMosaic.Tactic Idealize.SL.Sem
open Idealize.ShloMosaic.Pipeline (Dat)

/-- Entry by entry, the result. -/
def G (a0 : S2048x15488.Idx → EReal) (a1 : S15488x2048.Idx → EReal) (i : S2048x2048.Idx) : EReal := ∑ k : Fin 15488, a0 (ix2 (i 0) k) * a1 (ix2 k (i 1))

/-- The product of one block of the contracted columns. -/
def part (x0 : S1024x1408.Idx → EReal) (x1 : S1408x1024.Idx → EReal) (y : S1024x1024.Idx) : EReal := ∑ k : Fin 1408, x0 (ix2 (y 0) k) * x1 (ix2 k (y 1))

theorem pay1 (x0 : Vec Ideal S1024x1408 .bf16) (x1 : Vec Ideal S1408x1024 .bf16) (y : S1024x1024.Idx) :
    k0_pay1 (F := Ideal) x1 x0 y = part x0 x1 y := by
  pointwise [k0_pay1, part] <;> blk_point

theorem pay2 (x0 : Vec Ideal S1024x1408 .bf16) (x1 : Vec Ideal S1408x1024 .bf16) (y : S1024x1024.Idx) :
    k0_pay2 (F := Ideal) x1 x0 y = part x0 x1 y := by
  rw [← pay1]; unfold k0_pay2; simp only [shapeCast_self]

theorem pay3 (x0 : Vec Ideal S1024x1408 .bf16) (x1 : Vec Ideal S1408x1024 .bf16) (acc : Vec Ideal S1024x1024 .f32) (y : S1024x1024.Idx) :
    k0_pay3 (F := Ideal) x1 x0 acc y = (acc y + part x0 x1 y : EReal) := by
  rw [← pay1]; unfold k0_pay3; simp only [shapeCast_self]; rfl

variable (m : (ℓ : Loc nD τ sig) → Buf (Elt Ideal) ℓ)

/-- The first point of a run leaves its block product in the accumulator. -/
theorem first (c : Dev nD) (t : Fin cfg0.N) (h : t.val % 11 = 0) (y : S1024x1024.Idx) :
    (outsAt0 m c t.val t.isLt).2 y = (0 + part (iblk m c 0 t) (iblk m c 1 t) y : EReal) := by
  rw [outsAt0_A m c t h (by omega) (by omega), zero_add]
  frame_out
  exact pay2 _ _ _

/-- Every later point adds its own. -/
theorem later (c : Dev nD) (t : Fin cfg0.N) (h : ¬t.val % 11 = 0) (y : S1024x1024.Idx) :
    (outsAt0 m c t.val t.isLt).2 y
      = ((outsAt0 m c (t.val - 1) (Nat.lt_of_le_of_lt (Nat.sub_le _ _) t.isLt)).2 y + part (iblk m c 0 t) (iblk m c 1 t) y : EReal) := by
  by_cases h2 : t.val % 11 = 10
  · rw [outsAt0_C m c t h (by omega) h2]
    frame_out
    simp only [read_unread_whole]
    exact pay3 _ _ _ _
  · rw [outsAt0_B m c t h (by omega) h2]
    frame_out
    simp only [read_unread_whole]
    exact pay3 _ _ _ _

/-- The last point of a run writes the accumulator out. -/
theorem last (c : Dev nD) (t : Fin cfg0.N) (h : t.val % 11 = 10) (y : S1024x1024.Idx) :
    (outsAt0 m c t.val t.isLt).1 y = ((outsAt0 m c t.val t.isLt).2 y : EReal) := by
  rw [outsAt0_C m c t (by omega) (by omega) h]
  dsimp only
  frame_out

/-- The accumulator at the last point of a run: the block products, summed. -/
theorem total (c : Dev nD) (t : Fin cfg0.N) (h : t.val % 11 = 10) (y : S1024x1024.Idx) :
    (outsAt0 m c t.val t.isLt).2 y
      = (∑ s : Fin 11, part (iblk m c 0 ⟨11 * (t.val / 11) + s.val, Pipeline.run_point_lt_of_flush t h s⟩) (iblk m c 1 ⟨11 * (t.val / 11) + s.val, Pipeline.run_point_lt_of_flush t h s⟩) y : EReal) := by
  refine (Pipeline.eq_sum_fin_of_reset_step_apply_of_flush (M := EReal) (fun n h => (outsAt0 m c n h).2) 11 (fun _ => 0)
    (fun p y => part (iblk m c 0 p) (iblk m c 1 p) y) (first m c) (later m c) t h y).trans ?_
  exact zero_add _

theorem idx : ∀ t : Fin cfg0.N, win0_0.index t = ![win0_2.index t 0, t.val % 11] ∧ win0_1.index t = ![t.val % 11, win0_2.index t 1] :=
  (by decide +kernel : ∀ t : Fin grid0.N, _)

/-- The block of the result stays where it is through a run. -/
theorem still : ∀ (t : Fin cfg0.N) (s : Fin 11) (h : 11 * (t.val / 11) + s.val < cfg0.N), win0_2.index ⟨11 * (t.val / 11) + s.val, h⟩ = win0_2.index t :=
  (by decide +kernel : ∀ (t : Fin grid0.N) (s : Fin 11) (h : 11 * (t.val / 11) + s.val < grid0.N), _)

theorem place (t : ℕ) (s : Fin 11) : (11 * (t / 11) + s.val) % 11 = s.val := by
  rw [Nat.mul_add_mod]; exact Nat.mod_eq_of_lt s.isLt

/-- The array after the call. -/
theorem final (c : Dev nD) : (dats m 0 c).arrAt 2 cfg0.N = G (m ((c : Thread nD τ).loc main_arg0)) (m ((c : Thread nD τ).loc main_arg1)) := by
  refine (dats m 0 c).arrAt_eq_of_covers 2 _ (by decide +kernel) fun t hf y => ?_
  blk_simp
  rw [after0_2]
  have hl := (flush0_2 t).mp hf
  refine (last m c t hl _).trans ?_
  rw [total m c t hl]
  refine Fin.sum_mul_add_congr (n := 1408) fun s k hk => ?_
  have hi := idx ⟨11 * (t.val / 11) + s.val, Pipeline.run_point_lt_of_flush t hl s⟩
  rw [still t s, place] at hi
  exact congrArg₂ (fun (a b : EReal) => a * b) (by blk_ext [iblk, hi, Cert.Split.hi1024, Cert.Split.lo1024, Cert.Split.hi256, Cert.Split.lo256]) (by blk_ext [iblk, hi, Cert.Split.hi1024, Cert.Split.lo1024, Cert.Split.hi256, Cert.Split.lo256])

end Cert.Kernel7Ideal.InDx

namespace Cert.Reference7Ideal.InDx

open Cert.Reference7Ideal Cert.Reference7Ideal.Gen
open Idealize.ShloMosaic Idealize.ShloMosaic.TcCoe Idealize.ShloMosaic.Tactic Idealize.SL.Sem

/-- The reference's result is the same array. -/
theorem value (a0 : FVec Ideal S2048x15488 .bf16) (a1 : FVec Ideal S15488x2048 .bf16) :
    Host.dotGeneral dot_S2048x15488_S2048x15488_S2048x2048_1_1_0_0_n_n none (extf .f32 a0 bitsLt_bf16_f32) (transpose S2048x15488 [1, 0] (extf .f32 a1 bitsLt_bf16_f32) transposes_S15488x2048_S2048x15488_1_0) = Cert.Kernel7Ideal.InDx.G a0 a1 := by
  funext i
  pointwise [Cert.Kernel7Ideal.InDx.G]

end Cert.Reference7Ideal.InDx

end
-- ==== Proof.FfDownDx.lean ====
module

public import Idealize.ShloMosaic.Lib.Pipeline.ValueKit
public import Idealize.ShloMosaic.Lib.StableHlo.RunClose
public import proofs.«01_k».proof.Proof.Split
public import proofs.«01_k».proof.Proof.Gen.Kernel8Ideal.Value
public import proofs.«01_k».proof.Proof.Gen.Reference8Ideal.Run

@[expose] public section

noncomputable section

/-! The gradient that enters the squared rectifier's input: what the call leaves, entry by entry, and what the reference computes. -/

namespace Cert.Kernel8Ideal.FfDownDx

open Cert.Kernel8Ideal Cert.Kernel8Ideal.Gen
open Idealize.ShloMosaic Idealize.ShloMosaic.TcCoe Idealize.ShloMosaic.Tactic Idealize.SL.Sem
open Idealize.ShloMosaic.Pipeline (Dat)

/-- Entry by entry, the result. -/
def G (a0 : S2048x2048.Idx → EReal) (a1 : S8x1024x2048.Idx → EReal) (a2 : S2048x8192.Idx → EReal) (i : S2048x8192.Idx) : EReal := (∑ k : Fin 2048, a0 (ix2 (i 0) k) * a1 (ix3 (Cert.Split.hi1024 (i 1)) (Cert.Split.lo1024 (i 1)) k)) * (Cert.Split.two * max (a2 i) 0)

/-- What a grid point stores. -/
theorem stored (x0 : Vec Ideal S1024x2048 .bf16) (x1 : Vec Ideal S1x1024x2048 .bf16) (x2 : Vec Ideal S1024x1024 .f32) (y : S1024x1024.Idx) :
    out0_3 (F := Ideal) x0 x1 x2 y = ((∑ k : Fin 2048, x0 (ix2 (y 0) k) * x1 (ix3 0 (y 1) k)) * (Cert.Split.two * max (x2 y) 0) : EReal) := by
  frame_out
  pointwise [k0_pay1] <;> blk_point

theorem idx : ∀ t : Fin cfg0.N, win0_0.index t = ![win0_3.index t 0, 0] ∧ win0_1.index t = ![win0_3.index t 1, 0, 0] ∧ win0_2.index t = ![win0_3.index t 0, win0_3.index t 1] :=
  (by decide +kernel : ∀ t : Fin grid0.N, _)

variable (m : (ℓ : Loc nD τ sig) → Buf (Elt Ideal) ℓ)

/-- The array after the call. -/
theorem final (c : Dev nD) : (dats m 0 c).arrAt 3 cfg0.N = G (m ((c : Thread nD τ).loc main_arg0)) (m ((c : Thread nD τ).loc main_arg1)) (m ((c : Thread nD τ).loc main_arg2)) := by
  refine (dats m 0 c).arrAt_eq_of_covers 3 _ (by decide +kernel) fun t hf y => ?_
  blk_simp
  rw [after0_3]
  refine (stored _ _ _ _).trans ?_
  refine congrArg₂ (fun (a b : EReal) => a * (Cert.Split.two * max b 0)) (Finset.sum_congr rfl fun k _ => congrArg₂ (fun (a b : EReal) => a * b) (by blk_ext [iblk, idx t]) (by blk_ext [iblk, idx t, Cert.Split.hi1024, Cert.Split.lo1024, Cert.Split.hi256, Cert.Split.lo256, Cert.Split.at8x1024, Cert.Split.at8x256])) ?_
  blk_ext [iblk, idx t]

end Cert.Kernel8Ideal.FfDownDx

namespace Cert.Reference8Ideal.FfDownDx

open Cert.Reference8Ideal Cert.Reference8Ideal.Gen
open Idealize.ShloMosaic Idealize.ShloMosaic.TcCoe Idealize.ShloMosaic.Tactic Idealize.SL.Sem

/-- The reference's result is the same array. -/
theorem value (a0 : FVec Ideal S2048x2048 .bf16) (a1 : FVec Ideal S8x1024x2048 .bf16) (a2 : FVec Ideal S2048x8192 .f32) :
    truncf .bf16 (select (cmpf .ogt a2 (broadcastInDim S2048x8192 ![] bcast_S_S2048x8192 (constant S_ .f32 0x00000000#32))) (mulf (Host.dotGeneral dot_S2048x2048_S8192x2048_S2048x8192_1_1_0_0_n_n none (extf .f32 a0 bitsLt_bf16_f32) (shapeCast _ (extf .f32 a1 bitsLt_bf16_f32) shapeCasts_S8x1024x2048_S8192x2048)) (mulf (broadcastInDim S2048x8192 ![] bcast_S_S2048x8192 (constant S_ .f32 0x40000000#32)) (maximumf a2 (broadcastInDim S2048x8192 ![] bcast_S_S2048x8192 (constant S_ .f32 0x00000000#32))))) (broadcastInDim S2048x8192 ![] bcast_S_S2048x8192 (constant S_ .f32 0x00000000#32))) bitsLt_bf16_f32 = Cert.Kernel8Ideal.FfDownDx.G a0 a1 a2 := by
  funext i
  pointwise [Cert.Kernel8Ideal.FfDownDx.G]
  split_ifs with h
  · rfl
  · rw [max_eq_right (not_lt.1 h), mul_zero, mul_zero]

end Cert.Reference8Ideal.FfDownDx

end
-- ==== Proof.BranchDx.lean ====
module

public import Idealize.ShloMosaic.Lib.Pipeline.ValueKit
public import Idealize.ShloMosaic.Lib.Pipeline.ReadBack
public import Idealize.ShloMosaic.Lib.StableHlo.RunClose
public import proofs.«01_k».proof.Proof.Split
public import proofs.«01_k».proof.Proof.Gen.Kernel9Ideal.Value
public import proofs.«01_k».proof.Proof.Gen.Reference9Ideal.Run

@[expose] public section

noncomputable section

/-! The gradient that enters a branch's last activation: a product accumulated over blocks of the contracted columns. -/

namespace Cert.Kernel9Ideal.BranchDx

open Cert.Kernel9Ideal Cert.Kernel9Ideal.Gen
open Idealize.ShloMosaic Idealize.ShloMosaic.TcCoe Idealize.ShloMosaic.Tactic Idealize.SL.Sem
open Idealize.ShloMosaic.Pipeline (Dat)

/-- Entry by entry, the result. -/
def G (a0 : S2048x2048.Idx → EReal) (a1 : S8x1024x256.Idx → EReal) (i : S2048x1024.Idx) : EReal := ∑ k : Fin 2048, a0 (ix2 (i 0) k) * a1 (ix3 (Cert.Split.hi256 k) (i 1) (Cert.Split.lo256 k))

/-- The product of one block of the contracted columns. -/
def part (x0 : S1024x256.Idx → EReal) (x1 : S1x1024x256.Idx → EReal) (y : S1024x1024.Idx) : EReal := ∑ k : Fin 256, x0 (ix2 (y 0) k) * x1 (ix3 0 (y 1) k)

theorem pay1 (x0 : Vec Ideal S1024x256 .bf16) (x1 : Vec Ideal S1x1024x256 .bf16) (y : S1024x1024.Idx) :
    k0_pay1 (F := Ideal) x1 x0 y = part x0 x1 y := by
  pointwise [k0_pay1, part] <;> blk_point

theorem pay2 (x0 : Vec Ideal S1024x256 .bf16) (x1 : Vec Ideal S1x1024x256 .bf16) (y : S1024x1024.Idx) :
    k0_pay2 (F := Ideal) x1 x0 y = part x0 x1 y := by
  rw [← pay1]; unfold k0_pay2; simp only [shapeCast_self]

theorem pay3 (x0 : Vec Ideal S1024x256 .bf16) (x1 : Vec Ideal S1x1024x256 .bf16) (acc : Vec Ideal S1024x1024 .f32) (y : S1024x1024.Idx) :
    k0_pay3 (F := Ideal) x1 x0 acc y = (acc y + part x0 x1 y : EReal) := by
  rw [← pay1]; unfold k0_pay3; simp only [shapeCast_self]; rfl

variable (m : (ℓ : Loc nD τ sig) → Buf (Elt Ideal) ℓ)

/-- The first point of a run leaves its block product in the accumulator. -/
theorem first (c : Dev nD) (t : Fin cfg0.N) (h : t.val % 8 = 0) (y : S1024x1024.Idx) :
    (outsAt0 m c t.val t.isLt).2 y = (0 + part (iblk m c 0 t) (iblk m c 1 t) y : EReal) := by
  rw [outsAt0_A m c t h (by omega) (by omega), zero_add]
  frame_out
  exact pay2 _ _ _

/-- Every later point adds its own. -/
theorem later (c : Dev nD) (t : Fin cfg0.N) (h : ¬t.val % 8 = 0) (y : S1024x1024.Idx) :
    (outsAt0 m c t.val t.isLt).2 y
      = ((outsAt0 m c (t.val - 1) (Nat.lt_of_le_of_lt (Nat.sub_le _ _) t.isLt)).2 y + part (iblk m c 0 t) (iblk m c 1 t) y : EReal) := by
  by_cases h2 : t.val % 8 = 7
  · rw [outsAt0_C m c t h (by omega) h2]
    frame_out
    simp only [read_unread_whole]
    exact pay3 _ _ _ _
  · rw [outsAt0_B m c t h (by omega) h2]
    frame_out
    simp only [read_unread_whole]
    exact pay3 _ _ _ _

/-- The last point of a run writes the accumulator out. -/
theorem last (c : Dev nD) (t : Fin cfg0.N) (h : t.val % 8 = 7) (y : S1024x1024.Idx) :
    (outsAt0 m c t.val t.isLt).1 y = ((outsAt0 m c t.val t.isLt).2 y : EReal) := by
  rw [outsAt0_C m c t (by omega) (by omega) h]
  dsimp only
  frame_out

/-- The accumulator at the last point of a run: the block products, summed. -/
theorem total (c : Dev nD) (t : Fin cfg0.N) (h : t.val % 8 = 7) (y : S1024x1024.Idx) :
    (outsAt0 m c t.val t.isLt).2 y
      = (∑ s : Fin 8, part (iblk m c 0 ⟨8 * (t.val / 8) + s.val, Pipeline.run_point_lt_of_flush t h s⟩) (iblk m c 1 ⟨8 * (t.val / 8) + s.val, Pipeline.run_point_lt_of_flush t h s⟩) y : EReal) := by
  refine (Pipeline.eq_sum_fin_of_reset_step_apply_of_flush (M := EReal) (fun n h => (outsAt0 m c n h).2) 8 (fun _ => 0)
    (fun p y => part (iblk m c 0 p) (iblk m c 1 p) y) (first m c) (later m c) t h y).trans ?_
  exact zero_add _

theorem idx : ∀ t : Fin cfg0.N, win0_0.index t = ![win0_2.index t 0, t.val % 8] ∧ win0_1.index t = ![t.val % 8, win0_2.index t 1, 0] :=
  (by decide +kernel : ∀ t : Fin grid0.N, _)

/-- The block of the result stays where it is through a run. -/
theorem still : ∀ (t : Fin cfg0.N) (s : Fin 8) (h : 8 * (t.val / 8) + s.val < cfg0.N), win0_2.index ⟨8 * (t.val / 8) + s.val, h⟩ = win0_2.index t :=
  (by decide +kernel : ∀ (t : Fin grid0.N) (s : Fin 8) (h : 8 * (t.val / 8) + s.val < grid0.N), _)

theorem place (t : ℕ) (s : Fin 8) : (8 * (t / 8) + s.val) % 8 = s.val := by
  rw [Nat.mul_add_mod]; exact Nat.mod_eq_of_lt s.isLt

/-- The array after the call. -/
theorem final (c : Dev nD) : (dats m 0 c).arrAt 2 cfg0.N = G (m ((c : Thread nD τ).loc main_arg0)) (m ((c : Thread nD τ).loc main_arg1)) := by
  refine (dats m 0 c).arrAt_eq_of_covers 2 _ (by decide +kernel) fun t hf y => ?_
  blk_simp
  rw [after0_2]
  have hl := (flush0_2 t).mp hf
  refine (last m c t hl _).trans ?_
  rw [total m c t hl]
  refine Fin.sum_mul_add_congr (n := 256) fun s k hk => ?_
  have hi := idx ⟨8 * (t.val / 8) + s.val, Pipeline.run_point_lt_of_flush t hl s⟩
  rw [still t s, place] at hi
  exact congrArg₂ (fun (a b : EReal) => a * b) (by blk_ext [iblk, hi, Cert.Split.hi1024, Cert.Split.lo1024, Cert.Split.hi256, Cert.Split.lo256]) (by blk_ext [iblk, hi, Cert.Split.hi1024, Cert.Split.lo1024, Cert.Split.hi256, Cert.Split.lo256])

end Cert.Kernel9Ideal.BranchDx

namespace Cert.Reference9Ideal.BranchDx

open Cert.Reference9Ideal Cert.Reference9Ideal.Gen
open Idealize.ShloMosaic Idealize.ShloMosaic.TcCoe Idealize.ShloMosaic.Tactic Idealize.SL.Sem

/-- The reference's result is the same array. -/
theorem value (a0 : FVec Ideal S2048x2048 .bf16) (a1 : FVec Ideal S8x1024x256 .bf16) :
    Host.dotGeneral dot_S2048x2048_S1024x2048_S2048x1024_1_1_0_0_n_n none (extf .f32 a0 bitsLt_bf16_f32) (shapeCast _ (transpose S1024x8x256 [1, 0, 2] (extf .f32 a1 bitsLt_bf16_f32) transposes_S8x1024x256_S1024x8x256_1_0_2) shapeCasts_S1024x8x256_S1024x2048) = Cert.Kernel9Ideal.BranchDx.G a0 a1 := by
  funext i
  pointwise [Cert.Kernel9Ideal.BranchDx.G]
  rfl

end Cert.Reference9Ideal.BranchDx

end
-- ==== Proof.Branch.lean ====
module

public import Idealize.ShloMosaic.Lib.Pipeline.ValueKit
public import Idealize.ShloMosaic.Lib.StableHlo.RunClose
public import proofs.«01_k».proof.Proof.Split
public import proofs.«01_k».proof.Proof.Gen.Kernel10Ideal.Value
public import proofs.«01_k».proof.Proof.Gen.Reference10Ideal.Run

@[expose] public section

noncomputable section

/-! A branch's output projection: what the call leaves, entry by entry, and what the reference computes. -/

namespace Cert.Kernel10Ideal.Branch

open Cert.Kernel10Ideal Cert.Kernel10Ideal.Gen
open Idealize.ShloMosaic Idealize.ShloMosaic.TcCoe Idealize.ShloMosaic.Tactic Idealize.SL.Sem
open Idealize.ShloMosaic.Pipeline (Dat)

/-- Entry by entry, the result. -/
def G (a0 : S2048x1024.Idx → EReal) (a1 : S8x1024x256.Idx → EReal) (i : S2048x2048.Idx) : EReal := ∑ k : Fin 1024, a0 (ix2 (i 0) k) * a1 (ix3 (Cert.Split.hi256 (i 1)) k (Cert.Split.lo256 (i 1)))

/-- What a grid point stores. -/
theorem stored (x0 : Vec Ideal S1024x1024 .bf16) (x1 : Vec Ideal S1x1024x256 .bf16) (y : S1024x256.Idx) :
    out0_2 (F := Ideal) x0 x1 y = (∑ k : Fin 1024, x0 (ix2 (y 0) k) * x1 (ix3 0 k (y 1)) : EReal) := by
  frame_out
  pointwise [k0_pay1] <;> blk_point

theorem idx : ∀ t : Fin cfg0.N, win0_0.index t = ![win0_2.index t 0, 0] ∧ win0_1.index t = ![win0_2.index t 1, 0, 0] :=
  (by decide +kernel : ∀ t : Fin grid0.N, _)

variable (m : (ℓ : Loc nD τ sig) → Buf (Elt Ideal) ℓ)

/-- The array after the call. -/
theorem final (c : Dev nD) : (dats m 0 c).arrAt 2 cfg0.N = G (m ((c : Thread nD τ).loc main_arg0)) (m ((c : Thread nD τ).loc main_arg1)) := by
  refine (dats m 0 c).arrAt_eq_of_covers 2 _ (by decide +kernel) fun t hf y => ?_
  blk_simp
  rw [after0_2]
  refine (stored _ _ _).trans ?_
  exact Finset.sum_congr rfl fun k _ => congrArg₂ (fun (a b : EReal) => a * b) (by blk_ext [iblk, idx t]) (by blk_ext [iblk, idx t, Cert.Split.hi1024, Cert.Split.lo1024, Cert.Split.hi256, Cert.Split.lo256, Cert.Split.at8x1024, Cert.Split.at8x256])

end Cert.Kernel10Ideal.Branch

namespace Cert.Reference10Ideal.Branch

open Cert.Reference10Ideal Cert.Reference10Ideal.Gen
open Idealize.ShloMosaic Idealize.ShloMosaic.TcCoe Idealize.ShloMosaic.Tactic Idealize.SL.Sem

/-- The reference's result is the same array. -/
theorem value (a0 : FVec Ideal S2048x1024 .bf16) (a1 : FVec Ideal S8x1024x256 .bf16) :
    Host.dotGeneral dot_S2048x1024_S1024x2048_S2048x2048_1_0_0_1_n_n none (extf .f32 a0 bitsLt_bf16_f32) (shapeCast _ (transpose S1024x8x256 [1, 0, 2] (extf .f32 a1 bitsLt_bf16_f32) transposes_S8x1024x256_S1024x8x256_1_0_2) shapeCasts_S1024x8x256_S1024x2048) = Cert.Kernel10Ideal.Branch.G a0 a1 := by
  funext i
  pointwise [Cert.Kernel10Ideal.Branch.G]
  rfl

end Cert.Reference10Ideal.Branch

end
-- ==== Proof.Out.lean ====
module

public import Idealize.ShloMosaic.Lib.Pipeline.ValueKit
public import Idealize.ShloMosaic.Lib.StableHlo.RunClose
public import proofs.«01_k».proof.Proof.Split
public import proofs.«01_k».proof.Proof.Gen.Kernel11Ideal.Value
public import proofs.«01_k».proof.Proof.Gen.Reference11Ideal.Run

@[expose] public section

noncomputable section

/-! The mixer's output projection and the residual: what the call leaves, entry by entry, and what the reference computes. -/

namespace Cert.Kernel11Ideal.Out

open Cert.Kernel11Ideal Cert.Kernel11Ideal.Gen
open Idealize.ShloMosaic Idealize.ShloMosaic.TcCoe Idealize.ShloMosaic.Tactic Idealize.SL.Sem
open Idealize.ShloMosaic.Pipeline (Dat)

/-- Entry by entry, the result. -/
def G (a0 : S2048x2048.Idx → EReal) (a1 : S8x256x2048.Idx → EReal) (a2 : S2048x2048.Idx → EReal) (i : S2048x2048.Idx) : EReal := (∑ k : Fin 2048, a0 (ix2 (i 0) k) * a1 (ix3 (Cert.Split.hi256 k) (Cert.Split.lo256 k) (i 1))) + a2 i

/-- What a grid point stores. -/
theorem stored (x0 : Vec Ideal S1024x2048 .bf16) (x1 : Vec Ideal S8x256x1024 .bf16) (x2 : Vec Ideal S1024x1024 .f32) (y : S1024x1024.Idx) :
    out0_3 (F := Ideal) x0 x1 x2 y = ((∑ k : Fin 2048, x0 (ix2 (y 0) k) * x1 (ix3 (Cert.Split.hi256 k) (Cert.Split.lo256 k) (y 1))) + x2 y : EReal) := by
  frame_out
  pointwise [k0_pay1, Cert.Split.hi256, Cert.Split.lo256] <;> blk_point

theorem idx : ∀ t : Fin cfg0.N, win0_0.index t = ![win0_3.index t 0, 0] ∧ win0_1.index t = ![0, 0, win0_3.index t 1] ∧ win0_2.index t = ![win0_3.index t 0, win0_3.index t 1] :=
  (by decide +kernel : ∀ t : Fin grid0.N, _)

variable (m : (ℓ : Loc nD τ sig) → Buf (Elt Ideal) ℓ)

/-- The array after the call. -/
theorem final (c : Dev nD) : (dats m 0 c).arrAt 3 cfg0.N = G (m ((c : Thread nD τ).loc main_arg0)) (m ((c : Thread nD τ).loc main_arg1)) (m ((c : Thread nD τ).loc main_arg2)) := by
  refine (dats m 0 c).arrAt_eq_of_covers 3 _ (by decide +kernel) fun t hf y => ?_
  blk_simp
  rw [after0_3]
  refine (stored _ _ _ _).trans ?_
  refine congrArg₂ (fun (a b : EReal) => a + b) (Finset.sum_congr rfl fun k _ => congrArg₂ (fun (a b : EReal) => a * b) (by blk_ext [iblk, idx t]) (by blk_ext [iblk, idx t, Cert.Split.hi1024, Cert.Split.lo1024, Cert.Split.hi256, Cert.Split.lo256, Cert.Split.at8x1024, Cert.Split.at8x256])) ?_
  blk_ext [iblk, idx t]

end Cert.Kernel11Ideal.Out

namespace Cert.Reference11Ideal.Out

open Cert.Reference11Ideal Cert.Reference11Ideal.Gen
open Idealize.ShloMosaic Idealize.ShloMosaic.TcCoe Idealize.ShloMosaic.Tactic Idealize.SL.Sem

/-- The reference's result is the same array. -/
theorem value (a0 : FVec Ideal S2048x2048 .bf16) (a1 : FVec Ideal S8x256x2048 .bf16) (a2 : FVec Ideal S2048x2048 .f32) :
    addf a2 (Host.dotGeneral dot_S2048x2048_S2048x2048_S2048x2048_1_0_0_1_n_n none (extf .f32 a0 bitsLt_bf16_f32) (shapeCast _ (extf .f32 a1 bitsLt_bf16_f32) shapeCasts_S8x256x2048_S2048x2048)) = Cert.Kernel11Ideal.Out.G a0 a1 a2 := by
  funext i
  pointwise [Cert.Kernel11Ideal.Out.G]
  exact add_comm _ _

end Cert.Reference11Ideal.Out

end
-- ==== Proof.In.lean ====
module

public import Idealize.ShloMosaic.Lib.Pipeline.ValueKit
public import Idealize.ShloMosaic.Lib.StableHlo.RunClose
public import proofs.«01_k».proof.Proof.Split
public import proofs.«01_k».proof.Proof.Gen.Kernel12Ideal.Value
public import proofs.«01_k».proof.Proof.Gen.Reference12Ideal.Run

@[expose] public section

noncomputable section

/-! The input projection: what the call leaves, entry by entry, and what the reference computes. -/

namespace Cert.Kernel12Ideal.In

open Cert.Kernel12Ideal Cert.Kernel12Ideal.Gen
open Idealize.ShloMosaic Idealize.ShloMosaic.TcCoe Idealize.ShloMosaic.Tactic Idealize.SL.Sem
open Idealize.ShloMosaic.Pipeline (Dat)

/-- Entry by entry, the result. -/
def G (a0 : S2048x2048.Idx → EReal) (a1 : S15488x2048.Idx → EReal) (i : S2048x15488.Idx) : EReal := ∑ k : Fin 2048, a0 (ix2 (i 0) k) * a1 (ix2 (i 1) k)

/-- What a grid point stores. -/
theorem stored (x0 : Vec Ideal S1024x2048 .bf16) (x1 : Vec Ideal S1408x2048 .bf16) (y : S1024x1408.Idx) :
    out0_2 (F := Ideal) x0 x1 y = (∑ k : Fin 2048, x0 (ix2 (y 0) k) * x1 (ix2 (y 1) k) : EReal) := by
  frame_out
  pointwise [k0_pay1] <;> blk_point

theorem idx : ∀ t : Fin cfg0.N, win0_0.index t = ![win0_2.index t 0, 0] ∧ win0_1.index t = ![win0_2.index t 1, 0] :=
  (by decide +kernel : ∀ t : Fin grid0.N, _)

variable (m : (ℓ : Loc nD τ sig) → Buf (Elt Ideal) ℓ)

/-- The array after the call. -/
theorem final (c : Dev nD) : (dats m 0 c).arrAt 2 cfg0.N = G (m ((c : Thread nD τ).loc main_arg0)) (m ((c : Thread nD τ).loc main_arg1)) := by
  refine (dats m 0 c).arrAt_eq_of_covers 2 _ (by decide +kernel) fun t hf y => ?_
  blk_simp
  rw [after0_2]
  refine (stored _ _ _).trans ?_
  exact Finset.sum_congr rfl fun k _ => congrArg₂ (fun (a b : EReal) => a * b) (by blk_ext [iblk, idx t]) (by blk_ext [iblk, idx t])

end Cert.Kernel12Ideal.In

namespace Cert.Reference12Ideal.In

open Cert.Reference12Ideal Cert.Reference12Ideal.Gen
open Idealize.ShloMosaic Idealize.ShloMosaic.TcCoe Idealize.ShloMosaic.Tactic Idealize.SL.Sem

/-- The reference's result is the same array. -/
theorem value (a0 : FVec Ideal S2048x2048 .bf16) (a1 : FVec Ideal S15488x2048 .bf16) :
    Host.dotGeneral dot_S2048x2048_S2048x15488_S2048x15488_1_0_0_1_n_n none (extf .f32 a0 bitsLt_bf16_f32) (transpose S2048x15488 [1, 0] (extf .f32 a1 bitsLt_bf16_f32) transposes_S15488x2048_S2048x15488_1_0) = Cert.Kernel12Ideal.In.G a0 a1 := by
  funext i
  pointwise [Cert.Kernel12Ideal.In.G]

end Cert.Reference12Ideal.In

end
-- ==== Proof.FfUp.lean ====
module

public import Idealize.ShloMosaic.Lib.Pipeline.ValueKit
public import Idealize.ShloMosaic.Lib.StableHlo.RunClose
public import proofs.«01_k».proof.Proof.Split
public import proofs.«01_k».proof.Proof.Gen.Kernel13Ideal.Value
public import proofs.«01_k».proof.Proof.Gen.Reference13Ideal.Run

@[expose] public section

noncomputable section

/-! The first feed-forward product and its squared rectifier: what the call leaves, entry by entry, and what the reference computes. -/

namespace Cert.Kernel13Ideal.FfUp

open Cert.Kernel13Ideal Cert.Kernel13Ideal.Gen
open Idealize.ShloMosaic Idealize.ShloMosaic.TcCoe Idealize.ShloMosaic.Tactic Idealize.SL.Sem
open Idealize.ShloMosaic.Pipeline (Dat)

/-- Entry by entry, the result. -/
def G (a0 : S2048x2048.Idx → EReal) (a1 : S8x2048x1024.Idx → EReal) (i : S2048x8192.Idx) : EReal := (∑ k : Fin 2048, a0 (ix2 (i 0) k) * a1 (ix3 (Cert.Split.hi1024 (i 1)) k (Cert.Split.lo1024 (i 1))))

/-- Entry by entry, the result. -/
def G' (a0 : S2048x2048.Idx → EReal) (a1 : S8x2048x1024.Idx → EReal) (i : S2048x8192.Idx) : EReal := max (∑ k : Fin 2048, a0 (ix2 (i 0) k) * a1 (ix3 (Cert.Split.hi1024 (i 1)) k (Cert.Split.lo1024 (i 1)))) 0 * max (∑ k : Fin 2048, a0 (ix2 (i 0) k) * a1 (ix3 (Cert.Split.hi1024 (i 1)) k (Cert.Split.lo1024 (i 1)))) 0

/-- What a grid point stores. -/
theorem stored (x0 : Vec Ideal S1024x2048 .bf16) (x1 : Vec Ideal S1x2048x1024 .bf16) (y : S1024x1024.Idx) :
    out0_2 (F := Ideal) x0 x1 y = ((∑ k : Fin 2048, x0 (ix2 (y 0) k) * x1 (ix3 0 k (y 1))) : EReal) := by
  frame_out
  pointwise [k0_pay1] <;> blk_point

/-- What a grid point stores. -/
theorem stored' (x0 : Vec Ideal S1024x2048 .bf16) (x1 : Vec Ideal S1x2048x1024 .bf16) (y : S1024x1024.Idx) :
    out0_3 (F := Ideal) x0 x1 y = (max (∑ k : Fin 2048, x0 (ix2 (y 0) k) * x1 (ix3 0 k (y 1))) 0 * max (∑ k : Fin 2048, x0 (ix2 (y 0) k) * x1 (ix3 0 k (y 1))) 0 : EReal) := by
  frame_out
  pointwise [k0_pay1, k0_pay2] <;> blk_point

theorem idx : ∀ t : Fin cfg0.N, win0_0.index t = ![win0_2.index t 0, 0] ∧ win0_1.index t = ![win0_2.index t 1, 0, 0] ∧ win0_3.index t = ![win0_2.index t 0, win0_2.index t 1] :=
  (by decide +kernel : ∀ t : Fin grid0.N, _)

variable (m : (ℓ : Loc nD τ sig) → Buf (Elt Ideal) ℓ)

/-- The array after the call. -/
theorem final (c : Dev nD) : (dats m 0 c).arrAt 2 cfg0.N = G (m ((c : Thread nD τ).loc main_arg0)) (m ((c : Thread nD τ).loc main_arg1)) := by
  refine (dats m 0 c).arrAt_eq_of_covers 2 _ (by decide +kernel) fun t hf y => ?_
  blk_simp
  rw [after0_2]
  refine (stored _ _ _).trans ?_
  exact Finset.sum_congr rfl fun k _ => congrArg₂ (fun (a b : EReal) => a * b) (by blk_ext [iblk, idx t]) (by blk_ext [iblk, idx t, Cert.Split.hi1024, Cert.Split.lo1024, Cert.Split.hi256, Cert.Split.lo256, Cert.Split.at8x1024, Cert.Split.at8x256])

/-- The array after the call. -/
theorem final' (c : Dev nD) : (dats m 0 c).arrAt 3 cfg0.N = G' (m ((c : Thread nD τ).loc main_arg0)) (m ((c : Thread nD τ).loc main_arg1)) := by
  refine (dats m 0 c).arrAt_eq_of_covers 3 _ (by decide +kernel) fun t hf y => ?_
  blk_simp
  rw [after0_3]
  refine (stored' _ _ _).trans ?_
  refine congrArg (fun (a : EReal) => max a 0 * max a 0) (Finset.sum_congr rfl fun k _ => congrArg₂ (fun (a b : EReal) => a * b) (by blk_ext [iblk, idx t]) (by blk_ext [iblk, idx t, Cert.Split.hi1024, Cert.Split.lo1024, Cert.Split.hi256, Cert.Split.lo256, Cert.Split.at8x1024, Cert.Split.at8x256]))

end Cert.Kernel13Ideal.FfUp

namespace Cert.Reference13Ideal.FfUp

open Cert.Reference13Ideal Cert.Reference13Ideal.Gen
open Idealize.ShloMosaic Idealize.ShloMosaic.TcCoe Idealize.ShloMosaic.Tactic Idealize.SL.Sem

/-- The reference's result is the same array. -/
theorem value (a0 : FVec Ideal S2048x2048 .bf16) (a1 : FVec Ideal S8x2048x1024 .bf16) :
    Host.dotGeneral dot_S2048x2048_S2048x8192_S2048x8192_1_0_0_1_n_n none (extf .f32 a0 bitsLt_bf16_f32) (shapeCast _ (transpose S2048x8x1024 [1, 0, 2] (extf .f32 a1 bitsLt_bf16_f32) transposes_S8x2048x1024_S2048x8x1024_1_0_2) shapeCasts_S2048x8x1024_S2048x8192) = Cert.Kernel13Ideal.FfUp.G a0 a1 := by
  funext i
  pointwise [Cert.Kernel13Ideal.FfUp.G]
  rfl

/-- The reference's result is the same array. -/
theorem value' (a0 : FVec Ideal S2048x2048 .bf16) (a1 : FVec Ideal S8x2048x1024 .bf16) :
    truncf .bf16 (mulf (maximumf (Host.dotGeneral dot_S2048x2048_S2048x8192_S2048x8192_1_0_0_1_n_n none (extf .f32 a0 bitsLt_bf16_f32) (shapeCast _ (transpose S2048x8x1024 [1, 0, 2] (extf .f32 a1 bitsLt_bf16_f32) transposes_S8x2048x1024_S2048x8x1024_1_0_2) shapeCasts_S2048x8x1024_S2048x8192)) (broadcastInDim S2048x8192 ![] bcast_S_S2048x8192 (constant S_ .f32 0x00000000#32))) (maximumf (Host.dotGeneral dot_S2048x2048_S2048x8192_S2048x8192_1_0_0_1_n_n none (extf .f32 a0 bitsLt_bf16_f32) (shapeCast _ (transpose S2048x8x1024 [1, 0, 2] (extf .f32 a1 bitsLt_bf16_f32) transposes_S8x2048x1024_S2048x8x1024_1_0_2) shapeCasts_S2048x8x1024_S2048x8192)) (broadcastInDim S2048x8192 ![] bcast_S_S2048x8192 (constant S_ .f32 0x00000000#32)))) bitsLt_bf16_f32 = Cert.Kernel13Ideal.FfUp.G' a0 a1 := by
  funext i
  pointwise [Cert.Kernel13Ideal.FfUp.G']
  rfl

end Cert.Reference13Ideal.FfUp

end
-- ==== Proof.FfDown.lean ====
module

public import Idealize.ShloMosaic.Lib.Pipeline.ValueKit
public import Idealize.ShloMosaic.Lib.Pipeline.ReadBack
public import Idealize.ShloMosaic.Lib.StableHlo.RunClose
public import proofs.«01_k».proof.Proof.Split
public import proofs.«01_k».proof.Proof.Gen.Kernel14Ideal.Value
public import proofs.«01_k».proof.Proof.Gen.Reference14Ideal.Run

@[expose] public section

noncomputable section

/-! The second product of the feed-forward part, accumulated over blocks of the contracted columns, the residual added at the end. -/

namespace Cert.Kernel14Ideal.FfDown

open Cert.Kernel14Ideal Cert.Kernel14Ideal.Gen
open Idealize.ShloMosaic Idealize.ShloMosaic.TcCoe Idealize.ShloMosaic.Tactic Idealize.SL.Sem
open Idealize.ShloMosaic.Pipeline (Dat)

/-- Entry by entry, the result. -/
def G (a0 : S2048x8192.Idx → EReal) (a1 : S8x1024x2048.Idx → EReal) (a2 : S2048x2048.Idx → EReal) (i : S2048x2048.Idx) : EReal := (∑ k : Fin 8192, a0 (ix2 (i 0) k) * a1 (ix3 (Cert.Split.hi1024 k) (Cert.Split.lo1024 k) (i 1))) + a2 i

/-- The product of one block of the contracted columns. -/
def part (x0 : S1024x2048.Idx → EReal) (x1 : S2x1024x1024.Idx → EReal) (y : S1024x1024.Idx) : EReal := ∑ k : Fin 2048, x0 (ix2 (y 0) k) * x1 (ix3 ⟨k.val / 1024, by omega⟩ ⟨k.val % 1024, by omega⟩ (y 1))

theorem pay1 (x0 : Vec Ideal S1024x2048 .bf16) (x1 : Vec Ideal S2x1024x1024 .bf16) (y : S1024x1024.Idx) :
    k0_pay1 (F := Ideal) x1 x0 y = part x0 x1 y := by
  pointwise [k0_pay1, part] <;> blk_point

theorem pay2 (x0 : Vec Ideal S1024x2048 .bf16) (x1 : Vec Ideal S2x1024x1024 .bf16) (y : S1024x1024.Idx) :
    k0_pay2 (F := Ideal) x1 x0 y = part x0 x1 y := by
  rw [← pay1]; unfold k0_pay2; simp only [shapeCast_self]

theorem pay3 (x0 : Vec Ideal S1024x2048 .bf16) (x1 : Vec Ideal S2x1024x1024 .bf16) (acc : Vec Ideal S1024x1024 .f32) (y : S1024x1024.Idx) :
    k0_pay3 (F := Ideal) x1 x0 acc y = (acc y + part x0 x1 y : EReal) := by
  rw [← pay1]; unfold k0_pay3; simp only [shapeCast_self]; rfl

variable (m : (ℓ : Loc nD τ sig) → Buf (Elt Ideal) ℓ)

/-- The first point of a run leaves its block product in the accumulator. -/
theorem first (c : Dev nD) (t : Fin cfg0.N) (h : t.val % 4 = 0) (y : S1024x1024.Idx) :
    (outsAt0 m c t.val t.isLt).2 y = (0 + part (iblk m c 0 t) (iblk m c 1 t) y : EReal) := by
  rw [outsAt0_A m c t h (by omega) (by omega), zero_add]
  frame_out
  exact pay2 _ _ _

/-- Every later point adds its own. -/
theorem later (c : Dev nD) (t : Fin cfg0.N) (h : ¬t.val % 4 = 0) (y : S1024x1024.Idx) :
    (outsAt0 m c t.val t.isLt).2 y
      = ((outsAt0 m c (t.val - 1) (Nat.lt_of_le_of_lt (Nat.sub_le _ _) t.isLt)).2 y + part (iblk m c 0 t) (iblk m c 1 t) y : EReal) := by
  by_cases h2 : t.val % 4 = 3
  · rw [outsAt0_C m c t h (by omega) h2]
    frame_out
    simp only [read_unread_whole]
    exact pay3 _ _ _ _
  · rw [outsAt0_B m c t h (by omega) h2]
    frame_out
    simp only [read_unread_whole]
    exact pay3 _ _ _ _

/-- The last point of a run writes the accumulator out. -/
theorem last (c : Dev nD) (t : Fin cfg0.N) (h : t.val % 4 = 3) (y : S1024x1024.Idx) :
    (outsAt0 m c t.val t.isLt).1 y = ((outsAt0 m c t.val t.isLt).2 y + iblk m c 2 t y : EReal) := by
  rw [outsAt0_C m c t (by omega) (by omega) h]
  dsimp only
  frame_out
  rfl

/-- The accumulator at the last point of a run: the block products, summed. -/
theorem total (c : Dev nD) (t : Fin cfg0.N) (h : t.val % 4 = 3) (y : S1024x1024.Idx) :
    (outsAt0 m c t.val t.isLt).2 y
      = (∑ s : Fin 4, part (iblk m c 0 ⟨4 * (t.val / 4) + s.val, Pipeline.run_point_lt_of_flush t h s⟩) (iblk m c 1 ⟨4 * (t.val / 4) + s.val, Pipeline.run_point_lt_of_flush t h s⟩) y : EReal) := by
  refine (Pipeline.eq_sum_fin_of_reset_step_apply_of_flush (M := EReal) (fun n h => (outsAt0 m c n h).2) 4 (fun _ => 0)
    (fun p y => part (iblk m c 0 p) (iblk m c 1 p) y) (first m c) (later m c) t h y).trans ?_
  exact zero_add _

theorem idx : ∀ t : Fin cfg0.N, win0_0.index t = ![win0_3.index t 0, t.val % 4] ∧ win0_1.index t = ![t.val % 4, 0, win0_3.index t 1] ∧ win0_2.index t = ![win0_3.index t 0, win0_3.index t 1] :=
  (by decide +kernel : ∀ t : Fin grid0.N, _)

/-- The block of the result stays where it is through a run. -/
theorem still : ∀ (t : Fin cfg0.N) (s : Fin 4) (h : 4 * (t.val / 4) + s.val < cfg0.N), win0_3.index ⟨4 * (t.val / 4) + s.val, h⟩ = win0_3.index t :=
  (by decide +kernel : ∀ (t : Fin grid0.N) (s : Fin 4) (h : 4 * (t.val / 4) + s.val < grid0.N), _)

theorem place (t : ℕ) (s : Fin 4) : (4 * (t / 4) + s.val) % 4 = s.val := by
  rw [Nat.mul_add_mod]; exact Nat.mod_eq_of_lt s.isLt

/-- The array after the call. -/
theorem final (c : Dev nD) : (dats m 0 c).arrAt 3 cfg0.N = G (m ((c : Thread nD τ).loc main_arg0)) (m ((c : Thread nD τ).loc main_arg1)) (m ((c : Thread nD τ).loc main_arg2)) := by
  refine (dats m 0 c).arrAt_eq_of_covers 3 _ (by decide +kernel) fun t hf y => ?_
  blk_simp
  rw [after0_3]
  have hl := (flush0_3 t).mp hf
  refine (last m c t hl _).trans ?_
  rw [total m c t hl]
  refine congrArg₂ (fun (a b : EReal) => a + b) ?_ (by blk_ext [iblk, idx t])
  refine Fin.sum_mul_add_congr (n := 2048) fun s k hk => ?_
  have hi := idx ⟨4 * (t.val / 4) + s.val, Pipeline.run_point_lt_of_flush t hl s⟩
  rw [still t s, place] at hi
  exact congrArg₂ (fun (a b : EReal) => a * b) (by blk_ext [iblk, hi, Cert.Split.hi1024, Cert.Split.lo1024, Cert.Split.hi256, Cert.Split.lo256]) (by blk_ext [iblk, hi, Cert.Split.hi1024, Cert.Split.lo1024, Cert.Split.hi256, Cert.Split.lo256])

end Cert.Kernel14Ideal.FfDown

namespace Cert.Reference14Ideal.FfDown

open Cert.Reference14Ideal Cert.Reference14Ideal.Gen
open Idealize.ShloMosaic Idealize.ShloMosaic.TcCoe Idealize.ShloMosaic.Tactic Idealize.SL.Sem

/-- The reference's result is the same array. -/
theorem value (a0 : FVec Ideal S2048x8192 .bf16) (a1 : FVec Ideal S8x1024x2048 .bf16) (a2 : FVec Ideal S2048x2048 .f32) :
    addf a2 (Host.dotGeneral dot_S2048x8192_S8192x2048_S2048x2048_1_0_0_1_n_n none (extf .f32 a0 bitsLt_bf16_f32) (shapeCast _ (extf .f32 a1 bitsLt_bf16_f32) shapeCasts_S8x1024x2048_S8192x2048)) = Cert.Kernel14Ideal.FfDown.G a0 a1 a2 := by
  funext i
  pointwise [Cert.Kernel14Ideal.FfDown.G]
  exact add_comm _ _

end Cert.Reference14Ideal.FfDown

end
-- ==== Proof.Products.lean ====
module

public import proofs.«01_k».proof.Defs
public import proofs.«01_k».proof.Proof.Gen.Kernel2.Frame
public import proofs.«01_k».proof.Proof.FfDownDw
public import proofs.«01_k».proof.Proof.Gen.Kernel3.Frame
public import proofs.«01_k».proof.Proof.FfUpDw
public import proofs.«01_k».proof.Proof.Gen.Kernel4.Frame
public import proofs.«01_k».proof.Proof.OutDw
public import proofs.«01_k».proof.Proof.Gen.Kernel5.Frame
public import proofs.«01_k».proof.Proof.BranchDw
public import proofs.«01_k».proof.Proof.Gen.Kernel6.Frame
public import proofs.«01_k».proof.Proof.InDw
public import proofs.«01_k».proof.Proof.Gen.Kernel7.Frame
public import proofs.«01_k».proof.Proof.InDx
public import proofs.«01_k».proof.Proof.Gen.Kernel8.Frame
public import proofs.«01_k».proof.Proof.FfDownDx
public import proofs.«01_k».proof.Proof.Gen.Kernel9.Frame
public import proofs.«01_k».proof.Proof.BranchDx
public import proofs.«01_k».proof.Proof.Gen.Kernel10.Frame
public import proofs.«01_k».proof.Proof.Branch
public import proofs.«01_k».proof.Proof.Gen.Kernel11.Frame
public import proofs.«01_k».proof.Proof.Out
public import proofs.«01_k».proof.Proof.Gen.Kernel12.Frame
public import proofs.«01_k».proof.Proof.In
public import proofs.«01_k».proof.Proof.Gen.Kernel13.Frame
public import proofs.«01_k».proof.Proof.FfUp
public import proofs.«01_k».proof.Proof.Gen.Kernel14.Frame
public import proofs.«01_k».proof.Proof.FfDown
public import Idealize.ShloMosaic.Adequacy
public import Idealize.ShloMosaic.Init

@[expose] public section

noncomputable section

/-! The claims about the products, each from the array its call leaves and the array its reference computes. -/

namespace Cert.Products

open Idealize.ShloMosaic Idealize.SL.Sem

theorem frame_2 : quiescent_Kernel2 := fun m ρ _ => Kernel2.Gen.frame m ρ

theorem frame_2_ideal : quiescent_Kernel2Ideal := fun m ρ _ => Kernel2Ideal.Gen.frame m ρ

theorem frame_2_ref : quiescent_Reference2Ideal := fun m ρ _ =>
  (θ_run Reference2Ideal.defs _ _).mono (fun r h => ⟨fun c => ((h c).2), sem_eq_zero_of_no_sems (by decide) r.2⟩) (Reference2Ideal.Value.run m ρ)

theorem algebraic_2 : algebraic_Kernel2Ideal_Reference2Ideal := by
  intro m ρ m' ρ' _ hagree
  refine ⟨_, (θ_run Kernel2Ideal.defs _ _).mono (fun r h c => ⟨((h c).1).trans (Kernel2Ideal.FfDownDw.final m c), (h c).2.1, (h c).2.2⟩) (Kernel2Ideal.Value.run_blocks m ρ), (θ_run Reference2Ideal.defs _ _).mono (fun r h c => ?_) (Reference2Ideal.Value.run m' ρ')⟩
  have e := hagree c
  replace h := h c
  refine ⟨(h.1).trans ?_, h.2.1, h.2.2⟩
  · rewrite [e.1, e.2]; exact Reference2Ideal.FfDownDw.value _ _

theorem frame_3 : quiescent_Kernel3 := fun m ρ _ => Kernel3.Gen.frame m ρ

theorem frame_3_ideal : quiescent_Kernel3Ideal := fun m ρ _ => Kernel3Ideal.Gen.frame m ρ

theorem frame_3_ref : quiescent_Reference3Ideal := fun m ρ _ =>
  (θ_run Reference3Ideal.defs _ _).mono (fun r h => ⟨fun c => ((h c).2), sem_eq_zero_of_no_sems (by decide) r.2⟩) (Reference3Ideal.Value.run m ρ)

theorem algebraic_3 : algebraic_Kernel3Ideal_Reference3Ideal := by
  intro m ρ m' ρ' _ hagree
  refine ⟨_, (θ_run Kernel3Ideal.defs _ _).mono (fun r h c => ⟨((h c).1).trans (Kernel3Ideal.FfUpDw.final m c), (h c).2.1, (h c).2.2⟩) (Kernel3Ideal.Value.run_blocks m ρ), (θ_run Reference3Ideal.defs _ _).mono (fun r h c => ?_) (Reference3Ideal.Value.run m' ρ')⟩
  have e := hagree c
  replace h := h c
  refine ⟨(h.1).trans ?_, h.2.1, h.2.2⟩
  · rewrite [e.1, e.2]; exact Reference3Ideal.FfUpDw.value _ _

theorem frame_4 : quiescent_Kernel4 := fun m ρ _ => Kernel4.Gen.frame m ρ

theorem frame_4_ideal : quiescent_Kernel4Ideal := fun m ρ _ => Kernel4Ideal.Gen.frame m ρ

theorem frame_4_ref : quiescent_Reference4Ideal := fun m ρ _ =>
  (θ_run Reference4Ideal.defs _ _).mono (fun r h => ⟨fun c => ((h c).2), sem_eq_zero_of_no_sems (by decide) r.2⟩) (Reference4Ideal.Value.run m ρ)

theorem algebraic_4 : algebraic_Kernel4Ideal_Reference4Ideal := by
  intro m ρ m' ρ' _ hagree
  refine ⟨_, (θ_run Kernel4Ideal.defs _ _).mono (fun r h c => ⟨((h c).1).trans (Kernel4Ideal.OutDw.final m c), (h c).2.1, (h c).2.2⟩) (Kernel4Ideal.Value.run_blocks m ρ), (θ_run Reference4Ideal.defs _ _).mono (fun r h c => ?_) (Reference4Ideal.Value.run m' ρ')⟩
  have e := hagree c
  replace h := h c
  refine ⟨(h.1).trans ?_, h.2.1, h.2.2⟩
  · rewrite [e.1, e.2]; exact Reference4Ideal.OutDw.value _ _

theorem frame_5 : quiescent_Kernel5 := fun m ρ _ => Kernel5.Gen.frame m ρ

theorem frame_5_ideal : quiescent_Kernel5Ideal := fun m ρ _ => Kernel5Ideal.Gen.frame m ρ

theorem frame_5_ref : quiescent_Reference5Ideal := fun m ρ _ =>
  (θ_run Reference5Ideal.defs _ _).mono (fun r h => ⟨fun c => ((h c).2), sem_eq_zero_of_no_sems (by decide) r.2⟩) (Reference5Ideal.Value.run m ρ)

theorem algebraic_5 : algebraic_Kernel5Ideal_Reference5Ideal := by
  intro m ρ m' ρ' _ hagree
  refine ⟨_, (θ_run Kernel5Ideal.defs _ _).mono (fun r h c => ⟨((h c).1).trans (Kernel5Ideal.BranchDw.final m c), (h c).2.1, (h c).2.2⟩) (Kernel5Ideal.Value.run_blocks m ρ), (θ_run Reference5Ideal.defs _ _).mono (fun r h c => ?_) (Reference5Ideal.Value.run m' ρ')⟩
  have e := hagree c
  replace h := h c
  refine ⟨(h.1).trans ?_, h.2.1, h.2.2⟩
  · rewrite [e.1, e.2]; exact Reference5Ideal.BranchDw.value _ _

theorem frame_6 : quiescent_Kernel6 := fun m ρ _ => Kernel6.Gen.frame m ρ

theorem frame_6_ideal : quiescent_Kernel6Ideal := fun m ρ _ => Kernel6Ideal.Gen.frame m ρ

theorem frame_6_ref : quiescent_Reference6Ideal := fun m ρ _ =>
  (θ_run Reference6Ideal.defs _ _).mono (fun r h => ⟨fun c => ((h c).2), sem_eq_zero_of_no_sems (by decide) r.2⟩) (Reference6Ideal.Value.run m ρ)

theorem algebraic_6 : algebraic_Kernel6Ideal_Reference6Ideal := by
  intro m ρ m' ρ' _ hagree
  refine ⟨_, (θ_run Kernel6Ideal.defs _ _).mono (fun r h c => ⟨((h c).1).trans (Kernel6Ideal.InDw.final m c), (h c).2.1, (h c).2.2⟩) (Kernel6Ideal.Value.run_blocks m ρ), (θ_run Reference6Ideal.defs _ _).mono (fun r h c => ?_) (Reference6Ideal.Value.run m' ρ')⟩
  have e := hagree c
  replace h := h c
  refine ⟨(h.1).trans ?_, h.2.1, h.2.2⟩
  · rewrite [e.1, e.2]; exact Reference6Ideal.InDw.value _ _

theorem frame_7 : quiescent_Kernel7 := fun m ρ _ => Kernel7.Gen.frame m ρ

theorem frame_7_ideal : quiescent_Kernel7Ideal := fun m ρ _ => Kernel7Ideal.Gen.frame m ρ

theorem frame_7_ref : quiescent_Reference7Ideal := fun m ρ _ =>
  (θ_run Reference7Ideal.defs _ _).mono (fun r h => ⟨fun c => ((h c).2), sem_eq_zero_of_no_sems (by decide) r.2⟩) (Reference7Ideal.Value.run m ρ)

theorem algebraic_7 : algebraic_Kernel7Ideal_Reference7Ideal := by
  intro m ρ m' ρ' _ hagree
  refine ⟨_, (θ_run Kernel7Ideal.defs _ _).mono (fun r h c => ⟨((h c).1).trans (Kernel7Ideal.InDx.final m c), (h c).2.1, (h c).2.2⟩) (Kernel7Ideal.Value.run_blocks m ρ), (θ_run Reference7Ideal.defs _ _).mono (fun r h c => ?_) (Reference7Ideal.Value.run m' ρ')⟩
  have e := hagree c
  replace h := h c
  refine ⟨(h.1).trans ?_, h.2.1, h.2.2⟩
  · rewrite [e.1, e.2]; exact Reference7Ideal.InDx.value _ _

theorem frame_8 : quiescent_Kernel8 := fun m ρ _ => Kernel8.Gen.frame m ρ

theorem frame_8_ideal : quiescent_Kernel8Ideal := fun m ρ _ => Kernel8Ideal.Gen.frame m ρ

theorem frame_8_ref : quiescent_Reference8Ideal := fun m ρ _ =>
  (θ_run Reference8Ideal.defs _ _).mono (fun r h => ⟨fun c => ((h c).2), sem_eq_zero_of_no_sems (by decide) r.2⟩) (Reference8Ideal.Value.run m ρ)

theorem algebraic_8 : algebraic_Kernel8Ideal_Reference8Ideal := by
  intro m ρ m' ρ' _ hagree
  refine ⟨_, (θ_run Kernel8Ideal.defs _ _).mono (fun r h c => ⟨((h c).1).trans (Kernel8Ideal.FfDownDx.final m c), (h c).2.1, (h c).2.2.1, (h c).2.2.2⟩) (Kernel8Ideal.Value.run_blocks m ρ), (θ_run Reference8Ideal.defs _ _).mono (fun r h c => ?_) (Reference8Ideal.Value.run m' ρ')⟩
  have e := hagree c
  replace h := h c
  refine ⟨(h.1).trans ?_, h.2.1, h.2.2.1, h.2.2.2⟩
  · rewrite [e.1, e.2.1, e.2.2]; exact Reference8Ideal.FfDownDx.value _ _ _

theorem frame_9 : quiescent_Kernel9 := fun m ρ _ => Kernel9.Gen.frame m ρ

theorem frame_9_ideal : quiescent_Kernel9Ideal := fun m ρ _ => Kernel9Ideal.Gen.frame m ρ

theorem frame_9_ref : quiescent_Reference9Ideal := fun m ρ _ =>
  (θ_run Reference9Ideal.defs _ _).mono (fun r h => ⟨fun c => ((h c).2), sem_eq_zero_of_no_sems (by decide) r.2⟩) (Reference9Ideal.Value.run m ρ)

theorem algebraic_9 : algebraic_Kernel9Ideal_Reference9Ideal := by
  intro m ρ m' ρ' _ hagree
  refine ⟨_, (θ_run Kernel9Ideal.defs _ _).mono (fun r h c => ⟨((h c).1).trans (Kernel9Ideal.BranchDx.final m c), (h c).2.1, (h c).2.2⟩) (Kernel9Ideal.Value.run_blocks m ρ), (θ_run Reference9Ideal.defs _ _).mono (fun r h c => ?_) (Reference9Ideal.Value.run m' ρ')⟩
  have e := hagree c
  replace h := h c
  refine ⟨(h.1).trans ?_, h.2.1, h.2.2⟩
  · rewrite [e.1, e.2]; exact Reference9Ideal.BranchDx.value _ _

theorem frame_10 : quiescent_Kernel10 := fun m ρ _ => Kernel10.Gen.frame m ρ

theorem frame_10_ideal : quiescent_Kernel10Ideal := fun m ρ _ => Kernel10Ideal.Gen.frame m ρ

theorem frame_10_ref : quiescent_Reference10Ideal := fun m ρ _ =>
  (θ_run Reference10Ideal.defs _ _).mono (fun r h => ⟨fun c => ((h c).2), sem_eq_zero_of_no_sems (by decide) r.2⟩) (Reference10Ideal.Value.run m ρ)

theorem algebraic_10 : algebraic_Kernel10Ideal_Reference10Ideal := by
  intro m ρ m' ρ' _ hagree
  refine ⟨_, (θ_run Kernel10Ideal.defs _ _).mono (fun r h c => ⟨((h c).1).trans (Kernel10Ideal.Branch.final m c), (h c).2.1, (h c).2.2⟩) (Kernel10Ideal.Value.run_blocks m ρ), (θ_run Reference10Ideal.defs _ _).mono (fun r h c => ?_) (Reference10Ideal.Value.run m' ρ')⟩
  have e := hagree c
  replace h := h c
  refine ⟨(h.1).trans ?_, h.2.1, h.2.2⟩
  · rewrite [e.1, e.2]; exact Reference10Ideal.Branch.value _ _

theorem frame_11 : quiescent_Kernel11 := fun m ρ _ => Kernel11.Gen.frame m ρ

theorem frame_11_ideal : quiescent_Kernel11Ideal := fun m ρ _ => Kernel11Ideal.Gen.frame m ρ

theorem frame_11_ref : quiescent_Reference11Ideal := fun m ρ _ =>
  (θ_run Reference11Ideal.defs _ _).mono (fun r h => ⟨fun c => ((h c).2), sem_eq_zero_of_no_sems (by decide) r.2⟩) (Reference11Ideal.Value.run m ρ)

theorem algebraic_11 : algebraic_Kernel11Ideal_Reference11Ideal := by
  intro m ρ m' ρ' _ hagree
  refine ⟨_, (θ_run Kernel11Ideal.defs _ _).mono (fun r h c => ⟨((h c).1).trans (Kernel11Ideal.Out.final m c), (h c).2.1, (h c).2.2.1, (h c).2.2.2⟩) (Kernel11Ideal.Value.run_blocks m ρ), (θ_run Reference11Ideal.defs _ _).mono (fun r h c => ?_) (Reference11Ideal.Value.run m' ρ')⟩
  have e := hagree c
  replace h := h c
  refine ⟨(h.1).trans ?_, h.2.1, h.2.2.1, h.2.2.2⟩
  · rewrite [e.1, e.2.1, e.2.2]; exact Reference11Ideal.Out.value _ _ _

theorem frame_12 : quiescent_Kernel12 := fun m ρ _ => Kernel12.Gen.frame m ρ

theorem frame_12_ideal : quiescent_Kernel12Ideal := fun m ρ _ => Kernel12Ideal.Gen.frame m ρ

theorem frame_12_ref : quiescent_Reference12Ideal := fun m ρ _ =>
  (θ_run Reference12Ideal.defs _ _).mono (fun r h => ⟨fun c => ((h c).2), sem_eq_zero_of_no_sems (by decide) r.2⟩) (Reference12Ideal.Value.run m ρ)

theorem algebraic_12 : algebraic_Kernel12Ideal_Reference12Ideal := by
  intro m ρ m' ρ' _ hagree
  refine ⟨_, (θ_run Kernel12Ideal.defs _ _).mono (fun r h c => ⟨((h c).1).trans (Kernel12Ideal.In.final m c), (h c).2.1, (h c).2.2⟩) (Kernel12Ideal.Value.run_blocks m ρ), (θ_run Reference12Ideal.defs _ _).mono (fun r h c => ?_) (Reference12Ideal.Value.run m' ρ')⟩
  have e := hagree c
  replace h := h c
  refine ⟨(h.1).trans ?_, h.2.1, h.2.2⟩
  · rewrite [e.1, e.2]; exact Reference12Ideal.In.value _ _

theorem frame_13 : quiescent_Kernel13 := fun m ρ _ => Kernel13.Gen.frame m ρ

theorem frame_13_ideal : quiescent_Kernel13Ideal := fun m ρ _ => Kernel13Ideal.Gen.frame m ρ

theorem frame_13_ref : quiescent_Reference13Ideal := fun m ρ _ =>
  (θ_run Reference13Ideal.defs _ _).mono (fun r h => ⟨fun c => ((h c).2.2), sem_eq_zero_of_no_sems (by decide) r.2⟩) (Reference13Ideal.Value.run m ρ)

theorem algebraic_13 : algebraic_Kernel13Ideal_Reference13Ideal := by
  intro m ρ m' ρ' _ hagree
  refine ⟨_, _, (θ_run Kernel13Ideal.defs _ _).mono (fun r h c => ⟨((h c).1).trans (Kernel13Ideal.FfUp.final m c), ((h c).2.1).trans (Kernel13Ideal.FfUp.final' m c), (h c).2.2.1, (h c).2.2.2⟩) (Kernel13Ideal.Value.run_blocks m ρ), (θ_run Reference13Ideal.defs _ _).mono (fun r h c => ?_) (Reference13Ideal.Value.run m' ρ')⟩
  have e := hagree c
  replace h := h c
  refine ⟨(h.1).trans ?_, (h.2.1).trans ?_, h.2.2.1, h.2.2.2⟩
  · rewrite [e.1, e.2]; exact Reference13Ideal.FfUp.value _ _
  · rewrite [e.1, e.2]; exact Reference13Ideal.FfUp.value' _ _

theorem frame_14 : quiescent_Kernel14 := fun m ρ _ => Kernel14.Gen.frame m ρ

theorem frame_14_ideal : quiescent_Kernel14Ideal := fun m ρ _ => Kernel14Ideal.Gen.frame m ρ

theorem frame_14_ref : quiescent_Reference14Ideal := fun m ρ _ =>
  (θ_run Reference14Ideal.defs _ _).mono (fun r h => ⟨fun c => ((h c).2), sem_eq_zero_of_no_sems (by decide) r.2⟩) (Reference14Ideal.Value.run m ρ)

theorem algebraic_14 : algebraic_Kernel14Ideal_Reference14Ideal := by
  intro m ρ m' ρ' _ hagree
  refine ⟨_, (θ_run Kernel14Ideal.defs _ _).mono (fun r h c => ⟨((h c).1).trans (Kernel14Ideal.FfDown.final m c), (h c).2.1, (h c).2.2.1, (h c).2.2.2⟩) (Kernel14Ideal.Value.run_blocks m ρ), (θ_run Reference14Ideal.defs _ _).mono (fun r h c => ?_) (Reference14Ideal.Value.run m' ρ')⟩
  have e := hagree c
  replace h := h c
  refine ⟨(h.1).trans ?_, h.2.1, h.2.2.1, h.2.2.2⟩
  · rewrite [e.1, e.2.1, e.2.2]; exact Reference14Ideal.FfDown.value _ _ _

end Cert.Products

end
-- ==== Proof.Adam.lean ====
module

public import Idealize.ShloMosaic.PureOps.Ideal
public import Idealize.ShloMosaic.Lib.Pipeline.ValueKit

@[expose] public section

noncomputable section

/-! The optimiser's step for one weight over the extended reals. -/

namespace Cert.Adam

open Idealize.ShloMosaic

/-- The new first moment. -/
def mom (m g : EReal) : EReal := Ideal.ofBits FTy.f32 0x3F666666#32 * m + Ideal.ofBits FTy.f32 0x3DCCCCCD#32 * g

/-- The new second moment. -/
def var (v g : EReal) : EReal := Ideal.ofBits FTy.f32 0x3F7FBE77#32 * v + Ideal.ofBits FTy.f32 0x3A83126F#32 * (g * g)

/-- The change of the weight. -/
def delta (w g m v : EReal) : EReal :=
  Ideal.ofBits FTy.f32 0xBA83126F#32 * (Ideal.div (Ideal.div (mom m g) (Ideal.ofBits FTy.f32 0x3F26BD02#32))
    (Ideal.sqrt (Ideal.div (var v g) (Ideal.ofBits FTy.f32 0x3C231ACC#32)) + Ideal.ofBits FTy.f32 0x322BCC77#32) + Ideal.ofBits FTy.f32 0x3C23D70A#32 * w)

/-- The shape of a large weight, its four layers. -/
abbrev W (r c : ℕ) : Shape := ⟨3, ![4, r, c]⟩

variable {r c : ℕ}

/-- The new values for the first layer, the array as it was for the others. -/
def put (n o : (W r c).Idx → EReal) (i : (W r c).Idx) : EReal := if (i 0 : ℕ) = 0 then n i else o i

/-- A layer's gradient: the sum of the four parts. -/
def Gg (p : (W r c).Idx → EReal) (i : (W r c).Idx) : EReal := ∑ k : Fin 4, p (ix3 k (i 1) (i 2))

/-- The change of the weight. -/
def Gd (p w m v : (W r c).Idx → EReal) (i : (W r c).Idx) : EReal := delta (w i) (Gg p i) (m i) (v i)

/-- The new first moment. -/
def Gm (p m : (W r c).Idx → EReal) (i : (W r c).Idx) : EReal := mom (m i) (Gg p i)

/-- The new second moment. -/
def Gv (p v : (W r c).Idx → EReal) (i : (W r c).Idx) : EReal := var (v i) (Gg p i)

end Cert.Adam

end
-- ==== Proof.SmallAdam.lean ====
module

public import Idealize.ShloMosaic.Lib.Pipeline.ValueKit
public import Idealize.ShloMosaic.Lib.StableHlo.RunClose
public import proofs.«01_k».proof.Proof.Adam
public import proofs.«01_k».proof.Proof.Gen.Kernel22Ideal.Value
public import proofs.«01_k».proof.Proof.Gen.Reference22Ideal.Run

@[expose] public section

noncomputable section

/-! The optimiser's step for the small weights, packed in one array. -/

namespace Cert.Kernel22Ideal.SmallAdam

open Cert.Kernel22Ideal Cert.Kernel22Ideal.Gen Cert.Kernel22Ideal.Value
open Idealize.ShloMosaic Idealize.ShloMosaic.TcCoe Idealize.ShloMosaic.Tactic Idealize.SL.Sem
open Idealize.ShloMosaic.Pipeline (Dat)

/-- The gradient: the sum of the devices'. -/
def Gg (p : S8x4688x128.Idx → EReal) (i : S4688x128.Idx) : EReal := ∑ k : Fin 8, p (ix3 k (i 0) (i 1))

/-- The change of the weights. -/
def Gd (p : S8x4688x128.Idx → EReal) (w m v : S4688x128.Idx → EReal) (i : S4688x128.Idx) : EReal := Adam.delta (w i) (Gg p i) (m i) (v i)

/-- The new first moment. -/
def Gm (p : S8x4688x128.Idx → EReal) (m : S4688x128.Idx → EReal) (i : S4688x128.Idx) : EReal := Adam.mom (m i) (Gg p i)

/-- The new second moment. -/
def Gv (p : S8x4688x128.Idx → EReal) (v : S4688x128.Idx → EReal) (i : S4688x128.Idx) : EReal := Adam.var (v i) (Gg p i)

variable (x0 : Vec Ideal S8x4688x128 .f32) (x1 x2 x3 : Vec Ideal S4688x128 .f32)

theorem stored_g (y : S4688x128.Idx) : out0_4 (F := Ideal) x0 x1 x2 x3 y = Gg x0 y := by
  frame_out
  pointwise [k0_pay6, k0_pay7, k0_pay4, Gg]
  simp only [Fin.sum_univ_eight]

theorem stored_d (y : S4688x128.Idx) : out0_5 (F := Ideal) x0 x1 x2 x3 y = Gd x0 x1 x2 x3 y := by
  frame_out
  pointwise [k0_pay6, k0_pay7, k0_pay1, k0_pay2, k0_pay3, k0_pay4, k0_pay5, Gd, Adam.delta, Adam.mom, Adam.var, Gg]
  simp only [Fin.sum_univ_eight]

theorem stored_m (y : S4688x128.Idx) : out0_6 (F := Ideal) x0 x1 x2 x3 y = Gm x0 x2 y := by
  frame_out
  pointwise [k0_pay6, k0_pay7, k0_pay1, k0_pay4, k0_pay5, Gm, Adam.mom, Gg]
  simp only [Fin.sum_univ_eight]

theorem stored_v (y : S4688x128.Idx) : out0_7 (F := Ideal) x0 x1 x2 x3 y = Gv x0 x3 y := by
  frame_out
  pointwise [k0_pay6, k0_pay7, k0_pay2, k0_pay4, Gv, Adam.var, Gg]
  simp only [Fin.sum_univ_eight]

variable (m : (ℓ : Loc nD τ sig) → Buf (Elt Ideal) ℓ)

theorem final_g (c : Dev nD) : (dats m 0 c).arrAt 4 cfg0.N = Gg (m ((c : Thread nD τ).loc main_arg0)) := by
  refine (dats m 0 c).arrAt_eq_of_covers 4 _ (by decide +kernel) fun t hf y => ?_
  blk_simp
  rw [after0_4, iblk0_eq, iblk1_eq, iblk2_eq, iblk3_eq, emb4]
  exact stored_g _ _ _ _ _

theorem final_d (c : Dev nD) : (dats m 0 c).arrAt 5 cfg0.N = Gd (m ((c : Thread nD τ).loc main_arg0)) (m ((c : Thread nD τ).loc main_arg1)) (m ((c : Thread nD τ).loc main_arg2)) (m ((c : Thread nD τ).loc main_arg3)) := by
  refine (dats m 0 c).arrAt_eq_of_covers 5 _ (by decide +kernel) fun t hf y => ?_
  blk_simp
  rw [after0_5, iblk0_eq, iblk1_eq, iblk2_eq, iblk3_eq, emb5]
  exact stored_d _ _ _ _ _

theorem final_m (c : Dev nD) : (dats m 0 c).arrAt 6 cfg0.N = Gm (m ((c : Thread nD τ).loc main_arg0)) (m ((c : Thread nD τ).loc main_arg2)) := by
  refine (dats m 0 c).arrAt_eq_of_covers 6 _ (by decide +kernel) fun t hf y => ?_
  blk_simp
  rw [after0_6, iblk0_eq, iblk1_eq, iblk2_eq, iblk3_eq, emb6]
  exact stored_m _ _ _ _ _

theorem final_v (c : Dev nD) : (dats m 0 c).arrAt 7 cfg0.N = Gv (m ((c : Thread nD τ).loc main_arg0)) (m ((c : Thread nD τ).loc main_arg3)) := by
  refine (dats m 0 c).arrAt_eq_of_covers 7 _ (by decide +kernel) fun t hf y => ?_
  blk_simp
  rw [after0_7, iblk0_eq, iblk1_eq, iblk2_eq, iblk3_eq, emb7]
  exact stored_v _ _ _ _ _

end Cert.Kernel22Ideal.SmallAdam

namespace Cert.Reference22Ideal.SmallAdam

open Cert.Reference22Ideal Cert.Reference22Ideal.Gen
open Idealize.ShloMosaic Idealize.ShloMosaic.TcCoe Idealize.ShloMosaic.Tactic Idealize.SL.Sem
open Cert.Kernel22Ideal.SmallAdam

/-- The reference computes the same arrays. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v0) = Gg (m ((c.tc : Thread nD τ).loc main_arg0))
      ∧ r.2.mem ((c.tc : Thread nD τ).loc main_v24) = Gd (m ((c.tc : Thread nD τ).loc main_arg0)) (m ((c.tc : Thread nD τ).loc main_arg1)) (m ((c.tc : Thread nD τ).loc main_arg2)) (m ((c.tc : Thread nD τ).loc main_arg3))
      ∧ r.2.mem ((c.tc : Thread nD τ).loc main_v5) = Gm (m ((c.tc : Thread nD τ).loc main_arg0)) (m ((c.tc : Thread nD τ).loc main_arg2))
      ∧ r.2.mem ((c.tc : Thread nD τ).loc main_v11) = Gv (m ((c.tc : Thread nD τ).loc main_arg0)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) := by
  refine (θ_run defs _ _).mono (fun r h c => ?_) (Value.run m ρ)
  obtain ⟨hg, hd, hm, hv, h⟩ := h c
  refine ⟨hg.trans ?_, hd.trans ?_, hm.trans ?_, hv.trans ?_, h⟩ <;> funext i
  · pointwise [Gg]
  · pointwise [Gd, Adam.delta, Adam.mom, Adam.var, Gg]
  · pointwise [Gm, Adam.mom, Gg]
  · pointwise [Gv, Adam.var, Gg]

end Cert.Reference22Ideal.SmallAdam

end
-- ==== Proof.LossHead.lean ====
module

public import Idealize.ShloMosaic.Lib.Pipeline.ValueKit
public import Idealize.ShloMosaic.Lib.StableHlo.RunClose
public import proofs.«01_k».proof.Proof.Gen.Kernel23Ideal.Value
public import proofs.«01_k».proof.Proof.Gen.Reference23Ideal.Run

@[expose] public section

noncomputable section

/-! The loss of one device and the gradient of the last layer's output. -/

namespace Cert.Kernel23Ideal.LossHead

open Cert.Kernel23Ideal Cert.Kernel23Ideal.Gen
open Idealize.ShloMosaic Idealize.ShloMosaic.TcCoe Idealize.ShloMosaic.Tactic Idealize.SL.Sem
open Idealize.ShloMosaic.Pipeline (Dat)

/-- One over the length of a row. -/
abbrev rlen : EReal := ((1 / 2048 : ℝ) : EReal)

/-- A half. -/
abbrev half : EReal := ((1 / 2 : ℝ) : EReal)

theorem rlen_eq : Ideal.ofBits .f32 0x3A000000#32 = rlen := by simp [Ideal.ofBits, Ideal.ieee, -EReal.coe_mul]; norm_num

theorem half_eq : Ideal.ofBits .f32 0x3F000000#32 = half := by simp [Ideal.ofBits, Ideal.ieee, -EReal.coe_mul]; norm_num

theorem len_eq : Ideal.ofBits .f32 0x45000000#32 = ((2048 : ℝ) : EReal) := by simp [Ideal.ofBits, Ideal.ieee, -EReal.coe_mul]; norm_num

theorem two_eq : Ideal.ofBits .f32 0x40000000#32 = ((2 : ℝ) : EReal) := by simp [Ideal.ofBits, Ideal.ieee, -EReal.coe_mul]; norm_num

theorem div_len (x : EReal) : Ideal.div x ((2048 : ℝ) : EReal) = x * rlen := Ideal.div_coe (by norm_num : (2048 : ℝ) ≠ 0) x

/-- The reference's factor is the kernel's. -/
theorem scale (e : EReal) : half * rlen * (((2 : ℝ) : EReal) * e) = e * rlen := by
  rw [← mul_assoc, mul_comm e, ← EReal.coe_mul, ← EReal.coe_mul]
  norm_num

/-- The half leaves a sum. -/
theorem half_sum {n : ℕ} (f : Fin n → EReal) : ∑ s, half * f s = half * ∑ s, f s := by
  classical
  refine Finset.induction_on (Finset.univ : Finset (Fin n)) (by simp) fun a s ha ih => ?_
  rw [Finset.sum_insert ha, Finset.sum_insert ha, ih, EReal.left_distrib_of_nonneg_of_ne_top (by exact_mod_cast (by norm_num : (0 : ℝ) ≤ 1 / 2)) (EReal.coe_ne_top _)]

/-- The gradient, entry by entry. -/
def G (x d : S2048x2048.Idx → EReal) (i : S2048x2048.Idx) : EReal := (x i - d i) * rlen

/-- A row's mean square error. -/
def row (x d : Fin 2048 → EReal) : EReal := (∑ k, (x k - d k) * (x k - d k)) * rlen

/-- The loss, in every entry of a tile. -/
def L (x d : S2048x2048.Idx → EReal) (_ : S8x128.Idx) : EReal := half * ∑ r : Fin 2048, row (fun k => x (ix2 r k)) (fun k => d (ix2 r k))

/-- What a grid point stores of the gradient. -/
def err (x d : S256x2048.Idx → EReal) (y : S256x2048.Idx) : EReal := (x y - d y) * rlen

/-- What a grid point adds to the loss, without the half. -/
def part (x d : S256x2048.Idx → EReal) : EReal := ∑ r : Fin 256, row (fun k => x (ix2 r k)) (fun k => d (ix2 r k))

theorem pay2 (x d : Vec Ideal S256x2048 .f32) (y : S256x2048.Idx) : k0_pay2 (F := Ideal) x d y = err x d y := by
  rw [err, ← rlen_eq]
  pointwise [k0_pay2, k0_pay1]

theorem pay3 (x d : Vec Ideal S256x2048 .f32) (y : S256x2048.Idx) : k0_pay3 (F := Ideal) x d y = err x d y := by
  rw [err, ← rlen_eq]
  pointwise [k0_pay3, k0_pay2, k0_pay1]

theorem pay5 (x d : Vec Ideal S256x2048 .f32) (a : Vec Ideal S8x128 .f32) (y : S8x128.Idx) :
    k0_pay5 (F := Ideal) x d a y = (a y + half * part x d : EReal) := by
  unfold part row
  rw [← rlen_eq, ← half_eq]
  pointwise [k0_pay5, k0_pay1]

variable (m : (ℓ : Loc nD τ sig) → Buf (Elt Ideal) ℓ)

theorem stored (c : Dev nD) (t : Fin cfg0.N) (y : S256x2048.Idx) :
    (outsAt0 m c t.val t.isLt).1 y = err (iblk m c 0 t) (iblk m c 1 t) y := by
  by_cases h : t.val % 8 = 0
  · rw [outsAt0_A m c t h]; frame_out; exact pay2 _ _ _
  · rw [outsAt0_B m c t h]; frame_out; exact pay2 _ _ _

theorem stored' (c : Dev nD) (t : Fin cfg0.N) (y : S256x2048.Idx) :
    (outsAt0 m c t.val t.isLt).2.1 y = err (iblk m c 0 t) (iblk m c 1 t) y := by
  by_cases h : t.val % 8 = 0
  · rw [outsAt0_A m c t h]; frame_out; exact pay3 _ _ _
  · rw [outsAt0_B m c t h]; frame_out; exact pay3 _ _ _

/-- The first point starts from zero. -/
theorem first (c : Dev nD) (t : Fin cfg0.N) (h : t.val % 8 = 0) (y : S8x128.Idx) :
    (outsAt0 m c t.val t.isLt).2.2 y = (0 + half * part (iblk m c 0 t) (iblk m c 1 t) : EReal) := by
  rw [outsAt0_A m c t h]
  frame_out
  refine (pay5 _ _ _ _).trans (congrArg (fun a : EReal => a + _) ?_)
  pointwise [k0_pay4]

/-- Every later point adds its own. -/
theorem later (c : Dev nD) (t : Fin cfg0.N) (h : ¬t.val % 8 = 0) (y : S8x128.Idx) :
    (outsAt0 m c t.val t.isLt).2.2 y
      = ((outsAt0 m c (t.val - 1) (Nat.lt_of_le_of_lt (Nat.sub_le _ _) t.isLt)).2.2 y + half * part (iblk m c 0 t) (iblk m c 1 t) : EReal) := by
  rw [outsAt0_B m c t h]
  frame_out
  exact pay5 _ _ _ _

theorem total (c : Dev nD) (t : Fin cfg0.N) (h : t.val % 8 = 7) (y : S8x128.Idx) :
    (outsAt0 m c t.val t.isLt).2.2 y
      = (half * ∑ s : Fin 8, part (iblk m c 0 ⟨8 * (t.val / 8) + s.val, Pipeline.run_point_lt_of_flush t h s⟩) (iblk m c 1 ⟨8 * (t.val / 8) + s.val, Pipeline.run_point_lt_of_flush t h s⟩) : EReal) := by
  refine (Pipeline.eq_sum_fin_of_reset_step_apply_of_flush (M := EReal) (fun n h => (outsAt0 m c n h).2.2) 8 (fun _ => 0)
    (fun p _ => half * part (iblk m c 0 p) (iblk m c 1 p)) (first m c) (later m c) t h y).trans ?_
  exact (zero_add _).trans (half_sum _)

theorem idx : ∀ t : Fin cfg0.N, win0_0.index t = ![t.val, 0] ∧ win0_1.index t = ![t.val, 0] ∧ win0_2.index t = ![t.val, 0] ∧ win0_3.index t = ![t.val, 0] ∧ win0_4.index t = ![0, 0] :=
  (by decide +kernel : ∀ t : Fin grid0.N, _)

/-- The gradient after the call. -/
theorem final_dx (c : Dev nD) : (dats m 0 c).arrAt 2 cfg0.N = G (m ((c : Thread nD τ).loc main_arg0)) (m ((c : Thread nD τ).loc main_arg1)) := by
  refine (dats m 0 c).arrAt_eq_of_covers 2 _ (by decide +kernel) fun t hf y => ?_
  blk_simp
  rw [after0_2]
  refine (stored m c t _).trans (congrArg₂ (fun (a b : EReal) => (a - b) * rlen) ?_ ?_) <;> blk_ext [iblk, idx t]

/-- The gradient's cast copy after the call. -/
theorem final_dxb (c : Dev nD) : (dats m 0 c).arrAt 3 cfg0.N = G (m ((c : Thread nD τ).loc main_arg0)) (m ((c : Thread nD τ).loc main_arg1)) := by
  refine (dats m 0 c).arrAt_eq_of_covers 3 _ (by decide +kernel) fun t hf y => ?_
  blk_simp
  rw [after0_3]
  refine (stored' m c t _).trans (congrArg₂ (fun (a b : EReal) => (a - b) * rlen) ?_ ?_) <;> blk_ext [iblk, idx t]

/-- The loss after the call. -/
theorem final_l (c : Dev nD) : (dats m 0 c).arrAt 4 cfg0.N = L (m ((c : Thread nD τ).loc main_arg0)) (m ((c : Thread nD τ).loc main_arg1)) := by
  refine (dats m 0 c).arrAt_eq_of_covers 4 _ (by decide +kernel) fun t hf y => ?_
  blk_simp
  rw [after0_4]
  have hl := (flush0_4 t).mp hf
  rw [total m c t hl]
  refine congrArg (fun a : EReal => half * a) (Fin.sum_mul_add_congr (n := 256) fun s k hk => ?_)
  have hi := idx ⟨8 * (t.val / 8) + s.val, Pipeline.run_point_lt_of_flush t hl s⟩
  have ht : t.val < 8 := t.isLt
  have h0 : 8 * (t.val / 8) + s.val = s.val := by omega
  refine congrArg₂ row (funext fun j => ?_) (funext fun j => ?_) <;> blk_ext [iblk, hi, idx t]

end Cert.Kernel23Ideal.LossHead

namespace Cert.Reference23Ideal.LossHead

open Cert.Reference23Ideal Cert.Reference23Ideal.Gen
open Idealize.ShloMosaic Idealize.ShloMosaic.TcCoe Idealize.ShloMosaic.Tactic Idealize.SL.Sem
open Cert.Kernel23Ideal.LossHead

/-- The reference's results are the same arrays. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v14) = G (m ((c.tc : Thread nD τ).loc main_arg0)) (m ((c.tc : Thread nD τ).loc main_arg1))
      ∧ r.2.mem ((c.tc : Thread nD τ).loc main_v15) = G (m ((c.tc : Thread nD τ).loc main_arg0)) (m ((c.tc : Thread nD τ).loc main_arg1))
      ∧ r.2.mem ((c.tc : Thread nD τ).loc main_v23) = L (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) := by
  refine (θ_run defs _ _).mono (fun r h c => ?_) (Value.run m ρ)
  obtain ⟨e0, e1, e2, e3⟩ := h c
  refine ⟨e0.trans (funext fun i => ?_), e1.trans (funext fun i => ?_), e2.trans (funext fun i => ?_), e3⟩
  · refine Eq.trans ?_ (scale _)
    rw [← div_len half, ← half_eq, ← len_eq, ← two_eq]
    pointwise []
  · refine Eq.trans ?_ (scale _)
    rw [← div_len half, ← half_eq, ← len_eq, ← two_eq]
    pointwise []
  · simp only [L, row, ← div_len]
    rw [← half_eq, ← len_eq]
    pointwise []

end Cert.Reference23Ideal.LossHead

end
-- ==== Proof.Norm.lean ====
module

public import Idealize.ShloMosaic.PureOps.Ideal
public import Idealize.ShloMosaic.Lib.Pointwise.Reduce

@[expose] public section

noncomputable section

/-! The root mean square norm of a row over the extended reals, and its gradient. -/

namespace Cert.Norm

open Idealize.ShloMosaic

/-- The mean of a row's squares plus epsilon; `n` is the row's length as a number. -/
def ms {w : ℕ} (n : EReal) (x : Fin w → EReal) : EReal := Ideal.div (∑ k, x k * x k) n + Ideal.ofBits FTy.f32 0x358637BD#32

/-- One over the root mean square. -/
def inv {w : ℕ} (n : EReal) (x : Fin w → EReal) : EReal := Ideal.rsqrt (ms n x)

/-- The gradient that reaches the squares of a row. -/
def sq {w : ℕ} (n : EReal) (x d : Fin w → EReal) : EReal :=
  Ideal.div ((∑ k, x k * d k) * (Ideal.ofBits FTy.f32 0xBF000000#32 * Ideal.div (inv n x) (ms n x))) n

/-- The gradient of a row `x` whose norm has the gradient `d`. -/
def dx {w : ℕ} (n : EReal) (x d : Fin w → EReal) (j : Fin w) : EReal := d j * inv n x + x j * sq n x d + sq n x d * x j

/-- The indices of an array of rank three whose last coordinate is given. -/
theorem fiber {n0 n1 n2 : ℕ} (h : (⟨3, ![n0, n1, n2]⟩ : Shape).ReducesTo [0, 1] ⟨1, ![n2]⟩) (j : (⟨1, ![n2]⟩ : Shape).Idx) (i : (⟨3, ![n0, n1, n2]⟩ : Shape).Idx) :
    h.drop i = j ↔ ∃ k : Fin n0 × Fin n1, ix3 k.1 k.2 (j 0) = i := by
  constructor
  · rintro rfl
    exact ⟨(i 0, i 1), funext fun a => by fin_cases a <;> rfl⟩
  · rintro ⟨k, rfl⟩
    exact funext fun a => by fin_cases a; rfl

/-- A sum over the first two axes. -/
theorem reduce01 {n0 n1 n2 : ℕ} (h : (⟨3, ![n0, n1, n2]⟩ : Shape).ReducesTo [0, 1] ⟨1, ![n2]⟩) (v : (⟨3, ![n0, n1, n2]⟩ : Shape).Idx → EReal) (b : EReal) (j : (⟨1, ![n2]⟩ : Shape).Idx) :
    Ideal.hostReduceAdd h v b j = b + ∑ p : Fin n0, ∑ q : Fin n1, v (ix3 p q (j 0)) := by
  refine congrArg (b + ·) ((@Finset.sum_filter_eq_sum_of_fiber _ (Fin n0 × Fin n1) EReal _ (Classical.decEq _) inferInstance _ (fun i => h.drop i = j) _ (fun k : Fin n0 × Fin n1 => ix3 k.1 k.2 (j 0)) (fun _ _ e => Prod.ext (congrFun e 0) (congrFun e 1)) (fiber h j) v).trans ?_)
  exact Fintype.sum_prod_type _

end Cert.Norm

end
-- ==== Proof.HeadsFwd.lean ====
module

public import Idealize.ShloMosaic.Lib.Pipeline.ValueKit
public import Idealize.ShloMosaic.Lib.StableHlo.RunClose
public import proofs.«01_k».proof.Proof.Norm
public import proofs.«01_k».proof.Proof.Gen.Kernel24Ideal.Value
public import proofs.«01_k».proof.Proof.Gen.Reference24Ideal.Run

@[expose] public section

noncomputable section

/-! The heads of the attention: q and k normed, v as it is. -/

namespace Cert.Kernel24Ideal.HeadsFwd

open Cert.Kernel24Ideal Cert.Kernel24Ideal.Gen
open Idealize.ShloMosaic Idealize.ShloMosaic.TcCoe Idealize.ShloMosaic.Tactic Idealize.SL.Sem
open Idealize.ShloMosaic.Pipeline (Dat)

/-- The length of a row. -/
abbrev len : EReal := Ideal.ofBits FTy.f32 0x43000000#32

/-- The column of the input projection, for a place of a head: `s` is 0 for q, 1 for k and 2 for v. -/
def col (s : Fin 3) (h : Fin 8) (k : Fin 128) : Fin 15488 := ⟨6144 + 1024 * s.val + (h.val * 128 + k.val), by omega⟩

/-- A normed head, entry by entry. -/
def G (s : Fin 3) (z : S2048x15488.Idx → EReal) (g : S1x128.Idx → EReal) (i : S8x2048x128.Idx) : EReal :=
  z (ix2 (i 1) (col s (i 0) (i 2))) * Cert.Norm.inv len (fun k => z (ix2 (i 1) (col s (i 0) k))) * g (ix2 0 (i 2))

/-- A head as it is. -/
def G' (z : S2048x15488.Idx → EReal) (i : S8x2048x128.Idx) : EReal := z (ix2 (i 1) (col 2 (i 0) (i 2)))

/-- What a grid point stores of q and k. -/
def part (x : S512x128.Idx → EReal) (g : S1x128.Idx → EReal) (y : S1x512x128.Idx) : EReal :=
  x (ix2 (y 1) (y 2)) * Cert.Norm.inv len (fun k => x (ix2 (y 1) k)) * g (ix2 0 (y 2))

theorem stored_q (x0 x1 x2 : Vec Ideal S512x128 .f32) (x3 x4 : Vec Ideal S1x128 .f32) (y : S1x512x128.Idx) : out0_5 (F := Ideal) x0 x1 x2 x3 x4 y = part x0 x3 y := by
  frame_out
  pointwise [k0_pay2, part, Cert.Norm.inv, Cert.Norm.ms]

theorem stored_k (x0 x1 x2 : Vec Ideal S512x128 .f32) (x3 x4 : Vec Ideal S1x128 .f32) (y : S1x512x128.Idx) : out0_6 (F := Ideal) x0 x1 x2 x3 x4 y = part x1 x4 y := by
  frame_out
  pointwise [k0_pay3, part, Cert.Norm.inv, Cert.Norm.ms]

theorem stored_v (x0 x1 x2 : Vec Ideal S512x128 .f32) (x3 x4 : Vec Ideal S1x128 .f32) (y : S1x512x128.Idx) : out0_7 (F := Ideal) x0 x1 x2 x3 x4 y = x2 (ix2 (y 1) (y 2)) := by
  frame_out
  pointwise [k0_pay1]

theorem idx : ∀ t : Fin cfg0.N, win0_5.index t 2 = 0 ∧ win0_6.index t = win0_5.index t ∧ win0_7.index t = win0_5.index t
    ∧ win0_0.index t = ![win0_5.index t 1, 48 + win0_5.index t 0] ∧ win0_1.index t = ![win0_5.index t 1, 56 + win0_5.index t 0]
    ∧ win0_2.index t = ![win0_5.index t 1, 64 + win0_5.index t 0] ∧ win0_3.index t = ![0, 0] ∧ win0_4.index t = ![0, 0] :=
  (by decide +kernel : ∀ t : Fin grid0.N, _)

variable (m : (ℓ : Loc nD τ sig) → Buf (Elt Ideal) ℓ)

/-- The array after the call. -/
theorem final_q (c : Dev nD) : (dats m 0 c).arrAt 5 cfg0.N = G 0 (m ((c : Thread nD τ).loc main_arg0)) (m ((c : Thread nD τ).loc main_arg1)) := by
  refine (dats m 0 c).arrAt_eq_of_covers 5 _ (by decide +kernel) fun t hf y => ?_
  blk_simp
  rw [after0_5]
  refine (stored_q _ _ _ _ _ _).trans ?_
  refine congrArg₂ (fun (a b : EReal) => a * b) (congrArg₂ (fun (a b : EReal) => a * b) ?_ (congrArg (Cert.Norm.inv len) (funext fun k => ?_))) ?_ <;> blk_ext [iblk, idx t, col]

/-- The array after the call. -/
theorem final_k (c : Dev nD) : (dats m 0 c).arrAt 6 cfg0.N = G 1 (m ((c : Thread nD τ).loc main_arg0)) (m ((c : Thread nD τ).loc main_arg2)) := by
  refine (dats m 0 c).arrAt_eq_of_covers 6 _ (by decide +kernel) fun t hf y => ?_
  blk_simp
  rw [after0_6]
  refine (stored_k _ _ _ _ _ _).trans ?_
  refine congrArg₂ (fun (a b : EReal) => a * b) (congrArg₂ (fun (a b : EReal) => a * b) ?_ (congrArg (Cert.Norm.inv len) (funext fun k => ?_))) ?_ <;> blk_ext [iblk, idx t, col]

/-- The array after the call. -/
theorem final_v (c : Dev nD) : (dats m 0 c).arrAt 7 cfg0.N = G' (m ((c : Thread nD τ).loc main_arg0)) := by
  refine (dats m 0 c).arrAt_eq_of_covers 7 _ (by decide +kernel) fun t hf y => ?_
  blk_simp
  rw [after0_7]
  refine (stored_v _ _ _ _ _ _).trans ?_
  unfold G'
  blk_ext [iblk, idx t, col]

end Cert.Kernel24Ideal.HeadsFwd

namespace Cert.Reference24Ideal.HeadsFwd

open Cert.Reference24Ideal Cert.Reference24Ideal.Gen
open Idealize.ShloMosaic Idealize.ShloMosaic.TcCoe Idealize.ShloMosaic.Tactic Idealize.SL.Sem
open Cert.Kernel24Ideal.HeadsFwd

/-- The reference's results are the same arrays. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v38) = G 0 (m ((c.tc : Thread nD τ).loc main_arg0)) (m ((c.tc : Thread nD τ).loc main_arg1))
      ∧ r.2.mem ((c.tc : Thread nD τ).loc main_v39) = G 1 (m ((c.tc : Thread nD τ).loc main_arg0)) (m ((c.tc : Thread nD τ).loc main_arg2))
      ∧ r.2.mem ((c.tc : Thread nD τ).loc main_v43) = G' (m ((c.tc : Thread nD τ).loc main_arg0))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) := by
  refine (θ_run defs _ _).mono (fun r h c => ?_) (Value.run m ρ)
  obtain ⟨e0, e1, e2, e3⟩ := h c
  refine ⟨e0.trans (funext fun i => ?_), e1.trans (funext fun i => ?_), e2.trans (funext fun i => ?_), e3⟩
  · pointwise [G, col, Cert.Norm.inv, Cert.Norm.ms]
  · pointwise [G, col, Cert.Norm.inv, Cert.Norm.ms]
  · pointwise [G', col]

end Cert.Reference24Ideal.HeadsFwd

end
-- ==== Proof.AdamOut.lean ====
module

public import Idealize.ShloMosaic.Lib.Pipeline.ValueKit
public import Idealize.ShloMosaic.Lib.StableHlo.RunClose
public import proofs.«01_k».proof.Proof.Adam
public import proofs.«01_k».proof.Proof.Gen.Kernel25Ideal.Value
public import proofs.«01_k».proof.Proof.Gen.Reference25Ideal.Run

@[expose] public section

noncomputable section

/-! The optimiser's step for the first layer of the output projection. -/

namespace Cert.Kernel25Ideal.AdamOut

open Cert.Kernel25Ideal Cert.Kernel25Ideal.Gen Cert.Kernel25Ideal.Value Cert.Adam
open Idealize.ShloMosaic Idealize.ShloMosaic.TcCoe Idealize.ShloMosaic.Tactic Idealize.SL.Sem
open Idealize.ShloMosaic.Pipeline (Dat)

theorem idx : ∀ t : Fin cfg0.N, win0_0.index t = win0_4.index t ∧ win0_1.index t = win0_4.index t ∧ win0_2.index t = win0_4.index t ∧ win0_3.index t = win0_4.index t
    ∧ win0_5.index t = win0_4.index t ∧ win0_6.index t = win0_4.index t ∧ win0_7.index t = win0_4.index t ∧ win0_4.index t 0 = 0 :=
  (by decide +kernel : ∀ t : Fin grid0.N, _)

variable (m : (ℓ : Loc nD τ sig) → Buf (Elt Ideal) ℓ) (c : Dev nD)

/-- Where a grid point's block lies in the arrays. -/
def at_ (t : Fin cfg0.N) (y : S1x128x2048.Idx) : S4x256x2048.Idx := ((View.whole main_v0_0).slice (win0_4.rect t)).emb y

variable (t : Fin cfg0.N) (y : S1x128x2048.Idx)

theorem emb5 : ((View.whole main_v0_1).slice (win0_5.rect t)).emb y = at_ t y := by unfold at_; blk_ext [idx t]

theorem emb6 : ((View.whole main_v0_2).slice (win0_6.rect t)).emb y = at_ t y := by unfold at_; blk_ext [idx t]

theorem emb7 : ((View.whole main_v0_3).slice (win0_7.rect t)).emb y = at_ t y := by unfold at_; blk_ext [idx t]

theorem parts (k : Fin 4) : iblk m c 0 t (ix3 k (y 1) (y 2)) = (m ((c : Thread nD τ).loc main_arg0)) (ix3 k (at_ t y 1) (at_ t y 2)) := by
  unfold at_; blk_ext [iblk, idx t]

theorem blk1 : iblk m c 1 t y = (m ((c : Thread nD τ).loc main_arg1)) (at_ t y) := by unfold at_; blk_ext [iblk, idx t]

theorem blk2 : iblk m c 2 t y = (m ((c : Thread nD τ).loc main_arg2)) (at_ t y) := by unfold at_; blk_ext [iblk, idx t]

theorem blk3 : iblk m c 3 t y = (m ((c : Thread nD τ).loc main_arg3)) (at_ t y) := by unfold at_; blk_ext [iblk, idx t]

omit t y

theorem final_g : (dats m 0 c).arrAt 4 cfg0.N = put (Gg (m ((c : Thread nD τ).loc main_arg0))) (m ((c : Thread nD τ).loc main_arg4)) := by
  refine ((dats m 0 c).arrAt_eq_of_coversWhere 4 (Gg (m ((c : Thread nD τ).loc main_arg0))) (P := fun i => (i (0 : Fin 3) : ℕ) = 0) (fun β => β (0 : Fin _) = 0) (by decide +kernel) (fun t hf y => ?_)
    (fun j => by blk_simp [Pipeline.Window.cell_apply, Nat.div_one])).trans (congrArg (put _) ((A_eq m c 4).trans ?_))
  · blk_simp
    rw [after0_4]
    dsimp only [outsAt0]
    frame_out
    pointwise [k0_pay1, k0_pay5]
    rw [parts, parts, parts, parts, Gg, Fin.sum_univ_four]; rfl
  · rfl

theorem final_d : (dats m 0 c).arrAt 5 cfg0.N = put (Gd (m ((c : Thread nD τ).loc main_arg0)) (m ((c : Thread nD τ).loc main_arg1)) (m ((c : Thread nD τ).loc main_arg2)) (m ((c : Thread nD τ).loc main_arg3))) (m ((c : Thread nD τ).loc main_arg5)) := by
  refine ((dats m 0 c).arrAt_eq_of_coversWhere 5 (Gd (m ((c : Thread nD τ).loc main_arg0)) (m ((c : Thread nD τ).loc main_arg1)) (m ((c : Thread nD τ).loc main_arg2)) (m ((c : Thread nD τ).loc main_arg3))) (P := fun i => (i (0 : Fin 3) : ℕ) = 0) (fun β => β (0 : Fin _) = 0) (by decide +kernel) (fun t hf y => ?_)
    (fun j => by blk_simp [Pipeline.Window.cell_apply, Nat.div_one])).trans (congrArg (put _) ((A_eq m c 5).trans ?_))
  · blk_simp
    rw [after0_5]
    dsimp only [outsAt0]
    frame_out
    pointwise [k0_pay2, k0_pay5, k0_pay6, k0_pay7, k0_pay8]
    rw [parts, parts, parts, parts, blk1, blk2, blk3, emb5, Gd, Gg, Fin.sum_univ_four]; rfl
  · rfl

theorem final_m : (dats m 0 c).arrAt 6 cfg0.N = put (Gm (m ((c : Thread nD τ).loc main_arg0)) (m ((c : Thread nD τ).loc main_arg2))) (m ((c : Thread nD τ).loc main_arg6)) := by
  refine ((dats m 0 c).arrAt_eq_of_coversWhere 6 (Gm (m ((c : Thread nD τ).loc main_arg0)) (m ((c : Thread nD τ).loc main_arg2))) (P := fun i => (i (0 : Fin 3) : ℕ) = 0) (fun β => β (0 : Fin _) = 0) (by decide +kernel) (fun t hf y => ?_)
    (fun j => by blk_simp [Pipeline.Window.cell_apply, Nat.div_one])).trans (congrArg (put _) ((A_eq m c 6).trans ?_))
  · blk_simp
    rw [after0_6]
    dsimp only [outsAt0]
    frame_out
    pointwise [k0_pay3, k0_pay5, k0_pay7]
    rw [parts, parts, parts, parts, blk2, emb6, Gm, Gg, Fin.sum_univ_four]; rfl
  · rfl

theorem final_v : (dats m 0 c).arrAt 7 cfg0.N = put (Gv (m ((c : Thread nD τ).loc main_arg0)) (m ((c : Thread nD τ).loc main_arg3))) (m ((c : Thread nD τ).loc main_arg7)) := by
  refine ((dats m 0 c).arrAt_eq_of_coversWhere 7 (Gv (m ((c : Thread nD τ).loc main_arg0)) (m ((c : Thread nD τ).loc main_arg3))) (P := fun i => (i (0 : Fin 3) : ℕ) = 0) (fun β => β (0 : Fin _) = 0) (by decide +kernel) (fun t hf y => ?_)
    (fun j => by blk_simp [Pipeline.Window.cell_apply, Nat.div_one])).trans (congrArg (put _) ((A_eq m c 7).trans ?_))
  · blk_simp
    rw [after0_7]
    dsimp only [outsAt0]
    frame_out
    pointwise [k0_pay4, k0_pay5, k0_pay8]
    rw [parts, parts, parts, parts, blk3, emb7, Gv, Gg, Fin.sum_univ_four]; rfl
  · rfl

end Cert.Kernel25Ideal.AdamOut

namespace Cert.Reference25Ideal.AdamOut

open Cert.Reference25Ideal Cert.Reference25Ideal.Gen
open Idealize.ShloMosaic Idealize.ShloMosaic.TcCoe Idealize.ShloMosaic.Tactic Idealize.SL.Sem
open Cert.Adam

/-- The reference computes the same arrays. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v34) = put (Gg (m ((c.tc : Thread nD τ).loc main_arg0))) (m ((c.tc : Thread nD τ).loc main_arg4))
      ∧ r.2.mem ((c.tc : Thread nD τ).loc main_v37) = put (Gd (m ((c.tc : Thread nD τ).loc main_arg0)) (m ((c.tc : Thread nD τ).loc main_arg1)) (m ((c.tc : Thread nD τ).loc main_arg2)) (m ((c.tc : Thread nD τ).loc main_arg3))) (m ((c.tc : Thread nD τ).loc main_arg5))
      ∧ r.2.mem ((c.tc : Thread nD τ).loc main_v40) = put (Gm (m ((c.tc : Thread nD τ).loc main_arg0)) (m ((c.tc : Thread nD τ).loc main_arg2))) (m ((c.tc : Thread nD τ).loc main_arg6))
      ∧ r.2.mem ((c.tc : Thread nD τ).loc main_v43) = put (Gv (m ((c.tc : Thread nD τ).loc main_arg0)) (m ((c.tc : Thread nD τ).loc main_arg3))) (m ((c.tc : Thread nD τ).loc main_arg7))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7) := by
  refine (θ_run defs _ _).mono (fun r h c => ?_) (Value.run m ρ)
  obtain ⟨hg, hd, hm, hv, h⟩ := h c
  refine ⟨hg.trans ?_, hd.trans ?_, hm.trans ?_, hv.trans ?_, h⟩ <;>
  · funext i
    obtain ⟨a, b, d, rfl⟩ : ∃ a b d, i = ix3 a b d := ⟨i 0, i 1, i 2, by funext x; fin_cases x <;> rfl⟩
    pointwise [put, Gg, Gd, Gm, Gv, delta, mom, var]
    by_cases h0 : a = 0
    · subst h0
      rfl
    · have h1 : ¬(a : ℕ) = 0 := fun e => h0 (Fin.ext e)
      refine (dif_neg (by omega)).trans (.trans ?_ (if_neg h1).symm)
      exact congrArg _ (congrArg (ix3 · b d) (Fin.ext (by show 1 + ((a : ℕ) - 1) = _; omega)))

end Cert.Reference25Ideal.AdamOut

end
-- ==== Proof.AdamBranch.lean ====
module

public import Idealize.ShloMosaic.Lib.Pipeline.ValueKit
public import Idealize.ShloMosaic.Lib.StableHlo.RunClose
public import proofs.«01_k».proof.Proof.Adam
public import proofs.«01_k».proof.Proof.Gen.Kernel26Ideal.Value
public import proofs.«01_k».proof.Proof.Gen.Reference26Ideal.Run

@[expose] public section

noncomputable section

/-! The optimiser's step for the first layer of a branch's output projection. -/

namespace Cert.Kernel26Ideal.AdamBranch

open Cert.Kernel26Ideal Cert.Kernel26Ideal.Gen Cert.Kernel26Ideal.Value Cert.Adam
open Idealize.ShloMosaic Idealize.ShloMosaic.TcCoe Idealize.ShloMosaic.Tactic Idealize.SL.Sem
open Idealize.ShloMosaic.Pipeline (Dat)

theorem idx : ∀ t : Fin cfg0.N, win0_0.index t = win0_4.index t ∧ win0_1.index t = win0_4.index t ∧ win0_2.index t = win0_4.index t ∧ win0_3.index t = win0_4.index t
    ∧ win0_5.index t = win0_4.index t ∧ win0_6.index t = win0_4.index t ∧ win0_7.index t = win0_4.index t ∧ win0_4.index t 0 = 0 :=
  (by decide +kernel : ∀ t : Fin grid0.N, _)

variable (m : (ℓ : Loc nD τ sig) → Buf (Elt Ideal) ℓ) (c : Dev nD)

/-- Where a grid point's block lies in the arrays. -/
def at_ (t : Fin cfg0.N) (y : S1x1024x256.Idx) : S4x1024x256.Idx := ((View.whole main_v0_0).slice (win0_4.rect t)).emb y

variable (t : Fin cfg0.N) (y : S1x1024x256.Idx)

theorem emb5 : ((View.whole main_v0_1).slice (win0_5.rect t)).emb y = at_ t y := by unfold at_; blk_ext [idx t]

theorem emb6 : ((View.whole main_v0_2).slice (win0_6.rect t)).emb y = at_ t y := by unfold at_; blk_ext [idx t]

theorem emb7 : ((View.whole main_v0_3).slice (win0_7.rect t)).emb y = at_ t y := by unfold at_; blk_ext [idx t]

theorem parts (k : Fin 4) : iblk m c 0 t (ix3 k (y 1) (y 2)) = (m ((c : Thread nD τ).loc main_arg0)) (ix3 k (at_ t y 1) (at_ t y 2)) := by
  unfold at_; blk_ext [iblk, idx t]

theorem blk1 : iblk m c 1 t y = (m ((c : Thread nD τ).loc main_arg1)) (at_ t y) := by unfold at_; blk_ext [iblk, idx t]

theorem blk2 : iblk m c 2 t y = (m ((c : Thread nD τ).loc main_arg2)) (at_ t y) := by unfold at_; blk_ext [iblk, idx t]

theorem blk3 : iblk m c 3 t y = (m ((c : Thread nD τ).loc main_arg3)) (at_ t y) := by unfold at_; blk_ext [iblk, idx t]

omit t y

theorem final_g : (dats m 0 c).arrAt 4 cfg0.N = put (Gg (m ((c : Thread nD τ).loc main_arg0))) (m ((c : Thread nD τ).loc main_arg4)) := by
  refine ((dats m 0 c).arrAt_eq_of_coversWhere 4 (Gg (m ((c : Thread nD τ).loc main_arg0))) (P := fun i => (i (0 : Fin 3) : ℕ) = 0) (fun β => β (0 : Fin _) = 0) (by decide +kernel) (fun t hf y => ?_)
    (fun j => by blk_simp [Pipeline.Window.cell_apply, Nat.div_one])).trans (congrArg (put _) ((A_eq m c 4).trans ?_))
  · blk_simp
    rw [after0_4]
    dsimp only [outsAt0]
    frame_out
    pointwise [k0_pay1, k0_pay5]
    rw [parts, parts, parts, parts, Gg, Fin.sum_univ_four]; rfl
  · rfl

theorem final_d : (dats m 0 c).arrAt 5 cfg0.N = put (Gd (m ((c : Thread nD τ).loc main_arg0)) (m ((c : Thread nD τ).loc main_arg1)) (m ((c : Thread nD τ).loc main_arg2)) (m ((c : Thread nD τ).loc main_arg3))) (m ((c : Thread nD τ).loc main_arg5)) := by
  refine ((dats m 0 c).arrAt_eq_of_coversWhere 5 (Gd (m ((c : Thread nD τ).loc main_arg0)) (m ((c : Thread nD τ).loc main_arg1)) (m ((c : Thread nD τ).loc main_arg2)) (m ((c : Thread nD τ).loc main_arg3))) (P := fun i => (i (0 : Fin 3) : ℕ) = 0) (fun β => β (0 : Fin _) = 0) (by decide +kernel) (fun t hf y => ?_)
    (fun j => by blk_simp [Pipeline.Window.cell_apply, Nat.div_one])).trans (congrArg (put _) ((A_eq m c 5).trans ?_))
  · blk_simp
    rw [after0_5]
    dsimp only [outsAt0]
    frame_out
    pointwise [k0_pay2, k0_pay5, k0_pay6, k0_pay7, k0_pay8]
    rw [parts, parts, parts, parts, blk1, blk2, blk3, emb5, Gd, Gg, Fin.sum_univ_four]; rfl
  · rfl

theorem final_m : (dats m 0 c).arrAt 6 cfg0.N = put (Gm (m ((c : Thread nD τ).loc main_arg0)) (m ((c : Thread nD τ).loc main_arg2))) (m ((c : Thread nD τ).loc main_arg6)) := by
  refine ((dats m 0 c).arrAt_eq_of_coversWhere 6 (Gm (m ((c : Thread nD τ).loc main_arg0)) (m ((c : Thread nD τ).loc main_arg2))) (P := fun i => (i (0 : Fin 3) : ℕ) = 0) (fun β => β (0 : Fin _) = 0) (by decide +kernel) (fun t hf y => ?_)
    (fun j => by blk_simp [Pipeline.Window.cell_apply, Nat.div_one])).trans (congrArg (put _) ((A_eq m c 6).trans ?_))
  · blk_simp
    rw [after0_6]
    dsimp only [outsAt0]
    frame_out
    pointwise [k0_pay3, k0_pay5, k0_pay7]
    rw [parts, parts, parts, parts, blk2, emb6, Gm, Gg, Fin.sum_univ_four]; rfl
  · rfl

theorem final_v : (dats m 0 c).arrAt 7 cfg0.N = put (Gv (m ((c : Thread nD τ).loc main_arg0)) (m ((c : Thread nD τ).loc main_arg3))) (m ((c : Thread nD τ).loc main_arg7)) := by
  refine ((dats m 0 c).arrAt_eq_of_coversWhere 7 (Gv (m ((c : Thread nD τ).loc main_arg0)) (m ((c : Thread nD τ).loc main_arg3))) (P := fun i => (i (0 : Fin 3) : ℕ) = 0) (fun β => β (0 : Fin _) = 0) (by decide +kernel) (fun t hf y => ?_)
    (fun j => by blk_simp [Pipeline.Window.cell_apply, Nat.div_one])).trans (congrArg (put _) ((A_eq m c 7).trans ?_))
  · blk_simp
    rw [after0_7]
    dsimp only [outsAt0]
    frame_out
    pointwise [k0_pay4, k0_pay5, k0_pay8]
    rw [parts, parts, parts, parts, blk3, emb7, Gv, Gg, Fin.sum_univ_four]; rfl
  · rfl

end Cert.Kernel26Ideal.AdamBranch

namespace Cert.Reference26Ideal.AdamBranch

open Cert.Reference26Ideal Cert.Reference26Ideal.Gen
open Idealize.ShloMosaic Idealize.ShloMosaic.TcCoe Idealize.ShloMosaic.Tactic Idealize.SL.Sem
open Cert.Adam

/-- The reference computes the same arrays. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v34) = put (Gg (m ((c.tc : Thread nD τ).loc main_arg0))) (m ((c.tc : Thread nD τ).loc main_arg4))
      ∧ r.2.mem ((c.tc : Thread nD τ).loc main_v37) = put (Gd (m ((c.tc : Thread nD τ).loc main_arg0)) (m ((c.tc : Thread nD τ).loc main_arg1)) (m ((c.tc : Thread nD τ).loc main_arg2)) (m ((c.tc : Thread nD τ).loc main_arg3))) (m ((c.tc : Thread nD τ).loc main_arg5))
      ∧ r.2.mem ((c.tc : Thread nD τ).loc main_v40) = put (Gm (m ((c.tc : Thread nD τ).loc main_arg0)) (m ((c.tc : Thread nD τ).loc main_arg2))) (m ((c.tc : Thread nD τ).loc main_arg6))
      ∧ r.2.mem ((c.tc : Thread nD τ).loc main_v43) = put (Gv (m ((c.tc : Thread nD τ).loc main_arg0)) (m ((c.tc : Thread nD τ).loc main_arg3))) (m ((c.tc : Thread nD τ).loc main_arg7))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7) := by
  refine (θ_run defs _ _).mono (fun r h c => ?_) (Value.run m ρ)
  obtain ⟨hg, hd, hm, hv, h⟩ := h c
  refine ⟨hg.trans ?_, hd.trans ?_, hm.trans ?_, hv.trans ?_, h⟩ <;>
  · funext i
    obtain ⟨a, b, d, rfl⟩ : ∃ a b d, i = ix3 a b d := ⟨i 0, i 1, i 2, by funext x; fin_cases x <;> rfl⟩
    pointwise [put, Gg, Gd, Gm, Gv, delta, mom, var]
    by_cases h0 : a = 0
    · subst h0
      rfl
    · have h1 : ¬(a : ℕ) = 0 := fun e => h0 (Fin.ext e)
      refine (dif_neg (by omega)).trans (.trans ?_ (if_neg h1).symm)
      exact congrArg _ (congrArg (ix3 · b d) (Fin.ext (by show 1 + ((a : ℕ) - 1) = _; omega)))

end Cert.Reference26Ideal.AdamBranch

end
-- ==== Proof.Update.lean ====
module

public import proofs.«01_k».proof.Defs
public import proofs.«01_k».proof.Proof.Gen.Kernel22.Frame
public import proofs.«01_k».proof.Proof.SmallAdam
public import proofs.«01_k».proof.Proof.Gen.Kernel23.Frame
public import proofs.«01_k».proof.Proof.LossHead
public import proofs.«01_k».proof.Proof.Gen.Kernel24.Frame
public import proofs.«01_k».proof.Proof.HeadsFwd
public import proofs.«01_k».proof.Proof.Gen.Kernel25.Frame
public import proofs.«01_k».proof.Proof.AdamOut
public import proofs.«01_k».proof.Proof.Gen.Kernel26.Frame
public import proofs.«01_k».proof.Proof.AdamBranch
public import Idealize.ShloMosaic.Adequacy
public import Idealize.ShloMosaic.Init

@[expose] public section

noncomputable section

/-! The claims about the optimiser, the loss and the attention's heads. -/

namespace Cert.Update

open Idealize.ShloMosaic Idealize.SL.Sem

theorem frame_22 : quiescent_Kernel22 := fun m ρ _ => Kernel22.Gen.frame m ρ

theorem frame_22_ideal : quiescent_Kernel22Ideal := fun m ρ _ => Kernel22Ideal.Gen.frame m ρ

theorem frame_22_ref : quiescent_Reference22Ideal := fun m ρ _ =>
  (θ_run Reference22Ideal.defs _ _).mono (fun r h => ⟨fun c => (h c).2.2.2.2, sem_eq_zero_of_no_sems (by decide) r.2⟩) (Reference22Ideal.Value.run m ρ)

theorem algebraic_22 : algebraic_Kernel22Ideal_Reference22Ideal := by
  intro m ρ m' ρ' _ hagree
  refine ⟨_, _, _, _,
    (θ_run Kernel22Ideal.defs _ _).mono (fun r h c => ⟨((h c).1).trans (Kernel22Ideal.SmallAdam.final_g m c), ((h c).2.1).trans (Kernel22Ideal.SmallAdam.final_d m c), ((h c).2.2.1).trans (Kernel22Ideal.SmallAdam.final_m m c), ((h c).2.2.2.1).trans (Kernel22Ideal.SmallAdam.final_v m c), (h c).2.2.2.2⟩) (Kernel22Ideal.Value.run_blocks m ρ),
    (θ_run Reference22Ideal.defs _ _).mono (fun r h c => ?_) (Reference22Ideal.SmallAdam.run m' ρ')⟩
  have e := hagree c
  replace h := h c
  refine ⟨(h.1).trans ?_, (h.2.1).trans ?_, (h.2.2.1).trans ?_, (h.2.2.2.1).trans ?_, h.2.2.2.2⟩
  · rewrite [e.1]; rfl
  · rewrite [e.1, e.2.1, e.2.2.1, e.2.2.2]; rfl
  · rewrite [e.1, e.2.2.1]; rfl
  · rewrite [e.1, e.2.2.2]; rfl

theorem frame_23 : quiescent_Kernel23 := fun m ρ _ => Kernel23.Gen.frame m ρ

theorem frame_23_ideal : quiescent_Kernel23Ideal := fun m ρ _ => Kernel23Ideal.Gen.frame m ρ

theorem frame_23_ref : quiescent_Reference23Ideal := fun m ρ _ =>
  (θ_run Reference23Ideal.defs _ _).mono (fun r h => ⟨fun c => (h c).2.2.2, sem_eq_zero_of_no_sems (by decide) r.2⟩) (Reference23Ideal.Value.run m ρ)

theorem algebraic_23 : algebraic_Kernel23Ideal_Reference23Ideal := by
  intro m ρ m' ρ' _ hagree
  refine ⟨_, _, _,
    (θ_run Kernel23Ideal.defs _ _).mono (fun r h c => ⟨((h c).1).trans (Kernel23Ideal.LossHead.final_dx m c), ((h c).2.1).trans (Kernel23Ideal.LossHead.final_dxb m c), ((h c).2.2.1).trans (Kernel23Ideal.LossHead.final_l m c), (h c).2.2.2⟩) (Kernel23Ideal.Value.run_blocks m ρ),
    (θ_run Reference23Ideal.defs _ _).mono (fun r h c => ?_) (Reference23Ideal.LossHead.run m' ρ')⟩
  have e := hagree c
  replace h := h c
  refine ⟨(h.1).trans ?_, (h.2.1).trans ?_, (h.2.2.1).trans ?_, h.2.2.2⟩
  · rewrite [e.1, e.2]; rfl
  · rewrite [e.1, e.2]; rfl
  · rewrite [e.1, e.2]; rfl

theorem frame_24 : quiescent_Kernel24 := fun m ρ _ => Kernel24.Gen.frame m ρ

theorem frame_24_ideal : quiescent_Kernel24Ideal := fun m ρ _ => Kernel24Ideal.Gen.frame m ρ

theorem frame_24_ref : quiescent_Reference24Ideal := fun m ρ _ =>
  (θ_run Reference24Ideal.defs _ _).mono (fun r h => ⟨fun c => (h c).2.2.2, sem_eq_zero_of_no_sems (by decide) r.2⟩) (Reference24Ideal.Value.run m ρ)

theorem algebraic_24 : algebraic_Kernel24Ideal_Reference24Ideal := by
  intro m ρ m' ρ' _ hagree
  refine ⟨_, _, _,
    (θ_run Kernel24Ideal.defs _ _).mono (fun r h c => ⟨((h c).1).trans (Kernel24Ideal.HeadsFwd.final_q m c), ((h c).2.1).trans (Kernel24Ideal.HeadsFwd.final_k m c), ((h c).2.2.1).trans (Kernel24Ideal.HeadsFwd.final_v m c), (h c).2.2.2⟩) (Kernel24Ideal.Value.run_blocks m ρ),
    (θ_run Reference24Ideal.defs _ _).mono (fun r h c => ?_) (Reference24Ideal.HeadsFwd.run m' ρ')⟩
  have e := hagree c
  replace h := h c
  refine ⟨(h.1).trans ?_, (h.2.1).trans ?_, (h.2.2.1).trans ?_, h.2.2.2⟩
  · rewrite [e.1, e.2.1]; rfl
  · rewrite [e.1, e.2.2]; rfl
  · rewrite [e.1]; rfl

theorem frame_25 : quiescent_Kernel25 := fun m ρ _ => Kernel25.Gen.frame m ρ

theorem frame_25_ideal : quiescent_Kernel25Ideal := fun m ρ _ => Kernel25Ideal.Gen.frame m ρ

theorem frame_25_ref : quiescent_Reference25Ideal := fun m ρ _ =>
  (θ_run Reference25Ideal.defs _ _).mono (fun r h => ⟨fun c => (h c).2.2.2.2, sem_eq_zero_of_no_sems (by decide) r.2⟩) (Reference25Ideal.Value.run m ρ)

theorem algebraic_25 : algebraic_Kernel25Ideal_Reference25Ideal := by
  intro m ρ m' ρ' _ hagree
  refine ⟨_, _, _, _,
    (θ_run Kernel25Ideal.defs _ _).mono (fun r h c => ⟨((h c).1).trans (Kernel25Ideal.AdamOut.final_g m c), ((h c).2.1).trans (Kernel25Ideal.AdamOut.final_d m c), ((h c).2.2.1).trans (Kernel25Ideal.AdamOut.final_m m c), ((h c).2.2.2.1).trans (Kernel25Ideal.AdamOut.final_v m c), (h c).2.2.2.2⟩) (Kernel25Ideal.Value.run_blocks m ρ),
    (θ_run Reference25Ideal.defs _ _).mono (fun r h c => ?_) (Reference25Ideal.AdamOut.run m' ρ')⟩
  obtain ⟨e0, e1, e2, e3, e4, e5, e6, e7⟩ := hagree c
  replace h := h c
  refine ⟨(h.1).trans ?_, (h.2.1).trans ?_, (h.2.2.1).trans ?_, (h.2.2.2.1).trans ?_, h.2.2.2.2⟩
  · rewrite [e0, e4]; rfl
  · rewrite [e0, e1, e2, e3, e5]; rfl
  · rewrite [e0, e2, e6]; rfl
  · rewrite [e0, e3, e7]; rfl

theorem frame_26 : quiescent_Kernel26 := fun m ρ _ => Kernel26.Gen.frame m ρ

theorem frame_26_ideal : quiescent_Kernel26Ideal := fun m ρ _ => Kernel26Ideal.Gen.frame m ρ

theorem frame_26_ref : quiescent_Reference26Ideal := fun m ρ _ =>
  (θ_run Reference26Ideal.defs _ _).mono (fun r h => ⟨fun c => (h c).2.2.2.2, sem_eq_zero_of_no_sems (by decide) r.2⟩) (Reference26Ideal.Value.run m ρ)

theorem algebraic_26 : algebraic_Kernel26Ideal_Reference26Ideal := by
  intro m ρ m' ρ' _ hagree
  refine ⟨_, _, _, _,
    (θ_run Kernel26Ideal.defs _ _).mono (fun r h c => ⟨((h c).1).trans (Kernel26Ideal.AdamBranch.final_g m c), ((h c).2.1).trans (Kernel26Ideal.AdamBranch.final_d m c), ((h c).2.2.1).trans (Kernel26Ideal.AdamBranch.final_m m c), ((h c).2.2.2.1).trans (Kernel26Ideal.AdamBranch.final_v m c), (h c).2.2.2.2⟩) (Kernel26Ideal.Value.run_blocks m ρ),
    (θ_run Reference26Ideal.defs _ _).mono (fun r h c => ?_) (Reference26Ideal.AdamBranch.run m' ρ')⟩
  obtain ⟨e0, e1, e2, e3, e4, e5, e6, e7⟩ := hagree c
  replace h := h c
  refine ⟨(h.1).trans ?_, (h.2.1).trans ?_, (h.2.2.1).trans ?_, (h.2.2.2.1).trans ?_, h.2.2.2.2⟩
  · rewrite [e0, e4]; rfl
  · rewrite [e0, e1, e2, e3, e5]; rfl
  · rewrite [e0, e2, e6]; rfl
  · rewrite [e0, e3, e7]; rfl

end Cert.Update

end
-- ==== Proof.Gate.lean ====
module

public import Idealize.ShloMosaic.PureOps.Ideal

@[expose] public section

noncomputable section

/-! The logistic function over the extended reals, and its derivative in the two forms in which the programs write it. -/

namespace Cert.Gate

open Idealize.ShloMosaic

/-- The logistic function. -/
def sig (x : EReal) : EReal := Ideal.div 1 (1 + Ideal.exp (-x))

/-- Its derivative. -/
def slope (x : EReal) : EReal := sig x * (1 - sig x)

/-- One over the square of `1 + e⁻ˣ`, times `e⁻ˣ`, is the derivative. -/
theorem slope_eq (x : EReal) : Ideal.div 1 ((1 + Ideal.exp (-x)) * (1 + Ideal.exp (-x))) * Ideal.exp (-x) = slope x := by
  induction x using EReal.rec with
  | bot =>
    have h : (1 : EReal) + ⊤ = ⊤ := EReal.add_top_of_ne_bot (EReal.coe_ne_bot 1)
    simp [slope, sig, Ideal.div, h]
  | top =>
    have h : (1 : EReal) - 1 = 0 := by rw [← EReal.coe_one, ← EReal.coe_sub, sub_self]; rfl
    simp [slope, sig, Ideal.div, h]
  | coe r =>
    have hp : (0 : ℝ) < 1 + Real.exp (-r) := by positivity
    have e1 : Ideal.exp (-(r : EReal)) = ((Real.exp (-r) : ℝ) : EReal) := by rw [← EReal.coe_neg]; rfl
    have e2 : (1 : EReal) + ((Real.exp (-r) : ℝ) : EReal) = ((1 + Real.exp (-r) : ℝ) : EReal) := by rw [EReal.coe_add]; rfl
    have e3 : ∀ y : ℝ, 0 < y → Ideal.div 1 (y : EReal) = ((y⁻¹ : ℝ) : EReal) := fun y hy => by
      rw [Ideal.div, if_neg (by exact_mod_cast hy.ne'), one_mul, ← EReal.coe_inv]
    rw [slope, sig, e1, e2, ← EReal.coe_mul, e3 _ hp, e3 _ (mul_pos hp hp), ← EReal.coe_mul, ← EReal.coe_one, ← EReal.coe_sub, ← EReal.coe_mul]
    congr 1
    field_simp
    ring

/-- The derivative with the signs that a division's gradient and a negation's put around it. -/
theorem neg_slope (a x : EReal) :
    (0 : EReal) - (0 - a * Ideal.div 1 ((1 + Ideal.exp (0 - x)) * (1 + Ideal.exp (0 - x)))) * Ideal.exp (0 - x) = a * slope x := by
  rw [← slope_eq, zero_sub x, zero_sub, zero_sub, EReal.neg_mul, neg_neg, mul_assoc]

end Cert.Gate

end
-- ==== Proof.MergeBwd.lean ====
module

public import Idealize.ShloMosaic.Lib.Pipeline.ValueKit
public import Idealize.ShloMosaic.Lib.StableHlo.RunClose
public import proofs.«01_k».proof.Proof.Gate
public import proofs.«01_k».proof.Proof.Gen.Kernel15Ideal.Value
public import proofs.«01_k».proof.Proof.Gen.Reference15Ideal.Run

@[expose] public section

noncomputable section

/-! The gradient of the merge of the three branches by their gates. -/

namespace Cert.Kernel15Ideal.MergeBwd

open Cert.Kernel15Ideal Cert.Kernel15Ideal.Gen
open Idealize.ShloMosaic Idealize.ShloMosaic.TcCoe Idealize.ShloMosaic.Tactic Idealize.SL.Sem
open Idealize.ShloMosaic.Pipeline (Dat)

/-- The column of the input projection that holds branch `s`'s gate of channel `j`. -/
def col (s : Fin 3) (j : Fin 2048) : Fin 15488 := ⟨9216 + 2048 * s.val + j.val, by omega⟩

/-- The gradient of a gate, entry by entry. -/
def G (z : S2048x15488.Idx → EReal) (b : Fin 3 → S2048x2048.Idx → EReal) (d : S2048x2048.Idx → EReal) (i : S3x2048x2048.Idx) : EReal :=
  d (ix2 (i 1) (i 2)) * b (i 0) (ix2 (i 1) (i 2)) * Cert.Gate.slope (z (ix2 (i 1) (col (i 0) (i 2))))

/-- The gradient of a branch, entry by entry. -/
def G' (s : Fin 3) (z : S2048x15488.Idx → EReal) (d : S2048x2048.Idx → EReal) (i : S2048x2048.Idx) : EReal :=
  Cert.Gate.sig (z (ix2 (i 0) (col s (i 1)))) * d i

theorem neg_mul (a r e : EReal) : (0 : EReal) - (0 - a * r * 1) * e = a * (r * e) := by
  rw [mul_one, zero_sub, zero_sub, EReal.neg_mul, neg_neg, mul_assoc]

/-- What is stored of a gate's gradient, from the gate, the branch and the gradient. -/
def part (z b d : S256x1024.Idx → EReal) (x : S256x1024.Idx) : EReal := d x * b x * Cert.Gate.slope (z x)

theorem pay24 (z b d : Vec Ideal S256x1024 .f32) (x : S1x256x1024.Idx) :
    k0_pay24 (F := Ideal) b (k0_pay6 z) (k0_pay9 z) d x = part z b d (ix2 (x 1) (x 2)) := by
  rw [part, ← Cert.Gate.slope_eq, ← neg_mul, ← zero_sub (z _)]
  pointwise [k0_pay24, k0_pay6, k0_pay7, k0_pay9, k0_pay18]

theorem pay25 (z b d : Vec Ideal S256x1024 .f32) (x : S1x256x1024.Idx) :
    k0_pay1 (F := Ideal) (k0_pay25 b (k0_pay10 z) (k0_pay13 z) d) x = part z b d (ix2 (x 1) (x 2)) := by
  exact pay24 z b d x

theorem pay21 (z b d : Vec Ideal S256x1024 .f32) (x : S1x256x1024.Idx) :
    k0_pay2 (F := Ideal) (k0_pay21 b (k0_pay14 z) (k0_pay17 z) (FloatOps.ofBits FTy.f32 1065353216#32) d) x = part z b d (ix2 (x 1) (x 2)) := by
  exact pay24 z b d x

/-- What is stored of a branch's gradient. -/
def part' (z d : S256x1024.Idx → EReal) (x : S256x1024.Idx) : EReal := Cert.Gate.sig (z x) * d x

theorem pay23 (z d : Vec Ideal S256x1024 .f32) (x : S256x1024.Idx) :
    k0_pay3 (F := Ideal) (k0_pay23 (k0_pay8 z) d) x = part' z d x := by
  rw [part', Cert.Gate.sig, ← zero_sub]
  pointwise [k0_pay3, k0_pay23, k0_pay8, k0_pay7, k0_pay6, k0_pay18]

theorem pay22 (z d : Vec Ideal S256x1024 .f32) (x : S256x1024.Idx) :
    k0_pay4 (F := Ideal) (k0_pay22 (k0_pay12 z) d) x = part' z d x := by
  exact pay23 z d x

theorem pay20 (z d : Vec Ideal S256x1024 .f32) (x : S256x1024.Idx) :
    k0_pay5 (F := Ideal) (k0_pay20 (k0_pay16 z) d) x = part' z d x := by
  exact pay23 z d x

variable (m : (ℓ : Loc nD τ sig) → Buf (Elt Ideal) ℓ)

/-- The gate's block that a grid point reads. -/
def zb (c : Dev nD) (t : Fin cfg0.N) (s : Fin 3) : S256x1024.Idx → EReal := ![X0_0 m c t, X0_1 m c t, X0_2 m c t] s

/-- The branch's block that a grid point reads. -/
def bb (c : Dev nD) (t : Fin cfg0.N) (s : Fin 3) : S256x1024.Idx → EReal := ![iblk m c 3 t, iblk m c 4 t, iblk m c 5 t] s

/-- What a grid point stores of a gate's gradient. -/
theorem stored (c : Dev nD) (t : Fin cfg0.N) (y : S3x256x1024.Idx) :
    (outsAt0 m c t).1 y = part (zb m c t (y 0)) (bb m c t (y 0)) (iblk m c 6 t) (ix2 (y 1) (y 2)) := by
  unfold outsAt0
  frame_out
  have hy : ∀ (s : Fin 3) (x : S1x256x1024.Idx), (∀ a, (y a : ℕ) = (![s.val, 0, 0] : Fin 3 → ℕ) a + x a) → y 0 = s ∧ y 1 = x 1 ∧ y 2 = x 2 := fun s x h =>
    ⟨Fin.ext (by have := h 0; have := (x 0).isLt; simp at *; omega), Fin.ext (by have := h 1; simpa using this), Fin.ext (by have := h 2; simpa using this)⟩
  refine View.canon_eq_of_allAt _ _ _ (View.cover_of_tiled_head _ _ _ rfl y) (View.allAt_cons_unit _ _ _ _ _ ?_ (View.allAt_cons_unit _ _ _ _ _ ?_ (View.allAt_cons_unit _ _ _ _ _ ?_ (View.allAt_nil _ _))))
  · intro x hx
    obtain ⟨h0, h1, h2⟩ := hy 2 x hx
    rw [h0, h1, h2]; exact pay21 _ _ _ x
  · intro x hx
    obtain ⟨h0, h1, h2⟩ := hy 1 x hx
    rw [h0, h1, h2]; exact pay25 _ _ _ x
  · intro x hx
    obtain ⟨h0, h1, h2⟩ := hy 0 x hx
    rw [h0, h1, h2]; exact pay24 _ _ _ x

theorem stored8 (c : Dev nD) (t : Fin cfg0.N) (y : S256x1024.Idx) : (outsAt0 m c t).2.1 y = part' (zb m c t 0) (iblk m c 6 t) y := by
  unfold outsAt0; frame_out; exact pay23 _ _ y

theorem stored9 (c : Dev nD) (t : Fin cfg0.N) (y : S256x1024.Idx) : (outsAt0 m c t).2.2.1 y = part' (zb m c t 1) (iblk m c 6 t) y := by
  unfold outsAt0; frame_out; exact pay22 _ _ y

theorem stored10 (c : Dev nD) (t : Fin cfg0.N) (y : S256x1024.Idx) : (outsAt0 m c t).2.2.2 y = part' (zb m c t 2) (iblk m c 6 t) y := by
  unfold outsAt0; frame_out; exact pay20 _ _ y

theorem idx : ∀ t : Fin cfg0.N, win0_0.index t = ![win0_6.index t 0, 9 + win0_6.index t 1] ∧ win0_1.index t = ![win0_6.index t 0, 11 + win0_6.index t 1] ∧ win0_2.index t = ![win0_6.index t 0, 13 + win0_6.index t 1]
    ∧ win0_3.index t = win0_6.index t ∧ win0_4.index t = win0_6.index t ∧ win0_5.index t = win0_6.index t
    ∧ win0_7.index t = ![0, win0_6.index t 0, win0_6.index t 1] ∧ win0_8.index t = win0_6.index t ∧ win0_9.index t = win0_6.index t ∧ win0_10.index t = win0_6.index t :=
  (by decide +kernel : ∀ t : Fin grid0.N, _)

/-- Entry by entry, a gate's block is read off its columns of the projection. -/
theorem zb_apply (c : Dev nD) (t : Fin cfg0.N) (s : Fin 3) (y : S256x1024.Idx) (r : Fin 2048) (j : Fin 2048)
    (hr : r.val = win0_6.index t 0 * 256 + (y 0).val) (hj : j.val = win0_6.index t 1 * 1024 + (y 1).val) :
    zb m c t s y = m ((c : Thread nD τ).loc main_arg0) (ix2 r (col s j)) := by
  match s with
  | 0 =>
    change X0_0 m c t y = _
    unfold X0_0 Pipeline.Window.fill
    rw [dif_pos (moved0_0 t y)]
    blk_ext [iblk, idx t, col]
  | 1 =>
    change X0_1 m c t y = _
    unfold X0_1 Pipeline.Window.fill
    rw [dif_pos (moved0_1 t y)]
    blk_ext [iblk, idx t, col]
  | 2 =>
    change X0_2 m c t y = _
    unfold X0_2 Pipeline.Window.fill
    rw [dif_pos (moved0_2 t y)]
    blk_ext [iblk, idx t, col]

/-- The array after the call. -/
theorem final8 (c : Dev nD) : (dats m 0 c).arrAt 8 cfg0.N = G' 0 (m ((c : Thread nD τ).loc main_arg0)) (m ((c : Thread nD τ).loc main_arg4)) := by
  refine (dats m 0 c).arrAt_eq_of_covers 8 _ (by decide +kernel) fun t hf y => ?_
  blk_simp
  rw [after0_8]
  refine (stored8 m c t _).trans ?_
  exact congrArg₂ (fun (a b : EReal) => Cert.Gate.sig a * b) (zb_apply m c t 0 _ _ _ (by blk_point [idx t]) (by blk_point [idx t])) (by blk_ext [iblk, idx t])

/-- The array after the call. -/
theorem final9 (c : Dev nD) : (dats m 0 c).arrAt 9 cfg0.N = G' 1 (m ((c : Thread nD τ).loc main_arg0)) (m ((c : Thread nD τ).loc main_arg4)) := by
  refine (dats m 0 c).arrAt_eq_of_covers 9 _ (by decide +kernel) fun t hf y => ?_
  blk_simp
  rw [after0_9]
  refine (stored9 m c t _).trans ?_
  exact congrArg₂ (fun (a b : EReal) => Cert.Gate.sig a * b) (zb_apply m c t 1 _ _ _ (by blk_point [idx t]) (by blk_point [idx t])) (by blk_ext [iblk, idx t])

/-- The array after the call. -/
theorem final10 (c : Dev nD) : (dats m 0 c).arrAt 10 cfg0.N = G' 2 (m ((c : Thread nD τ).loc main_arg0)) (m ((c : Thread nD τ).loc main_arg4)) := by
  refine (dats m 0 c).arrAt_eq_of_covers 10 _ (by decide +kernel) fun t hf y => ?_
  blk_simp
  rw [after0_10]
  refine (stored10 m c t _).trans ?_
  exact congrArg₂ (fun (a b : EReal) => Cert.Gate.sig a * b) (zb_apply m c t 2 _ _ _ (by blk_point [idx t]) (by blk_point [idx t])) (by blk_ext [iblk, idx t])

theorem bb_apply (c : Dev nD) (t : Fin cfg0.N) (s : Fin 3) (y : S256x1024.Idx) (r : Fin 2048) (j : Fin 2048)
    (hr : r.val = win0_6.index t 0 * 256 + (y 0).val) (hj : j.val = win0_6.index t 1 * 1024 + (y 1).val) :
    bb m c t s y = ![m ((c : Thread nD τ).loc main_arg1), m ((c : Thread nD τ).loc main_arg2), m ((c : Thread nD τ).loc main_arg3)] s (ix2 r j) := by
  match s with
  | 0 => change iblk m c 3 t y = m ((c : Thread nD τ).loc main_arg1) _; blk_ext [iblk, idx t]
  | 1 => change iblk m c 4 t y = m ((c : Thread nD τ).loc main_arg2) _; blk_ext [iblk, idx t]
  | 2 => change iblk m c 5 t y = m ((c : Thread nD τ).loc main_arg3) _; blk_ext [iblk, idx t]

/-- The array after the call. -/
theorem final (c : Dev nD) : (dats m 0 c).arrAt 7 cfg0.N = G (m ((c : Thread nD τ).loc main_arg0)) ![m ((c : Thread nD τ).loc main_arg1), m ((c : Thread nD τ).loc main_arg2), m ((c : Thread nD τ).loc main_arg3)] (m ((c : Thread nD τ).loc main_arg4)) := by
  refine (dats m 0 c).arrAt_eq_of_covers 7 _ (by decide +kernel) fun t hf y => ?_
  blk_simp
  rw [after0_7]
  refine (stored m c t _).trans ?_
  obtain ⟨i, hi, h0, h1, h2⟩ : ∃ i : S3x2048x2048.Idx, (win0_7.blk t).view.emb y = i ∧ i 0 = y 0 ∧ (i 1).val = win0_6.index t 0 * 256 + (y 1).val ∧ (i 2).val = win0_6.index t 1 * 1024 + (y 2).val :=
    ⟨_, rfl, Fin.ext (by blk_point [idx t]), by blk_point [idx t], by blk_point [idx t]⟩
  rw [hi]
  unfold G part
  rw [← h0]
  exact congrArg₂ (fun (a b : EReal) => a * b) (congrArg₂ (fun (a b : EReal) => a * b) (by blk_ext [iblk, idx t]) (bb_apply m c t _ _ _ _ h1 h2)) (congrArg Cert.Gate.slope (zb_apply m c t _ _ _ _ h1 h2))

end Cert.Kernel15Ideal.MergeBwd

namespace Cert.Reference15Ideal.MergeBwd

open Cert.Reference15Ideal Cert.Reference15Ideal.Gen
open Idealize.ShloMosaic Idealize.ShloMosaic.TcCoe Idealize.ShloMosaic.Tactic Idealize.SL.Sem

theorem value (a0 : FVec Ideal S2048x15488 .f32) (a1 a2 a3 a4 : FVec Ideal S2048x2048 .f32) :
    truncf .bf16 (transpose S3x2048x2048 [1, 0, 2] (shapeCast _ (mulf (shapeCast _ (addf (addf (pad S2048x3x2048 ![0, 2, 0] ![0, 0, 0] ![0, 0, 0] (broadcastInDim S2048x1x2048 ![0, 2] bcast_S2048x2048_S2048x1x2048_0_2 (mulf (shapeCast _ a4 shapeCasts_S2048x2048_S2048x2048) a3)) (constant S_ .f32 0x00000000#32) pads_S2048x1x2048_S2048x3x2048_000_200_000 h_S_) (pad S2048x3x2048 ![0, 1, 0] ![0, 1, 0] ![0, 0, 0] (broadcastInDim S2048x1x2048 ![0, 2] bcast_S2048x2048_S2048x1x2048_0_2 (mulf (shapeCast _ a4 shapeCasts_S2048x2048_S2048x2048) a2)) (constant S_ .f32 0x00000000#32) pads_S2048x1x2048_S2048x3x2048_000_110_000 h_S_)) (pad S2048x3x2048 ![0, 0, 0] ![0, 2, 0] ![0, 0, 0] (broadcastInDim S2048x1x2048 ![0, 2] bcast_S2048x2048_S2048x1x2048_0_2 (mulf (shapeCast _ a4 shapeCasts_S2048x2048_S2048x2048) a1)) (constant S_ .f32 0x00000000#32) pads_S2048x1x2048_S2048x3x2048_000_020_000 h_S_)) shapeCasts_S2048x3x2048_S2048x6144) (mulf (Host.divf (broadcastInDim S2048x6144 ![] bcast_S_S2048x6144 (constant S_ .f32 0x3F800000#32)) (addf (broadcastInDim S2048x6144 ![] bcast_S_S2048x6144 (constant S_ .f32 0x3F800000#32)) (Host.exp (Host.negf (extractStridedSlice S2048x6144 ![0, 9216] a0 slices_S2048x15488_S2048x6144_0_9216))))) (subf (broadcastInDim S2048x6144 ![] bcast_S_S2048x6144 (constant S_ .f32 0x3F800000#32)) (Host.divf (broadcastInDim S2048x6144 ![] bcast_S_S2048x6144 (constant S_ .f32 0x3F800000#32)) (addf (broadcastInDim S2048x6144 ![] bcast_S_S2048x6144 (constant S_ .f32 0x3F800000#32)) (Host.exp (Host.negf (extractStridedSlice S2048x6144 ![0, 9216] a0 slices_S2048x15488_S2048x6144_0_9216)))))))) shapeCasts_S2048x6144_S2048x3x2048) transposes_S2048x3x2048_S3x2048x2048_1_0_2) bitsLt_bf16_f32 = Cert.Kernel15Ideal.MergeBwd.G a0 ![a1, a2, a3] a4 := by
  funext i
  obtain ⟨s, r, j, rfl⟩ : ∃ s r j, i = ix3 s r j := ⟨i 0, i 1, i 2, by funext a; match a with | 0 => rfl | 1 => rfl | 2 => rfl⟩
  match s with
  | 0 =>
    pointwise [Cert.Kernel15Ideal.MergeBwd.G, Cert.Gate.slope, Cert.Gate.sig, Cert.Kernel15Ideal.MergeBwd.col]
    have e : j.val / 2048 = 0 := by omega
    have e2 : j.val % 2048 = j.val := Nat.mod_eq_of_lt j.isLt
    simp [e, e2]
  | 1 =>
    pointwise [Cert.Kernel15Ideal.MergeBwd.G, Cert.Gate.slope, Cert.Gate.sig, Cert.Kernel15Ideal.MergeBwd.col]
    have e : (2048 + j.val) / 2048 = 1 := by omega
    simp [e, ← Nat.add_assoc]
  | 2 =>
    pointwise [Cert.Kernel15Ideal.MergeBwd.G, Cert.Gate.slope, Cert.Gate.sig, Cert.Kernel15Ideal.MergeBwd.col]
    have e : (4096 + j.val) / 2048 = 2 := by omega
    simp [e, ← Nat.add_assoc]

theorem value8 (a0 : FVec Ideal S2048x15488 .f32) (a4 : FVec Ideal S2048x2048 .f32) :
    truncf .bf16 (mulf (shapeCast _ (extractStridedSlice S2048x1x2048 ![0, 0, 0] (shapeCast _ (Host.divf (broadcastInDim S2048x6144 ![] bcast_S_S2048x6144 (constant S_ .f32 0x3F800000#32)) (addf (broadcastInDim S2048x6144 ![] bcast_S_S2048x6144 (constant S_ .f32 0x3F800000#32)) (Host.exp (Host.negf (extractStridedSlice S2048x6144 ![0, 9216] a0 slices_S2048x15488_S2048x6144_0_9216))))) shapeCasts_S2048x6144_S2048x3x2048) slices_S2048x3x2048_S2048x1x2048_0_0_0) shapeCasts_S2048x1x2048_S2048x2048) (shapeCast _ a4 shapeCasts_S2048x2048_S2048x2048)) bitsLt_bf16_f32 = Cert.Kernel15Ideal.MergeBwd.G' 0 a0 a4 := by
  funext i
  pointwise [Cert.Kernel15Ideal.MergeBwd.G', Cert.Gate.sig, Cert.Kernel15Ideal.MergeBwd.col, ← Nat.add_assoc]

theorem value9 (a0 : FVec Ideal S2048x15488 .f32) (a4 : FVec Ideal S2048x2048 .f32) :
    truncf .bf16 (mulf (shapeCast _ (extractStridedSlice S2048x1x2048 ![0, 1, 0] (shapeCast _ (Host.divf (broadcastInDim S2048x6144 ![] bcast_S_S2048x6144 (constant S_ .f32 0x3F800000#32)) (addf (broadcastInDim S2048x6144 ![] bcast_S_S2048x6144 (constant S_ .f32 0x3F800000#32)) (Host.exp (Host.negf (extractStridedSlice S2048x6144 ![0, 9216] a0 slices_S2048x15488_S2048x6144_0_9216))))) shapeCasts_S2048x6144_S2048x3x2048) slices_S2048x3x2048_S2048x1x2048_0_1_0) shapeCasts_S2048x1x2048_S2048x2048) (shapeCast _ a4 shapeCasts_S2048x2048_S2048x2048)) bitsLt_bf16_f32 = Cert.Kernel15Ideal.MergeBwd.G' 1 a0 a4 := by
  funext i
  pointwise [Cert.Kernel15Ideal.MergeBwd.G', Cert.Gate.sig, Cert.Kernel15Ideal.MergeBwd.col, ← Nat.add_assoc]

theorem value10 (a0 : FVec Ideal S2048x15488 .f32) (a4 : FVec Ideal S2048x2048 .f32) :
    truncf .bf16 (mulf (shapeCast _ (extractStridedSlice S2048x1x2048 ![0, 2, 0] (shapeCast _ (Host.divf (broadcastInDim S2048x6144 ![] bcast_S_S2048x6144 (constant S_ .f32 0x3F800000#32)) (addf (broadcastInDim S2048x6144 ![] bcast_S_S2048x6144 (constant S_ .f32 0x3F800000#32)) (Host.exp (Host.negf (extractStridedSlice S2048x6144 ![0, 9216] a0 slices_S2048x15488_S2048x6144_0_9216))))) shapeCasts_S2048x6144_S2048x3x2048) slices_S2048x3x2048_S2048x1x2048_0_2_0) shapeCasts_S2048x1x2048_S2048x2048) (shapeCast _ a4 shapeCasts_S2048x2048_S2048x2048)) bitsLt_bf16_f32 = Cert.Kernel15Ideal.MergeBwd.G' 2 a0 a4 := by
  funext i
  pointwise [Cert.Kernel15Ideal.MergeBwd.G', Cert.Gate.sig, Cert.Kernel15Ideal.MergeBwd.col, ← Nat.add_assoc]

end Cert.Reference15Ideal.MergeBwd

end
-- ==== Proof.RmsBwd.lean ====
module

public import Idealize.ShloMosaic.Lib.Pipeline.ValueKit
public import Idealize.ShloMosaic.Lib.Pipeline.ReadBack
public import Idealize.ShloMosaic.Lib.StableHlo.RunClose
public import proofs.«01_k».proof.Proof.Norm
public import proofs.«01_k».proof.Proof.Gen.Kernel16Ideal.Value
public import proofs.«01_k».proof.Proof.Gen.Reference16Ideal.Run

@[expose] public section

noncomputable section

/-! The gradient of a norm of the residual stream, added to the gradient that goes past it. -/

namespace Cert.Kernel16Ideal.RmsBwd

open Cert.Kernel16Ideal Cert.Kernel16Ideal.Gen
open Idealize.ShloMosaic Idealize.ShloMosaic.TcCoe Idealize.ShloMosaic.Tactic Idealize.SL.Sem
open Idealize.ShloMosaic.Pipeline (Dat)

/-- The length of a row. -/
abbrev len : EReal := Ideal.ofBits FTy.f32 0x45000000#32

/-- The gradient of the norm's argument, entry by entry. -/
def G (x : S2048x2048.Idx → EReal) (g : S1x2048.Idx → EReal) (d r : S2048x2048.Idx → EReal) (i : S2048x2048.Idx) : EReal :=
  Cert.Norm.dx len (fun k => x (ix2 (i 0) k)) (fun k => d (ix2 (i 0) k) * g (ix2 0 k)) (i 1) + r i

/-- The gradient of the gain, entry by entry. -/
def G' (x d : S2048x2048.Idx → EReal) (i : S1x2048.Idx) : EReal :=
  ∑ k : Fin 2048, x (ix2 k (i 1)) * Cert.Norm.inv len (fun j => x (ix2 k j)) * d (ix2 k (i 1))

/-- What a grid point stores of the first. -/
def part (x : S256x2048.Idx → EReal) (g : S1x2048.Idx → EReal) (d r : S256x2048.Idx → EReal) (y : S256x2048.Idx) : EReal :=
  Cert.Norm.dx len (fun k => x (ix2 (y 0) k)) (fun k => d (ix2 (y 0) k) * g (ix2 0 k)) (y 1) + r y

/-- What a grid point adds to the second. -/
def part' (x d : S256x2048.Idx → EReal) (y : S1x2048.Idx) : EReal :=
  ∑ k : Fin 256, x (ix2 k (y 1)) * Cert.Norm.inv len (fun j => x (ix2 k j)) * d (ix2 k (y 1))

theorem pay6 (x : Vec Ideal S256x2048 .f32) (g : Vec Ideal S1x2048 .f32) (d r : Vec Ideal S256x2048 .f32) (y : S256x2048.Idx) :
    k0_pay6 (F := Ideal) x g d r y = part x g d r y := by
  pointwise [k0_pay6, k0_pay4, k0_pay3, part, Cert.Norm.dx, Cert.Norm.sq, Cert.Norm.inv, Cert.Norm.ms]
  simp only [Fin.sum_univ_one]

theorem pay5 (x d : Vec Ideal S256x2048 .f32) (y : S1x2048.Idx) : k0_pay5 (F := Ideal) x d y = part' x d y := by
  pointwise [k0_pay5, k0_pay4, k0_pay3, part', Cert.Norm.inv, Cert.Norm.ms]

variable (m : (ℓ : Loc nD τ sig) → Buf (Elt Ideal) ℓ)

theorem stored (c : Dev nD) (t : Fin cfg0.N) (y : S256x2048.Idx) :
    (outsAt0 m c t.val t.isLt).1 y = part (iblk m c 0 t) (iblk m c 1 t) (iblk m c 2 t) (iblk m c 3 t) y := by
  by_cases h : t.val % 8 = 0
  · rw [outsAt0_A m c t h]; frame_out; exact pay6 _ _ _ _ _
  · rw [outsAt0_B m c t h]; frame_out; exact pay6 _ _ _ _ _

theorem stored' (c : Dev nD) (t : Fin cfg0.N) (y : S256x2048.Idx) :
    (outsAt0 m c t.val t.isLt).2.1 y = part (iblk m c 0 t) (iblk m c 1 t) (iblk m c 2 t) (iblk m c 3 t) y := by
  by_cases h : t.val % 8 = 0
  · rw [outsAt0_A m c t h]; frame_out; exact pay6 _ _ _ _ _
  · rw [outsAt0_B m c t h]; frame_out; exact pay6 _ _ _ _ _

/-- The first point starts from zero. -/
theorem first (c : Dev nD) (t : Fin cfg0.N) (h : t.val % 8 = 0) (y : S1x2048.Idx) :
    (outsAt0 m c t.val t.isLt).2.2 y = (0 + part' (iblk m c 0 t) (iblk m c 2 t) y : EReal) := by
  rw [outsAt0_A m c t h, ← pay5]
  frame_out
  pointwise [k0_pay1, k0_pay2]

/-- Every later point adds its own. -/
theorem later (c : Dev nD) (t : Fin cfg0.N) (h : ¬t.val % 8 = 0) (y : S1x2048.Idx) :
    (outsAt0 m c t.val t.isLt).2.2 y
      = ((outsAt0 m c (t.val - 1) (Nat.lt_of_le_of_lt (Nat.sub_le _ _) t.isLt)).2.2 y + part' (iblk m c 0 t) (iblk m c 2 t) y : EReal) := by
  rw [outsAt0_B m c t h, ← pay5]
  frame_out
  pointwise [k0_pay2]

theorem total (c : Dev nD) (t : Fin cfg0.N) (h : t.val % 8 = 7) (y : S1x2048.Idx) :
    (outsAt0 m c t.val t.isLt).2.2 y
      = (∑ s : Fin 8, part' (iblk m c 0 ⟨8 * (t.val / 8) + s.val, Pipeline.run_point_lt_of_flush t h s⟩) (iblk m c 2 ⟨8 * (t.val / 8) + s.val, Pipeline.run_point_lt_of_flush t h s⟩) y : EReal) := by
  refine (Pipeline.eq_sum_fin_of_reset_step_apply_of_flush (M := EReal) (fun n h => (outsAt0 m c n h).2.2) 8 (fun _ => 0)
    (fun p y => part' (iblk m c 0 p) (iblk m c 2 p) y) (first m c) (later m c) t h y).trans ?_
  exact zero_add _

theorem idx : ∀ t : Fin cfg0.N, win0_0.index t = ![t.val, 0] ∧ win0_1.index t = ![0, 0] ∧ win0_2.index t = ![t.val, 0] ∧ win0_3.index t = ![t.val, 0] ∧ win0_4.index t = ![t.val, 0] ∧ win0_5.index t = ![t.val, 0] ∧ win0_6.index t = ![0, 0] :=
  (by decide +kernel : ∀ t : Fin grid0.N, _)

/-- A block of rows gives the rows of the result. -/
theorem part_eq (c : Dev nD) (t : Fin cfg0.N) (y : S256x2048.Idx) (i : S2048x2048.Idx) (h0 : (i 0).val = t.val * 256 + (y 0).val) (h1 : (i 1).val = (y 1).val) :
    part (iblk m c 0 t) (iblk m c 1 t) (iblk m c 2 t) (iblk m c 3 t) y
      = G (m ((c : Thread nD τ).loc main_arg0)) (m ((c : Thread nD τ).loc main_arg1)) (m ((c : Thread nD τ).loc main_arg2)) (m ((c : Thread nD τ).loc main_arg3)) i := by
  have e1 : i 1 = y 1 := Fin.ext h1
  unfold part G
  rw [e1]
  refine congrArg₂ (fun (a b : EReal) => a + b) (congrArg₂ (fun a b => Cert.Norm.dx len a b (y 1)) (funext fun k => ?_) (funext fun k => congrArg₂ (fun (a b : EReal) => a * b) ?_ ?_)) ?_ <;> blk_ext [iblk, idx t]

/-- The array after the call. -/
theorem final (c : Dev nD) : (dats m 0 c).arrAt 4 cfg0.N = G (m ((c : Thread nD τ).loc main_arg0)) (m ((c : Thread nD τ).loc main_arg1)) (m ((c : Thread nD τ).loc main_arg2)) (m ((c : Thread nD τ).loc main_arg3)) := by
  refine (dats m 0 c).arrAt_eq_of_covers 4 _ (by decide +kernel) fun t hf y => ?_
  blk_simp
  rw [after0_4]
  exact (stored m c t _).trans (part_eq m c t _ _ (by blk_point [idx t]) (by blk_point [idx t]))

/-- The array after the call. -/
theorem final' (c : Dev nD) : (dats m 0 c).arrAt 5 cfg0.N = G (m ((c : Thread nD τ).loc main_arg0)) (m ((c : Thread nD τ).loc main_arg1)) (m ((c : Thread nD τ).loc main_arg2)) (m ((c : Thread nD τ).loc main_arg3)) := by
  refine (dats m 0 c).arrAt_eq_of_covers 5 _ (by decide +kernel) fun t hf y => ?_
  blk_simp
  rw [after0_5]
  exact (stored' m c t _).trans (part_eq m c t _ _ (by blk_point [idx t]) (by blk_point [idx t]))

/-- The array after the call. -/
theorem final6 (c : Dev nD) : (dats m 0 c).arrAt 6 cfg0.N = G' (m ((c : Thread nD τ).loc main_arg0)) (m ((c : Thread nD τ).loc main_arg2)) := by
  refine (dats m 0 c).arrAt_eq_of_covers 6 _ (by decide +kernel) fun t hf y => ?_
  blk_simp
  rw [after0_6]
  have hl := (flush0_6 t).mp hf
  rw [total m c t hl]
  refine Fin.sum_mul_add_congr (n := 256) fun s k hk => ?_
  have hi := idx ⟨8 * (t.val / 8) + s.val, Pipeline.run_point_lt_of_flush t hl s⟩
  have ht : t.val < 8 := t.isLt
  have h0 : 8 * (t.val / 8) + s.val = s.val := by omega
  refine congrArg₂ (fun (a b : EReal) => a * b) (congrArg₂ (fun (a b : EReal) => a * b) ?_ (congrArg (Cert.Norm.inv len) (funext fun j => ?_))) ?_ <;> blk_ext [iblk, hi, idx t]

end Cert.Kernel16Ideal.RmsBwd

namespace Cert.Reference16Ideal.RmsBwd

open Cert.Reference16Ideal Cert.Reference16Ideal.Gen
open Idealize.ShloMosaic Idealize.ShloMosaic.TcCoe Idealize.ShloMosaic.Tactic Idealize.SL.Sem

set_option maxRecDepth 65536 in
set_option maxHeartbeats 4000000 in
/-- The reference's result is the same array. -/
theorem value (m : (ℓ : Loc nD τ sig) → Buf (Elt Ideal) ℓ) (c : Dev nD) :
    Value.res_main_v37 m c = Cert.Kernel16Ideal.RmsBwd.G (m ((c.tc : Thread nD τ).loc main_arg0)) (m ((c.tc : Thread nD τ).loc main_arg1)) (m ((c.tc : Thread nD τ).loc main_arg2)) (m ((c.tc : Thread nD τ).loc main_arg3)) := by
  funext i
  pointwise [Value.res_main_v37, Cert.Kernel16Ideal.RmsBwd.G, Cert.Norm.dx, Cert.Norm.sq, Cert.Norm.inv, Cert.Norm.ms]
  simp only [Fin.sum_univ_one]

theorem value' (m : (ℓ : Loc nD τ sig) → Buf (Elt Ideal) ℓ) (c : Dev nD) :
    Value.res_main_v38 m c = Cert.Kernel16Ideal.RmsBwd.G (m ((c.tc : Thread nD τ).loc main_arg0)) (m ((c.tc : Thread nD τ).loc main_arg1)) (m ((c.tc : Thread nD τ).loc main_arg2)) (m ((c.tc : Thread nD τ).loc main_arg3)) :=
  value m c

theorem value6 (a0 a2 : FVec Ideal S2048x2048 .f32) :
    broadcastInDim S1x2048 ![1] bcast_S2048_S1x2048_1 (Host.reduceAdd (shapeCast _ (Host.reduceAdd (mulf (mulf a0 (broadcastInDim S2048x2048 ![0, 1] bcast_S2048x1_S2048x2048_0_1 (Host.rsqrt (addf (Host.divf (broadcastInDim S2048x1 ![0] bcast_S2048_S2048x1_0 (Host.reduceAdd (mulf a0 a0) (constant S_ .f32 0x00000000#32) reducesTo_S2048x2048_S2048_d1 h_S_)) (broadcastInDim S2048x1 ![] bcast_S_S2048x1 (constant S_ .f32 0x45000000#32))) (broadcastInDim S2048x1 ![] bcast_S_S2048x1 (constant S_ .f32 0x358637BD#32)))))) a2) (constant S_ .f32 0x00000000#32) reducesTo_S2048x2048_S2048_d0 h_S_) shapeCasts_S2048_S1x2048) (constant S_ .f32 0x00000000#32) reducesTo_S1x2048_S2048_d0 h_S_) = Cert.Kernel16Ideal.RmsBwd.G' a0 a2 := by
  funext i
  pointwise [Cert.Kernel16Ideal.RmsBwd.G', Cert.Norm.inv, Cert.Norm.ms]
  simp only [Fin.sum_univ_one]

end Cert.Reference16Ideal.RmsBwd

end
-- ==== Proof.PostBwd.lean ====
module

public import Idealize.ShloMosaic.Lib.Pipeline.ValueKit
public import Idealize.ShloMosaic.Lib.Pipeline.ReadBack
public import Idealize.ShloMosaic.Lib.StableHlo.RunClose
public import proofs.«01_k».proof.Proof.Norm
public import proofs.«01_k».proof.Proof.Gate
public import proofs.«01_k».proof.Proof.Gen.Kernel17Ideal.Value
public import proofs.«01_k».proof.Proof.Gen.Reference17Ideal.Run

@[expose] public section

noncomputable section

/-! The gradient of the gated norm of the DeltaNet. -/

namespace Cert.Kernel17Ideal.PostBwd

open Cert.Kernel17Ideal Cert.Kernel17Ideal.Gen
open Idealize.ShloMosaic Idealize.ShloMosaic.TcCoe Idealize.ShloMosaic.Tactic Idealize.SL.Sem
open Idealize.ShloMosaic.Pipeline (Dat)

/-- The length of a row. -/
abbrev len : EReal := Ideal.ofBits FTy.f32 0x43000000#32

/-- The gate's column of the input projection, for a channel of the heads side by side. -/
def col (j : Fin 1024) : Fin 15488 := ⟨3072 + j.val, by omega⟩

/-- A channel's head. -/
def hd (j : Fin 1024) : Fin 8 := ⟨j.val / 128, by omega⟩

/-- A channel's place in its head. -/
def pl (j : Fin 1024) : Fin 128 := ⟨j.val % 128, by omega⟩

/-- The channel at a place of a head. -/
def ch (h : Fin 8) (k : Fin 128) : Fin 1024 := ⟨h.val * 128 + k.val, by omega⟩

/-- The gradient of the normed heads, entry by entry. -/
def up (z : S2048x15488.Idx → EReal) (d : S2048x1024.Idx → EReal) (r : Fin 2048) (j : Fin 1024) : EReal :=
  d (ix2 r j) * (z (ix2 r (col j)) * Cert.Gate.sig (z (ix2 r (col j))))

/-- The gradient of the heads. -/
def G (o : S8x2048x128.Idx → EReal) (z : S2048x15488.Idx → EReal) (g : S1x128.Idx → EReal) (d : S2048x1024.Idx → EReal) (i : S8x2048x128.Idx) : EReal :=
  Cert.Norm.dx len (fun k => o (ix3 (i 0) (i 1) k)) (fun k => up z d (i 1) (ch (i 0) k) * g (ix2 0 k)) (i 2)

/-- The gradient of the gate: the gate times its gradient's two terms, from the normed head times the gradient. -/
def gate (z p : EReal) : EReal := p * Cert.Gate.sig z + z * p * Cert.Gate.slope z

/-- The gradient of the gate, entry by entry. -/
def G1 (o : S8x2048x128.Idx → EReal) (z : S2048x15488.Idx → EReal) (g : S1x128.Idx → EReal) (d : S2048x1024.Idx → EReal) (i : S2048x1024.Idx) : EReal :=
  gate (z (ix2 (i 0) (col (i 1)))) (o (ix3 (hd (i 1)) (i 0) (pl (i 1))) * Cert.Norm.inv len (fun k => o (ix3 (hd (i 1)) (i 0) k)) * g (ix2 0 (pl (i 1))) * d (ix2 (i 0) (i 1)))

/-- The gradient of the gain, entry by entry: a sum over the heads and the positions. -/
def G2 (o : S8x2048x128.Idx → EReal) (z : S2048x15488.Idx → EReal) (d : S2048x1024.Idx → EReal) (i : S1x128.Idx) : EReal :=
  ∑ q : Fin 16384, o (ix3 ⟨q.val / 2048, by omega⟩ ⟨q.val % 2048, by omega⟩ (i 1)) * Cert.Norm.inv len (fun k => o (ix3 ⟨q.val / 2048, by omega⟩ ⟨q.val % 2048, by omega⟩ k))
    * up z d ⟨q.val % 2048, by omega⟩ (ch ⟨q.val / 2048, by omega⟩ (i 1))

/-- The gradient of the normed heads in a block. -/
def bup (z d : S512x128.Idx → EReal) (r : Fin 512) (k : Fin 128) : EReal := d (ix2 r k) * (z (ix2 r k) * Cert.Gate.sig (z (ix2 r k)))

/-- What a grid point stores of the first. -/
def part (o : S1x512x128.Idx → EReal) (z : S512x128.Idx → EReal) (g : S1x128.Idx → EReal) (d : S512x128.Idx → EReal) (y : S1x512x128.Idx) : EReal :=
  Cert.Norm.dx len (fun k => o (ix3 0 (y 1) k)) (fun k => bup z d (y 1) k * g (ix2 0 k)) (y 2)

/-- What a grid point stores of the second. -/
def part1 (o : S1x512x128.Idx → EReal) (z : S512x128.Idx → EReal) (g : S1x128.Idx → EReal) (d : S512x128.Idx → EReal) (y : S512x128.Idx) : EReal :=
  gate (z (ix2 (y 0) (y 1))) (o (ix3 0 (y 0) (y 1)) * Cert.Norm.inv len (fun k => o (ix3 0 (y 0) k)) * g (ix2 0 (y 1)) * d (ix2 (y 0) (y 1)))

/-- What a grid point adds to the third. -/
def part2 (o : S1x512x128.Idx → EReal) (z d : S512x128.Idx → EReal) (y : S1x128.Idx) : EReal :=
  ∑ r : Fin 512, o (ix3 0 r (y 1)) * Cert.Norm.inv len (fun k => o (ix3 0 r k)) * bup z d r (y 1)

theorem pay14 (o : Vec Ideal S1x512x128 .f32) (z : Vec Ideal S512x128 .f32) (g : Vec Ideal S1x128 .f32) (d : Vec Ideal S512x128 .f32) (y : S1x512x128.Idx) :
    k0_pay14 (F := Ideal) (k0_pay1 o) g (k0_pay3 o) (k0_pay4 o) (k0_pay10 z d) y = part o z g d y := by
  obtain ⟨r, k, rfl⟩ : ∃ (r : Fin 512) (k : Fin 128), y = ix3 0 r k := ⟨y 1, y 2, funext fun a => by fin_cases a <;> first | rfl | exact Fin.ext (by have h : (y 0).val < 1 := (y 0).isLt; show (y 0).val = 0; omega)⟩
  pointwise [k0_pay14, k0_pay1, k0_pay2, k0_pay3, k0_pay4, k0_pay5, k0_pay6, k0_pay7, k0_pay8, k0_pay9, k0_pay10, k0_pay11, k0_pay12, k0_pay13, part, bup, Cert.Gate.sig, Cert.Norm.dx, Cert.Norm.sq, Cert.Norm.inv, Cert.Norm.ms]
  simp only [Fin.sum_univ_one, zero_sub]

theorem pay15 (o : Vec Ideal S1x512x128 .f32) (z : Vec Ideal S512x128 .f32) (g : Vec Ideal S1x128 .f32) (d : Vec Ideal S512x128 .f32) (y : S512x128.Idx) :
    k0_pay15 (F := Ideal) (k0_pay6 z) (k0_pay11 o z g d) (k0_pay12 o z g d) k0_pay13 y = part1 o z g d y := by
  rw [part1, gate, ← Cert.Gate.neg_slope, Cert.Gate.sig, ← zero_sub (z _)]
  pointwise [k0_pay15, k0_pay1, k0_pay2, k0_pay3, k0_pay4, k0_pay5, k0_pay6, k0_pay7, k0_pay8, k0_pay9, k0_pay10, k0_pay11, k0_pay12, k0_pay13, Cert.Norm.inv, Cert.Norm.ms]

theorem pay17 (o : Vec Ideal S1x512x128 .f32) (z d : Vec Ideal S512x128 .f32) (a : Vec Ideal S1x128 .f32) (y : S1x128.Idx) :
    k0_pay17 (F := Ideal) (k0_pay5 o) (k0_pay10 z d) a y = (a y + part2 o z d y : EReal) := by
  pointwise [k0_pay17, k0_pay1, k0_pay2, k0_pay3, k0_pay4, k0_pay5, k0_pay6, k0_pay7, k0_pay8, k0_pay9, k0_pay10, k0_pay11, k0_pay12, k0_pay13, part2, bup, Cert.Gate.sig, Cert.Norm.inv, Cert.Norm.ms]
  simp only [zero_sub]

variable (m : (ℓ : Loc nD τ sig) → Buf (Elt Ideal) ℓ)

theorem stored (c : Dev nD) (t : Fin cfg0.N) (y : S1x512x128.Idx) : (outsAt0 m c t.val t.isLt).1 y = part (iblk m c 0 t) (iblk m c 1 t) (iblk m c 2 t) (iblk m c 3 t) y := by
  by_cases h : t.val % 32 = 0
  · rw [outsAt0_A m c t h]; frame_out; exact pay14 _ _ _ _ _
  · rw [outsAt0_B m c t h]; frame_out; exact pay14 _ _ _ _ _

theorem stored1 (c : Dev nD) (t : Fin cfg0.N) (y : S512x128.Idx) : (outsAt0 m c t.val t.isLt).2.1 y = part1 (iblk m c 0 t) (iblk m c 1 t) (iblk m c 2 t) (iblk m c 3 t) y := by
  by_cases h : t.val % 32 = 0
  · rw [outsAt0_A m c t h]; frame_out; exact pay15 _ _ _ _ _
  · rw [outsAt0_B m c t h]; frame_out; exact pay15 _ _ _ _ _

/-- The first point starts from zero. -/
theorem first (c : Dev nD) (t : Fin cfg0.N) (h : t.val % 32 = 0) (y : S1x128.Idx) :
    (outsAt0 m c t.val t.isLt).2.2 y = (0 + part2 (iblk m c 0 t) (iblk m c 1 t) (iblk m c 3 t) y : EReal) := by
  rw [outsAt0_A m c t h]
  frame_out
  refine (pay17 _ _ _ _ y).trans (congrArg (fun a : EReal => a + _) ?_)
  pointwise [k0_pay16]

/-- Every later point adds its own. -/
theorem later (c : Dev nD) (t : Fin cfg0.N) (h : ¬t.val % 32 = 0) (y : S1x128.Idx) :
    (outsAt0 m c t.val t.isLt).2.2 y
      = ((outsAt0 m c (t.val - 1) (Nat.lt_of_le_of_lt (Nat.sub_le _ _) t.isLt)).2.2 y + part2 (iblk m c 0 t) (iblk m c 1 t) (iblk m c 3 t) y : EReal) := by
  rw [outsAt0_B m c t h]
  frame_out
  exact pay17 _ _ _ _ y

theorem total (c : Dev nD) (t : Fin cfg0.N) (h : t.val % 32 = 31) (y : S1x128.Idx) :
    (outsAt0 m c t.val t.isLt).2.2 y
      = (∑ s : Fin 32, part2 (iblk m c 0 ⟨32 * (t.val / 32) + s.val, Pipeline.run_point_lt_of_flush t h s⟩) (iblk m c 1 ⟨32 * (t.val / 32) + s.val, Pipeline.run_point_lt_of_flush t h s⟩)
          (iblk m c 3 ⟨32 * (t.val / 32) + s.val, Pipeline.run_point_lt_of_flush t h s⟩) y : EReal) := by
  refine (Pipeline.eq_sum_fin_of_reset_step_apply_of_flush (M := EReal) (fun n h => (outsAt0 m c n h).2.2) 32 (fun _ => 0)
    (fun p y => part2 (iblk m c 0 p) (iblk m c 1 p) (iblk m c 3 p) y) (first m c) (later m c) t h y).trans ?_
  exact zero_add _

theorem idx : ∀ t : Fin cfg0.N, win0_0.index t = ![t.val / 4, t.val % 4, 0] ∧ win0_1.index t = ![t.val % 4, 24 + t.val / 4] ∧ win0_2.index t = ![0, 0] ∧ win0_3.index t = ![t.val % 4, t.val / 4]
    ∧ win0_4.index t = ![t.val / 4, t.val % 4, 0] ∧ win0_5.index t = ![t.val % 4, t.val / 4] ∧ win0_6.index t = ![0, 0] :=
  (by decide +kernel : ∀ t : Fin grid0.N, _)

/-- A block's gradient of the normed heads. -/
theorem bup_eq (c : Dev nD) (t : Fin cfg0.N) (r : Fin 512) (k : Fin 128) (r' : Fin 2048) (j : Fin 1024) (hr : r'.val = t.val % 4 * 512 + r.val) (hj : j.val = t.val / 4 * 128 + k.val) :
    bup (iblk m c 1 t) (iblk m c 3 t) r k = up (m ((c : Thread nD τ).loc main_arg1)) (m ((c : Thread nD τ).loc main_arg3)) r' j := by
  unfold bup up
  refine congrArg₂ (fun (a b : EReal) => a * b) ?_ (congrArg (fun a : EReal => a * Cert.Gate.sig a) ?_) <;> blk_ext [iblk, idx t, col]

/-- The array after the call. -/
theorem final (c : Dev nD) : (dats m 0 c).arrAt 4 cfg0.N = G (m ((c : Thread nD τ).loc main_arg0)) (m ((c : Thread nD τ).loc main_arg1)) (m ((c : Thread nD τ).loc main_arg2)) (m ((c : Thread nD τ).loc main_arg3)) := by
  refine (dats m 0 c).arrAt_eq_of_covers 4 _ (by decide +kernel) fun t hf y => ?_
  blk_simp
  rw [after0_4]
  refine (stored m c t _).trans ?_
  obtain ⟨i, hi, h0, h1, h2⟩ : ∃ i : S8x2048x128.Idx, (win0_4.blk t).view.emb y = i ∧ (i 0).val = t.val / 4 ∧ (i 1).val = t.val % 4 * 512 + (y 1).val ∧ (i 2).val = (y 2).val :=
    ⟨_, rfl, by have := (y 0).isLt; blk_point [idx t], by blk_point [idx t], by blk_point [idx t]⟩
  rw [hi]
  have e : i 2 = y 2 := Fin.ext h2
  unfold part G
  rw [e]
  refine congrArg₂ (fun a b => Cert.Norm.dx len a b (y 2)) (funext fun k => ?_) (funext fun k => congrArg₂ (fun (a b : EReal) => a * b) ?_ ?_)
  · blk_ext [iblk, idx t]
  · exact bup_eq m c t _ _ _ _ h1 (by simp only [ch, h0])
  · blk_ext [iblk, idx t]

/-- The array after the call. -/
theorem final1 (c : Dev nD) : (dats m 0 c).arrAt 5 cfg0.N = G1 (m ((c : Thread nD τ).loc main_arg0)) (m ((c : Thread nD τ).loc main_arg1)) (m ((c : Thread nD τ).loc main_arg2)) (m ((c : Thread nD τ).loc main_arg3)) := by
  refine (dats m 0 c).arrAt_eq_of_covers 5 _ (by decide +kernel) fun t hf y => ?_
  blk_simp
  rw [after0_5]
  refine (stored1 m c t _).trans ?_
  refine congrArg₂ gate ?_ (congrArg₂ (fun (a b : EReal) => a * b) (congrArg₂ (fun (a b : EReal) => a * b) (congrArg₂ (fun (a b : EReal) => a * b) ?_ (congrArg (Cert.Norm.inv len) (funext fun k => ?_))) ?_) ?_) <;> blk_ext [iblk, idx t, hd, pl, col]

/-- The array after the call. -/
theorem final2 (c : Dev nD) : (dats m 0 c).arrAt 6 cfg0.N = G2 (m ((c : Thread nD τ).loc main_arg0)) (m ((c : Thread nD τ).loc main_arg1)) (m ((c : Thread nD τ).loc main_arg3)) := by
  refine (dats m 0 c).arrAt_eq_of_covers 6 _ (by decide +kernel) fun t hf y => ?_
  blk_simp
  rw [after0_6]
  have hl := (flush0_6 t).mp hf
  rw [total m c t hl]
  refine Fin.sum_mul_add_congr (n := 512) fun s k hk => ?_
  have hi := idx ⟨32 * (t.val / 32) + s.val, Pipeline.run_point_lt_of_flush t hl s⟩
  have ht : t.val < 32 := t.isLt
  have h0 : 32 * (t.val / 32) + s.val = s.val := by omega
  refine congrArg₂ (fun (a b : EReal) => a * b) (congrArg₂ (fun (a b : EReal) => a * b) ?_ (congrArg (Cert.Norm.inv len) (funext fun j => ?_))) (bup_eq m c _ _ _ _ _ ?_ ?_)
  · blk_ext [iblk, hi, idx t]
  · blk_ext [iblk, hi, idx t]
  · show (s.val * 512 + k.val) % 2048 = (32 * (t.val / 32) + s.val) % 4 * 512 + k.val
    omega
  · have e : ((win0_6.blk t).view.emb y 1).val = (y 1).val := by blk_point [idx t]
    show (s.val * 512 + k.val) / 2048 * 128 + ((win0_6.blk t).view.emb y 1).val = (32 * (t.val / 32) + s.val) / 4 * 128 + (y 1).val
    rw [e]
    omega

end Cert.Kernel17Ideal.PostBwd

namespace Cert.Reference17Ideal.PostBwd

open Cert.Reference17Ideal Cert.Reference17Ideal.Gen
open Idealize.ShloMosaic Idealize.ShloMosaic.TcCoe Idealize.ShloMosaic.Tactic Idealize.SL.Sem

set_option maxRecDepth 65536 in
set_option maxHeartbeats 4000000 in
/-- The reference's result is the same array. -/
theorem value (m : (ℓ : Loc nD τ sig) → Buf (Elt Ideal) ℓ) (c : Dev nD) :
    Value.res_main_v48 m c = Cert.Kernel17Ideal.PostBwd.G (m ((c.tc : Thread nD τ).loc main_arg0)) (m ((c.tc : Thread nD τ).loc main_arg1)) (m ((c.tc : Thread nD τ).loc main_arg2)) (m ((c.tc : Thread nD τ).loc main_arg3)) := by
  funext i
  pointwise [Value.res_main_v48, Cert.Kernel17Ideal.PostBwd.G, Cert.Kernel17Ideal.PostBwd.up, Cert.Kernel17Ideal.PostBwd.ch, Cert.Kernel17Ideal.PostBwd.col, Cert.Gate.sig, Cert.Norm.dx, Cert.Norm.sq, Cert.Norm.inv, Cert.Norm.ms]
  simp only [Fin.sum_univ_one]

set_option maxRecDepth 65536 in
set_option maxHeartbeats 4000000 in
theorem value1 (a0 : FVec Ideal S8x2048x128 .f32) (a1 : FVec Ideal S2048x15488 .f32) (a2 : FVec Ideal S1x128 .f32) (a3 : FVec Ideal S2048x1024 .f32) :
    truncf .bf16 (shapeCast _ (addf (mulf (mulf (mulf (mulf (transpose S2048x8x128 [1, 0, 2] a0 transposes_S8x2048x128_S2048x8x128_1_0_2) (broadcastInDim S2048x8x128 ![0, 1, 2] bcast_S2048x8x1_S2048x8x128_0_1_2 (Host.rsqrt (addf (Host.divf (broadcastInDim S2048x8x1 ![0, 1] bcast_S2048x8_S2048x8x1_0_1 (Host.reduceAdd (mulf (transpose S2048x8x128 [1, 0, 2] a0 transposes_S8x2048x128_S2048x8x128_1_0_2) (transpose S2048x8x128 [1, 0, 2] a0 transposes_S8x2048x128_S2048x8x128_1_0_2)) (constant S_ .f32 0x00000000#32) reducesTo_S2048x8x128_S2048x8_d2 h_S_)) (broadcastInDim S2048x8x1 ![] bcast_S_S2048x8x1 (constant S_ .f32 0x43000000#32))) (broadcastInDim S2048x8x1 ![] bcast_S_S2048x8x1 (constant S_ .f32 0x358637BD#32)))))) (broadcastInDim S2048x8x128 ![0, 1, 2] bcast_S1x1x128_S2048x8x128_0_1_2 (broadcastInDim S1x1x128 ![2] bcast_S128_S1x1x128_2 (shapeCast _ a2 shapeCasts_S1x128_S128)))) (shapeCast _ a3 shapeCasts_S2048x1024_S2048x8x128)) (Host.divf (broadcastInDim S2048x8x128 ![] bcast_S_S2048x8x128 (constant S_ .f32 0x3F800000#32)) (addf (broadcastInDim S2048x8x128 ![] bcast_S_S2048x8x128 (constant S_ .f32 0x3F800000#32)) (Host.exp (Host.negf (shapeCast _ (extractStridedSlice S2048x1024 ![0, 3072] a1 slices_S2048x15488_S2048x1024_0_3072) shapeCasts_S2048x1024_S2048x8x128)))))) (mulf (mulf (shapeCast _ (extractStridedSlice S2048x1024 ![0, 3072] a1 slices_S2048x15488_S2048x1024_0_3072) shapeCasts_S2048x1024_S2048x8x128) (mulf (mulf (mulf (transpose S2048x8x128 [1, 0, 2] a0 transposes_S8x2048x128_S2048x8x128_1_0_2) (broadcastInDim S2048x8x128 ![0, 1, 2] bcast_S2048x8x1_S2048x8x128_0_1_2 (Host.rsqrt (addf (Host.divf (broadcastInDim S2048x8x1 ![0, 1] bcast_S2048x8_S2048x8x1_0_1 (Host.reduceAdd (mulf (transpose S2048x8x128 [1, 0, 2] a0 transposes_S8x2048x128_S2048x8x128_1_0_2) (transpose S2048x8x128 [1, 0, 2] a0 transposes_S8x2048x128_S2048x8x128_1_0_2)) (constant S_ .f32 0x00000000#32) reducesTo_S2048x8x128_S2048x8_d2 h_S_)) (broadcastInDim S2048x8x1 ![] bcast_S_S2048x8x1 (constant S_ .f32 0x43000000#32))) (broadcastInDim S2048x8x1 ![] bcast_S_S2048x8x1 (constant S_ .f32 0x358637BD#32)))))) (broadcastInDim S2048x8x128 ![0, 1, 2] bcast_S1x1x128_S2048x8x128_0_1_2 (broadcastInDim S1x1x128 ![2] bcast_S128_S1x1x128_2 (shapeCast _ a2 shapeCasts_S1x128_S128)))) (shapeCast _ a3 shapeCasts_S2048x1024_S2048x8x128))) (mulf (Host.divf (broadcastInDim S2048x8x128 ![] bcast_S_S2048x8x128 (constant S_ .f32 0x3F800000#32)) (addf (broadcastInDim S2048x8x128 ![] bcast_S_S2048x8x128 (constant S_ .f32 0x3F800000#32)) (Host.exp (Host.negf (shapeCast _ (extractStridedSlice S2048x1024 ![0, 3072] a1 slices_S2048x15488_S2048x1024_0_3072) shapeCasts_S2048x1024_S2048x8x128))))) (subf (broadcastInDim S2048x8x128 ![] bcast_S_S2048x8x128 (constant S_ .f32 0x3F800000#32)) (Host.divf (broadcastInDim S2048x8x128 ![] bcast_S_S2048x8x128 (constant S_ .f32 0x3F800000#32)) (addf (broadcastInDim S2048x8x128 ![] bcast_S_S2048x8x128 (constant S_ .f32 0x3F800000#32)) (Host.exp (Host.negf (shapeCast _ (extractStridedSlice S2048x1024 ![0, 3072] a1 slices_S2048x15488_S2048x1024_0_3072) shapeCasts_S2048x1024_S2048x8x128))))))))) shapeCasts_S2048x8x128_S2048x1024) bitsLt_bf16_f32 = Cert.Kernel17Ideal.PostBwd.G1 a0 a1 a2 a3 := by
  funext i
  pointwise [Cert.Kernel17Ideal.PostBwd.G1, Cert.Kernel17Ideal.PostBwd.gate, Cert.Kernel17Ideal.PostBwd.hd, Cert.Kernel17Ideal.PostBwd.pl, Cert.Kernel17Ideal.PostBwd.col, Cert.Gate.slope, Cert.Gate.sig, Cert.Norm.inv, Cert.Norm.ms]

set_option maxHeartbeats 4000000 in
theorem value2 (a0 : FVec Ideal S8x2048x128 .f32) (a1 : FVec Ideal S2048x15488 .f32) (a3 : FVec Ideal S2048x1024 .f32) :
    broadcastInDim S1x128 ![1] bcast_S128_S1x128_1 (Host.reduceAdd (shapeCast _ (Host.reduceAdd (mulf (mulf (transpose S2048x8x128 [1, 0, 2] a0 transposes_S8x2048x128_S2048x8x128_1_0_2) (broadcastInDim S2048x8x128 ![0, 1, 2] bcast_S2048x8x1_S2048x8x128_0_1_2 (Host.rsqrt (addf (Host.divf (broadcastInDim S2048x8x1 ![0, 1] bcast_S2048x8_S2048x8x1_0_1 (Host.reduceAdd (mulf (transpose S2048x8x128 [1, 0, 2] a0 transposes_S8x2048x128_S2048x8x128_1_0_2) (transpose S2048x8x128 [1, 0, 2] a0 transposes_S8x2048x128_S2048x8x128_1_0_2)) (constant S_ .f32 0x00000000#32) reducesTo_S2048x8x128_S2048x8_d2 h_S_)) (broadcastInDim S2048x8x1 ![] bcast_S_S2048x8x1 (constant S_ .f32 0x43000000#32))) (broadcastInDim S2048x8x1 ![] bcast_S_S2048x8x1 (constant S_ .f32 0x358637BD#32)))))) (mulf (shapeCast _ a3 shapeCasts_S2048x1024_S2048x8x128) (mulf (shapeCast _ (extractStridedSlice S2048x1024 ![0, 3072] a1 slices_S2048x15488_S2048x1024_0_3072) shapeCasts_S2048x1024_S2048x8x128) (Host.divf (broadcastInDim S2048x8x128 ![] bcast_S_S2048x8x128 (constant S_ .f32 0x3F800000#32)) (addf (broadcastInDim S2048x8x128 ![] bcast_S_S2048x8x128 (constant S_ .f32 0x3F800000#32)) (Host.exp (Host.negf (shapeCast _ (extractStridedSlice S2048x1024 ![0, 3072] a1 slices_S2048x15488_S2048x1024_0_3072) shapeCasts_S2048x1024_S2048x8x128)))))))) (constant S_ .f32 0x00000000#32) reducesTo_S2048x8x128_S128_d0_1 h_S_) shapeCasts_S128_S1x1x128) (constant S_ .f32 0x00000000#32) reducesTo_S1x1x128_S128_d0_1 h_S_) = Cert.Kernel17Ideal.PostBwd.G2 a0 a1 a3 := by
  funext i
  pointwise [Cert.Norm.reduce01]
  simp only [Finset.univ_unique, Finset.sum_singleton]
  rw [Finset.sum_comm]
  refine Fin.sum_mul_add_congr (n := 2048) fun h r hk => ?_
  have e1 : (h.val * 2048 + r.val) / 2048 = h.val := by omega
  have e2 : (h.val * 2048 + r.val) % 2048 = r.val := by omega
  simp only [e1, e2]
  pointwise [Cert.Kernel17Ideal.PostBwd.up, Cert.Kernel17Ideal.PostBwd.ch, Cert.Kernel17Ideal.PostBwd.col, Cert.Gate.sig, Cert.Norm.inv, Cert.Norm.ms]

end Cert.Reference17Ideal.PostBwd

end
-- ==== Proof.HeadsBwd.lean ====
module

public import Idealize.ShloMosaic.Lib.Pipeline.ValueKit
public import Idealize.ShloMosaic.Lib.Pipeline.ReadBack
public import Idealize.ShloMosaic.Lib.StableHlo.RunClose
public import proofs.«01_k».proof.Proof.Norm
public import proofs.«01_k».proof.Proof.Gen.Kernel18Ideal.Value
public import proofs.«01_k».proof.Proof.Gen.Reference18Ideal.Run

@[expose] public section

noncomputable section

/-! The gradient of the norms of the heads of q and k. -/

namespace Cert.Kernel18Ideal.HeadsBwd

open Cert.Kernel18Ideal Cert.Kernel18Ideal.Gen
open Idealize.ShloMosaic Idealize.ShloMosaic.TcCoe Idealize.ShloMosaic.Tactic Idealize.SL.Sem
open Idealize.ShloMosaic.Pipeline (Dat)

/-- The length of a row. -/
abbrev len : EReal := Ideal.ofBits FTy.f32 0x43000000#32

/-- The column of the input projection, for a channel of the heads side by side: `s` is 0 for q and 1 for k. -/
def col (s : Fin 2) (j : Fin 1024) : Fin 15488 := ⟨6144 + 1024 * s.val + j.val, by omega⟩

/-- A channel's head. -/
def hd (j : Fin 1024) : Fin 8 := ⟨j.val / 128, by omega⟩

/-- A channel's place in its head. -/
def pl (j : Fin 1024) : Fin 128 := ⟨j.val % 128, by omega⟩

/-- The channel at a place of a head. -/
def ch (h : Fin 8) (k : Fin 128) : Fin 1024 := ⟨h.val * 128 + k.val, by omega⟩

/-- The gradient of the heads' input, entry by entry. -/
def G (s : Fin 2) (z : S2048x15488.Idx → EReal) (g : S1x128.Idx → EReal) (d : S8x2048x128.Idx → EReal) (i : S2048x1024.Idx) : EReal :=
  Cert.Norm.dx len (fun k => z (ix2 (i 0) (col s (ch (hd (i 1)) k)))) (fun k => d (ix3 (hd (i 1)) (i 0) k) * g (ix2 0 k)) (pl (i 1))

/-- The gradient of the gain, entry by entry: a sum over the heads and the positions. -/
def G2 (s : Fin 2) (z : S2048x15488.Idx → EReal) (d : S8x2048x128.Idx → EReal) (i : S1x128.Idx) : EReal :=
  ∑ q : Fin 16384, z (ix2 ⟨q.val % 2048, by omega⟩ (col s (ch ⟨q.val / 2048, by omega⟩ (i 1)))) * Cert.Norm.inv len (fun k => z (ix2 ⟨q.val % 2048, by omega⟩ (col s (ch ⟨q.val / 2048, by omega⟩ k))))
    * d (ix3 ⟨q.val / 2048, by omega⟩ ⟨q.val % 2048, by omega⟩ (i 1))

/-- The heads side by side. -/
def G3 (d : S8x2048x128.Idx → EReal) (i : S2048x1024.Idx) : EReal := d (ix3 (hd (i 1)) (i 0) (pl (i 1)))

/-- What a grid point stores of the first two. -/
def part (x : S512x128.Idx → EReal) (g : S1x128.Idx → EReal) (d : S1x512x128.Idx → EReal) (y : S512x128.Idx) : EReal :=
  Cert.Norm.dx len (fun k => x (ix2 (y 0) k)) (fun k => d (ix3 0 (y 0) k) * g (ix2 0 k)) (y 1)

/-- What a grid point adds to the gradient of a gain. -/
def part2 (x : S512x128.Idx → EReal) (d : S1x512x128.Idx → EReal) (y : S1x128.Idx) : EReal :=
  ∑ r : Fin 512, x (ix2 r (y 1)) * Cert.Norm.inv len (fun k => x (ix2 r k)) * d (ix3 0 r (y 1))

theorem pay_q (x : Vec Ideal S512x128 .f32) (g : Vec Ideal S1x128 .f32) (d : Vec Ideal S1x512x128 .f32) (y : S512x128.Idx) :
    k0_pay18 (F := Ideal) x g (k0_pay7 x) (k0_pay8 x) (k0_pay13 d) y = part x g d y := by
  obtain ⟨r, k, rfl⟩ : ∃ (r : Fin 512) (k : Fin 128), y = ix2 r k := ⟨y 0, y 1, funext fun a => by fin_cases a <;> rfl⟩
  pointwise [k0_pay18, k0_pay6, k0_pay7, k0_pay8, k0_pay9, k0_pay10, k0_pay11, k0_pay12, k0_pay13, k0_pay14, k0_pay15, k0_pay16, k0_pay17, part, Cert.Norm.dx, Cert.Norm.sq, Cert.Norm.inv, Cert.Norm.ms]
  simp only [Fin.sum_univ_one]

theorem gain_q (x : Vec Ideal S512x128 .f32) (d : Vec Ideal S1x512x128 .f32) (a : Vec Ideal S1x128 .f32) (y : S1x128.Idx) :
    k0_pay4 (F := Ideal) (k0_pay17 (k0_pay9 x) (k0_pay13 d)) a y = (a y + part2 x d y : EReal) := by
  pointwise [k0_pay4, k0_pay6, k0_pay7, k0_pay8, k0_pay9, k0_pay10, k0_pay11, k0_pay12, k0_pay13, k0_pay14, k0_pay15, k0_pay16, k0_pay17, part2, Cert.Norm.inv, Cert.Norm.ms]

theorem pay_k (x : Vec Ideal S512x128 .f32) (g : Vec Ideal S1x128 .f32) (d : Vec Ideal S1x512x128 .f32) (y : S512x128.Idx) :
    k0_pay19 (F := Ideal) x g (k0_pay11 x) (k0_pay12 x) (k0_pay14 d) y = part x g d y := by
  obtain ⟨r, k, rfl⟩ : ∃ (r : Fin 512) (k : Fin 128), y = ix2 r k := ⟨y 0, y 1, funext fun a => by fin_cases a <;> rfl⟩
  pointwise [k0_pay19, k0_pay6, k0_pay7, k0_pay8, k0_pay9, k0_pay10, k0_pay11, k0_pay12, k0_pay13, k0_pay14, k0_pay15, k0_pay16, k0_pay17, part, Cert.Norm.dx, Cert.Norm.sq, Cert.Norm.inv, Cert.Norm.ms]
  simp only [Fin.sum_univ_one]

theorem gain_k (x : Vec Ideal S512x128 .f32) (d : Vec Ideal S1x512x128 .f32) (a : Vec Ideal S1x128 .f32) (y : S1x128.Idx) :
    k0_pay5 (F := Ideal) (k0_pay16 (k0_pay15 x d)) a y = (a y + part2 x d y : EReal) := by
  pointwise [k0_pay5, k0_pay6, k0_pay7, k0_pay8, k0_pay9, k0_pay10, k0_pay11, k0_pay12, k0_pay13, k0_pay14, k0_pay15, k0_pay16, k0_pay17, part2, Cert.Norm.inv, Cert.Norm.ms]

theorem pay_v (d : Vec Ideal S1x512x128 .f32) (y : S512x128.Idx) : k0_pay1 (F := Ideal) d y = (d (ix3 0 (y 0) (y 1)) : EReal) := by
  pointwise [k0_pay1]

variable (m : (ℓ : Loc nD τ sig) → Buf (Elt Ideal) ℓ)

theorem stored_q (c : Dev nD) (t : Fin cfg0.N) (y : S512x128.Idx) : (outsAt0 m c t.val t.isLt).1 y = part (iblk m c 0 t) (iblk m c 2 t) (iblk m c 4 t) y := by
  by_cases h : t.val % 32 = 0
  · rw [outsAt0_A m c t h]; frame_out; exact pay_q _ _ _ _
  · rw [outsAt0_B m c t h]; frame_out; exact pay_q _ _ _ _

/-- The first point starts from zero. -/
theorem first_q (c : Dev nD) (t : Fin cfg0.N) (h : t.val % 32 = 0) (y : S1x128.Idx) : (outsAt0 m c t.val t.isLt).2.2.2.1 y = (0 + part2 (iblk m c 0 t) (iblk m c 4 t) y : EReal) := by
  rw [outsAt0_A m c t h]
  frame_out
  refine (gain_q _ _ _ y).trans (congrArg (fun a : EReal => a + _) ?_)
  pointwise [k0_pay2]

/-- Every later point adds its own. -/
theorem later_q (c : Dev nD) (t : Fin cfg0.N) (h : ¬t.val % 32 = 0) (y : S1x128.Idx) :
    (outsAt0 m c t.val t.isLt).2.2.2.1 y = ((outsAt0 m c (t.val - 1) (Nat.lt_of_le_of_lt (Nat.sub_le _ _) t.isLt)).2.2.2.1 y + part2 (iblk m c 0 t) (iblk m c 4 t) y : EReal) := by
  rw [outsAt0_B m c t h]
  frame_out
  exact gain_q _ _ _ y

theorem total_q (c : Dev nD) (t : Fin cfg0.N) (h : t.val % 32 = 31) (y : S1x128.Idx) :
    (outsAt0 m c t.val t.isLt).2.2.2.1 y = (∑ s : Fin 32, part2 (iblk m c 0 ⟨32 * (t.val / 32) + s.val, Pipeline.run_point_lt_of_flush t h s⟩) (iblk m c 4 ⟨32 * (t.val / 32) + s.val, Pipeline.run_point_lt_of_flush t h s⟩) y : EReal) := by
  refine (Pipeline.eq_sum_fin_of_reset_step_apply_of_flush (M := EReal) (fun n h => (outsAt0 m c n h).2.2.2.1) 32 (fun _ => 0)
    (fun p y => part2 (iblk m c 0 p) (iblk m c 4 p) y) (first_q m c) (later_q m c) t h y).trans ?_
  exact zero_add _

theorem stored_k (c : Dev nD) (t : Fin cfg0.N) (y : S512x128.Idx) : (outsAt0 m c t.val t.isLt).2.1 y = part (iblk m c 1 t) (iblk m c 3 t) (iblk m c 5 t) y := by
  by_cases h : t.val % 32 = 0
  · rw [outsAt0_A m c t h]; frame_out; exact pay_k _ _ _ _
  · rw [outsAt0_B m c t h]; frame_out; exact pay_k _ _ _ _

/-- The first point starts from zero. -/
theorem first_k (c : Dev nD) (t : Fin cfg0.N) (h : t.val % 32 = 0) (y : S1x128.Idx) : (outsAt0 m c t.val t.isLt).2.2.2.2 y = (0 + part2 (iblk m c 1 t) (iblk m c 5 t) y : EReal) := by
  rw [outsAt0_A m c t h]
  frame_out
  refine (gain_k _ _ _ y).trans (congrArg (fun a : EReal => a + _) ?_)
  pointwise [k0_pay3]

/-- Every later point adds its own. -/
theorem later_k (c : Dev nD) (t : Fin cfg0.N) (h : ¬t.val % 32 = 0) (y : S1x128.Idx) :
    (outsAt0 m c t.val t.isLt).2.2.2.2 y = ((outsAt0 m c (t.val - 1) (Nat.lt_of_le_of_lt (Nat.sub_le _ _) t.isLt)).2.2.2.2 y + part2 (iblk m c 1 t) (iblk m c 5 t) y : EReal) := by
  rw [outsAt0_B m c t h]
  frame_out
  exact gain_k _ _ _ y

theorem total_k (c : Dev nD) (t : Fin cfg0.N) (h : t.val % 32 = 31) (y : S1x128.Idx) :
    (outsAt0 m c t.val t.isLt).2.2.2.2 y = (∑ s : Fin 32, part2 (iblk m c 1 ⟨32 * (t.val / 32) + s.val, Pipeline.run_point_lt_of_flush t h s⟩) (iblk m c 5 ⟨32 * (t.val / 32) + s.val, Pipeline.run_point_lt_of_flush t h s⟩) y : EReal) := by
  refine (Pipeline.eq_sum_fin_of_reset_step_apply_of_flush (M := EReal) (fun n h => (outsAt0 m c n h).2.2.2.2) 32 (fun _ => 0)
    (fun p y => part2 (iblk m c 1 p) (iblk m c 5 p) y) (first_k m c) (later_k m c) t h y).trans ?_
  exact zero_add _

theorem stored_v (c : Dev nD) (t : Fin cfg0.N) (y : S512x128.Idx) : (outsAt0 m c t.val t.isLt).2.2.1 y = (iblk m c 6 t (ix3 0 (y 0) (y 1)) : EReal) := by
  by_cases h : t.val % 32 = 0
  · rw [outsAt0_A m c t h]; frame_out; exact pay_v _ _
  · rw [outsAt0_B m c t h]; frame_out; exact pay_v _ _

theorem idx : ∀ t : Fin cfg0.N, win0_0.index t = ![t.val % 4, 48 + t.val / 4] ∧ win0_1.index t = ![t.val % 4, 56 + t.val / 4] ∧ win0_2.index t = ![0, 0] ∧ win0_3.index t = ![0, 0]
    ∧ win0_4.index t = ![t.val / 4, t.val % 4, 0] ∧ win0_5.index t = ![t.val / 4, t.val % 4, 0] ∧ win0_6.index t = ![t.val / 4, t.val % 4, 0]
    ∧ win0_7.index t = ![t.val % 4, t.val / 4] ∧ win0_8.index t = ![t.val % 4, t.val / 4] ∧ win0_9.index t = ![t.val % 4, t.val / 4] ∧ win0_10.index t = ![0, 0] ∧ win0_11.index t = ![0, 0] :=
  (by decide +kernel : ∀ t : Fin grid0.N, _)

/-- The array after the call. -/
theorem final_q (c : Dev nD) : (dats m 0 c).arrAt 7 cfg0.N = G 0 (m ((c : Thread nD τ).loc main_arg0)) (m ((c : Thread nD τ).loc main_arg1)) (m ((c : Thread nD τ).loc main_arg3)) := by
  refine (dats m 0 c).arrAt_eq_of_covers 7 _ (by decide +kernel) fun t hf y => ?_
  blk_simp
  rw [after0_7]
  refine (stored_q m c t _).trans ?_
  obtain ⟨i, hi, h0, h1⟩ : ∃ i : S2048x1024.Idx, (win0_7.blk t).view.emb y = i ∧ (i 0).val = t.val % 4 * 512 + (y 0).val ∧ (i 1).val = t.val / 4 * 128 + (y 1).val :=
    ⟨_, rfl, by blk_point [idx t], by blk_point [idx t]⟩
  rw [hi]
  have hy : (y 1).val < 128 := (y 1).isLt
  have e : pl (i 1) = y 1 := Fin.ext (by show (i 1).val % 128 = (y 1).val; omega)
  have e1 : (i 1).val / 128 = t.val / 4 := by omega
  unfold part G
  rw [e]
  refine congrArg₂ (fun a b => Cert.Norm.dx len a b (y 1)) (funext fun k => ?_) (funext fun k => congrArg₂ (fun (a b : EReal) => a * b) ?_ ?_) <;> blk_ext [iblk, idx t, col, ch, hd, h0, e1]

/-- The array after the call. -/
theorem gfinal_q (c : Dev nD) : (dats m 0 c).arrAt 10 cfg0.N = G2 0 (m ((c : Thread nD τ).loc main_arg0)) (m ((c : Thread nD τ).loc main_arg3)) := by
  refine (dats m 0 c).arrAt_eq_of_covers 10 _ (by decide +kernel) fun t hf y => ?_
  blk_simp
  rw [after0_10]
  have hl := (flush0_10 t).mp hf
  rw [total_q m c t hl]
  refine Fin.sum_mul_add_congr (n := 512) fun s k hk => ?_
  have hi := idx ⟨32 * (t.val / 32) + s.val, Pipeline.run_point_lt_of_flush t hl s⟩
  have ht : t.val < 32 := t.isLt
  refine congrArg₂ (fun (a b : EReal) => a * b) (congrArg₂ (fun (a b : EReal) => a * b) ?_ (congrArg (Cert.Norm.inv len) (funext fun j => ?_))) ?_ <;> blk_ext [iblk, hi, idx t, col, ch]

/-- The array after the call. -/
theorem final_k (c : Dev nD) : (dats m 0 c).arrAt 8 cfg0.N = G 1 (m ((c : Thread nD τ).loc main_arg0)) (m ((c : Thread nD τ).loc main_arg2)) (m ((c : Thread nD τ).loc main_arg4)) := by
  refine (dats m 0 c).arrAt_eq_of_covers 8 _ (by decide +kernel) fun t hf y => ?_
  blk_simp
  rw [after0_8]
  refine (stored_k m c t _).trans ?_
  obtain ⟨i, hi, h0, h1⟩ : ∃ i : S2048x1024.Idx, (win0_8.blk t).view.emb y = i ∧ (i 0).val = t.val % 4 * 512 + (y 0).val ∧ (i 1).val = t.val / 4 * 128 + (y 1).val :=
    ⟨_, rfl, by blk_point [idx t], by blk_point [idx t]⟩
  rw [hi]
  have hy : (y 1).val < 128 := (y 1).isLt
  have e : pl (i 1) = y 1 := Fin.ext (by show (i 1).val % 128 = (y 1).val; omega)
  have e1 : (i 1).val / 128 = t.val / 4 := by omega
  unfold part G
  rw [e]
  refine congrArg₂ (fun a b => Cert.Norm.dx len a b (y 1)) (funext fun k => ?_) (funext fun k => congrArg₂ (fun (a b : EReal) => a * b) ?_ ?_) <;> blk_ext [iblk, idx t, col, ch, hd, h0, e1]

/-- The array after the call. -/
theorem gfinal_k (c : Dev nD) : (dats m 0 c).arrAt 11 cfg0.N = G2 1 (m ((c : Thread nD τ).loc main_arg0)) (m ((c : Thread nD τ).loc main_arg4)) := by
  refine (dats m 0 c).arrAt_eq_of_covers 11 _ (by decide +kernel) fun t hf y => ?_
  blk_simp
  rw [after0_11]
  have hl := (flush0_11 t).mp hf
  rw [total_k m c t hl]
  refine Fin.sum_mul_add_congr (n := 512) fun s k hk => ?_
  have hi := idx ⟨32 * (t.val / 32) + s.val, Pipeline.run_point_lt_of_flush t hl s⟩
  have ht : t.val < 32 := t.isLt
  refine congrArg₂ (fun (a b : EReal) => a * b) (congrArg₂ (fun (a b : EReal) => a * b) ?_ (congrArg (Cert.Norm.inv len) (funext fun j => ?_))) ?_ <;> blk_ext [iblk, hi, idx t, col, ch]

/-- The array after the call. -/
theorem final_v (c : Dev nD) : (dats m 0 c).arrAt 9 cfg0.N = G3 (m ((c : Thread nD τ).loc main_arg5)) := by
  refine (dats m 0 c).arrAt_eq_of_covers 9 _ (by decide +kernel) fun t hf y => ?_
  blk_simp
  rw [after0_9]
  refine (stored_v m c t _).trans ?_
  blk_ext [iblk, idx t, hd, pl]

end Cert.Kernel18Ideal.HeadsBwd

namespace Cert.Reference18Ideal.HeadsBwd

open Cert.Reference18Ideal Cert.Reference18Ideal.Gen
open Idealize.ShloMosaic Idealize.ShloMosaic.TcCoe Idealize.ShloMosaic.Tactic Idealize.SL.Sem

set_option maxRecDepth 65536 in
set_option maxHeartbeats 4000000 in
/-- The reference's result is the same array. -/
theorem value_q (m : (ℓ : Loc nD τ sig) → Buf (Elt Ideal) ℓ) (c : Dev nD) :
    Value.res_main_v97 m c = Cert.Kernel18Ideal.HeadsBwd.G 0 (m ((c.tc : Thread nD τ).loc main_arg0)) (m ((c.tc : Thread nD τ).loc main_arg1)) (m ((c.tc : Thread nD τ).loc main_arg3)) := by
  funext i
  pointwise [Value.res_main_v97, Cert.Kernel18Ideal.HeadsBwd.G, Cert.Kernel18Ideal.HeadsBwd.ch, Cert.Kernel18Ideal.HeadsBwd.hd, Cert.Kernel18Ideal.HeadsBwd.pl, Cert.Kernel18Ideal.HeadsBwd.col, Cert.Norm.dx, Cert.Norm.sq, Cert.Norm.inv, Cert.Norm.ms]
  simp only [Fin.sum_univ_one, Nat.div_add_mod']

set_option maxHeartbeats 4000000 in
/-- The reference's result is the same array. -/
theorem gvalue_q (a0 : FVec Ideal S2048x15488 .f32) (a3 : FVec Ideal S8x2048x128 .f32) :
    broadcastInDim S1x128 ![1] bcast_S128_S1x128_1 (Host.reduceAdd (shapeCast _ (Host.reduceAdd (mulf (mulf (shapeCast _ (extractStridedSlice S2048x1024 ![0, 6144] a0 slices_S2048x15488_S2048x1024_0_6144) shapeCasts_S2048x1024_S2048x8x128) (broadcastInDim S2048x8x128 ![0, 1, 2] bcast_S2048x8x1_S2048x8x128_0_1_2 (Host.rsqrt (addf (Host.divf (broadcastInDim S2048x8x1 ![0, 1] bcast_S2048x8_S2048x8x1_0_1 (Host.reduceAdd (mulf (shapeCast _ (extractStridedSlice S2048x1024 ![0, 6144] a0 slices_S2048x15488_S2048x1024_0_6144) shapeCasts_S2048x1024_S2048x8x128) (shapeCast _ (extractStridedSlice S2048x1024 ![0, 6144] a0 slices_S2048x15488_S2048x1024_0_6144) shapeCasts_S2048x1024_S2048x8x128)) (constant S_ .f32 0x00000000#32) reducesTo_S2048x8x128_S2048x8_d2 h_S_)) (broadcastInDim S2048x8x1 ![] bcast_S_S2048x8x1 (constant S_ .f32 0x43000000#32))) (broadcastInDim S2048x8x1 ![] bcast_S_S2048x8x1 (constant S_ .f32 0x358637BD#32)))))) (shapeCast _ (shapeCast _ (transpose S2048x8x128 [1, 0, 2] a3 transposes_S8x2048x128_S2048x8x128_1_0_2) shapeCasts_S2048x8x128_S2048x1024) shapeCasts_S2048x1024_S2048x8x128)) (constant S_ .f32 0x00000000#32) reducesTo_S2048x8x128_S128_d0_1 h_S_) shapeCasts_S128_S1x1x128) (constant S_ .f32 0x00000000#32) reducesTo_S1x1x128_S128_d0_1 h_S_) = Cert.Kernel18Ideal.HeadsBwd.G2 0 a0 a3 := by
  funext i
  pointwise [Cert.Norm.reduce01]
  simp only [Finset.univ_unique, Finset.sum_singleton]
  rw [Finset.sum_comm]
  refine Fin.sum_mul_add_congr (n := 2048) fun h r hk => ?_
  have e1 : (h.val * 2048 + r.val) / 2048 = h.val := by omega
  have e2 : (h.val * 2048 + r.val) % 2048 = r.val := by omega
  simp only [e1, e2]
  pointwise [Cert.Kernel18Ideal.HeadsBwd.ch, Cert.Kernel18Ideal.HeadsBwd.col, Cert.Norm.inv, Cert.Norm.ms]

set_option maxRecDepth 65536 in
set_option maxHeartbeats 4000000 in
/-- The reference's result is the same array. -/
theorem value_k (m : (ℓ : Loc nD τ sig) → Buf (Elt Ideal) ℓ) (c : Dev nD) :
    Value.res_main_v98 m c = Cert.Kernel18Ideal.HeadsBwd.G 1 (m ((c.tc : Thread nD τ).loc main_arg0)) (m ((c.tc : Thread nD τ).loc main_arg2)) (m ((c.tc : Thread nD τ).loc main_arg4)) := by
  funext i
  pointwise [Value.res_main_v98, Cert.Kernel18Ideal.HeadsBwd.G, Cert.Kernel18Ideal.HeadsBwd.ch, Cert.Kernel18Ideal.HeadsBwd.hd, Cert.Kernel18Ideal.HeadsBwd.pl, Cert.Kernel18Ideal.HeadsBwd.col, Cert.Norm.dx, Cert.Norm.sq, Cert.Norm.inv, Cert.Norm.ms]
  simp only [Fin.sum_univ_one, Nat.div_add_mod']

set_option maxHeartbeats 4000000 in
/-- The reference's result is the same array. -/
theorem gvalue_k (a0 : FVec Ideal S2048x15488 .f32) (a4 : FVec Ideal S8x2048x128 .f32) :
    broadcastInDim S1x128 ![1] bcast_S128_S1x128_1 (Host.reduceAdd (shapeCast _ (Host.reduceAdd (mulf (mulf (shapeCast _ (extractStridedSlice S2048x1024 ![0, 7168] a0 slices_S2048x15488_S2048x1024_0_7168) shapeCasts_S2048x1024_S2048x8x128) (broadcastInDim S2048x8x128 ![0, 1, 2] bcast_S2048x8x1_S2048x8x128_0_1_2 (Host.rsqrt (addf (Host.divf (broadcastInDim S2048x8x1 ![0, 1] bcast_S2048x8_S2048x8x1_0_1 (Host.reduceAdd (mulf (shapeCast _ (extractStridedSlice S2048x1024 ![0, 7168] a0 slices_S2048x15488_S2048x1024_0_7168) shapeCasts_S2048x1024_S2048x8x128) (shapeCast _ (extractStridedSlice S2048x1024 ![0, 7168] a0 slices_S2048x15488_S2048x1024_0_7168) shapeCasts_S2048x1024_S2048x8x128)) (constant S_ .f32 0x00000000#32) reducesTo_S2048x8x128_S2048x8_d2 h_S_)) (broadcastInDim S2048x8x1 ![] bcast_S_S2048x8x1 (constant S_ .f32 0x43000000#32))) (broadcastInDim S2048x8x1 ![] bcast_S_S2048x8x1 (constant S_ .f32 0x358637BD#32)))))) (shapeCast _ (shapeCast _ (transpose S2048x8x128 [1, 0, 2] a4 transposes_S8x2048x128_S2048x8x128_1_0_2) shapeCasts_S2048x8x128_S2048x1024) shapeCasts_S2048x1024_S2048x8x128)) (constant S_ .f32 0x00000000#32) reducesTo_S2048x8x128_S128_d0_1 h_S_) shapeCasts_S128_S1x1x128) (constant S_ .f32 0x00000000#32) reducesTo_S1x1x128_S128_d0_1 h_S_) = Cert.Kernel18Ideal.HeadsBwd.G2 1 a0 a4 := by
  funext i
  pointwise [Cert.Norm.reduce01]
  simp only [Finset.univ_unique, Finset.sum_singleton]
  rw [Finset.sum_comm]
  refine Fin.sum_mul_add_congr (n := 2048) fun h r hk => ?_
  have e1 : (h.val * 2048 + r.val) / 2048 = h.val := by omega
  have e2 : (h.val * 2048 + r.val) % 2048 = r.val := by omega
  simp only [e1, e2]
  pointwise [Cert.Kernel18Ideal.HeadsBwd.ch, Cert.Kernel18Ideal.HeadsBwd.col, Cert.Norm.inv, Cert.Norm.ms]

/-- The reference's result is the same array. -/
theorem value_v (a5 : FVec Ideal S8x2048x128 .f32) : truncf .bf16 (shapeCast _ (transpose S2048x8x128 [1, 0, 2] a5 transposes_S8x2048x128_S2048x8x128_1_0_2) shapeCasts_S2048x8x128_S2048x1024) bitsLt_bf16_f32 = Cert.Kernel18Ideal.HeadsBwd.G3 a5 := by
  funext i
  pointwise [Cert.Kernel18Ideal.HeadsBwd.G3, Cert.Kernel18Ideal.HeadsBwd.hd, Cert.Kernel18Ideal.HeadsBwd.pl]

end Cert.Reference18Ideal.HeadsBwd

end
-- ==== Proof.MergeFwd.lean ====
module

public import Idealize.ShloMosaic.Lib.Pipeline.ValueKit
public import Idealize.ShloMosaic.Lib.StableHlo.RunClose
public import proofs.«01_k».proof.Proof.Gate
public import proofs.«01_k».proof.Proof.Gen.Kernel19Ideal.Value
public import proofs.«01_k».proof.Proof.Gen.Reference19Ideal.Run

@[expose] public section

noncomputable section

/-! The merge of the three branches by their gates. -/

namespace Cert.Kernel19Ideal.MergeFwd

open Cert.Kernel19Ideal Cert.Kernel19Ideal.Gen
open Idealize.ShloMosaic Idealize.ShloMosaic.TcCoe Idealize.ShloMosaic.Tactic Idealize.SL.Sem
open Idealize.ShloMosaic.Pipeline (Dat)

/-- The column of the input projection that holds branch `s`'s gate of channel `j`. -/
def col (s : Fin 3) (j : Fin 2048) : Fin 15488 := ⟨9216 + 2048 * s.val + j.val, by omega⟩

/-- Entry by entry, the result. -/
def G (z : S2048x15488.Idx → EReal) (b0 b1 b2 : S2048x2048.Idx → EReal) (i : S2048x2048.Idx) : EReal :=
  Cert.Gate.sig (z (ix2 (i 0) (col 0 (i 1)))) * b0 i + Cert.Gate.sig (z (ix2 (i 0) (col 1 (i 1)))) * b1 i + Cert.Gate.sig (z (ix2 (i 0) (col 2 (i 1)))) * b2 i

/-- What is stored, from the gates and the branches. -/
theorem pay (z0 z1 z2 b0 b1 b2 : Vec Ideal S256x1024 .f32) (y : S256x1024.Idx) :
    k0_pay1 (F := Ideal) z0 z1 z2 b0 b1 b2 y = (Cert.Gate.sig (z0 y) * b0 y + Cert.Gate.sig (z1 y) * b1 y + Cert.Gate.sig (z2 y) * b2 y : EReal) := by
  rw [Cert.Gate.sig, Cert.Gate.sig, Cert.Gate.sig, ← zero_sub (z0 y), ← zero_sub (z1 y), ← zero_sub (z2 y)]
  pointwise [k0_pay1]

variable (m : (ℓ : Loc nD τ sig) → Buf (Elt Ideal) ℓ)

/-- What a grid point stores. -/
theorem stored (c : Dev nD) (t : Fin cfg0.N) (y : S256x1024.Idx) :
    outsAt0 m c t y = (Cert.Gate.sig (X0_0 m c t y) * iblk m c 3 t y + Cert.Gate.sig (X0_1 m c t y) * iblk m c 4 t y + Cert.Gate.sig (X0_2 m c t y) * iblk m c 5 t y : EReal) := by
  unfold outsAt0
  frame_out
  exact pay _ _ _ _ _ _ y

theorem idx : ∀ t : Fin cfg0.N, win0_0.index t = ![win0_6.index t 0, 9 + win0_6.index t 1] ∧ win0_1.index t = ![win0_6.index t 0, 11 + win0_6.index t 1] ∧ win0_2.index t = ![win0_6.index t 0, 13 + win0_6.index t 1]
    ∧ win0_3.index t = win0_6.index t ∧ win0_4.index t = win0_6.index t ∧ win0_5.index t = win0_6.index t :=
  (by decide +kernel : ∀ t : Fin grid0.N, _)

/-- The gate's block, entry by entry, from its columns of the projection. -/
theorem z0 (c : Dev nD) (t : Fin cfg0.N) (y : S256x1024.Idx) (i : S2048x2048.Idx) (h0 : (i 0).val = win0_6.index t 0 * 256 + (y 0).val) (h1 : (i 1).val = win0_6.index t 1 * 1024 + (y 1).val) :
    X0_0 m c t y = m ((c : Thread nD τ).loc main_arg0) (ix2 (i 0) (col 0 (i 1))) := by
  unfold X0_0 Pipeline.Window.fill
  rw [dif_pos (moved0_0 t y)]
  blk_ext [iblk, idx t, col]

/-- The gate's block, entry by entry, from its columns of the projection. -/
theorem z1 (c : Dev nD) (t : Fin cfg0.N) (y : S256x1024.Idx) (i : S2048x2048.Idx) (h0 : (i 0).val = win0_6.index t 0 * 256 + (y 0).val) (h1 : (i 1).val = win0_6.index t 1 * 1024 + (y 1).val) :
    X0_1 m c t y = m ((c : Thread nD τ).loc main_arg0) (ix2 (i 0) (col 1 (i 1))) := by
  unfold X0_1 Pipeline.Window.fill
  rw [dif_pos (moved0_1 t y)]
  blk_ext [iblk, idx t, col]

/-- The gate's block, entry by entry, from its columns of the projection. -/
theorem z2 (c : Dev nD) (t : Fin cfg0.N) (y : S256x1024.Idx) (i : S2048x2048.Idx) (h0 : (i 0).val = win0_6.index t 0 * 256 + (y 0).val) (h1 : (i 1).val = win0_6.index t 1 * 1024 + (y 1).val) :
    X0_2 m c t y = m ((c : Thread nD τ).loc main_arg0) (ix2 (i 0) (col 2 (i 1))) := by
  unfold X0_2 Pipeline.Window.fill
  rw [dif_pos (moved0_2 t y)]
  blk_ext [iblk, idx t, col]

/-- The array after the call. -/
theorem final (c : Dev nD) : (dats m 0 c).arrAt 6 cfg0.N = G (m ((c : Thread nD τ).loc main_arg0)) (m ((c : Thread nD τ).loc main_arg1)) (m ((c : Thread nD τ).loc main_arg2)) (m ((c : Thread nD τ).loc main_arg3)) := by
  refine (dats m 0 c).arrAt_eq_of_covers 6 _ (by decide +kernel) fun t hf y => ?_
  blk_simp
  rw [after0_6]
  refine (stored m c t _).trans ?_
  exact congrArg₂ (fun (a b : EReal) => a + b) (congrArg₂ (fun (a b : EReal) => a + b)
    (congrArg₂ (fun (a b : EReal) => Cert.Gate.sig a * b) (z0 m c t _ _ (by blk_point [idx t]) (by blk_point [idx t])) (by blk_ext [iblk, idx t]))
    (congrArg₂ (fun (a b : EReal) => Cert.Gate.sig a * b) (z1 m c t _ _ (by blk_point [idx t]) (by blk_point [idx t])) (by blk_ext [iblk, idx t])))
    (congrArg₂ (fun (a b : EReal) => Cert.Gate.sig a * b) (z2 m c t _ _ (by blk_point [idx t]) (by blk_point [idx t])) (by blk_ext [iblk, idx t]))

end Cert.Kernel19Ideal.MergeFwd

namespace Cert.Reference19Ideal.MergeFwd

open Cert.Reference19Ideal Cert.Reference19Ideal.Gen
open Idealize.ShloMosaic Idealize.ShloMosaic.TcCoe Idealize.ShloMosaic.Tactic Idealize.SL.Sem

/-- The reference's result is the same array. -/
theorem value (a0 : FVec Ideal S2048x15488 .f32) (a1 a2 a3 : FVec Ideal S2048x2048 .f32) :
    truncf .bf16 (addf (addf (mulf (shapeCast _ (extractStridedSlice S2048x1x2048 ![0, 0, 0] (shapeCast _ (Host.divf (broadcastInDim S2048x6144 ![] bcast_S_S2048x6144 (constant S_ .f32 0x3F800000#32)) (addf (broadcastInDim S2048x6144 ![] bcast_S_S2048x6144 (constant S_ .f32 0x3F800000#32)) (Host.exp (Host.negf (extractStridedSlice S2048x6144 ![0, 9216] a0 slices_S2048x15488_S2048x6144_0_9216))))) shapeCasts_S2048x6144_S2048x3x2048) slices_S2048x3x2048_S2048x1x2048_0_0_0) shapeCasts_S2048x1x2048_S2048x2048) a1) (mulf (shapeCast _ (extractStridedSlice S2048x1x2048 ![0, 1, 0] (shapeCast _ (Host.divf (broadcastInDim S2048x6144 ![] bcast_S_S2048x6144 (constant S_ .f32 0x3F800000#32)) (addf (broadcastInDim S2048x6144 ![] bcast_S_S2048x6144 (constant S_ .f32 0x3F800000#32)) (Host.exp (Host.negf (extractStridedSlice S2048x6144 ![0, 9216] a0 slices_S2048x15488_S2048x6144_0_9216))))) shapeCasts_S2048x6144_S2048x3x2048) slices_S2048x3x2048_S2048x1x2048_0_1_0) shapeCasts_S2048x1x2048_S2048x2048) a2)) (mulf (shapeCast _ (extractStridedSlice S2048x1x2048 ![0, 2, 0] (shapeCast _ (Host.divf (broadcastInDim S2048x6144 ![] bcast_S_S2048x6144 (constant S_ .f32 0x3F800000#32)) (addf (broadcastInDim S2048x6144 ![] bcast_S_S2048x6144 (constant S_ .f32 0x3F800000#32)) (Host.exp (Host.negf (extractStridedSlice S2048x6144 ![0, 9216] a0 slices_S2048x15488_S2048x6144_0_9216))))) shapeCasts_S2048x6144_S2048x3x2048) slices_S2048x3x2048_S2048x1x2048_0_2_0) shapeCasts_S2048x1x2048_S2048x2048) a3)) bitsLt_bf16_f32 = Cert.Kernel19Ideal.MergeFwd.G a0 a1 a2 a3 := by
  funext i
  pointwise [Cert.Kernel19Ideal.MergeFwd.G, Cert.Gate.sig, Cert.Kernel19Ideal.MergeFwd.col, ← Nat.add_assoc]

end Cert.Reference19Ideal.MergeFwd

end
-- ==== Proof.RmsFwd.lean ====
module

public import Idealize.ShloMosaic.Lib.Pipeline.ValueKit
public import Idealize.ShloMosaic.Lib.StableHlo.RunClose
public import proofs.«01_k».proof.Proof.Norm
public import proofs.«01_k».proof.Proof.Gen.Kernel20Ideal.Value
public import proofs.«01_k».proof.Proof.Gen.Reference20Ideal.Run

@[expose] public section

noncomputable section

/-! A norm of the residual stream. -/

namespace Cert.Kernel20Ideal.RmsFwd

open Cert.Kernel20Ideal Cert.Kernel20Ideal.Gen
open Idealize.ShloMosaic Idealize.ShloMosaic.TcCoe Idealize.ShloMosaic.Tactic Idealize.SL.Sem
open Idealize.ShloMosaic.Pipeline (Dat)

/-- The length of a row. -/
abbrev len : EReal := Ideal.ofBits FTy.f32 0x45000000#32

/-- Entry by entry, the result. -/
def G (x : S2048x2048.Idx → EReal) (g : S1x2048.Idx → EReal) (i : S2048x2048.Idx) : EReal := x i * Cert.Norm.inv len (fun k => x (ix2 (i 0) k)) * g (ix2 0 (i 1))

/-- What a grid point stores. -/
theorem stored (x0 : Vec Ideal S256x2048 .f32) (x1 : Vec Ideal S1x2048 .f32) (y : S256x2048.Idx) :
    out0_2 (F := Ideal) x0 x1 y = (x0 y * Cert.Norm.inv len (fun k => x0 (ix2 (y 0) k)) * x1 (ix2 0 (y 1)) : EReal) := by
  frame_out
  pointwise [k0_pay1, Cert.Norm.inv, Cert.Norm.ms]

theorem idx : ∀ t : Fin cfg0.N, win0_0.index t = win0_2.index t ∧ win0_1.index t = ![0, 0] ∧ win0_2.index t 1 = 0 :=
  (by decide +kernel : ∀ t : Fin grid0.N, _)

variable (m : (ℓ : Loc nD τ sig) → Buf (Elt Ideal) ℓ)

/-- The array after the call. -/
theorem final (c : Dev nD) : (dats m 0 c).arrAt 2 cfg0.N = G (m ((c : Thread nD τ).loc main_arg0)) (m ((c : Thread nD τ).loc main_arg1)) := by
  refine (dats m 0 c).arrAt_eq_of_covers 2 _ (by decide +kernel) fun t hf y => ?_
  blk_simp
  rw [after0_2]
  refine (stored _ _ _).trans ?_
  refine congrArg₂ (fun (a b : EReal) => a * b) (congrArg₂ (fun (a b : EReal) => a * b) ?_ (congrArg (Cert.Norm.inv len) (funext fun k => ?_))) ?_ <;> blk_ext [iblk, idx t]

end Cert.Kernel20Ideal.RmsFwd

namespace Cert.Reference20Ideal.RmsFwd

open Cert.Reference20Ideal Cert.Reference20Ideal.Gen
open Idealize.ShloMosaic Idealize.ShloMosaic.TcCoe Idealize.ShloMosaic.Tactic Idealize.SL.Sem

/-- The reference's result is the same array. -/
theorem value (a0 : FVec Ideal S2048x2048 .f32) (a1 : FVec Ideal S1x2048 .f32) :
    truncf .bf16 (mulf (mulf a0 (broadcastInDim S2048x2048 ![0, 1] bcast_S2048x1_S2048x2048_0_1 (Host.rsqrt (addf (Host.divf (broadcastInDim S2048x1 ![0] bcast_S2048_S2048x1_0 (Host.reduceAdd (mulf a0 a0) (constant S_ .f32 0x00000000#32) reducesTo_S2048x2048_S2048_d1 h_S_)) (broadcastInDim S2048x1 ![] bcast_S_S2048x1 (constant S_ .f32 0x45000000#32))) (broadcastInDim S2048x1 ![] bcast_S_S2048x1 (constant S_ .f32 0x358637BD#32)))))) (broadcastInDim S2048x2048 ![0, 1] bcast_S1x2048_S2048x2048_0_1 (broadcastInDim S1x2048 ![1] bcast_S2048_S1x2048_1 (shapeCast _ a1 shapeCasts_S1x2048_S2048)))) bitsLt_bf16_f32 = Cert.Kernel20Ideal.RmsFwd.G a0 a1 := by
  funext i
  pointwise [Cert.Kernel20Ideal.RmsFwd.G, Cert.Norm.inv, Cert.Norm.ms]

end Cert.Reference20Ideal.RmsFwd

end
-- ==== Proof.PostFwd.lean ====
module

public import Idealize.ShloMosaic.Lib.Pipeline.ValueKit
public import Idealize.ShloMosaic.Lib.StableHlo.RunClose
public import proofs.«01_k».proof.Proof.Norm
public import proofs.«01_k».proof.Proof.Gate
public import proofs.«01_k».proof.Proof.Gen.Kernel21Ideal.Value
public import proofs.«01_k».proof.Proof.Gen.Reference21Ideal.Run

@[expose] public section

noncomputable section

/-! The gated norm of the DeltaNet. -/

namespace Cert.Kernel21Ideal.PostFwd

open Cert.Kernel21Ideal Cert.Kernel21Ideal.Gen
open Idealize.ShloMosaic Idealize.ShloMosaic.TcCoe Idealize.ShloMosaic.Tactic Idealize.SL.Sem
open Idealize.ShloMosaic.Pipeline (Dat)

/-- The length of a row. -/
abbrev len : EReal := Ideal.ofBits FTy.f32 0x43000000#32

/-- The gate's column of the input projection, for a channel of the heads side by side. -/
def col (j : Fin 1024) : Fin 15488 := ⟨3072 + j.val, by omega⟩

/-- A channel's head. -/
def hd (j : Fin 1024) : Fin 8 := ⟨j.val / 128, by omega⟩

/-- A channel's place in its head. -/
def pl (j : Fin 1024) : Fin 128 := ⟨j.val % 128, by omega⟩

/-- The channel at a place of a head. -/
def ch (h : Fin 8) (k : Fin 128) : Fin 1024 := ⟨h.val * 128 + k.val, by omega⟩

/-- Entry by entry, the result. -/
def G (o : S8x2048x128.Idx → EReal) (z : S2048x15488.Idx → EReal) (g : S1x128.Idx → EReal) (i : S2048x1024.Idx) : EReal :=
  o (ix3 (hd (i 1)) (i 0) (pl (i 1))) * Cert.Norm.inv len (fun k => o (ix3 (hd (i 1)) (i 0) k)) * g (ix2 0 (pl (i 1)))
    * (z (ix2 (i 0) (col (i 1))) * Cert.Gate.sig (z (ix2 (i 0) (col (i 1)))))

/-- What a grid point stores. -/
theorem stored (x0 : Vec Ideal S1x512x128 .f32) (x1 : Vec Ideal S512x128 .f32) (x2 : Vec Ideal S1x128 .f32) (y : S512x128.Idx) :
    out0_3 (F := Ideal) x0 x1 x2 y = (x0 (ix3 0 (y 0) (y 1)) * Cert.Norm.inv len (fun k => x0 (ix3 0 (y 0) k)) * x2 (ix2 0 (y 1)) * (x1 y * Cert.Gate.sig (x1 y)) : EReal) := by
  frame_out
  rw [Cert.Gate.sig, ← zero_sub]
  pointwise [k0_pay1, Cert.Norm.inv, Cert.Norm.ms]

theorem idx : ∀ t : Fin cfg0.N, win0_0.index t = ![win0_3.index t 1, win0_3.index t 0, 0] ∧ win0_1.index t = ![win0_3.index t 0, 24 + win0_3.index t 1] ∧ win0_2.index t = ![0, 0] :=
  (by decide +kernel : ∀ t : Fin grid0.N, _)

variable (m : (ℓ : Loc nD τ sig) → Buf (Elt Ideal) ℓ)

/-- The array after the call. -/
theorem final (c : Dev nD) : (dats m 0 c).arrAt 3 cfg0.N = G (m ((c : Thread nD τ).loc main_arg0)) (m ((c : Thread nD τ).loc main_arg1)) (m ((c : Thread nD τ).loc main_arg2)) := by
  refine (dats m 0 c).arrAt_eq_of_covers 3 _ (by decide +kernel) fun t hf y => ?_
  blk_simp
  rw [after0_3]
  refine (stored _ _ _ _).trans ?_
  refine congrArg₂ (fun (a b : EReal) => a * b) (congrArg₂ (fun (a b : EReal) => a * b) (congrArg₂ (fun (a b : EReal) => a * b) ?_ (congrArg (Cert.Norm.inv len) (funext fun k => ?_))) ?_)
    (congrArg (fun a : EReal => a * Cert.Gate.sig a) ?_) <;> blk_ext [iblk, idx t, hd, pl, col]

end Cert.Kernel21Ideal.PostFwd

namespace Cert.Reference21Ideal.PostFwd

open Cert.Reference21Ideal Cert.Reference21Ideal.Gen
open Idealize.ShloMosaic Idealize.ShloMosaic.TcCoe Idealize.ShloMosaic.Tactic Idealize.SL.Sem

/-- The reference's result is the same array. -/
theorem value (a0 : FVec Ideal S8x2048x128 .f32) (a1 : FVec Ideal S2048x15488 .f32) (a2 : FVec Ideal S1x128 .f32) :
    truncf .bf16 (shapeCast _ (mulf (mulf (mulf (transpose S2048x8x128 [1, 0, 2] a0 transposes_S8x2048x128_S2048x8x128_1_0_2) (broadcastInDim S2048x8x128 ![0, 1, 2] bcast_S2048x8x1_S2048x8x128_0_1_2 (Host.rsqrt (addf (Host.divf (broadcastInDim S2048x8x1 ![0, 1] bcast_S2048x8_S2048x8x1_0_1 (Host.reduceAdd (mulf (transpose S2048x8x128 [1, 0, 2] a0 transposes_S8x2048x128_S2048x8x128_1_0_2) (transpose S2048x8x128 [1, 0, 2] a0 transposes_S8x2048x128_S2048x8x128_1_0_2)) (constant S_ .f32 0x00000000#32) reducesTo_S2048x8x128_S2048x8_d2 h_S_)) (broadcastInDim S2048x8x1 ![] bcast_S_S2048x8x1 (constant S_ .f32 0x43000000#32))) (broadcastInDim S2048x8x1 ![] bcast_S_S2048x8x1 (constant S_ .f32 0x358637BD#32)))))) (broadcastInDim S2048x8x128 ![0, 1, 2] bcast_S1x1x128_S2048x8x128_0_1_2 (broadcastInDim S1x1x128 ![2] bcast_S128_S1x1x128_2 (shapeCast _ a2 shapeCasts_S1x128_S128)))) (mulf (shapeCast _ (extractStridedSlice S2048x1024 ![0, 3072] a1 slices_S2048x15488_S2048x1024_0_3072) shapeCasts_S2048x1024_S2048x8x128) (Host.divf (broadcastInDim S2048x8x128 ![] bcast_S_S2048x8x128 (constant S_ .f32 0x3F800000#32)) (addf (broadcastInDim S2048x8x128 ![] bcast_S_S2048x8x128 (constant S_ .f32 0x3F800000#32)) (Host.exp (Host.negf (shapeCast _ (extractStridedSlice S2048x1024 ![0, 3072] a1 slices_S2048x15488_S2048x1024_0_3072) shapeCasts_S2048x1024_S2048x8x128))))))) shapeCasts_S2048x8x128_S2048x1024) bitsLt_bf16_f32 = Cert.Kernel21Ideal.PostFwd.G a0 a1 a2 := by
  funext i
  pointwise [Cert.Kernel21Ideal.PostFwd.G, Cert.Norm.inv, Cert.Norm.ms, Cert.Gate.sig, Cert.Kernel21Ideal.PostFwd.hd, Cert.Kernel21Ideal.PostFwd.pl, Cert.Kernel21Ideal.PostFwd.col]

end Cert.Reference21Ideal.PostFwd

end
-- ==== Proof.Gates.lean ====
module

public import proofs.«01_k».proof.Defs
public import proofs.«01_k».proof.Proof.Gen.Kernel15.Frame
public import proofs.«01_k».proof.Proof.MergeBwd
public import proofs.«01_k».proof.Proof.Gen.Kernel16.Frame
public import proofs.«01_k».proof.Proof.RmsBwd
public import proofs.«01_k».proof.Proof.Gen.Kernel17.Frame
public import proofs.«01_k».proof.Proof.PostBwd
public import proofs.«01_k».proof.Proof.Gen.Kernel18.Frame
public import proofs.«01_k».proof.Proof.HeadsBwd
public import proofs.«01_k».proof.Proof.Gen.Kernel19.Frame
public import proofs.«01_k».proof.Proof.MergeFwd
public import proofs.«01_k».proof.Proof.Gen.Kernel20.Frame
public import proofs.«01_k».proof.Proof.RmsFwd
public import proofs.«01_k».proof.Proof.Gen.Kernel21.Frame
public import proofs.«01_k».proof.Proof.PostFwd
public import Idealize.ShloMosaic.Adequacy
public import Idealize.ShloMosaic.Init

@[expose] public section

noncomputable section

/-! The claims about the gates and the norms, each from the arrays its call leaves and the arrays its reference computes. -/

namespace Cert.Gates

open Idealize.ShloMosaic Idealize.SL.Sem

theorem frame_15 : quiescent_Kernel15 := fun m ρ _ => Kernel15.Gen.frame m ρ

theorem frame_15_ideal : quiescent_Kernel15Ideal := fun m ρ _ => Kernel15Ideal.Gen.frame m ρ

theorem frame_15_ref : quiescent_Reference15Ideal := fun m ρ _ =>
  (θ_run Reference15Ideal.defs _ _).mono (fun r h => ⟨fun c => (h c).2.2.2.2, sem_eq_zero_of_no_sems (by decide) r.2⟩) (Reference15Ideal.Value.run m ρ)

theorem algebraic_15 : algebraic_Kernel15Ideal_Reference15Ideal := by
  intro m ρ m' ρ' _ hagree
  refine ⟨_, _, _, _,
    (θ_run Kernel15Ideal.defs _ _).mono (fun r h c => ⟨((h c).1).trans (Kernel15Ideal.MergeBwd.final m c), ((h c).2.1).trans (Kernel15Ideal.MergeBwd.final8 m c), ((h c).2.2.1).trans (Kernel15Ideal.MergeBwd.final9 m c), ((h c).2.2.2.1).trans (Kernel15Ideal.MergeBwd.final10 m c), (h c).2.2.2.2⟩) (Kernel15Ideal.Value.run_blocks m ρ),
    (θ_run Reference15Ideal.defs _ _).mono (fun r h c => ?_) (Reference15Ideal.Value.run m' ρ')⟩
  have e := hagree c
  replace h := h c
  refine ⟨(h.1).trans ?_, (h.2.1).trans ?_, (h.2.2.1).trans ?_, (h.2.2.2.1).trans ?_, h.2.2.2.2⟩
  · rewrite [e.1, e.2.1, e.2.2.1, e.2.2.2.1, e.2.2.2.2]; exact Reference15Ideal.MergeBwd.value _ _ _ _ _
  · rewrite [e.1, e.2.2.2.2]; exact Reference15Ideal.MergeBwd.value8 _ _
  · rewrite [e.1, e.2.2.2.2]; exact Reference15Ideal.MergeBwd.value9 _ _
  · rewrite [e.1, e.2.2.2.2]; exact Reference15Ideal.MergeBwd.value10 _ _

theorem frame_16 : quiescent_Kernel16 := fun m ρ _ => Kernel16.Gen.frame m ρ

theorem frame_16_ideal : quiescent_Kernel16Ideal := fun m ρ _ => Kernel16Ideal.Gen.frame m ρ

theorem frame_16_ref : quiescent_Reference16Ideal := fun m ρ _ =>
  (θ_run Reference16Ideal.defs _ _).mono (fun r h => ⟨fun c => (h c).2.2.2, sem_eq_zero_of_no_sems (by decide) r.2⟩) (Reference16Ideal.Value.run m ρ)

theorem algebraic_16 : algebraic_Kernel16Ideal_Reference16Ideal := by
  intro m ρ m' ρ' _ hagree
  refine ⟨_, _, _,
    (θ_run Kernel16Ideal.defs _ _).mono (fun r h c => ⟨((h c).1).trans (Kernel16Ideal.RmsBwd.final m c), ((h c).2.1).trans (Kernel16Ideal.RmsBwd.final' m c), ((h c).2.2.1).trans (Kernel16Ideal.RmsBwd.final6 m c), (h c).2.2.2⟩) (Kernel16Ideal.Value.run_blocks m ρ),
    (θ_run Reference16Ideal.defs _ _).mono (fun r h c => ?_) (Reference16Ideal.Value.run m' ρ')⟩
  have e := hagree c
  replace h := h c
  refine ⟨(h.1).trans ?_, (h.2.1).trans ?_, (h.2.2.1).trans ?_, h.2.2.2⟩
  · refine (Reference16Ideal.RmsBwd.value m' c).trans ?_
    rewrite [e.1, e.2.1, e.2.2.1, e.2.2.2]; rfl
  · refine (Reference16Ideal.RmsBwd.value' m' c).trans ?_
    rewrite [e.1, e.2.1, e.2.2.1, e.2.2.2]; rfl
  · rewrite [e.1, e.2.2.1]; exact Reference16Ideal.RmsBwd.value6 _ _

theorem frame_17 : quiescent_Kernel17 := fun m ρ _ => Kernel17.Gen.frame m ρ

theorem frame_17_ideal : quiescent_Kernel17Ideal := fun m ρ _ => Kernel17Ideal.Gen.frame m ρ

theorem frame_17_ref : quiescent_Reference17Ideal := fun m ρ _ =>
  (θ_run Reference17Ideal.defs _ _).mono (fun r h => ⟨fun c => (h c).2.2.2, sem_eq_zero_of_no_sems (by decide) r.2⟩) (Reference17Ideal.Value.run m ρ)

theorem algebraic_17 : algebraic_Kernel17Ideal_Reference17Ideal := by
  intro m ρ m' ρ' _ hagree
  refine ⟨_, _, _,
    (θ_run Kernel17Ideal.defs _ _).mono (fun r h c => ⟨((h c).1).trans (Kernel17Ideal.PostBwd.final m c), ((h c).2.1).trans (Kernel17Ideal.PostBwd.final1 m c), ((h c).2.2.1).trans (Kernel17Ideal.PostBwd.final2 m c), (h c).2.2.2⟩) (Kernel17Ideal.Value.run_blocks m ρ),
    (θ_run Reference17Ideal.defs _ _).mono (fun r h c => ?_) (Reference17Ideal.Value.run m' ρ')⟩
  have e := hagree c
  replace h := h c
  refine ⟨(h.1).trans ?_, (h.2.1).trans ?_, (h.2.2.1).trans ?_, h.2.2.2⟩
  · refine (Reference17Ideal.PostBwd.value m' c).trans ?_
    rewrite [e.1, e.2.1, e.2.2.1, e.2.2.2]; rfl
  · rewrite [e.1, e.2.1, e.2.2.1, e.2.2.2]; exact Reference17Ideal.PostBwd.value1 _ _ _ _
  · rewrite [e.1, e.2.1, e.2.2.2]; exact Reference17Ideal.PostBwd.value2 _ _ _

theorem frame_18 : quiescent_Kernel18 := fun m ρ _ => Kernel18.Gen.frame m ρ

theorem frame_18_ideal : quiescent_Kernel18Ideal := fun m ρ _ => Kernel18Ideal.Gen.frame m ρ

theorem frame_18_ref : quiescent_Reference18Ideal := fun m ρ _ =>
  (θ_run Reference18Ideal.defs _ _).mono (fun r h => ⟨fun c => (h c).2.2.2.2.2, sem_eq_zero_of_no_sems (by decide) r.2⟩) (Reference18Ideal.Value.run m ρ)

theorem algebraic_18 : algebraic_Kernel18Ideal_Reference18Ideal := by
  intro m ρ m' ρ' _ hagree
  refine ⟨_, _, _, _, _,
    (θ_run Kernel18Ideal.defs _ _).mono (fun r h c => ⟨((h c).1).trans (Kernel18Ideal.HeadsBwd.final_q m c), ((h c).2.1).trans (Kernel18Ideal.HeadsBwd.final_k m c), ((h c).2.2.1).trans (Kernel18Ideal.HeadsBwd.final_v m c), ((h c).2.2.2.1).trans (Kernel18Ideal.HeadsBwd.gfinal_q m c), ((h c).2.2.2.2.1).trans (Kernel18Ideal.HeadsBwd.gfinal_k m c), (h c).2.2.2.2.2⟩) (Kernel18Ideal.Value.run_blocks m ρ),
    (θ_run Reference18Ideal.defs _ _).mono (fun r h c => ?_) (Reference18Ideal.Value.run m' ρ')⟩
  have e := hagree c
  replace h := h c
  refine ⟨(h.1).trans ?_, (h.2.1).trans ?_, (h.2.2.1).trans ?_, (h.2.2.2.1).trans ?_, (h.2.2.2.2.1).trans ?_, h.2.2.2.2.2⟩
  · refine (Reference18Ideal.HeadsBwd.value_q m' c).trans ?_
    rewrite [e.1, e.2.1, e.2.2.2.1]; rfl
  · refine (Reference18Ideal.HeadsBwd.value_k m' c).trans ?_
    rewrite [e.1, e.2.2.1, e.2.2.2.2.1]; rfl
  · rewrite [e.2.2.2.2.2]; exact Reference18Ideal.HeadsBwd.value_v _
  · rewrite [e.1, e.2.2.2.1]; exact Reference18Ideal.HeadsBwd.gvalue_q _ _
  · rewrite [e.1, e.2.2.2.2.1]; exact Reference18Ideal.HeadsBwd.gvalue_k _ _

theorem frame_19 : quiescent_Kernel19 := fun m ρ _ => Kernel19.Gen.frame m ρ

theorem frame_19_ideal : quiescent_Kernel19Ideal := fun m ρ _ => Kernel19Ideal.Gen.frame m ρ

theorem frame_19_ref : quiescent_Reference19Ideal := fun m ρ _ =>
  (θ_run Reference19Ideal.defs _ _).mono (fun r h => ⟨fun c => (h c).2, sem_eq_zero_of_no_sems (by decide) r.2⟩) (Reference19Ideal.Value.run m ρ)

theorem algebraic_19 : algebraic_Kernel19Ideal_Reference19Ideal := by
  intro m ρ m' ρ' _ hagree
  refine ⟨_,
    (θ_run Kernel19Ideal.defs _ _).mono (fun r h c => ⟨((h c).1).trans (Kernel19Ideal.MergeFwd.final m c), (h c).2⟩) (Kernel19Ideal.Value.run_blocks m ρ),
    (θ_run Reference19Ideal.defs _ _).mono (fun r h c => ?_) (Reference19Ideal.Value.run m' ρ')⟩
  have e := hagree c
  replace h := h c
  refine ⟨(h.1).trans ?_, h.2⟩
  · rewrite [e.1, e.2.1, e.2.2.1, e.2.2.2]; exact Reference19Ideal.MergeFwd.value _ _ _ _

theorem frame_20 : quiescent_Kernel20 := fun m ρ _ => Kernel20.Gen.frame m ρ

theorem frame_20_ideal : quiescent_Kernel20Ideal := fun m ρ _ => Kernel20Ideal.Gen.frame m ρ

theorem frame_20_ref : quiescent_Reference20Ideal := fun m ρ _ =>
  (θ_run Reference20Ideal.defs _ _).mono (fun r h => ⟨fun c => (h c).2, sem_eq_zero_of_no_sems (by decide) r.2⟩) (Reference20Ideal.Value.run m ρ)

theorem algebraic_20 : algebraic_Kernel20Ideal_Reference20Ideal := by
  intro m ρ m' ρ' _ hagree
  refine ⟨_,
    (θ_run Kernel20Ideal.defs _ _).mono (fun r h c => ⟨((h c).1).trans (Kernel20Ideal.RmsFwd.final m c), (h c).2⟩) (Kernel20Ideal.Value.run_blocks m ρ),
    (θ_run Reference20Ideal.defs _ _).mono (fun r h c => ?_) (Reference20Ideal.Value.run m' ρ')⟩
  have e := hagree c
  replace h := h c
  refine ⟨(h.1).trans ?_, h.2⟩
  · rewrite [e.1, e.2]; exact Reference20Ideal.RmsFwd.value _ _

theorem frame_21 : quiescent_Kernel21 := fun m ρ _ => Kernel21.Gen.frame m ρ

theorem frame_21_ideal : quiescent_Kernel21Ideal := fun m ρ _ => Kernel21Ideal.Gen.frame m ρ

theorem frame_21_ref : quiescent_Reference21Ideal := fun m ρ _ =>
  (θ_run Reference21Ideal.defs _ _).mono (fun r h => ⟨fun c => (h c).2, sem_eq_zero_of_no_sems (by decide) r.2⟩) (Reference21Ideal.Value.run m ρ)

theorem algebraic_21 : algebraic_Kernel21Ideal_Reference21Ideal := by
  intro m ρ m' ρ' _ hagree
  refine ⟨_,
    (θ_run Kernel21Ideal.defs _ _).mono (fun r h c => ⟨((h c).1).trans (Kernel21Ideal.PostFwd.final m c), (h c).2⟩) (Kernel21Ideal.Value.run_blocks m ρ),
    (θ_run Reference21Ideal.defs _ _).mono (fun r h c => ?_) (Reference21Ideal.Value.run m' ρ')⟩
  have e := hagree c
  replace h := h c
  refine ⟨(h.1).trans ?_, h.2⟩
  · rewrite [e.1, e.2.1, e.2.2]; exact Reference21Ideal.PostFwd.value _ _ _

end Cert.Gates

end
-- ==== Proof.FwdRuns.lean ====
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Ring
public import Idealize.ShloMosaic.Lib.Tactic
public import Idealize.ShloMosaic.Lib.WordCmp

@[expose] public section

set_option maxRecDepth 16384

noncomputable section

namespace Cert.KernelIdeal.Fwd

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

theorem before0_0_of {c : Dev nD} (dat : Dat τ (Elt F) Unit ℕ (UR sig nD τ) ℕ cfg0 c) (hA : dat.A 0 = V c (Pipeline.arrRef spec0 0))
    (hafter : ∀ t, dat.after 0 t = iblk V c 0 t) (t : Fin cfg0.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk V c 1 t) (t : Fin cfg0.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk V c 2 t) (t : Fin cfg0.N) (d) : dat.before 2 t d = iblk V c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before0_3_of {c : Dev nD} (dat : Dat τ (Elt F) Unit ℕ (UR sig nD τ) ℕ cfg0 c) (hA : dat.A 3 = V c (Pipeline.arrRef spec0 3))
    (hafter : ∀ t, dat.after 3 t = iblk V c 3 t) (t : Fin cfg0.N) (d) : dat.before 3 t d = iblk V c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
theorem before0_4_of {c : Dev nD} (dat : Dat τ (Elt F) Unit ℕ (UR sig nD τ) ℕ cfg0 c) (hA : dat.A 4 = V c (Pipeline.arrRef spec0 4))
    (hafter : ∀ t, dat.after 4 t = iblk V c 4 t) (t : Fin cfg0.N) (d) : dat.before 4 t d = iblk V c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
theorem before0_5_of {c : Dev nD} (dat : Dat τ (Elt F) Unit ℕ (UR sig nD τ) ℕ cfg0 c) (hA : dat.A 5 = V c (Pipeline.arrRef spec0 5))
    (hafter : ∀ t, dat.after 5 t = iblk V c 5 t) (t : Fin cfg0.N) (d) : dat.before 5 t d = iblk V c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)

abbrev cond0_0 (i : grid0.Coords) : Prop := (Scalar.cmpi .ne (Scalar.extui (Scalar.cmpi .eq (BitVec.ofNat 32 (i 1).val) 0#32)) 0#32) = 1#1
theorem hcond0_0 : ∀ t : Fin cfg0.N, cond0_0 (grid0.coords t) ↔ t.val % 32 = 0 :=
  (fun t => by
    have ht : t.val < 32 := Nat.lt_of_lt_of_eq t.isLt N_0
    have e0 : (grid0.coords t 0).val = t.val / 32 % 1 := Pipeline.Grid.coords_val t 0 (by decide) rfl
    have e1 : (grid0.coords t 1).val = t.val / 1 % 32 := Pipeline.Grid.coords_val t 1 (by decide) rfl
    simp only [cond0_0, e0, e1]
    word_cmp
   : ∀ t : Fin grid0.N, cond0_0 (grid0.coords t) ↔ t.val % 32 = 0)

abbrev VO0_6 : View sig .tc .vmem S8x64x128 .f32 := (Memref.whole cc0_stg6_0 : Memref sig .tc .vmem S8x64x128 .f32).view
abbrev VO0_7 : View sig .tc .vmem S8x1x128x128 .f32 := (Memref.whole cc0_stg7_0 : Memref sig .tc .vmem S8x1x128x128 .f32).view
abbrev ms0_0 (t : Fin cfg0.N) : Memref sig .tc .vmem S8x64x128 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S8x64x128 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S8x64x64 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S8x64x128 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S8x64x128 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S8x1x1x128 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S8x64x128 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S8x1x128x128 .f32 := win0_7.stage (cfg0.slots t 7)
abbrev hs0_7 (t : Fin cfg0.N) : (ms0_7 t).IsWhole := hstage0_7 ((cfg0.slots t 7).cast nbuf0_7)
abbrev scM0_0 : Memref sig .tc .vmem S8x128x128 .f32 := Memref.whole cc0_scratch0
abbrev VS0_0 : View sig .tc .vmem S8x128x128 .f32 := scM0_0.view

/-- What the body passes through untouched: the scoped buffers other than the carried one, and the generator register. -/
abbrev Rest (c : Dev nD) : sProp 𝕄 :=
  iprop(Pipeline.scopedRestBut (Ix := Unit) (Name := ℕ) (U := UR sig nD τ) (Lvl := ℕ) (Val := Elt F) spec0 c [cc0_scratch0] ∗ ∃ r, prngReg c r)

/-- The invariant before the first point: the carried buffer at some contents beside the rest. -/
abbrev PhiI (c : Dev nD) : sProp 𝕄 := iprop((∃ d, owns (c : Thread nD τ) scM0_0 fullShare d) ∗ Rest (F := F) c)

theorem scoped_split (c : Dev nD) :
    (Pipeline.scopedRest (Ix := Unit) (Name := ℕ) (U := UR sig nD τ) (Lvl := ℕ) (Val := Elt F) spec0 c : sProp 𝕄)
      = iprop(iprop((∃ f : Buf (Elt F) ((c : Thread nD τ).loc cc0_scratch0), ((c : Thread nD τ).loc cc0_scratch0) ↦{fullShare} f))
          ∗ Pipeline.scopedRestBut (Ix := Unit) (Name := ℕ) (U := UR sig nD τ) (Lvl := ℕ) (Val := Elt F) spec0 c [cc0_scratch0]) :=
  Pipeline.scopedRest_split_of_list spec0 c [cc0_scratch0] (by decide) (by decide)

theorem PhiI_in (c : Dev nD) : (Pipeline.ΦA spec0 c : sProp 𝕄) ⊢ PhiI c := by
  unfold Pipeline.ΦA; rw [scoped_split]
  simp only [PhiI, scM0_0, owns_whole, Rest]
  iintro ⟨⟨H, Hb⟩, Hp⟩
  isplitl [H]; · iexact H
  isplitl [Hb]; · iexact Hb
  iexact Hp

theorem PhiI_out (c : Dev nD) : PhiI c ⊢ (Pipeline.ΦA spec0 c : sProp 𝕄) := by
  unfold Pipeline.ΦA; rw [scoped_split]
  simp only [PhiI, scM0_0, owns_whole, Rest]
  iintro ⟨H, Hb, Hp⟩
  isplitl [H Hb]
  · isplitl [H]; · iexact H
    iexact Hb
  iexact Hp

end Cert.KernelIdeal.Fwd

end
-- ==== Proof.FwdRunA.lean ====
module

public import proofs.«01_k».proof.Proof.FwdRuns

@[expose] public section

set_option maxRecDepth 16384

noncomputable section

namespace Cert.KernelIdeal.Fwd

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
noncomputable def kernelRun0_A (c : Dev nD) (i : grid0.Coords) (a2 : Memref sig .tc .vmem S8x64x128 .f32) (h2 : a2.IsWhole) (a3 : Memref sig .tc .vmem S8x64x128 .f32) (h3 : a3.IsWhole) (a4 : Memref sig .tc .vmem S8x64x64 .f32) (h4 : a4.IsWhole) (a5 : Memref sig .tc .vmem S8x64x128 .f32) (h5 : a5.IsWhole) (a6 : Memref sig .tc .vmem S8x64x128 .f32) (h6 : a6.IsWhole) (a7 : Memref sig .tc .vmem S8x1x1x128 .f32) (h7 : a7.IsWhole) (a8 : Memref sig .tc .vmem S8x64x128 .f32) (h8 : a8.IsWhole) (a9 : Memref sig .tc .vmem S8x1x128x128 .f32) (h9 : a9.IsWhole) (a10 : Memref sig .tc .vmem S8x128x128 .f32) (h10 : a10.IsWhole) (hc0 : cond0_0 i)
    (x0 : Vec F S8x64x128 .f32) (x1 : Vec F S8x64x128 .f32) (x2 : Vec F S8x64x64 .f32) (x3 : Vec F S8x64x128 .f32) (x4 : Vec F S8x64x128 .f32) (x5 : Vec F S8x1x1x128 .f32) :
    Σ' (L6 : List (View.Piece (Elt F) S8x64x128 .f32)), Σ' (L7 : List (View.Piece (Elt F) S8x1x128x128 .f32)), { LS0 : List (View.Piece (Elt F) S8x128x128 .f32) //
      ∀ (E : Set ℕ) (K : PUnit → sProp 𝕄),
        iprop(owns (c : Thread nD τ) a2 fullShare x0 ∗ owns (c : Thread nD τ) a3 fullShare x1 ∗ owns (c : Thread nD τ) a4 fullShare x2 ∗ owns (c : Thread nD τ) a5 fullShare x3 ∗ owns (c : Thread nD τ) a6 fullShare x4 ∗ owns (c : Thread nD τ) a7 fullShare x5 ∗ (∃ d, owns (c : Thread nD τ) a8 fullShare d) ∗ (∃ d, owns (c : Thread nD τ) a9 fullShare d) ∗ (∃ d, owns (c : Thread nD τ) a10 fullShare d)
            ∗ (iprop(owns (c : Thread nD τ) a2 fullShare x0 ∗ owns (c : Thread nD τ) a3 fullShare x1 ∗ owns (c : Thread nD τ) a4 fullShare x2 ∗ owns (c : Thread nD τ) a5 fullShare x3 ∗ owns (c : Thread nD τ) a6 fullShare x4 ∗ owns (c : Thread nD τ) a7 fullShare x5 ∗ (∃ f, a8.view.loc (c : Thread nD τ) ↦[a8.view.set]{fullShare} a8.view.writes (Elt F) f L6) ∗ (∃ f, a9.view.loc (c : Thread nD τ) ↦[a9.view.set]{fullShare} a9.view.writes (Elt F) f L7) ∗ (∃ f, a10.view.loc (c : Thread nD τ) ↦[a10.view.set]{fullShare} a10.view.writes (Elt F) f LS0)) -∗ K ⟨⟩))
          ⊢ wp frame (wpE (defs₀ (F := F)) Variants.none c none) E (cc0_gdn_scan i a2 h2 a3 h3 a4 h4 a5 h5 a6 h6 a7 h7 a8 h8 a9 h9 a10 h10) K } := by
  refine ⟨?_, ?_, ?_, fun E K => ?run⟩
  case run =>
    simp only [cc0_gdn_scan_eq_skeleton]; unfold cc0_gdn_scan_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%ds0, %fs0, -, HS0⟩, Hk⟩
    obtain rfl := h2.eq_unread hf0; obtain rfl := h3.eq_unread hf1; obtain rfl := h4.eq_unread hf2; obtain rfl := h5.eq_unread hf3; obtain rfl := h6.eq_unread hf4; obtain rfl := h7.eq_unread hf5
    sl_exec (disch := first | sl_exact hc0)
    sl_step
    iapply Hk
    isplitl [H0]
    · iexists _; isplitr; · ipureintro; exact h2.read_unread _
      iexact H0
    isplitl [H1]
    · iexists _; isplitr; · ipureintro; exact h3.read_unread _
      iexact H1
    isplitl [H2]
    · iexists _; isplitr; · ipureintro; exact h4.read_unread _
      iexact H2
    isplitl [H3]
    · iexists _; isplitr; · ipureintro; exact h5.read_unread _
      iexact H3
    isplitl [H4]
    · iexists _; isplitr; · ipureintro; exact h6.read_unread _
      iexact H4
    isplitl [H5]
    · iexists _; isplitr; · ipureintro; exact h7.read_unread _
      iexact H5
    isplitl [H6]; · iexists _; iexact H6
    isplitl [H7]; · iexists _; iexact H7
    iexists _; iexact HS0

end Cert.KernelIdeal.Fwd

end
-- ==== Proof.FwdRunB.lean ====
module

public import proofs.«01_k».proof.Proof.FwdRunA

@[expose] public section

set_option maxRecDepth 16384

noncomputable section

namespace Cert.KernelIdeal.Fwd

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
noncomputable def kernelRun0_B (c : Dev nD) (i : grid0.Coords) (a2 : Memref sig .tc .vmem S8x64x128 .f32) (h2 : a2.IsWhole) (a3 : Memref sig .tc .vmem S8x64x128 .f32) (h3 : a3.IsWhole) (a4 : Memref sig .tc .vmem S8x64x64 .f32) (h4 : a4.IsWhole) (a5 : Memref sig .tc .vmem S8x64x128 .f32) (h5 : a5.IsWhole) (a6 : Memref sig .tc .vmem S8x64x128 .f32) (h6 : a6.IsWhole) (a7 : Memref sig .tc .vmem S8x1x1x128 .f32) (h7 : a7.IsWhole) (a8 : Memref sig .tc .vmem S8x64x128 .f32) (h8 : a8.IsWhole) (a9 : Memref sig .tc .vmem S8x1x128x128 .f32) (h9 : a9.IsWhole) (a10 : Memref sig .tc .vmem S8x128x128 .f32) (h10 : a10.IsWhole) (hc0 : ¬cond0_0 i)
    (x0 : Vec F S8x64x128 .f32) (x1 : Vec F S8x64x128 .f32) (x2 : Vec F S8x64x64 .f32) (x3 : Vec F S8x64x128 .f32) (x4 : Vec F S8x64x128 .f32) (x5 : Vec F S8x1x1x128 .f32) (xs0 : Vec F S8x128x128 .f32) :
    Σ' (L6 : List (View.Piece (Elt F) S8x64x128 .f32)), Σ' (L7 : List (View.Piece (Elt F) S8x1x128x128 .f32)), { LS0 : List (View.Piece (Elt F) S8x128x128 .f32) //
      ∀ (E : Set ℕ) (K : PUnit → sProp 𝕄),
        iprop(owns (c : Thread nD τ) a2 fullShare x0 ∗ owns (c : Thread nD τ) a3 fullShare x1 ∗ owns (c : Thread nD τ) a4 fullShare x2 ∗ owns (c : Thread nD τ) a5 fullShare x3 ∗ owns (c : Thread nD τ) a6 fullShare x4 ∗ owns (c : Thread nD τ) a7 fullShare x5 ∗ (∃ d, owns (c : Thread nD τ) a8 fullShare d) ∗ (∃ d, owns (c : Thread nD τ) a9 fullShare d) ∗ owns (c : Thread nD τ) a10 fullShare xs0
            ∗ (iprop(owns (c : Thread nD τ) a2 fullShare x0 ∗ owns (c : Thread nD τ) a3 fullShare x1 ∗ owns (c : Thread nD τ) a4 fullShare x2 ∗ owns (c : Thread nD τ) a5 fullShare x3 ∗ owns (c : Thread nD τ) a6 fullShare x4 ∗ owns (c : Thread nD τ) a7 fullShare x5 ∗ (∃ f, a8.view.loc (c : Thread nD τ) ↦[a8.view.set]{fullShare} a8.view.writes (Elt F) f L6) ∗ (∃ f, a9.view.loc (c : Thread nD τ) ↦[a9.view.set]{fullShare} a9.view.writes (Elt F) f L7) ∗ (∃ f, a10.view.loc (c : Thread nD τ) ↦[a10.view.set]{fullShare} a10.view.writes (Elt F) f LS0)) -∗ K ⟨⟩))
          ⊢ wp frame (wpE (defs₀ (F := F)) Variants.none c none) E (cc0_gdn_scan i a2 h2 a3 h3 a4 h4 a5 h5 a6 h6 a7 h7 a8 h8 a9 h9 a10 h10) K } := by
  refine ⟨?_, ?_, ?_, fun E K => ?run⟩
  case run =>
    simp only [cc0_gdn_scan_eq_skeleton]; unfold cc0_gdn_scan_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%fs0, %hfs0, HS0⟩, Hk⟩
    obtain rfl := h2.eq_unread hf0; obtain rfl := h3.eq_unread hf1; obtain rfl := h4.eq_unread hf2; obtain rfl := h5.eq_unread hf3; obtain rfl := h6.eq_unread hf4; obtain rfl := h7.eq_unread hf5; obtain rfl := h10.eq_unread hfs0
    sl_exec (disch := first | sl_exact hc0)
    sl_step
    iapply Hk
    isplitl [H0]
    · iexists _; isplitr; · ipureintro; exact h2.read_unread _
      iexact H0
    isplitl [H1]
    · iexists _; isplitr; · ipureintro; exact h3.read_unread _
      iexact H1
    isplitl [H2]
    · iexists _; isplitr; · ipureintro; exact h4.read_unread _
      iexact H2
    isplitl [H3]
    · iexists _; isplitr; · ipureintro; exact h5.read_unread _
      iexact H3
    isplitl [H4]
    · iexists _; isplitr; · ipureintro; exact h6.read_unread _
      iexact H4
    isplitl [H5]
    · iexists _; isplitr; · ipureintro; exact h7.read_unread _
      iexact H5
    isplitl [H6]; · iexists _; iexact H6
    isplitl [H7]; · iexists _; iexact H7
    iexists _; iexact HS0

end Cert.KernelIdeal.Fwd

end
-- ==== Proof.FwdFrame.lean ====
module

public import proofs.«01_k».proof.Proof.FwdRunB

@[expose] public section

set_option maxRecDepth 16384

noncomputable section

namespace Cert.KernelIdeal.Fwd

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

section
variable (c : Dev nD) (i : grid0.Coords) (a2 : Memref sig .tc .vmem S8x64x128 .f32) (h2 : a2.IsWhole) (a3 : Memref sig .tc .vmem S8x64x128 .f32) (h3 : a3.IsWhole) (a4 : Memref sig .tc .vmem S8x64x64 .f32) (h4 : a4.IsWhole) (a5 : Memref sig .tc .vmem S8x64x128 .f32) (h5 : a5.IsWhole) (a6 : Memref sig .tc .vmem S8x64x128 .f32) (h6 : a6.IsWhole) (a7 : Memref sig .tc .vmem S8x1x1x128 .f32) (h7 : a7.IsWhole) (a8 : Memref sig .tc .vmem S8x64x128 .f32) (h8 : a8.IsWhole) (a9 : Memref sig .tc .vmem S8x1x128x128 .f32) (h9 : a9.IsWhole) (a10 : Memref sig .tc .vmem S8x128x128 .f32) (h10 : a10.IsWhole) (hc0 : cond0_0 i)
  (x0 : Vec F S8x64x128 .f32) (x1 : Vec F S8x64x128 .f32) (x2 : Vec F S8x64x64 .f32) (x3 : Vec F S8x64x128 .f32) (x4 : Vec F S8x64x128 .f32) (x5 : Vec F S8x1x1x128 .f32)

theorem cover0_A_6 (y : S8x64x128.Idx) :
    ∃ pc ∈ (kernelRun0_A c i a2 h2 a3 h3 a4 h4 a5 h5 a6 h6 a7 h7 a8 h8 a9 h9 a10 h10 hc0 x0 x1 x2 x3 x4 x5).1, y ∈ pc.1.set :=
  View.cover_of_tiledL (s := S8x64x128) _ S1x64x128.size (by sl_kernel_rfl) y

def out0_A_6 : Vec F S8x64x128 .f32 :=
  VO0_6.read (Elt F) (VO0_6.writes (Elt F) VO0_6.junk (kernelRun0_A c i a2 h2 a3 h3 a4 h4 a5 h5 a6 h6 a7 h7 a8 h8 a9 h9 a10 h10 hc0 x0 x1 x2 x3 x4 x5).1)

theorem cover0_A_7 (y : S8x1x128x128.Idx) :
    ∃ pc ∈ (kernelRun0_A c i a2 h2 a3 h3 a4 h4 a5 h5 a6 h6 a7 h7 a8 h8 a9 h9 a10 h10 hc0 x0 x1 x2 x3 x4 x5).2.1, y ∈ pc.1.set :=
  View.cover_of_tiledL (s := S8x1x128x128) _ S1x1x128x128.size (by sl_kernel_rfl) y

def out0_A_7 : Vec F S8x1x128x128 .f32 :=
  VO0_7.read (Elt F) (VO0_7.writes (Elt F) VO0_7.junk (kernelRun0_A c i a2 h2 a3 h3 a4 h4 a5 h5 a6 h6 a7 h7 a8 h8 a9 h9 a10 h10 hc0 x0 x1 x2 x3 x4 x5).2.1)

theorem scover0_A_0 (y : S8x128x128.Idx) :
    ∃ pc ∈ (kernelRun0_A c i a2 h2 a3 h3 a4 h4 a5 h5 a6 h6 a7 h7 a8 h8 a9 h9 a10 h10 hc0 x0 x1 x2 x3 x4 x5).2.2.1, y ∈ pc.1.set :=
  View.cover_of_wholeMem _ (by sl_whole_mem) y

def sout0_A_0 : Vec F S8x128x128 .f32 :=
  VS0_0.read (Elt F) (VS0_0.writes (Elt F) VS0_0.junk (kernelRun0_A c i a2 h2 a3 h3 a4 h4 a5 h5 a6 h6 a7 h7 a8 h8 a9 h9 a10 h10 hc0 x0 x1 x2 x3 x4 x5).2.2.1)

end

section
variable (c : Dev nD) (i : grid0.Coords) (a2 : Memref sig .tc .vmem S8x64x128 .f32) (h2 : a2.IsWhole) (a3 : Memref sig .tc .vmem S8x64x128 .f32) (h3 : a3.IsWhole) (a4 : Memref sig .tc .vmem S8x64x64 .f32) (h4 : a4.IsWhole) (a5 : Memref sig .tc .vmem S8x64x128 .f32) (h5 : a5.IsWhole) (a6 : Memref sig .tc .vmem S8x64x128 .f32) (h6 : a6.IsWhole) (a7 : Memref sig .tc .vmem S8x1x1x128 .f32) (h7 : a7.IsWhole) (a8 : Memref sig .tc .vmem S8x64x128 .f32) (h8 : a8.IsWhole) (a9 : Memref sig .tc .vmem S8x1x128x128 .f32) (h9 : a9.IsWhole) (a10 : Memref sig .tc .vmem S8x128x128 .f32) (h10 : a10.IsWhole) (hc0 : ¬cond0_0 i)
  (x0 : Vec F S8x64x128 .f32) (x1 : Vec F S8x64x128 .f32) (x2 : Vec F S8x64x64 .f32) (x3 : Vec F S8x64x128 .f32) (x4 : Vec F S8x64x128 .f32) (x5 : Vec F S8x1x1x128 .f32) (xs0 : Vec F S8x128x128 .f32)

theorem cover0_B_6 (y : S8x64x128.Idx) :
    ∃ pc ∈ (kernelRun0_B c i a2 h2 a3 h3 a4 h4 a5 h5 a6 h6 a7 h7 a8 h8 a9 h9 a10 h10 hc0 x0 x1 x2 x3 x4 x5 xs0).1, y ∈ pc.1.set :=
  View.cover_of_tiledL (s := S8x64x128) _ S1x64x128.size (by sl_kernel_rfl) y

def out0_B_6 : Vec F S8x64x128 .f32 :=
  VO0_6.read (Elt F) (VO0_6.writes (Elt F) VO0_6.junk (kernelRun0_B c i a2 h2 a3 h3 a4 h4 a5 h5 a6 h6 a7 h7 a8 h8 a9 h9 a10 h10 hc0 x0 x1 x2 x3 x4 x5 xs0).1)

theorem cover0_B_7 (y : S8x1x128x128.Idx) :
    ∃ pc ∈ (kernelRun0_B c i a2 h2 a3 h3 a4 h4 a5 h5 a6 h6 a7 h7 a8 h8 a9 h9 a10 h10 hc0 x0 x1 x2 x3 x4 x5 xs0).2.1, y ∈ pc.1.set :=
  View.cover_of_tiledL (s := S8x1x128x128) _ S1x1x128x128.size (by sl_kernel_rfl) y

def out0_B_7 : Vec F S8x1x128x128 .f32 :=
  VO0_7.read (Elt F) (VO0_7.writes (Elt F) VO0_7.junk (kernelRun0_B c i a2 h2 a3 h3 a4 h4 a5 h5 a6 h6 a7 h7 a8 h8 a9 h9 a10 h10 hc0 x0 x1 x2 x3 x4 x5 xs0).2.1)

theorem scover0_B_0 (y : S8x128x128.Idx) :
    ∃ pc ∈ (kernelRun0_B c i a2 h2 a3 h3 a4 h4 a5 h5 a6 h6 a7 h7 a8 h8 a9 h9 a10 h10 hc0 x0 x1 x2 x3 x4 x5 xs0).2.2.1, y ∈ pc.1.set :=
  View.cover_of_tiledL (s := S8x128x128) _ S1x128x128.size (by sl_kernel_rfl) y

def sout0_B_0 : Vec F S8x128x128 .f32 :=
  VS0_0.read (Elt F) (VS0_0.writes (Elt F) VS0_0.junk (kernelRun0_B c i a2 h2 a3 h3 a4 h4 a5 h5 a6 h6 a7 h7 a8 h8 a9 h9 a10 h10 hc0 x0 x1 x2 x3 x4 x5 xs0).2.2.1)

end

def outs0_A (c : Dev nD) (t : Fin cfg0.N) (h0 : t.val % 32 = 0) : Vec F S8x64x128 .f32 × Vec F S8x1x128x128 .f32 × Vec F S8x128x128 .f32 :=
  (out0_A_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) ((hcond0_0 t).mpr h0) (iblk V c 0 t) (iblk V c 1 t) (iblk V c 2 t) (iblk V c 3 t) (iblk V c 4 t) (iblk V c 5 t), out0_A_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) ((hcond0_0 t).mpr h0) (iblk V c 0 t) (iblk V c 1 t) (iblk V c 2 t) (iblk V c 3 t) (iblk V c 4 t) (iblk V c 5 t), sout0_A_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) ((hcond0_0 t).mpr h0) (iblk V c 0 t) (iblk V c 1 t) (iblk V c 2 t) (iblk V c 3 t) (iblk V c 4 t) (iblk V c 5 t))

def outs0_B (c : Dev nD) (t : Fin cfg0.N) (h0 : ¬t.val % 32 = 0) (s : Vec F S8x128x128 .f32) : Vec F S8x64x128 .f32 × Vec F S8x1x128x128 .f32 × Vec F S8x128x128 .f32 :=
  (out0_B_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) (fun h => h0 ((hcond0_0 t).mp h)) (iblk V c 0 t) (iblk V c 1 t) (iblk V c 2 t) (iblk V c 3 t) (iblk V c 4 t) (iblk V c 5 t) s, out0_B_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) (fun h => h0 ((hcond0_0 t).mp h)) (iblk V c 0 t) (iblk V c 1 t) (iblk V c 2 t) (iblk V c 3 t) (iblk V c 4 t) (iblk V c 5 t) s, sout0_B_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) (fun h => h0 ((hcond0_0 t).mp h)) (iblk V c 0 t) (iblk V c 1 t) (iblk V c 2 t) (iblk V c 3 t) (iblk V c 4 t) (iblk V c 5 t) s)

def outsAt0 (c : Dev nD) : (n : ℕ) → n < cfg0.N → Vec F S8x64x128 .f32 × Vec F S8x1x128x128 .f32 × Vec F S8x128x128 .f32
  | 0, hn => outs0_A V c ⟨0, hn⟩ rfl
  | n + 1, hn =>
    if h0 : (n + 1) % 32 = 0 then outs0_A V c ⟨n + 1, hn⟩ h0
    else outs0_B V c ⟨n + 1, hn⟩ h0 (outsAt0 c n (Nat.lt_of_succ_lt hn)).2.2

theorem outsAt0_A (c : Dev nD) (t : Fin cfg0.N) (h0 : t.val % 32 = 0) :
    outsAt0 V c t.val t.isLt = (out0_A_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) ((hcond0_0 t).mpr h0) (iblk V c 0 t) (iblk V c 1 t) (iblk V c 2 t) (iblk V c 3 t) (iblk V c 4 t) (iblk V c 5 t), out0_A_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) ((hcond0_0 t).mpr h0) (iblk V c 0 t) (iblk V c 1 t) (iblk V c 2 t) (iblk V c 3 t) (iblk V c 4 t) (iblk V c 5 t), sout0_A_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) ((hcond0_0 t).mpr h0) (iblk V c 0 t) (iblk V c 1 t) (iblk V c 2 t) (iblk V c 3 t) (iblk V c 4 t) (iblk V c 5 t)) := by
  obtain ⟨n, hn⟩ := t
  cases n with
  | zero => exact rfl
  | succ n => exact (dif_pos h0).trans rfl

theorem outsAt0_B (c : Dev nD) (t : Fin cfg0.N) (h0 : ¬t.val % 32 = 0) :
    outsAt0 V c t.val t.isLt = (out0_B_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) (fun h => h0 ((hcond0_0 t).mp h)) (iblk V c 0 t) (iblk V c 1 t) (iblk V c 2 t) (iblk V c 3 t) (iblk V c 4 t) (iblk V c 5 t) (outsAt0 V c (t.val - 1) (Nat.lt_of_le_of_lt (Nat.sub_le _ _) t.isLt)).2.2, out0_B_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) (fun h => h0 ((hcond0_0 t).mp h)) (iblk V c 0 t) (iblk V c 1 t) (iblk V c 2 t) (iblk V c 3 t) (iblk V c 4 t) (iblk V c 5 t) (outsAt0 V c (t.val - 1) (Nat.lt_of_le_of_lt (Nat.sub_le _ _) t.isLt)).2.2, sout0_B_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) (fun h => h0 ((hcond0_0 t).mp h)) (iblk V c 0 t) (iblk V c 1 t) (iblk V c 2 t) (iblk V c 3 t) (iblk V c 4 t) (iblk V c 5 t) (outsAt0 V c (t.val - 1) (Nat.lt_of_le_of_lt (Nat.sub_le _ _) t.isLt)).2.2) := by
  obtain ⟨n, hn⟩ := t
  cases n with
  | zero => exact (by exfalso; (try dsimp only at h0); exact absurd (Nat.zero_mod _) h0)
  | succ n => exact (dif_neg h0).trans rfl

def PhiS (c : Dev nD) : (n : ℕ) → n ≤ cfg0.N → sProp 𝕄
  | 0, _ => PhiI c
  | n + 1, hn => iprop(iprop(owns (c : Thread nD τ) scM0_0 fullShare ((outsAt0 V c n hn).2.2)) ∗ Rest (F := F) c)

theorem PhiS_zero (c : Dev nD) (n : ℕ) (h : n ≤ cfg0.N) (hz : n = 0) : PhiS V c n h = PhiI c := by
  subst hz; rfl

theorem PhiS_succ (c : Dev nD) (n : ℕ) (hn : n < cfg0.N) :
    PhiS V c (n + 1) hn = iprop(iprop(owns (c : Thread nD τ) scM0_0 fullShare ((outsAt0 V c n hn).2.2)) ∗ Rest (F := F) c) := rfl

theorem PhiS_pos (c : Dev nD) (n : ℕ) (h : n ≤ cfg0.N) (hz : n ≠ 0) :
    PhiS V c n h = iprop(iprop(owns (c : Thread nD τ) scM0_0 fullShare ((outsAt0 V c (n - 1) (by omega)).2.2)) ∗ Rest (F := F) c) := by
  cases n with
  | zero => exact absurd rfl hz
  | succ n => rfl

def dats (c : Dev nD) : Dat τ (Elt F) Unit ℕ (UR sig nD τ) ℕ cfg0 c where
  A w := V c (Pipeline.arrRef spec0 w)
  after w t := match w with
    | ⟨0, _⟩ => iblk V c 0 t
    | ⟨1, _⟩ => iblk V c 1 t
    | ⟨2, _⟩ => iblk V c 2 t
    | ⟨3, _⟩ => iblk V c 3 t
    | ⟨4, _⟩ => iblk V c 4 t
    | ⟨5, _⟩ => iblk V c 5 t
    | ⟨6, _⟩ => (outsAt0 V c t.val t.isLt).1
    | ⟨7, _⟩ => (outsAt0 V c t.val t.isLt).2.1
  Φ t := PhiS V c t.val (Nat.le_of_lt_succ t.isLt)
  q _ := fullShare
  owed _ := 0

theorem A_eq (c : Dev nD) (w : Fin cfg0.W) : (dats V c).A w = V c (Pipeline.arrRef spec0 w) := by
  dsimp only [dats]

theorem PhiS_castSucc (c : Dev nD) (t : Fin cfg0.N) :
    (dats V c).Φ t.castSucc = PhiS V c t.val (Nat.le_of_lt t.isLt) := by
  dsimp only [dats]; exact Pipeline.Dat.Φ_castSucc (PhiS V c) t

theorem after0_0 (c : Dev nD) (t : Fin cfg0.N) : (dats V c).after 0 t = iblk V c 0 t := by dsimp only [dats]
theorem after0_1 (c : Dev nD) (t : Fin cfg0.N) : (dats V c).after 1 t = iblk V c 1 t := by dsimp only [dats]
theorem after0_2 (c : Dev nD) (t : Fin cfg0.N) : (dats V c).after 2 t = iblk V c 2 t := by dsimp only [dats]
theorem after0_3 (c : Dev nD) (t : Fin cfg0.N) : (dats V c).after 3 t = iblk V c 3 t := by dsimp only [dats]
theorem after0_4 (c : Dev nD) (t : Fin cfg0.N) : (dats V c).after 4 t = iblk V c 4 t := by dsimp only [dats]
theorem after0_5 (c : Dev nD) (t : Fin cfg0.N) : (dats V c).after 5 t = iblk V c 5 t := by dsimp only [dats]
theorem after0_6 (c : Dev nD) (t : Fin cfg0.N) : (dats V c).after 6 t = (outsAt0 V c t.val t.isLt).1 := by dsimp only [dats]
theorem after0_7 (c : Dev nD) (t : Fin cfg0.N) : (dats V c).after 7 t = (outsAt0 V c t.val t.isLt).2.1 := by dsimp only [dats]

theorem before0_0 (c : Dev nD) (t : Fin cfg0.N) (d) : (dats V c).before 0 t d = iblk V c 0 t :=
  before0_0_of V (dats V c) (A_eq V c 0) (after0_0 V c) t d
theorem before0_1 (c : Dev nD) (t : Fin cfg0.N) (d) : (dats V c).before 1 t d = iblk V c 1 t :=
  before0_1_of V (dats V c) (A_eq V c 1) (after0_1 V c) t d
theorem before0_2 (c : Dev nD) (t : Fin cfg0.N) (d) : (dats V c).before 2 t d = iblk V c 2 t :=
  before0_2_of V (dats V c) (A_eq V c 2) (after0_2 V c) t d
theorem before0_3 (c : Dev nD) (t : Fin cfg0.N) (d) : (dats V c).before 3 t d = iblk V c 3 t :=
  before0_3_of V (dats V c) (A_eq V c 3) (after0_3 V c) t d
theorem before0_4 (c : Dev nD) (t : Fin cfg0.N) (d) : (dats V c).before 4 t d = iblk V c 4 t :=
  before0_4_of V (dats V c) (A_eq V c 4) (after0_4 V c) t d
theorem before0_5 (c : Dev nD) (t : Fin cfg0.N) (d) : (dats V c).before 5 t d = iblk V c 5 t :=
  before0_5_of V (dats V c) (A_eq V c 5) (after0_5 V c) t d

def bodyPre (c : Dev nD) (t : Fin cfg0.N) : sProp 𝕄 :=
  iprop((dats V c).Φ t.castSucc ∗ (dats V c).owesAt () t.castSucc
    ∗ (∃ d, owns (c : Thread nD τ) (ms0_0 t) fullShare ((dats V c).before 0 t d))
    ∗ (∃ d, owns (c : Thread nD τ) (ms0_1 t) fullShare ((dats V c).before 1 t d))
    ∗ (∃ d, owns (c : Thread nD τ) (ms0_2 t) fullShare ((dats V c).before 2 t d))
    ∗ (∃ d, owns (c : Thread nD τ) (ms0_3 t) fullShare ((dats V c).before 3 t d))
    ∗ (∃ d, owns (c : Thread nD τ) (ms0_4 t) fullShare ((dats V c).before 4 t d))
    ∗ (∃ d, owns (c : Thread nD τ) (ms0_5 t) fullShare ((dats V c).before 5 t d))
    ∗ (∃ d, owns (c : Thread nD τ) (ms0_6 t) fullShare ((dats V c).before 6 t d))
    ∗ (∃ d, owns (c : Thread nD τ) (ms0_7 t) fullShare ((dats V c).before 7 t d)))

def bodyPost (c : Dev nD) (t : Fin cfg0.N) : sProp 𝕄 :=
  iprop((dats V c).Φ t.succ ∗ (dats V c).owesAt () t.succ
    ∗ owns (c : Thread nD τ) (ms0_0 t) fullShare ((dats V c).after 0 t)
    ∗ owns (c : Thread nD τ) (ms0_1 t) fullShare ((dats V c).after 1 t)
    ∗ owns (c : Thread nD τ) (ms0_2 t) fullShare ((dats V c).after 2 t)
    ∗ owns (c : Thread nD τ) (ms0_3 t) fullShare ((dats V c).after 3 t)
    ∗ owns (c : Thread nD τ) (ms0_4 t) fullShare ((dats V c).after 4 t)
    ∗ owns (c : Thread nD τ) (ms0_5 t) fullShare ((dats V c).after 5 t)
    ∗ owns (c : Thread nD τ) (ms0_6 t) fullShare ((dats V c).after 6 t)
    ∗ owns (c : Thread nD τ) (ms0_7 t) fullShare ((dats V c).after 7 t))

set_option maxHeartbeats 6400000 in
theorem sound_body (c : Dev nD) (t : Fin cfg0.N) :
    bodyPre V c t ⊢ wp frame (wpE (defs₀ (F := F)) Variants.none c none) Set.univ (bodyAt0 t) (fun _ => bodyPost V c t) := by
  unfold bodyPre bodyPost bodyAt0
  simp only [before0_0, before0_1, before0_2, before0_3, before0_4, before0_5]
  rw [show (dats V c).owesAt () t.succ = (dats V c).owesAt () t.castSucc from rfl,
    after0_0, after0_1, after0_2, after0_3, after0_4, after0_5, after0_6, after0_7]
  rw [show (dats V c).Φ t.succ = PhiS V c (t.val + 1) t.isLt from rfl, PhiS_succ]
  have hN : t.val < 32 := lt_of_lt_of_eq t.isLt (show cfg0.N = 32 from N_0)
  by_cases h0 : t.val % 32 = 0
  · by_cases hz : t.val = 0
    · rw [PhiS_castSucc V c t, PhiS_zero V c _ _ hz]
      rw [outsAt0_A V c t h0]
      unfold out0_A_6 out0_A_7 sout0_A_0; (try dsimp only)
      iintro ⟨⟨HS0, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply ((kernelRun0_A c (grid0.coords t) _ _ _ _ _ _ _ _ _ _ _ _ _ _ _ _ _ _ ((hcond0_0 t).mpr h0) (iblk V c 0 t) (iblk V c 1 t) (iblk V c 2 t) (iblk V c 3 t) (iblk V c 4 t) (iblk V c 5 t)).2.2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      isplitl [H7]; · iexists _; iexact H7
      isplitl [HS0]; · iexact HS0
      iintro ⟨H0, H1, H2, H3, H4, H5, ⟨%e6, H6⟩, ⟨%e7, H7⟩, ⟨%es0, HS0⟩⟩
      isplitl [HS0 Hg]
      · isplitl [HS0]
        · unfold owns; iexists _; isplitr
          swap; · iexact HS0
          ipureintro; exact View.read_writes_of_cover _ _ _ _ _ (scover0_A_0 c _ _ _ _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]
      · unfold owns; iexists _; isplitr
        swap; · iexact H6
        ipureintro; exact View.read_writes_of_cover _ _ _ _ _ (cover0_A_6 c _ _ _ _ _ _ _ _ _ _ _ _ _ _ _ _ _ _ _ _ _ _ _ _ _ _)
      unfold owns; iexists _; isplitr
      swap; · iexact H7
      ipureintro; exact View.read_writes_of_cover _ _ _ _ _ (cover0_A_7 c _ _ _ _ _ _ _ _ _ _ _ _ _ _ _ _ _ _ _ _ _ _ _ _ _ _)
    · exfalso; have hN : t.val < 32 := lt_of_lt_of_eq t.isLt (show cfg0.N = 32 from N_0); omega
  · by_cases hz : t.val = 0
    · exfalso; have hN : t.val < 32 := lt_of_lt_of_eq t.isLt (show cfg0.N = 32 from N_0); omega
    · rw [PhiS_castSucc V c t, PhiS_pos V c _ _ hz]
      rw [outsAt0_B V c t h0]
      unfold out0_B_6 out0_B_7 sout0_B_0; (try dsimp only)
      iintro ⟨⟨HS0, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply ((kernelRun0_B c (grid0.coords t) _ _ _ _ _ _ _ _ _ _ _ _ _ _ _ _ _ _ (fun h => h0 ((hcond0_0 t).mp h)) (iblk V c 0 t) (iblk V c 1 t) (iblk V c 2 t) (iblk V c 3 t) (iblk V c 4 t) (iblk V c 5 t) _).2.2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      isplitl [H7]; · iexists _; iexact H7
      isplitl [HS0]; · iexact HS0
      iintro ⟨H0, H1, H2, H3, H4, H5, ⟨%e6, H6⟩, ⟨%e7, H7⟩, ⟨%es0, HS0⟩⟩
      isplitl [HS0 Hg]
      · isplitl [HS0]
        · unfold owns; iexists _; isplitr
          swap; · iexact HS0
          ipureintro; exact View.read_writes_of_cover _ _ _ _ _ (scover0_B_0 c _ _ _ _ _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]
      · unfold owns; iexists _; isplitr
        swap; · iexact H6
        ipureintro; exact View.read_writes_of_cover _ _ _ _ _ (cover0_B_6 c _ _ _ _ _ _ _ _ _ _ _ _ _ _ _ _ _ _ _ _ _ _ _ _ _ _ _)
      unfold owns; iexists _; isplitr
      swap; · iexact H7
      ipureintro; exact View.read_writes_of_cover _ _ _ _ _ (cover0_B_7 c _ _ _ _ _ _ _ _ _ _ _ _ _ _ _ _ _ _ _ _ _ _ _ _ _ _ _)

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) V c) (defs₀ (F := F)) Variants.none () Set.univ := fun t => by
  rw [bigSep_W0, bigSep_W0, defs₀_row]
  exact triple_restated (sound_body V c t) rfl .rfl fun _ => .rfl

theorem hin (c : Dev nD) : Pipeline.ΦA spec0 c ⊢ (dats V c).Φ 0 := by
  rw [show (dats V c).Φ 0 = PhiS V c 0 (Nat.zero_le _) from rfl, PhiS_zero V c 0 _ rfl]
  exact PhiI_in c

theorem Phi_out (c : Dev nD) (t : Fin (cfg0.N + 1)) (ht : t.val ≠ 0) : (dats V c).Φ t ⊢ PhiI c := by
  rw [show (dats V c).Φ t = PhiS V c t.val (Nat.le_of_lt_succ t.isLt) from rfl, PhiS_pos V c _ _ ht]
  iintro ⟨HS0, Hg⟩
  isplitl [HS0]
  · iexists _; iexact HS0
  iexact Hg

theorem hout (c : Dev nD) : (dats V c).Φ (Fin.last cfg0.N) ⊢ Pipeline.ΦA spec0 c :=
  (Phi_out V c _ (by rw [Fin.val_last]; have : cfg0.N = 32 := N_0; omega)).trans (PhiI_out c)

end Cert.KernelIdeal.Fwd

end
-- ==== Proof.BwdRuns.lean ====
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Ring
public import Idealize.ShloMosaic.Lib.Tactic
public import Idealize.ShloMosaic.Lib.WordCmp

@[expose] public section

set_option maxRecDepth 16384

noncomputable section

namespace Cert.KernelIdeal.Bwd

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

theorem before1_0_of {c : Dev nD} (dat : Dat τ (Elt F) Unit ℕ (UR sig nD τ) ℕ cfg1 c) (hA : dat.A 0 = V c (Pipeline.arrRef spec1 0))
    (hafter : ∀ t, dat.after 0 t = iblk V c 0 t) (t : Fin cfg1.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk V c 1 t) (t : Fin cfg1.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk V c 2 t) (t : Fin cfg1.N) (d) : dat.before 2 t d = iblk V c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before1_3_of {c : Dev nD} (dat : Dat τ (Elt F) Unit ℕ (UR sig nD τ) ℕ cfg1 c) (hA : dat.A 3 = V c (Pipeline.arrRef spec1 3))
    (hafter : ∀ t, dat.after 3 t = iblk V c 3 t) (t : Fin cfg1.N) (d) : dat.before 3 t d = iblk V c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
theorem before1_4_of {c : Dev nD} (dat : Dat τ (Elt F) Unit ℕ (UR sig nD τ) ℕ cfg1 c) (hA : dat.A 4 = V c (Pipeline.arrRef spec1 4))
    (hafter : ∀ t, dat.after 4 t = iblk V c 4 t) (t : Fin cfg1.N) (d) : dat.before 4 t d = iblk V c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
theorem before1_5_of {c : Dev nD} (dat : Dat τ (Elt F) Unit ℕ (UR sig nD τ) ℕ cfg1 c) (hA : dat.A 5 = V c (Pipeline.arrRef spec1 5))
    (hafter : ∀ t, dat.after 5 t = iblk V c 5 t) (t : Fin cfg1.N) (d) : dat.before 5 t d = iblk V c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
theorem before1_6_of {c : Dev nD} (dat : Dat τ (Elt F) Unit ℕ (UR sig nD τ) ℕ cfg1 c) (hA : dat.A 6 = V c (Pipeline.arrRef spec1 6))
    (hafter : ∀ t, dat.after 6 t = iblk V c 6 t) (t : Fin cfg1.N) (d) : dat.before 6 t d = iblk V c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)
theorem before1_7_of {c : Dev nD} (dat : Dat τ (Elt F) Unit ℕ (UR sig nD τ) ℕ cfg1 c) (hA : dat.A 7 = V c (Pipeline.arrRef spec1 7))
    (hafter : ∀ t, dat.after 7 t = iblk V c 7 t) (t : Fin cfg1.N) (d) : dat.before 7 t d = iblk V c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)

abbrev cond1_0 (i : grid1.Coords) : Prop := (Scalar.cmpi .ne (Scalar.extui (Scalar.cmpi .eq (BitVec.ofNat 32 (i 1).val) 0#32)) 0#32) = 1#1
theorem hcond1_0 : ∀ t : Fin cfg1.N, cond1_0 (grid1.coords t) ↔ t.val % 32 = 0 :=
  (fun t => by
    have ht : t.val < 32 := Nat.lt_of_lt_of_eq t.isLt N_1
    have e0 : (grid1.coords t 0).val = t.val / 32 % 1 := Pipeline.Grid.coords_val t 0 (by decide) rfl
    have e1 : (grid1.coords t 1).val = t.val / 1 % 32 := Pipeline.Grid.coords_val t 1 (by decide) rfl
    simp only [cond1_0, e0, e1]
    word_cmp
   : ∀ t : Fin grid1.N, cond1_0 (grid1.coords t) ↔ t.val % 32 = 0)

abbrev VO1_8 : View sig .tc .vmem S8x64x128 .f32 := (Memref.whole cc1_stg8_0 : Memref sig .tc .vmem S8x64x128 .f32).view
abbrev VO1_9 : View sig .tc .vmem S8x64x128 .f32 := (Memref.whole cc1_stg9_0 : Memref sig .tc .vmem S8x64x128 .f32).view
abbrev VO1_10 : View sig .tc .vmem S8x64x64 .f32 := (Memref.whole cc1_stg10_0 : Memref sig .tc .vmem S8x64x64 .f32).view
abbrev VO1_11 : View sig .tc .vmem S8x64x128 .f32 := (Memref.whole cc1_stg11_0 : Memref sig .tc .vmem S8x64x128 .f32).view
abbrev VO1_12 : View sig .tc .vmem S8x64x128 .f32 := (Memref.whole cc1_stg12_0 : Memref sig .tc .vmem S8x64x128 .f32).view
abbrev VO1_13 : View sig .tc .vmem S8x1x1x128 .f32 := (Memref.whole cc1_stg13_0 : Memref sig .tc .vmem S8x1x1x128 .f32).view
abbrev ms1_0 (t : Fin cfg1.N) : Memref sig .tc .vmem S8x64x128 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S8x64x128 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S8x64x64 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S8x64x128 .f32 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S8x64x128 .f32 := win1_4.stage (cfg1.slots t 4)
abbrev hs1_4 (t : Fin cfg1.N) : (ms1_4 t).IsWhole := hstage1_4 ((cfg1.slots t 4).cast nbuf1_4)
abbrev ms1_5 (t : Fin cfg1.N) : Memref sig .tc .vmem S8x1x1x128 .f32 := win1_5.stage (cfg1.slots t 5)
abbrev hs1_5 (t : Fin cfg1.N) : (ms1_5 t).IsWhole := hstage1_5 ((cfg1.slots t 5).cast nbuf1_5)
abbrev ms1_6 (t : Fin cfg1.N) : Memref sig .tc .vmem S8x1x128x128 .f32 := win1_6.stage (cfg1.slots t 6)
abbrev hs1_6 (t : Fin cfg1.N) : (ms1_6 t).IsWhole := hstage1_6 ((cfg1.slots t 6).cast nbuf1_6)
abbrev ms1_7 (t : Fin cfg1.N) : Memref sig .tc .vmem S8x64x128 .f32 := win1_7.stage (cfg1.slots t 7)
abbrev hs1_7 (t : Fin cfg1.N) : (ms1_7 t).IsWhole := hstage1_7 ((cfg1.slots t 7).cast nbuf1_7)
abbrev ms1_8 (t : Fin cfg1.N) : Memref sig .tc .vmem S8x64x128 .f32 := win1_8.stage (cfg1.slots t 8)
abbrev hs1_8 (t : Fin cfg1.N) : (ms1_8 t).IsWhole := hstage1_8 ((cfg1.slots t 8).cast nbuf1_8)
abbrev ms1_9 (t : Fin cfg1.N) : Memref sig .tc .vmem S8x64x128 .f32 := win1_9.stage (cfg1.slots t 9)
abbrev hs1_9 (t : Fin cfg1.N) : (ms1_9 t).IsWhole := hstage1_9 ((cfg1.slots t 9).cast nbuf1_9)
abbrev ms1_10 (t : Fin cfg1.N) : Memref sig .tc .vmem S8x64x64 .f32 := win1_10.stage (cfg1.slots t 10)
abbrev hs1_10 (t : Fin cfg1.N) : (ms1_10 t).IsWhole := hstage1_10 ((cfg1.slots t 10).cast nbuf1_10)
abbrev ms1_11 (t : Fin cfg1.N) : Memref sig .tc .vmem S8x64x128 .f32 := win1_11.stage (cfg1.slots t 11)
abbrev hs1_11 (t : Fin cfg1.N) : (ms1_11 t).IsWhole := hstage1_11 ((cfg1.slots t 11).cast nbuf1_11)
abbrev ms1_12 (t : Fin cfg1.N) : Memref sig .tc .vmem S8x64x128 .f32 := win1_12.stage (cfg1.slots t 12)
abbrev hs1_12 (t : Fin cfg1.N) : (ms1_12 t).IsWhole := hstage1_12 ((cfg1.slots t 12).cast nbuf1_12)
abbrev ms1_13 (t : Fin cfg1.N) : Memref sig .tc .vmem S8x1x1x128 .f32 := win1_13.stage (cfg1.slots t 13)
abbrev hs1_13 (t : Fin cfg1.N) : (ms1_13 t).IsWhole := hstage1_13 ((cfg1.slots t 13).cast nbuf1_13)
abbrev scM1_0 : Memref sig .tc .vmem S8x128x128 .f32 := Memref.whole cc1_scratch0
abbrev VS1_0 : View sig .tc .vmem S8x128x128 .f32 := scM1_0.view

/-- What the body passes through untouched: the scoped buffers other than the carried one, and the generator register. -/
abbrev Rest (c : Dev nD) : sProp 𝕄 :=
  iprop(Pipeline.scopedRestBut (Ix := Unit) (Name := ℕ) (U := UR sig nD τ) (Lvl := ℕ) (Val := Elt F) spec1 c [cc1_scratch0] ∗ ∃ r, prngReg c r)

/-- The invariant before the first point: the carried buffer at some contents beside the rest. -/
abbrev PhiI (c : Dev nD) : sProp 𝕄 := iprop((∃ d, owns (c : Thread nD τ) scM1_0 fullShare d) ∗ Rest (F := F) c)

theorem scoped_split (c : Dev nD) :
    (Pipeline.scopedRest (Ix := Unit) (Name := ℕ) (U := UR sig nD τ) (Lvl := ℕ) (Val := Elt F) spec1 c : sProp 𝕄)
      = iprop(iprop((∃ f : Buf (Elt F) ((c : Thread nD τ).loc cc1_scratch0), ((c : Thread nD τ).loc cc1_scratch0) ↦{fullShare} f))
          ∗ Pipeline.scopedRestBut (Ix := Unit) (Name := ℕ) (U := UR sig nD τ) (Lvl := ℕ) (Val := Elt F) spec1 c [cc1_scratch0]) :=
  Pipeline.scopedRest_split_of_list spec1 c [cc1_scratch0] (by decide) (by decide)

theorem PhiI_in (c : Dev nD) : (Pipeline.ΦA spec1 c : sProp 𝕄) ⊢ PhiI c := by
  unfold Pipeline.ΦA; rw [scoped_split]
  simp only [PhiI, scM1_0, owns_whole, Rest]
  iintro ⟨⟨H, Hb⟩, Hp⟩
  isplitl [H]; · iexact H
  isplitl [Hb]; · iexact Hb
  iexact Hp

theorem PhiI_out (c : Dev nD) : PhiI c ⊢ (Pipeline.ΦA spec1 c : sProp 𝕄) := by
  unfold Pipeline.ΦA; rw [scoped_split]
  simp only [PhiI, scM1_0, owns_whole, Rest]
  iintro ⟨H, Hb, Hp⟩
  isplitl [H Hb]
  · isplitl [H]; · iexact H
    iexact Hb
  iexact Hp

end Cert.KernelIdeal.Bwd

end
-- ==== Proof.BwdRunA.lean ====
module

public import proofs.«01_k».proof.Proof.BwdRuns

@[expose] public section

set_option maxRecDepth 16384

noncomputable section

namespace Cert.KernelIdeal.Bwd

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1404000 in
noncomputable def kernelRun1_A (c : Dev nD) (i : grid1.Coords) (a2 : Memref sig .tc .vmem S8x64x128 .f32) (h2 : a2.IsWhole) (a3 : Memref sig .tc .vmem S8x64x128 .f32) (h3 : a3.IsWhole) (a4 : Memref sig .tc .vmem S8x64x64 .f32) (h4 : a4.IsWhole) (a5 : Memref sig .tc .vmem S8x64x128 .f32) (h5 : a5.IsWhole) (a6 : Memref sig .tc .vmem S8x64x128 .f32) (h6 : a6.IsWhole) (a7 : Memref sig .tc .vmem S8x1x1x128 .f32) (h7 : a7.IsWhole) (a8 : Memref sig .tc .vmem S8x1x128x128 .f32) (h8 : a8.IsWhole) (a9 : Memref sig .tc .vmem S8x64x128 .f32) (h9 : a9.IsWhole) (a10 : Memref sig .tc .vmem S8x64x128 .f32) (h10 : a10.IsWhole) (a11 : Memref sig .tc .vmem S8x64x128 .f32) (h11 : a11.IsWhole) (a12 : Memref sig .tc .vmem S8x64x64 .f32) (h12 : a12.IsWhole) (a13 : Memref sig .tc .vmem S8x64x128 .f32) (h13 : a13.IsWhole) (a14 : Memref sig .tc .vmem S8x64x128 .f32) (h14 : a14.IsWhole) (a15 : Memref sig .tc .vmem S8x1x1x128 .f32) (h15 : a15.IsWhole) (a16 : Memref sig .tc .vmem S8x128x128 .f32) (h16 : a16.IsWhole) (hc0 : cond1_0 i)
    (x0 : Vec F S8x64x128 .f32) (x1 : Vec F S8x64x128 .f32) (x2 : Vec F S8x64x64 .f32) (x3 : Vec F S8x64x128 .f32) (x4 : Vec F S8x64x128 .f32) (x5 : Vec F S8x1x1x128 .f32) (x6 : Vec F S8x1x128x128 .f32) (x7 : Vec F S8x64x128 .f32) :
    Σ' (L8 : List (View.Piece (Elt F) S8x64x128 .f32)), Σ' (L9 : List (View.Piece (Elt F) S8x64x128 .f32)), Σ' (L10 : List (View.Piece (Elt F) S8x64x64 .f32)), Σ' (L11 : List (View.Piece (Elt F) S8x64x128 .f32)), Σ' (L12 : List (View.Piece (Elt F) S8x64x128 .f32)), Σ' (L13 : List (View.Piece (Elt F) S8x1x1x128 .f32)), { LS0 : List (View.Piece (Elt F) S8x128x128 .f32) //
      ∀ (E : Set ℕ) (K : PUnit → sProp 𝕄),
        iprop(owns (c : Thread nD τ) a2 fullShare x0 ∗ owns (c : Thread nD τ) a3 fullShare x1 ∗ owns (c : Thread nD τ) a4 fullShare x2 ∗ owns (c : Thread nD τ) a5 fullShare x3 ∗ owns (c : Thread nD τ) a6 fullShare x4 ∗ owns (c : Thread nD τ) a7 fullShare x5 ∗ owns (c : Thread nD τ) a8 fullShare x6 ∗ owns (c : Thread nD τ) a9 fullShare x7 ∗ (∃ d, owns (c : Thread nD τ) a10 fullShare d) ∗ (∃ d, owns (c : Thread nD τ) a11 fullShare d) ∗ (∃ d, owns (c : Thread nD τ) a12 fullShare d) ∗ (∃ d, owns (c : Thread nD τ) a13 fullShare d) ∗ (∃ d, owns (c : Thread nD τ) a14 fullShare d) ∗ (∃ d, owns (c : Thread nD τ) a15 fullShare d) ∗ (∃ d, owns (c : Thread nD τ) a16 fullShare d)
            ∗ (iprop(owns (c : Thread nD τ) a2 fullShare x0 ∗ owns (c : Thread nD τ) a3 fullShare x1 ∗ owns (c : Thread nD τ) a4 fullShare x2 ∗ owns (c : Thread nD τ) a5 fullShare x3 ∗ owns (c : Thread nD τ) a6 fullShare x4 ∗ owns (c : Thread nD τ) a7 fullShare x5 ∗ owns (c : Thread nD τ) a8 fullShare x6 ∗ owns (c : Thread nD τ) a9 fullShare x7 ∗ (∃ f, a10.view.loc (c : Thread nD τ) ↦[a10.view.set]{fullShare} a10.view.writes (Elt F) f L8) ∗ (∃ f, a11.view.loc (c : Thread nD τ) ↦[a11.view.set]{fullShare} a11.view.writes (Elt F) f L9) ∗ (∃ f, a12.view.loc (c : Thread nD τ) ↦[a12.view.set]{fullShare} a12.view.writes (Elt F) f L10) ∗ (∃ f, a13.view.loc (c : Thread nD τ) ↦[a13.view.set]{fullShare} a13.view.writes (Elt F) f L11) ∗ (∃ f, a14.view.loc (c : Thread nD τ) ↦[a14.view.set]{fullShare} a14.view.writes (Elt F) f L12) ∗ (∃ f, a15.view.loc (c : Thread nD τ) ↦[a15.view.set]{fullShare} a15.view.writes (Elt F) f L13) ∗ (∃ f, a16.view.loc (c : Thread nD τ) ↦[a16.view.set]{fullShare} a16.view.writes (Elt F) f LS0)) -∗ K ⟨⟩))
          ⊢ wp frame (wpE (defs₀ (F := F)) Variants.none c none) E (cc1_gdn_scan_bwd i a2 h2 a3 h3 a4 h4 a5 h5 a6 h6 a7 h7 a8 h8 a9 h9 a10 h10 a11 h11 a12 h12 a13 h13 a14 h14 a15 h15 a16 h16) K } := by
  refine ⟨?_, ?_, ?_, ?_, ?_, ?_, ?_, fun E K => ?run⟩
  case run =>
    simp only [cc1_gdn_scan_bwd_eq_skeleton]; unfold cc1_gdn_scan_bwd_skel
    simp only [k1_part1_eq_skeleton, k1_part2_eq_skeleton, k1_part3_eq_skeleton, k1_part4_eq_skeleton, k1_part5_eq_skeleton, k1_part6_eq_skeleton, k1_part7_eq_skeleton, k1_part8_eq_skeleton, k1_part9_eq_skeleton, k1_part10_eq_skeleton, k1_part11_eq_skeleton, k1_part12_eq_skeleton, k1_part13_eq_skeleton, k1_part14_eq_skeleton, k1_part15_eq_skeleton, k1_part16_eq_skeleton, k1_part17_eq_skeleton, k1_part18_eq_skeleton, k1_part19_eq_skeleton, k1_part20_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%d9, %f9, -, H9⟩, ⟨%d10, %f10, -, H10⟩, ⟨%d11, %f11, -, H11⟩, ⟨%d12, %f12, -, H12⟩, ⟨%d13, %f13, -, H13⟩, ⟨%ds0, %fs0, -, HS0⟩, Hk⟩
    obtain rfl := h2.eq_unread hf0; obtain rfl := h3.eq_unread hf1; obtain rfl := h4.eq_unread hf2; obtain rfl := h5.eq_unread hf3; obtain rfl := h6.eq_unread hf4; obtain rfl := h7.eq_unread hf5; obtain rfl := h8.eq_unread hf6; obtain rfl := h9.eq_unread hf7
    sl_exec (disch := first | sl_exact hc0)
    sl_step
    iapply Hk
    isplitl [H0]
    · iexists _; isplitr; · ipureintro; exact h2.read_unread _
      iexact H0
    isplitl [H1]
    · iexists _; isplitr; · ipureintro; exact h3.read_unread _
      iexact H1
    isplitl [H2]
    · iexists _; isplitr; · ipureintro; exact h4.read_unread _
      iexact H2
    isplitl [H3]
    · iexists _; isplitr; · ipureintro; exact h5.read_unread _
      iexact H3
    isplitl [H4]
    · iexists _; isplitr; · ipureintro; exact h6.read_unread _
      iexact H4
    isplitl [H5]
    · iexists _; isplitr; · ipureintro; exact h7.read_unread _
      iexact H5
    isplitl [H6]
    · iexists _; isplitr; · ipureintro; exact h8.read_unread _
      iexact H6
    isplitl [H7]
    · iexists _; isplitr; · ipureintro; exact h9.read_unread _
      iexact H7
    isplitl [H8]; · iexists _; iexact H8
    isplitl [H9]; · iexists _; iexact H9
    isplitl [H10]; · iexists _; iexact H10
    isplitl [H11]; · iexists _; iexact H11
    isplitl [H12]; · iexists _; iexact H12
    isplitl [H13]; · iexists _; iexact H13
    iexists _; iexact HS0

end Cert.KernelIdeal.Bwd

end
-- ==== Proof.BwdRunB.lean ====
module

public import proofs.«01_k».proof.Proof.BwdRunA

@[expose] public section

set_option maxRecDepth 16384

noncomputable section

namespace Cert.KernelIdeal.Bwd

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1392000 in
noncomputable def kernelRun1_B (c : Dev nD) (i : grid1.Coords) (a2 : Memref sig .tc .vmem S8x64x128 .f32) (h2 : a2.IsWhole) (a3 : Memref sig .tc .vmem S8x64x128 .f32) (h3 : a3.IsWhole) (a4 : Memref sig .tc .vmem S8x64x64 .f32) (h4 : a4.IsWhole) (a5 : Memref sig .tc .vmem S8x64x128 .f32) (h5 : a5.IsWhole) (a6 : Memref sig .tc .vmem S8x64x128 .f32) (h6 : a6.IsWhole) (a7 : Memref sig .tc .vmem S8x1x1x128 .f32) (h7 : a7.IsWhole) (a8 : Memref sig .tc .vmem S8x1x128x128 .f32) (h8 : a8.IsWhole) (a9 : Memref sig .tc .vmem S8x64x128 .f32) (h9 : a9.IsWhole) (a10 : Memref sig .tc .vmem S8x64x128 .f32) (h10 : a10.IsWhole) (a11 : Memref sig .tc .vmem S8x64x128 .f32) (h11 : a11.IsWhole) (a12 : Memref sig .tc .vmem S8x64x64 .f32) (h12 : a12.IsWhole) (a13 : Memref sig .tc .vmem S8x64x128 .f32) (h13 : a13.IsWhole) (a14 : Memref sig .tc .vmem S8x64x128 .f32) (h14 : a14.IsWhole) (a15 : Memref sig .tc .vmem S8x1x1x128 .f32) (h15 : a15.IsWhole) (a16 : Memref sig .tc .vmem S8x128x128 .f32) (h16 : a16.IsWhole) (hc0 : ¬cond1_0 i)
    (x0 : Vec F S8x64x128 .f32) (x1 : Vec F S8x64x128 .f32) (x2 : Vec F S8x64x64 .f32) (x3 : Vec F S8x64x128 .f32) (x4 : Vec F S8x64x128 .f32) (x5 : Vec F S8x1x1x128 .f32) (x6 : Vec F S8x1x128x128 .f32) (x7 : Vec F S8x64x128 .f32) (xs0 : Vec F S8x128x128 .f32) :
    Σ' (L8 : List (View.Piece (Elt F) S8x64x128 .f32)), Σ' (L9 : List (View.Piece (Elt F) S8x64x128 .f32)), Σ' (L10 : List (View.Piece (Elt F) S8x64x64 .f32)), Σ' (L11 : List (View.Piece (Elt F) S8x64x128 .f32)), Σ' (L12 : List (View.Piece (Elt F) S8x64x128 .f32)), Σ' (L13 : List (View.Piece (Elt F) S8x1x1x128 .f32)), { LS0 : List (View.Piece (Elt F) S8x128x128 .f32) //
      ∀ (E : Set ℕ) (K : PUnit → sProp 𝕄),
        iprop(owns (c : Thread nD τ) a2 fullShare x0 ∗ owns (c : Thread nD τ) a3 fullShare x1 ∗ owns (c : Thread nD τ) a4 fullShare x2 ∗ owns (c : Thread nD τ) a5 fullShare x3 ∗ owns (c : Thread nD τ) a6 fullShare x4 ∗ owns (c : Thread nD τ) a7 fullShare x5 ∗ owns (c : Thread nD τ) a8 fullShare x6 ∗ owns (c : Thread nD τ) a9 fullShare x7 ∗ (∃ d, owns (c : Thread nD τ) a10 fullShare d) ∗ (∃ d, owns (c : Thread nD τ) a11 fullShare d) ∗ (∃ d, owns (c : Thread nD τ) a12 fullShare d) ∗ (∃ d, owns (c : Thread nD τ) a13 fullShare d) ∗ (∃ d, owns (c : Thread nD τ) a14 fullShare d) ∗ (∃ d, owns (c : Thread nD τ) a15 fullShare d) ∗ owns (c : Thread nD τ) a16 fullShare xs0
            ∗ (iprop(owns (c : Thread nD τ) a2 fullShare x0 ∗ owns (c : Thread nD τ) a3 fullShare x1 ∗ owns (c : Thread nD τ) a4 fullShare x2 ∗ owns (c : Thread nD τ) a5 fullShare x3 ∗ owns (c : Thread nD τ) a6 fullShare x4 ∗ owns (c : Thread nD τ) a7 fullShare x5 ∗ owns (c : Thread nD τ) a8 fullShare x6 ∗ owns (c : Thread nD τ) a9 fullShare x7 ∗ (∃ f, a10.view.loc (c : Thread nD τ) ↦[a10.view.set]{fullShare} a10.view.writes (Elt F) f L8) ∗ (∃ f, a11.view.loc (c : Thread nD τ) ↦[a11.view.set]{fullShare} a11.view.writes (Elt F) f L9) ∗ (∃ f, a12.view.loc (c : Thread nD τ) ↦[a12.view.set]{fullShare} a12.view.writes (Elt F) f L10) ∗ (∃ f, a13.view.loc (c : Thread nD τ) ↦[a13.view.set]{fullShare} a13.view.writes (Elt F) f L11) ∗ (∃ f, a14.view.loc (c : Thread nD τ) ↦[a14.view.set]{fullShare} a14.view.writes (Elt F) f L12) ∗ (∃ f, a15.view.loc (c : Thread nD τ) ↦[a15.view.set]{fullShare} a15.view.writes (Elt F) f L13) ∗ (∃ f, a16.view.loc (c : Thread nD τ) ↦[a16.view.set]{fullShare} a16.view.writes (Elt F) f LS0)) -∗ K ⟨⟩))
          ⊢ wp frame (wpE (defs₀ (F := F)) Variants.none c none) E (cc1_gdn_scan_bwd i a2 h2 a3 h3 a4 h4 a5 h5 a6 h6 a7 h7 a8 h8 a9 h9 a10 h10 a11 h11 a12 h12 a13 h13 a14 h14 a15 h15 a16 h16) K } := by
  refine ⟨?_, ?_, ?_, ?_, ?_, ?_, ?_, fun E K => ?run⟩
  case run =>
    simp only [cc1_gdn_scan_bwd_eq_skeleton]; unfold cc1_gdn_scan_bwd_skel
    simp only [k1_part1_eq_skeleton, k1_part2_eq_skeleton, k1_part3_eq_skeleton, k1_part4_eq_skeleton, k1_part5_eq_skeleton, k1_part6_eq_skeleton, k1_part7_eq_skeleton, k1_part8_eq_skeleton, k1_part9_eq_skeleton, k1_part10_eq_skeleton, k1_part11_eq_skeleton, k1_part12_eq_skeleton, k1_part13_eq_skeleton, k1_part14_eq_skeleton, k1_part15_eq_skeleton, k1_part16_eq_skeleton, k1_part17_eq_skeleton, k1_part18_eq_skeleton, k1_part19_eq_skeleton, k1_part20_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%d9, %f9, -, H9⟩, ⟨%d10, %f10, -, H10⟩, ⟨%d11, %f11, -, H11⟩, ⟨%d12, %f12, -, H12⟩, ⟨%d13, %f13, -, H13⟩, ⟨%fs0, %hfs0, HS0⟩, Hk⟩
    obtain rfl := h2.eq_unread hf0; obtain rfl := h3.eq_unread hf1; obtain rfl := h4.eq_unread hf2; obtain rfl := h5.eq_unread hf3; obtain rfl := h6.eq_unread hf4; obtain rfl := h7.eq_unread hf5; obtain rfl := h8.eq_unread hf6; obtain rfl := h9.eq_unread hf7; obtain rfl := h16.eq_unread hfs0
    sl_exec (disch := first | sl_exact hc0)
    sl_step
    iapply Hk
    isplitl [H0]
    · iexists _; isplitr; · ipureintro; exact h2.read_unread _
      iexact H0
    isplitl [H1]
    · iexists _; isplitr; · ipureintro; exact h3.read_unread _
      iexact H1
    isplitl [H2]
    · iexists _; isplitr; · ipureintro; exact h4.read_unread _
      iexact H2
    isplitl [H3]
    · iexists _; isplitr; · ipureintro; exact h5.read_unread _
      iexact H3
    isplitl [H4]
    · iexists _; isplitr; · ipureintro; exact h6.read_unread _
      iexact H4
    isplitl [H5]
    · iexists _; isplitr; · ipureintro; exact h7.read_unread _
      iexact H5
    isplitl [H6]
    · iexists _; isplitr; · ipureintro; exact h8.read_unread _
      iexact H6
    isplitl [H7]
    · iexists _; isplitr; · ipureintro; exact h9.read_unread _
      iexact H7
    isplitl [H8]; · iexists _; iexact H8
    isplitl [H9]; · iexists _; iexact H9
    isplitl [H10]; · iexists _; iexact H10
    isplitl [H11]; · iexists _; iexact H11
    isplitl [H12]; · iexists _; iexact H12
    isplitl [H13]; · iexists _; iexact H13
    iexists _; iexact HS0

end Cert.KernelIdeal.Bwd

end
-- ==== Proof.BwdFrame.lean ====
module

public import proofs.«01_k».proof.Proof.BwdRunB

@[expose] public section

set_option maxRecDepth 16384

noncomputable section

namespace Cert.KernelIdeal.Bwd

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

section
variable (c : Dev nD) (i : grid1.Coords) (a2 : Memref sig .tc .vmem S8x64x128 .f32) (h2 : a2.IsWhole) (a3 : Memref sig .tc .vmem S8x64x128 .f32) (h3 : a3.IsWhole) (a4 : Memref sig .tc .vmem S8x64x64 .f32) (h4 : a4.IsWhole) (a5 : Memref sig .tc .vmem S8x64x128 .f32) (h5 : a5.IsWhole) (a6 : Memref sig .tc .vmem S8x64x128 .f32) (h6 : a6.IsWhole) (a7 : Memref sig .tc .vmem S8x1x1x128 .f32) (h7 : a7.IsWhole) (a8 : Memref sig .tc .vmem S8x1x128x128 .f32) (h8 : a8.IsWhole) (a9 : Memref sig .tc .vmem S8x64x128 .f32) (h9 : a9.IsWhole) (a10 : Memref sig .tc .vmem S8x64x128 .f32) (h10 : a10.IsWhole) (a11 : Memref sig .tc .vmem S8x64x128 .f32) (h11 : a11.IsWhole) (a12 : Memref sig .tc .vmem S8x64x64 .f32) (h12 : a12.IsWhole) (a13 : Memref sig .tc .vmem S8x64x128 .f32) (h13 : a13.IsWhole) (a14 : Memref sig .tc .vmem S8x64x128 .f32) (h14 : a14.IsWhole) (a15 : Memref sig .tc .vmem S8x1x1x128 .f32) (h15 : a15.IsWhole) (a16 : Memref sig .tc .vmem S8x128x128 .f32) (h16 : a16.IsWhole) (hc0 : cond1_0 i)
  (x0 : Vec F S8x64x128 .f32) (x1 : Vec F S8x64x128 .f32) (x2 : Vec F S8x64x64 .f32) (x3 : Vec F S8x64x128 .f32) (x4 : Vec F S8x64x128 .f32) (x5 : Vec F S8x1x1x128 .f32) (x6 : Vec F S8x1x128x128 .f32) (x7 : Vec F S8x64x128 .f32)

theorem cover1_A_8 (y : S8x64x128.Idx) :
    ∃ pc ∈ (kernelRun1_A c i a2 h2 a3 h3 a4 h4 a5 h5 a6 h6 a7 h7 a8 h8 a9 h9 a10 h10 a11 h11 a12 h12 a13 h13 a14 h14 a15 h15 a16 h16 hc0 x0 x1 x2 x3 x4 x5 x6 x7).1, y ∈ pc.1.set :=
  View.cover_of_tiledL (s := S8x64x128) _ S1x64x128.size (by sl_kernel_rfl) y

def out1_A_8 : Vec F S8x64x128 .f32 :=
  VO1_8.read (Elt F) (VO1_8.writes (Elt F) VO1_8.junk (kernelRun1_A c i a2 h2 a3 h3 a4 h4 a5 h5 a6 h6 a7 h7 a8 h8 a9 h9 a10 h10 a11 h11 a12 h12 a13 h13 a14 h14 a15 h15 a16 h16 hc0 x0 x1 x2 x3 x4 x5 x6 x7).1)

theorem cover1_A_9 (y : S8x64x128.Idx) :
    ∃ pc ∈ (kernelRun1_A c i a2 h2 a3 h3 a4 h4 a5 h5 a6 h6 a7 h7 a8 h8 a9 h9 a10 h10 a11 h11 a12 h12 a13 h13 a14 h14 a15 h15 a16 h16 hc0 x0 x1 x2 x3 x4 x5 x6 x7).2.1, y ∈ pc.1.set :=
  View.cover_of_tiledL (s := S8x64x128) _ S1x64x128.size (by sl_kernel_rfl) y

def out1_A_9 : Vec F S8x64x128 .f32 :=
  VO1_9.read (Elt F) (VO1_9.writes (Elt F) VO1_9.junk (kernelRun1_A c i a2 h2 a3 h3 a4 h4 a5 h5 a6 h6 a7 h7 a8 h8 a9 h9 a10 h10 a11 h11 a12 h12 a13 h13 a14 h14 a15 h15 a16 h16 hc0 x0 x1 x2 x3 x4 x5 x6 x7).2.1)

theorem cover1_A_10 (y : S8x64x64.Idx) :
    ∃ pc ∈ (kernelRun1_A c i a2 h2 a3 h3 a4 h4 a5 h5 a6 h6 a7 h7 a8 h8 a9 h9 a10 h10 a11 h11 a12 h12 a13 h13 a14 h14 a15 h15 a16 h16 hc0 x0 x1 x2 x3 x4 x5 x6 x7).2.2.1, y ∈ pc.1.set :=
  View.cover_of_tiledL (s := S8x64x64) _ S1x64x64.size (by sl_kernel_rfl) y

def out1_A_10 : Vec F S8x64x64 .f32 :=
  VO1_10.read (Elt F) (VO1_10.writes (Elt F) VO1_10.junk (kernelRun1_A c i a2 h2 a3 h3 a4 h4 a5 h5 a6 h6 a7 h7 a8 h8 a9 h9 a10 h10 a11 h11 a12 h12 a13 h13 a14 h14 a15 h15 a16 h16 hc0 x0 x1 x2 x3 x4 x5 x6 x7).2.2.1)

theorem cover1_A_11 (y : S8x64x128.Idx) :
    ∃ pc ∈ (kernelRun1_A c i a2 h2 a3 h3 a4 h4 a5 h5 a6 h6 a7 h7 a8 h8 a9 h9 a10 h10 a11 h11 a12 h12 a13 h13 a14 h14 a15 h15 a16 h16 hc0 x0 x1 x2 x3 x4 x5 x6 x7).2.2.2.1, y ∈ pc.1.set :=
  View.cover_of_tiledL (s := S8x64x128) _ S1x64x128.size (by sl_kernel_rfl) y

def out1_A_11 : Vec F S8x64x128 .f32 :=
  VO1_11.read (Elt F) (VO1_11.writes (Elt F) VO1_11.junk (kernelRun1_A c i a2 h2 a3 h3 a4 h4 a5 h5 a6 h6 a7 h7 a8 h8 a9 h9 a10 h10 a11 h11 a12 h12 a13 h13 a14 h14 a15 h15 a16 h16 hc0 x0 x1 x2 x3 x4 x5 x6 x7).2.2.2.1)

theorem cover1_A_12 (y : S8x64x128.Idx) :
    ∃ pc ∈ (kernelRun1_A c i a2 h2 a3 h3 a4 h4 a5 h5 a6 h6 a7 h7 a8 h8 a9 h9 a10 h10 a11 h11 a12 h12 a13 h13 a14 h14 a15 h15 a16 h16 hc0 x0 x1 x2 x3 x4 x5 x6 x7).2.2.2.2.1, y ∈ pc.1.set :=
  View.cover_of_tiledL (s := S8x64x128) _ S1x64x128.size (by sl_kernel_rfl) y

def out1_A_12 : Vec F S8x64x128 .f32 :=
  VO1_12.read (Elt F) (VO1_12.writes (Elt F) VO1_12.junk (kernelRun1_A c i a2 h2 a3 h3 a4 h4 a5 h5 a6 h6 a7 h7 a8 h8 a9 h9 a10 h10 a11 h11 a12 h12 a13 h13 a14 h14 a15 h15 a16 h16 hc0 x0 x1 x2 x3 x4 x5 x6 x7).2.2.2.2.1)

theorem cover1_A_13 (y : S8x1x1x128.Idx) :
    ∃ pc ∈ (kernelRun1_A c i a2 h2 a3 h3 a4 h4 a5 h5 a6 h6 a7 h7 a8 h8 a9 h9 a10 h10 a11 h11 a12 h12 a13 h13 a14 h14 a15 h15 a16 h16 hc0 x0 x1 x2 x3 x4 x5 x6 x7).2.2.2.2.2.1, y ∈ pc.1.set :=
  View.cover_of_tiledL (s := S8x1x1x128) _ S1x1x1x128.size (by sl_kernel_rfl) y

def out1_A_13 : Vec F S8x1x1x128 .f32 :=
  VO1_13.read (Elt F) (VO1_13.writes (Elt F) VO1_13.junk (kernelRun1_A c i a2 h2 a3 h3 a4 h4 a5 h5 a6 h6 a7 h7 a8 h8 a9 h9 a10 h10 a11 h11 a12 h12 a13 h13 a14 h14 a15 h15 a16 h16 hc0 x0 x1 x2 x3 x4 x5 x6 x7).2.2.2.2.2.1)

theorem scover1_A_0 (y : S8x128x128.Idx) :
    ∃ pc ∈ (kernelRun1_A c i a2 h2 a3 h3 a4 h4 a5 h5 a6 h6 a7 h7 a8 h8 a9 h9 a10 h10 a11 h11 a12 h12 a13 h13 a14 h14 a15 h15 a16 h16 hc0 x0 x1 x2 x3 x4 x5 x6 x7).2.2.2.2.2.2.1, y ∈ pc.1.set :=
  View.cover_of_wholeMem _ (by sl_whole_mem) y

def sout1_A_0 : Vec F S8x128x128 .f32 :=
  VS1_0.read (Elt F) (VS1_0.writes (Elt F) VS1_0.junk (kernelRun1_A c i a2 h2 a3 h3 a4 h4 a5 h5 a6 h6 a7 h7 a8 h8 a9 h9 a10 h10 a11 h11 a12 h12 a13 h13 a14 h14 a15 h15 a16 h16 hc0 x0 x1 x2 x3 x4 x5 x6 x7).2.2.2.2.2.2.1)

end

section
variable (c : Dev nD) (i : grid1.Coords) (a2 : Memref sig .tc .vmem S8x64x128 .f32) (h2 : a2.IsWhole) (a3 : Memref sig .tc .vmem S8x64x128 .f32) (h3 : a3.IsWhole) (a4 : Memref sig .tc .vmem S8x64x64 .f32) (h4 : a4.IsWhole) (a5 : Memref sig .tc .vmem S8x64x128 .f32) (h5 : a5.IsWhole) (a6 : Memref sig .tc .vmem S8x64x128 .f32) (h6 : a6.IsWhole) (a7 : Memref sig .tc .vmem S8x1x1x128 .f32) (h7 : a7.IsWhole) (a8 : Memref sig .tc .vmem S8x1x128x128 .f32) (h8 : a8.IsWhole) (a9 : Memref sig .tc .vmem S8x64x128 .f32) (h9 : a9.IsWhole) (a10 : Memref sig .tc .vmem S8x64x128 .f32) (h10 : a10.IsWhole) (a11 : Memref sig .tc .vmem S8x64x128 .f32) (h11 : a11.IsWhole) (a12 : Memref sig .tc .vmem S8x64x64 .f32) (h12 : a12.IsWhole) (a13 : Memref sig .tc .vmem S8x64x128 .f32) (h13 : a13.IsWhole) (a14 : Memref sig .tc .vmem S8x64x128 .f32) (h14 : a14.IsWhole) (a15 : Memref sig .tc .vmem S8x1x1x128 .f32) (h15 : a15.IsWhole) (a16 : Memref sig .tc .vmem S8x128x128 .f32) (h16 : a16.IsWhole) (hc0 : ¬cond1_0 i)
  (x0 : Vec F S8x64x128 .f32) (x1 : Vec F S8x64x128 .f32) (x2 : Vec F S8x64x64 .f32) (x3 : Vec F S8x64x128 .f32) (x4 : Vec F S8x64x128 .f32) (x5 : Vec F S8x1x1x128 .f32) (x6 : Vec F S8x1x128x128 .f32) (x7 : Vec F S8x64x128 .f32) (xs0 : Vec F S8x128x128 .f32)

theorem cover1_B_8 (y : S8x64x128.Idx) :
    ∃ pc ∈ (kernelRun1_B c i a2 h2 a3 h3 a4 h4 a5 h5 a6 h6 a7 h7 a8 h8 a9 h9 a10 h10 a11 h11 a12 h12 a13 h13 a14 h14 a15 h15 a16 h16 hc0 x0 x1 x2 x3 x4 x5 x6 x7 xs0).1, y ∈ pc.1.set :=
  View.cover_of_tiledL (s := S8x64x128) _ S1x64x128.size (by sl_kernel_rfl) y

def out1_B_8 : Vec F S8x64x128 .f32 :=
  VO1_8.read (Elt F) (VO1_8.writes (Elt F) VO1_8.junk (kernelRun1_B c i a2 h2 a3 h3 a4 h4 a5 h5 a6 h6 a7 h7 a8 h8 a9 h9 a10 h10 a11 h11 a12 h12 a13 h13 a14 h14 a15 h15 a16 h16 hc0 x0 x1 x2 x3 x4 x5 x6 x7 xs0).1)

theorem cover1_B_9 (y : S8x64x128.Idx) :
    ∃ pc ∈ (kernelRun1_B c i a2 h2 a3 h3 a4 h4 a5 h5 a6 h6 a7 h7 a8 h8 a9 h9 a10 h10 a11 h11 a12 h12 a13 h13 a14 h14 a15 h15 a16 h16 hc0 x0 x1 x2 x3 x4 x5 x6 x7 xs0).2.1, y ∈ pc.1.set :=
  View.cover_of_tiledL (s := S8x64x128) _ S1x64x128.size (by sl_kernel_rfl) y

def out1_B_9 : Vec F S8x64x128 .f32 :=
  VO1_9.read (Elt F) (VO1_9.writes (Elt F) VO1_9.junk (kernelRun1_B c i a2 h2 a3 h3 a4 h4 a5 h5 a6 h6 a7 h7 a8 h8 a9 h9 a10 h10 a11 h11 a12 h12 a13 h13 a14 h14 a15 h15 a16 h16 hc0 x0 x1 x2 x3 x4 x5 x6 x7 xs0).2.1)

theorem cover1_B_10 (y : S8x64x64.Idx) :
    ∃ pc ∈ (kernelRun1_B c i a2 h2 a3 h3 a4 h4 a5 h5 a6 h6 a7 h7 a8 h8 a9 h9 a10 h10 a11 h11 a12 h12 a13 h13 a14 h14 a15 h15 a16 h16 hc0 x0 x1 x2 x3 x4 x5 x6 x7 xs0).2.2.1, y ∈ pc.1.set :=
  View.cover_of_tiledL (s := S8x64x64) _ S1x64x64.size (by sl_kernel_rfl) y

def out1_B_10 : Vec F S8x64x64 .f32 :=
  VO1_10.read (Elt F) (VO1_10.writes (Elt F) VO1_10.junk (kernelRun1_B c i a2 h2 a3 h3 a4 h4 a5 h5 a6 h6 a7 h7 a8 h8 a9 h9 a10 h10 a11 h11 a12 h12 a13 h13 a14 h14 a15 h15 a16 h16 hc0 x0 x1 x2 x3 x4 x5 x6 x7 xs0).2.2.1)

theorem cover1_B_11 (y : S8x64x128.Idx) :
    ∃ pc ∈ (kernelRun1_B c i a2 h2 a3 h3 a4 h4 a5 h5 a6 h6 a7 h7 a8 h8 a9 h9 a10 h10 a11 h11 a12 h12 a13 h13 a14 h14 a15 h15 a16 h16 hc0 x0 x1 x2 x3 x4 x5 x6 x7 xs0).2.2.2.1, y ∈ pc.1.set :=
  View.cover_of_tiledL (s := S8x64x128) _ S1x64x128.size (by sl_kernel_rfl) y

def out1_B_11 : Vec F S8x64x128 .f32 :=
  VO1_11.read (Elt F) (VO1_11.writes (Elt F) VO1_11.junk (kernelRun1_B c i a2 h2 a3 h3 a4 h4 a5 h5 a6 h6 a7 h7 a8 h8 a9 h9 a10 h10 a11 h11 a12 h12 a13 h13 a14 h14 a15 h15 a16 h16 hc0 x0 x1 x2 x3 x4 x5 x6 x7 xs0).2.2.2.1)

theorem cover1_B_12 (y : S8x64x128.Idx) :
    ∃ pc ∈ (kernelRun1_B c i a2 h2 a3 h3 a4 h4 a5 h5 a6 h6 a7 h7 a8 h8 a9 h9 a10 h10 a11 h11 a12 h12 a13 h13 a14 h14 a15 h15 a16 h16 hc0 x0 x1 x2 x3 x4 x5 x6 x7 xs0).2.2.2.2.1, y ∈ pc.1.set :=
  View.cover_of_tiledL (s := S8x64x128) _ S1x64x128.size (by sl_kernel_rfl) y

def out1_B_12 : Vec F S8x64x128 .f32 :=
  VO1_12.read (Elt F) (VO1_12.writes (Elt F) VO1_12.junk (kernelRun1_B c i a2 h2 a3 h3 a4 h4 a5 h5 a6 h6 a7 h7 a8 h8 a9 h9 a10 h10 a11 h11 a12 h12 a13 h13 a14 h14 a15 h15 a16 h16 hc0 x0 x1 x2 x3 x4 x5 x6 x7 xs0).2.2.2.2.1)

theorem cover1_B_13 (y : S8x1x1x128.Idx) :
    ∃ pc ∈ (kernelRun1_B c i a2 h2 a3 h3 a4 h4 a5 h5 a6 h6 a7 h7 a8 h8 a9 h9 a10 h10 a11 h11 a12 h12 a13 h13 a14 h14 a15 h15 a16 h16 hc0 x0 x1 x2 x3 x4 x5 x6 x7 xs0).2.2.2.2.2.1, y ∈ pc.1.set :=
  View.cover_of_tiledL (s := S8x1x1x128) _ S1x1x1x128.size (by sl_kernel_rfl) y

def out1_B_13 : Vec F S8x1x1x128 .f32 :=
  VO1_13.read (Elt F) (VO1_13.writes (Elt F) VO1_13.junk (kernelRun1_B c i a2 h2 a3 h3 a4 h4 a5 h5 a6 h6 a7 h7 a8 h8 a9 h9 a10 h10 a11 h11 a12 h12 a13 h13 a14 h14 a15 h15 a16 h16 hc0 x0 x1 x2 x3 x4 x5 x6 x7 xs0).2.2.2.2.2.1)

theorem scover1_B_0 (y : S8x128x128.Idx) :
    ∃ pc ∈ (kernelRun1_B c i a2 h2 a3 h3 a4 h4 a5 h5 a6 h6 a7 h7 a8 h8 a9 h9 a10 h10 a11 h11 a12 h12 a13 h13 a14 h14 a15 h15 a16 h16 hc0 x0 x1 x2 x3 x4 x5 x6 x7 xs0).2.2.2.2.2.2.1, y ∈ pc.1.set :=
  View.cover_of_tiledL (s := S8x128x128) _ S1x128x128.size (by sl_kernel_rfl) y

def sout1_B_0 : Vec F S8x128x128 .f32 :=
  VS1_0.read (Elt F) (VS1_0.writes (Elt F) VS1_0.junk (kernelRun1_B c i a2 h2 a3 h3 a4 h4 a5 h5 a6 h6 a7 h7 a8 h8 a9 h9 a10 h10 a11 h11 a12 h12 a13 h13 a14 h14 a15 h15 a16 h16 hc0 x0 x1 x2 x3 x4 x5 x6 x7 xs0).2.2.2.2.2.2.1)

end

def outs1_A (c : Dev nD) (t : Fin cfg1.N) (h0 : t.val % 32 = 0) : Vec F S8x64x128 .f32 × Vec F S8x64x128 .f32 × Vec F S8x64x64 .f32 × Vec F S8x64x128 .f32 × Vec F S8x64x128 .f32 × Vec F S8x1x1x128 .f32 × Vec F S8x128x128 .f32 :=
  (out1_A_8 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (ms1_10 t) (hs1_10 t) (ms1_11 t) (hs1_11 t) (ms1_12 t) (hs1_12 t) (ms1_13 t) (hs1_13 t) scM1_0 (Memref.isWhole_whole _) ((hcond1_0 t).mpr h0) (iblk V c 0 t) (iblk V c 1 t) (iblk V c 2 t) (iblk V c 3 t) (iblk V c 4 t) (iblk V c 5 t) (iblk V c 6 t) (iblk V c 7 t), out1_A_9 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (ms1_10 t) (hs1_10 t) (ms1_11 t) (hs1_11 t) (ms1_12 t) (hs1_12 t) (ms1_13 t) (hs1_13 t) scM1_0 (Memref.isWhole_whole _) ((hcond1_0 t).mpr h0) (iblk V c 0 t) (iblk V c 1 t) (iblk V c 2 t) (iblk V c 3 t) (iblk V c 4 t) (iblk V c 5 t) (iblk V c 6 t) (iblk V c 7 t), out1_A_10 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (ms1_10 t) (hs1_10 t) (ms1_11 t) (hs1_11 t) (ms1_12 t) (hs1_12 t) (ms1_13 t) (hs1_13 t) scM1_0 (Memref.isWhole_whole _) ((hcond1_0 t).mpr h0) (iblk V c 0 t) (iblk V c 1 t) (iblk V c 2 t) (iblk V c 3 t) (iblk V c 4 t) (iblk V c 5 t) (iblk V c 6 t) (iblk V c 7 t), out1_A_11 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (ms1_10 t) (hs1_10 t) (ms1_11 t) (hs1_11 t) (ms1_12 t) (hs1_12 t) (ms1_13 t) (hs1_13 t) scM1_0 (Memref.isWhole_whole _) ((hcond1_0 t).mpr h0) (iblk V c 0 t) (iblk V c 1 t) (iblk V c 2 t) (iblk V c 3 t) (iblk V c 4 t) (iblk V c 5 t) (iblk V c 6 t) (iblk V c 7 t), out1_A_12 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (ms1_10 t) (hs1_10 t) (ms1_11 t) (hs1_11 t) (ms1_12 t) (hs1_12 t) (ms1_13 t) (hs1_13 t) scM1_0 (Memref.isWhole_whole _) ((hcond1_0 t).mpr h0) (iblk V c 0 t) (iblk V c 1 t) (iblk V c 2 t) (iblk V c 3 t) (iblk V c 4 t) (iblk V c 5 t) (iblk V c 6 t) (iblk V c 7 t), out1_A_13 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (ms1_10 t) (hs1_10 t) (ms1_11 t) (hs1_11 t) (ms1_12 t) (hs1_12 t) (ms1_13 t) (hs1_13 t) scM1_0 (Memref.isWhole_whole _) ((hcond1_0 t).mpr h0) (iblk V c 0 t) (iblk V c 1 t) (iblk V c 2 t) (iblk V c 3 t) (iblk V c 4 t) (iblk V c 5 t) (iblk V c 6 t) (iblk V c 7 t), sout1_A_0 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (ms1_10 t) (hs1_10 t) (ms1_11 t) (hs1_11 t) (ms1_12 t) (hs1_12 t) (ms1_13 t) (hs1_13 t) scM1_0 (Memref.isWhole_whole _) ((hcond1_0 t).mpr h0) (iblk V c 0 t) (iblk V c 1 t) (iblk V c 2 t) (iblk V c 3 t) (iblk V c 4 t) (iblk V c 5 t) (iblk V c 6 t) (iblk V c 7 t))

def outs1_B (c : Dev nD) (t : Fin cfg1.N) (h0 : ¬t.val % 32 = 0) (s : Vec F S8x128x128 .f32) : Vec F S8x64x128 .f32 × Vec F S8x64x128 .f32 × Vec F S8x64x64 .f32 × Vec F S8x64x128 .f32 × Vec F S8x64x128 .f32 × Vec F S8x1x1x128 .f32 × Vec F S8x128x128 .f32 :=
  (out1_B_8 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (ms1_10 t) (hs1_10 t) (ms1_11 t) (hs1_11 t) (ms1_12 t) (hs1_12 t) (ms1_13 t) (hs1_13 t) scM1_0 (Memref.isWhole_whole _) (fun h => h0 ((hcond1_0 t).mp h)) (iblk V c 0 t) (iblk V c 1 t) (iblk V c 2 t) (iblk V c 3 t) (iblk V c 4 t) (iblk V c 5 t) (iblk V c 6 t) (iblk V c 7 t) s, out1_B_9 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (ms1_10 t) (hs1_10 t) (ms1_11 t) (hs1_11 t) (ms1_12 t) (hs1_12 t) (ms1_13 t) (hs1_13 t) scM1_0 (Memref.isWhole_whole _) (fun h => h0 ((hcond1_0 t).mp h)) (iblk V c 0 t) (iblk V c 1 t) (iblk V c 2 t) (iblk V c 3 t) (iblk V c 4 t) (iblk V c 5 t) (iblk V c 6 t) (iblk V c 7 t) s, out1_B_10 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (ms1_10 t) (hs1_10 t) (ms1_11 t) (hs1_11 t) (ms1_12 t) (hs1_12 t) (ms1_13 t) (hs1_13 t) scM1_0 (Memref.isWhole_whole _) (fun h => h0 ((hcond1_0 t).mp h)) (iblk V c 0 t) (iblk V c 1 t) (iblk V c 2 t) (iblk V c 3 t) (iblk V c 4 t) (iblk V c 5 t) (iblk V c 6 t) (iblk V c 7 t) s, out1_B_11 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (ms1_10 t) (hs1_10 t) (ms1_11 t) (hs1_11 t) (ms1_12 t) (hs1_12 t) (ms1_13 t) (hs1_13 t) scM1_0 (Memref.isWhole_whole _) (fun h => h0 ((hcond1_0 t).mp h)) (iblk V c 0 t) (iblk V c 1 t) (iblk V c 2 t) (iblk V c 3 t) (iblk V c 4 t) (iblk V c 5 t) (iblk V c 6 t) (iblk V c 7 t) s, out1_B_12 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (ms1_10 t) (hs1_10 t) (ms1_11 t) (hs1_11 t) (ms1_12 t) (hs1_12 t) (ms1_13 t) (hs1_13 t) scM1_0 (Memref.isWhole_whole _) (fun h => h0 ((hcond1_0 t).mp h)) (iblk V c 0 t) (iblk V c 1 t) (iblk V c 2 t) (iblk V c 3 t) (iblk V c 4 t) (iblk V c 5 t) (iblk V c 6 t) (iblk V c 7 t) s, out1_B_13 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (ms1_10 t) (hs1_10 t) (ms1_11 t) (hs1_11 t) (ms1_12 t) (hs1_12 t) (ms1_13 t) (hs1_13 t) scM1_0 (Memref.isWhole_whole _) (fun h => h0 ((hcond1_0 t).mp h)) (iblk V c 0 t) (iblk V c 1 t) (iblk V c 2 t) (iblk V c 3 t) (iblk V c 4 t) (iblk V c 5 t) (iblk V c 6 t) (iblk V c 7 t) s, sout1_B_0 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (ms1_10 t) (hs1_10 t) (ms1_11 t) (hs1_11 t) (ms1_12 t) (hs1_12 t) (ms1_13 t) (hs1_13 t) scM1_0 (Memref.isWhole_whole _) (fun h => h0 ((hcond1_0 t).mp h)) (iblk V c 0 t) (iblk V c 1 t) (iblk V c 2 t) (iblk V c 3 t) (iblk V c 4 t) (iblk V c 5 t) (iblk V c 6 t) (iblk V c 7 t) s)

def outsAt1 (c : Dev nD) : (n : ℕ) → n < cfg1.N → Vec F S8x64x128 .f32 × Vec F S8x64x128 .f32 × Vec F S8x64x64 .f32 × Vec F S8x64x128 .f32 × Vec F S8x64x128 .f32 × Vec F S8x1x1x128 .f32 × Vec F S8x128x128 .f32
  | 0, hn => outs1_A V c ⟨0, hn⟩ rfl
  | n + 1, hn =>
    if h0 : (n + 1) % 32 = 0 then outs1_A V c ⟨n + 1, hn⟩ h0
    else outs1_B V c ⟨n + 1, hn⟩ h0 (outsAt1 c n (Nat.lt_of_succ_lt hn)).2.2.2.2.2.2

theorem outsAt1_A (c : Dev nD) (t : Fin cfg1.N) (h0 : t.val % 32 = 0) :
    outsAt1 V c t.val t.isLt = (out1_A_8 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (ms1_10 t) (hs1_10 t) (ms1_11 t) (hs1_11 t) (ms1_12 t) (hs1_12 t) (ms1_13 t) (hs1_13 t) scM1_0 (Memref.isWhole_whole _) ((hcond1_0 t).mpr h0) (iblk V c 0 t) (iblk V c 1 t) (iblk V c 2 t) (iblk V c 3 t) (iblk V c 4 t) (iblk V c 5 t) (iblk V c 6 t) (iblk V c 7 t), out1_A_9 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (ms1_10 t) (hs1_10 t) (ms1_11 t) (hs1_11 t) (ms1_12 t) (hs1_12 t) (ms1_13 t) (hs1_13 t) scM1_0 (Memref.isWhole_whole _) ((hcond1_0 t).mpr h0) (iblk V c 0 t) (iblk V c 1 t) (iblk V c 2 t) (iblk V c 3 t) (iblk V c 4 t) (iblk V c 5 t) (iblk V c 6 t) (iblk V c 7 t), out1_A_10 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (ms1_10 t) (hs1_10 t) (ms1_11 t) (hs1_11 t) (ms1_12 t) (hs1_12 t) (ms1_13 t) (hs1_13 t) scM1_0 (Memref.isWhole_whole _) ((hcond1_0 t).mpr h0) (iblk V c 0 t) (iblk V c 1 t) (iblk V c 2 t) (iblk V c 3 t) (iblk V c 4 t) (iblk V c 5 t) (iblk V c 6 t) (iblk V c 7 t), out1_A_11 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (ms1_10 t) (hs1_10 t) (ms1_11 t) (hs1_11 t) (ms1_12 t) (hs1_12 t) (ms1_13 t) (hs1_13 t) scM1_0 (Memref.isWhole_whole _) ((hcond1_0 t).mpr h0) (iblk V c 0 t) (iblk V c 1 t) (iblk V c 2 t) (iblk V c 3 t) (iblk V c 4 t) (iblk V c 5 t) (iblk V c 6 t) (iblk V c 7 t), out1_A_12 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (ms1_10 t) (hs1_10 t) (ms1_11 t) (hs1_11 t) (ms1_12 t) (hs1_12 t) (ms1_13 t) (hs1_13 t) scM1_0 (Memref.isWhole_whole _) ((hcond1_0 t).mpr h0) (iblk V c 0 t) (iblk V c 1 t) (iblk V c 2 t) (iblk V c 3 t) (iblk V c 4 t) (iblk V c 5 t) (iblk V c 6 t) (iblk V c 7 t), out1_A_13 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (ms1_10 t) (hs1_10 t) (ms1_11 t) (hs1_11 t) (ms1_12 t) (hs1_12 t) (ms1_13 t) (hs1_13 t) scM1_0 (Memref.isWhole_whole _) ((hcond1_0 t).mpr h0) (iblk V c 0 t) (iblk V c 1 t) (iblk V c 2 t) (iblk V c 3 t) (iblk V c 4 t) (iblk V c 5 t) (iblk V c 6 t) (iblk V c 7 t), sout1_A_0 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (ms1_10 t) (hs1_10 t) (ms1_11 t) (hs1_11 t) (ms1_12 t) (hs1_12 t) (ms1_13 t) (hs1_13 t) scM1_0 (Memref.isWhole_whole _) ((hcond1_0 t).mpr h0) (iblk V c 0 t) (iblk V c 1 t) (iblk V c 2 t) (iblk V c 3 t) (iblk V c 4 t) (iblk V c 5 t) (iblk V c 6 t) (iblk V c 7 t)) := by
  obtain ⟨n, hn⟩ := t
  cases n with
  | zero => exact rfl
  | succ n => exact (dif_pos h0).trans rfl

theorem outsAt1_B (c : Dev nD) (t : Fin cfg1.N) (h0 : ¬t.val % 32 = 0) :
    outsAt1 V c t.val t.isLt = (out1_B_8 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (ms1_10 t) (hs1_10 t) (ms1_11 t) (hs1_11 t) (ms1_12 t) (hs1_12 t) (ms1_13 t) (hs1_13 t) scM1_0 (Memref.isWhole_whole _) (fun h => h0 ((hcond1_0 t).mp h)) (iblk V c 0 t) (iblk V c 1 t) (iblk V c 2 t) (iblk V c 3 t) (iblk V c 4 t) (iblk V c 5 t) (iblk V c 6 t) (iblk V c 7 t) (outsAt1 V c (t.val - 1) (Nat.lt_of_le_of_lt (Nat.sub_le _ _) t.isLt)).2.2.2.2.2.2, out1_B_9 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (ms1_10 t) (hs1_10 t) (ms1_11 t) (hs1_11 t) (ms1_12 t) (hs1_12 t) (ms1_13 t) (hs1_13 t) scM1_0 (Memref.isWhole_whole _) (fun h => h0 ((hcond1_0 t).mp h)) (iblk V c 0 t) (iblk V c 1 t) (iblk V c 2 t) (iblk V c 3 t) (iblk V c 4 t) (iblk V c 5 t) (iblk V c 6 t) (iblk V c 7 t) (outsAt1 V c (t.val - 1) (Nat.lt_of_le_of_lt (Nat.sub_le _ _) t.isLt)).2.2.2.2.2.2, out1_B_10 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (ms1_10 t) (hs1_10 t) (ms1_11 t) (hs1_11 t) (ms1_12 t) (hs1_12 t) (ms1_13 t) (hs1_13 t) scM1_0 (Memref.isWhole_whole _) (fun h => h0 ((hcond1_0 t).mp h)) (iblk V c 0 t) (iblk V c 1 t) (iblk V c 2 t) (iblk V c 3 t) (iblk V c 4 t) (iblk V c 5 t) (iblk V c 6 t) (iblk V c 7 t) (outsAt1 V c (t.val - 1) (Nat.lt_of_le_of_lt (Nat.sub_le _ _) t.isLt)).2.2.2.2.2.2, out1_B_11 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (ms1_10 t) (hs1_10 t) (ms1_11 t) (hs1_11 t) (ms1_12 t) (hs1_12 t) (ms1_13 t) (hs1_13 t) scM1_0 (Memref.isWhole_whole _) (fun h => h0 ((hcond1_0 t).mp h)) (iblk V c 0 t) (iblk V c 1 t) (iblk V c 2 t) (iblk V c 3 t) (iblk V c 4 t) (iblk V c 5 t) (iblk V c 6 t) (iblk V c 7 t) (outsAt1 V c (t.val - 1) (Nat.lt_of_le_of_lt (Nat.sub_le _ _) t.isLt)).2.2.2.2.2.2, out1_B_12 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (ms1_10 t) (hs1_10 t) (ms1_11 t) (hs1_11 t) (ms1_12 t) (hs1_12 t) (ms1_13 t) (hs1_13 t) scM1_0 (Memref.isWhole_whole _) (fun h => h0 ((hcond1_0 t).mp h)) (iblk V c 0 t) (iblk V c 1 t) (iblk V c 2 t) (iblk V c 3 t) (iblk V c 4 t) (iblk V c 5 t) (iblk V c 6 t) (iblk V c 7 t) (outsAt1 V c (t.val - 1) (Nat.lt_of_le_of_lt (Nat.sub_le _ _) t.isLt)).2.2.2.2.2.2, out1_B_13 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (ms1_10 t) (hs1_10 t) (ms1_11 t) (hs1_11 t) (ms1_12 t) (hs1_12 t) (ms1_13 t) (hs1_13 t) scM1_0 (Memref.isWhole_whole _) (fun h => h0 ((hcond1_0 t).mp h)) (iblk V c 0 t) (iblk V c 1 t) (iblk V c 2 t) (iblk V c 3 t) (iblk V c 4 t) (iblk V c 5 t) (iblk V c 6 t) (iblk V c 7 t) (outsAt1 V c (t.val - 1) (Nat.lt_of_le_of_lt (Nat.sub_le _ _) t.isLt)).2.2.2.2.2.2, sout1_B_0 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (ms1_10 t) (hs1_10 t) (ms1_11 t) (hs1_11 t) (ms1_12 t) (hs1_12 t) (ms1_13 t) (hs1_13 t) scM1_0 (Memref.isWhole_whole _) (fun h => h0 ((hcond1_0 t).mp h)) (iblk V c 0 t) (iblk V c 1 t) (iblk V c 2 t) (iblk V c 3 t) (iblk V c 4 t) (iblk V c 5 t) (iblk V c 6 t) (iblk V c 7 t) (outsAt1 V c (t.val - 1) (Nat.lt_of_le_of_lt (Nat.sub_le _ _) t.isLt)).2.2.2.2.2.2) := by
  obtain ⟨n, hn⟩ := t
  cases n with
  | zero => exact (by exfalso; (try dsimp only at h0); exact absurd (Nat.zero_mod _) h0)
  | succ n => exact (dif_neg h0).trans rfl

def PhiS (c : Dev nD) : (n : ℕ) → n ≤ cfg1.N → sProp 𝕄
  | 0, _ => PhiI c
  | n + 1, hn => iprop(iprop(owns (c : Thread nD τ) scM1_0 fullShare ((outsAt1 V c n hn).2.2.2.2.2.2)) ∗ Rest (F := F) c)

theorem PhiS_zero (c : Dev nD) (n : ℕ) (h : n ≤ cfg1.N) (hz : n = 0) : PhiS V c n h = PhiI c := by
  subst hz; rfl

theorem PhiS_succ (c : Dev nD) (n : ℕ) (hn : n < cfg1.N) :
    PhiS V c (n + 1) hn = iprop(iprop(owns (c : Thread nD τ) scM1_0 fullShare ((outsAt1 V c n hn).2.2.2.2.2.2)) ∗ Rest (F := F) c) := rfl

theorem PhiS_pos (c : Dev nD) (n : ℕ) (h : n ≤ cfg1.N) (hz : n ≠ 0) :
    PhiS V c n h = iprop(iprop(owns (c : Thread nD τ) scM1_0 fullShare ((outsAt1 V c (n - 1) (by omega)).2.2.2.2.2.2)) ∗ Rest (F := F) c) := by
  cases n with
  | zero => exact absurd rfl hz
  | succ n => rfl

def dats (c : Dev nD) : Dat τ (Elt F) Unit ℕ (UR sig nD τ) ℕ cfg1 c where
  A w := V c (Pipeline.arrRef spec1 w)
  after w t := match w with
    | ⟨0, _⟩ => iblk V c 0 t
    | ⟨1, _⟩ => iblk V c 1 t
    | ⟨2, _⟩ => iblk V c 2 t
    | ⟨3, _⟩ => iblk V c 3 t
    | ⟨4, _⟩ => iblk V c 4 t
    | ⟨5, _⟩ => iblk V c 5 t
    | ⟨6, _⟩ => iblk V c 6 t
    | ⟨7, _⟩ => iblk V c 7 t
    | ⟨8, _⟩ => (outsAt1 V c t.val t.isLt).1
    | ⟨9, _⟩ => (outsAt1 V c t.val t.isLt).2.1
    | ⟨10, _⟩ => (outsAt1 V c t.val t.isLt).2.2.1
    | ⟨11, _⟩ => (outsAt1 V c t.val t.isLt).2.2.2.1
    | ⟨12, _⟩ => (outsAt1 V c t.val t.isLt).2.2.2.2.1
    | ⟨13, _⟩ => (outsAt1 V c t.val t.isLt).2.2.2.2.2.1
  Φ t := PhiS V c t.val (Nat.le_of_lt_succ t.isLt)
  q _ := fullShare
  owed _ := 0

theorem A_eq (c : Dev nD) (w : Fin cfg1.W) : (dats V c).A w = V c (Pipeline.arrRef spec1 w) := by
  dsimp only [dats]

theorem PhiS_castSucc (c : Dev nD) (t : Fin cfg1.N) :
    (dats V c).Φ t.castSucc = PhiS V c t.val (Nat.le_of_lt t.isLt) := by
  dsimp only [dats]; exact Pipeline.Dat.Φ_castSucc (PhiS V c) t

theorem after1_0 (c : Dev nD) (t : Fin cfg1.N) : (dats V c).after 0 t = iblk V c 0 t := by dsimp only [dats]
theorem after1_1 (c : Dev nD) (t : Fin cfg1.N) : (dats V c).after 1 t = iblk V c 1 t := by dsimp only [dats]
theorem after1_2 (c : Dev nD) (t : Fin cfg1.N) : (dats V c).after 2 t = iblk V c 2 t := by dsimp only [dats]
theorem after1_3 (c : Dev nD) (t : Fin cfg1.N) : (dats V c).after 3 t = iblk V c 3 t := by dsimp only [dats]
theorem after1_4 (c : Dev nD) (t : Fin cfg1.N) : (dats V c).after 4 t = iblk V c 4 t := by dsimp only [dats]
theorem after1_5 (c : Dev nD) (t : Fin cfg1.N) : (dats V c).after 5 t = iblk V c 5 t := by dsimp only [dats]
theorem after1_6 (c : Dev nD) (t : Fin cfg1.N) : (dats V c).after 6 t = iblk V c 6 t := by dsimp only [dats]
theorem after1_7 (c : Dev nD) (t : Fin cfg1.N) : (dats V c).after 7 t = iblk V c 7 t := by dsimp only [dats]
theorem after1_8 (c : Dev nD) (t : Fin cfg1.N) : (dats V c).after 8 t = (outsAt1 V c t.val t.isLt).1 := by dsimp only [dats]
theorem after1_9 (c : Dev nD) (t : Fin cfg1.N) : (dats V c).after 9 t = (outsAt1 V c t.val t.isLt).2.1 := by dsimp only [dats]
theorem after1_10 (c : Dev nD) (t : Fin cfg1.N) : (dats V c).after 10 t = (outsAt1 V c t.val t.isLt).2.2.1 := by dsimp only [dats]
theorem after1_11 (c : Dev nD) (t : Fin cfg1.N) : (dats V c).after 11 t = (outsAt1 V c t.val t.isLt).2.2.2.1 := by dsimp only [dats]
theorem after1_12 (c : Dev nD) (t : Fin cfg1.N) : (dats V c).after 12 t = (outsAt1 V c t.val t.isLt).2.2.2.2.1 := by dsimp only [dats]
theorem after1_13 (c : Dev nD) (t : Fin cfg1.N) : (dats V c).after 13 t = (outsAt1 V c t.val t.isLt).2.2.2.2.2.1 := by dsimp only [dats]

theorem before1_0 (c : Dev nD) (t : Fin cfg1.N) (d) : (dats V c).before 0 t d = iblk V c 0 t :=
  before1_0_of V (dats V c) (A_eq V c 0) (after1_0 V c) t d
theorem before1_1 (c : Dev nD) (t : Fin cfg1.N) (d) : (dats V c).before 1 t d = iblk V c 1 t :=
  before1_1_of V (dats V c) (A_eq V c 1) (after1_1 V c) t d
theorem before1_2 (c : Dev nD) (t : Fin cfg1.N) (d) : (dats V c).before 2 t d = iblk V c 2 t :=
  before1_2_of V (dats V c) (A_eq V c 2) (after1_2 V c) t d
theorem before1_3 (c : Dev nD) (t : Fin cfg1.N) (d) : (dats V c).before 3 t d = iblk V c 3 t :=
  before1_3_of V (dats V c) (A_eq V c 3) (after1_3 V c) t d
theorem before1_4 (c : Dev nD) (t : Fin cfg1.N) (d) : (dats V c).before 4 t d = iblk V c 4 t :=
  before1_4_of V (dats V c) (A_eq V c 4) (after1_4 V c) t d
theorem before1_5 (c : Dev nD) (t : Fin cfg1.N) (d) : (dats V c).before 5 t d = iblk V c 5 t :=
  before1_5_of V (dats V c) (A_eq V c 5) (after1_5 V c) t d
theorem before1_6 (c : Dev nD) (t : Fin cfg1.N) (d) : (dats V c).before 6 t d = iblk V c 6 t :=
  before1_6_of V (dats V c) (A_eq V c 6) (after1_6 V c) t d
theorem before1_7 (c : Dev nD) (t : Fin cfg1.N) (d) : (dats V c).before 7 t d = iblk V c 7 t :=
  before1_7_of V (dats V c) (A_eq V c 7) (after1_7 V c) t d

def bodyPre (c : Dev nD) (t : Fin cfg1.N) : sProp 𝕄 :=
  iprop((dats V c).Φ t.castSucc ∗ (dats V c).owesAt () t.castSucc
    ∗ (∃ d, owns (c : Thread nD τ) (ms1_0 t) fullShare ((dats V c).before 0 t d))
    ∗ (∃ d, owns (c : Thread nD τ) (ms1_1 t) fullShare ((dats V c).before 1 t d))
    ∗ (∃ d, owns (c : Thread nD τ) (ms1_2 t) fullShare ((dats V c).before 2 t d))
    ∗ (∃ d, owns (c : Thread nD τ) (ms1_3 t) fullShare ((dats V c).before 3 t d))
    ∗ (∃ d, owns (c : Thread nD τ) (ms1_4 t) fullShare ((dats V c).before 4 t d))
    ∗ (∃ d, owns (c : Thread nD τ) (ms1_5 t) fullShare ((dats V c).before 5 t d))
    ∗ (∃ d, owns (c : Thread nD τ) (ms1_6 t) fullShare ((dats V c).before 6 t d))
    ∗ (∃ d, owns (c : Thread nD τ) (ms1_7 t) fullShare ((dats V c).before 7 t d))
    ∗ (∃ d, owns (c : Thread nD τ) (ms1_8 t) fullShare ((dats V c).before 8 t d))
    ∗ (∃ d, owns (c : Thread nD τ) (ms1_9 t) fullShare ((dats V c).before 9 t d))
    ∗ (∃ d, owns (c : Thread nD τ) (ms1_10 t) fullShare ((dats V c).before 10 t d))
    ∗ (∃ d, owns (c : Thread nD τ) (ms1_11 t) fullShare ((dats V c).before 11 t d))
    ∗ (∃ d, owns (c : Thread nD τ) (ms1_12 t) fullShare ((dats V c).before 12 t d))
    ∗ (∃ d, owns (c : Thread nD τ) (ms1_13 t) fullShare ((dats V c).before 13 t d)))

def bodyPost (c : Dev nD) (t : Fin cfg1.N) : sProp 𝕄 :=
  iprop((dats V c).Φ t.succ ∗ (dats V c).owesAt () t.succ
    ∗ owns (c : Thread nD τ) (ms1_0 t) fullShare ((dats V c).after 0 t)
    ∗ owns (c : Thread nD τ) (ms1_1 t) fullShare ((dats V c).after 1 t)
    ∗ owns (c : Thread nD τ) (ms1_2 t) fullShare ((dats V c).after 2 t)
    ∗ owns (c : Thread nD τ) (ms1_3 t) fullShare ((dats V c).after 3 t)
    ∗ owns (c : Thread nD τ) (ms1_4 t) fullShare ((dats V c).after 4 t)
    ∗ owns (c : Thread nD τ) (ms1_5 t) fullShare ((dats V c).after 5 t)
    ∗ owns (c : Thread nD τ) (ms1_6 t) fullShare ((dats V c).after 6 t)
    ∗ owns (c : Thread nD τ) (ms1_7 t) fullShare ((dats V c).after 7 t)
    ∗ owns (c : Thread nD τ) (ms1_8 t) fullShare ((dats V c).after 8 t)
    ∗ owns (c : Thread nD τ) (ms1_9 t) fullShare ((dats V c).after 9 t)
    ∗ owns (c : Thread nD τ) (ms1_10 t) fullShare ((dats V c).after 10 t)
    ∗ owns (c : Thread nD τ) (ms1_11 t) fullShare ((dats V c).after 11 t)
    ∗ owns (c : Thread nD τ) (ms1_12 t) fullShare ((dats V c).after 12 t)
    ∗ owns (c : Thread nD τ) (ms1_13 t) fullShare ((dats V c).after 13 t))

set_option maxHeartbeats 9600000 in
theorem sound_body (c : Dev nD) (t : Fin cfg1.N) :
    bodyPre V c t ⊢ wp frame (wpE (defs₀ (F := F)) Variants.none c none) Set.univ (bodyAt1 t) (fun _ => bodyPost V c t) := by
  unfold bodyPre bodyPost bodyAt1
  simp only [before1_0, before1_1, before1_2, before1_3, before1_4, before1_5, before1_6, before1_7]
  rw [show (dats V c).owesAt () t.succ = (dats V c).owesAt () t.castSucc from rfl,
    after1_0, after1_1, after1_2, after1_3, after1_4, after1_5, after1_6, after1_7, after1_8, after1_9, after1_10, after1_11, after1_12, after1_13]
  rw [show (dats V c).Φ t.succ = PhiS V c (t.val + 1) t.isLt from rfl, PhiS_succ]
  have hN : t.val < 32 := lt_of_lt_of_eq t.isLt (show cfg1.N = 32 from N_1)
  by_cases h0 : t.val % 32 = 0
  · by_cases hz : t.val = 0
    · rw [PhiS_castSucc V c t, PhiS_zero V c _ _ hz]
      rw [outsAt1_A V c t h0]
      unfold out1_A_8 out1_A_9 out1_A_10 out1_A_11 out1_A_12 out1_A_13 sout1_A_0; (try dsimp only)
      iintro ⟨⟨HS0, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩⟩
      iapply ((kernelRun1_A c (grid1.coords t) _ _ _ _ _ _ _ _ _ _ _ _ _ _ _ _ _ _ _ _ _ _ _ _ _ _ _ _ _ _ ((hcond1_0 t).mpr h0) (iblk V c 0 t) (iblk V c 1 t) (iblk V c 2 t) (iblk V c 3 t) (iblk V c 4 t) (iblk V c 5 t) (iblk V c 6 t) (iblk V c 7 t)).2.2.2.2.2.2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexists _; iexact H8
      isplitl [H9]; · iexists _; iexact H9
      isplitl [H10]; · iexists _; iexact H10
      isplitl [H11]; · iexists _; iexact H11
      isplitl [H12]; · iexists _; iexact H12
      isplitl [H13]; · iexists _; iexact H13
      isplitl [HS0]; · iexact HS0
      iintro ⟨H0, H1, H2, H3, H4, H5, H6, H7, ⟨%e8, H8⟩, ⟨%e9, H9⟩, ⟨%e10, H10⟩, ⟨%e11, H11⟩, ⟨%e12, H12⟩, ⟨%e13, H13⟩, ⟨%es0, HS0⟩⟩
      isplitl [HS0 Hg]
      · isplitl [HS0]
        · unfold owns; iexists _; isplitr
          swap; · iexact HS0
          ipureintro; exact View.read_writes_of_cover _ _ _ _ _ (scover1_A_0 c _ _ _ _ _ _ _ _ _ _ _ _ _ _ _ _ _ _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]
      · unfold owns; iexists _; isplitr
        swap; · iexact H8
        ipureintro; exact View.read_writes_of_cover _ _ _ _ _ (cover1_A_8 c _ _ _ _ _ _ _ _ _ _ _ _ _ _ _ _ _ _ _ _ _ _ _ _ _ _ _ _ _ _ _ _ _ _ _ _ _ _ _ _)
      isplitl [H9]
      · unfold owns; iexists _; isplitr
        swap; · iexact H9
        ipureintro; exact View.read_writes_of_cover _ _ _ _ _ (cover1_A_9 c _ _ _ _ _ _ _ _ _ _ _ _ _ _ _ _ _ _ _ _ _ _ _ _ _ _ _ _ _ _ _ _ _ _ _ _ _ _ _ _)
      isplitl [H10]
      · unfold owns; iexists _; isplitr
        swap; · iexact H10
        ipureintro; exact View.read_writes_of_cover _ _ _ _ _ (cover1_A_10 c _ _ _ _ _ _ _ _ _ _ _ _ _ _ _ _ _ _ _ _ _ _ _ _ _ _ _ _ _ _ _ _ _ _ _ _ _ _ _ _)
      isplitl [H11]
      · unfold owns; iexists _; isplitr
        swap; · iexact H11
        ipureintro; exact View.read_writes_of_cover _ _ _ _ _ (cover1_A_11 c _ _ _ _ _ _ _ _ _ _ _ _ _ _ _ _ _ _ _ _ _ _ _ _ _ _ _ _ _ _ _ _ _ _ _ _ _ _ _ _)
      isplitl [H12]
      · unfold owns; iexists _; isplitr
        swap; · iexact H12
        ipureintro; exact View.read_writes_of_cover _ _ _ _ _ (cover1_A_12 c _ _ _ _ _ _ _ _ _ _ _ _ _ _ _ _ _ _ _ _ _ _ _ _ _ _ _ _ _ _ _ _ _ _ _ _ _ _ _ _)
      unfold owns; iexists _; isplitr
      swap; · iexact H13
      ipureintro; exact View.read_writes_of_cover _ _ _ _ _ (cover1_A_13 c _ _ _ _ _ _ _ _ _ _ _ _ _ _ _ _ _ _ _ _ _ _ _ _ _ _ _ _ _ _ _ _ _ _ _ _ _ _ _ _)
    · exfalso; have hN : t.val < 32 := lt_of_lt_of_eq t.isLt (show cfg1.N = 32 from N_1); omega
  · by_cases hz : t.val = 0
    · exfalso; have hN : t.val < 32 := lt_of_lt_of_eq t.isLt (show cfg1.N = 32 from N_1); omega
    · rw [PhiS_castSucc V c t, PhiS_pos V c _ _ hz]
      rw [outsAt1_B V c t h0]
      unfold out1_B_8 out1_B_9 out1_B_10 out1_B_11 out1_B_12 out1_B_13 sout1_B_0; (try dsimp only)
      iintro ⟨⟨HS0, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩⟩
      iapply ((kernelRun1_B c (grid1.coords t) _ _ _ _ _ _ _ _ _ _ _ _ _ _ _ _ _ _ _ _ _ _ _ _ _ _ _ _ _ _ (fun h => h0 ((hcond1_0 t).mp h)) (iblk V c 0 t) (iblk V c 1 t) (iblk V c 2 t) (iblk V c 3 t) (iblk V c 4 t) (iblk V c 5 t) (iblk V c 6 t) (iblk V c 7 t) _).2.2.2.2.2.2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexists _; iexact H8
      isplitl [H9]; · iexists _; iexact H9
      isplitl [H10]; · iexists _; iexact H10
      isplitl [H11]; · iexists _; iexact H11
      isplitl [H12]; · iexists _; iexact H12
      isplitl [H13]; · iexists _; iexact H13
      isplitl [HS0]; · iexact HS0
      iintro ⟨H0, H1, H2, H3, H4, H5, H6, H7, ⟨%e8, H8⟩, ⟨%e9, H9⟩, ⟨%e10, H10⟩, ⟨%e11, H11⟩, ⟨%e12, H12⟩, ⟨%e13, H13⟩, ⟨%es0, HS0⟩⟩
      isplitl [HS0 Hg]
      · isplitl [HS0]
        · unfold owns; iexists _; isplitr
          swap; · iexact HS0
          ipureintro; exact View.read_writes_of_cover _ _ _ _ _ (scover1_B_0 c _ _ _ _ _ _ _ _ _ _ _ _ _ _ _ _ _ _ _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]
      · unfold owns; iexists _; isplitr
        swap; · iexact H8
        ipureintro; exact View.read_writes_of_cover _ _ _ _ _ (cover1_B_8 c _ _ _ _ _ _ _ _ _ _ _ _ _ _ _ _ _ _ _ _ _ _ _ _ _ _ _ _ _ _ _ _ _ _ _ _ _ _ _ _ _)
      isplitl [H9]
      · unfold owns; iexists _; isplitr
        swap; · iexact H9
        ipureintro; exact View.read_writes_of_cover _ _ _ _ _ (cover1_B_9 c _ _ _ _ _ _ _ _ _ _ _ _ _ _ _ _ _ _ _ _ _ _ _ _ _ _ _ _ _ _ _ _ _ _ _ _ _ _ _ _ _)
      isplitl [H10]
      · unfold owns; iexists _; isplitr
        swap; · iexact H10
        ipureintro; exact View.read_writes_of_cover _ _ _ _ _ (cover1_B_10 c _ _ _ _ _ _ _ _ _ _ _ _ _ _ _ _ _ _ _ _ _ _ _ _ _ _ _ _ _ _ _ _ _ _ _ _ _ _ _ _ _)
      isplitl [H11]
      · unfold owns; iexists _; isplitr
        swap; · iexact H11
        ipureintro; exact View.read_writes_of_cover _ _ _ _ _ (cover1_B_11 c _ _ _ _ _ _ _ _ _ _ _ _ _ _ _ _ _ _ _ _ _ _ _ _ _ _ _ _ _ _ _ _ _ _ _ _ _ _ _ _ _)
      isplitl [H12]
      · unfold owns; iexists _; isplitr
        swap; · iexact H12
        ipureintro; exact View.read_writes_of_cover _ _ _ _ _ (cover1_B_12 c _ _ _ _ _ _ _ _ _ _ _ _ _ _ _ _ _ _ _ _ _ _ _ _ _ _ _ _ _ _ _ _ _ _ _ _ _ _ _ _ _)
      unfold owns; iexists _; isplitr
      swap; · iexact H13
      ipureintro; exact View.read_writes_of_cover _ _ _ _ _ (cover1_B_13 c _ _ _ _ _ _ _ _ _ _ _ _ _ _ _ _ _ _ _ _ _ _ _ _ _ _ _ _ _ _ _ _ _ _ _ _ _ _ _ _ _)

theorem defs₀_row (t : Fin cfg1.N) :
    defs₀ (F := F) .tc cfg1.body (cfg1.bodyArgs t (cfg1.slots t)) = bodyAt1 t := by
  unfold defs₀; rw [Defs.onTc_tc]

theorem body_obligation (c : Dev nD) : BodyObligation (dats (F := F) V c) (defs₀ (F := F)) Variants.none () Set.univ := fun t => by
  rw [bigSep_W1, bigSep_W1, defs₀_row]
  exact triple_restated (sound_body V c t) rfl .rfl fun _ => .rfl

theorem hin (c : Dev nD) : Pipeline.ΦA spec1 c ⊢ (dats V c).Φ 0 := by
  rw [show (dats V c).Φ 0 = PhiS V c 0 (Nat.zero_le _) from rfl, PhiS_zero V c 0 _ rfl]
  exact PhiI_in c

theorem Phi_out (c : Dev nD) (t : Fin (cfg1.N + 1)) (ht : t.val ≠ 0) : (dats V c).Φ t ⊢ PhiI c := by
  rw [show (dats V c).Φ t = PhiS V c t.val (Nat.le_of_lt_succ t.isLt) from rfl, PhiS_pos V c _ _ ht]
  iintro ⟨HS0, Hg⟩
  isplitl [HS0]
  · iexists _; iexact HS0
  iexact Hg

theorem hout (c : Dev nD) : (dats V c).Φ (Fin.last cfg1.N) ⊢ Pipeline.ΦA spec1 c :=
  (Phi_out V c _ (by rw [Fin.val_last]; have : cfg1.N = 32 := N_1; omega)).trans (PhiI_out c)

end Cert.KernelIdeal.Bwd

end
-- ==== Proof.TwoRegions.lean ====
module

public import proofs.«01_k».proof.Proof.FwdFrame
public import proofs.«01_k».proof.Proof.BwdFrame
public import Idealize.ShloMosaic.Lib.Pipeline.RegionsLoop
public import Idealize.ShloMosaic.Lib.Pipeline.FrameSuffix

@[expose] public section

set_option maxRecDepth 16384

noncomputable section

namespace Cert.KernelIdeal.Two

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

abbrev argRefs : List (Ref sig .tc) := [main_arg0, main_arg1, main_arg2, main_arg3, main_arg4, main_arg5, main_arg6]

abbrev W0 : Dev nD → Valuation τ sig (Elt F) := fun c b => (s₀ m ρ).mem ((c : Dev nD), b)
theorem W0_args (c : Dev nD) : ∀ a ∈ argRefs, W0 m ρ c (Proc.devRef .tc a) = m ((c : Thread nD τ).loc a) := fun _ _ => rfl
abbrev V0 : (c : Dev nD) → (b : Ref sig .tc) → Buf (Elt F) ((c : Thread nD τ).loc b) := fun c b => W0 m ρ c b
def W1 (c : Dev nD) : Valuation τ sig (Elt F) :=
  Pipeline.withArrays spec0 c (W0 m ρ c) fun w => (Fwd.dats (V0 m ρ) c).arrAt w cfg0.N
theorem W1_arr (c : Dev nD) (w : Fin cfg0.W) :
    W1 m ρ c (Proc.devRef .tc (Pipeline.arrRef spec0 w)) = (Fwd.dats (V0 m ρ) c).arrAt w cfg0.N := by
  unfold W1; exact Pipeline.withArrays_arr spec0 launch0.win.arr_inj c _ _ w
theorem W1_of_ne (c : Dev nD) (b : Ref sig .tc) (hb : ∀ w, Pipeline.arrRef spec0 w ≠ b) :
    W1 m ρ c (Proc.devRef .tc b) = W0 m ρ c (Proc.devRef .tc b) := by
  unfold W1; exact Pipeline.withArrays_of_ne spec0 c _ _ b hb
theorem W1_of (c : Dev nD) (r : Ref sig .tc) (h : ∀ w : Fin cfg0.W, Pipeline.arrRef spec0 w = r → (cfg0.win w).isOut = false) :
    W1 m ρ c (Proc.devRef .tc r) = W0 m ρ c (Proc.devRef .tc r) := by
  by_cases hw : ∃ w : Fin cfg0.W, Pipeline.arrRef spec0 w = r
  · obtain ⟨w, rfl⟩ := hw
    exact (W1_arr m ρ c w).trans (((Fwd.dats (V0 m ρ) c).arrAt_in w (h w rfl) _).trans (Fwd.A_eq (V0 m ρ) c w))
  · exact W1_of_ne m ρ c r fun w e => hw ⟨w, e⟩
theorem argsIn0 : ∀ a ∈ argRefs, ∀ w : Fin cfg0.W, Pipeline.arrRef spec0 w = a → (cfg0.win w).isOut = false :=
  ListAll.forall_mem_of_all_decide (by decide +kernel)
theorem W1_args (c : Dev nD) : ∀ a ∈ argRefs, W1 m ρ c (Proc.devRef .tc a) = m ((c : Thread nD τ).loc a) :=
  fun a ha => (W1_of m ρ c a (argsIn0 a ha)).trans (W0_args m ρ c a ha)
abbrev V1 : (c : Dev nD) → (b : Ref sig .tc) → Buf (Elt F) ((c : Thread nD τ).loc b) := fun c b => W1 m ρ c b
theorem hF0 (c : Dev nD) (w : Fin cfg0.W) : (Fwd.dats (V0 m ρ) c).arrAt w cfg0.N = V1 m ρ c (Pipeline.arrRef spec0 w) :=
  (W1_arr m ρ c w).symm
theorem hrest0 (c : Dev nD) : ∀ b, b ∉ Finset.univ.image (Pipeline.arrRef spec0) → V1 m ρ c b = V0 m ρ c b :=
  fun b hb => W1_of_ne m ρ c b fun w e => hb (Finset.mem_image.mpr ⟨w, Finset.mem_univ _, e⟩)

def W2 (c : Dev nD) : Valuation τ sig (Elt F) :=
  Pipeline.withArrays spec1 c (W1 m ρ c) fun w => (Bwd.dats (V1 m ρ) c).arrAt w cfg1.N
theorem W2_arr (c : Dev nD) (w : Fin cfg1.W) :
    W2 m ρ c (Proc.devRef .tc (Pipeline.arrRef spec1 w)) = (Bwd.dats (V1 m ρ) c).arrAt w cfg1.N := by
  unfold W2; exact Pipeline.withArrays_arr spec1 launch1.win.arr_inj c _ _ w
theorem W2_of_ne (c : Dev nD) (b : Ref sig .tc) (hb : ∀ w, Pipeline.arrRef spec1 w ≠ b) :
    W2 m ρ c (Proc.devRef .tc b) = W1 m ρ c (Proc.devRef .tc b) := by
  unfold W2; exact Pipeline.withArrays_of_ne spec1 c _ _ b hb
theorem W2_of (c : Dev nD) (r : Ref sig .tc) (h : ∀ w : Fin cfg1.W, Pipeline.arrRef spec1 w = r → (cfg1.win w).isOut = false) :
    W2 m ρ c (Proc.devRef .tc r) = W1 m ρ c (Proc.devRef .tc r) := by
  by_cases hw : ∃ w : Fin cfg1.W, Pipeline.arrRef spec1 w = r
  · obtain ⟨w, rfl⟩ := hw
    exact (W2_arr m ρ c w).trans (((Bwd.dats (V1 m ρ) c).arrAt_in w (h w rfl) _).trans (Bwd.A_eq (V1 m ρ) c w))
  · exact W2_of_ne m ρ c r fun w e => hw ⟨w, e⟩
theorem argsIn1 : ∀ a ∈ argRefs, ∀ w : Fin cfg1.W, Pipeline.arrRef spec1 w = a → (cfg1.win w).isOut = false :=
  ListAll.forall_mem_of_all_decide (by decide +kernel)
theorem W2_args (c : Dev nD) : ∀ a ∈ argRefs, W2 m ρ c (Proc.devRef .tc a) = m ((c : Thread nD τ).loc a) :=
  fun a ha => (W2_of m ρ c a (argsIn1 a ha)).trans (W1_args m ρ c a ha)
abbrev V2 : (c : Dev nD) → (b : Ref sig .tc) → Buf (Elt F) ((c : Thread nD τ).loc b) := fun c b => W2 m ρ c b
theorem hF1 (c : Dev nD) (w : Fin cfg1.W) : (Bwd.dats (V1 m ρ) c).arrAt w cfg1.N = V2 m ρ c (Pipeline.arrRef spec1 w) :=
  (W2_arr m ρ c w).symm
theorem hrest1 (c : Dev nD) : ∀ b, b ∉ Finset.univ.image (Pipeline.arrRef spec1) → V2 m ρ c b = V1 m ρ c b :=
  fun b hb => W2_of_ne m ρ c b fun w e => hb (Finset.mem_image.mpr ⟨w, Finset.mem_univ _, e⟩)

abbrev adm : (p : Fin 2) → (pcfgs (F := F) p).Adm := fun p => (cfgs p).toPCfg_adm
def pdats : (p : Fin 2) → (c : Dev nD) → Dat τ (Elt F) Unit ℕ (UR sig nD τ) ℕ (Pipeline.pin (pcfgs (F := F)) adm p) c
  | ⟨0, _⟩ => fun c => Fwd.dats (V0 m ρ) c
  | ⟨1, _⟩ => fun c => Bwd.dats (V1 m ρ) c
abbrev 𝒱₀ : Variants := Variants.none
abbrev L : GSem nD τ sig → Finset Unit := fun _ => ∅
abbrev lv : GSem nD τ sig → Unit → ℕ := fun _ _ => 0
abbrev R (c : Dev nD) : sProp 𝕄 := iprop((∃ r, prngReg c r) ∗ ∃ W, owes (c : Thread nD τ) (0 : CellTallies nD τ sig Unit) W)
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W2 m ρ c) ∗ ∃ r, prngReg c r)
set_option backward.isDefEq.respectTransparency.types false in
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (Fwd.body_obligation (V0 m ρ) c).loose
  hwaits := Pipeline.hwaits_of_owed_zero _ _ _ _ L lv 0 fun _ _ => rfl
  pre c := iprop(StableHlo.held (c : Thread nD τ) (Pipeline.ucRefs τ sig) (W0 m ρ c) ∗ R c)
  post c := iprop(StableHlo.held (c : Thread nD τ) (Pipeline.ucRefs τ sig) (W1 m ρ c) ∗ R c)
  X c := iprop(∃ r, prngReg c r)
  Y c := iprop(∃ r, prngReg c r)
  Z c := Pipeline.unscopedRest (Ix := Unit) (Name := ℕ) (U := UR sig nD τ) (Lvl := ℕ) spec0 c (V0 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V0 m ρ c) (Fwd.A_eq (V0 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (Fwd.hin (V0 m ρ) c)
    unfold Pipeline.ΦA
    iintro ⟨Hp, -, Hr⟩
    isplitl [Hr]; · iexact Hr
    iexact Hp
  hout c := by
    rw [Pipeline.ownSems0_none]
    refine BIBase.Entails.trans (Fwd.hout (V0 m ρ) c) ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V0 m ρ c) (V1 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO
set_option backward.isDefEq.respectTransparency.types false in
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (Bwd.body_obligation (V1 m ρ) c).loose
  hwaits := Pipeline.hwaits_of_owed_zero _ _ _ _ L lv 1 fun _ _ => rfl
  pre c := iprop(StableHlo.held (c : Thread nD τ) (Pipeline.ucRefs τ sig) (W1 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V1 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V1 m ρ c) (Bwd.A_eq (V1 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (Bwd.hin (V1 m ρ) c)
    unfold Pipeline.ΦA
    iintro ⟨Hp, -, Hr⟩
    isplitl [Hr]; · iexact Hr
    iexact Hp
  hout c := by
    rw [Pipeline.ownSems0_none]
    refine BIBase.Entails.trans (Bwd.hout (V1 m ρ) c) ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V1 m ρ c) (V2 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

abbrev segs : List (Pipeline.Seg (pcfgs (F := F)) adm (pdats m ρ) () defs₀ 𝒱₀ L lv) :=
  [ .region (reg0 m ρ),
    .region (reg1 m ρ) ]
theorem main_run (c : Dev nD) : main (F := F) c = Pipeline.Seg.run (segs m ρ) := (main_chain c).trans (by chain_rfl)

theorem no_unscoped : ∀ sm : SemLoc sig, sm.isScoped .tc = true := by decide
set_option backward.isDefEq.respectTransparency.types false in
theorem run_all : θ_run defs (onTc (τ := τ) (main (F := F))) ⟨m, fun _ => 0, ρ⟩ (fun r => (∀ c : Dev nD, ∀ b ∈ Pipeline.ucRefs τ sig,
      r.2.mem (((c : Thread nD τ)).1, b) = W2 m ρ c b) ∧ r.2.sem = fun _ => 0) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W2 m ρ c b)
    (hfin := fun c s' => by
      iintro ⟨⟨Hh, -⟩, HSI⟩
      unfold StableHlo.held
      imodintro
      iapply (pointsTo_read_all (Pipeline.ucRefs τ sig) (fun b => (((c : Thread nD τ)).1, b)) (W2 m ρ c) s')
      isplitl [Hh] <;> iassumption)
    (hQ := fun s h hz => ⟨h, funext fun g => hz g (.inr (no_unscoped g.2))⟩)

end Cert.KernelIdeal.Two

end
-- ==== Proof.Recurrence.lean ====
module

public import Idealize.ShloMosaic.Lib.Pointwise

/-! The recurrence over chunks and its gradient, as formulas over the extended reals. One head's chunk has 64 rows; a
    head's state is a 128 by 128 matrix; there are 32 chunks and 8 heads. -/

@[expose] public section

set_option maxRecDepth 16384

noncomputable section

namespace Cert.Recurrence

open Idealize.ShloMosaic

/-- The arguments with 128 columns: u, w, qd, kd and the cotangent. -/
abbrev Arr : Shape := ⟨3, ![8, 2048, 128]⟩
/-- The argument with 64 columns: a. -/
abbrev Sq : Shape := ⟨3, ![8, 2048, 64]⟩
/-- The decay of each chunk: egl. -/
abbrev Dec : Shape := ⟨4, ![8, 32, 1, 128]⟩

/-- A chunk's rows of 128. -/
abbrev Rows := Fin 64 → Fin 128 → EReal
/-- A chunk's rows of 64. -/
abbrev SqRows := Fin 64 → Fin 64 → EReal
/-- A state, or the cotangent of a state. -/
abbrev State := Fin 128 → Fin 128 → EReal

/-! ## One chunk of one head -/

/-- The new values: u minus w times the state. -/
def vnew (u w : Rows) (S : State) (c : Fin 64) (v : Fin 128) : EReal := u c v - ∑ k : Fin 128, w c k * S k v
/-- The state after the chunk: decayed, plus kd transposed times the new values. -/
def snext (u w kd : Rows) (e : Fin 128 → EReal) (S : State) (k v : Fin 128) : EReal :=
  S k v * e v + ∑ c : Fin 64, kd c k * vnew u w S c v
/-- The cotangent of the new values, which is that of u: from the next state and from the output. -/
def du (a : SqRows) (kd g : Rows) (D : State) (c : Fin 64) (v : Fin 128) : EReal :=
  ∑ k : Fin 128, kd c k * D k v + ∑ r : Fin 64, a r c * g r v
/-- The cotangent of w. -/
def dw (a : SqRows) (kd g : Rows) (S D : State) (c : Fin 64) (k : Fin 128) : EReal :=
  ∑ v : Fin 128, (0 - du a kd g D c v) * S k v
/-- The cotangent of a. -/
def da (u w g : Rows) (S : State) (r c : Fin 64) : EReal := ∑ v : Fin 128, g r v * vnew u w S c v
/-- The cotangent of qd. -/
def dqd (g : Rows) (S : State) (c : Fin 64) (k : Fin 128) : EReal := ∑ v : Fin 128, g c v * S k v
/-- The cotangent of kd. -/
def dkd (u w : Rows) (S D : State) (c : Fin 64) (k : Fin 128) : EReal := ∑ v : Fin 128, vnew u w S c v * D k v
/-- The cotangent of the decay. -/
def degl (S D : State) (v : Fin 128) : EReal := ∑ k : Fin 128, S k v * D k v
/-- The cotangent of the state before the chunk. -/
def dprev (w : Rows) (a : SqRows) (qd kd g : Rows) (e : Fin 128 → EReal) (D : State) (k v : Fin 128) : EReal :=
  D k v * e v + ∑ c : Fin 64, qd c k * g c v + ∑ c : Fin 64, w c k * (0 - du a kd g D c v)

/-! ## The formulas respect equality of their arguments -/

theorem snext_congr {u u' : Rows} {w w' : Rows} {kd kd' : Rows} {e e' : Fin 128 → EReal} {S S' : State}
    (hu : u = u') (hw : w = w') (hkd : kd = kd') (he : e = e') (hS : S = S') (k : Fin 128) (v : Fin 128) :
    snext u w kd e S k v = snext u' w' kd' e' S' k v := by
  subst_vars; rfl
theorem du_congr {a a' : SqRows} {kd kd' : Rows} {g g' : Rows} {D D' : State}
    (ha : a = a') (hkd : kd = kd') (hg : g = g') (hD : D = D') (c : Fin 64) (v : Fin 128) :
    du a kd g D c v = du a' kd' g' D' c v := by
  subst_vars; rfl
theorem dw_congr {a a' : SqRows} {kd kd' : Rows} {g g' : Rows} {S S' : State} {D D' : State}
    (ha : a = a') (hkd : kd = kd') (hg : g = g') (hS : S = S') (hD : D = D') (c : Fin 64) (v : Fin 128) :
    dw a kd g S D c v = dw a' kd' g' S' D' c v := by
  subst_vars; rfl
theorem da_congr {u u' : Rows} {w w' : Rows} {g g' : Rows} {S S' : State}
    (hu : u = u') (hw : w = w') (hg : g = g') (hS : S = S') (c : Fin 64) (r : Fin 64) :
    da u w g S c r = da u' w' g' S' c r := by
  subst_vars; rfl
theorem dqd_congr {g g' : Rows} {S S' : State}
    (hg : g = g') (hS : S = S') (c : Fin 64) (v : Fin 128) :
    dqd g S c v = dqd g' S' c v := by
  subst_vars; rfl
theorem dkd_congr {u u' : Rows} {w w' : Rows} {S S' : State} {D D' : State}
    (hu : u = u') (hw : w = w') (hS : S = S') (hD : D = D') (c : Fin 64) (v : Fin 128) :
    dkd u w S D c v = dkd u' w' S' D' c v := by
  subst_vars; rfl
theorem degl_congr {S S' : State} {D D' : State}
    (hS : S = S') (hD : D = D') (v : Fin 128) :
    degl S D v = degl S' D' v := by
  subst_vars; rfl
theorem dprev_congr {w w' : Rows} {a a' : SqRows} {qd qd' : Rows} {kd kd' : Rows} {g g' : Rows} {e e' : Fin 128 → EReal} {D D' : State}
    (hw : w = w') (ha : a = a') (hqd : qd = qd') (hkd : kd = kd') (hg : g = g') (he : e = e') (hD : D = D') (k : Fin 128) (v : Fin 128) :
    dprev w a qd kd g e D k v = dprev w' a' qd' kd' g' e' D' k v := by
  subst_vars; rfl

/-! ## The chunks of an array -/

/-- Row `c` of chunk `n`. -/
def row (n : Fin 32) (c : Fin 64) : Fin 2048 := ⟨64 * n.val + c.val, by omega⟩
/-- The chunk a row lies in. -/
def chunkOf (i : Fin 2048) : Fin 32 := ⟨i.val / 64, by omega⟩
/-- Its place in the chunk. -/
def placeOf (i : Fin 2048) : Fin 64 := ⟨i.val % 64, by omega⟩

/-- Chunk `n` of head `h`, 128 columns. -/
def rows (X : Arr.Idx → EReal) (h : Fin 8) (n : Fin 32) : Rows := fun c v => X (ix3 h (row n c) v)
/-- Chunk `n` of head `h`, 64 columns. -/
def sqRows (X : Sq.Idx → EReal) (h : Fin 8) (n : Fin 32) : SqRows := fun r c => X (ix3 h (row n r) c)
/-- The decay of chunk `n` of head `h`. -/
def dec (X : Dec.Idx → EReal) (h : Fin 8) (n : Fin 32) : Fin 128 → EReal := fun v => X (ix4 h n 0 v)

/-- The chunk at step `n` of the forward sweep. -/
def at_ (n : ℕ) : Fin 32 := ⟨n % 32, by omega⟩
/-- The chunk at step `n` of the backward sweep. -/
def back (n : ℕ) : Fin 32 := ⟨31 - n % 32, by omega⟩

/-- The state of head `h` before chunk `n`. -/
def Sseq (U W KD : Arr.Idx → EReal) (EG : Dec.Idx → EReal) (h : Fin 8) : ℕ → State
  | 0 => fun _ _ => 0
  | n + 1 => snext (rows U h (at_ n)) (rows W h (at_ n)) (rows KD h (at_ n)) (dec EG h (at_ n)) (Sseq U W KD EG h n)

/-- The cotangent of the state of head `h` after `n` steps of the backward sweep. -/
def Dseq (W : Arr.Idx → EReal) (A : Sq.Idx → EReal) (QD KD : Arr.Idx → EReal) (EG : Dec.Idx → EReal) (G : Arr.Idx → EReal) (h : Fin 8) : ℕ → State
  | 0 => fun _ _ => 0
  | n + 1 => dprev (rows W h (back n)) (sqRows A h (back n)) (rows QD h (back n)) (rows KD h (back n)) (rows G h (back n)) (dec EG h (back n))
      (Dseq W A QD KD EG G h n)

/-! ## The six gradients -/

variable (U W : Arr.Idx → EReal) (A : Sq.Idx → EReal) (QD KD : Arr.Idx → EReal) (EG : Dec.Idx → EReal) (G : Arr.Idx → EReal)

/-- The state before chunk `n` of head `h`. -/
abbrev St (h : Fin 8) (n : Fin 32) : State := Sseq U W KD EG h n.val
/-- The cotangent of the state after chunk `n` of head `h`. -/
abbrev Dt (h : Fin 8) (n : Fin 32) : State := Dseq W A QD KD EG G h (31 - n.val)

/-- The gradient of u. -/
def gradU (i : Arr.Idx) : EReal :=
  du (sqRows A (i 0) (chunkOf (i 1))) (rows KD (i 0) (chunkOf (i 1))) (rows G (i 0) (chunkOf (i 1))) (Dt W A QD KD EG G (i 0) (chunkOf (i 1)))
    (placeOf (i 1)) (i 2)
/-- The gradient of w. -/
def gradW (i : Arr.Idx) : EReal :=
  dw (sqRows A (i 0) (chunkOf (i 1))) (rows KD (i 0) (chunkOf (i 1))) (rows G (i 0) (chunkOf (i 1))) (St U W KD EG (i 0) (chunkOf (i 1)))
    (Dt W A QD KD EG G (i 0) (chunkOf (i 1))) (placeOf (i 1)) (i 2)
/-- The gradient of a. -/
def gradA (i : Sq.Idx) : EReal :=
  da (rows U (i 0) (chunkOf (i 1))) (rows W (i 0) (chunkOf (i 1))) (rows G (i 0) (chunkOf (i 1))) (St U W KD EG (i 0) (chunkOf (i 1))) (placeOf (i 1)) (i 2)
/-- The gradient of qd. -/
def gradQD (i : Arr.Idx) : EReal :=
  dqd (rows G (i 0) (chunkOf (i 1))) (St U W KD EG (i 0) (chunkOf (i 1))) (placeOf (i 1)) (i 2)
/-- The gradient of kd. -/
def gradKD (i : Arr.Idx) : EReal :=
  dkd (rows U (i 0) (chunkOf (i 1))) (rows W (i 0) (chunkOf (i 1))) (St U W KD EG (i 0) (chunkOf (i 1))) (Dt W A QD KD EG G (i 0) (chunkOf (i 1)))
    (placeOf (i 1)) (i 2)
/-- The gradient of egl. -/
def gradEG (i : Dec.Idx) : EReal := degl (St U W KD EG (i 0) (i 1)) (Dt W A QD KD EG G (i 0) (i 1)) (i 3)

/-! ## The gradients at a row of a chunk -/

theorem chunkOf_row (n : Fin 32) (p : Fin 64) : chunkOf (row n p) = n := Fin.ext (by simp only [chunkOf, row]; omega)
theorem placeOf_row (n : Fin 32) (p : Fin 64) : placeOf (row n p) = p := Fin.ext (by simp only [placeOf, row]; omega)

variable (h : Fin 8) (n : Fin 32) (p : Fin 64) (q : Fin 128)

theorem gradU_row : gradU W A QD KD EG G (ix3 h (row n p) q)
    = du (sqRows A h n) (rows KD h n) (rows G h n) (Dt W A QD KD EG G h n) p q := by
  show du (sqRows A h (chunkOf (row n p))) (rows KD h (chunkOf (row n p))) (rows G h (chunkOf (row n p))) (Dt W A QD KD EG G h (chunkOf (row n p))) (placeOf (row n p)) q = _
  rw [chunkOf_row, placeOf_row]
theorem gradW_row : gradW U W A QD KD EG G (ix3 h (row n p) q)
    = dw (sqRows A h n) (rows KD h n) (rows G h n) (St U W KD EG h n) (Dt W A QD KD EG G h n) p q := by
  show dw (sqRows A h (chunkOf (row n p))) (rows KD h (chunkOf (row n p))) (rows G h (chunkOf (row n p))) (St U W KD EG h (chunkOf (row n p)))
    (Dt W A QD KD EG G h (chunkOf (row n p))) (placeOf (row n p)) q = _
  rw [chunkOf_row, placeOf_row]
theorem gradA_row (r : Fin 64) : gradA U W KD EG G (ix3 h (row n p) r) = da (rows U h n) (rows W h n) (rows G h n) (St U W KD EG h n) p r := by
  show da (rows U h (chunkOf (row n p))) (rows W h (chunkOf (row n p))) (rows G h (chunkOf (row n p))) (St U W KD EG h (chunkOf (row n p)))
    (placeOf (row n p)) r = _
  rw [chunkOf_row, placeOf_row]
theorem gradQD_row : gradQD U W KD EG G (ix3 h (row n p) q) = dqd (rows G h n) (St U W KD EG h n) p q := by
  show dqd (rows G h (chunkOf (row n p))) (St U W KD EG h (chunkOf (row n p))) (placeOf (row n p)) q = _
  rw [chunkOf_row, placeOf_row]
theorem gradKD_row : gradKD U W A QD KD EG G (ix3 h (row n p) q)
    = dkd (rows U h n) (rows W h n) (St U W KD EG h n) (Dt W A QD KD EG G h n) p q := by
  show dkd (rows U h (chunkOf (row n p))) (rows W h (chunkOf (row n p))) (St U W KD EG h (chunkOf (row n p)))
    (Dt W A QD KD EG G h (chunkOf (row n p))) (placeOf (row n p)) q = _
  rw [chunkOf_row, placeOf_row]

end Cert.Recurrence

end
-- ==== Proof.FwdPoint.lean ====
module

public import Idealize.ShloMosaic.Lib.Pipeline.ValueKit
public import proofs.«01_k».proof.Proof.Recurrence
public import Idealize.ShloMosaic.Lib.Pipeline.ReadBack
public import proofs.«01_k».proof.Proof.FwdFrame

@[expose] public section

set_option maxRecDepth 16384

noncomputable section

namespace Cert.KernelIdeal.Fwd

open Cert.KernelIdeal Cert.KernelIdeal.Gen Cert.Recurrence
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

/-- A list of stores may be cut behind pieces that hold the index. -/
theorem canon_take {s : Shape} {e : EltTy} : ∀ (n : ℕ) (L : List (View.Piece (Elt Ideal) s e)) (y : s.Idx),
    (∃ p ∈ L.take n, y ∈ p.1.set) → View.canon L y = View.canon (L.take n) y
  | 0, _, _, h => by simp at h
  | _ + 1, [], _, h => by simp at h
  | n + 1, p :: L, y, h => by
    rw [List.take_succ_cons] at h ⊢
    by_cases hy : y ∈ p.1.set
    · obtain ⟨r, w⟩ := p
      obtain ⟨x, rfl⟩ := r.exists_idx_of_mem hy
      exact (View.canon_cons_emb r w L x).trans (View.canon_cons_emb r w _ x).symm
    · rw [View.canon_cons_of_not_mem p L hy, View.canon_cons_of_not_mem p _ hy]
      refine canon_take n L y ?_
      obtain ⟨q, hq, hyq⟩ := h
      rcases List.mem_cons.mp hq with rfl | hq
      · exact absurd hyq hy
      · exact ⟨q, hq, hyq⟩

set_option maxHeartbeats 1600000 in
/-- The state carried out of a grid point. -/
theorem sout0_B_0_at (c : Dev nD) (i : grid0.Coords) (a2 : Memref sig .tc .vmem S8x64x128 .f32) (h2 : a2.IsWhole) (a3 : Memref sig .tc .vmem S8x64x128 .f32) (h3 : a3.IsWhole) (a4 : Memref sig .tc .vmem S8x64x64 .f32) (h4 : a4.IsWhole) (a5 : Memref sig .tc .vmem S8x64x128 .f32) (h5 : a5.IsWhole) (a6 : Memref sig .tc .vmem S8x64x128 .f32) (h6 : a6.IsWhole) (a7 : Memref sig .tc .vmem S8x1x1x128 .f32) (h7 : a7.IsWhole) (a8 : Memref sig .tc .vmem S8x64x128 .f32) (h8 : a8.IsWhole) (a9 : Memref sig .tc .vmem S8x1x128x128 .f32) (h9 : a9.IsWhole) (a10 : Memref sig .tc .vmem S8x128x128 .f32) (h10 : a10.IsWhole) (hc0 : ¬cond0_0 i)
    (x0 : Vec Ideal S8x64x128 .f32) (x1 : Vec Ideal S8x64x128 .f32) (x2 : Vec Ideal S8x64x64 .f32) (x3 : Vec Ideal S8x64x128 .f32) (x4 : Vec Ideal S8x64x128 .f32) (x5 : Vec Ideal S8x1x1x128 .f32) (xs0 : Vec Ideal S8x128x128 .f32) (y : S8x128x128.Idx) :
    sout0_B_0 (F := Ideal) c i a2 h2 a3 h3 a4 h4 a5 h5 a6 h6 a7 h7 a8 h8 a9 h9 a10 h10 hc0 x0 x1 x2 x3 x4 x5 xs0 y = snext (fun c v => x0 (ix3 (y 0) c v)) (fun c v => x1 (ix3 (y 0) c v)) (fun c v => x4 (ix3 (y 0) c v)) (fun v => x5 (ix4 (y 0) 0 0 v)) (fun k v => xs0 (ix3 (y 0) k v)) (y 1) (y 2) := by
  frame_out
  canon_tiles x g
  all_goals (open_payloads; pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, snext, vnew] <;> blk_point)

set_option maxHeartbeats 1600000 in
/-- The state stored by a grid point is the one carried into it. -/
theorem out0_B_7_at (c : Dev nD) (i : grid0.Coords) (a2 : Memref sig .tc .vmem S8x64x128 .f32) (h2 : a2.IsWhole) (a3 : Memref sig .tc .vmem S8x64x128 .f32) (h3 : a3.IsWhole) (a4 : Memref sig .tc .vmem S8x64x64 .f32) (h4 : a4.IsWhole) (a5 : Memref sig .tc .vmem S8x64x128 .f32) (h5 : a5.IsWhole) (a6 : Memref sig .tc .vmem S8x64x128 .f32) (h6 : a6.IsWhole) (a7 : Memref sig .tc .vmem S8x1x1x128 .f32) (h7 : a7.IsWhole) (a8 : Memref sig .tc .vmem S8x64x128 .f32) (h8 : a8.IsWhole) (a9 : Memref sig .tc .vmem S8x1x128x128 .f32) (h9 : a9.IsWhole) (a10 : Memref sig .tc .vmem S8x128x128 .f32) (h10 : a10.IsWhole) (hc0 : ¬cond0_0 i)
    (x0 : Vec Ideal S8x64x128 .f32) (x1 : Vec Ideal S8x64x128 .f32) (x2 : Vec Ideal S8x64x64 .f32) (x3 : Vec Ideal S8x64x128 .f32) (x4 : Vec Ideal S8x64x128 .f32) (x5 : Vec Ideal S8x1x1x128 .f32) (xs0 : Vec Ideal S8x128x128 .f32) (y : S8x1x128x128.Idx) :
    out0_B_7 (F := Ideal) c i a2 h2 a3 h3 a4 h4 a5 h5 a6 h6 a7 h7 a8 h8 a9 h9 a10 h10 hc0 x0 x1 x2 x3 x4 x5 xs0 y = xs0 (ix3 (y 0) (y 2) (y 3)) := by
  frame_out
  canon_tiles x g
  all_goals (open_payloads; pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, snext, vnew] <;> blk_point)

set_option maxHeartbeats 1600000 in
/-- The state carried out of a grid point. -/
theorem sout0_A_0_at (c : Dev nD) (i : grid0.Coords) (a2 : Memref sig .tc .vmem S8x64x128 .f32) (h2 : a2.IsWhole) (a3 : Memref sig .tc .vmem S8x64x128 .f32) (h3 : a3.IsWhole) (a4 : Memref sig .tc .vmem S8x64x64 .f32) (h4 : a4.IsWhole) (a5 : Memref sig .tc .vmem S8x64x128 .f32) (h5 : a5.IsWhole) (a6 : Memref sig .tc .vmem S8x64x128 .f32) (h6 : a6.IsWhole) (a7 : Memref sig .tc .vmem S8x1x1x128 .f32) (h7 : a7.IsWhole) (a8 : Memref sig .tc .vmem S8x64x128 .f32) (h8 : a8.IsWhole) (a9 : Memref sig .tc .vmem S8x1x128x128 .f32) (h9 : a9.IsWhole) (a10 : Memref sig .tc .vmem S8x128x128 .f32) (h10 : a10.IsWhole) (hc0 : cond0_0 i)
    (x0 : Vec Ideal S8x64x128 .f32) (x1 : Vec Ideal S8x64x128 .f32) (x2 : Vec Ideal S8x64x64 .f32) (x3 : Vec Ideal S8x64x128 .f32) (x4 : Vec Ideal S8x64x128 .f32) (x5 : Vec Ideal S8x1x1x128 .f32) (y : S8x128x128.Idx) :
    sout0_A_0 (F := Ideal) c i a2 h2 a3 h3 a4 h4 a5 h5 a6 h6 a7 h7 a8 h8 a9 h9 a10 h10 hc0 x0 x1 x2 x3 x4 x5 y = snext (fun c v => x0 (ix3 (y 0) c v)) (fun c v => x1 (ix3 (y 0) c v)) (fun c v => x4 (ix3 (y 0) c v)) (fun v => x5 (ix4 (y 0) 0 0 v)) (fun _ _ => 0) (y 1) (y 2) := by
  frame_open
  simp (disch := decide) only [↓View.readCov_skip, ↓View.readCov_fill]
  frame_out
  rw [canon_take 8 _ _ (View.cover_of_tiled_head _ _ _ (by rfl) _)]
  simp only [List.take]
  canon_tiles x g
  all_goals (open_payloads; pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, snext, vnew] <;> blk_point)

set_option maxHeartbeats 1600000 in
/-- The state stored by a grid point is the one carried into it. -/
theorem out0_A_7_at (c : Dev nD) (i : grid0.Coords) (a2 : Memref sig .tc .vmem S8x64x128 .f32) (h2 : a2.IsWhole) (a3 : Memref sig .tc .vmem S8x64x128 .f32) (h3 : a3.IsWhole) (a4 : Memref sig .tc .vmem S8x64x64 .f32) (h4 : a4.IsWhole) (a5 : Memref sig .tc .vmem S8x64x128 .f32) (h5 : a5.IsWhole) (a6 : Memref sig .tc .vmem S8x64x128 .f32) (h6 : a6.IsWhole) (a7 : Memref sig .tc .vmem S8x1x1x128 .f32) (h7 : a7.IsWhole) (a8 : Memref sig .tc .vmem S8x64x128 .f32) (h8 : a8.IsWhole) (a9 : Memref sig .tc .vmem S8x1x128x128 .f32) (h9 : a9.IsWhole) (a10 : Memref sig .tc .vmem S8x128x128 .f32) (h10 : a10.IsWhole) (hc0 : cond0_0 i)
    (x0 : Vec Ideal S8x64x128 .f32) (x1 : Vec Ideal S8x64x128 .f32) (x2 : Vec Ideal S8x64x64 .f32) (x3 : Vec Ideal S8x64x128 .f32) (x4 : Vec Ideal S8x64x128 .f32) (x5 : Vec Ideal S8x1x1x128 .f32) (y : S8x1x128x128.Idx) :
    out0_A_7 (F := Ideal) c i a2 h2 a3 h3 a4 h4 a5 h5 a6 h6 a7 h7 a8 h8 a9 h9 a10 h10 hc0 x0 x1 x2 x3 x4 x5 y = 0 := by
  frame_open
  simp (disch := decide) only [↓View.readCov_skip, ↓View.readCov_fill]
  frame_out
  canon_tiles x g
  all_goals (open_payloads; pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, snext, vnew] <;> blk_point)

end Cert.KernelIdeal.Fwd

end
-- ==== Proof.FwdValue.lean ====
module

public import Idealize.ShloMosaic.Lib.Pipeline.ValueKit
public import proofs.«01_k».proof.Proof.FwdPoint

@[expose] public section

set_option maxRecDepth 16384

noncomputable section

namespace Cert.KernelIdeal.Fwd

open Cert.KernelIdeal Cert.KernelIdeal.Gen Cert.Recurrence
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable (V : (c : Dev nD) → (b : Ref sig .tc) → Buf (Elt Ideal) ((c : Thread nD τ).loc b))

/-- Which chunk each window shows at a grid point. -/
theorem idx : ∀ t : Fin cfg0.N, win0_0.index t = ![0, t.val, 0] ∧ win0_1.index t = ![0, t.val, 0] ∧ win0_2.index t = ![0, t.val, 0]
    ∧ win0_3.index t = ![0, t.val, 0] ∧ win0_4.index t = ![0, t.val, 0] ∧ win0_5.index t = ![0, t.val, 0, 0]
    ∧ win0_6.index t = ![0, t.val, 0] ∧ win0_7.index t = ![0, t.val, 0, 0] :=
  (by decide +kernel : ∀ t : Fin grid0.N, _)

/-- Input 0's block is the chunk of its array. -/
theorem rows_0 (c : Dev nD) (t : Fin cfg0.N) (h : Fin 8) :
    (fun p q => iblk V c 0 t (ix3 h p q) : Rows) = rows (V c main_arg0) h (at_ t.val) := by
  funext p q
  have ht : t.val < 32 := t.isLt
  show iblk V c 0 t (ix3 h p q) = V c main_arg0 (ix3 h (row (at_ t.val) p) q)
  blk_ext [iblk, idx t, row, at_]

/-- Input 1's block is the chunk of its array. -/
theorem rows_1 (c : Dev nD) (t : Fin cfg0.N) (h : Fin 8) :
    (fun p q => iblk V c 1 t (ix3 h p q) : Rows) = rows (V c main_arg1) h (at_ t.val) := by
  funext p q
  have ht : t.val < 32 := t.isLt
  show iblk V c 1 t (ix3 h p q) = V c main_arg1 (ix3 h (row (at_ t.val) p) q)
  blk_ext [iblk, idx t, row, at_]

/-- Input 4's block is the chunk of its array. -/
theorem rows_4 (c : Dev nD) (t : Fin cfg0.N) (h : Fin 8) :
    (fun p q => iblk V c 4 t (ix3 h p q) : Rows) = rows (V c main_arg4) h (at_ t.val) := by
  funext p q
  have ht : t.val < 32 := t.isLt
  show iblk V c 4 t (ix3 h p q) = V c main_arg4 (ix3 h (row (at_ t.val) p) q)
  blk_ext [iblk, idx t, row, at_]

/-- The decay's block is the chunk's decay. -/
theorem dec_5 (c : Dev nD) (t : Fin cfg0.N) (h : Fin 8) :
    (fun q => iblk V c 5 t (ix4 h 0 0 q) : Fin 128 → EReal) = dec (V c main_arg5) h (at_ t.val) := by
  funext q
  have ht : t.val < 32 := t.isLt
  show iblk V c 5 t (ix4 h 0 0 q) = V c main_arg5 (ix4 h (at_ t.val) 0 q)
  blk_ext [iblk, idx t, at_]

/-- The states of the region's arguments. -/
abbrev S (c : Dev nD) (h : Fin 8) (n : ℕ) : State := Sseq (V c main_arg0) (V c main_arg1) (V c main_arg4) (V c main_arg5) h n

/-- The scratch after a grid point is the state after its chunk. -/
theorem carried (c : Dev nD) : ∀ (n : ℕ) (hn : n < cfg0.N) (y : S8x128x128.Idx), (outsAt0 V c n hn).2.2 y = S V c (y 0) (n + 1) (y 1) (y 2)
  | 0, hn, y => by
    rw [outsAt0_A V c ⟨0, hn⟩ rfl]
    dsimp only
    rw [sout0_A_0_at]
    exact snext_congr (rows_0 V c _ _) (rows_1 V c _ _) (rows_4 V c _ _) (dec_5 V c _ _) rfl _ _
  | n + 1, hn, y => by
    have hN : n + 1 < 32 := hn
    have hB := outsAt0_B V c ⟨n + 1, hn⟩ (by show ¬(n + 1) % 32 = 0; omega)
    have ih : (fun p q => (outsAt0 V c n (Nat.lt_of_succ_lt hn)).2.2 (ix3 (y 0) p q) : State) = S V c (y 0) (n + 1) := by
      funext p q; exact carried c n _ _
    rw [hB]
    dsimp only
    rw [sout0_B_0_at]
    exact snext_congr (rows_0 V c _ _) (rows_1 V c _ _) (rows_4 V c _ _) (dec_5 V c _ _) ih _ _

/-- What a grid point stores is the state before its chunk. -/
theorem stored (c : Dev nD) (t : Fin cfg0.N) (y : S8x1x128x128.Idx) : (outsAt0 V c t.val t.isLt).2.1 y = S V c (y 0) t.val (y 2) (y 3) := by
  obtain ⟨n, hn⟩ := t
  cases n with
  | zero =>
    rw [outsAt0_A V c ⟨0, hn⟩ rfl]
    dsimp only
    rw [out0_A_7_at]; rfl
  | succ n =>
    have hN : n + 1 < 32 := hn
    rw [outsAt0_B V c ⟨n + 1, hn⟩ (by show ¬(n + 1) % 32 = 0; omega)]
    dsimp only
    rw [out0_B_7_at]
    exact carried V c n (Nat.lt_of_succ_lt hn) _

/-- The array of states after the region. -/
theorem states (c : Dev nD) : (dats V c).arrAt 7 cfg0.N = fun i : S8x32x128x128.Idx => S V c (i 0) (i 1).val (i 2) (i 3) := by
  refine (dats V c).arrAt_eq_of_covers 7 _ (by decide +kernel) fun t hf y => ?_
  blk_simp
  rw [after0_7]
  refine (stored V c t _).trans ?_
  have ht : t.val < 32 := t.isLt
  refine congr (congr (congr (congr rfl ?_) ?_) ?_) ?_
  all_goals first | (apply Fin.ext; blk_simp [idx t]; try omega) | (blk_simp [idx t]; try omega)

end Cert.KernelIdeal.Fwd

end
-- ==== Proof.BwdPoint.lean ====
module

public import Idealize.ShloMosaic.Lib.Pipeline.ValueKit
public import proofs.«01_k».proof.Proof.Recurrence
public import Idealize.ShloMosaic.Lib.Pipeline.ReadBack
public import proofs.«01_k».proof.Proof.BwdFrame
public import proofs.«01_k».proof.Proof.FwdPoint

@[expose] public section

set_option maxRecDepth 16384

noncomputable section

namespace Cert.KernelIdeal.Bwd

open Cert.KernelIdeal Cert.KernelIdeal.Gen Cert.Recurrence
open Cert.KernelIdeal.Fwd (canon_take)
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

section

variable (c : Dev nD) (i : grid1.Coords) (a2 : Memref sig .tc .vmem S8x64x128 .f32) (h2 : a2.IsWhole) (a3 : Memref sig .tc .vmem S8x64x128 .f32) (h3 : a3.IsWhole) (a4 : Memref sig .tc .vmem S8x64x64 .f32) (h4 : a4.IsWhole) (a5 : Memref sig .tc .vmem S8x64x128 .f32) (h5 : a5.IsWhole) (a6 : Memref sig .tc .vmem S8x64x128 .f32) (h6 : a6.IsWhole) (a7 : Memref sig .tc .vmem S8x1x1x128 .f32) (h7 : a7.IsWhole) (a8 : Memref sig .tc .vmem S8x1x128x128 .f32) (h8 : a8.IsWhole) (a9 : Memref sig .tc .vmem S8x64x128 .f32) (h9 : a9.IsWhole) (a10 : Memref sig .tc .vmem S8x64x128 .f32) (h10 : a10.IsWhole) (a11 : Memref sig .tc .vmem S8x64x128 .f32) (h11 : a11.IsWhole) (a12 : Memref sig .tc .vmem S8x64x64 .f32) (h12 : a12.IsWhole) (a13 : Memref sig .tc .vmem S8x64x128 .f32) (h13 : a13.IsWhole) (a14 : Memref sig .tc .vmem S8x64x128 .f32) (h14 : a14.IsWhole) (a15 : Memref sig .tc .vmem S8x1x1x128 .f32) (h15 : a15.IsWhole) (a16 : Memref sig .tc .vmem S8x128x128 .f32) (h16 : a16.IsWhole) (hc0 : ¬cond1_0 i)
  (x0 : Vec Ideal S8x64x128 .f32) (x1 : Vec Ideal S8x64x128 .f32) (x2 : Vec Ideal S8x64x64 .f32) (x3 : Vec Ideal S8x64x128 .f32) (x4 : Vec Ideal S8x64x128 .f32) (x5 : Vec Ideal S8x1x1x128 .f32) (x6 : Vec Ideal S8x1x128x128 .f32) (x7 : Vec Ideal S8x64x128 .f32) (xs0 : Vec Ideal S8x128x128 .f32)

set_option maxHeartbeats 1600000 in
/-- The cotangent of the state carried out of a grid point. -/
theorem sout1_B_0_at (y : S8x128x128.Idx) :
    sout1_B_0 (F := Ideal) c i a2 h2 a3 h3 a4 h4 a5 h5 a6 h6 a7 h7 a8 h8 a9 h9 a10 h10 a11 h11 a12 h12 a13 h13 a14 h14 a15 h15 a16 h16 hc0 x0 x1 x2 x3 x4 x5 x6 x7 xs0 y = dprev (fun c v => x1 (ix3 (y 0) c v)) (fun c v => x2 (ix3 (y 0) c v)) (fun c v => x3 (ix3 (y 0) c v)) (fun c v => x4 (ix3 (y 0) c v)) (fun c v => x7 (ix3 (y 0) c v)) (fun v => x5 (ix4 (y 0) 0 0 v)) (fun c v => xs0 (ix3 (y 0) c v)) (y 1) (y 2) := by
  frame_out
  canon_tiles x g
  all_goals (open_payloads; pointwise [k1_pay1, k1_pay2, k1_pay3, k1_pay4, k1_pay5, k1_pay6, k1_pay7, k1_pay8, k1_pay9, k1_pay10, k1_pay11, k1_pay12, k1_pay13, k1_pay14, k1_pay15, k1_pay16, k1_pay17, k1_pay18, k1_pay19, k1_pay20, k1_pay21, k1_pay22, k1_pay23, k1_pay24, k1_pay25, k1_pay26, k1_pay27, k1_pay28, k1_pay29, k1_pay30, k1_pay31, k1_pay32, k1_pay33, k1_pay34, k1_pay35, k1_pay36, k1_pay37, k1_pay38, k1_pay39, k1_pay40, k1_pay41, k1_pay42, k1_pay43, k1_pay44, k1_pay45, k1_pay46, k1_pay47, k1_pay48, k1_pay49, k1_pay50, k1_pay51, k1_pay52, k1_pay53, k1_pay54, k1_pay55, k1_pay56, k1_pay57, k1_pay58, k1_pay59, k1_pay60, k1_pay61, k1_pay62, k1_pay63, k1_pay64, k1_pay65, k1_pay66, k1_pay67, k1_pay68, k1_pay69, k1_pay70, k1_pay71, k1_pay72, k1_pay73, k1_pay74, k1_pay75, k1_pay76, k1_pay77, k1_pay78, k1_pay79, k1_pay80, k1_pay81, k1_pay82, k1_pay83, k1_pay84, k1_pay85, k1_pay86, k1_pay87, k1_pay88, k1_pay89, k1_pay90, k1_pay91, k1_pay92, k1_pay93, k1_pay94, k1_pay95, k1_pay96, k1_pay97, k1_pay98, k1_pay99, k1_pay100, k1_pay101, k1_pay102, k1_pay103, k1_pay104, k1_pay105, k1_pay106, k1_pay107, k1_pay108, k1_pay109, k1_pay110, k1_pay111, k1_pay112, k1_pay113, k1_pay114, k1_pay115, k1_pay116, k1_pay117, k1_pay118, k1_pay119, k1_pay120, k1_pay121, k1_pay122, k1_pay123, k1_pay124, k1_pay125, k1_pay126, k1_pay127, k1_pay128, k1_pay129, k1_pay130, k1_pay131, k1_pay132, k1_pay133, k1_pay134, k1_pay135, k1_pay136, k1_pay137, k1_pay138, k1_pay139, k1_pay140, k1_pay141, k1_pay142, k1_pay143, k1_pay144, k1_pay145, k1_pay146, k1_pay147, k1_pay148, k1_pay149, k1_pay150, k1_pay151, k1_pay152, k1_pay153, k1_pay154, k1_pay155, k1_pay156, k1_pay157, k1_pay158, k1_pay159, k1_pay160, k1_pay161, k1_pay162, k1_pay163, k1_pay164, k1_pay165, k1_pay166, k1_pay167, k1_pay168, k1_pay169, k1_pay170, k1_pay171, k1_pay172, k1_pay173, k1_pay174, k1_pay175, k1_pay176, k1_pay177, k1_pay178, k1_pay179, k1_pay180, k1_pay181, k1_pay182, k1_pay183, k1_pay184, k1_pay185, k1_pay186, k1_pay187, k1_pay188, k1_pay189, k1_pay190, k1_pay191, k1_pay192, k1_pay193, k1_pay194, k1_pay195, k1_pay196, k1_pay197, k1_pay198, k1_pay199, k1_pay200, k1_pay201, k1_pay202, k1_pay203, k1_pay204, k1_pay205, k1_pay206, k1_pay207, k1_pay208, k1_pay209, k1_pay210, k1_pay211, k1_pay212, k1_pay213, k1_pay214, k1_pay215, k1_pay216, k1_pay217, du, dw, da, dqd, dkd, degl, dprev, vnew] <;> blk_point)

set_option maxHeartbeats 1600000 in
/-- The gradient of u stored by a grid point. -/
theorem out1_B_8_at (y : S8x64x128.Idx) :
    out1_B_8 (F := Ideal) c i a2 h2 a3 h3 a4 h4 a5 h5 a6 h6 a7 h7 a8 h8 a9 h9 a10 h10 a11 h11 a12 h12 a13 h13 a14 h14 a15 h15 a16 h16 hc0 x0 x1 x2 x3 x4 x5 x6 x7 xs0 y = du (fun c v => x2 (ix3 (y 0) c v)) (fun c v => x4 (ix3 (y 0) c v)) (fun c v => x7 (ix3 (y 0) c v)) (fun c v => xs0 (ix3 (y 0) c v)) (y 1) (y 2) := by
  frame_out
  canon_tiles x g
  all_goals (open_payloads; pointwise [k1_pay1, k1_pay2, k1_pay3, k1_pay4, k1_pay5, k1_pay6, k1_pay7, k1_pay8, k1_pay9, k1_pay10, k1_pay11, k1_pay12, k1_pay13, k1_pay14, k1_pay15, k1_pay16, k1_pay17, k1_pay18, k1_pay19, k1_pay20, k1_pay21, k1_pay22, k1_pay23, k1_pay24, k1_pay25, k1_pay26, k1_pay27, k1_pay28, k1_pay29, k1_pay30, k1_pay31, k1_pay32, k1_pay33, k1_pay34, k1_pay35, k1_pay36, k1_pay37, k1_pay38, k1_pay39, k1_pay40, k1_pay41, k1_pay42, k1_pay43, k1_pay44, k1_pay45, k1_pay46, k1_pay47, k1_pay48, k1_pay49, k1_pay50, k1_pay51, k1_pay52, k1_pay53, k1_pay54, k1_pay55, k1_pay56, k1_pay57, k1_pay58, k1_pay59, k1_pay60, k1_pay61, k1_pay62, k1_pay63, k1_pay64, k1_pay65, k1_pay66, k1_pay67, k1_pay68, k1_pay69, k1_pay70, k1_pay71, k1_pay72, k1_pay73, k1_pay74, k1_pay75, k1_pay76, k1_pay77, k1_pay78, k1_pay79, k1_pay80, k1_pay81, k1_pay82, k1_pay83, k1_pay84, k1_pay85, k1_pay86, k1_pay87, k1_pay88, k1_pay89, k1_pay90, k1_pay91, k1_pay92, k1_pay93, k1_pay94, k1_pay95, k1_pay96, k1_pay97, k1_pay98, k1_pay99, k1_pay100, k1_pay101, k1_pay102, k1_pay103, k1_pay104, k1_pay105, k1_pay106, k1_pay107, k1_pay108, k1_pay109, k1_pay110, k1_pay111, k1_pay112, k1_pay113, k1_pay114, k1_pay115, k1_pay116, k1_pay117, k1_pay118, k1_pay119, k1_pay120, k1_pay121, k1_pay122, k1_pay123, k1_pay124, k1_pay125, k1_pay126, k1_pay127, k1_pay128, k1_pay129, k1_pay130, k1_pay131, k1_pay132, k1_pay133, k1_pay134, k1_pay135, k1_pay136, k1_pay137, k1_pay138, k1_pay139, k1_pay140, k1_pay141, k1_pay142, k1_pay143, k1_pay144, k1_pay145, k1_pay146, k1_pay147, k1_pay148, k1_pay149, k1_pay150, k1_pay151, k1_pay152, k1_pay153, k1_pay154, k1_pay155, k1_pay156, k1_pay157, k1_pay158, k1_pay159, k1_pay160, k1_pay161, k1_pay162, k1_pay163, k1_pay164, k1_pay165, k1_pay166, k1_pay167, k1_pay168, k1_pay169, k1_pay170, k1_pay171, k1_pay172, k1_pay173, k1_pay174, k1_pay175, k1_pay176, k1_pay177, k1_pay178, k1_pay179, k1_pay180, k1_pay181, k1_pay182, k1_pay183, k1_pay184, k1_pay185, k1_pay186, k1_pay187, k1_pay188, k1_pay189, k1_pay190, k1_pay191, k1_pay192, k1_pay193, k1_pay194, k1_pay195, k1_pay196, k1_pay197, k1_pay198, k1_pay199, k1_pay200, k1_pay201, k1_pay202, k1_pay203, k1_pay204, k1_pay205, k1_pay206, k1_pay207, k1_pay208, k1_pay209, k1_pay210, k1_pay211, k1_pay212, k1_pay213, k1_pay214, k1_pay215, k1_pay216, k1_pay217, du, dw, da, dqd, dkd, degl, dprev, vnew] <;> blk_point)

set_option maxHeartbeats 1600000 in
/-- The gradient of w stored by a grid point. -/
theorem out1_B_9_at (y : S8x64x128.Idx) :
    out1_B_9 (F := Ideal) c i a2 h2 a3 h3 a4 h4 a5 h5 a6 h6 a7 h7 a8 h8 a9 h9 a10 h10 a11 h11 a12 h12 a13 h13 a14 h14 a15 h15 a16 h16 hc0 x0 x1 x2 x3 x4 x5 x6 x7 xs0 y = dw (fun c v => x2 (ix3 (y 0) c v)) (fun c v => x4 (ix3 (y 0) c v)) (fun c v => x7 (ix3 (y 0) c v)) (fun k v => x6 (ix4 (y 0) 0 k v)) (fun c v => xs0 (ix3 (y 0) c v)) (y 1) (y 2) := by
  frame_out
  canon_tiles x g
  all_goals (open_payloads; pointwise [k1_pay1, k1_pay2, k1_pay3, k1_pay4, k1_pay5, k1_pay6, k1_pay7, k1_pay8, k1_pay9, k1_pay10, k1_pay11, k1_pay12, k1_pay13, k1_pay14, k1_pay15, k1_pay16, k1_pay17, k1_pay18, k1_pay19, k1_pay20, k1_pay21, k1_pay22, k1_pay23, k1_pay24, k1_pay25, k1_pay26, k1_pay27, k1_pay28, k1_pay29, k1_pay30, k1_pay31, k1_pay32, k1_pay33, k1_pay34, k1_pay35, k1_pay36, k1_pay37, k1_pay38, k1_pay39, k1_pay40, k1_pay41, k1_pay42, k1_pay43, k1_pay44, k1_pay45, k1_pay46, k1_pay47, k1_pay48, k1_pay49, k1_pay50, k1_pay51, k1_pay52, k1_pay53, k1_pay54, k1_pay55, k1_pay56, k1_pay57, k1_pay58, k1_pay59, k1_pay60, k1_pay61, k1_pay62, k1_pay63, k1_pay64, k1_pay65, k1_pay66, k1_pay67, k1_pay68, k1_pay69, k1_pay70, k1_pay71, k1_pay72, k1_pay73, k1_pay74, k1_pay75, k1_pay76, k1_pay77, k1_pay78, k1_pay79, k1_pay80, k1_pay81, k1_pay82, k1_pay83, k1_pay84, k1_pay85, k1_pay86, k1_pay87, k1_pay88, k1_pay89, k1_pay90, k1_pay91, k1_pay92, k1_pay93, k1_pay94, k1_pay95, k1_pay96, k1_pay97, k1_pay98, k1_pay99, k1_pay100, k1_pay101, k1_pay102, k1_pay103, k1_pay104, k1_pay105, k1_pay106, k1_pay107, k1_pay108, k1_pay109, k1_pay110, k1_pay111, k1_pay112, k1_pay113, k1_pay114, k1_pay115, k1_pay116, k1_pay117, k1_pay118, k1_pay119, k1_pay120, k1_pay121, k1_pay122, k1_pay123, k1_pay124, k1_pay125, k1_pay126, k1_pay127, k1_pay128, k1_pay129, k1_pay130, k1_pay131, k1_pay132, k1_pay133, k1_pay134, k1_pay135, k1_pay136, k1_pay137, k1_pay138, k1_pay139, k1_pay140, k1_pay141, k1_pay142, k1_pay143, k1_pay144, k1_pay145, k1_pay146, k1_pay147, k1_pay148, k1_pay149, k1_pay150, k1_pay151, k1_pay152, k1_pay153, k1_pay154, k1_pay155, k1_pay156, k1_pay157, k1_pay158, k1_pay159, k1_pay160, k1_pay161, k1_pay162, k1_pay163, k1_pay164, k1_pay165, k1_pay166, k1_pay167, k1_pay168, k1_pay169, k1_pay170, k1_pay171, k1_pay172, k1_pay173, k1_pay174, k1_pay175, k1_pay176, k1_pay177, k1_pay178, k1_pay179, k1_pay180, k1_pay181, k1_pay182, k1_pay183, k1_pay184, k1_pay185, k1_pay186, k1_pay187, k1_pay188, k1_pay189, k1_pay190, k1_pay191, k1_pay192, k1_pay193, k1_pay194, k1_pay195, k1_pay196, k1_pay197, k1_pay198, k1_pay199, k1_pay200, k1_pay201, k1_pay202, k1_pay203, k1_pay204, k1_pay205, k1_pay206, k1_pay207, k1_pay208, k1_pay209, k1_pay210, k1_pay211, k1_pay212, k1_pay213, k1_pay214, k1_pay215, k1_pay216, k1_pay217, du, dw, da, dqd, dkd, degl, dprev, vnew] <;> blk_point)

set_option maxHeartbeats 1600000 in
/-- The gradient of a stored by a grid point. -/
theorem out1_B_10_at (y : S8x64x64.Idx) :
    out1_B_10 (F := Ideal) c i a2 h2 a3 h3 a4 h4 a5 h5 a6 h6 a7 h7 a8 h8 a9 h9 a10 h10 a11 h11 a12 h12 a13 h13 a14 h14 a15 h15 a16 h16 hc0 x0 x1 x2 x3 x4 x5 x6 x7 xs0 y = da (fun c v => x0 (ix3 (y 0) c v)) (fun c v => x1 (ix3 (y 0) c v)) (fun c v => x7 (ix3 (y 0) c v)) (fun k v => x6 (ix4 (y 0) 0 k v)) (y 1) (y 2) := by
  frame_out
  canon_tiles x g
  all_goals (open_payloads; pointwise [k1_pay1, k1_pay2, k1_pay3, k1_pay4, k1_pay5, k1_pay6, k1_pay7, k1_pay8, k1_pay9, k1_pay10, k1_pay11, k1_pay12, k1_pay13, k1_pay14, k1_pay15, k1_pay16, k1_pay17, k1_pay18, k1_pay19, k1_pay20, k1_pay21, k1_pay22, k1_pay23, k1_pay24, k1_pay25, k1_pay26, k1_pay27, k1_pay28, k1_pay29, k1_pay30, k1_pay31, k1_pay32, k1_pay33, k1_pay34, k1_pay35, k1_pay36, k1_pay37, k1_pay38, k1_pay39, k1_pay40, k1_pay41, k1_pay42, k1_pay43, k1_pay44, k1_pay45, k1_pay46, k1_pay47, k1_pay48, k1_pay49, k1_pay50, k1_pay51, k1_pay52, k1_pay53, k1_pay54, k1_pay55, k1_pay56, k1_pay57, k1_pay58, k1_pay59, k1_pay60, k1_pay61, k1_pay62, k1_pay63, k1_pay64, k1_pay65, k1_pay66, k1_pay67, k1_pay68, k1_pay69, k1_pay70, k1_pay71, k1_pay72, k1_pay73, k1_pay74, k1_pay75, k1_pay76, k1_pay77, k1_pay78, k1_pay79, k1_pay80, k1_pay81, k1_pay82, k1_pay83, k1_pay84, k1_pay85, k1_pay86, k1_pay87, k1_pay88, k1_pay89, k1_pay90, k1_pay91, k1_pay92, k1_pay93, k1_pay94, k1_pay95, k1_pay96, k1_pay97, k1_pay98, k1_pay99, k1_pay100, k1_pay101, k1_pay102, k1_pay103, k1_pay104, k1_pay105, k1_pay106, k1_pay107, k1_pay108, k1_pay109, k1_pay110, k1_pay111, k1_pay112, k1_pay113, k1_pay114, k1_pay115, k1_pay116, k1_pay117, k1_pay118, k1_pay119, k1_pay120, k1_pay121, k1_pay122, k1_pay123, k1_pay124, k1_pay125, k1_pay126, k1_pay127, k1_pay128, k1_pay129, k1_pay130, k1_pay131, k1_pay132, k1_pay133, k1_pay134, k1_pay135, k1_pay136, k1_pay137, k1_pay138, k1_pay139, k1_pay140, k1_pay141, k1_pay142, k1_pay143, k1_pay144, k1_pay145, k1_pay146, k1_pay147, k1_pay148, k1_pay149, k1_pay150, k1_pay151, k1_pay152, k1_pay153, k1_pay154, k1_pay155, k1_pay156, k1_pay157, k1_pay158, k1_pay159, k1_pay160, k1_pay161, k1_pay162, k1_pay163, k1_pay164, k1_pay165, k1_pay166, k1_pay167, k1_pay168, k1_pay169, k1_pay170, k1_pay171, k1_pay172, k1_pay173, k1_pay174, k1_pay175, k1_pay176, k1_pay177, k1_pay178, k1_pay179, k1_pay180, k1_pay181, k1_pay182, k1_pay183, k1_pay184, k1_pay185, k1_pay186, k1_pay187, k1_pay188, k1_pay189, k1_pay190, k1_pay191, k1_pay192, k1_pay193, k1_pay194, k1_pay195, k1_pay196, k1_pay197, k1_pay198, k1_pay199, k1_pay200, k1_pay201, k1_pay202, k1_pay203, k1_pay204, k1_pay205, k1_pay206, k1_pay207, k1_pay208, k1_pay209, k1_pay210, k1_pay211, k1_pay212, k1_pay213, k1_pay214, k1_pay215, k1_pay216, k1_pay217, du, dw, da, dqd, dkd, degl, dprev, vnew] <;> blk_point)

set_option maxHeartbeats 1600000 in
/-- The gradient of qd stored by a grid point. -/
theorem out1_B_11_at (y : S8x64x128.Idx) :
    out1_B_11 (F := Ideal) c i a2 h2 a3 h3 a4 h4 a5 h5 a6 h6 a7 h7 a8 h8 a9 h9 a10 h10 a11 h11 a12 h12 a13 h13 a14 h14 a15 h15 a16 h16 hc0 x0 x1 x2 x3 x4 x5 x6 x7 xs0 y = dqd (fun c v => x7 (ix3 (y 0) c v)) (fun k v => x6 (ix4 (y 0) 0 k v)) (y 1) (y 2) := by
  frame_out
  canon_tiles x g
  all_goals (open_payloads; pointwise [k1_pay1, k1_pay2, k1_pay3, k1_pay4, k1_pay5, k1_pay6, k1_pay7, k1_pay8, k1_pay9, k1_pay10, k1_pay11, k1_pay12, k1_pay13, k1_pay14, k1_pay15, k1_pay16, k1_pay17, k1_pay18, k1_pay19, k1_pay20, k1_pay21, k1_pay22, k1_pay23, k1_pay24, k1_pay25, k1_pay26, k1_pay27, k1_pay28, k1_pay29, k1_pay30, k1_pay31, k1_pay32, k1_pay33, k1_pay34, k1_pay35, k1_pay36, k1_pay37, k1_pay38, k1_pay39, k1_pay40, k1_pay41, k1_pay42, k1_pay43, k1_pay44, k1_pay45, k1_pay46, k1_pay47, k1_pay48, k1_pay49, k1_pay50, k1_pay51, k1_pay52, k1_pay53, k1_pay54, k1_pay55, k1_pay56, k1_pay57, k1_pay58, k1_pay59, k1_pay60, k1_pay61, k1_pay62, k1_pay63, k1_pay64, k1_pay65, k1_pay66, k1_pay67, k1_pay68, k1_pay69, k1_pay70, k1_pay71, k1_pay72, k1_pay73, k1_pay74, k1_pay75, k1_pay76, k1_pay77, k1_pay78, k1_pay79, k1_pay80, k1_pay81, k1_pay82, k1_pay83, k1_pay84, k1_pay85, k1_pay86, k1_pay87, k1_pay88, k1_pay89, k1_pay90, k1_pay91, k1_pay92, k1_pay93, k1_pay94, k1_pay95, k1_pay96, k1_pay97, k1_pay98, k1_pay99, k1_pay100, k1_pay101, k1_pay102, k1_pay103, k1_pay104, k1_pay105, k1_pay106, k1_pay107, k1_pay108, k1_pay109, k1_pay110, k1_pay111, k1_pay112, k1_pay113, k1_pay114, k1_pay115, k1_pay116, k1_pay117, k1_pay118, k1_pay119, k1_pay120, k1_pay121, k1_pay122, k1_pay123, k1_pay124, k1_pay125, k1_pay126, k1_pay127, k1_pay128, k1_pay129, k1_pay130, k1_pay131, k1_pay132, k1_pay133, k1_pay134, k1_pay135, k1_pay136, k1_pay137, k1_pay138, k1_pay139, k1_pay140, k1_pay141, k1_pay142, k1_pay143, k1_pay144, k1_pay145, k1_pay146, k1_pay147, k1_pay148, k1_pay149, k1_pay150, k1_pay151, k1_pay152, k1_pay153, k1_pay154, k1_pay155, k1_pay156, k1_pay157, k1_pay158, k1_pay159, k1_pay160, k1_pay161, k1_pay162, k1_pay163, k1_pay164, k1_pay165, k1_pay166, k1_pay167, k1_pay168, k1_pay169, k1_pay170, k1_pay171, k1_pay172, k1_pay173, k1_pay174, k1_pay175, k1_pay176, k1_pay177, k1_pay178, k1_pay179, k1_pay180, k1_pay181, k1_pay182, k1_pay183, k1_pay184, k1_pay185, k1_pay186, k1_pay187, k1_pay188, k1_pay189, k1_pay190, k1_pay191, k1_pay192, k1_pay193, k1_pay194, k1_pay195, k1_pay196, k1_pay197, k1_pay198, k1_pay199, k1_pay200, k1_pay201, k1_pay202, k1_pay203, k1_pay204, k1_pay205, k1_pay206, k1_pay207, k1_pay208, k1_pay209, k1_pay210, k1_pay211, k1_pay212, k1_pay213, k1_pay214, k1_pay215, k1_pay216, k1_pay217, du, dw, da, dqd, dkd, degl, dprev, vnew] <;> blk_point)

set_option maxHeartbeats 1600000 in
/-- The gradient of kd stored by a grid point. -/
theorem out1_B_12_at (y : S8x64x128.Idx) :
    out1_B_12 (F := Ideal) c i a2 h2 a3 h3 a4 h4 a5 h5 a6 h6 a7 h7 a8 h8 a9 h9 a10 h10 a11 h11 a12 h12 a13 h13 a14 h14 a15 h15 a16 h16 hc0 x0 x1 x2 x3 x4 x5 x6 x7 xs0 y = dkd (fun c v => x0 (ix3 (y 0) c v)) (fun c v => x1 (ix3 (y 0) c v)) (fun k v => x6 (ix4 (y 0) 0 k v)) (fun c v => xs0 (ix3 (y 0) c v)) (y 1) (y 2) := by
  frame_out
  canon_tiles x g
  all_goals (open_payloads; pointwise [k1_pay1, k1_pay2, k1_pay3, k1_pay4, k1_pay5, k1_pay6, k1_pay7, k1_pay8, k1_pay9, k1_pay10, k1_pay11, k1_pay12, k1_pay13, k1_pay14, k1_pay15, k1_pay16, k1_pay17, k1_pay18, k1_pay19, k1_pay20, k1_pay21, k1_pay22, k1_pay23, k1_pay24, k1_pay25, k1_pay26, k1_pay27, k1_pay28, k1_pay29, k1_pay30, k1_pay31, k1_pay32, k1_pay33, k1_pay34, k1_pay35, k1_pay36, k1_pay37, k1_pay38, k1_pay39, k1_pay40, k1_pay41, k1_pay42, k1_pay43, k1_pay44, k1_pay45, k1_pay46, k1_pay47, k1_pay48, k1_pay49, k1_pay50, k1_pay51, k1_pay52, k1_pay53, k1_pay54, k1_pay55, k1_pay56, k1_pay57, k1_pay58, k1_pay59, k1_pay60, k1_pay61, k1_pay62, k1_pay63, k1_pay64, k1_pay65, k1_pay66, k1_pay67, k1_pay68, k1_pay69, k1_pay70, k1_pay71, k1_pay72, k1_pay73, k1_pay74, k1_pay75, k1_pay76, k1_pay77, k1_pay78, k1_pay79, k1_pay80, k1_pay81, k1_pay82, k1_pay83, k1_pay84, k1_pay85, k1_pay86, k1_pay87, k1_pay88, k1_pay89, k1_pay90, k1_pay91, k1_pay92, k1_pay93, k1_pay94, k1_pay95, k1_pay96, k1_pay97, k1_pay98, k1_pay99, k1_pay100, k1_pay101, k1_pay102, k1_pay103, k1_pay104, k1_pay105, k1_pay106, k1_pay107, k1_pay108, k1_pay109, k1_pay110, k1_pay111, k1_pay112, k1_pay113, k1_pay114, k1_pay115, k1_pay116, k1_pay117, k1_pay118, k1_pay119, k1_pay120, k1_pay121, k1_pay122, k1_pay123, k1_pay124, k1_pay125, k1_pay126, k1_pay127, k1_pay128, k1_pay129, k1_pay130, k1_pay131, k1_pay132, k1_pay133, k1_pay134, k1_pay135, k1_pay136, k1_pay137, k1_pay138, k1_pay139, k1_pay140, k1_pay141, k1_pay142, k1_pay143, k1_pay144, k1_pay145, k1_pay146, k1_pay147, k1_pay148, k1_pay149, k1_pay150, k1_pay151, k1_pay152, k1_pay153, k1_pay154, k1_pay155, k1_pay156, k1_pay157, k1_pay158, k1_pay159, k1_pay160, k1_pay161, k1_pay162, k1_pay163, k1_pay164, k1_pay165, k1_pay166, k1_pay167, k1_pay168, k1_pay169, k1_pay170, k1_pay171, k1_pay172, k1_pay173, k1_pay174, k1_pay175, k1_pay176, k1_pay177, k1_pay178, k1_pay179, k1_pay180, k1_pay181, k1_pay182, k1_pay183, k1_pay184, k1_pay185, k1_pay186, k1_pay187, k1_pay188, k1_pay189, k1_pay190, k1_pay191, k1_pay192, k1_pay193, k1_pay194, k1_pay195, k1_pay196, k1_pay197, k1_pay198, k1_pay199, k1_pay200, k1_pay201, k1_pay202, k1_pay203, k1_pay204, k1_pay205, k1_pay206, k1_pay207, k1_pay208, k1_pay209, k1_pay210, k1_pay211, k1_pay212, k1_pay213, k1_pay214, k1_pay215, k1_pay216, k1_pay217, du, dw, da, dqd, dkd, degl, dprev, vnew] <;> blk_point)

set_option maxHeartbeats 1600000 in
/-- The gradient of the decay stored by a grid point. -/
theorem out1_B_13_at (y : S8x1x1x128.Idx) :
    out1_B_13 (F := Ideal) c i a2 h2 a3 h3 a4 h4 a5 h5 a6 h6 a7 h7 a8 h8 a9 h9 a10 h10 a11 h11 a12 h12 a13 h13 a14 h14 a15 h15 a16 h16 hc0 x0 x1 x2 x3 x4 x5 x6 x7 xs0 y = degl (fun k v => x6 (ix4 (y 0) 0 k v)) (fun c v => xs0 (ix3 (y 0) c v)) (y 3) := by
  frame_out
  canon_tiles x g
  all_goals (open_payloads; pointwise [k1_pay1, k1_pay2, k1_pay3, k1_pay4, k1_pay5, k1_pay6, k1_pay7, k1_pay8, k1_pay9, k1_pay10, k1_pay11, k1_pay12, k1_pay13, k1_pay14, k1_pay15, k1_pay16, k1_pay17, k1_pay18, k1_pay19, k1_pay20, k1_pay21, k1_pay22, k1_pay23, k1_pay24, k1_pay25, k1_pay26, k1_pay27, k1_pay28, k1_pay29, k1_pay30, k1_pay31, k1_pay32, k1_pay33, k1_pay34, k1_pay35, k1_pay36, k1_pay37, k1_pay38, k1_pay39, k1_pay40, k1_pay41, k1_pay42, k1_pay43, k1_pay44, k1_pay45, k1_pay46, k1_pay47, k1_pay48, k1_pay49, k1_pay50, k1_pay51, k1_pay52, k1_pay53, k1_pay54, k1_pay55, k1_pay56, k1_pay57, k1_pay58, k1_pay59, k1_pay60, k1_pay61, k1_pay62, k1_pay63, k1_pay64, k1_pay65, k1_pay66, k1_pay67, k1_pay68, k1_pay69, k1_pay70, k1_pay71, k1_pay72, k1_pay73, k1_pay74, k1_pay75, k1_pay76, k1_pay77, k1_pay78, k1_pay79, k1_pay80, k1_pay81, k1_pay82, k1_pay83, k1_pay84, k1_pay85, k1_pay86, k1_pay87, k1_pay88, k1_pay89, k1_pay90, k1_pay91, k1_pay92, k1_pay93, k1_pay94, k1_pay95, k1_pay96, k1_pay97, k1_pay98, k1_pay99, k1_pay100, k1_pay101, k1_pay102, k1_pay103, k1_pay104, k1_pay105, k1_pay106, k1_pay107, k1_pay108, k1_pay109, k1_pay110, k1_pay111, k1_pay112, k1_pay113, k1_pay114, k1_pay115, k1_pay116, k1_pay117, k1_pay118, k1_pay119, k1_pay120, k1_pay121, k1_pay122, k1_pay123, k1_pay124, k1_pay125, k1_pay126, k1_pay127, k1_pay128, k1_pay129, k1_pay130, k1_pay131, k1_pay132, k1_pay133, k1_pay134, k1_pay135, k1_pay136, k1_pay137, k1_pay138, k1_pay139, k1_pay140, k1_pay141, k1_pay142, k1_pay143, k1_pay144, k1_pay145, k1_pay146, k1_pay147, k1_pay148, k1_pay149, k1_pay150, k1_pay151, k1_pay152, k1_pay153, k1_pay154, k1_pay155, k1_pay156, k1_pay157, k1_pay158, k1_pay159, k1_pay160, k1_pay161, k1_pay162, k1_pay163, k1_pay164, k1_pay165, k1_pay166, k1_pay167, k1_pay168, k1_pay169, k1_pay170, k1_pay171, k1_pay172, k1_pay173, k1_pay174, k1_pay175, k1_pay176, k1_pay177, k1_pay178, k1_pay179, k1_pay180, k1_pay181, k1_pay182, k1_pay183, k1_pay184, k1_pay185, k1_pay186, k1_pay187, k1_pay188, k1_pay189, k1_pay190, k1_pay191, k1_pay192, k1_pay193, k1_pay194, k1_pay195, k1_pay196, k1_pay197, k1_pay198, k1_pay199, k1_pay200, k1_pay201, k1_pay202, k1_pay203, k1_pay204, k1_pay205, k1_pay206, k1_pay207, k1_pay208, k1_pay209, k1_pay210, k1_pay211, k1_pay212, k1_pay213, k1_pay214, k1_pay215, k1_pay216, k1_pay217, du, dw, da, dqd, dkd, degl, dprev, vnew] <;> blk_point)

end

section

variable (c : Dev nD) (i : grid1.Coords) (a2 : Memref sig .tc .vmem S8x64x128 .f32) (h2 : a2.IsWhole) (a3 : Memref sig .tc .vmem S8x64x128 .f32) (h3 : a3.IsWhole) (a4 : Memref sig .tc .vmem S8x64x64 .f32) (h4 : a4.IsWhole) (a5 : Memref sig .tc .vmem S8x64x128 .f32) (h5 : a5.IsWhole) (a6 : Memref sig .tc .vmem S8x64x128 .f32) (h6 : a6.IsWhole) (a7 : Memref sig .tc .vmem S8x1x1x128 .f32) (h7 : a7.IsWhole) (a8 : Memref sig .tc .vmem S8x1x128x128 .f32) (h8 : a8.IsWhole) (a9 : Memref sig .tc .vmem S8x64x128 .f32) (h9 : a9.IsWhole) (a10 : Memref sig .tc .vmem S8x64x128 .f32) (h10 : a10.IsWhole) (a11 : Memref sig .tc .vmem S8x64x128 .f32) (h11 : a11.IsWhole) (a12 : Memref sig .tc .vmem S8x64x64 .f32) (h12 : a12.IsWhole) (a13 : Memref sig .tc .vmem S8x64x128 .f32) (h13 : a13.IsWhole) (a14 : Memref sig .tc .vmem S8x64x128 .f32) (h14 : a14.IsWhole) (a15 : Memref sig .tc .vmem S8x1x1x128 .f32) (h15 : a15.IsWhole) (a16 : Memref sig .tc .vmem S8x128x128 .f32) (h16 : a16.IsWhole) (hc0 : cond1_0 i)
  (x0 : Vec Ideal S8x64x128 .f32) (x1 : Vec Ideal S8x64x128 .f32) (x2 : Vec Ideal S8x64x64 .f32) (x3 : Vec Ideal S8x64x128 .f32) (x4 : Vec Ideal S8x64x128 .f32) (x5 : Vec Ideal S8x1x1x128 .f32) (x6 : Vec Ideal S8x1x128x128 .f32) (x7 : Vec Ideal S8x64x128 .f32)

set_option maxHeartbeats 1600000 in
/-- The cotangent of the state carried out of a grid point. -/
theorem sout1_A_0_at (y : S8x128x128.Idx) :
    sout1_A_0 (F := Ideal) c i a2 h2 a3 h3 a4 h4 a5 h5 a6 h6 a7 h7 a8 h8 a9 h9 a10 h10 a11 h11 a12 h12 a13 h13 a14 h14 a15 h15 a16 h16 hc0 x0 x1 x2 x3 x4 x5 x6 x7 y = dprev (fun c v => x1 (ix3 (y 0) c v)) (fun c v => x2 (ix3 (y 0) c v)) (fun c v => x3 (ix3 (y 0) c v)) (fun c v => x4 (ix3 (y 0) c v)) (fun c v => x7 (ix3 (y 0) c v)) (fun v => x5 (ix4 (y 0) 0 0 v)) (fun _ _ => 0) (y 1) (y 2) := by
  frame_open
  simp (disch := decide) only [↓View.readCov_skip, ↓View.readCov_fill]
  frame_out
  rw [canon_take 8 _ _ (View.cover_of_tiled_head _ _ _ (by rfl) _)]
  simp only [List.take]
  canon_tiles x g
  all_goals (open_payloads; pointwise [k1_pay1, k1_pay2, k1_pay3, k1_pay4, k1_pay5, k1_pay6, k1_pay7, k1_pay8, k1_pay9, k1_pay10, k1_pay11, k1_pay12, k1_pay13, k1_pay14, k1_pay15, k1_pay16, k1_pay17, k1_pay18, k1_pay19, k1_pay20, k1_pay21, k1_pay22, k1_pay23, k1_pay24, k1_pay25, k1_pay26, k1_pay27, k1_pay28, k1_pay29, k1_pay30, k1_pay31, k1_pay32, k1_pay33, k1_pay34, k1_pay35, k1_pay36, k1_pay37, k1_pay38, k1_pay39, k1_pay40, k1_pay41, k1_pay42, k1_pay43, k1_pay44, k1_pay45, k1_pay46, k1_pay47, k1_pay48, k1_pay49, k1_pay50, k1_pay51, k1_pay52, k1_pay53, k1_pay54, k1_pay55, k1_pay56, k1_pay57, k1_pay58, k1_pay59, k1_pay60, k1_pay61, k1_pay62, k1_pay63, k1_pay64, k1_pay65, k1_pay66, k1_pay67, k1_pay68, k1_pay69, k1_pay70, k1_pay71, k1_pay72, k1_pay73, k1_pay74, k1_pay75, k1_pay76, k1_pay77, k1_pay78, k1_pay79, k1_pay80, k1_pay81, k1_pay82, k1_pay83, k1_pay84, k1_pay85, k1_pay86, k1_pay87, k1_pay88, k1_pay89, k1_pay90, k1_pay91, k1_pay92, k1_pay93, k1_pay94, k1_pay95, k1_pay96, k1_pay97, k1_pay98, k1_pay99, k1_pay100, k1_pay101, k1_pay102, k1_pay103, k1_pay104, k1_pay105, k1_pay106, k1_pay107, k1_pay108, k1_pay109, k1_pay110, k1_pay111, k1_pay112, k1_pay113, k1_pay114, k1_pay115, k1_pay116, k1_pay117, k1_pay118, k1_pay119, k1_pay120, k1_pay121, k1_pay122, k1_pay123, k1_pay124, k1_pay125, k1_pay126, k1_pay127, k1_pay128, k1_pay129, k1_pay130, k1_pay131, k1_pay132, k1_pay133, k1_pay134, k1_pay135, k1_pay136, k1_pay137, k1_pay138, k1_pay139, k1_pay140, k1_pay141, k1_pay142, k1_pay143, k1_pay144, k1_pay145, k1_pay146, k1_pay147, k1_pay148, k1_pay149, k1_pay150, k1_pay151, k1_pay152, k1_pay153, k1_pay154, k1_pay155, k1_pay156, k1_pay157, k1_pay158, k1_pay159, k1_pay160, k1_pay161, k1_pay162, k1_pay163, k1_pay164, k1_pay165, k1_pay166, k1_pay167, k1_pay168, k1_pay169, k1_pay170, k1_pay171, k1_pay172, k1_pay173, k1_pay174, k1_pay175, k1_pay176, k1_pay177, k1_pay178, k1_pay179, k1_pay180, k1_pay181, k1_pay182, k1_pay183, k1_pay184, k1_pay185, k1_pay186, k1_pay187, k1_pay188, k1_pay189, k1_pay190, k1_pay191, k1_pay192, k1_pay193, k1_pay194, k1_pay195, k1_pay196, k1_pay197, k1_pay198, k1_pay199, k1_pay200, k1_pay201, k1_pay202, k1_pay203, k1_pay204, k1_pay205, k1_pay206, k1_pay207, k1_pay208, k1_pay209, k1_pay210, k1_pay211, k1_pay212, k1_pay213, k1_pay214, k1_pay215, k1_pay216, k1_pay217, du, dw, da, dqd, dkd, degl, dprev, vnew] <;> blk_point)

set_option maxHeartbeats 1600000 in
/-- The gradient of u stored by a grid point. -/
theorem out1_A_8_at (y : S8x64x128.Idx) :
    out1_A_8 (F := Ideal) c i a2 h2 a3 h3 a4 h4 a5 h5 a6 h6 a7 h7 a8 h8 a9 h9 a10 h10 a11 h11 a12 h12 a13 h13 a14 h14 a15 h15 a16 h16 hc0 x0 x1 x2 x3 x4 x5 x6 x7 y = du (fun c v => x2 (ix3 (y 0) c v)) (fun c v => x4 (ix3 (y 0) c v)) (fun c v => x7 (ix3 (y 0) c v)) (fun _ _ => 0) (y 1) (y 2) := by
  frame_open
  simp (disch := decide) only [↓View.readCov_skip, ↓View.readCov_fill]
  frame_out
  canon_tiles x g
  all_goals (open_payloads; pointwise [k1_pay1, k1_pay2, k1_pay3, k1_pay4, k1_pay5, k1_pay6, k1_pay7, k1_pay8, k1_pay9, k1_pay10, k1_pay11, k1_pay12, k1_pay13, k1_pay14, k1_pay15, k1_pay16, k1_pay17, k1_pay18, k1_pay19, k1_pay20, k1_pay21, k1_pay22, k1_pay23, k1_pay24, k1_pay25, k1_pay26, k1_pay27, k1_pay28, k1_pay29, k1_pay30, k1_pay31, k1_pay32, k1_pay33, k1_pay34, k1_pay35, k1_pay36, k1_pay37, k1_pay38, k1_pay39, k1_pay40, k1_pay41, k1_pay42, k1_pay43, k1_pay44, k1_pay45, k1_pay46, k1_pay47, k1_pay48, k1_pay49, k1_pay50, k1_pay51, k1_pay52, k1_pay53, k1_pay54, k1_pay55, k1_pay56, k1_pay57, k1_pay58, k1_pay59, k1_pay60, k1_pay61, k1_pay62, k1_pay63, k1_pay64, k1_pay65, k1_pay66, k1_pay67, k1_pay68, k1_pay69, k1_pay70, k1_pay71, k1_pay72, k1_pay73, k1_pay74, k1_pay75, k1_pay76, k1_pay77, k1_pay78, k1_pay79, k1_pay80, k1_pay81, k1_pay82, k1_pay83, k1_pay84, k1_pay85, k1_pay86, k1_pay87, k1_pay88, k1_pay89, k1_pay90, k1_pay91, k1_pay92, k1_pay93, k1_pay94, k1_pay95, k1_pay96, k1_pay97, k1_pay98, k1_pay99, k1_pay100, k1_pay101, k1_pay102, k1_pay103, k1_pay104, k1_pay105, k1_pay106, k1_pay107, k1_pay108, k1_pay109, k1_pay110, k1_pay111, k1_pay112, k1_pay113, k1_pay114, k1_pay115, k1_pay116, k1_pay117, k1_pay118, k1_pay119, k1_pay120, k1_pay121, k1_pay122, k1_pay123, k1_pay124, k1_pay125, k1_pay126, k1_pay127, k1_pay128, k1_pay129, k1_pay130, k1_pay131, k1_pay132, k1_pay133, k1_pay134, k1_pay135, k1_pay136, k1_pay137, k1_pay138, k1_pay139, k1_pay140, k1_pay141, k1_pay142, k1_pay143, k1_pay144, k1_pay145, k1_pay146, k1_pay147, k1_pay148, k1_pay149, k1_pay150, k1_pay151, k1_pay152, k1_pay153, k1_pay154, k1_pay155, k1_pay156, k1_pay157, k1_pay158, k1_pay159, k1_pay160, k1_pay161, k1_pay162, k1_pay163, k1_pay164, k1_pay165, k1_pay166, k1_pay167, k1_pay168, k1_pay169, k1_pay170, k1_pay171, k1_pay172, k1_pay173, k1_pay174, k1_pay175, k1_pay176, k1_pay177, k1_pay178, k1_pay179, k1_pay180, k1_pay181, k1_pay182, k1_pay183, k1_pay184, k1_pay185, k1_pay186, k1_pay187, k1_pay188, k1_pay189, k1_pay190, k1_pay191, k1_pay192, k1_pay193, k1_pay194, k1_pay195, k1_pay196, k1_pay197, k1_pay198, k1_pay199, k1_pay200, k1_pay201, k1_pay202, k1_pay203, k1_pay204, k1_pay205, k1_pay206, k1_pay207, k1_pay208, k1_pay209, k1_pay210, k1_pay211, k1_pay212, k1_pay213, k1_pay214, k1_pay215, k1_pay216, k1_pay217, du, dw, da, dqd, dkd, degl, dprev, vnew] <;> blk_point)

set_option maxHeartbeats 1600000 in
/-- The gradient of w stored by a grid point. -/
theorem out1_A_9_at (y : S8x64x128.Idx) :
    out1_A_9 (F := Ideal) c i a2 h2 a3 h3 a4 h4 a5 h5 a6 h6 a7 h7 a8 h8 a9 h9 a10 h10 a11 h11 a12 h12 a13 h13 a14 h14 a15 h15 a16 h16 hc0 x0 x1 x2 x3 x4 x5 x6 x7 y = dw (fun c v => x2 (ix3 (y 0) c v)) (fun c v => x4 (ix3 (y 0) c v)) (fun c v => x7 (ix3 (y 0) c v)) (fun k v => x6 (ix4 (y 0) 0 k v)) (fun _ _ => 0) (y 1) (y 2) := by
  frame_open
  simp (disch := decide) only [↓View.readCov_skip, ↓View.readCov_fill]
  frame_out
  canon_tiles x g
  all_goals (open_payloads; pointwise [k1_pay1, k1_pay2, k1_pay3, k1_pay4, k1_pay5, k1_pay6, k1_pay7, k1_pay8, k1_pay9, k1_pay10, k1_pay11, k1_pay12, k1_pay13, k1_pay14, k1_pay15, k1_pay16, k1_pay17, k1_pay18, k1_pay19, k1_pay20, k1_pay21, k1_pay22, k1_pay23, k1_pay24, k1_pay25, k1_pay26, k1_pay27, k1_pay28, k1_pay29, k1_pay30, k1_pay31, k1_pay32, k1_pay33, k1_pay34, k1_pay35, k1_pay36, k1_pay37, k1_pay38, k1_pay39, k1_pay40, k1_pay41, k1_pay42, k1_pay43, k1_pay44, k1_pay45, k1_pay46, k1_pay47, k1_pay48, k1_pay49, k1_pay50, k1_pay51, k1_pay52, k1_pay53, k1_pay54, k1_pay55, k1_pay56, k1_pay57, k1_pay58, k1_pay59, k1_pay60, k1_pay61, k1_pay62, k1_pay63, k1_pay64, k1_pay65, k1_pay66, k1_pay67, k1_pay68, k1_pay69, k1_pay70, k1_pay71, k1_pay72, k1_pay73, k1_pay74, k1_pay75, k1_pay76, k1_pay77, k1_pay78, k1_pay79, k1_pay80, k1_pay81, k1_pay82, k1_pay83, k1_pay84, k1_pay85, k1_pay86, k1_pay87, k1_pay88, k1_pay89, k1_pay90, k1_pay91, k1_pay92, k1_pay93, k1_pay94, k1_pay95, k1_pay96, k1_pay97, k1_pay98, k1_pay99, k1_pay100, k1_pay101, k1_pay102, k1_pay103, k1_pay104, k1_pay105, k1_pay106, k1_pay107, k1_pay108, k1_pay109, k1_pay110, k1_pay111, k1_pay112, k1_pay113, k1_pay114, k1_pay115, k1_pay116, k1_pay117, k1_pay118, k1_pay119, k1_pay120, k1_pay121, k1_pay122, k1_pay123, k1_pay124, k1_pay125, k1_pay126, k1_pay127, k1_pay128, k1_pay129, k1_pay130, k1_pay131, k1_pay132, k1_pay133, k1_pay134, k1_pay135, k1_pay136, k1_pay137, k1_pay138, k1_pay139, k1_pay140, k1_pay141, k1_pay142, k1_pay143, k1_pay144, k1_pay145, k1_pay146, k1_pay147, k1_pay148, k1_pay149, k1_pay150, k1_pay151, k1_pay152, k1_pay153, k1_pay154, k1_pay155, k1_pay156, k1_pay157, k1_pay158, k1_pay159, k1_pay160, k1_pay161, k1_pay162, k1_pay163, k1_pay164, k1_pay165, k1_pay166, k1_pay167, k1_pay168, k1_pay169, k1_pay170, k1_pay171, k1_pay172, k1_pay173, k1_pay174, k1_pay175, k1_pay176, k1_pay177, k1_pay178, k1_pay179, k1_pay180, k1_pay181, k1_pay182, k1_pay183, k1_pay184, k1_pay185, k1_pay186, k1_pay187, k1_pay188, k1_pay189, k1_pay190, k1_pay191, k1_pay192, k1_pay193, k1_pay194, k1_pay195, k1_pay196, k1_pay197, k1_pay198, k1_pay199, k1_pay200, k1_pay201, k1_pay202, k1_pay203, k1_pay204, k1_pay205, k1_pay206, k1_pay207, k1_pay208, k1_pay209, k1_pay210, k1_pay211, k1_pay212, k1_pay213, k1_pay214, k1_pay215, k1_pay216, k1_pay217, du, dw, da, dqd, dkd, degl, dprev, vnew] <;> blk_point)

set_option maxHeartbeats 1600000 in
/-- The gradient of a stored by a grid point. -/
theorem out1_A_10_at (y : S8x64x64.Idx) :
    out1_A_10 (F := Ideal) c i a2 h2 a3 h3 a4 h4 a5 h5 a6 h6 a7 h7 a8 h8 a9 h9 a10 h10 a11 h11 a12 h12 a13 h13 a14 h14 a15 h15 a16 h16 hc0 x0 x1 x2 x3 x4 x5 x6 x7 y = da (fun c v => x0 (ix3 (y 0) c v)) (fun c v => x1 (ix3 (y 0) c v)) (fun c v => x7 (ix3 (y 0) c v)) (fun k v => x6 (ix4 (y 0) 0 k v)) (y 1) (y 2) := by
  frame_open
  simp (disch := decide) only [↓View.readCov_skip, ↓View.readCov_fill]
  frame_out
  canon_tiles x g
  all_goals (open_payloads; pointwise [k1_pay1, k1_pay2, k1_pay3, k1_pay4, k1_pay5, k1_pay6, k1_pay7, k1_pay8, k1_pay9, k1_pay10, k1_pay11, k1_pay12, k1_pay13, k1_pay14, k1_pay15, k1_pay16, k1_pay17, k1_pay18, k1_pay19, k1_pay20, k1_pay21, k1_pay22, k1_pay23, k1_pay24, k1_pay25, k1_pay26, k1_pay27, k1_pay28, k1_pay29, k1_pay30, k1_pay31, k1_pay32, k1_pay33, k1_pay34, k1_pay35, k1_pay36, k1_pay37, k1_pay38, k1_pay39, k1_pay40, k1_pay41, k1_pay42, k1_pay43, k1_pay44, k1_pay45, k1_pay46, k1_pay47, k1_pay48, k1_pay49, k1_pay50, k1_pay51, k1_pay52, k1_pay53, k1_pay54, k1_pay55, k1_pay56, k1_pay57, k1_pay58, k1_pay59, k1_pay60, k1_pay61, k1_pay62, k1_pay63, k1_pay64, k1_pay65, k1_pay66, k1_pay67, k1_pay68, k1_pay69, k1_pay70, k1_pay71, k1_pay72, k1_pay73, k1_pay74, k1_pay75, k1_pay76, k1_pay77, k1_pay78, k1_pay79, k1_pay80, k1_pay81, k1_pay82, k1_pay83, k1_pay84, k1_pay85, k1_pay86, k1_pay87, k1_pay88, k1_pay89, k1_pay90, k1_pay91, k1_pay92, k1_pay93, k1_pay94, k1_pay95, k1_pay96, k1_pay97, k1_pay98, k1_pay99, k1_pay100, k1_pay101, k1_pay102, k1_pay103, k1_pay104, k1_pay105, k1_pay106, k1_pay107, k1_pay108, k1_pay109, k1_pay110, k1_pay111, k1_pay112, k1_pay113, k1_pay114, k1_pay115, k1_pay116, k1_pay117, k1_pay118, k1_pay119, k1_pay120, k1_pay121, k1_pay122, k1_pay123, k1_pay124, k1_pay125, k1_pay126, k1_pay127, k1_pay128, k1_pay129, k1_pay130, k1_pay131, k1_pay132, k1_pay133, k1_pay134, k1_pay135, k1_pay136, k1_pay137, k1_pay138, k1_pay139, k1_pay140, k1_pay141, k1_pay142, k1_pay143, k1_pay144, k1_pay145, k1_pay146, k1_pay147, k1_pay148, k1_pay149, k1_pay150, k1_pay151, k1_pay152, k1_pay153, k1_pay154, k1_pay155, k1_pay156, k1_pay157, k1_pay158, k1_pay159, k1_pay160, k1_pay161, k1_pay162, k1_pay163, k1_pay164, k1_pay165, k1_pay166, k1_pay167, k1_pay168, k1_pay169, k1_pay170, k1_pay171, k1_pay172, k1_pay173, k1_pay174, k1_pay175, k1_pay176, k1_pay177, k1_pay178, k1_pay179, k1_pay180, k1_pay181, k1_pay182, k1_pay183, k1_pay184, k1_pay185, k1_pay186, k1_pay187, k1_pay188, k1_pay189, k1_pay190, k1_pay191, k1_pay192, k1_pay193, k1_pay194, k1_pay195, k1_pay196, k1_pay197, k1_pay198, k1_pay199, k1_pay200, k1_pay201, k1_pay202, k1_pay203, k1_pay204, k1_pay205, k1_pay206, k1_pay207, k1_pay208, k1_pay209, k1_pay210, k1_pay211, k1_pay212, k1_pay213, k1_pay214, k1_pay215, k1_pay216, k1_pay217, du, dw, da, dqd, dkd, degl, dprev, vnew] <;> blk_point)

set_option maxHeartbeats 1600000 in
/-- The gradient of qd stored by a grid point. -/
theorem out1_A_11_at (y : S8x64x128.Idx) :
    out1_A_11 (F := Ideal) c i a2 h2 a3 h3 a4 h4 a5 h5 a6 h6 a7 h7 a8 h8 a9 h9 a10 h10 a11 h11 a12 h12 a13 h13 a14 h14 a15 h15 a16 h16 hc0 x0 x1 x2 x3 x4 x5 x6 x7 y = dqd (fun c v => x7 (ix3 (y 0) c v)) (fun k v => x6 (ix4 (y 0) 0 k v)) (y 1) (y 2) := by
  frame_open
  simp (disch := decide) only [↓View.readCov_skip, ↓View.readCov_fill]
  frame_out
  canon_tiles x g
  all_goals (open_payloads; pointwise [k1_pay1, k1_pay2, k1_pay3, k1_pay4, k1_pay5, k1_pay6, k1_pay7, k1_pay8, k1_pay9, k1_pay10, k1_pay11, k1_pay12, k1_pay13, k1_pay14, k1_pay15, k1_pay16, k1_pay17, k1_pay18, k1_pay19, k1_pay20, k1_pay21, k1_pay22, k1_pay23, k1_pay24, k1_pay25, k1_pay26, k1_pay27, k1_pay28, k1_pay29, k1_pay30, k1_pay31, k1_pay32, k1_pay33, k1_pay34, k1_pay35, k1_pay36, k1_pay37, k1_pay38, k1_pay39, k1_pay40, k1_pay41, k1_pay42, k1_pay43, k1_pay44, k1_pay45, k1_pay46, k1_pay47, k1_pay48, k1_pay49, k1_pay50, k1_pay51, k1_pay52, k1_pay53, k1_pay54, k1_pay55, k1_pay56, k1_pay57, k1_pay58, k1_pay59, k1_pay60, k1_pay61, k1_pay62, k1_pay63, k1_pay64, k1_pay65, k1_pay66, k1_pay67, k1_pay68, k1_pay69, k1_pay70, k1_pay71, k1_pay72, k1_pay73, k1_pay74, k1_pay75, k1_pay76, k1_pay77, k1_pay78, k1_pay79, k1_pay80, k1_pay81, k1_pay82, k1_pay83, k1_pay84, k1_pay85, k1_pay86, k1_pay87, k1_pay88, k1_pay89, k1_pay90, k1_pay91, k1_pay92, k1_pay93, k1_pay94, k1_pay95, k1_pay96, k1_pay97, k1_pay98, k1_pay99, k1_pay100, k1_pay101, k1_pay102, k1_pay103, k1_pay104, k1_pay105, k1_pay106, k1_pay107, k1_pay108, k1_pay109, k1_pay110, k1_pay111, k1_pay112, k1_pay113, k1_pay114, k1_pay115, k1_pay116, k1_pay117, k1_pay118, k1_pay119, k1_pay120, k1_pay121, k1_pay122, k1_pay123, k1_pay124, k1_pay125, k1_pay126, k1_pay127, k1_pay128, k1_pay129, k1_pay130, k1_pay131, k1_pay132, k1_pay133, k1_pay134, k1_pay135, k1_pay136, k1_pay137, k1_pay138, k1_pay139, k1_pay140, k1_pay141, k1_pay142, k1_pay143, k1_pay144, k1_pay145, k1_pay146, k1_pay147, k1_pay148, k1_pay149, k1_pay150, k1_pay151, k1_pay152, k1_pay153, k1_pay154, k1_pay155, k1_pay156, k1_pay157, k1_pay158, k1_pay159, k1_pay160, k1_pay161, k1_pay162, k1_pay163, k1_pay164, k1_pay165, k1_pay166, k1_pay167, k1_pay168, k1_pay169, k1_pay170, k1_pay171, k1_pay172, k1_pay173, k1_pay174, k1_pay175, k1_pay176, k1_pay177, k1_pay178, k1_pay179, k1_pay180, k1_pay181, k1_pay182, k1_pay183, k1_pay184, k1_pay185, k1_pay186, k1_pay187, k1_pay188, k1_pay189, k1_pay190, k1_pay191, k1_pay192, k1_pay193, k1_pay194, k1_pay195, k1_pay196, k1_pay197, k1_pay198, k1_pay199, k1_pay200, k1_pay201, k1_pay202, k1_pay203, k1_pay204, k1_pay205, k1_pay206, k1_pay207, k1_pay208, k1_pay209, k1_pay210, k1_pay211, k1_pay212, k1_pay213, k1_pay214, k1_pay215, k1_pay216, k1_pay217, du, dw, da, dqd, dkd, degl, dprev, vnew] <;> blk_point)

set_option maxHeartbeats 1600000 in
/-- The gradient of kd stored by a grid point. -/
theorem out1_A_12_at (y : S8x64x128.Idx) :
    out1_A_12 (F := Ideal) c i a2 h2 a3 h3 a4 h4 a5 h5 a6 h6 a7 h7 a8 h8 a9 h9 a10 h10 a11 h11 a12 h12 a13 h13 a14 h14 a15 h15 a16 h16 hc0 x0 x1 x2 x3 x4 x5 x6 x7 y = dkd (fun c v => x0 (ix3 (y 0) c v)) (fun c v => x1 (ix3 (y 0) c v)) (fun k v => x6 (ix4 (y 0) 0 k v)) (fun _ _ => 0) (y 1) (y 2) := by
  frame_open
  simp (disch := decide) only [↓View.readCov_skip, ↓View.readCov_fill]
  frame_out
  canon_tiles x g
  all_goals (open_payloads; pointwise [k1_pay1, k1_pay2, k1_pay3, k1_pay4, k1_pay5, k1_pay6, k1_pay7, k1_pay8, k1_pay9, k1_pay10, k1_pay11, k1_pay12, k1_pay13, k1_pay14, k1_pay15, k1_pay16, k1_pay17, k1_pay18, k1_pay19, k1_pay20, k1_pay21, k1_pay22, k1_pay23, k1_pay24, k1_pay25, k1_pay26, k1_pay27, k1_pay28, k1_pay29, k1_pay30, k1_pay31, k1_pay32, k1_pay33, k1_pay34, k1_pay35, k1_pay36, k1_pay37, k1_pay38, k1_pay39, k1_pay40, k1_pay41, k1_pay42, k1_pay43, k1_pay44, k1_pay45, k1_pay46, k1_pay47, k1_pay48, k1_pay49, k1_pay50, k1_pay51, k1_pay52, k1_pay53, k1_pay54, k1_pay55, k1_pay56, k1_pay57, k1_pay58, k1_pay59, k1_pay60, k1_pay61, k1_pay62, k1_pay63, k1_pay64, k1_pay65, k1_pay66, k1_pay67, k1_pay68, k1_pay69, k1_pay70, k1_pay71, k1_pay72, k1_pay73, k1_pay74, k1_pay75, k1_pay76, k1_pay77, k1_pay78, k1_pay79, k1_pay80, k1_pay81, k1_pay82, k1_pay83, k1_pay84, k1_pay85, k1_pay86, k1_pay87, k1_pay88, k1_pay89, k1_pay90, k1_pay91, k1_pay92, k1_pay93, k1_pay94, k1_pay95, k1_pay96, k1_pay97, k1_pay98, k1_pay99, k1_pay100, k1_pay101, k1_pay102, k1_pay103, k1_pay104, k1_pay105, k1_pay106, k1_pay107, k1_pay108, k1_pay109, k1_pay110, k1_pay111, k1_pay112, k1_pay113, k1_pay114, k1_pay115, k1_pay116, k1_pay117, k1_pay118, k1_pay119, k1_pay120, k1_pay121, k1_pay122, k1_pay123, k1_pay124, k1_pay125, k1_pay126, k1_pay127, k1_pay128, k1_pay129, k1_pay130, k1_pay131, k1_pay132, k1_pay133, k1_pay134, k1_pay135, k1_pay136, k1_pay137, k1_pay138, k1_pay139, k1_pay140, k1_pay141, k1_pay142, k1_pay143, k1_pay144, k1_pay145, k1_pay146, k1_pay147, k1_pay148, k1_pay149, k1_pay150, k1_pay151, k1_pay152, k1_pay153, k1_pay154, k1_pay155, k1_pay156, k1_pay157, k1_pay158, k1_pay159, k1_pay160, k1_pay161, k1_pay162, k1_pay163, k1_pay164, k1_pay165, k1_pay166, k1_pay167, k1_pay168, k1_pay169, k1_pay170, k1_pay171, k1_pay172, k1_pay173, k1_pay174, k1_pay175, k1_pay176, k1_pay177, k1_pay178, k1_pay179, k1_pay180, k1_pay181, k1_pay182, k1_pay183, k1_pay184, k1_pay185, k1_pay186, k1_pay187, k1_pay188, k1_pay189, k1_pay190, k1_pay191, k1_pay192, k1_pay193, k1_pay194, k1_pay195, k1_pay196, k1_pay197, k1_pay198, k1_pay199, k1_pay200, k1_pay201, k1_pay202, k1_pay203, k1_pay204, k1_pay205, k1_pay206, k1_pay207, k1_pay208, k1_pay209, k1_pay210, k1_pay211, k1_pay212, k1_pay213, k1_pay214, k1_pay215, k1_pay216, k1_pay217, du, dw, da, dqd, dkd, degl, dprev, vnew] <;> blk_point)

set_option maxHeartbeats 1600000 in
/-- The gradient of the decay stored by a grid point. -/
theorem out1_A_13_at (y : S8x1x1x128.Idx) :
    out1_A_13 (F := Ideal) c i a2 h2 a3 h3 a4 h4 a5 h5 a6 h6 a7 h7 a8 h8 a9 h9 a10 h10 a11 h11 a12 h12 a13 h13 a14 h14 a15 h15 a16 h16 hc0 x0 x1 x2 x3 x4 x5 x6 x7 y = degl (fun k v => x6 (ix4 (y 0) 0 k v)) (fun _ _ => 0) (y 3) := by
  frame_open
  simp (disch := decide) only [↓View.readCov_skip, ↓View.readCov_fill]
  frame_out
  canon_tiles x g
  all_goals (open_payloads; pointwise [k1_pay1, k1_pay2, k1_pay3, k1_pay4, k1_pay5, k1_pay6, k1_pay7, k1_pay8, k1_pay9, k1_pay10, k1_pay11, k1_pay12, k1_pay13, k1_pay14, k1_pay15, k1_pay16, k1_pay17, k1_pay18, k1_pay19, k1_pay20, k1_pay21, k1_pay22, k1_pay23, k1_pay24, k1_pay25, k1_pay26, k1_pay27, k1_pay28, k1_pay29, k1_pay30, k1_pay31, k1_pay32, k1_pay33, k1_pay34, k1_pay35, k1_pay36, k1_pay37, k1_pay38, k1_pay39, k1_pay40, k1_pay41, k1_pay42, k1_pay43, k1_pay44, k1_pay45, k1_pay46, k1_pay47, k1_pay48, k1_pay49, k1_pay50, k1_pay51, k1_pay52, k1_pay53, k1_pay54, k1_pay55, k1_pay56, k1_pay57, k1_pay58, k1_pay59, k1_pay60, k1_pay61, k1_pay62, k1_pay63, k1_pay64, k1_pay65, k1_pay66, k1_pay67, k1_pay68, k1_pay69, k1_pay70, k1_pay71, k1_pay72, k1_pay73, k1_pay74, k1_pay75, k1_pay76, k1_pay77, k1_pay78, k1_pay79, k1_pay80, k1_pay81, k1_pay82, k1_pay83, k1_pay84, k1_pay85, k1_pay86, k1_pay87, k1_pay88, k1_pay89, k1_pay90, k1_pay91, k1_pay92, k1_pay93, k1_pay94, k1_pay95, k1_pay96, k1_pay97, k1_pay98, k1_pay99, k1_pay100, k1_pay101, k1_pay102, k1_pay103, k1_pay104, k1_pay105, k1_pay106, k1_pay107, k1_pay108, k1_pay109, k1_pay110, k1_pay111, k1_pay112, k1_pay113, k1_pay114, k1_pay115, k1_pay116, k1_pay117, k1_pay118, k1_pay119, k1_pay120, k1_pay121, k1_pay122, k1_pay123, k1_pay124, k1_pay125, k1_pay126, k1_pay127, k1_pay128, k1_pay129, k1_pay130, k1_pay131, k1_pay132, k1_pay133, k1_pay134, k1_pay135, k1_pay136, k1_pay137, k1_pay138, k1_pay139, k1_pay140, k1_pay141, k1_pay142, k1_pay143, k1_pay144, k1_pay145, k1_pay146, k1_pay147, k1_pay148, k1_pay149, k1_pay150, k1_pay151, k1_pay152, k1_pay153, k1_pay154, k1_pay155, k1_pay156, k1_pay157, k1_pay158, k1_pay159, k1_pay160, k1_pay161, k1_pay162, k1_pay163, k1_pay164, k1_pay165, k1_pay166, k1_pay167, k1_pay168, k1_pay169, k1_pay170, k1_pay171, k1_pay172, k1_pay173, k1_pay174, k1_pay175, k1_pay176, k1_pay177, k1_pay178, k1_pay179, k1_pay180, k1_pay181, k1_pay182, k1_pay183, k1_pay184, k1_pay185, k1_pay186, k1_pay187, k1_pay188, k1_pay189, k1_pay190, k1_pay191, k1_pay192, k1_pay193, k1_pay194, k1_pay195, k1_pay196, k1_pay197, k1_pay198, k1_pay199, k1_pay200, k1_pay201, k1_pay202, k1_pay203, k1_pay204, k1_pay205, k1_pay206, k1_pay207, k1_pay208, k1_pay209, k1_pay210, k1_pay211, k1_pay212, k1_pay213, k1_pay214, k1_pay215, k1_pay216, k1_pay217, du, dw, da, dqd, dkd, degl, dprev, vnew] <;> blk_point)

end

end Cert.KernelIdeal.Bwd

end
-- ==== Proof.BwdValue.lean ====
module

public import Idealize.ShloMosaic.Lib.Pipeline.ValueKit
public import proofs.«01_k».proof.Proof.BwdPoint

@[expose] public section

set_option maxRecDepth 16384

noncomputable section

namespace Cert.KernelIdeal.Bwd

open Cert.KernelIdeal Cert.KernelIdeal.Gen Cert.Recurrence
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable (V : (c : Dev nD) → (b : Ref sig .tc) → Buf (Elt Ideal) ((c : Thread nD τ).loc b))

/-- Which chunk each window shows at a grid point: the chunks run backwards. -/
theorem idx : ∀ t : Fin cfg1.N, win1_0.index t = ![0, 31 - t.val, 0] ∧ win1_1.index t = ![0, 31 - t.val, 0] ∧ win1_2.index t = ![0, 31 - t.val, 0] ∧ win1_3.index t = ![0, 31 - t.val, 0] ∧ win1_4.index t = ![0, 31 - t.val, 0] ∧ win1_5.index t = ![0, 31 - t.val, 0, 0] ∧ win1_6.index t = ![0, 31 - t.val, 0, 0] ∧ win1_7.index t = ![0, 31 - t.val, 0] ∧ win1_8.index t = ![0, 31 - t.val, 0] ∧ win1_9.index t = ![0, 31 - t.val, 0] ∧ win1_10.index t = ![0, 31 - t.val, 0] ∧ win1_11.index t = ![0, 31 - t.val, 0] ∧ win1_12.index t = ![0, 31 - t.val, 0] ∧ win1_13.index t = ![0, 31 - t.val, 0, 0] :=
  (by decide +kernel : ∀ t : Fin grid1.N, _)

/-- At a grid point the sweep stands at this chunk. -/
theorem back_val (t : Fin cfg1.N) : (back t.val).val = 31 - t.val := by
  have ht : t.val < 32 := t.isLt
  simp only [back]; omega

/-- Input 0's block is the chunk of its array. -/
theorem rows_0 (c : Dev nD) (t : Fin cfg1.N) (h : Fin 8) :
    (fun p q => iblk V c 0 t (ix3 h p q) : Rows) = rows (V c main_arg0) h (back t.val) := by
  funext p q
  have ht : t.val < 32 := t.isLt
  have hb := back_val t
  show iblk V c 0 t (ix3 h p q) = V c main_arg0 (ix3 h (row (back t.val) p) q)
  blk_ext [iblk, idx t, row, hb]

/-- Input 1's block is the chunk of its array. -/
theorem rows_1 (c : Dev nD) (t : Fin cfg1.N) (h : Fin 8) :
    (fun p q => iblk V c 1 t (ix3 h p q) : Rows) = rows (V c main_arg1) h (back t.val) := by
  funext p q
  have ht : t.val < 32 := t.isLt
  have hb := back_val t
  show iblk V c 1 t (ix3 h p q) = V c main_arg1 (ix3 h (row (back t.val) p) q)
  blk_ext [iblk, idx t, row, hb]

/-- Input 2's block is the chunk of its array. -/
theorem rows_2 (c : Dev nD) (t : Fin cfg1.N) (h : Fin 8) :
    (fun p q => iblk V c 2 t (ix3 h p q) : SqRows) = sqRows (V c main_arg2) h (back t.val) := by
  funext p q
  have ht : t.val < 32 := t.isLt
  have hb := back_val t
  show iblk V c 2 t (ix3 h p q) = V c main_arg2 (ix3 h (row (back t.val) p) q)
  blk_ext [iblk, idx t, row, hb]

/-- Input 3's block is the chunk of its array. -/
theorem rows_3 (c : Dev nD) (t : Fin cfg1.N) (h : Fin 8) :
    (fun p q => iblk V c 3 t (ix3 h p q) : Rows) = rows (V c main_arg3) h (back t.val) := by
  funext p q
  have ht : t.val < 32 := t.isLt
  have hb := back_val t
  show iblk V c 3 t (ix3 h p q) = V c main_arg3 (ix3 h (row (back t.val) p) q)
  blk_ext [iblk, idx t, row, hb]

/-- Input 4's block is the chunk of its array. -/
theorem rows_4 (c : Dev nD) (t : Fin cfg1.N) (h : Fin 8) :
    (fun p q => iblk V c 4 t (ix3 h p q) : Rows) = rows (V c main_arg4) h (back t.val) := by
  funext p q
  have ht : t.val < 32 := t.isLt
  have hb := back_val t
  show iblk V c 4 t (ix3 h p q) = V c main_arg4 (ix3 h (row (back t.val) p) q)
  blk_ext [iblk, idx t, row, hb]

/-- Input 7's block is the chunk of its array. -/
theorem rows_7 (c : Dev nD) (t : Fin cfg1.N) (h : Fin 8) :
    (fun p q => iblk V c 7 t (ix3 h p q) : Rows) = rows (V c main_arg6) h (back t.val) := by
  funext p q
  have ht : t.val < 32 := t.isLt
  have hb := back_val t
  show iblk V c 7 t (ix3 h p q) = V c main_arg6 (ix3 h (row (back t.val) p) q)
  blk_ext [iblk, idx t, row, hb]

/-- The decay's block is the chunk's decay. -/
theorem dec_5 (c : Dev nD) (t : Fin cfg1.N) (h : Fin 8) :
    (fun q => iblk V c 5 t (ix4 h 0 0 q) : Fin 128 → EReal) = dec (V c main_arg5) h (back t.val) := by
  funext q
  have ht : t.val < 32 := t.isLt
  have hb := back_val t
  show iblk V c 5 t (ix4 h 0 0 q) = V c main_arg5 (ix4 h (back t.val) 0 q)
  blk_ext [iblk, idx t, hb]

/-- The cotangents of the states, of the region's arguments. -/
abbrev D (c : Dev nD) (h : Fin 8) (n : ℕ) : State :=
  Dseq (V c main_arg1) (V c main_arg2) (V c main_arg3) (V c main_arg4) (V c main_arg5) (V c main_arg6) h n

/-- The states that the first region left. -/
abbrev S (c : Dev nD) (h : Fin 8) (n : Fin 32) : State := St (V c main_arg0) (V c main_arg1) (V c main_arg4) (V c main_arg5) h n

/-- The scratch after a grid point is the cotangent before its chunk. -/
theorem carried (c : Dev nD) : ∀ (n : ℕ) (hn : n < cfg1.N) (y : S8x128x128.Idx), (outsAt1 V c n hn).2.2.2.2.2.2 y = D V c (y 0) (n + 1) (y 1) (y 2)
  | 0, hn, y => by
    rw [outsAt1_A V c ⟨0, hn⟩ rfl]
    dsimp only
    rw [sout1_A_0_at]
    exact dprev_congr (rows_1 V c _ _) (rows_2 V c _ _) (rows_3 V c _ _) (rows_4 V c _ _) (rows_7 V c _ _) (dec_5 V c _ _) rfl _ _
  | n + 1, hn, y => by
    have hN : n + 1 < 32 := hn
    have ih : (fun p q => (outsAt1 V c n (Nat.lt_of_succ_lt hn)).2.2.2.2.2.2 (ix3 (y 0) p q) : State) = D V c (y 0) (n + 1) := by
      funext p q; exact carried c n _ _
    rw [outsAt1_B V c ⟨n + 1, hn⟩ (by show ¬(n + 1) % 32 = 0; omega)]
    dsimp only
    rw [sout1_B_0_at]
    exact dprev_congr (rows_1 V c _ _) (rows_2 V c _ _) (rows_3 V c _ _) (rows_4 V c _ _) (rows_7 V c _ _) (dec_5 V c _ _) ih _ _

/-- The cotangent carried into a later grid point. -/
theorem carried_in (c : Dev nD) (n : ℕ) (hn : n < cfg1.N) (h : Fin 8) :
    (fun p q => (outsAt1 V c n hn).2.2.2.2.2.2 (ix3 h p q) : State) = D V c h (n + 1) := by
  funext p q; exact carried V c n hn _

variable (hS : ∀ (c : Dev nD) (i : S8x32x128x128.Idx), V c main_v0_1 i = S V c (i 0) (i 1) (i 2) (i 3))
include hS

/-- The block of states is the chunk's state. -/
theorem state_6 (c : Dev nD) (t : Fin cfg1.N) (h : Fin 8) :
    (fun p q => iblk V c 6 t (ix4 h 0 p q) : State) = S V c h (back t.val) := by
  funext p q
  have ht : t.val < 32 := t.isLt
  have hb := back_val t
  refine Eq.trans ?_ (hS c (ix4 h (back t.val) p q))
  show iblk V c 6 t (ix4 h 0 p q) = V c main_v0_1 (ix4 h (back t.val) p q)
  blk_ext [iblk, idx t, hb]

/-- What a grid point stores for the gradient of u. -/
theorem stored_8 (c : Dev nD) (t : Fin cfg1.N) (y : S8x64x128.Idx) : (outsAt1 V c t.val t.isLt).1 y = du (sqRows (V c main_arg2) (y 0) (back t.val)) (rows (V c main_arg4) (y 0) (back t.val)) (rows (V c main_arg6) (y 0) (back t.val)) (D V c (y 0) t.val) (y 1) (y 2) := by
  obtain ⟨n, hn⟩ := t
  cases n with
  | zero =>
    rw [outsAt1_A V c ⟨0, hn⟩ rfl]
    dsimp only
    rw [out1_A_8_at]
    exact du_congr (rows_2 V c _ _) (rows_4 V c _ _) (rows_7 V c _ _) rfl _ _
  | succ n =>
    have hN : n + 1 < 32 := hn
    rw [outsAt1_B V c ⟨n + 1, hn⟩ (by show ¬(n + 1) % 32 = 0; omega)]
    dsimp only
    rw [out1_B_8_at]
    exact du_congr (rows_2 V c _ _) (rows_4 V c _ _) (rows_7 V c _ _) (carried_in V c n (Nat.lt_of_succ_lt hn) _) _ _

/-- The array of the gradient of u after the region. -/
theorem final_8 (c : Dev nD) : (dats V c).arrAt 8 cfg1.N = (fun i => gradU (V c main_arg1) (V c main_arg2) (V c main_arg3) (V c main_arg4) (V c main_arg5) (V c main_arg6) i : S8x2048x128.Idx → EReal) := by
  refine (dats V c).arrAt_eq_of_covers 8 _ (by decide +kernel) fun t hf y => ?_
  have ht : t.val < 32 := t.isLt
  have hb := back_val t
  have hD : D V c (y 0) (31 - (back t.val).val) = D V c (y 0) t.val := by rw [hb]; congr 1; omega
  blk_simp
  rw [after1_8]
  refine (stored_8 V hS c t y).trans (((gradU_row _ _ _ _ _ _ (y 0) (back t.val) (y 1) (y 2)).trans (du_congr rfl rfl rfl hD _ _)).symm.trans ?_)
  refine congrArg (gradU (V c main_arg1) (V c main_arg2) (V c main_arg3) (V c main_arg4) (V c main_arg5) (V c main_arg6)) ?_
  blk_ext [idx t, row, hb]

/-- What a grid point stores for the gradient of w. -/
theorem stored_9 (c : Dev nD) (t : Fin cfg1.N) (y : S8x64x128.Idx) : (outsAt1 V c t.val t.isLt).2.1 y = dw (sqRows (V c main_arg2) (y 0) (back t.val)) (rows (V c main_arg4) (y 0) (back t.val)) (rows (V c main_arg6) (y 0) (back t.val)) (S V c (y 0) (back t.val)) (D V c (y 0) t.val) (y 1) (y 2) := by
  obtain ⟨n, hn⟩ := t
  cases n with
  | zero =>
    rw [outsAt1_A V c ⟨0, hn⟩ rfl]
    dsimp only
    rw [out1_A_9_at]
    exact dw_congr (rows_2 V c _ _) (rows_4 V c _ _) (rows_7 V c _ _) (state_6 V hS c _ _) rfl _ _
  | succ n =>
    have hN : n + 1 < 32 := hn
    rw [outsAt1_B V c ⟨n + 1, hn⟩ (by show ¬(n + 1) % 32 = 0; omega)]
    dsimp only
    rw [out1_B_9_at]
    exact dw_congr (rows_2 V c _ _) (rows_4 V c _ _) (rows_7 V c _ _) (state_6 V hS c _ _) (carried_in V c n (Nat.lt_of_succ_lt hn) _) _ _

/-- The array of the gradient of w after the region. -/
theorem final_9 (c : Dev nD) : (dats V c).arrAt 9 cfg1.N = (fun i => gradW (V c main_arg0) (V c main_arg1) (V c main_arg2) (V c main_arg3) (V c main_arg4) (V c main_arg5) (V c main_arg6) i : S8x2048x128.Idx → EReal) := by
  refine (dats V c).arrAt_eq_of_covers 9 _ (by decide +kernel) fun t hf y => ?_
  have ht : t.val < 32 := t.isLt
  have hb := back_val t
  have hD : D V c (y 0) (31 - (back t.val).val) = D V c (y 0) t.val := by rw [hb]; congr 1; omega
  blk_simp
  rw [after1_9]
  refine (stored_9 V hS c t y).trans (((gradW_row _ _ _ _ _ _ _ (y 0) (back t.val) (y 1) (y 2)).trans (dw_congr rfl rfl rfl rfl hD _ _)).symm.trans ?_)
  refine congrArg (gradW (V c main_arg0) (V c main_arg1) (V c main_arg2) (V c main_arg3) (V c main_arg4) (V c main_arg5) (V c main_arg6)) ?_
  blk_ext [idx t, row, hb]

/-- What a grid point stores for the gradient of a. -/
theorem stored_10 (c : Dev nD) (t : Fin cfg1.N) (y : S8x64x64.Idx) : (outsAt1 V c t.val t.isLt).2.2.1 y = da (rows (V c main_arg0) (y 0) (back t.val)) (rows (V c main_arg1) (y 0) (back t.val)) (rows (V c main_arg6) (y 0) (back t.val)) (S V c (y 0) (back t.val)) (y 1) (y 2) := by
  obtain ⟨n, hn⟩ := t
  cases n with
  | zero =>
    rw [outsAt1_A V c ⟨0, hn⟩ rfl]
    dsimp only
    rw [out1_A_10_at]
    exact da_congr (rows_0 V c _ _) (rows_1 V c _ _) (rows_7 V c _ _) (state_6 V hS c _ _) _ _
  | succ n =>
    have hN : n + 1 < 32 := hn
    rw [outsAt1_B V c ⟨n + 1, hn⟩ (by show ¬(n + 1) % 32 = 0; omega)]
    dsimp only
    rw [out1_B_10_at]
    exact da_congr (rows_0 V c _ _) (rows_1 V c _ _) (rows_7 V c _ _) (state_6 V hS c _ _) _ _

/-- The array of the gradient of a after the region. -/
theorem final_10 (c : Dev nD) : (dats V c).arrAt 10 cfg1.N = (fun i => gradA (V c main_arg0) (V c main_arg1) (V c main_arg4) (V c main_arg5) (V c main_arg6) i : S8x2048x64.Idx → EReal) := by
  refine (dats V c).arrAt_eq_of_covers 10 _ (by decide +kernel) fun t hf y => ?_
  have ht : t.val < 32 := t.isLt
  have hb := back_val t
  have hD : D V c (y 0) (31 - (back t.val).val) = D V c (y 0) t.val := by rw [hb]; congr 1; omega
  blk_simp
  rw [after1_10]
  refine (stored_10 V hS c t y).trans (((gradA_row _ _ _ _ _ (y 0) (back t.val) (y 1) (y 2)).trans (da_congr rfl rfl rfl rfl  _ _)).symm.trans ?_)
  refine congrArg (gradA (V c main_arg0) (V c main_arg1) (V c main_arg4) (V c main_arg5) (V c main_arg6)) ?_
  blk_ext [idx t, row, hb]

/-- What a grid point stores for the gradient of qd. -/
theorem stored_11 (c : Dev nD) (t : Fin cfg1.N) (y : S8x64x128.Idx) : (outsAt1 V c t.val t.isLt).2.2.2.1 y = dqd (rows (V c main_arg6) (y 0) (back t.val)) (S V c (y 0) (back t.val)) (y 1) (y 2) := by
  obtain ⟨n, hn⟩ := t
  cases n with
  | zero =>
    rw [outsAt1_A V c ⟨0, hn⟩ rfl]
    dsimp only
    rw [out1_A_11_at]
    exact dqd_congr (rows_7 V c _ _) (state_6 V hS c _ _) _ _
  | succ n =>
    have hN : n + 1 < 32 := hn
    rw [outsAt1_B V c ⟨n + 1, hn⟩ (by show ¬(n + 1) % 32 = 0; omega)]
    dsimp only
    rw [out1_B_11_at]
    exact dqd_congr (rows_7 V c _ _) (state_6 V hS c _ _) _ _

/-- The array of the gradient of qd after the region. -/
theorem final_11 (c : Dev nD) : (dats V c).arrAt 11 cfg1.N = (fun i => gradQD (V c main_arg0) (V c main_arg1) (V c main_arg4) (V c main_arg5) (V c main_arg6) i : S8x2048x128.Idx → EReal) := by
  refine (dats V c).arrAt_eq_of_covers 11 _ (by decide +kernel) fun t hf y => ?_
  have ht : t.val < 32 := t.isLt
  have hb := back_val t
  have hD : D V c (y 0) (31 - (back t.val).val) = D V c (y 0) t.val := by rw [hb]; congr 1; omega
  blk_simp
  rw [after1_11]
  refine (stored_11 V hS c t y).trans (((gradQD_row _ _ _ _ _ (y 0) (back t.val) (y 1) (y 2)).trans (dqd_congr rfl rfl  _ _)).symm.trans ?_)
  refine congrArg (gradQD (V c main_arg0) (V c main_arg1) (V c main_arg4) (V c main_arg5) (V c main_arg6)) ?_
  blk_ext [idx t, row, hb]

/-- What a grid point stores for the gradient of kd. -/
theorem stored_12 (c : Dev nD) (t : Fin cfg1.N) (y : S8x64x128.Idx) : (outsAt1 V c t.val t.isLt).2.2.2.2.1 y = dkd (rows (V c main_arg0) (y 0) (back t.val)) (rows (V c main_arg1) (y 0) (back t.val)) (S V c (y 0) (back t.val)) (D V c (y 0) t.val) (y 1) (y 2) := by
  obtain ⟨n, hn⟩ := t
  cases n with
  | zero =>
    rw [outsAt1_A V c ⟨0, hn⟩ rfl]
    dsimp only
    rw [out1_A_12_at]
    exact dkd_congr (rows_0 V c _ _) (rows_1 V c _ _) (state_6 V hS c _ _) rfl _ _
  | succ n =>
    have hN : n + 1 < 32 := hn
    rw [outsAt1_B V c ⟨n + 1, hn⟩ (by show ¬(n + 1) % 32 = 0; omega)]
    dsimp only
    rw [out1_B_12_at]
    exact dkd_congr (rows_0 V c _ _) (rows_1 V c _ _) (state_6 V hS c _ _) (carried_in V c n (Nat.lt_of_succ_lt hn) _) _ _

/-- The array of the gradient of kd after the region. -/
theorem final_12 (c : Dev nD) : (dats V c).arrAt 12 cfg1.N = (fun i => gradKD (V c main_arg0) (V c main_arg1) (V c main_arg2) (V c main_arg3) (V c main_arg4) (V c main_arg5) (V c main_arg6) i : S8x2048x128.Idx → EReal) := by
  refine (dats V c).arrAt_eq_of_covers 12 _ (by decide +kernel) fun t hf y => ?_
  have ht : t.val < 32 := t.isLt
  have hb := back_val t
  have hD : D V c (y 0) (31 - (back t.val).val) = D V c (y 0) t.val := by rw [hb]; congr 1; omega
  blk_simp
  rw [after1_12]
  refine (stored_12 V hS c t y).trans (((gradKD_row _ _ _ _ _ _ _ (y 0) (back t.val) (y 1) (y 2)).trans (dkd_congr rfl rfl rfl hD _ _)).symm.trans ?_)
  refine congrArg (gradKD (V c main_arg0) (V c main_arg1) (V c main_arg2) (V c main_arg3) (V c main_arg4) (V c main_arg5) (V c main_arg6)) ?_
  blk_ext [idx t, row, hb]

/-- What a grid point stores for the gradient of the decay. -/
theorem stored_13 (c : Dev nD) (t : Fin cfg1.N) (y : S8x1x1x128.Idx) : (outsAt1 V c t.val t.isLt).2.2.2.2.2.1 y = degl (S V c (y 0) (back t.val)) (D V c (y 0) t.val) (y 3) := by
  obtain ⟨n, hn⟩ := t
  cases n with
  | zero =>
    rw [outsAt1_A V c ⟨0, hn⟩ rfl]
    dsimp only
    rw [out1_A_13_at]
    exact degl_congr (state_6 V hS c _ _) rfl _
  | succ n =>
    have hN : n + 1 < 32 := hn
    rw [outsAt1_B V c ⟨n + 1, hn⟩ (by show ¬(n + 1) % 32 = 0; omega)]
    dsimp only
    rw [out1_B_13_at]
    exact degl_congr (state_6 V hS c _ _) (carried_in V c n (Nat.lt_of_succ_lt hn) _) _

/-- The array of the gradient of the decay after the region. -/
theorem final_13 (c : Dev nD) : (dats V c).arrAt 13 cfg1.N = (fun i => gradEG (V c main_arg0) (V c main_arg1) (V c main_arg2) (V c main_arg3) (V c main_arg4) (V c main_arg5) (V c main_arg6) i : S8x32x1x128.Idx → EReal) := by
  refine (dats V c).arrAt_eq_of_covers 13 _ (by decide +kernel) fun t hf y => ?_
  have ht : t.val < 32 := t.isLt
  have hb := back_val t
  have hD : D V c (y 0) (31 - (back t.val).val) = D V c (y 0) t.val := by rw [hb]; congr 1; omega
  blk_simp
  rw [after1_13]
  refine (stored_13 V hS c t y).trans ((degl_congr rfl hD _ : gradEG (V c main_arg0) (V c main_arg1) (V c main_arg2) (V c main_arg3) (V c main_arg4) (V c main_arg5) (V c main_arg6) (ix4 (y 0) (back t.val) (y 2) (y 3)) = degl (S V c (y 0) (back t.val)) (D V c (y 0) t.val) (y 3)).symm.trans ?_)
  refine congrArg (gradEG (V c main_arg0) (V c main_arg1) (V c main_arg2) (V c main_arg3) (V c main_arg4) (V c main_arg5) (V c main_arg6)) ?_
  blk_ext [idx t, row, hb]

end Cert.KernelIdeal.Bwd

end
-- ==== Proof.KernelRun.lean ====
module

public import proofs.«01_k».proof.Proof.TwoRegions
public import proofs.«01_k».proof.Proof.FwdValue
public import proofs.«01_k».proof.Proof.BwdValue

@[expose] public section

set_option maxRecDepth 16384

noncomputable section

/-! The run of the kernel: its arguments are kept (`run_kept`, at any float instance), and over the extended reals its six
    results are the gradients of the recurrence (`run_main`). -/

namespace Cert.KernelIdeal.Two

open Cert.KernelIdeal Cert.KernelIdeal.Gen Cert.Recurrence
open Idealize.ShloMosaic Idealize.ShloMosaic.TcCoe
open Idealize.SL Idealize.SL.Sem

section
variable {F : FTy → Type} [FloatOps F]

/-- Every execution terminates, with the arguments kept and every counter at zero. -/
theorem run_kept (m : (ℓ : Loc nD τ sig) → Buf (Elt F) ℓ) (ρ : Dev nD → PrngReg) :
    θ_run (defs (F := F)) (onTc (τ := τ) (main (F := F))) ⟨m, fun _ => 0, ρ⟩ (fun r => (∀ c : Dev nD,
    r.2.mem ((c : Thread nD τ).loc main_arg0) = m ((c : Thread nD τ).loc main_arg0)
    ∧ r.2.mem ((c : Thread nD τ).loc main_arg1) = m ((c : Thread nD τ).loc main_arg1)
    ∧ r.2.mem ((c : Thread nD τ).loc main_arg2) = m ((c : Thread nD τ).loc main_arg2)
    ∧ r.2.mem ((c : Thread nD τ).loc main_arg3) = m ((c : Thread nD τ).loc main_arg3)
    ∧ r.2.mem ((c : Thread nD τ).loc main_arg4) = m ((c : Thread nD τ).loc main_arg4)
    ∧ r.2.mem ((c : Thread nD τ).loc main_arg5) = m ((c : Thread nD τ).loc main_arg5)
    ∧ r.2.mem ((c : Thread nD τ).loc main_arg6) = m ((c : Thread nD τ).loc main_arg6)) ∧ r.2.sem = fun _ => 0) :=
  (θ_run _ _ _).mono (fun r h => by
    have hk : ∀ c : Dev nD, ∀ a ∈ argRefs, Proc.devRef .tc a ∈ Pipeline.ucRefs τ sig → r.2.mem ((c : Thread nD τ).loc a) = m ((c : Thread nD τ).loc a) := fun c a ha hu =>
      (h.1 c _ hu).trans (W2_args m ρ c a ha)
    exact ⟨fun c => ⟨hk c main_arg0 (by decide) (mem_uc main_arg0 (by decide)), hk c main_arg1 (by decide) (mem_uc main_arg1 (by decide)), hk c main_arg2 (by decide) (mem_uc main_arg2 (by decide)), hk c main_arg3 (by decide) (mem_uc main_arg3 (by decide)), hk c main_arg4 (by decide) (mem_uc main_arg4 (by decide)), hk c main_arg5 (by decide) (mem_uc main_arg5 (by decide)), hk c main_arg6 (by decide) (mem_uc main_arg6 (by decide))⟩, h.2⟩) (run_all m ρ)
end

variable (m : (ℓ : Loc nD τ sig) → Buf (Elt Ideal) ℓ) (ρ : Dev nD → PrngReg)

/-- The second region finds the states the first one stored. -/
theorem hS (c : Dev nD) (i : S8x32x128x128.Idx) : V1 m ρ c main_v0_1 i = Bwd.S (V1 m ρ) c (i 0) (i 1) (i 2) (i 3) := by
  have e : V1 m ρ c main_v0_1 = _ := (W1_arr m ρ c 7).trans (Fwd.states (V0 m ρ) c)
  rw [e]
  show Sseq (V0 m ρ c main_arg0) (V0 m ρ c main_arg1) (V0 m ρ c main_arg4) (V0 m ρ c main_arg5) (i 0) (i 1).val (i 2) (i 3)
    = Sseq (V1 m ρ c main_arg0) (V1 m ρ c main_arg1) (V1 m ρ c main_arg4) (V1 m ρ c main_arg5) (i 0) (i 1).val (i 2) (i 3)
  have h0 : V1 m ρ c main_arg0 = V0 m ρ c main_arg0 := W1_args m ρ c main_arg0 (by decide)
  have h1 : V1 m ρ c main_arg1 = V0 m ρ c main_arg1 := W1_args m ρ c main_arg1 (by decide)
  have h4 : V1 m ρ c main_arg4 = V0 m ρ c main_arg4 := W1_args m ρ c main_arg4 (by decide)
  have h5 : V1 m ρ c main_arg5 = V0 m ρ c main_arg5 := W1_args m ρ c main_arg5 (by decide)
  rw [h0, h1, h4, h5]

theorem result_0 (c : Dev nD) : W2 m ρ c (Proc.devRef .tc main_v1_0) = fun i : S8x2048x128.Idx => gradU (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) i := by
  have e : W2 m ρ c (Proc.devRef .tc main_v1_0) = _ := (W2_arr m ρ c 8).trans (Bwd.final_8 (V1 m ρ) (hS m ρ) c)
  rw [e]
  have h1 : V1 m ρ c main_arg1 = m ((c : Thread nD τ).loc main_arg1) := W1_args m ρ c main_arg1 (by decide)
  have h2 : V1 m ρ c main_arg2 = m ((c : Thread nD τ).loc main_arg2) := W1_args m ρ c main_arg2 (by decide)
  have h3 : V1 m ρ c main_arg3 = m ((c : Thread nD τ).loc main_arg3) := W1_args m ρ c main_arg3 (by decide)
  have h4 : V1 m ρ c main_arg4 = m ((c : Thread nD τ).loc main_arg4) := W1_args m ρ c main_arg4 (by decide)
  have h5 : V1 m ρ c main_arg5 = m ((c : Thread nD τ).loc main_arg5) := W1_args m ρ c main_arg5 (by decide)
  have h6 : V1 m ρ c main_arg6 = m ((c : Thread nD τ).loc main_arg6) := W1_args m ρ c main_arg6 (by decide)
  rw [h1, h2, h3, h4, h5, h6]

theorem result_1 (c : Dev nD) : W2 m ρ c (Proc.devRef .tc main_v1_1) = fun i : S8x2048x128.Idx => gradW (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) i := by
  have e : W2 m ρ c (Proc.devRef .tc main_v1_1) = _ := (W2_arr m ρ c 9).trans (Bwd.final_9 (V1 m ρ) (hS m ρ) c)
  rw [e]
  have h0 : V1 m ρ c main_arg0 = m ((c : Thread nD τ).loc main_arg0) := W1_args m ρ c main_arg0 (by decide)
  have h1 : V1 m ρ c main_arg1 = m ((c : Thread nD τ).loc main_arg1) := W1_args m ρ c main_arg1 (by decide)
  have h2 : V1 m ρ c main_arg2 = m ((c : Thread nD τ).loc main_arg2) := W1_args m ρ c main_arg2 (by decide)
  have h3 : V1 m ρ c main_arg3 = m ((c : Thread nD τ).loc main_arg3) := W1_args m ρ c main_arg3 (by decide)
  have h4 : V1 m ρ c main_arg4 = m ((c : Thread nD τ).loc main_arg4) := W1_args m ρ c main_arg4 (by decide)
  have h5 : V1 m ρ c main_arg5 = m ((c : Thread nD τ).loc main_arg5) := W1_args m ρ c main_arg5 (by decide)
  have h6 : V1 m ρ c main_arg6 = m ((c : Thread nD τ).loc main_arg6) := W1_args m ρ c main_arg6 (by decide)
  rw [h0, h1, h2, h3, h4, h5, h6]

theorem result_2 (c : Dev nD) : W2 m ρ c (Proc.devRef .tc main_v1_2) = fun i : S8x2048x64.Idx => gradA (m ((c : Thread nD τ).loc main_arg0)) (m ((c : Thread nD τ).loc main_arg1)) (m ((c : Thread nD τ).loc main_arg4)) (m ((c : Thread nD τ).loc main_arg5)) (m ((c : Thread nD τ).loc main_arg6)) i := by
  have e : W2 m ρ c (Proc.devRef .tc main_v1_2) = _ := (W2_arr m ρ c 10).trans (Bwd.final_10 (V1 m ρ) (hS m ρ) c)
  rw [e]
  have h0 : V1 m ρ c main_arg0 = m ((c : Thread nD τ).loc main_arg0) := W1_args m ρ c main_arg0 (by decide)
  have h1 : V1 m ρ c main_arg1 = m ((c : Thread nD τ).loc main_arg1) := W1_args m ρ c main_arg1 (by decide)
  have h4 : V1 m ρ c main_arg4 = m ((c : Thread nD τ).loc main_arg4) := W1_args m ρ c main_arg4 (by decide)
  have h5 : V1 m ρ c main_arg5 = m ((c : Thread nD τ).loc main_arg5) := W1_args m ρ c main_arg5 (by decide)
  have h6 : V1 m ρ c main_arg6 = m ((c : Thread nD τ).loc main_arg6) := W1_args m ρ c main_arg6 (by decide)
  rw [h0, h1, h4, h5, h6]

theorem result_3 (c : Dev nD) : W2 m ρ c (Proc.devRef .tc main_v1_3) = fun i : S8x2048x128.Idx => gradQD (m ((c : Thread nD τ).loc main_arg0)) (m ((c : Thread nD τ).loc main_arg1)) (m ((c : Thread nD τ).loc main_arg4)) (m ((c : Thread nD τ).loc main_arg5)) (m ((c : Thread nD τ).loc main_arg6)) i := by
  have e : W2 m ρ c (Proc.devRef .tc main_v1_3) = _ := (W2_arr m ρ c 11).trans (Bwd.final_11 (V1 m ρ) (hS m ρ) c)
  rw [e]
  have h0 : V1 m ρ c main_arg0 = m ((c : Thread nD τ).loc main_arg0) := W1_args m ρ c main_arg0 (by decide)
  have h1 : V1 m ρ c main_arg1 = m ((c : Thread nD τ).loc main_arg1) := W1_args m ρ c main_arg1 (by decide)
  have h4 : V1 m ρ c main_arg4 = m ((c : Thread nD τ).loc main_arg4) := W1_args m ρ c main_arg4 (by decide)
  have h5 : V1 m ρ c main_arg5 = m ((c : Thread nD τ).loc main_arg5) := W1_args m ρ c main_arg5 (by decide)
  have h6 : V1 m ρ c main_arg6 = m ((c : Thread nD τ).loc main_arg6) := W1_args m ρ c main_arg6 (by decide)
  rw [h0, h1, h4, h5, h6]

theorem result_4 (c : Dev nD) : W2 m ρ c (Proc.devRef .tc main_v1_4) = fun i : S8x2048x128.Idx => gradKD (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) i := by
  have e : W2 m ρ c (Proc.devRef .tc main_v1_4) = _ := (W2_arr m ρ c 12).trans (Bwd.final_12 (V1 m ρ) (hS m ρ) c)
  rw [e]
  have h0 : V1 m ρ c main_arg0 = m ((c : Thread nD τ).loc main_arg0) := W1_args m ρ c main_arg0 (by decide)
  have h1 : V1 m ρ c main_arg1 = m ((c : Thread nD τ).loc main_arg1) := W1_args m ρ c main_arg1 (by decide)
  have h2 : V1 m ρ c main_arg2 = m ((c : Thread nD τ).loc main_arg2) := W1_args m ρ c main_arg2 (by decide)
  have h3 : V1 m ρ c main_arg3 = m ((c : Thread nD τ).loc main_arg3) := W1_args m ρ c main_arg3 (by decide)
  have h4 : V1 m ρ c main_arg4 = m ((c : Thread nD τ).loc main_arg4) := W1_args m ρ c main_arg4 (by decide)
  have h5 : V1 m ρ c main_arg5 = m ((c : Thread nD τ).loc main_arg5) := W1_args m ρ c main_arg5 (by decide)
  have h6 : V1 m ρ c main_arg6 = m ((c : Thread nD τ).loc main_arg6) := W1_args m ρ c main_arg6 (by decide)
  rw [h0, h1, h2, h3, h4, h5, h6]

theorem result_5 (c : Dev nD) : W2 m ρ c (Proc.devRef .tc main_v1_5) = fun i : S8x32x1x128.Idx => gradEG (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) i := by
  have e : W2 m ρ c (Proc.devRef .tc main_v1_5) = _ := (W2_arr m ρ c 13).trans (Bwd.final_13 (V1 m ρ) (hS m ρ) c)
  rw [e]
  have h0 : V1 m ρ c main_arg0 = m ((c : Thread nD τ).loc main_arg0) := W1_args m ρ c main_arg0 (by decide)
  have h1 : V1 m ρ c main_arg1 = m ((c : Thread nD τ).loc main_arg1) := W1_args m ρ c main_arg1 (by decide)
  have h2 : V1 m ρ c main_arg2 = m ((c : Thread nD τ).loc main_arg2) := W1_args m ρ c main_arg2 (by decide)
  have h3 : V1 m ρ c main_arg3 = m ((c : Thread nD τ).loc main_arg3) := W1_args m ρ c main_arg3 (by decide)
  have h4 : V1 m ρ c main_arg4 = m ((c : Thread nD τ).loc main_arg4) := W1_args m ρ c main_arg4 (by decide)
  have h5 : V1 m ρ c main_arg5 = m ((c : Thread nD τ).loc main_arg5) := W1_args m ρ c main_arg5 (by decide)
  have h6 : V1 m ρ c main_arg6 = m ((c : Thread nD τ).loc main_arg6) := W1_args m ρ c main_arg6 (by decide)
  rw [h0, h1, h2, h3, h4, h5, h6]

/-- Every execution ends with the six gradients. -/
theorem run_main : θ_run (defs (F := Ideal)) (onTc (τ := τ) (main (F := Ideal))) ⟨m, fun _ => 0, ρ⟩ (fun r => ∀ c : Dev nD,
    r.2.mem ((c : Thread nD τ).loc main_v1_0) = (fun i : S8x2048x128.Idx => gradU (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) i)
    ∧ r.2.mem ((c : Thread nD τ).loc main_v1_1) = (fun i : S8x2048x128.Idx => gradW (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) i)
    ∧ r.2.mem ((c : Thread nD τ).loc main_v1_2) = (fun i : S8x2048x64.Idx => gradA (m ((c : Thread nD τ).loc main_arg0)) (m ((c : Thread nD τ).loc main_arg1)) (m ((c : Thread nD τ).loc main_arg4)) (m ((c : Thread nD τ).loc main_arg5)) (m ((c : Thread nD τ).loc main_arg6)) i)
    ∧ r.2.mem ((c : Thread nD τ).loc main_v1_3) = (fun i : S8x2048x128.Idx => gradQD (m ((c : Thread nD τ).loc main_arg0)) (m ((c : Thread nD τ).loc main_arg1)) (m ((c : Thread nD τ).loc main_arg4)) (m ((c : Thread nD τ).loc main_arg5)) (m ((c : Thread nD τ).loc main_arg6)) i)
    ∧ r.2.mem ((c : Thread nD τ).loc main_v1_4) = (fun i : S8x2048x128.Idx => gradKD (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) i)
    ∧ r.2.mem ((c : Thread nD τ).loc main_v1_5) = (fun i : S8x32x1x128.Idx => gradEG (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) i)
    ∧ r.2.mem ((c : Thread nD τ).loc main_arg0) = m ((c : Thread nD τ).loc main_arg0)
    ∧ r.2.mem ((c : Thread nD τ).loc main_arg1) = m ((c : Thread nD τ).loc main_arg1)
    ∧ r.2.mem ((c : Thread nD τ).loc main_arg2) = m ((c : Thread nD τ).loc main_arg2)
    ∧ r.2.mem ((c : Thread nD τ).loc main_arg3) = m ((c : Thread nD τ).loc main_arg3)
    ∧ r.2.mem ((c : Thread nD τ).loc main_arg4) = m ((c : Thread nD τ).loc main_arg4)
    ∧ r.2.mem ((c : Thread nD τ).loc main_arg5) = m ((c : Thread nD τ).loc main_arg5)
    ∧ r.2.mem ((c : Thread nD τ).loc main_arg6) = m ((c : Thread nD τ).loc main_arg6)) :=
  (θ_run _ _ _).mono (fun r h c => by
    have hr : ∀ b, Proc.devRef .tc b ∈ Pipeline.ucRefs τ sig → r.2.mem ((c : Thread nD τ).loc b) = W2 m ρ c (Proc.devRef .tc b) := fun b hb => h.1 c _ hb
    exact ⟨(hr main_v1_0 (mem_uc main_v1_0 (by decide))).trans (result_0 m ρ c), (hr main_v1_1 (mem_uc main_v1_1 (by decide))).trans (result_1 m ρ c), (hr main_v1_2 (mem_uc main_v1_2 (by decide))).trans (result_2 m ρ c), (hr main_v1_3 (mem_uc main_v1_3 (by decide))).trans (result_3 m ρ c), (hr main_v1_4 (mem_uc main_v1_4 (by decide))).trans (result_4 m ρ c), (hr main_v1_5 (mem_uc main_v1_5 (by decide))).trans (result_5 m ρ c),
      (hr main_arg0 (mem_uc main_arg0 (by decide))).trans (W2_args m ρ c main_arg0 (by decide)), (hr main_arg1 (mem_uc main_arg1 (by decide))).trans (W2_args m ρ c main_arg1 (by decide)), (hr main_arg2 (mem_uc main_arg2 (by decide))).trans (W2_args m ρ c main_arg2 (by decide)), (hr main_arg3 (mem_uc main_arg3 (by decide))).trans (W2_args m ρ c main_arg3 (by decide)), (hr main_arg4 (mem_uc main_arg4 (by decide))).trans (W2_args m ρ c main_arg4 (by decide)), (hr main_arg5 (mem_uc main_arg5 (by decide))).trans (W2_args m ρ c main_arg5 (by decide)), (hr main_arg6 (mem_uc main_arg6 (by decide))).trans (W2_args m ρ c main_arg6 (by decide))⟩) (run_all m ρ)

end Cert.KernelIdeal.Two

end
-- ==== Proof.RefOps.lean ====
module

public import proofs.«01_k».proof.Proof.Gen.ReferenceIdeal
public import Idealize.ShloMosaic.Lib.Pipeline.Regions
public import Idealize.ShloMosaic.Lib.StableHlo.RunLoop

@[expose] public section

noncomputable section

/-! The reference's operations, stretch by stretch: @main before, between and after its two loops, and each loop's body.
    Every stretch touches TensorCore references only and allocates nothing. -/

namespace Cert.ReferenceIdeal.Two

open Idealize.ShloMosaic Idealize.ShloMosaic.TcCoe Idealize.ShloMosaic.StableHlo
open Idealize.SL Idealize.SL.Sem
open Cert.ReferenceIdeal.Gen

variable {F : FTy → Type} [FloatOps F]

abbrev main_part0_ops0 : List (HloOp τ sig (Elt F)) :=
  [ reshape main_arg0 main_v0 (rfl : (.f32 : EltTy) = .f32) shapeCasts_S8x2048x128_S8x32x64x128,
    unary main_v0 main_v1 ((transpose S32x8x64x128 [1, 0, 2, 3] · transposes_S8x32x64x128_S32x8x64x128_1_0_2_3) : (⟨S8x32x64x128, .f32⟩ : BufTy).Contents (Elt F) → (⟨S32x8x64x128, .f32⟩ : BufTy).Contents (Elt F)),
    reshape main_arg1 main_v2 (rfl : (.f32 : EltTy) = .f32) shapeCasts_S8x2048x128_S8x32x64x128,
    unary main_v2 main_v3 ((transpose S32x8x64x128 [1, 0, 2, 3] · transposes_S8x32x64x128_S32x8x64x128_1_0_2_3) : (⟨S8x32x64x128, .f32⟩ : BufTy).Contents (Elt F) → (⟨S32x8x64x128, .f32⟩ : BufTy).Contents (Elt F)),
    reshape main_arg2 main_v4 (rfl : (.f32 : EltTy) = .f32) shapeCasts_S8x2048x64_S8x32x64x64,
    unary main_v4 main_v5 ((transpose S32x8x64x64 [1, 0, 2, 3] · transposes_S8x32x64x64_S32x8x64x64_1_0_2_3) : (⟨S8x32x64x64, .f32⟩ : BufTy).Contents (Elt F) → (⟨S32x8x64x64, .f32⟩ : BufTy).Contents (Elt F)),
    reshape main_arg3 main_v6 (rfl : (.f32 : EltTy) = .f32) shapeCasts_S8x2048x128_S8x32x64x128,
    unary main_v6 main_v7 ((transpose S32x8x64x128 [1, 0, 2, 3] · transposes_S8x32x64x128_S32x8x64x128_1_0_2_3) : (⟨S8x32x64x128, .f32⟩ : BufTy).Contents (Elt F) → (⟨S32x8x64x128, .f32⟩ : BufTy).Contents (Elt F)),
    reshape main_arg4 main_v8 (rfl : (.f32 : EltTy) = .f32) shapeCasts_S8x2048x128_S8x32x64x128,
    unary main_v8 main_v9 ((transpose S32x8x64x128 [1, 0, 2, 3] · transposes_S8x32x64x128_S32x8x64x128_1_0_2_3) : (⟨S8x32x64x128, .f32⟩ : BufTy).Contents (Elt F) → (⟨S32x8x64x128, .f32⟩ : BufTy).Contents (Elt F)),
    unary main_arg5 main_v10 ((transpose S32x8x1x128 [1, 0, 2, 3] · transposes_S8x32x1x128_S32x8x1x128_1_0_2_3) : (⟨S8x32x1x128, .f32⟩ : BufTy).Contents (Elt F) → (⟨S32x8x1x128, .f32⟩ : BufTy).Contents (Elt F)),
    nullary main_cst (constant S_ .f32 0x00000000#32),
    unary main_cst main_v11 (broadcastInDim S8x128x128 ![] bcast_S_S8x128x128 : (⟨S_, .f32⟩ : BufTy).Contents (Elt F) → (⟨S8x128x128, .f32⟩ : BufTy).Contents (Elt F)),
    nullary main_cst_0 (constant S_ .f32 0x00000000#32),
    unary main_cst_0 main_v12 (broadcastInDim S32x8x64x128 ![] bcast_S_S32x8x64x128 : (⟨S_, .f32⟩ : BufTy).Contents (Elt F) → (⟨S32x8x64x128, .f32⟩ : BufTy).Contents (Elt F)),
    nullary main_cst_1 (constant S_ .f32 0x00000000#32),
    unary main_cst_1 main_v13 (broadcastInDim S32x8x128x128 ![] bcast_S_S32x8x128x128 : (⟨S_, .f32⟩ : BufTy).Contents (Elt F) → (⟨S32x8x128x128, .f32⟩ : BufTy).Contents (Elt F)),
    nullary main_cst_2 (constant S_ .f32 0x00000000#32),
    unary main_cst_2 main_v14 (broadcastInDim S32x8x64x128 ![] bcast_S_S32x8x64x128 : (⟨S_, .f32⟩ : BufTy).Contents (Elt F) → (⟨S32x8x64x128, .f32⟩ : BufTy).Contents (Elt F)),
    nullary main_c (constantI S_ 32 0#32),
    unary main_v1 main_v15_0 id,
    unary main_v3 main_v15_1 id,
    unary main_v5 main_v15_2 id,
    unary main_v7 main_v15_3 id,
    unary main_v9 main_v15_4 id,
    unary main_v10 main_v15_5 id,
    unary main_c main_v15_6 id,
    unary main_v11 main_v15_7 id,
    unary main_v12 main_v15_8 id,
    unary main_v13 main_v15_9 id,
    unary main_v14 main_v15_10 id ]
theorem main_part0_ops0_fresh : (main_part0_ops0 : List (HloOp τ sig (Elt F))).Forall fun op => op.fresh = ∅ :=
  forall_fresh_of_map rfl
theorem main_part0_ops0_sub : (main_part0_ops0 : List (HloOp τ sig (Elt F))).Forall fun op => op.bufs ⊆ tcRefs τ sig :=
  ⟨reshape_bufs_sub .., unary_bufs_sub .., reshape_bufs_sub .., unary_bufs_sub .., reshape_bufs_sub .., unary_bufs_sub .., reshape_bufs_sub .., unary_bufs_sub .., reshape_bufs_sub .., unary_bufs_sub .., unary_bufs_sub .., nullary_bufs_sub .., unary_bufs_sub .., nullary_bufs_sub .., unary_bufs_sub .., nullary_bufs_sub .., unary_bufs_sub .., nullary_bufs_sub .., unary_bufs_sub .., nullary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub ..⟩
abbrev main_part0_ops1 : List (HloOp τ sig (Elt F)) :=
  [ unary main_v15_8 main_v16 ((transpose S8x32x64x128 [1, 0, 2, 3] · transposes_S32x8x64x128_S8x32x64x128_1_0_2_3) : (⟨S32x8x64x128, .f32⟩ : BufTy).Contents (Elt F) → (⟨S8x32x64x128, .f32⟩ : BufTy).Contents (Elt F)),
    reshape main_v16 main_v17 (rfl : (.f32 : EltTy) = .f32) shapeCasts_S8x32x64x128_S8x2048x128,
    nullary main_cst_3 (constant S_ .f32 0x00000000#32),
    unary main_cst_3 main_v18 (broadcastInDim S8x128x128 ![] bcast_S_S8x128x128 : (⟨S_, .f32⟩ : BufTy).Contents (Elt F) → (⟨S8x128x128, .f32⟩ : BufTy).Contents (Elt F)),
    reshape main_arg6 main_v19 (rfl : (.f32 : EltTy) = .f32) shapeCasts_S8x2048x128_S8x32x64x128,
    unary main_v19 main_v20 ((transpose S32x8x64x128 [1, 0, 2, 3] · transposes_S8x32x64x128_S32x8x64x128_1_0_2_3) : (⟨S8x32x64x128, .f32⟩ : BufTy).Contents (Elt F) → (⟨S32x8x64x128, .f32⟩ : BufTy).Contents (Elt F)),
    nullary main_cst_4 (constant S_ .f32 0x00000000#32),
    unary main_cst_4 main_v21 (broadcastInDim S8x128x128 ![] bcast_S_S8x128x128 : (⟨S_, .f32⟩ : BufTy).Contents (Elt F) → (⟨S8x128x128, .f32⟩ : BufTy).Contents (Elt F)),
    nullary main_cst_5 (constant S_ .f32 0x00000000#32),
    unary main_cst_5 main_v22 (broadcastInDim S32x8x64x128 ![] bcast_S_S32x8x64x128 : (⟨S_, .f32⟩ : BufTy).Contents (Elt F) → (⟨S32x8x64x128, .f32⟩ : BufTy).Contents (Elt F)),
    nullary main_cst_6 (constant S_ .f32 0x00000000#32),
    unary main_cst_6 main_v23 (broadcastInDim S32x8x64x128 ![] bcast_S_S32x8x64x128 : (⟨S_, .f32⟩ : BufTy).Contents (Elt F) → (⟨S32x8x64x128, .f32⟩ : BufTy).Contents (Elt F)),
    nullary main_cst_7 (constant S_ .f32 0x00000000#32),
    unary main_cst_7 main_v24 (broadcastInDim S32x8x64x64 ![] bcast_S_S32x8x64x64 : (⟨S_, .f32⟩ : BufTy).Contents (Elt F) → (⟨S32x8x64x64, .f32⟩ : BufTy).Contents (Elt F)),
    nullary main_cst_8 (constant S_ .f32 0x00000000#32),
    unary main_cst_8 main_v25 (broadcastInDim S32x8x64x128 ![] bcast_S_S32x8x64x128 : (⟨S_, .f32⟩ : BufTy).Contents (Elt F) → (⟨S32x8x64x128, .f32⟩ : BufTy).Contents (Elt F)),
    nullary main_cst_9 (constant S_ .f32 0x00000000#32),
    unary main_cst_9 main_v26 (broadcastInDim S32x8x64x128 ![] bcast_S_S32x8x64x128 : (⟨S_, .f32⟩ : BufTy).Contents (Elt F) → (⟨S32x8x64x128, .f32⟩ : BufTy).Contents (Elt F)),
    nullary main_cst_10 (constant S_ .f32 0x00000000#32),
    unary main_cst_10 main_v27 (broadcastInDim S32x8x1x128 ![] bcast_S_S32x8x1x128 : (⟨S_, .f32⟩ : BufTy).Contents (Elt F) → (⟨S32x8x1x128, .f32⟩ : BufTy).Contents (Elt F)),
    nullary main_c_11 (constantI S_ 32 0#32),
    unary main_v20 main_v28_0 id,
    unary main_v15_9 main_v28_1 id,
    unary main_v3 main_v28_2 id,
    unary main_v7 main_v28_3 id,
    unary main_v15_10 main_v28_4 id,
    unary main_v5 main_v28_5 id,
    unary main_v10 main_v28_6 id ]
theorem main_part0_ops1_fresh : (main_part0_ops1 : List (HloOp τ sig (Elt F))).Forall fun op => op.fresh = ∅ :=
  forall_fresh_of_map rfl
theorem main_part0_ops1_sub : (main_part0_ops1 : List (HloOp τ sig (Elt F))).Forall fun op => op.bufs ⊆ tcRefs τ sig :=
  ⟨unary_bufs_sub .., reshape_bufs_sub .., nullary_bufs_sub .., unary_bufs_sub .., reshape_bufs_sub .., unary_bufs_sub .., nullary_bufs_sub .., unary_bufs_sub .., nullary_bufs_sub .., unary_bufs_sub .., nullary_bufs_sub .., unary_bufs_sub .., nullary_bufs_sub .., unary_bufs_sub .., nullary_bufs_sub .., unary_bufs_sub .., nullary_bufs_sub .., unary_bufs_sub .., nullary_bufs_sub .., unary_bufs_sub .., nullary_bufs_sub .., unary_bufs_sub .., unary_bufs_sub .., unary_bufs_sub .., unary_bufs_sub .., unary_bufs_sub .., unary_bufs_sub .., unary_bufs_sub ..⟩
theorem main_part0_chain (c : Dev nD) : main_part0 (F := F) c = (Pipeline.chainK
  [ seq main_part0_ops0,
    HostLoop.enter 0 ]
  (seq main_part0_ops1) : Prog (TpuEff nD τ sig (Elt F) (HostLoop.Sig (Pipeline.Sig Λ₀ (Fin 0) fun p => (pcfgs (F := F) p).Adm) 2) .tc) PUnit) := by
  rewrite [chainK_seq_cons, Pipeline.chainK_cons]
  chain_rfl

abbrev main_part1_ops0 : List (HloOp τ sig (Elt F)) :=
  [ unary main_v9 main_v28_7 id,
    unary main_c_11 main_v28_8 id,
    unary main_v21 main_v28_9 id,
    unary main_v22 main_v28_10 id,
    unary main_v23 main_v28_11 id,
    unary main_v24 main_v28_12 id,
    unary main_v25 main_v28_13 id,
    unary main_v26 main_v28_14 id,
    unary main_v27 main_v28_15 id ]
theorem main_part1_ops0_fresh : (main_part1_ops0 : List (HloOp τ sig (Elt F))).Forall fun op => op.fresh = ∅ :=
  forall_fresh_of_map rfl
theorem main_part1_ops0_sub : (main_part1_ops0 : List (HloOp τ sig (Elt F))).Forall fun op => op.bufs ⊆ tcRefs τ sig :=
  ⟨unary_bufs_sub .., unary_bufs_sub .., unary_bufs_sub .., unary_bufs_sub .., unary_bufs_sub .., unary_bufs_sub .., unary_bufs_sub .., unary_bufs_sub .., unary_bufs_sub ..⟩
abbrev main_part1_ops1 : List (HloOp τ sig (Elt F)) :=
  [ unary main_v28_15 main_v29 ((transpose S8x32x1x128 [1, 0, 2, 3] · transposes_S32x8x1x128_S8x32x1x128_1_0_2_3) : (⟨S32x8x1x128, .f32⟩ : BufTy).Contents (Elt F) → (⟨S8x32x1x128, .f32⟩ : BufTy).Contents (Elt F)),
    unary main_v28_14 main_v30 ((transpose S8x32x64x128 [1, 0, 2, 3] · transposes_S32x8x64x128_S8x32x64x128_1_0_2_3) : (⟨S32x8x64x128, .f32⟩ : BufTy).Contents (Elt F) → (⟨S8x32x64x128, .f32⟩ : BufTy).Contents (Elt F)),
    reshape main_v30 main_v31 (rfl : (.f32 : EltTy) = .f32) shapeCasts_S8x32x64x128_S8x2048x128,
    unary main_v28_13 main_v32 ((transpose S8x32x64x128 [1, 0, 2, 3] · transposes_S32x8x64x128_S8x32x64x128_1_0_2_3) : (⟨S32x8x64x128, .f32⟩ : BufTy).Contents (Elt F) → (⟨S8x32x64x128, .f32⟩ : BufTy).Contents (Elt F)),
    reshape main_v32 main_v33 (rfl : (.f32 : EltTy) = .f32) shapeCasts_S8x32x64x128_S8x2048x128,
    unary main_v28_12 main_v34 ((transpose S8x32x64x64 [1, 0, 2, 3] · transposes_S32x8x64x64_S8x32x64x64_1_0_2_3) : (⟨S32x8x64x64, .f32⟩ : BufTy).Contents (Elt F) → (⟨S8x32x64x64, .f32⟩ : BufTy).Contents (Elt F)),
    reshape main_v34 main_v35 (rfl : (.f32 : EltTy) = .f32) shapeCasts_S8x32x64x64_S8x2048x64,
    unary main_v28_11 main_v36 ((transpose S8x32x64x128 [1, 0, 2, 3] · transposes_S32x8x64x128_S8x32x64x128_1_0_2_3) : (⟨S32x8x64x128, .f32⟩ : BufTy).Contents (Elt F) → (⟨S8x32x64x128, .f32⟩ : BufTy).Contents (Elt F)),
    reshape main_v36 main_v37 (rfl : (.f32 : EltTy) = .f32) shapeCasts_S8x32x64x128_S8x2048x128,
    unary main_v28_10 main_v38 ((transpose S8x32x64x128 [1, 0, 2, 3] · transposes_S32x8x64x128_S8x32x64x128_1_0_2_3) : (⟨S32x8x64x128, .f32⟩ : BufTy).Contents (Elt F) → (⟨S8x32x64x128, .f32⟩ : BufTy).Contents (Elt F)),
    reshape main_v38 main_v39 (rfl : (.f32 : EltTy) = .f32) shapeCasts_S8x32x64x128_S8x2048x128 ]
theorem main_part1_ops1_fresh : (main_part1_ops1 : List (HloOp τ sig (Elt F))).Forall fun op => op.fresh = ∅ :=
  forall_fresh_of_map rfl
theorem main_part1_ops1_sub : (main_part1_ops1 : List (HloOp τ sig (Elt F))).Forall fun op => op.bufs ⊆ tcRefs τ sig :=
  ⟨unary_bufs_sub .., unary_bufs_sub .., reshape_bufs_sub .., unary_bufs_sub .., reshape_bufs_sub .., unary_bufs_sub .., reshape_bufs_sub .., unary_bufs_sub .., reshape_bufs_sub .., unary_bufs_sub .., reshape_bufs_sub ..⟩
theorem main_part1_chain (c : Dev nD) : main_part1 (F := F) c = (Pipeline.chain
  [ seq main_part1_ops0,
    HostLoop.enter 1,
    seq main_part1_ops1 ] : Prog (TpuEff nD τ sig (Elt F) (HostLoop.Sig (Pipeline.Sig Λ₀ (Fin 0) fun p => (pcfgs (F := F) p).Adm) 2) .tc) PUnit) := by
  rewrite [chain_seq_cons, Pipeline.chain_cons, chain_seq_cons]
  chain_rfl

theorem main_chain_windows (c : Dev nD) : main (F := F) c = (Pipeline.chain
  [ seq main_part0_ops0,
    HostLoop.enter 0,
    seq main_part0_ops1,
    seq main_part1_ops0,
    HostLoop.enter 1,
    seq main_part1_ops1 ] : Prog (TpuEff nD τ sig (Elt F) (HostLoop.Sig (Pipeline.Sig Λ₀ (Fin 0) fun p => (pcfgs (F := F) p).Adm) 2) .tc) PUnit) := by
  show (main_part0 (F := F) c >>= fun _ => main_part1 (F := F) c) = _
  rewrite [main_part1_chain, main_part0_chain, Pipeline.chainK_bind_chain]
  chain_rfl

abbrev while0Ops0 : List (HloOp τ sig (Elt F)) :=
  [ TRef.nullary (.of main_while0b_call0_c : TRef sig ⟨S_, .i32⟩) (constantI S_ 32 0#32),
    TRef.nullary (.of main_while0b_call0_c_0 : TRef sig ⟨S_, .i32⟩) (constantI S_ 32 0#32),
    TRef.nullary (.of main_while0b_call0_c_1 : TRef sig ⟨S_, .i32⟩) (constantI S_ 32 0#32),
    TRef.unaryIndexed (.of main_v15_0 : TRef sig ⟨S32x8x64x128, .f32⟩) ![(.of main_v15_6 : TRef sig ⟨S_, .i32⟩), (.of main_while0b_call0_c : TRef sig ⟨S_, .i32⟩), (.of main_while0b_call0_c_0 : TRef sig ⟨S_, .i32⟩), (.of main_while0b_call0_c_1 : TRef sig ⟨S_, .i32⟩)] (.of main_while0b_call0_v0 : TRef sig ⟨S1x8x64x128, .f32⟩) (fun x i => Host.dynamicSlice S1x8x64x128 x (fun k => (i k (Shape.Idx.first h_S_)).toInt) sliceFits_S32x8x64x128_S1x8x64x128),
    TRef.reshape (.of main_while0b_call0_v0 : TRef sig ⟨S1x8x64x128, .f32⟩) (.of main_while0b_v40 : TRef sig ⟨S8x64x128, .f32⟩) (rfl : (.f32 : EltTy) = .f32) shapeCasts_S1x8x64x128_S8x64x128 ]
theorem while0Ops0_fresh : (while0Ops0 : List (HloOp τ sig (Elt F))).Forall fun op => op.fresh = ∅ :=
  forall_fresh_of_map rfl
theorem while0Ops0_sub : (while0Ops0 : List (HloOp τ sig (Elt F))).Forall fun op => op.bufs ⊆ tcRefs τ sig :=
  ⟨nullary_bufs_sub .., nullary_bufs_sub .., nullary_bufs_sub .., unaryIndexed_bufs_sub .., reshape_bufs_sub ..⟩
abbrev while0Ops0_1 : List (HloOp τ sig (Elt F)) :=
  [ TRef.nullary (.of main_while0b_call1_c : TRef sig ⟨S_, .i32⟩) (constantI S_ 32 0#32),
    TRef.nullary (.of main_while0b_call1_c_0 : TRef sig ⟨S_, .i32⟩) (constantI S_ 32 0#32),
    TRef.nullary (.of main_while0b_call1_c_1 : TRef sig ⟨S_, .i32⟩) (constantI S_ 32 0#32),
    TRef.unaryIndexed (.of main_v15_1 : TRef sig ⟨S32x8x64x128, .f32⟩) ![(.of main_v15_6 : TRef sig ⟨S_, .i32⟩), (.of main_while0b_call1_c : TRef sig ⟨S_, .i32⟩), (.of main_while0b_call1_c_0 : TRef sig ⟨S_, .i32⟩), (.of main_while0b_call1_c_1 : TRef sig ⟨S_, .i32⟩)] (.of main_while0b_call1_v0 : TRef sig ⟨S1x8x64x128, .f32⟩) (fun x i => Host.dynamicSlice S1x8x64x128 x (fun k => (i k (Shape.Idx.first h_S_)).toInt) sliceFits_S32x8x64x128_S1x8x64x128),
    TRef.reshape (.of main_while0b_call1_v0 : TRef sig ⟨S1x8x64x128, .f32⟩) (.of main_while0b_v41 : TRef sig ⟨S8x64x128, .f32⟩) (rfl : (.f32 : EltTy) = .f32) shapeCasts_S1x8x64x128_S8x64x128 ]
theorem while0Ops0_1_fresh : (while0Ops0_1 : List (HloOp τ sig (Elt F))).Forall fun op => op.fresh = ∅ :=
  forall_fresh_of_map rfl
theorem while0Ops0_1_sub : (while0Ops0_1 : List (HloOp τ sig (Elt F))).Forall fun op => op.bufs ⊆ tcRefs τ sig :=
  ⟨nullary_bufs_sub .., nullary_bufs_sub .., nullary_bufs_sub .., unaryIndexed_bufs_sub .., reshape_bufs_sub ..⟩
abbrev while0Ops0_2 : List (HloOp τ sig (Elt F)) :=
  [ TRef.nullary (.of main_while0b_call2_c : TRef sig ⟨S_, .i32⟩) (constantI S_ 32 0#32),
    TRef.nullary (.of main_while0b_call2_c_0 : TRef sig ⟨S_, .i32⟩) (constantI S_ 32 0#32),
    TRef.nullary (.of main_while0b_call2_c_1 : TRef sig ⟨S_, .i32⟩) (constantI S_ 32 0#32),
    TRef.unaryIndexed (.of main_v15_2 : TRef sig ⟨S32x8x64x64, .f32⟩) ![(.of main_v15_6 : TRef sig ⟨S_, .i32⟩), (.of main_while0b_call2_c : TRef sig ⟨S_, .i32⟩), (.of main_while0b_call2_c_0 : TRef sig ⟨S_, .i32⟩), (.of main_while0b_call2_c_1 : TRef sig ⟨S_, .i32⟩)] (.of main_while0b_call2_v0 : TRef sig ⟨S1x8x64x64, .f32⟩) (fun x i => Host.dynamicSlice S1x8x64x64 x (fun k => (i k (Shape.Idx.first h_S_)).toInt) sliceFits_S32x8x64x64_S1x8x64x64),
    TRef.reshape (.of main_while0b_call2_v0 : TRef sig ⟨S1x8x64x64, .f32⟩) (.of main_while0b_v42 : TRef sig ⟨S8x64x64, .f32⟩) (rfl : (.f32 : EltTy) = .f32) shapeCasts_S1x8x64x64_S8x64x64 ]
theorem while0Ops0_2_fresh : (while0Ops0_2 : List (HloOp τ sig (Elt F))).Forall fun op => op.fresh = ∅ :=
  forall_fresh_of_map rfl
theorem while0Ops0_2_sub : (while0Ops0_2 : List (HloOp τ sig (Elt F))).Forall fun op => op.bufs ⊆ tcRefs τ sig :=
  ⟨nullary_bufs_sub .., nullary_bufs_sub .., nullary_bufs_sub .., unaryIndexed_bufs_sub .., reshape_bufs_sub ..⟩
abbrev while0Ops0_3 : List (HloOp τ sig (Elt F)) :=
  [ TRef.nullary (.of main_while0b_call3_c : TRef sig ⟨S_, .i32⟩) (constantI S_ 32 0#32),
    TRef.nullary (.of main_while0b_call3_c_0 : TRef sig ⟨S_, .i32⟩) (constantI S_ 32 0#32),
    TRef.nullary (.of main_while0b_call3_c_1 : TRef sig ⟨S_, .i32⟩) (constantI S_ 32 0#32),
    TRef.unaryIndexed (.of main_v15_3 : TRef sig ⟨S32x8x64x128, .f32⟩) ![(.of main_v15_6 : TRef sig ⟨S_, .i32⟩), (.of main_while0b_call3_c : TRef sig ⟨S_, .i32⟩), (.of main_while0b_call3_c_0 : TRef sig ⟨S_, .i32⟩), (.of main_while0b_call3_c_1 : TRef sig ⟨S_, .i32⟩)] (.of main_while0b_call3_v0 : TRef sig ⟨S1x8x64x128, .f32⟩) (fun x i => Host.dynamicSlice S1x8x64x128 x (fun k => (i k (Shape.Idx.first h_S_)).toInt) sliceFits_S32x8x64x128_S1x8x64x128),
    TRef.reshape (.of main_while0b_call3_v0 : TRef sig ⟨S1x8x64x128, .f32⟩) (.of main_while0b_v43 : TRef sig ⟨S8x64x128, .f32⟩) (rfl : (.f32 : EltTy) = .f32) shapeCasts_S1x8x64x128_S8x64x128 ]
theorem while0Ops0_3_fresh : (while0Ops0_3 : List (HloOp τ sig (Elt F))).Forall fun op => op.fresh = ∅ :=
  forall_fresh_of_map rfl
theorem while0Ops0_3_sub : (while0Ops0_3 : List (HloOp τ sig (Elt F))).Forall fun op => op.bufs ⊆ tcRefs τ sig :=
  ⟨nullary_bufs_sub .., nullary_bufs_sub .., nullary_bufs_sub .., unaryIndexed_bufs_sub .., reshape_bufs_sub ..⟩
abbrev while0Ops0_4 : List (HloOp τ sig (Elt F)) :=
  [ TRef.nullary (.of main_while0b_call4_c : TRef sig ⟨S_, .i32⟩) (constantI S_ 32 0#32),
    TRef.nullary (.of main_while0b_call4_c_0 : TRef sig ⟨S_, .i32⟩) (constantI S_ 32 0#32),
    TRef.nullary (.of main_while0b_call4_c_1 : TRef sig ⟨S_, .i32⟩) (constantI S_ 32 0#32),
    TRef.unaryIndexed (.of main_v15_4 : TRef sig ⟨S32x8x64x128, .f32⟩) ![(.of main_v15_6 : TRef sig ⟨S_, .i32⟩), (.of main_while0b_call4_c : TRef sig ⟨S_, .i32⟩), (.of main_while0b_call4_c_0 : TRef sig ⟨S_, .i32⟩), (.of main_while0b_call4_c_1 : TRef sig ⟨S_, .i32⟩)] (.of main_while0b_call4_v0 : TRef sig ⟨S1x8x64x128, .f32⟩) (fun x i => Host.dynamicSlice S1x8x64x128 x (fun k => (i k (Shape.Idx.first h_S_)).toInt) sliceFits_S32x8x64x128_S1x8x64x128),
    TRef.reshape (.of main_while0b_call4_v0 : TRef sig ⟨S1x8x64x128, .f32⟩) (.of main_while0b_v44 : TRef sig ⟨S8x64x128, .f32⟩) (rfl : (.f32 : EltTy) = .f32) shapeCasts_S1x8x64x128_S8x64x128 ]
theorem while0Ops0_4_fresh : (while0Ops0_4 : List (HloOp τ sig (Elt F))).Forall fun op => op.fresh = ∅ :=
  forall_fresh_of_map rfl
theorem while0Ops0_4_sub : (while0Ops0_4 : List (HloOp τ sig (Elt F))).Forall fun op => op.bufs ⊆ tcRefs τ sig :=
  ⟨nullary_bufs_sub .., nullary_bufs_sub .., nullary_bufs_sub .., unaryIndexed_bufs_sub .., reshape_bufs_sub ..⟩
abbrev while0Ops0_5 : List (HloOp τ sig (Elt F)) :=
  [ TRef.nullary (.of main_while0b_call5_c : TRef sig ⟨S_, .i32⟩) (constantI S_ 32 0#32),
    TRef.nullary (.of main_while0b_call5_c_0 : TRef sig ⟨S_, .i32⟩) (constantI S_ 32 0#32),
    TRef.nullary (.of main_while0b_call5_c_1 : TRef sig ⟨S_, .i32⟩) (constantI S_ 32 0#32),
    TRef.unaryIndexed (.of main_v15_5 : TRef sig ⟨S32x8x1x128, .f32⟩) ![(.of main_v15_6 : TRef sig ⟨S_, .i32⟩), (.of main_while0b_call5_c : TRef sig ⟨S_, .i32⟩), (.of main_while0b_call5_c_0 : TRef sig ⟨S_, .i32⟩), (.of main_while0b_call5_c_1 : TRef sig ⟨S_, .i32⟩)] (.of main_while0b_call5_v0 : TRef sig ⟨S1x8x1x128, .f32⟩) (fun x i => Host.dynamicSlice S1x8x1x128 x (fun k => (i k (Shape.Idx.first h_S_)).toInt) sliceFits_S32x8x1x128_S1x8x1x128),
    TRef.reshape (.of main_while0b_call5_v0 : TRef sig ⟨S1x8x1x128, .f32⟩) (.of main_while0b_v45 : TRef sig ⟨S8x1x128, .f32⟩) (rfl : (.f32 : EltTy) = .f32) shapeCasts_S1x8x1x128_S8x1x128 ]
theorem while0Ops0_5_fresh : (while0Ops0_5 : List (HloOp τ sig (Elt F))).Forall fun op => op.fresh = ∅ :=
  forall_fresh_of_map rfl
theorem while0Ops0_5_sub : (while0Ops0_5 : List (HloOp τ sig (Elt F))).Forall fun op => op.bufs ⊆ tcRefs τ sig :=
  ⟨nullary_bufs_sub .., nullary_bufs_sub .., nullary_bufs_sub .., unaryIndexed_bufs_sub .., reshape_bufs_sub ..⟩
abbrev while0Ops0_6 : List (HloOp τ sig (Elt F)) :=
  [ binary main_while0b_v41 main_v15_7 main_while0b_v46 ((fun l r => Host.dotGeneral dot_S8x64x128_S8x128x128_S8x64x128_2_1_1_2_0_0 none l r) : (⟨S8x64x128, .f32⟩ : BufTy).Contents (Elt F) → (⟨S8x128x128, .f32⟩ : BufTy).Contents (Elt F) → (⟨S8x64x128, .f32⟩ : BufTy).Contents (Elt F)),
    binary main_while0b_v40 main_while0b_v46 main_while0b_v47 (subf : (⟨S8x64x128, .f32⟩ : BufTy).Contents (Elt F) → (⟨S8x64x128, .f32⟩ : BufTy).Contents (Elt F) → (⟨S8x64x128, .f32⟩ : BufTy).Contents (Elt F)),
    binary main_while0b_v43 main_v15_7 main_while0b_v48 ((fun l r => Host.dotGeneral dot_S8x64x128_S8x128x128_S8x64x128_2_1_1_2_0_0 none l r) : (⟨S8x64x128, .f32⟩ : BufTy).Contents (Elt F) → (⟨S8x128x128, .f32⟩ : BufTy).Contents (Elt F) → (⟨S8x64x128, .f32⟩ : BufTy).Contents (Elt F)),
    binary main_while0b_v42 main_while0b_v47 main_while0b_v49 ((fun l r => Host.dotGeneral dot_S8x64x64_S8x64x128_S8x64x128_2_1_1_2_0_0 none l r) : (⟨S8x64x64, .f32⟩ : BufTy).Contents (Elt F) → (⟨S8x64x128, .f32⟩ : BufTy).Contents (Elt F) → (⟨S8x64x128, .f32⟩ : BufTy).Contents (Elt F)),
    binary main_while0b_v48 main_while0b_v49 main_while0b_v50 (addf : (⟨S8x64x128, .f32⟩ : BufTy).Contents (Elt F) → (⟨S8x64x128, .f32⟩ : BufTy).Contents (Elt F) → (⟨S8x64x128, .f32⟩ : BufTy).Contents (Elt F)),
    unary main_while0b_v45 main_while0b_v51 (broadcastInDim S8x128x128 ![0, 1, 2] bcast_S8x1x128_S8x128x128_0_1_2 : (⟨S8x1x128, .f32⟩ : BufTy).Contents (Elt F) → (⟨S8x128x128, .f32⟩ : BufTy).Contents (Elt F)),
    binary main_v15_7 main_while0b_v51 main_while0b_v52 (mulf : (⟨S8x128x128, .f32⟩ : BufTy).Contents (Elt F) → (⟨S8x128x128, .f32⟩ : BufTy).Contents (Elt F) → (⟨S8x128x128, .f32⟩ : BufTy).Contents (Elt F)),
    binary main_while0b_v44 main_while0b_v47 main_while0b_v53 ((fun l r => Host.dotGeneral dot_S8x64x128_S8x64x128_S8x128x128_1_1_2_2_0_0 none l r) : (⟨S8x64x128, .f32⟩ : BufTy).Contents (Elt F) → (⟨S8x64x128, .f32⟩ : BufTy).Contents (Elt F) → (⟨S8x128x128, .f32⟩ : BufTy).Contents (Elt F)),
    binary main_while0b_v52 main_while0b_v53 main_while0b_v54 (addf : (⟨S8x128x128, .f32⟩ : BufTy).Contents (Elt F) → (⟨S8x128x128, .f32⟩ : BufTy).Contents (Elt F) → (⟨S8x128x128, .f32⟩ : BufTy).Contents (Elt F)) ]
theorem while0Ops0_6_fresh : (while0Ops0_6 : List (HloOp τ sig (Elt F))).Forall fun op => op.fresh = ∅ :=
  forall_fresh_of_map rfl
theorem while0Ops0_6_sub : (while0Ops0_6 : List (HloOp τ sig (Elt F))).Forall fun op => op.bufs ⊆ tcRefs τ sig :=
  ⟨binary_bufs_sub .., binary_bufs_sub .., binary_bufs_sub .., binary_bufs_sub .., binary_bufs_sub .., unary_bufs_sub .., binary_bufs_sub .., binary_bufs_sub .., binary_bufs_sub ..⟩
abbrev while0Ops0_7 : List (HloOp τ sig (Elt F)) :=
  [ TRef.unary (.of main_while0b_v50 : TRef sig ⟨S8x64x128, .f32⟩) (.of main_while0b_call6_v0 : TRef sig ⟨S1x8x64x128, .f32⟩) (broadcastInDim S1x8x64x128 ![1, 2, 3] bcast_S8x64x128_S1x8x64x128_1_2_3),
    TRef.nullary (.of main_while0b_call6_c : TRef sig ⟨S_, .i32⟩) (constantI S_ 32 0#32),
    TRef.nullary (.of main_while0b_call6_c_0 : TRef sig ⟨S_, .i32⟩) (constantI S_ 32 0#32),
    TRef.nullary (.of main_while0b_call6_c_1 : TRef sig ⟨S_, .i32⟩) (constantI S_ 32 0#32),
    TRef.binaryIndexed (.of main_v15_8 : TRef sig ⟨S32x8x64x128, .f32⟩) (.of main_while0b_call6_v0 : TRef sig ⟨S1x8x64x128, .f32⟩) ![(.of main_v15_6 : TRef sig ⟨S_, .i32⟩), (.of main_while0b_call6_c : TRef sig ⟨S_, .i32⟩), (.of main_while0b_call6_c_0 : TRef sig ⟨S_, .i32⟩), (.of main_while0b_call6_c_1 : TRef sig ⟨S_, .i32⟩)] (.of main_while0b_v55 : TRef sig ⟨S32x8x64x128, .f32⟩) (fun x u i => Host.dynamicUpdateSlice x u (fun k => (i k (Shape.Idx.first h_S_)).toInt) updateFits_S32x8x64x128_S1x8x64x128) ]
theorem while0Ops0_7_fresh : (while0Ops0_7 : List (HloOp τ sig (Elt F))).Forall fun op => op.fresh = ∅ :=
  forall_fresh_of_map rfl
theorem while0Ops0_7_sub : (while0Ops0_7 : List (HloOp τ sig (Elt F))).Forall fun op => op.bufs ⊆ tcRefs τ sig :=
  ⟨unary_bufs_sub .., nullary_bufs_sub .., nullary_bufs_sub .., nullary_bufs_sub .., binaryIndexed_bufs_sub ..⟩
abbrev while0Ops0_8 : List (HloOp τ sig (Elt F)) :=
  [ TRef.unary (.of main_v15_7 : TRef sig ⟨S8x128x128, .f32⟩) (.of main_while0b_call7_v0 : TRef sig ⟨S1x8x128x128, .f32⟩) (broadcastInDim S1x8x128x128 ![1, 2, 3] bcast_S8x128x128_S1x8x128x128_1_2_3),
    TRef.nullary (.of main_while0b_call7_c : TRef sig ⟨S_, .i32⟩) (constantI S_ 32 0#32),
    TRef.nullary (.of main_while0b_call7_c_0 : TRef sig ⟨S_, .i32⟩) (constantI S_ 32 0#32),
    TRef.nullary (.of main_while0b_call7_c_1 : TRef sig ⟨S_, .i32⟩) (constantI S_ 32 0#32),
    TRef.binaryIndexed (.of main_v15_9 : TRef sig ⟨S32x8x128x128, .f32⟩) (.of main_while0b_call7_v0 : TRef sig ⟨S1x8x128x128, .f32⟩) ![(.of main_v15_6 : TRef sig ⟨S_, .i32⟩), (.of main_while0b_call7_c : TRef sig ⟨S_, .i32⟩), (.of main_while0b_call7_c_0 : TRef sig ⟨S_, .i32⟩), (.of main_while0b_call7_c_1 : TRef sig ⟨S_, .i32⟩)] (.of main_while0b_v56 : TRef sig ⟨S32x8x128x128, .f32⟩) (fun x u i => Host.dynamicUpdateSlice x u (fun k => (i k (Shape.Idx.first h_S_)).toInt) updateFits_S32x8x128x128_S1x8x128x128) ]
theorem while0Ops0_8_fresh : (while0Ops0_8 : List (HloOp τ sig (Elt F))).Forall fun op => op.fresh = ∅ :=
  forall_fresh_of_map rfl
theorem while0Ops0_8_sub : (while0Ops0_8 : List (HloOp τ sig (Elt F))).Forall fun op => op.bufs ⊆ tcRefs τ sig :=
  ⟨unary_bufs_sub .., nullary_bufs_sub .., nullary_bufs_sub .., nullary_bufs_sub .., binaryIndexed_bufs_sub ..⟩
abbrev while0Ops0_9 : List (HloOp τ sig (Elt F)) :=
  [ TRef.unary (.of main_while0b_v47 : TRef sig ⟨S8x64x128, .f32⟩) (.of main_while0b_call8_v0 : TRef sig ⟨S1x8x64x128, .f32⟩) (broadcastInDim S1x8x64x128 ![1, 2, 3] bcast_S8x64x128_S1x8x64x128_1_2_3),
    TRef.nullary (.of main_while0b_call8_c : TRef sig ⟨S_, .i32⟩) (constantI S_ 32 0#32),
    TRef.nullary (.of main_while0b_call8_c_0 : TRef sig ⟨S_, .i32⟩) (constantI S_ 32 0#32),
    TRef.nullary (.of main_while0b_call8_c_1 : TRef sig ⟨S_, .i32⟩) (constantI S_ 32 0#32),
    TRef.binaryIndexed (.of main_v15_10 : TRef sig ⟨S32x8x64x128, .f32⟩) (.of main_while0b_call8_v0 : TRef sig ⟨S1x8x64x128, .f32⟩) ![(.of main_v15_6 : TRef sig ⟨S_, .i32⟩), (.of main_while0b_call8_c : TRef sig ⟨S_, .i32⟩), (.of main_while0b_call8_c_0 : TRef sig ⟨S_, .i32⟩), (.of main_while0b_call8_c_1 : TRef sig ⟨S_, .i32⟩)] (.of main_while0b_v57 : TRef sig ⟨S32x8x64x128, .f32⟩) (fun x u i => Host.dynamicUpdateSlice x u (fun k => (i k (Shape.Idx.first h_S_)).toInt) updateFits_S32x8x64x128_S1x8x64x128) ]
theorem while0Ops0_9_fresh : (while0Ops0_9 : List (HloOp τ sig (Elt F))).Forall fun op => op.fresh = ∅ :=
  forall_fresh_of_map rfl
theorem while0Ops0_9_sub : (while0Ops0_9 : List (HloOp τ sig (Elt F))).Forall fun op => op.bufs ⊆ tcRefs τ sig :=
  ⟨unary_bufs_sub .., nullary_bufs_sub .., nullary_bufs_sub .., nullary_bufs_sub .., binaryIndexed_bufs_sub ..⟩
abbrev while0Ops0_10 : List (HloOp τ sig (Elt F)) :=
  [ nullary main_while0b_c_22 (constantI S_ 32 1#32),
    binary main_v15_6 main_while0b_c_22 main_while0b_v58 (addi : (⟨S_, .i32⟩ : BufTy).Contents (Elt F) → (⟨S_, .i32⟩ : BufTy).Contents (Elt F) → (⟨S_, .i32⟩ : BufTy).Contents (Elt F)),
    unary main_while0b_v58 main_v15_6 id,
    unary main_while0b_v54 main_v15_7 id,
    unary main_while0b_v55 main_v15_8 id,
    unary main_while0b_v56 main_v15_9 id,
    unary main_while0b_v57 main_v15_10 id ]
theorem while0Ops0_10_fresh : (while0Ops0_10 : List (HloOp τ sig (Elt F))).Forall fun op => op.fresh = ∅ :=
  forall_fresh_of_map rfl
theorem while0Ops0_10_sub : (while0Ops0_10 : List (HloOp τ sig (Elt F))).Forall fun op => op.bufs ⊆ tcRefs τ sig :=
  ⟨nullary_bufs_sub .., binary_bufs_sub .., unary_bufs_sub .., unary_bufs_sub .., unary_bufs_sub .., unary_bufs_sub .., unary_bufs_sub ..⟩
theorem while0_body_chain : main_while0_body (F := F) = (Pipeline.chain
  [ seq while0Ops0,
    seq while0Ops0_1,
    seq while0Ops0_2,
    seq while0Ops0_3,
    seq while0Ops0_4,
    seq while0Ops0_5,
    seq while0Ops0_6,
    seq while0Ops0_7,
    seq while0Ops0_8,
    seq while0Ops0_9,
    seq while0Ops0_10 ] : Prog (TpuEff nD τ sig (Elt F) (HostLoop.Sig (Pipeline.Sig Λ₀ (Fin 0) fun p => (pcfgs (F := F) p).Adm) 2) .tc) PUnit) := by
  rewrite [Pipeline.chain_cons, Pipeline.chain_cons, Pipeline.chain_cons, Pipeline.chain_cons, Pipeline.chain_cons, Pipeline.chain_cons, chain_seq_cons, Pipeline.chain_cons, Pipeline.chain_cons, Pipeline.chain_cons, chain_seq_cons]
  chain_rfl

abbrev while1Ops0 : List (HloOp τ sig (Elt F)) :=
  [ nullary main_while1b_c_27 (constantI S_ 32 32#32),
    binary main_while1b_c_27 main_v28_8 main_while1b_v40 (subi : (⟨S_, .i32⟩ : BufTy).Contents (Elt F) → (⟨S_, .i32⟩ : BufTy).Contents (Elt F) → (⟨S_, .i32⟩ : BufTy).Contents (Elt F)),
    nullary main_while1b_c_28 (constantI S_ 32 1#32),
    binary main_while1b_v40 main_while1b_c_28 main_while1b_v41 (subi : (⟨S_, .i32⟩ : BufTy).Contents (Elt F) → (⟨S_, .i32⟩ : BufTy).Contents (Elt F) → (⟨S_, .i32⟩ : BufTy).Contents (Elt F)) ]
theorem while1Ops0_fresh : (while1Ops0 : List (HloOp τ sig (Elt F))).Forall fun op => op.fresh = ∅ :=
  forall_fresh_of_map rfl
theorem while1Ops0_sub : (while1Ops0 : List (HloOp τ sig (Elt F))).Forall fun op => op.bufs ⊆ tcRefs τ sig :=
  ⟨nullary_bufs_sub .., binary_bufs_sub .., nullary_bufs_sub .., binary_bufs_sub ..⟩
abbrev while1Ops0_1 : List (HloOp τ sig (Elt F)) :=
  [ TRef.nullary (.of main_while1b_call9_c : TRef sig ⟨S_, .i32⟩) (constantI S_ 32 0#32),
    TRef.nullary (.of main_while1b_call9_c_0 : TRef sig ⟨S_, .i32⟩) (constantI S_ 32 0#32),
    TRef.nullary (.of main_while1b_call9_c_1 : TRef sig ⟨S_, .i32⟩) (constantI S_ 32 0#32),
    TRef.unaryIndexed (.of main_v28_0 : TRef sig ⟨S32x8x64x128, .f32⟩) ![(.of main_while1b_v41 : TRef sig ⟨S_, .i32⟩), (.of main_while1b_call9_c : TRef sig ⟨S_, .i32⟩), (.of main_while1b_call9_c_0 : TRef sig ⟨S_, .i32⟩), (.of main_while1b_call9_c_1 : TRef sig ⟨S_, .i32⟩)] (.of main_while1b_call9_v0 : TRef sig ⟨S1x8x64x128, .f32⟩) (fun x i => Host.dynamicSlice S1x8x64x128 x (fun k => (i k (Shape.Idx.first h_S_)).toInt) sliceFits_S32x8x64x128_S1x8x64x128),
    TRef.reshape (.of main_while1b_call9_v0 : TRef sig ⟨S1x8x64x128, .f32⟩) (.of main_while1b_v42 : TRef sig ⟨S8x64x128, .f32⟩) (rfl : (.f32 : EltTy) = .f32) shapeCasts_S1x8x64x128_S8x64x128 ]
theorem while1Ops0_1_fresh : (while1Ops0_1 : List (HloOp τ sig (Elt F))).Forall fun op => op.fresh = ∅ :=
  forall_fresh_of_map rfl
theorem while1Ops0_1_sub : (while1Ops0_1 : List (HloOp τ sig (Elt F))).Forall fun op => op.bufs ⊆ tcRefs τ sig :=
  ⟨nullary_bufs_sub .., nullary_bufs_sub .., nullary_bufs_sub .., unaryIndexed_bufs_sub .., reshape_bufs_sub ..⟩
abbrev while1Ops0_2 : List (HloOp τ sig (Elt F)) :=
  [ TRef.nullary (.of main_while1b_call10_c : TRef sig ⟨S_, .i32⟩) (constantI S_ 32 0#32),
    TRef.nullary (.of main_while1b_call10_c_0 : TRef sig ⟨S_, .i32⟩) (constantI S_ 32 0#32),
    TRef.nullary (.of main_while1b_call10_c_1 : TRef sig ⟨S_, .i32⟩) (constantI S_ 32 0#32),
    TRef.unaryIndexed (.of main_v28_1 : TRef sig ⟨S32x8x128x128, .f32⟩) ![(.of main_while1b_v41 : TRef sig ⟨S_, .i32⟩), (.of main_while1b_call10_c : TRef sig ⟨S_, .i32⟩), (.of main_while1b_call10_c_0 : TRef sig ⟨S_, .i32⟩), (.of main_while1b_call10_c_1 : TRef sig ⟨S_, .i32⟩)] (.of main_while1b_call10_v0 : TRef sig ⟨S1x8x128x128, .f32⟩) (fun x i => Host.dynamicSlice S1x8x128x128 x (fun k => (i k (Shape.Idx.first h_S_)).toInt) sliceFits_S32x8x128x128_S1x8x128x128),
    TRef.reshape (.of main_while1b_call10_v0 : TRef sig ⟨S1x8x128x128, .f32⟩) (.of main_while1b_v43 : TRef sig ⟨S8x128x128, .f32⟩) (rfl : (.f32 : EltTy) = .f32) shapeCasts_S1x8x128x128_S8x128x128 ]
theorem while1Ops0_2_fresh : (while1Ops0_2 : List (HloOp τ sig (Elt F))).Forall fun op => op.fresh = ∅ :=
  forall_fresh_of_map rfl
theorem while1Ops0_2_sub : (while1Ops0_2 : List (HloOp τ sig (Elt F))).Forall fun op => op.bufs ⊆ tcRefs τ sig :=
  ⟨nullary_bufs_sub .., nullary_bufs_sub .., nullary_bufs_sub .., unaryIndexed_bufs_sub .., reshape_bufs_sub ..⟩
abbrev while1Ops0_3 : List (HloOp τ sig (Elt F)) :=
  [ TRef.nullary (.of main_while1b_call11_c : TRef sig ⟨S_, .i32⟩) (constantI S_ 32 0#32),
    TRef.nullary (.of main_while1b_call11_c_0 : TRef sig ⟨S_, .i32⟩) (constantI S_ 32 0#32),
    TRef.nullary (.of main_while1b_call11_c_1 : TRef sig ⟨S_, .i32⟩) (constantI S_ 32 0#32),
    TRef.unaryIndexed (.of main_v28_2 : TRef sig ⟨S32x8x64x128, .f32⟩) ![(.of main_while1b_v41 : TRef sig ⟨S_, .i32⟩), (.of main_while1b_call11_c : TRef sig ⟨S_, .i32⟩), (.of main_while1b_call11_c_0 : TRef sig ⟨S_, .i32⟩), (.of main_while1b_call11_c_1 : TRef sig ⟨S_, .i32⟩)] (.of main_while1b_call11_v0 : TRef sig ⟨S1x8x64x128, .f32⟩) (fun x i => Host.dynamicSlice S1x8x64x128 x (fun k => (i k (Shape.Idx.first h_S_)).toInt) sliceFits_S32x8x64x128_S1x8x64x128),
    TRef.reshape (.of main_while1b_call11_v0 : TRef sig ⟨S1x8x64x128, .f32⟩) (.of main_while1b_v44 : TRef sig ⟨S8x64x128, .f32⟩) (rfl : (.f32 : EltTy) = .f32) shapeCasts_S1x8x64x128_S8x64x128 ]
theorem while1Ops0_3_fresh : (while1Ops0_3 : List (HloOp τ sig (Elt F))).Forall fun op => op.fresh = ∅ :=
  forall_fresh_of_map rfl
theorem while1Ops0_3_sub : (while1Ops0_3 : List (HloOp τ sig (Elt F))).Forall fun op => op.bufs ⊆ tcRefs τ sig :=
  ⟨nullary_bufs_sub .., nullary_bufs_sub .., nullary_bufs_sub .., unaryIndexed_bufs_sub .., reshape_bufs_sub ..⟩
abbrev while1Ops0_4 : List (HloOp τ sig (Elt F)) :=
  [ TRef.nullary (.of main_while1b_call12_c : TRef sig ⟨S_, .i32⟩) (constantI S_ 32 0#32),
    TRef.nullary (.of main_while1b_call12_c_0 : TRef sig ⟨S_, .i32⟩) (constantI S_ 32 0#32),
    TRef.nullary (.of main_while1b_call12_c_1 : TRef sig ⟨S_, .i32⟩) (constantI S_ 32 0#32),
    TRef.unaryIndexed (.of main_v28_3 : TRef sig ⟨S32x8x64x128, .f32⟩) ![(.of main_while1b_v41 : TRef sig ⟨S_, .i32⟩), (.of main_while1b_call12_c : TRef sig ⟨S_, .i32⟩), (.of main_while1b_call12_c_0 : TRef sig ⟨S_, .i32⟩), (.of main_while1b_call12_c_1 : TRef sig ⟨S_, .i32⟩)] (.of main_while1b_call12_v0 : TRef sig ⟨S1x8x64x128, .f32⟩) (fun x i => Host.dynamicSlice S1x8x64x128 x (fun k => (i k (Shape.Idx.first h_S_)).toInt) sliceFits_S32x8x64x128_S1x8x64x128),
    TRef.reshape (.of main_while1b_call12_v0 : TRef sig ⟨S1x8x64x128, .f32⟩) (.of main_while1b_v45 : TRef sig ⟨S8x64x128, .f32⟩) (rfl : (.f32 : EltTy) = .f32) shapeCasts_S1x8x64x128_S8x64x128 ]
theorem while1Ops0_4_fresh : (while1Ops0_4 : List (HloOp τ sig (Elt F))).Forall fun op => op.fresh = ∅ :=
  forall_fresh_of_map rfl
theorem while1Ops0_4_sub : (while1Ops0_4 : List (HloOp τ sig (Elt F))).Forall fun op => op.bufs ⊆ tcRefs τ sig :=
  ⟨nullary_bufs_sub .., nullary_bufs_sub .., nullary_bufs_sub .., unaryIndexed_bufs_sub .., reshape_bufs_sub ..⟩
abbrev while1Ops0_5 : List (HloOp τ sig (Elt F)) :=
  [ TRef.nullary (.of main_while1b_call13_c : TRef sig ⟨S_, .i32⟩) (constantI S_ 32 0#32),
    TRef.nullary (.of main_while1b_call13_c_0 : TRef sig ⟨S_, .i32⟩) (constantI S_ 32 0#32),
    TRef.nullary (.of main_while1b_call13_c_1 : TRef sig ⟨S_, .i32⟩) (constantI S_ 32 0#32),
    TRef.unaryIndexed (.of main_v28_4 : TRef sig ⟨S32x8x64x128, .f32⟩) ![(.of main_while1b_v41 : TRef sig ⟨S_, .i32⟩), (.of main_while1b_call13_c : TRef sig ⟨S_, .i32⟩), (.of main_while1b_call13_c_0 : TRef sig ⟨S_, .i32⟩), (.of main_while1b_call13_c_1 : TRef sig ⟨S_, .i32⟩)] (.of main_while1b_call13_v0 : TRef sig ⟨S1x8x64x128, .f32⟩) (fun x i => Host.dynamicSlice S1x8x64x128 x (fun k => (i k (Shape.Idx.first h_S_)).toInt) sliceFits_S32x8x64x128_S1x8x64x128),
    TRef.reshape (.of main_while1b_call13_v0 : TRef sig ⟨S1x8x64x128, .f32⟩) (.of main_while1b_v46 : TRef sig ⟨S8x64x128, .f32⟩) (rfl : (.f32 : EltTy) = .f32) shapeCasts_S1x8x64x128_S8x64x128 ]
theorem while1Ops0_5_fresh : (while1Ops0_5 : List (HloOp τ sig (Elt F))).Forall fun op => op.fresh = ∅ :=
  forall_fresh_of_map rfl
theorem while1Ops0_5_sub : (while1Ops0_5 : List (HloOp τ sig (Elt F))).Forall fun op => op.bufs ⊆ tcRefs τ sig :=
  ⟨nullary_bufs_sub .., nullary_bufs_sub .., nullary_bufs_sub .., unaryIndexed_bufs_sub .., reshape_bufs_sub ..⟩
abbrev while1Ops0_6 : List (HloOp τ sig (Elt F)) :=
  [ TRef.nullary (.of main_while1b_call14_c : TRef sig ⟨S_, .i32⟩) (constantI S_ 32 0#32),
    TRef.nullary (.of main_while1b_call14_c_0 : TRef sig ⟨S_, .i32⟩) (constantI S_ 32 0#32),
    TRef.nullary (.of main_while1b_call14_c_1 : TRef sig ⟨S_, .i32⟩) (constantI S_ 32 0#32),
    TRef.unaryIndexed (.of main_v28_5 : TRef sig ⟨S32x8x64x64, .f32⟩) ![(.of main_while1b_v41 : TRef sig ⟨S_, .i32⟩), (.of main_while1b_call14_c : TRef sig ⟨S_, .i32⟩), (.of main_while1b_call14_c_0 : TRef sig ⟨S_, .i32⟩), (.of main_while1b_call14_c_1 : TRef sig ⟨S_, .i32⟩)] (.of main_while1b_call14_v0 : TRef sig ⟨S1x8x64x64, .f32⟩) (fun x i => Host.dynamicSlice S1x8x64x64 x (fun k => (i k (Shape.Idx.first h_S_)).toInt) sliceFits_S32x8x64x64_S1x8x64x64),
    TRef.reshape (.of main_while1b_call14_v0 : TRef sig ⟨S1x8x64x64, .f32⟩) (.of main_while1b_v47 : TRef sig ⟨S8x64x64, .f32⟩) (rfl : (.f32 : EltTy) = .f32) shapeCasts_S1x8x64x64_S8x64x64 ]
theorem while1Ops0_6_fresh : (while1Ops0_6 : List (HloOp τ sig (Elt F))).Forall fun op => op.fresh = ∅ :=
  forall_fresh_of_map rfl
theorem while1Ops0_6_sub : (while1Ops0_6 : List (HloOp τ sig (Elt F))).Forall fun op => op.bufs ⊆ tcRefs τ sig :=
  ⟨nullary_bufs_sub .., nullary_bufs_sub .., nullary_bufs_sub .., unaryIndexed_bufs_sub .., reshape_bufs_sub ..⟩
abbrev while1Ops0_7 : List (HloOp τ sig (Elt F)) :=
  [ TRef.nullary (.of main_while1b_call15_c : TRef sig ⟨S_, .i32⟩) (constantI S_ 32 0#32),
    TRef.nullary (.of main_while1b_call15_c_0 : TRef sig ⟨S_, .i32⟩) (constantI S_ 32 0#32),
    TRef.nullary (.of main_while1b_call15_c_1 : TRef sig ⟨S_, .i32⟩) (constantI S_ 32 0#32),
    TRef.unaryIndexed (.of main_v28_6 : TRef sig ⟨S32x8x1x128, .f32⟩) ![(.of main_while1b_v41 : TRef sig ⟨S_, .i32⟩), (.of main_while1b_call15_c : TRef sig ⟨S_, .i32⟩), (.of main_while1b_call15_c_0 : TRef sig ⟨S_, .i32⟩), (.of main_while1b_call15_c_1 : TRef sig ⟨S_, .i32⟩)] (.of main_while1b_call15_v0 : TRef sig ⟨S1x8x1x128, .f32⟩) (fun x i => Host.dynamicSlice S1x8x1x128 x (fun k => (i k (Shape.Idx.first h_S_)).toInt) sliceFits_S32x8x1x128_S1x8x1x128),
    TRef.reshape (.of main_while1b_call15_v0 : TRef sig ⟨S1x8x1x128, .f32⟩) (.of main_while1b_v48 : TRef sig ⟨S8x1x128, .f32⟩) (rfl : (.f32 : EltTy) = .f32) shapeCasts_S1x8x1x128_S8x1x128 ]
theorem while1Ops0_7_fresh : (while1Ops0_7 : List (HloOp τ sig (Elt F))).Forall fun op => op.fresh = ∅ :=
  forall_fresh_of_map rfl
theorem while1Ops0_7_sub : (while1Ops0_7 : List (HloOp τ sig (Elt F))).Forall fun op => op.bufs ⊆ tcRefs τ sig :=
  ⟨nullary_bufs_sub .., nullary_bufs_sub .., nullary_bufs_sub .., unaryIndexed_bufs_sub .., reshape_bufs_sub ..⟩
abbrev while1Ops0_8 : List (HloOp τ sig (Elt F)) :=
  [ TRef.nullary (.of main_while1b_call16_c : TRef sig ⟨S_, .i32⟩) (constantI S_ 32 0#32),
    TRef.nullary (.of main_while1b_call16_c_0 : TRef sig ⟨S_, .i32⟩) (constantI S_ 32 0#32),
    TRef.nullary (.of main_while1b_call16_c_1 : TRef sig ⟨S_, .i32⟩) (constantI S_ 32 0#32),
    TRef.unaryIndexed (.of main_v28_7 : TRef sig ⟨S32x8x64x128, .f32⟩) ![(.of main_while1b_v41 : TRef sig ⟨S_, .i32⟩), (.of main_while1b_call16_c : TRef sig ⟨S_, .i32⟩), (.of main_while1b_call16_c_0 : TRef sig ⟨S_, .i32⟩), (.of main_while1b_call16_c_1 : TRef sig ⟨S_, .i32⟩)] (.of main_while1b_call16_v0 : TRef sig ⟨S1x8x64x128, .f32⟩) (fun x i => Host.dynamicSlice S1x8x64x128 x (fun k => (i k (Shape.Idx.first h_S_)).toInt) sliceFits_S32x8x64x128_S1x8x64x128),
    TRef.reshape (.of main_while1b_call16_v0 : TRef sig ⟨S1x8x64x128, .f32⟩) (.of main_while1b_v49 : TRef sig ⟨S8x64x128, .f32⟩) (rfl : (.f32 : EltTy) = .f32) shapeCasts_S1x8x64x128_S8x64x128 ]
theorem while1Ops0_8_fresh : (while1Ops0_8 : List (HloOp τ sig (Elt F))).Forall fun op => op.fresh = ∅ :=
  forall_fresh_of_map rfl
theorem while1Ops0_8_sub : (while1Ops0_8 : List (HloOp τ sig (Elt F))).Forall fun op => op.bufs ⊆ tcRefs τ sig :=
  ⟨nullary_bufs_sub .., nullary_bufs_sub .., nullary_bufs_sub .., unaryIndexed_bufs_sub .., reshape_bufs_sub ..⟩
abbrev while1Ops0_9 : List (HloOp τ sig (Elt F)) :=
  [ binary main_v28_9 main_while1b_v49 main_while1b_v50 ((fun l r => Host.dotGeneral dot_S8x128x128_S8x64x128_S8x128x64_1_2_2_1_0_0 none l r) : (⟨S8x128x128, .f32⟩ : BufTy).Contents (Elt F) → (⟨S8x64x128, .f32⟩ : BufTy).Contents (Elt F) → (⟨S8x128x64, .f32⟩ : BufTy).Contents (Elt F)),
    unary main_while1b_v50 main_while1b_v51 ((transpose S8x64x128 [0, 2, 1] · transposes_S8x128x64_S8x64x128_0_2_1) : (⟨S8x128x64, .f32⟩ : BufTy).Contents (Elt F) → (⟨S8x64x128, .f32⟩ : BufTy).Contents (Elt F)),
    binary main_v28_9 main_while1b_v46 main_while1b_v52 ((fun l r => Host.dotGeneral dot_S8x128x128_S8x64x128_S8x128x64_2_2_1_1_0_0 none l r) : (⟨S8x128x128, .f32⟩ : BufTy).Contents (Elt F) → (⟨S8x64x128, .f32⟩ : BufTy).Contents (Elt F) → (⟨S8x128x64, .f32⟩ : BufTy).Contents (Elt F)),
    unary main_while1b_v52 main_while1b_v53 ((transpose S8x64x128 [0, 2, 1] · transposes_S8x128x64_S8x64x128_0_2_1) : (⟨S8x128x64, .f32⟩ : BufTy).Contents (Elt F) → (⟨S8x64x128, .f32⟩ : BufTy).Contents (Elt F)),
    binary main_while1b_v43 main_v28_9 main_while1b_v54 (mulf : (⟨S8x128x128, .f32⟩ : BufTy).Contents (Elt F) → (⟨S8x128x128, .f32⟩ : BufTy).Contents (Elt F) → (⟨S8x128x128, .f32⟩ : BufTy).Contents (Elt F)),
    nullary main_while1b_cst_29 (constant S_ .f32 0x00000000#32),
    binary main_while1b_v54 main_while1b_cst_29 main_while1b_v55 ((fun x v => Host.reduceAdd x v reducesTo_S8x128x128_S8x128_d1 h_S_) : (⟨S8x128x128, .f32⟩ : BufTy).Contents (Elt F) → (⟨S_, .f32⟩ : BufTy).Contents (Elt F) → (⟨S8x128, .f32⟩ : BufTy).Contents (Elt F)),
    reshape main_while1b_v55 main_while1b_v56 (rfl : (.f32 : EltTy) = .f32) shapeCasts_S8x128_S8x1x128,
    unary main_while1b_v48 main_while1b_v57 (broadcastInDim S8x128x128 ![0, 1, 2] bcast_S8x1x128_S8x128x128_0_1_2 : (⟨S8x1x128, .f32⟩ : BufTy).Contents (Elt F) → (⟨S8x128x128, .f32⟩ : BufTy).Contents (Elt F)),
    binary main_v28_9 main_while1b_v57 main_while1b_v58 (mulf : (⟨S8x128x128, .f32⟩ : BufTy).Contents (Elt F) → (⟨S8x128x128, .f32⟩ : BufTy).Contents (Elt F) → (⟨S8x128x128, .f32⟩ : BufTy).Contents (Elt F)),
    binary main_while1b_v42 main_while1b_v47 main_while1b_v59 ((fun l r => Host.dotGeneral dot_S8x64x128_S8x64x64_S8x128x64_1_1_2_2_0_0 none l r) : (⟨S8x64x128, .f32⟩ : BufTy).Contents (Elt F) → (⟨S8x64x64, .f32⟩ : BufTy).Contents (Elt F) → (⟨S8x128x64, .f32⟩ : BufTy).Contents (Elt F)),
    unary main_while1b_v59 main_while1b_v60 ((transpose S8x64x128 [0, 2, 1] · transposes_S8x128x64_S8x64x128_0_2_1) : (⟨S8x128x64, .f32⟩ : BufTy).Contents (Elt F) → (⟨S8x64x128, .f32⟩ : BufTy).Contents (Elt F)),
    binary main_while1b_v51 main_while1b_v60 main_while1b_v61 (addf : (⟨S8x64x128, .f32⟩ : BufTy).Contents (Elt F) → (⟨S8x64x128, .f32⟩ : BufTy).Contents (Elt F) → (⟨S8x64x128, .f32⟩ : BufTy).Contents (Elt F)),
    binary main_while1b_v42 main_while1b_v46 main_while1b_v62 ((fun l r => Host.dotGeneral dot_S8x64x128_S8x64x128_S8x64x64_2_2_1_1_0_0 none l r) : (⟨S8x64x128, .f32⟩ : BufTy).Contents (Elt F) → (⟨S8x64x128, .f32⟩ : BufTy).Contents (Elt F) → (⟨S8x64x64, .f32⟩ : BufTy).Contents (Elt F)),
    binary main_while1b_v42 main_while1b_v45 main_while1b_v63 ((fun l r => Host.dotGeneral dot_S8x64x128_S8x64x128_S8x128x128_1_1_2_2_0_0 none l r) : (⟨S8x64x128, .f32⟩ : BufTy).Contents (Elt F) → (⟨S8x64x128, .f32⟩ : BufTy).Contents (Elt F) → (⟨S8x128x128, .f32⟩ : BufTy).Contents (Elt F)),
    unary main_while1b_v63 main_while1b_v64 ((transpose S8x128x128 [0, 2, 1] · transposes_S8x128x128_S8x128x128_0_2_1) : (⟨S8x128x128, .f32⟩ : BufTy).Contents (Elt F) → (⟨S8x128x128, .f32⟩ : BufTy).Contents (Elt F)),
    binary main_while1b_v58 main_while1b_v64 main_while1b_v65 (addf : (⟨S8x128x128, .f32⟩ : BufTy).Contents (Elt F) → (⟨S8x128x128, .f32⟩ : BufTy).Contents (Elt F) → (⟨S8x128x128, .f32⟩ : BufTy).Contents (Elt F)),
    binary main_while1b_v42 main_while1b_v43 main_while1b_v66 ((fun l r => Host.dotGeneral dot_S8x64x128_S8x128x128_S8x64x128_2_2_1_1_0_0 none l r) : (⟨S8x64x128, .f32⟩ : BufTy).Contents (Elt F) → (⟨S8x128x128, .f32⟩ : BufTy).Contents (Elt F) → (⟨S8x64x128, .f32⟩ : BufTy).Contents (Elt F)),
    unary main_while1b_v61 main_while1b_v67 (Host.negf : (⟨S8x64x128, .f32⟩ : BufTy).Contents (Elt F) → (⟨S8x64x128, .f32⟩ : BufTy).Contents (Elt F)),
    binary main_while1b_v67 main_while1b_v44 main_while1b_v68 ((fun l r => Host.dotGeneral dot_S8x64x128_S8x64x128_S8x128x128_1_1_2_2_0_0 none l r) : (⟨S8x64x128, .f32⟩ : BufTy).Contents (Elt F) → (⟨S8x64x128, .f32⟩ : BufTy).Contents (Elt F) → (⟨S8x128x128, .f32⟩ : BufTy).Contents (Elt F)),
    unary main_while1b_v68 main_while1b_v69 ((transpose S8x128x128 [0, 2, 1] · transposes_S8x128x128_S8x128x128_0_2_1) : (⟨S8x128x128, .f32⟩ : BufTy).Contents (Elt F) → (⟨S8x128x128, .f32⟩ : BufTy).Contents (Elt F)),
    binary main_while1b_v65 main_while1b_v69 main_while1b_v70 (addf : (⟨S8x128x128, .f32⟩ : BufTy).Contents (Elt F) → (⟨S8x128x128, .f32⟩ : BufTy).Contents (Elt F) → (⟨S8x128x128, .f32⟩ : BufTy).Contents (Elt F)),
    binary main_while1b_v67 main_while1b_v43 main_while1b_v71 ((fun l r => Host.dotGeneral dot_S8x64x128_S8x128x128_S8x64x128_2_2_1_1_0_0 none l r) : (⟨S8x64x128, .f32⟩ : BufTy).Contents (Elt F) → (⟨S8x128x128, .f32⟩ : BufTy).Contents (Elt F) → (⟨S8x64x128, .f32⟩ : BufTy).Contents (Elt F)) ]
theorem while1Ops0_9_fresh : (while1Ops0_9 : List (HloOp τ sig (Elt F))).Forall fun op => op.fresh = ∅ :=
  forall_fresh_of_map rfl
theorem while1Ops0_9_sub : (while1Ops0_9 : List (HloOp τ sig (Elt F))).Forall fun op => op.bufs ⊆ tcRefs τ sig :=
  ⟨binary_bufs_sub .., unary_bufs_sub .., binary_bufs_sub .., unary_bufs_sub .., binary_bufs_sub .., nullary_bufs_sub .., binary_bufs_sub .., reshape_bufs_sub .., unary_bufs_sub .., binary_bufs_sub .., binary_bufs_sub .., unary_bufs_sub .., binary_bufs_sub .., binary_bufs_sub .., binary_bufs_sub .., unary_bufs_sub .., binary_bufs_sub .., binary_bufs_sub .., unary_bufs_sub .., binary_bufs_sub .., unary_bufs_sub .., binary_bufs_sub .., binary_bufs_sub ..⟩
abbrev while1Ops0_10 : List (HloOp τ sig (Elt F)) :=
  [ TRef.unary (.of main_while1b_v61 : TRef sig ⟨S8x64x128, .f32⟩) (.of main_while1b_call17_v0 : TRef sig ⟨S1x8x64x128, .f32⟩) (broadcastInDim S1x8x64x128 ![1, 2, 3] bcast_S8x64x128_S1x8x64x128_1_2_3),
    TRef.nullary (.of main_while1b_call17_c : TRef sig ⟨S_, .i32⟩) (constantI S_ 32 0#32),
    TRef.nullary (.of main_while1b_call17_c_0 : TRef sig ⟨S_, .i32⟩) (constantI S_ 32 0#32),
    TRef.nullary (.of main_while1b_call17_c_1 : TRef sig ⟨S_, .i32⟩) (constantI S_ 32 0#32),
    TRef.binaryIndexed (.of main_v28_10 : TRef sig ⟨S32x8x64x128, .f32⟩) (.of main_while1b_call17_v0 : TRef sig ⟨S1x8x64x128, .f32⟩) ![(.of main_while1b_v41 : TRef sig ⟨S_, .i32⟩), (.of main_while1b_call17_c : TRef sig ⟨S_, .i32⟩), (.of main_while1b_call17_c_0 : TRef sig ⟨S_, .i32⟩), (.of main_while1b_call17_c_1 : TRef sig ⟨S_, .i32⟩)] (.of main_while1b_v72 : TRef sig ⟨S32x8x64x128, .f32⟩) (fun x u i => Host.dynamicUpdateSlice x u (fun k => (i k (Shape.Idx.first h_S_)).toInt) updateFits_S32x8x64x128_S1x8x64x128) ]
theorem while1Ops0_10_fresh : (while1Ops0_10 : List (HloOp τ sig (Elt F))).Forall fun op => op.fresh = ∅ :=
  forall_fresh_of_map rfl
theorem while1Ops0_10_sub : (while1Ops0_10 : List (HloOp τ sig (Elt F))).Forall fun op => op.bufs ⊆ tcRefs τ sig :=
  ⟨unary_bufs_sub .., nullary_bufs_sub .., nullary_bufs_sub .., nullary_bufs_sub .., binaryIndexed_bufs_sub ..⟩
abbrev while1Ops0_11 : List (HloOp τ sig (Elt F)) :=
  [ TRef.unary (.of main_while1b_v71 : TRef sig ⟨S8x64x128, .f32⟩) (.of main_while1b_call18_v0 : TRef sig ⟨S1x8x64x128, .f32⟩) (broadcastInDim S1x8x64x128 ![1, 2, 3] bcast_S8x64x128_S1x8x64x128_1_2_3),
    TRef.nullary (.of main_while1b_call18_c : TRef sig ⟨S_, .i32⟩) (constantI S_ 32 0#32),
    TRef.nullary (.of main_while1b_call18_c_0 : TRef sig ⟨S_, .i32⟩) (constantI S_ 32 0#32),
    TRef.nullary (.of main_while1b_call18_c_1 : TRef sig ⟨S_, .i32⟩) (constantI S_ 32 0#32),
    TRef.binaryIndexed (.of main_v28_11 : TRef sig ⟨S32x8x64x128, .f32⟩) (.of main_while1b_call18_v0 : TRef sig ⟨S1x8x64x128, .f32⟩) ![(.of main_while1b_v41 : TRef sig ⟨S_, .i32⟩), (.of main_while1b_call18_c : TRef sig ⟨S_, .i32⟩), (.of main_while1b_call18_c_0 : TRef sig ⟨S_, .i32⟩), (.of main_while1b_call18_c_1 : TRef sig ⟨S_, .i32⟩)] (.of main_while1b_v73 : TRef sig ⟨S32x8x64x128, .f32⟩) (fun x u i => Host.dynamicUpdateSlice x u (fun k => (i k (Shape.Idx.first h_S_)).toInt) updateFits_S32x8x64x128_S1x8x64x128) ]
theorem while1Ops0_11_fresh : (while1Ops0_11 : List (HloOp τ sig (Elt F))).Forall fun op => op.fresh = ∅ :=
  forall_fresh_of_map rfl
theorem while1Ops0_11_sub : (while1Ops0_11 : List (HloOp τ sig (Elt F))).Forall fun op => op.bufs ⊆ tcRefs τ sig :=
  ⟨unary_bufs_sub .., nullary_bufs_sub .., nullary_bufs_sub .., nullary_bufs_sub .., binaryIndexed_bufs_sub ..⟩
abbrev while1Ops0_12 : List (HloOp τ sig (Elt F)) :=
  [ TRef.unary (.of main_while1b_v62 : TRef sig ⟨S8x64x64, .f32⟩) (.of main_while1b_call19_v0 : TRef sig ⟨S1x8x64x64, .f32⟩) (broadcastInDim S1x8x64x64 ![1, 2, 3] bcast_S8x64x64_S1x8x64x64_1_2_3),
    TRef.nullary (.of main_while1b_call19_c : TRef sig ⟨S_, .i32⟩) (constantI S_ 32 0#32),
    TRef.nullary (.of main_while1b_call19_c_0 : TRef sig ⟨S_, .i32⟩) (constantI S_ 32 0#32),
    TRef.nullary (.of main_while1b_call19_c_1 : TRef sig ⟨S_, .i32⟩) (constantI S_ 32 0#32),
    TRef.binaryIndexed (.of main_v28_12 : TRef sig ⟨S32x8x64x64, .f32⟩) (.of main_while1b_call19_v0 : TRef sig ⟨S1x8x64x64, .f32⟩) ![(.of main_while1b_v41 : TRef sig ⟨S_, .i32⟩), (.of main_while1b_call19_c : TRef sig ⟨S_, .i32⟩), (.of main_while1b_call19_c_0 : TRef sig ⟨S_, .i32⟩), (.of main_while1b_call19_c_1 : TRef sig ⟨S_, .i32⟩)] (.of main_while1b_v74 : TRef sig ⟨S32x8x64x64, .f32⟩) (fun x u i => Host.dynamicUpdateSlice x u (fun k => (i k (Shape.Idx.first h_S_)).toInt) updateFits_S32x8x64x64_S1x8x64x64) ]
theorem while1Ops0_12_fresh : (while1Ops0_12 : List (HloOp τ sig (Elt F))).Forall fun op => op.fresh = ∅ :=
  forall_fresh_of_map rfl
theorem while1Ops0_12_sub : (while1Ops0_12 : List (HloOp τ sig (Elt F))).Forall fun op => op.bufs ⊆ tcRefs τ sig :=
  ⟨unary_bufs_sub .., nullary_bufs_sub .., nullary_bufs_sub .., nullary_bufs_sub .., binaryIndexed_bufs_sub ..⟩
abbrev while1Ops0_13 : List (HloOp τ sig (Elt F)) :=
  [ TRef.unary (.of main_while1b_v66 : TRef sig ⟨S8x64x128, .f32⟩) (.of main_while1b_call20_v0 : TRef sig ⟨S1x8x64x128, .f32⟩) (broadcastInDim S1x8x64x128 ![1, 2, 3] bcast_S8x64x128_S1x8x64x128_1_2_3),
    TRef.nullary (.of main_while1b_call20_c : TRef sig ⟨S_, .i32⟩) (constantI S_ 32 0#32),
    TRef.nullary (.of main_while1b_call20_c_0 : TRef sig ⟨S_, .i32⟩) (constantI S_ 32 0#32),
    TRef.nullary (.of main_while1b_call20_c_1 : TRef sig ⟨S_, .i32⟩) (constantI S_ 32 0#32),
    TRef.binaryIndexed (.of main_v28_13 : TRef sig ⟨S32x8x64x128, .f32⟩) (.of main_while1b_call20_v0 : TRef sig ⟨S1x8x64x128, .f32⟩) ![(.of main_while1b_v41 : TRef sig ⟨S_, .i32⟩), (.of main_while1b_call20_c : TRef sig ⟨S_, .i32⟩), (.of main_while1b_call20_c_0 : TRef sig ⟨S_, .i32⟩), (.of main_while1b_call20_c_1 : TRef sig ⟨S_, .i32⟩)] (.of main_while1b_v75 : TRef sig ⟨S32x8x64x128, .f32⟩) (fun x u i => Host.dynamicUpdateSlice x u (fun k => (i k (Shape.Idx.first h_S_)).toInt) updateFits_S32x8x64x128_S1x8x64x128) ]
theorem while1Ops0_13_fresh : (while1Ops0_13 : List (HloOp τ sig (Elt F))).Forall fun op => op.fresh = ∅ :=
  forall_fresh_of_map rfl
theorem while1Ops0_13_sub : (while1Ops0_13 : List (HloOp τ sig (Elt F))).Forall fun op => op.bufs ⊆ tcRefs τ sig :=
  ⟨unary_bufs_sub .., nullary_bufs_sub .., nullary_bufs_sub .., nullary_bufs_sub .., binaryIndexed_bufs_sub ..⟩
abbrev while1Ops0_14 : List (HloOp τ sig (Elt F)) :=
  [ TRef.unary (.of main_while1b_v53 : TRef sig ⟨S8x64x128, .f32⟩) (.of main_while1b_call21_v0 : TRef sig ⟨S1x8x64x128, .f32⟩) (broadcastInDim S1x8x64x128 ![1, 2, 3] bcast_S8x64x128_S1x8x64x128_1_2_3),
    TRef.nullary (.of main_while1b_call21_c : TRef sig ⟨S_, .i32⟩) (constantI S_ 32 0#32),
    TRef.nullary (.of main_while1b_call21_c_0 : TRef sig ⟨S_, .i32⟩) (constantI S_ 32 0#32),
    TRef.nullary (.of main_while1b_call21_c_1 : TRef sig ⟨S_, .i32⟩) (constantI S_ 32 0#32),
    TRef.binaryIndexed (.of main_v28_14 : TRef sig ⟨S32x8x64x128, .f32⟩) (.of main_while1b_call21_v0 : TRef sig ⟨S1x8x64x128, .f32⟩) ![(.of main_while1b_v41 : TRef sig ⟨S_, .i32⟩), (.of main_while1b_call21_c : TRef sig ⟨S_, .i32⟩), (.of main_while1b_call21_c_0 : TRef sig ⟨S_, .i32⟩), (.of main_while1b_call21_c_1 : TRef sig ⟨S_, .i32⟩)] (.of main_while1b_v76 : TRef sig ⟨S32x8x64x128, .f32⟩) (fun x u i => Host.dynamicUpdateSlice x u (fun k => (i k (Shape.Idx.first h_S_)).toInt) updateFits_S32x8x64x128_S1x8x64x128) ]
theorem while1Ops0_14_fresh : (while1Ops0_14 : List (HloOp τ sig (Elt F))).Forall fun op => op.fresh = ∅ :=
  forall_fresh_of_map rfl
theorem while1Ops0_14_sub : (while1Ops0_14 : List (HloOp τ sig (Elt F))).Forall fun op => op.bufs ⊆ tcRefs τ sig :=
  ⟨unary_bufs_sub .., nullary_bufs_sub .., nullary_bufs_sub .., nullary_bufs_sub .., binaryIndexed_bufs_sub ..⟩
abbrev while1Ops0_15 : List (HloOp τ sig (Elt F)) :=
  [ TRef.unary (.of main_while1b_v56 : TRef sig ⟨S8x1x128, .f32⟩) (.of main_while1b_call22_v0 : TRef sig ⟨S1x8x1x128, .f32⟩) (broadcastInDim S1x8x1x128 ![1, 2, 3] bcast_S8x1x128_S1x8x1x128_1_2_3),
    TRef.nullary (.of main_while1b_call22_c : TRef sig ⟨S_, .i32⟩) (constantI S_ 32 0#32),
    TRef.nullary (.of main_while1b_call22_c_0 : TRef sig ⟨S_, .i32⟩) (constantI S_ 32 0#32),
    TRef.nullary (.of main_while1b_call22_c_1 : TRef sig ⟨S_, .i32⟩) (constantI S_ 32 0#32),
    TRef.binaryIndexed (.of main_v28_15 : TRef sig ⟨S32x8x1x128, .f32⟩) (.of main_while1b_call22_v0 : TRef sig ⟨S1x8x1x128, .f32⟩) ![(.of main_while1b_v41 : TRef sig ⟨S_, .i32⟩), (.of main_while1b_call22_c : TRef sig ⟨S_, .i32⟩), (.of main_while1b_call22_c_0 : TRef sig ⟨S_, .i32⟩), (.of main_while1b_call22_c_1 : TRef sig ⟨S_, .i32⟩)] (.of main_while1b_v77 : TRef sig ⟨S32x8x1x128, .f32⟩) (fun x u i => Host.dynamicUpdateSlice x u (fun k => (i k (Shape.Idx.first h_S_)).toInt) updateFits_S32x8x1x128_S1x8x1x128) ]
theorem while1Ops0_15_fresh : (while1Ops0_15 : List (HloOp τ sig (Elt F))).Forall fun op => op.fresh = ∅ :=
  forall_fresh_of_map rfl
theorem while1Ops0_15_sub : (while1Ops0_15 : List (HloOp τ sig (Elt F))).Forall fun op => op.bufs ⊆ tcRefs τ sig :=
  ⟨unary_bufs_sub .., nullary_bufs_sub .., nullary_bufs_sub .., nullary_bufs_sub .., binaryIndexed_bufs_sub ..⟩
abbrev while1Ops0_16 : List (HloOp τ sig (Elt F)) :=
  [ nullary main_while1b_c_30 (constantI S_ 32 1#32),
    binary main_v28_8 main_while1b_c_30 main_while1b_v78 (addi : (⟨S_, .i32⟩ : BufTy).Contents (Elt F) → (⟨S_, .i32⟩ : BufTy).Contents (Elt F) → (⟨S_, .i32⟩ : BufTy).Contents (Elt F)),
    unary main_while1b_v78 main_v28_8 id,
    unary main_while1b_v70 main_v28_9 id,
    unary main_while1b_v72 main_v28_10 id,
    unary main_while1b_v73 main_v28_11 id,
    unary main_while1b_v74 main_v28_12 id,
    unary main_while1b_v75 main_v28_13 id,
    unary main_while1b_v76 main_v28_14 id,
    unary main_while1b_v77 main_v28_15 id ]
theorem while1Ops0_16_fresh : (while1Ops0_16 : List (HloOp τ sig (Elt F))).Forall fun op => op.fresh = ∅ :=
  forall_fresh_of_map rfl
theorem while1Ops0_16_sub : (while1Ops0_16 : List (HloOp τ sig (Elt F))).Forall fun op => op.bufs ⊆ tcRefs τ sig :=
  ⟨nullary_bufs_sub .., binary_bufs_sub .., unary_bufs_sub .., unary_bufs_sub .., unary_bufs_sub .., unary_bufs_sub .., unary_bufs_sub .., unary_bufs_sub .., unary_bufs_sub .., unary_bufs_sub ..⟩
theorem while1_body_chain : main_while1_body (F := F) = (Pipeline.chain
  [ seq while1Ops0,
    seq while1Ops0_1,
    seq while1Ops0_2,
    seq while1Ops0_3,
    seq while1Ops0_4,
    seq while1Ops0_5,
    seq while1Ops0_6,
    seq while1Ops0_7,
    seq while1Ops0_8,
    seq while1Ops0_9,
    seq while1Ops0_10,
    seq while1Ops0_11,
    seq while1Ops0_12,
    seq while1Ops0_13,
    seq while1Ops0_14,
    seq while1Ops0_15,
    seq while1Ops0_16 ] : Prog (TpuEff nD τ sig (Elt F) (HostLoop.Sig (Pipeline.Sig Λ₀ (Fin 0) fun p => (pcfgs (F := F) p).Adm) 2) .tc) PUnit) := by
  rewrite [chain_seq_cons, Pipeline.chain_cons, Pipeline.chain_cons, Pipeline.chain_cons, Pipeline.chain_cons, Pipeline.chain_cons, Pipeline.chain_cons, Pipeline.chain_cons, Pipeline.chain_cons, chain_seq_cons, Pipeline.chain_cons, Pipeline.chain_cons, Pipeline.chain_cons, Pipeline.chain_cons, Pipeline.chain_cons, Pipeline.chain_cons, chain_seq_cons]
  chain_rfl

end Cert.ReferenceIdeal.Two

end
-- ==== Proof.RefRun.lean ====
module

public import proofs.«01_k».proof.Proof.RefOps
public import Idealize.ShloMosaic.Lib.Pipeline.Regions
public import Idealize.ShloMosaic.Lib.StableHlo.RunLoop
public import Idealize.ShloMosaic.Lib.StableHlo.RunRead
public import Idealize.ShloMosaic.Lib.Scf.ExitTest
public import Idealize.ShloMosaic.Lib.Scf.Counter

@[expose] public section

noncomputable section

/-! The run of the reference: a stretch, the loop of the forward recurrence, a stretch, the loop of its transpose, a
    stretch. Every execution terminates with every tensor buffer at the fold of the five (`run_fold`). -/

namespace Cert.ReferenceIdeal.Two

open Idealize.ShloMosaic Idealize.ShloMosaic.TcCoe Idealize.ShloMosaic.StableHlo
open Idealize.SL Idealize.SL.RA Idealize.SL.BI Idealize.ShloMosaic.Pipeline
open scoped Idealize.SL.BI
open Idealize.SL.BI.BIBase Idealize.SL.BI.Laws Idealize.SL.ProofMode Idealize.SL.Sem
open Cert.ReferenceIdeal.Gen

variable {F : FTy → Type} [FloatOps F]

/-- The operations of the two loops' conditions. -/
abbrev cond0Ops : List (HloOp τ sig (Elt F)) :=
  [ nullary main_while0c_c_22 (constantI S_ 32 32#32),
    binary main_v15_6 main_while0c_c_22 main_while0c_v40 (cmpi .slt) ]
abbrev cond1Ops : List (HloOp τ sig (Elt F)) :=
  [ nullary main_while1c_c_27 (constantI S_ 32 32#32),
    binary main_v28_8 main_while1c_c_27 main_while1c_v40 (cmpi .slt) ]

/-- The stretches before, between and after the loops, and the loops' bodies. -/
abbrev preI : List (List (HloOp τ sig (Elt F))) := [main_part0_ops0]
abbrev body0I : List (List (HloOp τ sig (Elt F))) := [while0Ops0, while0Ops0_1, while0Ops0_2, while0Ops0_3, while0Ops0_4, while0Ops0_5, while0Ops0_6, while0Ops0_7, while0Ops0_8, while0Ops0_9, while0Ops0_10]
abbrev midI : List (List (HloOp τ sig (Elt F))) := [main_part0_ops1, main_part1_ops0]
abbrev body1I : List (List (HloOp τ sig (Elt F))) := [while1Ops0, while1Ops0_1, while1Ops0_2, while1Ops0_3, while1Ops0_4, while1Ops0_5, while1Ops0_6, while1Ops0_7, while1Ops0_8, while1Ops0_9, while1Ops0_10, while1Ops0_11, while1Ops0_12, while1Ops0_13, while1Ops0_14, while1Ops0_15, while1Ops0_16]
abbrev postI : List (List (HloOp τ sig (Elt F))) := [main_part1_ops1]

theorem hpre : Plain (preI (F := F)) := .cons main_part0_ops0_sub (hf := List.forall_iff_forall_mem.mp main_part0_ops0_fresh) (.nil)
theorem hbody0 : Plain (body0I (F := F)) := .cons while0Ops0_sub (hf := List.forall_iff_forall_mem.mp while0Ops0_fresh) (.cons while0Ops0_1_sub (hf := List.forall_iff_forall_mem.mp while0Ops0_1_fresh) (.cons while0Ops0_2_sub (hf := List.forall_iff_forall_mem.mp while0Ops0_2_fresh) (.cons while0Ops0_3_sub (hf := List.forall_iff_forall_mem.mp while0Ops0_3_fresh) (.cons while0Ops0_4_sub (hf := List.forall_iff_forall_mem.mp while0Ops0_4_fresh) (.cons while0Ops0_5_sub (hf := List.forall_iff_forall_mem.mp while0Ops0_5_fresh) (.cons while0Ops0_6_sub (hf := List.forall_iff_forall_mem.mp while0Ops0_6_fresh) (.cons while0Ops0_7_sub (hf := List.forall_iff_forall_mem.mp while0Ops0_7_fresh) (.cons while0Ops0_8_sub (hf := List.forall_iff_forall_mem.mp while0Ops0_8_fresh) (.cons while0Ops0_9_sub (hf := List.forall_iff_forall_mem.mp while0Ops0_9_fresh) (.cons while0Ops0_10_sub (hf := List.forall_iff_forall_mem.mp while0Ops0_10_fresh) (.nil)))))))))))
theorem hmid : Plain (midI (F := F)) := .cons main_part0_ops1_sub (hf := List.forall_iff_forall_mem.mp main_part0_ops1_fresh) (.cons main_part1_ops0_sub (hf := List.forall_iff_forall_mem.mp main_part1_ops0_fresh) (.nil))
theorem hbody1 : Plain (body1I (F := F)) := .cons while1Ops0_sub (hf := List.forall_iff_forall_mem.mp while1Ops0_fresh) (.cons while1Ops0_1_sub (hf := List.forall_iff_forall_mem.mp while1Ops0_1_fresh) (.cons while1Ops0_2_sub (hf := List.forall_iff_forall_mem.mp while1Ops0_2_fresh) (.cons while1Ops0_3_sub (hf := List.forall_iff_forall_mem.mp while1Ops0_3_fresh) (.cons while1Ops0_4_sub (hf := List.forall_iff_forall_mem.mp while1Ops0_4_fresh) (.cons while1Ops0_5_sub (hf := List.forall_iff_forall_mem.mp while1Ops0_5_fresh) (.cons while1Ops0_6_sub (hf := List.forall_iff_forall_mem.mp while1Ops0_6_fresh) (.cons while1Ops0_7_sub (hf := List.forall_iff_forall_mem.mp while1Ops0_7_fresh) (.cons while1Ops0_8_sub (hf := List.forall_iff_forall_mem.mp while1Ops0_8_fresh) (.cons while1Ops0_9_sub (hf := List.forall_iff_forall_mem.mp while1Ops0_9_fresh) (.cons while1Ops0_10_sub (hf := List.forall_iff_forall_mem.mp while1Ops0_10_fresh) (.cons while1Ops0_11_sub (hf := List.forall_iff_forall_mem.mp while1Ops0_11_fresh) (.cons while1Ops0_12_sub (hf := List.forall_iff_forall_mem.mp while1Ops0_12_fresh) (.cons while1Ops0_13_sub (hf := List.forall_iff_forall_mem.mp while1Ops0_13_fresh) (.cons while1Ops0_14_sub (hf := List.forall_iff_forall_mem.mp while1Ops0_14_fresh) (.cons while1Ops0_15_sub (hf := List.forall_iff_forall_mem.mp while1Ops0_15_fresh) (.cons while1Ops0_16_sub (hf := List.forall_iff_forall_mem.mp while1Ops0_16_fresh) (.nil)))))))))))))))))
theorem hpost : Plain (postI (F := F)) := .cons main_part1_ops1_sub (hf := List.forall_iff_forall_mem.mp main_part1_ops1_fresh) (.nil)

variable (m : (ℓ : Loc nD τ sig) → Buf (Elt F) ℓ) (ρ : Dev nD → PrngReg)

/-- Every buffer at the entry of the first loop, before its `k`-th condition and behind it; the same of the second. -/
abbrev E0 (c : Dev nD) : Valuation τ sig (Elt F) := afterL preI (launchContents m c)
abbrev K0 (k : ℕ) (c : Dev nD) : Valuation τ sig (Elt F) := atTrip cond0Ops body0I (E0 m) k c
abbrev X0 (c : Dev nD) : Valuation τ sig (Elt F) := after cond0Ops (K0 m 32 c)
abbrev E1 (c : Dev nD) : Valuation τ sig (Elt F) := afterL midI (X0 m c)
abbrev K1 (k : ℕ) (c : Dev nD) : Valuation τ sig (Elt F) := atTrip cond1Ops body1I (E1 m) k c
abbrev X1 (c : Dev nD) : Valuation τ sig (Elt F) := after cond1Ops (K1 m 32 c)
/-- Every buffer at the end. -/
abbrev Z (c : Dev nD) : Valuation τ sig (Elt F) := afterL postI (X1 m c)

/-! ## The counters -/

set_option maxRecDepth 100000 in
theorem step0_ctr (X : Valuation τ sig (Elt F)) : afterL body0I (after cond0Ops X) (Proc.devRef .tc main_v15_6)
    = addi (X (Proc.devRef .tc main_v15_6)) (constantI S_ 32 1#32) := by
  simp only [afterL_cons, afterL_nil]
  after_reads_simp
  rfl

set_option maxRecDepth 100000 in
theorem step1_ctr (X : Valuation τ sig (Elt F)) : afterL body1I (after cond1Ops X) (Proc.devRef .tc main_v28_8)
    = addi (X (Proc.devRef .tc main_v28_8)) (constantI S_ 32 1#32) := by
  simp only [afterL_cons, afterL_nil]
  after_reads_simp
  rfl

theorem E0_ctr (V : Valuation τ sig (Elt F)) : afterL preI V (Proc.devRef .tc main_v15_6) = fun _ => (0#32 : BitVec 32) := by
  simp only [afterL_cons, afterL_nil]
  after_reads_simp
  rfl

theorem E1_ctr (V : Valuation τ sig (Elt F)) : afterL midI V (Proc.devRef .tc main_v28_8) = fun _ => (0#32 : BitVec 32) := by
  simp only [afterL_cons, afterL_nil]
  after_reads_simp
  rfl

/-- Before the `k`-th condition the counter is the induction variable at `k`. -/
theorem K0_ctr (W : Dev nD → Valuation τ sig (Elt F)) (c : Dev nD) (hW : W c (Proc.devRef .tc main_v15_6) = fun _ => (0#32 : BitVec 32)) :
    ∀ k, atTrip cond0Ops body0I W k c (Proc.devRef .tc main_v15_6) = fun _ => Scf.iv 0#32 1#32 k
  | 0 => by rw [show atTrip cond0Ops body0I W 0 c = W c from rfl, hW, Scf.iv_zero]
  | k + 1 => by
    rw [show atTrip cond0Ops body0I W (k + 1) c = afterL body0I (after cond0Ops (atTrip cond0Ops body0I W k c)) from rfl, step0_ctr, K0_ctr W c hW k, Scf.iv_succ]
    rfl

theorem K1_ctr (W : Dev nD → Valuation τ sig (Elt F)) (c : Dev nD) (hW : W c (Proc.devRef .tc main_v28_8) = fun _ => (0#32 : BitVec 32)) :
    ∀ k, atTrip cond1Ops body1I W k c (Proc.devRef .tc main_v28_8) = fun _ => Scf.iv 0#32 1#32 k
  | 0 => by rw [show atTrip cond1Ops body1I W 0 c = W c from rfl, hW, Scf.iv_zero]
  | k + 1 => by
    rw [show atTrip cond1Ops body1I W (k + 1) c = afterL body1I (after cond1Ops (atTrip cond1Ops body1I W k c)) from rfl, step1_ctr, K1_ctr W c hW k, Scf.iv_succ]
    rfl

/-! ## The conditions -/

set_option backward.isDefEq.respectTransparency.types false in
theorem cond0_spec (W : Dev nD → Valuation τ sig (Elt F)) (hW : ∀ c, W c (Proc.devRef .tc main_v15_6) = fun _ => (0#32 : BitVec 32)) :
    CondSpec (pcfgs (F := F)) defs₀ loops (main_while0_cond (F := F)) cond0Ops body0I W 32 := by
  intro k hk c bd
  have hctr := K0_ctr W c (hW c) k
  unfold main_while0_cond
  rw [wp_bind]
  iintro ⟨Hb, Hh⟩
  iapply (wp_hlo_within (Variants.lift Variants.none) (c : Thread nD τ) bd Set.univ (sub_ucRefs _ (nullary_bufs_sub ..))) $$ [Hb Hh]
  · isplitl [Hb]; · iexact Hb
    iexact Hh
  iintro ⟨Hb, Hh⟩
  rw [wp_ret]; imodintro
  iapply (wp_hlo_within (Variants.lift Variants.none) (c : Thread nD τ) bd Set.univ (sub_ucRefs _ (binary_bufs_sub ..))) $$ [Hb Hh]
  · isplitl [Hb]; · iexact Hb
    iexact Hh
  iintro ⟨Hb, Hh⟩
  rw [HostLoop.elt_apply, wp_ret]; imodintro
  isplitr
  · ipureintro
    show Iff (IntOp.cmpi .slt (HloOp.result _ (atTrip cond0Ops body0I W k c) main_v15_6 HostLoop.idx0)
        (HloOp.result _ (atTrip cond0Ops body0I W k c) main_while0c_c_22 HostLoop.idx0) = 1#1) (k < 32)
    rw [nullary_result_ne _ _ _ _ (by decide), nullary_result, hctr]
    exact Scf.cmpi_slt_iv_ub_iff (lb := 0#32) (ub := 32#32) (st := 1#32) (by decide) (show k ≤ Scf.trips 0#32 32#32 1#32 from hk)
  isplitl [Hb]; · iexact Hb
  rw [after_cons, after_cons, after_nil]; iexact Hh

set_option backward.isDefEq.respectTransparency.types false in
theorem cond1_spec (W : Dev nD → Valuation τ sig (Elt F)) (hW : ∀ c, W c (Proc.devRef .tc main_v28_8) = fun _ => (0#32 : BitVec 32)) :
    CondSpec (pcfgs (F := F)) defs₀ loops (main_while1_cond (F := F)) cond1Ops body1I W 32 := by
  intro k hk c bd
  have hctr := K1_ctr W c (hW c) k
  unfold main_while1_cond
  rw [wp_bind]
  iintro ⟨Hb, Hh⟩
  iapply (wp_hlo_within (Variants.lift Variants.none) (c : Thread nD τ) bd Set.univ (sub_ucRefs _ (nullary_bufs_sub ..))) $$ [Hb Hh]
  · isplitl [Hb]; · iexact Hb
    iexact Hh
  iintro ⟨Hb, Hh⟩
  rw [wp_ret]; imodintro
  iapply (wp_hlo_within (Variants.lift Variants.none) (c : Thread nD τ) bd Set.univ (sub_ucRefs _ (binary_bufs_sub ..))) $$ [Hb Hh]
  · isplitl [Hb]; · iexact Hb
    iexact Hh
  iintro ⟨Hb, Hh⟩
  rw [HostLoop.elt_apply, wp_ret]; imodintro
  isplitr
  · ipureintro
    show Iff (IntOp.cmpi .slt (HloOp.result _ (atTrip cond1Ops body1I W k c) main_v28_8 HostLoop.idx0)
        (HloOp.result _ (atTrip cond1Ops body1I W k c) main_while1c_c_27 HostLoop.idx0) = 1#1) (k < 32)
    rw [nullary_result_ne _ _ _ _ (by decide), nullary_result, hctr]
    exact Scf.cmpi_slt_iv_ub_iff (lb := 0#32) (ub := 32#32) (st := 1#32) (by decide) (show k ≤ Scf.trips 0#32 32#32 1#32 from hk)
  isplitl [Hb]; · iexact Hb
  rw [after_cons, after_cons, after_nil]; iexact Hh

/-! ## The run -/

-- no kernel region: the ghost state holds nothing
local notation "𝕄" => MT nD τ sig Unit (Elt F) ℕ (Option PUnit) ℕ

abbrev adm : (p : Fin 0) → (pcfgs (F := F) p).Adm := fun p => p.elim0
abbrev tk : Fin 0 → Ticket (Ix := Unit) (Name := ℕ) (U := Option PUnit) (Lvl := ℕ) (nD := nD) (τ := τ) (pcfgs (F := F)) adm := fun j => j.elim0
abbrev Ls : GSem nD τ sig → Finset Unit := fun _ => ∅
abbrev lvs : GSem nD τ sig → Unit → ℕ := fun _ _ => 0

theorem cell_inj : Function.Injective (Pipeline.cellOf (nD := nD) (τ := τ) (Pipeline.pin (pcfgs (F := F)) adm)) :=
  fun k => k.1.elim0

/-- What rides along beside the buffers: the core's `owes`. -/
abbrev Rw (c : Dev nD) : sProp 𝕄 := iprop(∃ W, owes (c : Thread nD τ) (0 : CellTallies nD τ sig Unit) W)

/-- A condition's specification with `Rw` framed through it. -/
theorem framed {cond : Prog (TpuEff nD τ sig (Elt F) (HostLoop.Sig (Pipeline.Sig Λ₀ (Fin 0) fun p => (pcfgs (F := F) p).Adm) 2) .tc) (Elt F .i1)}
    {condOps : List (HloOp τ sig (Elt F))} {bodyI : List (List (HloOp τ sig (Elt F)))} {W : Dev nD → Valuation τ sig (Elt F)} {n : ℕ}
    (h : CondSpec (pcfgs (F := F)) defs₀ loops cond condOps bodyI W n) :
    LoopCond (pcfgs (F := F)) defs₀ Variants.none loops Rw cond condOps bodyI W n := fun k hk c bd => by
  have hc := h k hk c bd
  have hp : ∀ v : Elt F .i1,
      iprop(iprop(⌜v = 1#1 ↔ k < n⌝ ∗ boundary (c : Thread nD τ) ∗ held (c : Thread nD τ) (ucRefs τ sig) (after condOps (atTrip condOps bodyI W k c))) ∗ Rw (F := F) c)
        ⊢ iprop(⌜v = 1#1 ↔ k < n⌝ ∗ boundary (c : Thread nD τ) ∗ held (c : Thread nD τ) (ucRefs τ sig) (after condOps (atTrip condOps bodyI W k c)) ∗ Rw (F := F) c) := fun v => by
    iintro ⟨⟨%hv, Hbd, Hh⟩, HR⟩
    isplitr; · ipureintro; exact hv
    isplitl [Hbd]; · iexact Hbd
    isplitl [Hh] <;> iassumption
  refine BIBase.Entails.trans ?_ (((sep_mono_left hc).trans (wp_frame_r _ _ _)).trans (wp_mono _ _ _ hp))
  iintro ⟨Hbd, Hh, HR⟩
  isplitl [Hbd Hh]; · isplitl [Hbd] <;> iassumption
  iexact HR

/-- The loops as segments. -/
abbrev loop0 : CSeg (pcfgs (F := F)) adm defs₀ Variants.none Ls lvs loops tk :=
  loopSeg _ _ _ _ _ _ _ _ 0 main_while0_cond main_while0_body rfl cond0Ops body0I hbody0 (by rw [while0_body_chain]; rfl) 32 (E0 m) Rw
    (framed (cond0_spec (E0 m) fun c => E0_ctr _))
abbrev loop1 : CSeg (pcfgs (F := F)) adm defs₀ Variants.none Ls lvs loops tk :=
  loopSeg _ _ _ _ _ _ _ _ 1 main_while1_cond main_while1_body rfl cond1Ops body1I hbody1 (by rw [while1_body_chain]; rfl) 32 (E1 m) Rw
    (framed (cond1_spec (E1 m) fun c => E1_ctr _))

/-- @main's segments. -/
def segs : List (CSeg (pcfgs (F := F)) adm defs₀ Variants.none Ls lvs loops tk) :=
  segsOf _ _ _ _ _ _ _ _ Rw preI hpre (launchContents m)
    ++ loop0 m :: (segsOf _ _ _ _ _ _ _ _ Rw midI hmid (X0 m)
    ++ loop1 m :: segsOf _ _ _ _ _ _ _ _ Rw postI hpost (X1 m))

theorem segs_prog : (segs m).map CSeg.prog
    = (preI.map fun ops => (seq ops : Prog (TpuEff nD τ sig (Elt F) (HostLoop.Sig (Pipeline.Sig Λ₀ (Fin 0) fun p => (pcfgs (F := F) p).Adm) 2) .tc) PUnit)) ++ HostLoop.enter 0 :: ((midI.map fun ops => (seq ops : Prog _ PUnit))
      ++ HostLoop.enter 1 :: postI.map fun ops => (seq ops : Prog _ PUnit)) := by
  unfold segs
  rw [List.map_append, List.map_cons, List.map_append, List.map_cons, segsOf_prog, segsOf_prog, segsOf_prog]
  rfl

theorem segs_chains :
    CSeg.Chains (fun c => iprop(held (c : Thread nD τ) (ucRefs τ sig) (launchContents m c) ∗ Rw (F := F) c)) (segs m)
      (fun c => iprop(iprop(held (c : Thread nD τ) (ucRefs τ sig) (Z m c)) ∗ ∃ W, owes (c : Thread nD τ) (0 : CellTallies nD τ sig Unit) W)) := by
  unfold segs
  exact CSeg.Chains.append (segsOf_chains _ _ _ _ _ _ _ _ Rw preI hpre _)
    ⟨fun _ => .rfl, CSeg.Chains.append (segsOf_chains _ _ _ _ _ _ _ _ Rw midI hmid _)
      ⟨fun _ => .rfl, segsOf_chains _ _ _ _ _ _ _ _ Rw postI hpost _⟩⟩

set_option maxRecDepth 100000 in
/-- Every weakly fair execution of @main terminates with every tensor buffer at the fold. -/
theorem run_fold : θ_run (defs (F := F)) (onTc (τ := τ) (main (F := F))) ⟨m, fun _ => 0, ρ⟩
    (fun r => ∀ (c : Dev nD) (b : Ref sig .tc), (Proc.devRef .tc b : DevRef τ sig).isScoped = false →
      r.2.mem ((c.tc : Thread nD τ).loc b) = Z m c (Proc.devRef .tc b)) :=
  Pipeline.θ_run_regions_loop_kit (Ix := Unit) (Name := ℕ) (U := Option PUnit) (Lvl := ℕ) (J := Fin 0) (P := Fin 0) (Val := Elt F)
    (pcfgs (F := F)) adm cell_inj defs₀ Variants.none Ls lvs loops tk m ρ main (segs m)
    (fun c Q => by
      rw [main_chain_windows c]
      show wp _ _ _ (Pipeline.chain ((segs m).map CSeg.prog)) Q ⊢ _
      rw [segs_prog]
      exact .rfl)
    (Pipeline.CSeg.pairwise_disjoint_of_T_empty _ fun s _ => Finset.eq_empty_of_isEmpty s.T)
    (O₀ := 0) (hL := fun _ _ => rfl) (G := fun _ => iprop(emp)) (u₀ := 1)
    (hu₀ := by
      iintro -
      imodintro
      isplitl []
      · rw [Finset.univ_eq_empty, BI.bigSep_empty]; iempintro
      · iapply (show (BI.emp : sProp (MT nD τ sig Unit (Elt F) ℕ (Option PUnit) ℕ)) ⊢ bigSep Finset.univ (fun _ : Dev nD => (BI.emp : sProp (MT nD τ sig Unit (Elt F) ℕ (Option PUnit) ℕ))) from by rw [BI.bigSep_emp_const])
        iempintro)
    (T₀ := fun c => iprop(held (c : Thread nD τ) (ucRefs τ sig) (launchContents m c) ∗ Rw (F := F) c))
    (Tₙ := fun c => iprop(held (c : Thread nD τ) (ucRefs τ sig) (Z m c)))
    (hch := segs_chains m)
    (hinit := by
      refine Pipeline.initEach Ls lvs fun c => ?_
      rw [show unscopedBufs c (fun b => m ((c : Thread nD τ).loc b)) = held (c : Thread nD τ) (ucRefs τ sig) (launchContents m c) from Pipeline.unscopedBufs_held c (launchContents m c)]
      iintro ⟨⟨Hh, -, HO, -, -, -⟩, -⟩
      imodintro
      isplitl [Hh]; · iexact Hh
      iexists ∅; iexact HO)
    (QY := fun c s => ∀ b ∈ ucRefs τ sig, s.mem ((c : Dev nD), b) = Z m c b)
    (hfin := fun c s' => by
      unfold held
      iintro ⟨Hh, HSI⟩
      ihave Hr := (pointsTo_read_all (ucRefs τ sig) (fun b => ((c : Dev nD), b)) (fun b => Z m c b) s') $$ [Hh HSI]
      · isplitl [Hh] <;> iassumption
      icases Hr with ⟨%h, HSI⟩
      imodintro
      isplitr; · ipureintro; exact h
      iexact HSI)
    (hQ := fun _ h c b hb => h c _ (devRef_mem_ucRefs b hb))

end Cert.ReferenceIdeal.Two

end
-- ==== Proof.RefTrips.lean ====
module

public import proofs.«01_k».proof.Proof.RefRun
public import Idealize.ShloMosaic.Lib.StableHlo.RunClose

@[expose] public section

set_option maxRecDepth 100000

noncomputable section

/-! One trip of each of the reference's loops, and the stretches around them, over whatever the buffers hold before. -/

namespace Cert.ReferenceIdeal.Two

open Cert.ReferenceIdeal
open Idealize.ShloMosaic Idealize.ShloMosaic.TcCoe Idealize.ShloMosaic.StableHlo
open Cert.ReferenceIdeal.Gen

variable {F : FTy → Type} [FloatOps F]

/-! ## Reading and writing one entry of a stack -/

/-- The start of entry `i` of a stack. -/
def start (i : (⟨S_, .i32⟩ : BufTy).Contents (Elt F)) : Fin 4 → ℤ :=
  fun k => BitVec.toInt ((![i, constantI S_ 32 0#32, constantI S_ 32 0#32, constantI S_ 32 0#32] : Fin 4 → (⟨S_, .i32⟩ : BufTy).Contents (Elt F)) k (Shape.Idx.first h_S_))

/-- Entry `i` of a stack of 64x128. -/
def getR (x : (⟨S32x8x64x128, .f32⟩ : BufTy).Contents (Elt F)) (i : (⟨S_, .i32⟩ : BufTy).Contents (Elt F)) : (⟨S8x64x128, .f32⟩ : BufTy).Contents (Elt F) :=
  fun j => shapeCast S8x64x128 (Host.dynamicSlice S1x8x64x128 x (start i) sliceFits_S32x8x64x128_S1x8x64x128) shapeCasts_S1x8x64x128_S8x64x128 j
/-- A stack of 64x128 with `y` for entry `i`. -/
def setR (x : (⟨S32x8x64x128, .f32⟩ : BufTy).Contents (Elt F)) (y : (⟨S8x64x128, .f32⟩ : BufTy).Contents (Elt F)) (i : (⟨S_, .i32⟩ : BufTy).Contents (Elt F)) : (⟨S32x8x64x128, .f32⟩ : BufTy).Contents (Elt F) :=
  Host.dynamicUpdateSlice x (broadcastInDim S1x8x64x128 ![1, 2, 3] bcast_S8x64x128_S1x8x64x128_1_2_3 y) (start i) updateFits_S32x8x64x128_S1x8x64x128

/-- Entry `i` of a stack of 64x64. -/
def getQ (x : (⟨S32x8x64x64, .f32⟩ : BufTy).Contents (Elt F)) (i : (⟨S_, .i32⟩ : BufTy).Contents (Elt F)) : (⟨S8x64x64, .f32⟩ : BufTy).Contents (Elt F) :=
  fun j => shapeCast S8x64x64 (Host.dynamicSlice S1x8x64x64 x (start i) sliceFits_S32x8x64x64_S1x8x64x64) shapeCasts_S1x8x64x64_S8x64x64 j
/-- A stack of 64x64 with `y` for entry `i`. -/
def setQ (x : (⟨S32x8x64x64, .f32⟩ : BufTy).Contents (Elt F)) (y : (⟨S8x64x64, .f32⟩ : BufTy).Contents (Elt F)) (i : (⟨S_, .i32⟩ : BufTy).Contents (Elt F)) : (⟨S32x8x64x64, .f32⟩ : BufTy).Contents (Elt F) :=
  Host.dynamicUpdateSlice x (broadcastInDim S1x8x64x64 ![1, 2, 3] bcast_S8x64x64_S1x8x64x64_1_2_3 y) (start i) updateFits_S32x8x64x64_S1x8x64x64

/-- Entry `i` of a stack of 128x128. -/
def getS (x : (⟨S32x8x128x128, .f32⟩ : BufTy).Contents (Elt F)) (i : (⟨S_, .i32⟩ : BufTy).Contents (Elt F)) : (⟨S8x128x128, .f32⟩ : BufTy).Contents (Elt F) :=
  fun j => shapeCast S8x128x128 (Host.dynamicSlice S1x8x128x128 x (start i) sliceFits_S32x8x128x128_S1x8x128x128) shapeCasts_S1x8x128x128_S8x128x128 j
/-- A stack of 128x128 with `y` for entry `i`. -/
def setS (x : (⟨S32x8x128x128, .f32⟩ : BufTy).Contents (Elt F)) (y : (⟨S8x128x128, .f32⟩ : BufTy).Contents (Elt F)) (i : (⟨S_, .i32⟩ : BufTy).Contents (Elt F)) : (⟨S32x8x128x128, .f32⟩ : BufTy).Contents (Elt F) :=
  Host.dynamicUpdateSlice x (broadcastInDim S1x8x128x128 ![1, 2, 3] bcast_S8x128x128_S1x8x128x128_1_2_3 y) (start i) updateFits_S32x8x128x128_S1x8x128x128

/-- Entry `i` of a stack of 1x128. -/
def getE (x : (⟨S32x8x1x128, .f32⟩ : BufTy).Contents (Elt F)) (i : (⟨S_, .i32⟩ : BufTy).Contents (Elt F)) : (⟨S8x1x128, .f32⟩ : BufTy).Contents (Elt F) :=
  fun j => shapeCast S8x1x128 (Host.dynamicSlice S1x8x1x128 x (start i) sliceFits_S32x8x1x128_S1x8x1x128) shapeCasts_S1x8x1x128_S8x1x128 j
/-- A stack of 1x128 with `y` for entry `i`. -/
def setE (x : (⟨S32x8x1x128, .f32⟩ : BufTy).Contents (Elt F)) (y : (⟨S8x1x128, .f32⟩ : BufTy).Contents (Elt F)) (i : (⟨S_, .i32⟩ : BufTy).Contents (Elt F)) : (⟨S32x8x1x128, .f32⟩ : BufTy).Contents (Elt F) :=
  Host.dynamicUpdateSlice x (broadcastInDim S1x8x1x128 ![1, 2, 3] bcast_S8x1x128_S1x8x1x128_1_2_3 y) (start i) updateFits_S32x8x1x128_S1x8x1x128

/-! ## A trip of the first loop -/

variable (X : Valuation τ sig (Elt F))

/-- The new values. -/
abbrev vn0 : (⟨S8x64x128, .f32⟩ : BufTy).Contents (Elt F) :=
  subf (getR (X (Proc.devRef .tc main_v15_0)) (X (Proc.devRef .tc main_v15_6)))
    (Host.dotGeneral dot_S8x64x128_S8x128x128_S8x64x128_2_1_1_2_0_0 none (getR (X (Proc.devRef .tc main_v15_1)) (X (Proc.devRef .tc main_v15_6))) (X (Proc.devRef .tc main_v15_7)))
/-- The state after the trip. -/
abbrev st0 : (⟨S8x128x128, .f32⟩ : BufTy).Contents (Elt F) :=
  addf (mulf (X (Proc.devRef .tc main_v15_7)) (broadcastInDim S8x128x128 ![0, 1, 2] bcast_S8x1x128_S8x128x128_0_1_2 (getE (X (Proc.devRef .tc main_v15_5)) (X (Proc.devRef .tc main_v15_6)))))
    (Host.dotGeneral dot_S8x64x128_S8x64x128_S8x128x128_1_1_2_2_0_0 none (getR (X (Proc.devRef .tc main_v15_4)) (X (Proc.devRef .tc main_v15_6))) (vn0 X))

theorem trip0_7 : afterL body0I (after cond0Ops X) (Proc.devRef .tc main_v15_7)
    = st0 X := by
  simp only [afterL_cons, afterL_nil]
  after_results_simp_entrywise
  try rfl

theorem trip0_9 : afterL body0I (after cond0Ops X) (Proc.devRef .tc main_v15_9)
    = setS (X (Proc.devRef .tc main_v15_9)) (X (Proc.devRef .tc main_v15_7)) (X (Proc.devRef .tc main_v15_6)) := by
  simp only [afterL_cons, afterL_nil]
  after_results_simp_entrywise
  try rfl

theorem trip0_10 : afterL body0I (after cond0Ops X) (Proc.devRef .tc main_v15_10)
    = setR (X (Proc.devRef .tc main_v15_10)) (vn0 X) (X (Proc.devRef .tc main_v15_6)) := by
  simp only [afterL_cons, afterL_nil]
  after_results_simp_entrywise
  try rfl

/-- What the first loop only reads, or does not touch. -/

theorem trip0_keep_main_v15_0 : afterL body0I (after cond0Ops X) (Proc.devRef .tc main_v15_0)
    = (X (Proc.devRef .tc main_v15_0)) := by
  simp only [afterL_cons, afterL_nil]
  after_results_simp_entrywise
  try rfl

theorem trip0_keep_main_v15_1 : afterL body0I (after cond0Ops X) (Proc.devRef .tc main_v15_1)
    = (X (Proc.devRef .tc main_v15_1)) := by
  simp only [afterL_cons, afterL_nil]
  after_results_simp_entrywise
  try rfl

theorem trip0_keep_main_v15_2 : afterL body0I (after cond0Ops X) (Proc.devRef .tc main_v15_2)
    = (X (Proc.devRef .tc main_v15_2)) := by
  simp only [afterL_cons, afterL_nil]
  after_results_simp_entrywise
  try rfl

theorem trip0_keep_main_v15_3 : afterL body0I (after cond0Ops X) (Proc.devRef .tc main_v15_3)
    = (X (Proc.devRef .tc main_v15_3)) := by
  simp only [afterL_cons, afterL_nil]
  after_results_simp_entrywise
  try rfl

theorem trip0_keep_main_v15_4 : afterL body0I (after cond0Ops X) (Proc.devRef .tc main_v15_4)
    = (X (Proc.devRef .tc main_v15_4)) := by
  simp only [afterL_cons, afterL_nil]
  after_results_simp_entrywise
  try rfl

theorem trip0_keep_main_v15_5 : afterL body0I (after cond0Ops X) (Proc.devRef .tc main_v15_5)
    = (X (Proc.devRef .tc main_v15_5)) := by
  simp only [afterL_cons, afterL_nil]
  after_results_simp_entrywise
  try rfl

theorem trip0_keep_main_v3 : afterL body0I (after cond0Ops X) (Proc.devRef .tc main_v3)
    = (X (Proc.devRef .tc main_v3)) := by
  simp only [afterL_cons, afterL_nil]
  after_results_simp_entrywise
  try rfl

theorem trip0_keep_main_v5 : afterL body0I (after cond0Ops X) (Proc.devRef .tc main_v5)
    = (X (Proc.devRef .tc main_v5)) := by
  simp only [afterL_cons, afterL_nil]
  after_results_simp_entrywise
  try rfl

theorem trip0_keep_main_v7 : afterL body0I (after cond0Ops X) (Proc.devRef .tc main_v7)
    = (X (Proc.devRef .tc main_v7)) := by
  simp only [afterL_cons, afterL_nil]
  after_results_simp_entrywise
  try rfl

theorem trip0_keep_main_v9 : afterL body0I (after cond0Ops X) (Proc.devRef .tc main_v9)
    = (X (Proc.devRef .tc main_v9)) := by
  simp only [afterL_cons, afterL_nil]
  after_results_simp_entrywise
  try rfl

theorem trip0_keep_main_v10 : afterL body0I (after cond0Ops X) (Proc.devRef .tc main_v10)
    = (X (Proc.devRef .tc main_v10)) := by
  simp only [afterL_cons, afterL_nil]
  after_results_simp_entrywise
  try rfl

theorem trip0_keep_main_arg0 : afterL body0I (after cond0Ops X) (Proc.devRef .tc main_arg0)
    = (X (Proc.devRef .tc main_arg0)) := by
  simp only [afterL_cons, afterL_nil]
  after_results_simp_entrywise
  try rfl

theorem trip0_keep_main_arg1 : afterL body0I (after cond0Ops X) (Proc.devRef .tc main_arg1)
    = (X (Proc.devRef .tc main_arg1)) := by
  simp only [afterL_cons, afterL_nil]
  after_results_simp_entrywise
  try rfl

theorem trip0_keep_main_arg2 : afterL body0I (after cond0Ops X) (Proc.devRef .tc main_arg2)
    = (X (Proc.devRef .tc main_arg2)) := by
  simp only [afterL_cons, afterL_nil]
  after_results_simp_entrywise
  try rfl

theorem trip0_keep_main_arg3 : afterL body0I (after cond0Ops X) (Proc.devRef .tc main_arg3)
    = (X (Proc.devRef .tc main_arg3)) := by
  simp only [afterL_cons, afterL_nil]
  after_results_simp_entrywise
  try rfl

theorem trip0_keep_main_arg4 : afterL body0I (after cond0Ops X) (Proc.devRef .tc main_arg4)
    = (X (Proc.devRef .tc main_arg4)) := by
  simp only [afterL_cons, afterL_nil]
  after_results_simp_entrywise
  try rfl

theorem trip0_keep_main_arg5 : afterL body0I (after cond0Ops X) (Proc.devRef .tc main_arg5)
    = (X (Proc.devRef .tc main_arg5)) := by
  simp only [afterL_cons, afterL_nil]
  after_results_simp_entrywise
  try rfl

theorem trip0_keep_main_arg6 : afterL body0I (after cond0Ops X) (Proc.devRef .tc main_arg6)
    = (X (Proc.devRef .tc main_arg6)) := by
  simp only [afterL_cons, afterL_nil]
  after_results_simp_entrywise
  try rfl

/-! ## A trip of the second loop -/

/-- The entry the trip works on. -/
abbrev ix1 : (⟨S_, .i32⟩ : BufTy).Contents (Elt F) := subi (subi (constantI S_ 32 32#32) (X (Proc.devRef .tc main_v28_8))) (constantI S_ 32 1#32)

/-- The cotangent of the new values. -/
abbrev du1 : (⟨S8x64x128, .f32⟩ : BufTy).Contents (Elt F) :=
  addf (transpose S8x64x128 [0, 2, 1] (Host.dotGeneral dot_S8x128x128_S8x64x128_S8x128x64_1_2_2_1_0_0 none (X (Proc.devRef .tc main_v28_9)) (getR (X (Proc.devRef .tc main_v28_7)) (ix1 X))) transposes_S8x128x64_S8x64x128_0_2_1)
    (transpose S8x64x128 [0, 2, 1] (Host.dotGeneral dot_S8x64x128_S8x64x64_S8x128x64_1_1_2_2_0_0 none (getR (X (Proc.devRef .tc main_v28_0)) (ix1 X)) (getQ (X (Proc.devRef .tc main_v28_5)) (ix1 X))) transposes_S8x128x64_S8x64x128_0_2_1)
/-- Its negation. -/
abbrev ndu1 : (⟨S8x64x128, .f32⟩ : BufTy).Contents (Elt F) := Host.negf (du1 X)
/-- The cotangent of w. -/
abbrev dw1 : (⟨S8x64x128, .f32⟩ : BufTy).Contents (Elt F) := (Host.dotGeneral dot_S8x64x128_S8x128x128_S8x64x128_2_2_1_1_0_0 none (ndu1 X) (getS (X (Proc.devRef .tc main_v28_1)) (ix1 X)))
/-- The cotangent of a. -/
abbrev da1 : (⟨S8x64x64, .f32⟩ : BufTy).Contents (Elt F) := (Host.dotGeneral dot_S8x64x128_S8x64x128_S8x64x64_2_2_1_1_0_0 none (getR (X (Proc.devRef .tc main_v28_0)) (ix1 X)) (getR (X (Proc.devRef .tc main_v28_4)) (ix1 X)))
/-- The cotangent of qd. -/
abbrev dqd1 : (⟨S8x64x128, .f32⟩ : BufTy).Contents (Elt F) := (Host.dotGeneral dot_S8x64x128_S8x128x128_S8x64x128_2_2_1_1_0_0 none (getR (X (Proc.devRef .tc main_v28_0)) (ix1 X)) (getS (X (Proc.devRef .tc main_v28_1)) (ix1 X)))
/-- The cotangent of kd. -/
abbrev dkd1 : (⟨S8x64x128, .f32⟩ : BufTy).Contents (Elt F) := (transpose S8x64x128 [0, 2, 1] (Host.dotGeneral dot_S8x128x128_S8x64x128_S8x128x64_2_2_1_1_0_0 none (X (Proc.devRef .tc main_v28_9)) (getR (X (Proc.devRef .tc main_v28_4)) (ix1 X))) transposes_S8x128x64_S8x64x128_0_2_1)
/-- The cotangent of the decay. -/
abbrev degl1 : (⟨S8x1x128, .f32⟩ : BufTy).Contents (Elt F) :=
  fun j => shapeCast S8x1x128 (Host.reduceAdd (mulf (getS (X (Proc.devRef .tc main_v28_1)) (ix1 X)) (X (Proc.devRef .tc main_v28_9))) (constant S_ .f32 0x00000000#32) reducesTo_S8x128x128_S8x128_d1 h_S_) shapeCasts_S8x128_S8x1x128 j
/-- The cotangent of the state before. -/
abbrev dp1 : (⟨S8x128x128, .f32⟩ : BufTy).Contents (Elt F) :=
  addf (addf (mulf (X (Proc.devRef .tc main_v28_9)) (broadcastInDim S8x128x128 ![0, 1, 2] bcast_S8x1x128_S8x128x128_0_1_2 (getE (X (Proc.devRef .tc main_v28_6)) (ix1 X))))
      (transpose S8x128x128 [0, 2, 1] (Host.dotGeneral dot_S8x64x128_S8x64x128_S8x128x128_1_1_2_2_0_0 none (getR (X (Proc.devRef .tc main_v28_0)) (ix1 X)) (getR (X (Proc.devRef .tc main_v28_3)) (ix1 X))) transposes_S8x128x128_S8x128x128_0_2_1))
    (transpose S8x128x128 [0, 2, 1] (Host.dotGeneral dot_S8x64x128_S8x64x128_S8x128x128_1_1_2_2_0_0 none (ndu1 X) (getR (X (Proc.devRef .tc main_v28_2)) (ix1 X))) transposes_S8x128x128_S8x128x128_0_2_1)

theorem trip1_9 : afterL body1I (after cond1Ops X) (Proc.devRef .tc main_v28_9)
    = dp1 X := by
  simp only [afterL_cons, afterL_nil]
  after_results_simp_entrywise
  try rfl

theorem trip1_10 : afterL body1I (after cond1Ops X) (Proc.devRef .tc main_v28_10)
    = setR (X (Proc.devRef .tc main_v28_10)) (du1 X) (ix1 X) := by
  simp only [afterL_cons, afterL_nil]
  after_results_simp_entrywise
  try rfl

theorem trip1_11 : afterL body1I (after cond1Ops X) (Proc.devRef .tc main_v28_11)
    = setR (X (Proc.devRef .tc main_v28_11)) (dw1 X) (ix1 X) := by
  simp only [afterL_cons, afterL_nil]
  after_results_simp_entrywise
  try rfl

theorem trip1_12 : afterL body1I (after cond1Ops X) (Proc.devRef .tc main_v28_12)
    = setQ (X (Proc.devRef .tc main_v28_12)) (da1 X) (ix1 X) := by
  simp only [afterL_cons, afterL_nil]
  after_results_simp_entrywise
  try rfl

theorem trip1_13 : afterL body1I (after cond1Ops X) (Proc.devRef .tc main_v28_13)
    = setR (X (Proc.devRef .tc main_v28_13)) (dqd1 X) (ix1 X) := by
  simp only [afterL_cons, afterL_nil]
  after_results_simp_entrywise
  try rfl

theorem trip1_14 : afterL body1I (after cond1Ops X) (Proc.devRef .tc main_v28_14)
    = setR (X (Proc.devRef .tc main_v28_14)) (dkd1 X) (ix1 X) := by
  simp only [afterL_cons, afterL_nil]
  after_results_simp_entrywise
  try rfl

theorem trip1_15 : afterL body1I (after cond1Ops X) (Proc.devRef .tc main_v28_15)
    = setE (X (Proc.devRef .tc main_v28_15)) (degl1 X) (ix1 X) := by
  simp only [afterL_cons, afterL_nil]
  after_results_simp_entrywise
  try rfl

theorem trip1_keep_main_v28_0 : afterL body1I (after cond1Ops X) (Proc.devRef .tc main_v28_0)
    = (X (Proc.devRef .tc main_v28_0)) := by
  simp only [afterL_cons, afterL_nil]
  after_results_simp_entrywise
  try rfl

theorem trip1_keep_main_v28_1 : afterL body1I (after cond1Ops X) (Proc.devRef .tc main_v28_1)
    = (X (Proc.devRef .tc main_v28_1)) := by
  simp only [afterL_cons, afterL_nil]
  after_results_simp_entrywise
  try rfl

theorem trip1_keep_main_v28_2 : afterL body1I (after cond1Ops X) (Proc.devRef .tc main_v28_2)
    = (X (Proc.devRef .tc main_v28_2)) := by
  simp only [afterL_cons, afterL_nil]
  after_results_simp_entrywise
  try rfl

theorem trip1_keep_main_v28_3 : afterL body1I (after cond1Ops X) (Proc.devRef .tc main_v28_3)
    = (X (Proc.devRef .tc main_v28_3)) := by
  simp only [afterL_cons, afterL_nil]
  after_results_simp_entrywise
  try rfl

theorem trip1_keep_main_v28_4 : afterL body1I (after cond1Ops X) (Proc.devRef .tc main_v28_4)
    = (X (Proc.devRef .tc main_v28_4)) := by
  simp only [afterL_cons, afterL_nil]
  after_results_simp_entrywise
  try rfl

theorem trip1_keep_main_v28_5 : afterL body1I (after cond1Ops X) (Proc.devRef .tc main_v28_5)
    = (X (Proc.devRef .tc main_v28_5)) := by
  simp only [afterL_cons, afterL_nil]
  after_results_simp_entrywise
  try rfl

theorem trip1_keep_main_v28_6 : afterL body1I (after cond1Ops X) (Proc.devRef .tc main_v28_6)
    = (X (Proc.devRef .tc main_v28_6)) := by
  simp only [afterL_cons, afterL_nil]
  after_results_simp_entrywise
  try rfl

theorem trip1_keep_main_v28_7 : afterL body1I (after cond1Ops X) (Proc.devRef .tc main_v28_7)
    = (X (Proc.devRef .tc main_v28_7)) := by
  simp only [afterL_cons, afterL_nil]
  after_results_simp_entrywise
  try rfl

theorem trip1_keep_main_arg0 : afterL body1I (after cond1Ops X) (Proc.devRef .tc main_arg0)
    = (X (Proc.devRef .tc main_arg0)) := by
  simp only [afterL_cons, afterL_nil]
  after_results_simp_entrywise
  try rfl

theorem trip1_keep_main_arg1 : afterL body1I (after cond1Ops X) (Proc.devRef .tc main_arg1)
    = (X (Proc.devRef .tc main_arg1)) := by
  simp only [afterL_cons, afterL_nil]
  after_results_simp_entrywise
  try rfl

theorem trip1_keep_main_arg2 : afterL body1I (after cond1Ops X) (Proc.devRef .tc main_arg2)
    = (X (Proc.devRef .tc main_arg2)) := by
  simp only [afterL_cons, afterL_nil]
  after_results_simp_entrywise
  try rfl

theorem trip1_keep_main_arg3 : afterL body1I (after cond1Ops X) (Proc.devRef .tc main_arg3)
    = (X (Proc.devRef .tc main_arg3)) := by
  simp only [afterL_cons, afterL_nil]
  after_results_simp_entrywise
  try rfl

theorem trip1_keep_main_arg4 : afterL body1I (after cond1Ops X) (Proc.devRef .tc main_arg4)
    = (X (Proc.devRef .tc main_arg4)) := by
  simp only [afterL_cons, afterL_nil]
  after_results_simp_entrywise
  try rfl

theorem trip1_keep_main_arg5 : afterL body1I (after cond1Ops X) (Proc.devRef .tc main_arg5)
    = (X (Proc.devRef .tc main_arg5)) := by
  simp only [afterL_cons, afterL_nil]
  after_results_simp_entrywise
  try rfl

theorem trip1_keep_main_arg6 : afterL body1I (after cond1Ops X) (Proc.devRef .tc main_arg6)
    = (X (Proc.devRef .tc main_arg6)) := by
  simp only [afterL_cons, afterL_nil]
  after_results_simp_entrywise
  try rfl

/-! ## The stretches around the loops -/

/-- The chunks of an array of 128 columns, stacked. -/
def stackR (x : (⟨S8x2048x128, .f32⟩ : BufTy).Contents (Elt F)) : (⟨S32x8x64x128, .f32⟩ : BufTy).Contents (Elt F) :=
  transpose S32x8x64x128 [1, 0, 2, 3] (fun j => shapeCast S8x32x64x128 x shapeCasts_S8x2048x128_S8x32x64x128 j) transposes_S8x32x64x128_S32x8x64x128_1_0_2_3
/-- The chunks of an array of 64 columns, stacked. -/
def stackQ (x : (⟨S8x2048x64, .f32⟩ : BufTy).Contents (Elt F)) : (⟨S32x8x64x64, .f32⟩ : BufTy).Contents (Elt F) :=
  transpose S32x8x64x64 [1, 0, 2, 3] (fun j => shapeCast S8x32x64x64 x shapeCasts_S8x2048x64_S8x32x64x64 j) transposes_S8x32x64x64_S32x8x64x64_1_0_2_3
/-- The decays, stacked. -/
def stackE (x : (⟨S8x32x1x128, .f32⟩ : BufTy).Contents (Elt F)) : (⟨S32x8x1x128, .f32⟩ : BufTy).Contents (Elt F) :=
  transpose S32x8x1x128 [1, 0, 2, 3] x transposes_S8x32x1x128_S32x8x1x128_1_0_2_3
/-- Back from the stack to the array. -/
def unstackR (x : (⟨S32x8x64x128, .f32⟩ : BufTy).Contents (Elt F)) : (⟨S8x2048x128, .f32⟩ : BufTy).Contents (Elt F) :=
  fun j => shapeCast S8x2048x128 (transpose S8x32x64x128 [1, 0, 2, 3] x transposes_S32x8x64x128_S8x32x64x128_1_0_2_3) shapeCasts_S8x32x64x128_S8x2048x128 j
def unstackQ (x : (⟨S32x8x64x64, .f32⟩ : BufTy).Contents (Elt F)) : (⟨S8x2048x64, .f32⟩ : BufTy).Contents (Elt F) :=
  fun j => shapeCast S8x2048x64 (transpose S8x32x64x64 [1, 0, 2, 3] x transposes_S32x8x64x64_S8x32x64x64_1_0_2_3) shapeCasts_S8x32x64x64_S8x2048x64 j
def unstackE (x : (⟨S32x8x1x128, .f32⟩ : BufTy).Contents (Elt F)) : (⟨S8x32x1x128, .f32⟩ : BufTy).Contents (Elt F) :=
  transpose S8x32x1x128 [1, 0, 2, 3] x transposes_S32x8x1x128_S8x32x1x128_1_0_2_3

theorem pre_0 : afterL preI X (Proc.devRef .tc main_v15_0)
    = stackR (X (Proc.devRef .tc main_arg0)) := by
  simp only [afterL_cons, afterL_nil]
  after_results_simp_entrywise
  try rfl

theorem pre_1 : afterL preI X (Proc.devRef .tc main_v15_1)
    = stackR (X (Proc.devRef .tc main_arg1)) := by
  simp only [afterL_cons, afterL_nil]
  after_results_simp_entrywise
  try rfl

theorem pre_2 : afterL preI X (Proc.devRef .tc main_v15_2)
    = stackQ (X (Proc.devRef .tc main_arg2)) := by
  simp only [afterL_cons, afterL_nil]
  after_results_simp_entrywise
  try rfl

theorem pre_3 : afterL preI X (Proc.devRef .tc main_v15_3)
    = stackR (X (Proc.devRef .tc main_arg3)) := by
  simp only [afterL_cons, afterL_nil]
  after_results_simp_entrywise
  try rfl

theorem pre_4 : afterL preI X (Proc.devRef .tc main_v15_4)
    = stackR (X (Proc.devRef .tc main_arg4)) := by
  simp only [afterL_cons, afterL_nil]
  after_results_simp_entrywise
  try rfl

theorem pre_5 : afterL preI X (Proc.devRef .tc main_v15_5)
    = stackE (X (Proc.devRef .tc main_arg5)) := by
  simp only [afterL_cons, afterL_nil]
  after_results_simp_entrywise
  try rfl

theorem pre_7 : afterL preI X (Proc.devRef .tc main_v15_7)
    = broadcastInDim S8x128x128 ![] bcast_S_S8x128x128 (constant S_ .f32 0x00000000#32) := by
  simp only [afterL_cons, afterL_nil]
  after_results_simp_entrywise
  try rfl

theorem pre_v3 : afterL preI X (Proc.devRef .tc main_v3)
    = stackR (X (Proc.devRef .tc main_arg1)) := by
  simp only [afterL_cons, afterL_nil]
  after_results_simp_entrywise
  try rfl

theorem pre_v5 : afterL preI X (Proc.devRef .tc main_v5)
    = stackQ (X (Proc.devRef .tc main_arg2)) := by
  simp only [afterL_cons, afterL_nil]
  after_results_simp_entrywise
  try rfl

theorem pre_v7 : afterL preI X (Proc.devRef .tc main_v7)
    = stackR (X (Proc.devRef .tc main_arg3)) := by
  simp only [afterL_cons, afterL_nil]
  after_results_simp_entrywise
  try rfl

theorem pre_v9 : afterL preI X (Proc.devRef .tc main_v9)
    = stackR (X (Proc.devRef .tc main_arg4)) := by
  simp only [afterL_cons, afterL_nil]
  after_results_simp_entrywise
  try rfl

theorem pre_v10 : afterL preI X (Proc.devRef .tc main_v10)
    = stackE (X (Proc.devRef .tc main_arg5)) := by
  simp only [afterL_cons, afterL_nil]
  after_results_simp_entrywise
  try rfl

theorem pre_arg0 : afterL preI X (Proc.devRef .tc main_arg0)
    = (X (Proc.devRef .tc main_arg0)) := by
  simp only [afterL_cons, afterL_nil]
  after_results_simp_entrywise
  try rfl

theorem pre_arg1 : afterL preI X (Proc.devRef .tc main_arg1)
    = (X (Proc.devRef .tc main_arg1)) := by
  simp only [afterL_cons, afterL_nil]
  after_results_simp_entrywise
  try rfl

theorem pre_arg2 : afterL preI X (Proc.devRef .tc main_arg2)
    = (X (Proc.devRef .tc main_arg2)) := by
  simp only [afterL_cons, afterL_nil]
  after_results_simp_entrywise
  try rfl

theorem pre_arg3 : afterL preI X (Proc.devRef .tc main_arg3)
    = (X (Proc.devRef .tc main_arg3)) := by
  simp only [afterL_cons, afterL_nil]
  after_results_simp_entrywise
  try rfl

theorem pre_arg4 : afterL preI X (Proc.devRef .tc main_arg4)
    = (X (Proc.devRef .tc main_arg4)) := by
  simp only [afterL_cons, afterL_nil]
  after_results_simp_entrywise
  try rfl

theorem pre_arg5 : afterL preI X (Proc.devRef .tc main_arg5)
    = (X (Proc.devRef .tc main_arg5)) := by
  simp only [afterL_cons, afterL_nil]
  after_results_simp_entrywise
  try rfl

theorem pre_arg6 : afterL preI X (Proc.devRef .tc main_arg6)
    = (X (Proc.devRef .tc main_arg6)) := by
  simp only [afterL_cons, afterL_nil]
  after_results_simp_entrywise
  try rfl

theorem mid_0 : afterL midI (after cond0Ops X) (Proc.devRef .tc main_v28_0)
    = stackR (X (Proc.devRef .tc main_arg6)) := by
  simp only [afterL_cons, afterL_nil]
  after_results_simp_entrywise
  try rfl

theorem mid_1 : afterL midI (after cond0Ops X) (Proc.devRef .tc main_v28_1)
    = (X (Proc.devRef .tc main_v15_9)) := by
  simp only [afterL_cons, afterL_nil]
  after_results_simp_entrywise
  try rfl

theorem mid_2 : afterL midI (after cond0Ops X) (Proc.devRef .tc main_v28_2)
    = (X (Proc.devRef .tc main_v3)) := by
  simp only [afterL_cons, afterL_nil]
  after_results_simp_entrywise
  try rfl

theorem mid_3 : afterL midI (after cond0Ops X) (Proc.devRef .tc main_v28_3)
    = (X (Proc.devRef .tc main_v7)) := by
  simp only [afterL_cons, afterL_nil]
  after_results_simp_entrywise
  try rfl

theorem mid_4 : afterL midI (after cond0Ops X) (Proc.devRef .tc main_v28_4)
    = (X (Proc.devRef .tc main_v15_10)) := by
  simp only [afterL_cons, afterL_nil]
  after_results_simp_entrywise
  try rfl

theorem mid_5 : afterL midI (after cond0Ops X) (Proc.devRef .tc main_v28_5)
    = (X (Proc.devRef .tc main_v5)) := by
  simp only [afterL_cons, afterL_nil]
  after_results_simp_entrywise
  try rfl

theorem mid_6 : afterL midI (after cond0Ops X) (Proc.devRef .tc main_v28_6)
    = (X (Proc.devRef .tc main_v10)) := by
  simp only [afterL_cons, afterL_nil]
  after_results_simp_entrywise
  try rfl

theorem mid_7 : afterL midI (after cond0Ops X) (Proc.devRef .tc main_v28_7)
    = (X (Proc.devRef .tc main_v9)) := by
  simp only [afterL_cons, afterL_nil]
  after_results_simp_entrywise
  try rfl

theorem mid_9 : afterL midI (after cond0Ops X) (Proc.devRef .tc main_v28_9)
    = broadcastInDim S8x128x128 ![] bcast_S_S8x128x128 (constant S_ .f32 0x00000000#32) := by
  simp only [afterL_cons, afterL_nil]
  after_results_simp_entrywise
  try rfl

theorem mid_arg0 : afterL midI (after cond0Ops X) (Proc.devRef .tc main_arg0)
    = (X (Proc.devRef .tc main_arg0)) := by
  simp only [afterL_cons, afterL_nil]
  after_results_simp_entrywise
  try rfl

theorem mid_arg1 : afterL midI (after cond0Ops X) (Proc.devRef .tc main_arg1)
    = (X (Proc.devRef .tc main_arg1)) := by
  simp only [afterL_cons, afterL_nil]
  after_results_simp_entrywise
  try rfl

theorem mid_arg2 : afterL midI (after cond0Ops X) (Proc.devRef .tc main_arg2)
    = (X (Proc.devRef .tc main_arg2)) := by
  simp only [afterL_cons, afterL_nil]
  after_results_simp_entrywise
  try rfl

theorem mid_arg3 : afterL midI (after cond0Ops X) (Proc.devRef .tc main_arg3)
    = (X (Proc.devRef .tc main_arg3)) := by
  simp only [afterL_cons, afterL_nil]
  after_results_simp_entrywise
  try rfl

theorem mid_arg4 : afterL midI (after cond0Ops X) (Proc.devRef .tc main_arg4)
    = (X (Proc.devRef .tc main_arg4)) := by
  simp only [afterL_cons, afterL_nil]
  after_results_simp_entrywise
  try rfl

theorem mid_arg5 : afterL midI (after cond0Ops X) (Proc.devRef .tc main_arg5)
    = (X (Proc.devRef .tc main_arg5)) := by
  simp only [afterL_cons, afterL_nil]
  after_results_simp_entrywise
  try rfl

theorem mid_arg6 : afterL midI (after cond0Ops X) (Proc.devRef .tc main_arg6)
    = (X (Proc.devRef .tc main_arg6)) := by
  simp only [afterL_cons, afterL_nil]
  after_results_simp_entrywise
  try rfl

theorem post_main_v39 : afterL postI (after cond1Ops X) (Proc.devRef .tc main_v39)
    = unstackR (X (Proc.devRef .tc main_v28_10)) := by
  simp only [afterL_cons, afterL_nil]
  after_results_simp_entrywise
  try rfl

theorem post_main_v37 : afterL postI (after cond1Ops X) (Proc.devRef .tc main_v37)
    = unstackR (X (Proc.devRef .tc main_v28_11)) := by
  simp only [afterL_cons, afterL_nil]
  after_results_simp_entrywise
  try rfl

theorem post_main_v35 : afterL postI (after cond1Ops X) (Proc.devRef .tc main_v35)
    = unstackQ (X (Proc.devRef .tc main_v28_12)) := by
  simp only [afterL_cons, afterL_nil]
  after_results_simp_entrywise
  try rfl

theorem post_main_v33 : afterL postI (after cond1Ops X) (Proc.devRef .tc main_v33)
    = unstackR (X (Proc.devRef .tc main_v28_13)) := by
  simp only [afterL_cons, afterL_nil]
  after_results_simp_entrywise
  try rfl

theorem post_main_v31 : afterL postI (after cond1Ops X) (Proc.devRef .tc main_v31)
    = unstackR (X (Proc.devRef .tc main_v28_14)) := by
  simp only [afterL_cons, afterL_nil]
  after_results_simp_entrywise
  try rfl

theorem post_main_v29 : afterL postI (after cond1Ops X) (Proc.devRef .tc main_v29)
    = unstackE (X (Proc.devRef .tc main_v28_15)) := by
  simp only [afterL_cons, afterL_nil]
  after_results_simp_entrywise
  try rfl

theorem post_arg0 : afterL postI (after cond1Ops X) (Proc.devRef .tc main_arg0)
    = (X (Proc.devRef .tc main_arg0)) := by
  simp only [afterL_cons, afterL_nil]
  after_results_simp_entrywise
  try rfl

theorem post_arg1 : afterL postI (after cond1Ops X) (Proc.devRef .tc main_arg1)
    = (X (Proc.devRef .tc main_arg1)) := by
  simp only [afterL_cons, afterL_nil]
  after_results_simp_entrywise
  try rfl

theorem post_arg2 : afterL postI (after cond1Ops X) (Proc.devRef .tc main_arg2)
    = (X (Proc.devRef .tc main_arg2)) := by
  simp only [afterL_cons, afterL_nil]
  after_results_simp_entrywise
  try rfl

theorem post_arg3 : afterL postI (after cond1Ops X) (Proc.devRef .tc main_arg3)
    = (X (Proc.devRef .tc main_arg3)) := by
  simp only [afterL_cons, afterL_nil]
  after_results_simp_entrywise
  try rfl

theorem post_arg4 : afterL postI (after cond1Ops X) (Proc.devRef .tc main_arg4)
    = (X (Proc.devRef .tc main_arg4)) := by
  simp only [afterL_cons, afterL_nil]
  after_results_simp_entrywise
  try rfl

theorem post_arg5 : afterL postI (after cond1Ops X) (Proc.devRef .tc main_arg5)
    = (X (Proc.devRef .tc main_arg5)) := by
  simp only [afterL_cons, afterL_nil]
  after_results_simp_entrywise
  try rfl

theorem post_arg6 : afterL postI (after cond1Ops X) (Proc.devRef .tc main_arg6)
    = (X (Proc.devRef .tc main_arg6)) := by
  simp only [afterL_cons, afterL_nil]
  after_results_simp_entrywise
  try rfl

end Cert.ReferenceIdeal.Two

end
-- ==== Proof.RefVals.lean ====
module

public import Idealize.ShloMosaic.Lib.Pipeline.ValueKit
public import proofs.«01_k».proof.Proof.RefTrips
public import proofs.«01_k».proof.Proof.Recurrence

@[expose] public section

set_option maxRecDepth 100000

noncomputable section

/-! The trips of the reference's loops, read at an index over the extended reals, and what the stacks hold after each
    trip. The results are the gradients of the recurrence (`result_*`). -/

namespace Cert.ReferenceIdeal.Two

open Cert.ReferenceIdeal Cert.Recurrence
open Idealize.ShloMosaic Idealize.ShloMosaic.TcCoe Idealize.ShloMosaic.StableHlo Idealize.ShloMosaic.Tactic
open Cert.ReferenceIdeal.Gen

/-! ## Stacks at an index -/

theorem getR_at (x : (⟨S32x8x64x128, .f32⟩ : BufTy).Contents (Elt Ideal)) (i : (⟨S_, .i32⟩ : BufTy).Contents (Elt Ideal)) (n : Fin 32)
    (hi : BitVec.toInt (i (Shape.Idx.first h_S_)) = n.val) (h : Fin 8) (c : Fin 64) (v : Fin 128) : getR (F := Ideal) x i (ix3 h c v) = x (ix4 n h c v) := by
  have e0 : Host.clampedStart S32x8x64x128 S1x8x64x128 rfl (start i) 0 = n.val := Host.clampedStart_of_le (s := S32x8x64x128) (t := S1x8x64x128) rfl (start i) 0 n.val hi (by have := n.isLt; show n.val + 1 ≤ 32; omega)
  have e1 : Host.clampedStart S32x8x64x128 S1x8x64x128 rfl (start i) 1 = 0 := Host.clampedStart_of_le (s := S32x8x64x128) (t := S1x8x64x128) rfl (start i) 1 0 rfl (by decide)
  have e2 : Host.clampedStart S32x8x64x128 S1x8x64x128 rfl (start i) 2 = 0 := Host.clampedStart_of_le (s := S32x8x64x128) (t := S1x8x64x128) rfl (start i) 2 0 rfl (by decide)
  have e3 : Host.clampedStart S32x8x64x128 S1x8x64x128 rfl (start i) 3 = 0 := Host.clampedStart_of_le (s := S32x8x64x128) (t := S1x8x64x128) rfl (start i) 3 0 rfl (by decide)
  unfold getR
  pointwise []
  simp only [e0, e1, e2, e3, Nat.zero_add, Fin.eta]
  try rfl

theorem setR_at (x : (⟨S32x8x64x128, .f32⟩ : BufTy).Contents (Elt Ideal)) (y : (⟨S8x64x128, .f32⟩ : BufTy).Contents (Elt Ideal)) (i : (⟨S_, .i32⟩ : BufTy).Contents (Elt Ideal)) (n n' : Fin 32)
    (hi : BitVec.toInt (i (Shape.Idx.first h_S_)) = n.val) (h : Fin 8) (c : Fin 64) (v : Fin 128) :
    setR (F := Ideal) x y i (ix4 n' h c v) = if n' = n then y (ix3 h c v) else x (ix4 n' h c v) := by
  have e0 : Host.clampedStart S32x8x64x128 S1x8x64x128 rfl (start i) 0 = n.val := Host.clampedStart_of_le (s := S32x8x64x128) (t := S1x8x64x128) rfl (start i) 0 n.val hi (by have := n.isLt; show n.val + 1 ≤ 32; omega)
  have e1 : Host.clampedStart S32x8x64x128 S1x8x64x128 rfl (start i) 1 = 0 := Host.clampedStart_of_le (s := S32x8x64x128) (t := S1x8x64x128) rfl (start i) 1 0 rfl (by decide)
  have e2 : Host.clampedStart S32x8x64x128 S1x8x64x128 rfl (start i) 2 = 0 := Host.clampedStart_of_le (s := S32x8x64x128) (t := S1x8x64x128) rfl (start i) 2 0 rfl (by decide)
  have e3 : Host.clampedStart S32x8x64x128 S1x8x64x128 rfl (start i) 3 = 0 := Host.clampedStart_of_le (s := S32x8x64x128) (t := S1x8x64x128) rfl (start i) 3 0 rfl (by decide)
  unfold setR
  pointwise []
  simp only [e0, e1, e2, e3, Nat.zero_le, and_true, Nat.sub_zero, Fin.eta]
  by_cases hn : n' = n
  · subst hn; simp
  · have : ¬(n.val ≤ n'.val ∧ n'.val < n.val + 1) := fun hh => hn (Fin.ext (by omega))
    first
      | rw [dif_neg this, if_neg hn]
      | rw [dif_neg (fun q => this q.1), if_neg hn]

theorem getQ_at (x : (⟨S32x8x64x64, .f32⟩ : BufTy).Contents (Elt Ideal)) (i : (⟨S_, .i32⟩ : BufTy).Contents (Elt Ideal)) (n : Fin 32)
    (hi : BitVec.toInt (i (Shape.Idx.first h_S_)) = n.val) (h : Fin 8) (c r : Fin 64) : getQ (F := Ideal) x i (ix3 h c r) = x (ix4 n h c r) := by
  have e0 : Host.clampedStart S32x8x64x64 S1x8x64x64 rfl (start i) 0 = n.val := Host.clampedStart_of_le (s := S32x8x64x64) (t := S1x8x64x64) rfl (start i) 0 n.val hi (by have := n.isLt; show n.val + 1 ≤ 32; omega)
  have e1 : Host.clampedStart S32x8x64x64 S1x8x64x64 rfl (start i) 1 = 0 := Host.clampedStart_of_le (s := S32x8x64x64) (t := S1x8x64x64) rfl (start i) 1 0 rfl (by decide)
  have e2 : Host.clampedStart S32x8x64x64 S1x8x64x64 rfl (start i) 2 = 0 := Host.clampedStart_of_le (s := S32x8x64x64) (t := S1x8x64x64) rfl (start i) 2 0 rfl (by decide)
  have e3 : Host.clampedStart S32x8x64x64 S1x8x64x64 rfl (start i) 3 = 0 := Host.clampedStart_of_le (s := S32x8x64x64) (t := S1x8x64x64) rfl (start i) 3 0 rfl (by decide)
  unfold getQ
  pointwise []
  simp only [e0, e1, e2, e3, Nat.zero_add, Fin.eta]
  try rfl

theorem setQ_at (x : (⟨S32x8x64x64, .f32⟩ : BufTy).Contents (Elt Ideal)) (y : (⟨S8x64x64, .f32⟩ : BufTy).Contents (Elt Ideal)) (i : (⟨S_, .i32⟩ : BufTy).Contents (Elt Ideal)) (n n' : Fin 32)
    (hi : BitVec.toInt (i (Shape.Idx.first h_S_)) = n.val) (h : Fin 8) (c r : Fin 64) :
    setQ (F := Ideal) x y i (ix4 n' h c r) = if n' = n then y (ix3 h c r) else x (ix4 n' h c r) := by
  have e0 : Host.clampedStart S32x8x64x64 S1x8x64x64 rfl (start i) 0 = n.val := Host.clampedStart_of_le (s := S32x8x64x64) (t := S1x8x64x64) rfl (start i) 0 n.val hi (by have := n.isLt; show n.val + 1 ≤ 32; omega)
  have e1 : Host.clampedStart S32x8x64x64 S1x8x64x64 rfl (start i) 1 = 0 := Host.clampedStart_of_le (s := S32x8x64x64) (t := S1x8x64x64) rfl (start i) 1 0 rfl (by decide)
  have e2 : Host.clampedStart S32x8x64x64 S1x8x64x64 rfl (start i) 2 = 0 := Host.clampedStart_of_le (s := S32x8x64x64) (t := S1x8x64x64) rfl (start i) 2 0 rfl (by decide)
  have e3 : Host.clampedStart S32x8x64x64 S1x8x64x64 rfl (start i) 3 = 0 := Host.clampedStart_of_le (s := S32x8x64x64) (t := S1x8x64x64) rfl (start i) 3 0 rfl (by decide)
  unfold setQ
  pointwise []
  simp only [e0, e1, e2, e3, Nat.zero_le, and_true, Nat.sub_zero, Fin.eta]
  by_cases hn : n' = n
  · subst hn; simp
  · have : ¬(n.val ≤ n'.val ∧ n'.val < n.val + 1) := fun hh => hn (Fin.ext (by omega))
    first
      | rw [dif_neg this, if_neg hn]
      | rw [dif_neg (fun q => this q.1), if_neg hn]

theorem getS_at (x : (⟨S32x8x128x128, .f32⟩ : BufTy).Contents (Elt Ideal)) (i : (⟨S_, .i32⟩ : BufTy).Contents (Elt Ideal)) (n : Fin 32)
    (hi : BitVec.toInt (i (Shape.Idx.first h_S_)) = n.val) (h : Fin 8) (k v : Fin 128) : getS (F := Ideal) x i (ix3 h k v) = x (ix4 n h k v) := by
  have e0 : Host.clampedStart S32x8x128x128 S1x8x128x128 rfl (start i) 0 = n.val := Host.clampedStart_of_le (s := S32x8x128x128) (t := S1x8x128x128) rfl (start i) 0 n.val hi (by have := n.isLt; show n.val + 1 ≤ 32; omega)
  have e1 : Host.clampedStart S32x8x128x128 S1x8x128x128 rfl (start i) 1 = 0 := Host.clampedStart_of_le (s := S32x8x128x128) (t := S1x8x128x128) rfl (start i) 1 0 rfl (by decide)
  have e2 : Host.clampedStart S32x8x128x128 S1x8x128x128 rfl (start i) 2 = 0 := Host.clampedStart_of_le (s := S32x8x128x128) (t := S1x8x128x128) rfl (start i) 2 0 rfl (by decide)
  have e3 : Host.clampedStart S32x8x128x128 S1x8x128x128 rfl (start i) 3 = 0 := Host.clampedStart_of_le (s := S32x8x128x128) (t := S1x8x128x128) rfl (start i) 3 0 rfl (by decide)
  unfold getS
  pointwise []
  simp only [e0, e1, e2, e3, Nat.zero_add, Fin.eta]
  try rfl

theorem setS_at (x : (⟨S32x8x128x128, .f32⟩ : BufTy).Contents (Elt Ideal)) (y : (⟨S8x128x128, .f32⟩ : BufTy).Contents (Elt Ideal)) (i : (⟨S_, .i32⟩ : BufTy).Contents (Elt Ideal)) (n n' : Fin 32)
    (hi : BitVec.toInt (i (Shape.Idx.first h_S_)) = n.val) (h : Fin 8) (k v : Fin 128) :
    setS (F := Ideal) x y i (ix4 n' h k v) = if n' = n then y (ix3 h k v) else x (ix4 n' h k v) := by
  have e0 : Host.clampedStart S32x8x128x128 S1x8x128x128 rfl (start i) 0 = n.val := Host.clampedStart_of_le (s := S32x8x128x128) (t := S1x8x128x128) rfl (start i) 0 n.val hi (by have := n.isLt; show n.val + 1 ≤ 32; omega)
  have e1 : Host.clampedStart S32x8x128x128 S1x8x128x128 rfl (start i) 1 = 0 := Host.clampedStart_of_le (s := S32x8x128x128) (t := S1x8x128x128) rfl (start i) 1 0 rfl (by decide)
  have e2 : Host.clampedStart S32x8x128x128 S1x8x128x128 rfl (start i) 2 = 0 := Host.clampedStart_of_le (s := S32x8x128x128) (t := S1x8x128x128) rfl (start i) 2 0 rfl (by decide)
  have e3 : Host.clampedStart S32x8x128x128 S1x8x128x128 rfl (start i) 3 = 0 := Host.clampedStart_of_le (s := S32x8x128x128) (t := S1x8x128x128) rfl (start i) 3 0 rfl (by decide)
  unfold setS
  pointwise []
  simp only [e0, e1, e2, e3, Nat.zero_le, and_true, Nat.sub_zero, Fin.eta]
  by_cases hn : n' = n
  · subst hn; simp
  · have : ¬(n.val ≤ n'.val ∧ n'.val < n.val + 1) := fun hh => hn (Fin.ext (by omega))
    first
      | rw [dif_neg this, if_neg hn]
      | rw [dif_neg (fun q => this q.1), if_neg hn]

theorem getE_at (x : (⟨S32x8x1x128, .f32⟩ : BufTy).Contents (Elt Ideal)) (i : (⟨S_, .i32⟩ : BufTy).Contents (Elt Ideal)) (n : Fin 32)
    (hi : BitVec.toInt (i (Shape.Idx.first h_S_)) = n.val) (h : Fin 8) (v : Fin 128) : getE (F := Ideal) x i (ix3 h 0 v) = x (ix4 n h 0 v) := by
  have e0 : Host.clampedStart S32x8x1x128 S1x8x1x128 rfl (start i) 0 = n.val := Host.clampedStart_of_le (s := S32x8x1x128) (t := S1x8x1x128) rfl (start i) 0 n.val hi (by have := n.isLt; show n.val + 1 ≤ 32; omega)
  have e1 : Host.clampedStart S32x8x1x128 S1x8x1x128 rfl (start i) 1 = 0 := Host.clampedStart_of_le (s := S32x8x1x128) (t := S1x8x1x128) rfl (start i) 1 0 rfl (by decide)
  have e2 : Host.clampedStart S32x8x1x128 S1x8x1x128 rfl (start i) 2 = 0 := Host.clampedStart_of_le (s := S32x8x1x128) (t := S1x8x1x128) rfl (start i) 2 0 rfl (by decide)
  have e3 : Host.clampedStart S32x8x1x128 S1x8x1x128 rfl (start i) 3 = 0 := Host.clampedStart_of_le (s := S32x8x1x128) (t := S1x8x1x128) rfl (start i) 3 0 rfl (by decide)
  unfold getE
  pointwise []
  simp only [e0, e1, e2, e3, Nat.zero_add, Fin.eta]
  try rfl

theorem setE_at (x : (⟨S32x8x1x128, .f32⟩ : BufTy).Contents (Elt Ideal)) (y : (⟨S8x1x128, .f32⟩ : BufTy).Contents (Elt Ideal)) (i : (⟨S_, .i32⟩ : BufTy).Contents (Elt Ideal)) (n n' : Fin 32)
    (hi : BitVec.toInt (i (Shape.Idx.first h_S_)) = n.val) (h : Fin 8) (v : Fin 128) :
    setE (F := Ideal) x y i (ix4 n' h 0 v) = if n' = n then y (ix3 h 0 v) else x (ix4 n' h 0 v) := by
  have e0 : Host.clampedStart S32x8x1x128 S1x8x1x128 rfl (start i) 0 = n.val := Host.clampedStart_of_le (s := S32x8x1x128) (t := S1x8x1x128) rfl (start i) 0 n.val hi (by have := n.isLt; show n.val + 1 ≤ 32; omega)
  have e1 : Host.clampedStart S32x8x1x128 S1x8x1x128 rfl (start i) 1 = 0 := Host.clampedStart_of_le (s := S32x8x1x128) (t := S1x8x1x128) rfl (start i) 1 0 rfl (by decide)
  have e2 : Host.clampedStart S32x8x1x128 S1x8x1x128 rfl (start i) 2 = 0 := Host.clampedStart_of_le (s := S32x8x1x128) (t := S1x8x1x128) rfl (start i) 2 0 rfl (by decide)
  have e3 : Host.clampedStart S32x8x1x128 S1x8x1x128 rfl (start i) 3 = 0 := Host.clampedStart_of_le (s := S32x8x1x128) (t := S1x8x1x128) rfl (start i) 3 0 rfl (by decide)
  unfold setE
  pointwise []
  simp only [e0, e1, e2, e3, Nat.zero_le, and_true, Nat.sub_zero, Fin.eta]
  by_cases hn : n' = n
  · subst hn; simp
  · have : ¬(n.val ≤ n'.val ∧ n'.val < n.val + 1) := fun hh => hn (Fin.ext (by omega))
    first
      | rw [dif_neg this, if_neg hn]
      | rw [dif_neg (fun q => this q.1), if_neg hn]

/-- The chunks of an array are the entries of its stack. -/
theorem stackR_at (X : Arr.Idx → EReal) (n : Fin 32) (h : Fin 8) (c : Fin 64) (v : Fin 128) : stackR (F := Ideal) X (ix4 n h c v) = rows X h n c v := by
  show _ = X (ix3 h (row n c) v)
  unfold stackR
  pointwise [] <;> blk_point [row]
theorem stackQ_at (X : Sq.Idx → EReal) (n : Fin 32) (h : Fin 8) (c r : Fin 64) : stackQ (F := Ideal) X (ix4 n h c r) = sqRows X h n c r := by
  show _ = X (ix3 h (row n c) r)
  unfold stackQ
  pointwise [] <;> blk_point [row]
theorem stackE_at (X : Dec.Idx → EReal) (n : Fin 32) (h : Fin 8) (v : Fin 128) : stackE (F := Ideal) X (ix4 n h 0 v) = dec X h n v := by
  show _ = X (ix4 h n 0 v)
  unfold stackE
  pointwise []
theorem unstackR_at (x : (⟨S32x8x64x128, .f32⟩ : BufTy).Contents (Elt Ideal)) (h : Fin 8) (r : Fin 2048) (v : Fin 128) :
    unstackR (F := Ideal) x (ix3 h r v) = x (ix4 (chunkOf r) h (placeOf r) v) := by
  unfold unstackR
  pointwise []
  try rfl
theorem unstackQ_at (x : (⟨S32x8x64x64, .f32⟩ : BufTy).Contents (Elt Ideal)) (h : Fin 8) (r : Fin 2048) (v : Fin 64) :
    unstackQ (F := Ideal) x (ix3 h r v) = x (ix4 (chunkOf r) h (placeOf r) v) := by
  unfold unstackQ
  pointwise []
  try rfl
theorem unstackE_at (x : (⟨S32x8x1x128, .f32⟩ : BufTy).Contents (Elt Ideal)) (h : Fin 8) (n : Fin 32) (v : Fin 128) : unstackE (F := Ideal) x (ix4 h n 0 v) = x (ix4 n h 0 v) := by
  unfold unstackE
  pointwise []

/-! ## The first loop -/

/-- What the buffers hold before trip `j` of the first loop, `V` being what they held at the start. -/
structure Fwd (V : Valuation τ sig (Elt Ideal)) (j : ℕ) (X : Valuation τ sig (Elt Ideal)) : Prop where
  i0 : (X (Proc.devRef .tc main_v15_0)) = stackR (V (Proc.devRef .tc main_arg0))
  i1 : (X (Proc.devRef .tc main_v15_1)) = stackR (V (Proc.devRef .tc main_arg1))
  i2 : (X (Proc.devRef .tc main_v15_2)) = stackQ (V (Proc.devRef .tc main_arg2))
  i3 : (X (Proc.devRef .tc main_v15_3)) = stackR (V (Proc.devRef .tc main_arg3))
  i4 : (X (Proc.devRef .tc main_v15_4)) = stackR (V (Proc.devRef .tc main_arg4))
  i5 : (X (Proc.devRef .tc main_v15_5)) = stackE (V (Proc.devRef .tc main_arg5))
  v3 : (X (Proc.devRef .tc main_v3)) = stackR (V (Proc.devRef .tc main_arg1))
  v5 : (X (Proc.devRef .tc main_v5)) = stackQ (V (Proc.devRef .tc main_arg2))
  v7 : (X (Proc.devRef .tc main_v7)) = stackR (V (Proc.devRef .tc main_arg3))
  v9 : (X (Proc.devRef .tc main_v9)) = stackR (V (Proc.devRef .tc main_arg4))
  v10 : (X (Proc.devRef .tc main_v10)) = stackE (V (Proc.devRef .tc main_arg5))
  a0 : (X (Proc.devRef .tc main_arg0)) = (V (Proc.devRef .tc main_arg0))
  a1 : (X (Proc.devRef .tc main_arg1)) = (V (Proc.devRef .tc main_arg1))
  a2 : (X (Proc.devRef .tc main_arg2)) = (V (Proc.devRef .tc main_arg2))
  a3 : (X (Proc.devRef .tc main_arg3)) = (V (Proc.devRef .tc main_arg3))
  a4 : (X (Proc.devRef .tc main_arg4)) = (V (Proc.devRef .tc main_arg4))
  a5 : (X (Proc.devRef .tc main_arg5)) = (V (Proc.devRef .tc main_arg5))
  a6 : (X (Proc.devRef .tc main_arg6)) = (V (Proc.devRef .tc main_arg6))
  st : ∀ h k v, (X (Proc.devRef .tc main_v15_7)) (ix3 h k v) = Sseq (V (Proc.devRef .tc main_arg0)) (V (Proc.devRef .tc main_arg1)) (V (Proc.devRef .tc main_arg4)) (V (Proc.devRef .tc main_arg5)) h j k v
  sts : ∀ (n : Fin 32), n.val < j → ∀ h k v, (X (Proc.devRef .tc main_v15_9)) (ix4 n h k v) = Sseq (V (Proc.devRef .tc main_arg0)) (V (Proc.devRef .tc main_arg1)) (V (Proc.devRef .tc main_arg4)) (V (Proc.devRef .tc main_arg5)) h n.val k v
  vns : ∀ (n : Fin 32), n.val < j → ∀ h c v, (X (Proc.devRef .tc main_v15_10)) (ix4 n h c v)
    = vnew (rows (V (Proc.devRef .tc main_arg0)) h n) (rows (V (Proc.devRef .tc main_arg1)) h n) (Sseq (V (Proc.devRef .tc main_arg0)) (V (Proc.devRef .tc main_arg1)) (V (Proc.devRef .tc main_arg4)) (V (Proc.devRef .tc main_arg5)) h n.val) c v

variable {V X : Valuation τ sig (Elt Ideal)}

theorem toInt_iv (n : Fin 32) : (Scf.iv 0#32 1#32 n.val).toInt = (n.val : ℤ) := by
  revert n; decide
theorem toInt_back (n : Fin 32) : (32#32 - Scf.iv 0#32 1#32 n.val - 1#32).toInt = ((back n.val).val : ℤ) := by
  revert n; decide
theorem at_fin (n : Fin 32) : at_ n.val = n := Fin.ext (Nat.mod_eq_of_lt n.isLt)

section
variable {n : Fin 32} (H : Fwd V n.val X) (hc : (X (Proc.devRef .tc main_v15_6)) = fun _ => Scf.iv 0#32 1#32 n.val)
include H hc

theorem vn0_at (h : Fin 8) (c : Fin 64) (v : Fin 128) : vn0 (F := Ideal) X (ix3 h c v) = vnew (rows (V (Proc.devRef .tc main_arg0)) h n) (rows (V (Proc.devRef .tc main_arg1)) h n) (Sseq (V (Proc.devRef .tc main_arg0)) (V (Proc.devRef .tc main_arg1)) (V (Proc.devRef .tc main_arg4)) (V (Proc.devRef .tc main_arg5)) h n.val) c v := by
  have hi : BitVec.toInt ((X (Proc.devRef .tc main_v15_6)) (Shape.Idx.first h_S_)) = n.val := by rw [hc]; exact toInt_iv n
  unfold vn0 vnew
  pointwise []
  simp only [getR_at _ _ n hi, H.i0, H.i1, stackR_at, H.st]

theorem st0_at (h : Fin 8) (k v : Fin 128) : st0 (F := Ideal) X (ix3 h k v) = Sseq (V (Proc.devRef .tc main_arg0)) (V (Proc.devRef .tc main_arg1)) (V (Proc.devRef .tc main_arg4)) (V (Proc.devRef .tc main_arg5)) h (n.val + 1) k v := by
  have hi : BitVec.toInt ((X (Proc.devRef .tc main_v15_6)) (Shape.Idx.first h_S_)) = n.val := by rw [hc]; exact toInt_iv n
  have hs : st0 (F := Ideal) X (ix3 h k v) = (fun (a b : EReal) (f g : Fin 64 → EReal) => a * b + ∑ c : Fin 64, f c * g c) ((X (Proc.devRef .tc main_v15_7)) (ix3 h k v)) (getE (X (Proc.devRef .tc main_v15_5)) (X (Proc.devRef .tc main_v15_6)) (ix3 h 0 v))
      (fun c => getR (X (Proc.devRef .tc main_v15_4)) (X (Proc.devRef .tc main_v15_6)) (ix3 h c k)) (fun c => vn0 (F := Ideal) X (ix3 h c v)) := by
    unfold st0 vn0
    pointwise []
  rw [hs]
  dsimp only
  simp only [H.st, vn0_at H hc, getR_at _ _ n hi, getE_at _ _ n hi, H.i4, H.i5, stackR_at, stackE_at]
  show _ = snext (rows _ h (at_ n.val)) (rows _ h (at_ n.val)) (rows _ h (at_ n.val)) (dec _ h (at_ n.val)) (Sseq (V (Proc.devRef .tc main_arg0)) (V (Proc.devRef .tc main_arg1)) (V (Proc.devRef .tc main_arg4)) (V (Proc.devRef .tc main_arg5)) h n.val) k v
  rw [at_fin]; rfl

/-- A trip keeps it. -/
theorem Fwd.step : Fwd V (n.val + 1) (afterL body0I (after cond0Ops X)) := by
  have hi : BitVec.toInt ((X (Proc.devRef .tc main_v15_6)) (Shape.Idx.first h_S_)) = n.val := by rw [hc]; exact toInt_iv n
  constructor
  · rw [trip0_keep_main_v15_0]; exact H.i0
  · rw [trip0_keep_main_v15_1]; exact H.i1
  · rw [trip0_keep_main_v15_2]; exact H.i2
  · rw [trip0_keep_main_v15_3]; exact H.i3
  · rw [trip0_keep_main_v15_4]; exact H.i4
  · rw [trip0_keep_main_v15_5]; exact H.i5
  · rw [trip0_keep_main_v3]; exact H.v3
  · rw [trip0_keep_main_v5]; exact H.v5
  · rw [trip0_keep_main_v7]; exact H.v7
  · rw [trip0_keep_main_v9]; exact H.v9
  · rw [trip0_keep_main_v10]; exact H.v10
  · rw [trip0_keep_main_arg0]; exact H.a0
  · rw [trip0_keep_main_arg1]; exact H.a1
  · rw [trip0_keep_main_arg2]; exact H.a2
  · rw [trip0_keep_main_arg3]; exact H.a3
  · rw [trip0_keep_main_arg4]; exact H.a4
  · rw [trip0_keep_main_arg5]; exact H.a5
  · rw [trip0_keep_main_arg6]; exact H.a6
  · intro h k v; rw [trip0_7]; exact st0_at H hc h k v
  · intro n' hn h k v
    rw [trip0_9, setS_at _ _ _ n n' hi]
    by_cases e : n' = n
    · subst e; rw [if_pos rfl]; exact H.st h k v
    · rw [if_neg e]; exact H.sts n' (by have : n'.val ≠ n.val := fun q => e (Fin.ext q); omega) h k v
  · intro n' hn h c v
    rw [trip0_10, setR_at _ _ _ n n' hi]
    by_cases e : n' = n
    · subst e; rw [if_pos rfl]; exact vn0_at H hc h c v
    · rw [if_neg e]; exact H.vns n' (by have : n'.val ≠ n.val := fun q => e (Fin.ext q); omega) h c v
end

/-- It holds before the first trip. -/
theorem Fwd.init (V : Valuation τ sig (Elt Ideal)) : Fwd V 0 (afterL preI V) := by
  constructor
  · exact pre_0 V
  · exact pre_1 V
  · exact pre_2 V
  · exact pre_3 V
  · exact pre_4 V
  · exact pre_5 V
  · exact pre_v3 V
  · exact pre_v5 V
  · exact pre_v7 V
  · exact pre_v9 V
  · exact pre_v10 V
  · exact pre_arg0 V
  · exact pre_arg1 V
  · exact pre_arg2 V
  · exact pre_arg3 V
  · exact pre_arg4 V
  · exact pre_arg5 V
  · exact pre_arg6 V
  · intro h k v; rw [pre_7]; pointwise [] <;> rfl
  · intro n hn; exact absurd hn (Nat.not_lt_zero _)
  · intro n hn; exact absurd hn (Nat.not_lt_zero _)

variable (m : (ℓ : Loc nD τ sig) → Buf (Elt Ideal) ℓ) (c : Dev nD)

theorem fwd_all : ∀ j, j ≤ 32 → Fwd (StableHlo.launchContents m c) j (K0 (F := Ideal) m j c)
  | 0, _ => Fwd.init _
  | j + 1, hj => by
    have hn : j < 32 := hj
    exact Fwd.step (n := ⟨j, hn⟩) (fwd_all j (Nat.le_of_lt hn)) (K0_ctr (E0 m) c (E0_ctr _) j)

/-! ## The second loop -/

/-- What the buffers hold before trip `j` of the second loop. -/
structure Bwd (V : Valuation τ sig (Elt Ideal)) (j : ℕ) (X : Valuation τ sig (Elt Ideal)) : Prop where
  i0 : (X (Proc.devRef .tc main_v28_0)) = stackR (V (Proc.devRef .tc main_arg6))
  i2 : (X (Proc.devRef .tc main_v28_2)) = stackR (V (Proc.devRef .tc main_arg1))
  i3 : (X (Proc.devRef .tc main_v28_3)) = stackR (V (Proc.devRef .tc main_arg3))
  i5 : (X (Proc.devRef .tc main_v28_5)) = stackQ (V (Proc.devRef .tc main_arg2))
  i6 : (X (Proc.devRef .tc main_v28_6)) = stackE (V (Proc.devRef .tc main_arg5))
  i7 : (X (Proc.devRef .tc main_v28_7)) = stackR (V (Proc.devRef .tc main_arg4))
  a0 : (X (Proc.devRef .tc main_arg0)) = (V (Proc.devRef .tc main_arg0))
  a1 : (X (Proc.devRef .tc main_arg1)) = (V (Proc.devRef .tc main_arg1))
  a2 : (X (Proc.devRef .tc main_arg2)) = (V (Proc.devRef .tc main_arg2))
  a3 : (X (Proc.devRef .tc main_arg3)) = (V (Proc.devRef .tc main_arg3))
  a4 : (X (Proc.devRef .tc main_arg4)) = (V (Proc.devRef .tc main_arg4))
  a5 : (X (Proc.devRef .tc main_arg5)) = (V (Proc.devRef .tc main_arg5))
  a6 : (X (Proc.devRef .tc main_arg6)) = (V (Proc.devRef .tc main_arg6))
  sts : ∀ (n : Fin 32) h k v, (X (Proc.devRef .tc main_v28_1)) (ix4 n h k v) = Sseq (V (Proc.devRef .tc main_arg0)) (V (Proc.devRef .tc main_arg1)) (V (Proc.devRef .tc main_arg4)) (V (Proc.devRef .tc main_arg5)) h n.val k v
  vns : ∀ (n : Fin 32) h c v, (X (Proc.devRef .tc main_v28_4)) (ix4 n h c v) = vnew (rows (V (Proc.devRef .tc main_arg0)) h n) (rows (V (Proc.devRef .tc main_arg1)) h n) (Sseq (V (Proc.devRef .tc main_arg0)) (V (Proc.devRef .tc main_arg1)) (V (Proc.devRef .tc main_arg4)) (V (Proc.devRef .tc main_arg5)) h n.val) c v
  dst : ∀ h k v, (X (Proc.devRef .tc main_v28_9)) (ix3 h k v) = Dseq (V (Proc.devRef .tc main_arg1)) (V (Proc.devRef .tc main_arg2)) (V (Proc.devRef .tc main_arg3)) (V (Proc.devRef .tc main_arg4)) (V (Proc.devRef .tc main_arg5)) (V (Proc.devRef .tc main_arg6)) h j k v
  du : ∀ (n : Fin 32), 32 - j ≤ n.val → ∀ h (c : Fin 64) (v : Fin 128), (X (Proc.devRef .tc main_v28_10)) (ix4 n h c v)
    = du (sqRows (V (Proc.devRef .tc main_arg2)) h n) (rows (V (Proc.devRef .tc main_arg4)) h n) (rows (V (Proc.devRef .tc main_arg6)) h n) (Dseq (V (Proc.devRef .tc main_arg1)) (V (Proc.devRef .tc main_arg2)) (V (Proc.devRef .tc main_arg3)) (V (Proc.devRef .tc main_arg4)) (V (Proc.devRef .tc main_arg5)) (V (Proc.devRef .tc main_arg6)) h (31 - n.val)) c v
  dw : ∀ (n : Fin 32), 32 - j ≤ n.val → ∀ h (c : Fin 64) (v : Fin 128), (X (Proc.devRef .tc main_v28_11)) (ix4 n h c v)
    = dw (sqRows (V (Proc.devRef .tc main_arg2)) h n) (rows (V (Proc.devRef .tc main_arg4)) h n) (rows (V (Proc.devRef .tc main_arg6)) h n) (Sseq (V (Proc.devRef .tc main_arg0)) (V (Proc.devRef .tc main_arg1)) (V (Proc.devRef .tc main_arg4)) (V (Proc.devRef .tc main_arg5)) h n.val) (Dseq (V (Proc.devRef .tc main_arg1)) (V (Proc.devRef .tc main_arg2)) (V (Proc.devRef .tc main_arg3)) (V (Proc.devRef .tc main_arg4)) (V (Proc.devRef .tc main_arg5)) (V (Proc.devRef .tc main_arg6)) h (31 - n.val)) c v
  da : ∀ (n : Fin 32), 32 - j ≤ n.val → ∀ h (c r : Fin 64), (X (Proc.devRef .tc main_v28_12)) (ix4 n h c r)
    = da (rows (V (Proc.devRef .tc main_arg0)) h n) (rows (V (Proc.devRef .tc main_arg1)) h n) (rows (V (Proc.devRef .tc main_arg6)) h n) (Sseq (V (Proc.devRef .tc main_arg0)) (V (Proc.devRef .tc main_arg1)) (V (Proc.devRef .tc main_arg4)) (V (Proc.devRef .tc main_arg5)) h n.val) c r
  dqd : ∀ (n : Fin 32), 32 - j ≤ n.val → ∀ h (c : Fin 64) (v : Fin 128), (X (Proc.devRef .tc main_v28_13)) (ix4 n h c v)
    = dqd (rows (V (Proc.devRef .tc main_arg6)) h n) (Sseq (V (Proc.devRef .tc main_arg0)) (V (Proc.devRef .tc main_arg1)) (V (Proc.devRef .tc main_arg4)) (V (Proc.devRef .tc main_arg5)) h n.val) c v
  dkd : ∀ (n : Fin 32), 32 - j ≤ n.val → ∀ h (c : Fin 64) (v : Fin 128), (X (Proc.devRef .tc main_v28_14)) (ix4 n h c v)
    = dkd (rows (V (Proc.devRef .tc main_arg0)) h n) (rows (V (Proc.devRef .tc main_arg1)) h n) (Sseq (V (Proc.devRef .tc main_arg0)) (V (Proc.devRef .tc main_arg1)) (V (Proc.devRef .tc main_arg4)) (V (Proc.devRef .tc main_arg5)) h n.val) (Dseq (V (Proc.devRef .tc main_arg1)) (V (Proc.devRef .tc main_arg2)) (V (Proc.devRef .tc main_arg3)) (V (Proc.devRef .tc main_arg4)) (V (Proc.devRef .tc main_arg5)) (V (Proc.devRef .tc main_arg6)) h (31 - n.val)) c v
  degl : ∀ (n : Fin 32), 32 - j ≤ n.val → ∀ h (v : Fin 128), (X (Proc.devRef .tc main_v28_15)) (ix4 n h 0 v)
    = degl (Sseq (V (Proc.devRef .tc main_arg0)) (V (Proc.devRef .tc main_arg1)) (V (Proc.devRef .tc main_arg4)) (V (Proc.devRef .tc main_arg5)) h n.val) (Dseq (V (Proc.devRef .tc main_arg1)) (V (Proc.devRef .tc main_arg2)) (V (Proc.devRef .tc main_arg3)) (V (Proc.devRef .tc main_arg4)) (V (Proc.devRef .tc main_arg5)) (V (Proc.devRef .tc main_arg6)) h (31 - n.val)) v

theorem neg_eq (x : EReal) : -x = 0 - x := (zero_sub x).symm

section
variable {j : Fin 32} {n : Fin 32} (hn : n = back j.val) (H : Bwd V j.val X) (hc : (X (Proc.devRef .tc main_v28_8)) = fun _ => Scf.iv 0#32 1#32 j.val)
include hn H hc

theorem ix1_toInt : BitVec.toInt (ix1 (F := Ideal) X (Shape.Idx.first h_S_)) = n.val := by
  unfold ix1; rw [hc, hn]; exact toInt_back j

theorem du1_at (h : Fin 8) (c : Fin 64) (v : Fin 128) : du1 (F := Ideal) X (ix3 h c v)
    = du (sqRows (V (Proc.devRef .tc main_arg2)) h n) (rows (V (Proc.devRef .tc main_arg4)) h n) (rows (V (Proc.devRef .tc main_arg6)) h n) (Dseq (V (Proc.devRef .tc main_arg1)) (V (Proc.devRef .tc main_arg2)) (V (Proc.devRef .tc main_arg3)) (V (Proc.devRef .tc main_arg4)) (V (Proc.devRef .tc main_arg5)) (V (Proc.devRef .tc main_arg6)) h j.val) c v := by
  have hi := ix1_toInt hn H hc
  unfold du1 du
  pointwise []
  refine congrArg₂ (· + ·) (Finset.sum_congr rfl fun x _ => (mul_comm _ _).trans ?_) (Finset.sum_congr rfl fun x _ => (mul_comm _ _).trans ?_)
    <;> simp only [getR_at _ _ n hi, getQ_at _ _ n hi, H.i0, H.i5, H.i7, stackR_at, stackQ_at, H.dst]

theorem dw1_at (h : Fin 8) (c : Fin 64) (k : Fin 128) : dw1 (F := Ideal) X (ix3 h c k)
    = dw (sqRows (V (Proc.devRef .tc main_arg2)) h n) (rows (V (Proc.devRef .tc main_arg4)) h n) (rows (V (Proc.devRef .tc main_arg6)) h n) (Sseq (V (Proc.devRef .tc main_arg0)) (V (Proc.devRef .tc main_arg1)) (V (Proc.devRef .tc main_arg4)) (V (Proc.devRef .tc main_arg5)) h n.val) (Dseq (V (Proc.devRef .tc main_arg1)) (V (Proc.devRef .tc main_arg2)) (V (Proc.devRef .tc main_arg3)) (V (Proc.devRef .tc main_arg4)) (V (Proc.devRef .tc main_arg5)) (V (Proc.devRef .tc main_arg6)) h j.val) c k := by
  have hi := ix1_toInt hn H hc
  have hs : dw1 (F := Ideal) X (ix3 h c k) = ∑ v : Fin 128, (-du1 (F := Ideal) X (ix3 h c v)) * getS (X (Proc.devRef .tc main_v28_1)) (ix1 X) (ix3 h k v) := by
    unfold dw1 ndu1 du1
    pointwise []
  rw [hs]
  simp only [du1_at hn H hc, getS_at _ _ n hi, H.sts, neg_eq]
  rfl

theorem da1_at (h : Fin 8) (c r : Fin 64) : da1 (F := Ideal) X (ix3 h c r)
    = da (rows (V (Proc.devRef .tc main_arg0)) h n) (rows (V (Proc.devRef .tc main_arg1)) h n) (rows (V (Proc.devRef .tc main_arg6)) h n) (Sseq (V (Proc.devRef .tc main_arg0)) (V (Proc.devRef .tc main_arg1)) (V (Proc.devRef .tc main_arg4)) (V (Proc.devRef .tc main_arg5)) h n.val) c r := by
  have hi := ix1_toInt hn H hc
  unfold da1 da
  pointwise []
  simp only [getR_at _ _ n hi, H.i0, stackR_at, H.vns]

theorem dqd1_at (h : Fin 8) (c : Fin 64) (k : Fin 128) : dqd1 (F := Ideal) X (ix3 h c k) = dqd (rows (V (Proc.devRef .tc main_arg6)) h n) (Sseq (V (Proc.devRef .tc main_arg0)) (V (Proc.devRef .tc main_arg1)) (V (Proc.devRef .tc main_arg4)) (V (Proc.devRef .tc main_arg5)) h n.val) c k := by
  have hi := ix1_toInt hn H hc
  unfold dqd1 dqd
  pointwise []
  simp only [getR_at _ _ n hi, getS_at _ _ n hi, H.i0, stackR_at, H.sts]

theorem dkd1_at (h : Fin 8) (c : Fin 64) (k : Fin 128) : dkd1 (F := Ideal) X (ix3 h c k)
    = dkd (rows (V (Proc.devRef .tc main_arg0)) h n) (rows (V (Proc.devRef .tc main_arg1)) h n) (Sseq (V (Proc.devRef .tc main_arg0)) (V (Proc.devRef .tc main_arg1)) (V (Proc.devRef .tc main_arg4)) (V (Proc.devRef .tc main_arg5)) h n.val) (Dseq (V (Proc.devRef .tc main_arg1)) (V (Proc.devRef .tc main_arg2)) (V (Proc.devRef .tc main_arg3)) (V (Proc.devRef .tc main_arg4)) (V (Proc.devRef .tc main_arg5)) (V (Proc.devRef .tc main_arg6)) h j.val) c k := by
  have hi := ix1_toInt hn H hc
  unfold dkd1 dkd
  pointwise []
  refine Finset.sum_congr rfl fun x _ => (mul_comm _ _).trans ?_
  simp only [getR_at _ _ n hi, H.vns, H.dst]

theorem degl1_at (h : Fin 8) (v : Fin 128) : degl1 (F := Ideal) X (ix3 h 0 v) = degl (Sseq (V (Proc.devRef .tc main_arg0)) (V (Proc.devRef .tc main_arg1)) (V (Proc.devRef .tc main_arg4)) (V (Proc.devRef .tc main_arg5)) h n.val) (Dseq (V (Proc.devRef .tc main_arg1)) (V (Proc.devRef .tc main_arg2)) (V (Proc.devRef .tc main_arg3)) (V (Proc.devRef .tc main_arg4)) (V (Proc.devRef .tc main_arg5)) (V (Proc.devRef .tc main_arg6)) h j.val) v := by
  have hi := ix1_toInt hn H hc
  unfold degl1 degl
  pointwise []
  simp only [getS_at _ _ n hi, H.sts, H.dst]

theorem dp1_at (h : Fin 8) (k v : Fin 128) : dp1 (F := Ideal) X (ix3 h k v) = Dseq (V (Proc.devRef .tc main_arg1)) (V (Proc.devRef .tc main_arg2)) (V (Proc.devRef .tc main_arg3)) (V (Proc.devRef .tc main_arg4)) (V (Proc.devRef .tc main_arg5)) (V (Proc.devRef .tc main_arg6)) h (j.val + 1) k v := by
  have hi := ix1_toInt hn H hc
  have hs : dp1 (F := Ideal) X (ix3 h k v) = (fun (a b : EReal) (f g x y : Fin 64 → EReal) => a * b + ∑ c : Fin 64, f c * g c + ∑ c : Fin 64, x c * -y c)
      ((X (Proc.devRef .tc main_v28_9)) (ix3 h k v)) (getE (X (Proc.devRef .tc main_v28_6)) (ix1 X) (ix3 h 0 v))
      (fun c => getR (X (Proc.devRef .tc main_v28_3)) (ix1 X) (ix3 h c k)) (fun c => getR (X (Proc.devRef .tc main_v28_0)) (ix1 X) (ix3 h c v))
      (fun c => getR (X (Proc.devRef .tc main_v28_2)) (ix1 X) (ix3 h c k)) (fun c => du1 (F := Ideal) X (ix3 h c v)) := by
    unfold dp1 ndu1 du1
    pointwise []
    refine congrArg₂ (· + ·) (congrArg₂ (· + ·) rfl (Finset.sum_congr rfl fun x _ => mul_comm _ _)) (Finset.sum_congr rfl fun x _ => mul_comm _ _)
  rw [hs]
  dsimp only
  simp only [du1_at hn H hc, getR_at _ _ n hi, getE_at _ _ n hi, H.i0, H.i2, H.i3, H.i6, stackR_at, stackE_at, H.dst, neg_eq]
  rw [hn]
  rfl

/-- A trip keeps it. -/
theorem Bwd.step : Bwd V (j.val + 1) (afterL body1I (after cond1Ops X)) := by
  have hi := ix1_toInt hn H hc
  have hj := j.isLt
  have hnv : n.val = 31 - j.val := by rw [hn]; show 31 - j.val % 32 = _; rw [Nat.mod_eq_of_lt hj]
  have hjn : 31 - n.val = j.val := by omega
  constructor
  · rw [trip1_keep_main_v28_0]; exact H.i0
  · rw [trip1_keep_main_v28_2]; exact H.i2
  · rw [trip1_keep_main_v28_3]; exact H.i3
  · rw [trip1_keep_main_v28_5]; exact H.i5
  · rw [trip1_keep_main_v28_6]; exact H.i6
  · rw [trip1_keep_main_v28_7]; exact H.i7
  · rw [trip1_keep_main_arg0]; exact H.a0
  · rw [trip1_keep_main_arg1]; exact H.a1
  · rw [trip1_keep_main_arg2]; exact H.a2
  · rw [trip1_keep_main_arg3]; exact H.a3
  · rw [trip1_keep_main_arg4]; exact H.a4
  · rw [trip1_keep_main_arg5]; exact H.a5
  · rw [trip1_keep_main_arg6]; exact H.a6
  · rw [trip1_keep_main_v28_1]; exact H.sts
  · rw [trip1_keep_main_v28_4]; exact H.vns
  · intro h k v; rw [trip1_9]; exact dp1_at hn H hc h k v
  · intro n' hn' h c v
    rw [trip1_10, setR_at _ _ _ n n' hi]
    by_cases e : n' = n
    · rw [e, if_pos rfl, hjn]; exact du1_at hn H hc h c v
    · rw [if_neg e]; exact H.du n' (by have : n'.val ≠ n.val := fun q => e (Fin.ext q); omega) h c v
  · intro n' hn' h c v
    rw [trip1_11, setR_at _ _ _ n n' hi]
    by_cases e : n' = n
    · rw [e, if_pos rfl, hjn]; exact dw1_at hn H hc h c v
    · rw [if_neg e]; exact H.dw n' (by have : n'.val ≠ n.val := fun q => e (Fin.ext q); omega) h c v
  · intro n' hn' h c r
    rw [trip1_12, setQ_at _ _ _ n n' hi]
    by_cases e : n' = n
    · rw [e, if_pos rfl]; exact da1_at hn H hc h c r
    · rw [if_neg e]; exact H.da n' (by have : n'.val ≠ n.val := fun q => e (Fin.ext q); omega) h c r
  · intro n' hn' h c v
    rw [trip1_13, setR_at _ _ _ n n' hi]
    by_cases e : n' = n
    · rw [e, if_pos rfl]; exact dqd1_at hn H hc h c v
    · rw [if_neg e]; exact H.dqd n' (by have : n'.val ≠ n.val := fun q => e (Fin.ext q); omega) h c v
  · intro n' hn' h c v
    rw [trip1_14, setR_at _ _ _ n n' hi]
    by_cases e : n' = n
    · rw [e, if_pos rfl, hjn]; exact dkd1_at hn H hc h c v
    · rw [if_neg e]; exact H.dkd n' (by have : n'.val ≠ n.val := fun q => e (Fin.ext q); omega) h c v
  · intro n' hn' h v
    rw [trip1_15, setE_at _ _ _ n n' hi]
    by_cases e : n' = n
    · rw [e, if_pos rfl, hjn]; exact degl1_at hn H hc h v
    · rw [if_neg e]; exact H.degl n' (by have : n'.val ≠ n.val := fun q => e (Fin.ext q); omega) h v
end

/-- It holds before the first trip of the second loop. -/
theorem Bwd.init (H : Fwd V 32 X) : Bwd V 0 (afterL midI (after cond0Ops X)) := by
  constructor
  · rw [mid_0, H.a6]
  · rw [mid_2]; exact H.v3
  · rw [mid_3]; exact H.v7
  · rw [mid_5]; exact H.v5
  · rw [mid_6]; exact H.v10
  · rw [mid_7]; exact H.v9
  · rw [mid_arg0]; exact H.a0
  · rw [mid_arg1]; exact H.a1
  · rw [mid_arg2]; exact H.a2
  · rw [mid_arg3]; exact H.a3
  · rw [mid_arg4]; exact H.a4
  · rw [mid_arg5]; exact H.a5
  · rw [mid_arg6]; exact H.a6
  · intro n; rw [mid_1]; exact H.sts n n.isLt
  · intro n; rw [mid_4]; exact H.vns n n.isLt
  · intro h k v; rw [mid_9]; pointwise [] <;> rfl
  · intro n hn; exact absurd n.isLt (by omega)
  · intro n hn; exact absurd n.isLt (by omega)
  · intro n hn; exact absurd n.isLt (by omega)
  · intro n hn; exact absurd n.isLt (by omega)
  · intro n hn; exact absurd n.isLt (by omega)
  · intro n hn; exact absurd n.isLt (by omega)

theorem bwd_all : ∀ j, j ≤ 32 → Bwd (StableHlo.launchContents m c) j (K1 (F := Ideal) m j c)
  | 0, _ => Bwd.init (fwd_all m c 32 le_rfl)
  | j + 1, hj => by
    have hn : j < 32 := hj
    exact Bwd.step (j := ⟨j, hn⟩) rfl (bwd_all j (Nat.le_of_lt hn)) (K1_ctr (E1 m) c (E1_ctr _) j)

/-! ## The results -/

theorem result_main_v39 : Z (F := Ideal) m c (Proc.devRef .tc main_v39) = fun i : S8x2048x128.Idx => gradU (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) i := by
  show afterL postI (after cond1Ops (K1 m 32 c)) (Proc.devRef .tc main_v39) = _
  rw [post_main_v39]
  funext i
  have key : ∀ (h : Fin 8) (r : Fin 2048) (v : Fin 128), unstackR (F := Ideal) (K1 m 32 c (Proc.devRef .tc main_v28_10)) (ix3 h r v) = gradU (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (ix3 h r v) := fun h r v =>
    (unstackR_at _ h r v).trans ((bwd_all m c 32 le_rfl).du (chunkOf r) (by omega) h (placeOf r) v)
  exact (congrArg _ (eq_ix3 i)).trans ((key (i 0) (i 1) (i 2)).trans (congrArg _ (eq_ix3 i).symm))

theorem result_main_v37 : Z (F := Ideal) m c (Proc.devRef .tc main_v37) = fun i : S8x2048x128.Idx => gradW (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) i := by
  show afterL postI (after cond1Ops (K1 m 32 c)) (Proc.devRef .tc main_v37) = _
  rw [post_main_v37]
  funext i
  have key : ∀ (h : Fin 8) (r : Fin 2048) (v : Fin 128), unstackR (F := Ideal) (K1 m 32 c (Proc.devRef .tc main_v28_11)) (ix3 h r v) = gradW (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (ix3 h r v) := fun h r v =>
    (unstackR_at _ h r v).trans ((bwd_all m c 32 le_rfl).dw (chunkOf r) (by omega) h (placeOf r) v)
  exact (congrArg _ (eq_ix3 i)).trans ((key (i 0) (i 1) (i 2)).trans (congrArg _ (eq_ix3 i).symm))

theorem result_main_v35 : Z (F := Ideal) m c (Proc.devRef .tc main_v35) = fun i : S8x2048x64.Idx => gradA (m ((c : Thread nD τ).loc main_arg0)) (m ((c : Thread nD τ).loc main_arg1)) (m ((c : Thread nD τ).loc main_arg4)) (m ((c : Thread nD τ).loc main_arg5)) (m ((c : Thread nD τ).loc main_arg6)) i := by
  show afterL postI (after cond1Ops (K1 m 32 c)) (Proc.devRef .tc main_v35) = _
  rw [post_main_v35]
  funext i
  have key : ∀ (h : Fin 8) (r : Fin 2048) (v : Fin 64), unstackQ (F := Ideal) (K1 m 32 c (Proc.devRef .tc main_v28_12)) (ix3 h r v) = gradA (m ((c : Thread nD τ).loc main_arg0)) (m ((c : Thread nD τ).loc main_arg1)) (m ((c : Thread nD τ).loc main_arg4)) (m ((c : Thread nD τ).loc main_arg5)) (m ((c : Thread nD τ).loc main_arg6)) (ix3 h r v) := fun h r v =>
    (unstackQ_at _ h r v).trans ((bwd_all m c 32 le_rfl).da (chunkOf r) (by omega) h (placeOf r) v)
  exact (congrArg _ (eq_ix3 i)).trans ((key (i 0) (i 1) (i 2)).trans (congrArg _ (eq_ix3 i).symm))

theorem result_main_v33 : Z (F := Ideal) m c (Proc.devRef .tc main_v33) = fun i : S8x2048x128.Idx => gradQD (m ((c : Thread nD τ).loc main_arg0)) (m ((c : Thread nD τ).loc main_arg1)) (m ((c : Thread nD τ).loc main_arg4)) (m ((c : Thread nD τ).loc main_arg5)) (m ((c : Thread nD τ).loc main_arg6)) i := by
  show afterL postI (after cond1Ops (K1 m 32 c)) (Proc.devRef .tc main_v33) = _
  rw [post_main_v33]
  funext i
  have key : ∀ (h : Fin 8) (r : Fin 2048) (v : Fin 128), unstackR (F := Ideal) (K1 m 32 c (Proc.devRef .tc main_v28_13)) (ix3 h r v) = gradQD (m ((c : Thread nD τ).loc main_arg0)) (m ((c : Thread nD τ).loc main_arg1)) (m ((c : Thread nD τ).loc main_arg4)) (m ((c : Thread nD τ).loc main_arg5)) (m ((c : Thread nD τ).loc main_arg6)) (ix3 h r v) := fun h r v =>
    (unstackR_at _ h r v).trans ((bwd_all m c 32 le_rfl).dqd (chunkOf r) (by omega) h (placeOf r) v)
  exact (congrArg _ (eq_ix3 i)).trans ((key (i 0) (i 1) (i 2)).trans (congrArg _ (eq_ix3 i).symm))

theorem result_main_v31 : Z (F := Ideal) m c (Proc.devRef .tc main_v31) = fun i : S8x2048x128.Idx => gradKD (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) i := by
  show afterL postI (after cond1Ops (K1 m 32 c)) (Proc.devRef .tc main_v31) = _
  rw [post_main_v31]
  funext i
  have key : ∀ (h : Fin 8) (r : Fin 2048) (v : Fin 128), unstackR (F := Ideal) (K1 m 32 c (Proc.devRef .tc main_v28_14)) (ix3 h r v) = gradKD (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (ix3 h r v) := fun h r v =>
    (unstackR_at _ h r v).trans ((bwd_all m c 32 le_rfl).dkd (chunkOf r) (by omega) h (placeOf r) v)
  exact (congrArg _ (eq_ix3 i)).trans ((key (i 0) (i 1) (i 2)).trans (congrArg _ (eq_ix3 i).symm))

theorem result_main_v29 : Z (F := Ideal) m c (Proc.devRef .tc main_v29) = fun i : S8x32x1x128.Idx => gradEG (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) i := by
  show afterL postI (after cond1Ops (K1 m 32 c)) (Proc.devRef .tc main_v29) = _
  rw [post_main_v29]
  funext i
  have key : ∀ (h : Fin 8) (n : Fin 32) (v : Fin 128), unstackE (F := Ideal) (K1 m 32 c (Proc.devRef .tc main_v28_15)) (ix4 h n 0 v) = gradEG (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (ix4 h n 0 v) := fun h n v =>
    (unstackE_at _ h n v).trans ((bwd_all m c 32 le_rfl).degl n (by omega) h v)
  have e : i = ix4 (i 0) (i 1) 0 (i 3) := by
    refine (eq_ix4 i).trans ?_
    congr 1; exact Subsingleton.elim (α := Fin 1) _ _
  exact (congrArg _ e).trans ((key (i 0) (i 1) (i 3)).trans (congrArg _ e.symm))

theorem kept_0 : Z (F := Ideal) m c (Proc.devRef .tc main_arg0) = m ((c : Thread nD τ).loc main_arg0) := by
  show afterL postI (after cond1Ops (K1 m 32 c)) (Proc.devRef .tc main_arg0) = _
  rw [post_arg0]
  exact (bwd_all m c 32 le_rfl).a0

theorem kept_1 : Z (F := Ideal) m c (Proc.devRef .tc main_arg1) = m ((c : Thread nD τ).loc main_arg1) := by
  show afterL postI (after cond1Ops (K1 m 32 c)) (Proc.devRef .tc main_arg1) = _
  rw [post_arg1]
  exact (bwd_all m c 32 le_rfl).a1

theorem kept_2 : Z (F := Ideal) m c (Proc.devRef .tc main_arg2) = m ((c : Thread nD τ).loc main_arg2) := by
  show afterL postI (after cond1Ops (K1 m 32 c)) (Proc.devRef .tc main_arg2) = _
  rw [post_arg2]
  exact (bwd_all m c 32 le_rfl).a2

theorem kept_3 : Z (F := Ideal) m c (Proc.devRef .tc main_arg3) = m ((c : Thread nD τ).loc main_arg3) := by
  show afterL postI (after cond1Ops (K1 m 32 c)) (Proc.devRef .tc main_arg3) = _
  rw [post_arg3]
  exact (bwd_all m c 32 le_rfl).a3

theorem kept_4 : Z (F := Ideal) m c (Proc.devRef .tc main_arg4) = m ((c : Thread nD τ).loc main_arg4) := by
  show afterL postI (after cond1Ops (K1 m 32 c)) (Proc.devRef .tc main_arg4) = _
  rw [post_arg4]
  exact (bwd_all m c 32 le_rfl).a4

theorem kept_5 : Z (F := Ideal) m c (Proc.devRef .tc main_arg5) = m ((c : Thread nD τ).loc main_arg5) := by
  show afterL postI (after cond1Ops (K1 m 32 c)) (Proc.devRef .tc main_arg5) = _
  rw [post_arg5]
  exact (bwd_all m c 32 le_rfl).a5

theorem kept_6 : Z (F := Ideal) m c (Proc.devRef .tc main_arg6) = m ((c : Thread nD τ).loc main_arg6) := by
  show afterL postI (after cond1Ops (K1 m 32 c)) (Proc.devRef .tc main_arg6) = _
  rw [post_arg6]
  exact (bwd_all m c 32 le_rfl).a6

end Cert.ReferenceIdeal.Two

end
-- ==== Proof.SameFwd.lean ====
module

public import Idealize.ShloMosaic.PureOps.BitExact
public import proofs.«01_k».proof.Proof.Gen.Kernel
public import proofs.«01_k».proof.Proof.Gen.KernelIdeal

@[expose] public section

set_option maxRecDepth 100000
set_option maxHeartbeats 4000000

noncomputable section

/-! The body of the forward call is the same function in the two programs. -/

namespace Cert.Same

open Idealize.ShloMosaic

theorem fwd : @Cert.Kernel.cc0_gdn_scan Bits _ Cert.Kernel.Gen.facts = @Cert.KernelIdeal.cc0_gdn_scan Bits _ Cert.KernelIdeal.Gen.facts := rfl

end Cert.Same

end
-- ==== Proof.SameBwd.lean ====
module

public import Idealize.ShloMosaic.PureOps.BitExact
public import proofs.«01_k».proof.Proof.Gen.Kernel
public import proofs.«01_k».proof.Proof.Gen.KernelIdeal

@[expose] public section

set_option maxRecDepth 100000
set_option maxHeartbeats 4000000

noncomputable section

/-! The body of the backward call is the same function in the two programs. -/

namespace Cert.Same

open Idealize.ShloMosaic

theorem bwd : @Cert.Kernel.cc1_gdn_scan_bwd Bits _ Cert.Kernel.Gen.facts = @Cert.KernelIdeal.cc1_gdn_scan_bwd Bits _ Cert.KernelIdeal.Gen.facts := rfl

end Cert.Same

end
-- ==== Proof.Same.lean ====
module

public import Idealize.ShloMosaic.PureOps.BitExact
public import proofs.«01_k».proof.Proof.SameFwd
public import proofs.«01_k».proof.Proof.SameBwd

@[expose] public section

set_option maxRecDepth 100000
set_option maxHeartbeats 4000000

noncomputable section

/-! The kernel as printed for the bit-exact instance and as printed for the extended reals are one program: no operation
    was rewritten. -/

namespace Cert.Same

open Idealize.ShloMosaic

theorem bodies : Cert.Kernel.defs₀ (F := Bits) = Cert.KernelIdeal.defs₀ (F := Bits) := by
  unfold Cert.Kernel.defs₀ Cert.KernelIdeal.defs₀
  refine congrArg Defs.onTc ?_
  funext l a
  match l, a with
  | 0, (t, s) => dsimp only; rw [fwd]; rfl
  | 1, (t, s) => dsimp only; rw [bwd]; rfl

theorem table : Cert.Kernel.defs (F := Bits) = Cert.KernelIdeal.defs (F := Bits) := by
  unfold Cert.Kernel.defs Cert.KernelIdeal.defs
  rw [bodies]
  rfl

theorem main : Cert.Kernel.main (F := Bits) = Cert.KernelIdeal.main (F := Bits) := rfl

end Cert.Same

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Regions
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Regions
public import proofs.«01_k».proof.Proof.Gen.KernelIdeal.Points
public import proofs.«01_k».proof.Proof.Gen.ReferenceIdeal
public import proofs.«01_k».proof.Proof.Gen.Kernel2
public import proofs.«01_k».proof.Proof.Gen.Kernel2.Frame
public import proofs.«01_k».proof.Proof.Gen.Kernel2Ideal
public import proofs.«01_k».proof.Proof.Gen.Kernel2Ideal.Frame
public import proofs.«01_k».proof.Proof.Gen.Kernel2Ideal.Value
public import proofs.«01_k».proof.Proof.Gen.Reference2Ideal
public import proofs.«01_k».proof.Proof.Gen.Reference2Ideal.Run
public import proofs.«01_k».proof.Proof.Gen.Kernel3
public import proofs.«01_k».proof.Proof.Gen.Kernel3.Frame
public import proofs.«01_k».proof.Proof.Gen.Kernel3Ideal
public import proofs.«01_k».proof.Proof.Gen.Kernel3Ideal.Frame
public import proofs.«01_k».proof.Proof.Gen.Kernel3Ideal.Value
public import proofs.«01_k».proof.Proof.Gen.Reference3Ideal
public import proofs.«01_k».proof.Proof.Gen.Reference3Ideal.Run
public import proofs.«01_k».proof.Proof.Gen.Kernel4
public import proofs.«01_k».proof.Proof.Gen.Kernel4.Frame
public import proofs.«01_k».proof.Proof.Gen.Kernel4Ideal
public import proofs.«01_k».proof.Proof.Gen.Kernel4Ideal.Frame
public import proofs.«01_k».proof.Proof.Gen.Kernel4Ideal.Value
public import proofs.«01_k».proof.Proof.Gen.Reference4Ideal
public import proofs.«01_k».proof.Proof.Gen.Reference4Ideal.Run
public import proofs.«01_k».proof.Proof.Gen.Kernel5
public import proofs.«01_k».proof.Proof.Gen.Kernel5.Frame
public import proofs.«01_k».proof.Proof.Gen.Kernel5Ideal
public import proofs.«01_k».proof.Proof.Gen.Kernel5Ideal.Frame
public import proofs.«01_k».proof.Proof.Gen.Kernel5Ideal.Value
public import proofs.«01_k».proof.Proof.Gen.Reference5Ideal
public import proofs.«01_k».proof.Proof.Gen.Reference5Ideal.Run
public import proofs.«01_k».proof.Proof.Gen.Kernel6
public import proofs.«01_k».proof.Proof.Gen.Kernel6.Frame
public import proofs.«01_k».proof.Proof.Gen.Kernel6Ideal
public import proofs.«01_k».proof.Proof.Gen.Kernel6Ideal.Frame
public import proofs.«01_k».proof.Proof.Gen.Kernel6Ideal.Value
public import proofs.«01_k».proof.Proof.Gen.Reference6Ideal
public import proofs.«01_k».proof.Proof.Gen.Reference6Ideal.Run
public import proofs.«01_k».proof.Proof.Gen.Kernel7
public import proofs.«01_k».proof.Proof.Gen.Kernel7.Frame
public import proofs.«01_k».proof.Proof.Gen.Kernel7Ideal
public import proofs.«01_k».proof.Proof.Gen.Kernel7Ideal.Frame
public import proofs.«01_k».proof.Proof.Gen.Kernel7Ideal.Value
public import proofs.«01_k».proof.Proof.Gen.Reference7Ideal
public import proofs.«01_k».proof.Proof.Gen.Reference7Ideal.Run
public import proofs.«01_k».proof.Proof.Gen.Kernel8
public import proofs.«01_k».proof.Proof.Gen.Kernel8.Frame
public import proofs.«01_k».proof.Proof.Gen.Kernel8Ideal
public import proofs.«01_k».proof.Proof.Gen.Kernel8Ideal.Frame
public import proofs.«01_k».proof.Proof.Gen.Kernel8Ideal.Value
public import proofs.«01_k».proof.Proof.Gen.Reference8Ideal
public import proofs.«01_k».proof.Proof.Gen.Reference8Ideal.Run
public import proofs.«01_k».proof.Proof.Gen.Kernel9
public import proofs.«01_k».proof.Proof.Gen.Kernel9.Frame
public import proofs.«01_k».proof.Proof.Gen.Kernel9Ideal
public import proofs.«01_k».proof.Proof.Gen.Kernel9Ideal.Frame
public import proofs.«01_k».proof.Proof.Gen.Kernel9Ideal.Value
public import proofs.«01_k».proof.Proof.Gen.Reference9Ideal
public import proofs.«01_k».proof.Proof.Gen.Reference9Ideal.Run
public import proofs.«01_k».proof.Proof.Gen.Kernel10
public import proofs.«01_k».proof.Proof.Gen.Kernel10.Frame
public import proofs.«01_k».proof.Proof.Gen.Kernel10Ideal
public import proofs.«01_k».proof.Proof.Gen.Kernel10Ideal.Frame
public import proofs.«01_k».proof.Proof.Gen.Kernel10Ideal.Value
public import proofs.«01_k».proof.Proof.Gen.Reference10Ideal
public import proofs.«01_k».proof.Proof.Gen.Reference10Ideal.Run
public import proofs.«01_k».proof.Proof.Gen.Kernel11
public import proofs.«01_k».proof.Proof.Gen.Kernel11.Frame
public import proofs.«01_k».proof.Proof.Gen.Kernel11Ideal
public import proofs.«01_k».proof.Proof.Gen.Kernel11Ideal.Frame
public import proofs.«01_k».proof.Proof.Gen.Kernel11Ideal.Value
public import proofs.«01_k».proof.Proof.Gen.Reference11Ideal
public import proofs.«01_k».proof.Proof.Gen.Reference11Ideal.Run
public import proofs.«01_k».proof.Proof.Gen.Kernel12
public import proofs.«01_k».proof.Proof.Gen.Kernel12.Frame
public import proofs.«01_k».proof.Proof.Gen.Kernel12Ideal
public import proofs.«01_k».proof.Proof.Gen.Kernel12Ideal.Frame
public import proofs.«01_k».proof.Proof.Gen.Kernel12Ideal.Value
public import proofs.«01_k».proof.Proof.Gen.Reference12Ideal
public import proofs.«01_k».proof.Proof.Gen.Reference12Ideal.Run
public import proofs.«01_k».proof.Proof.Gen.Kernel13
public import proofs.«01_k».proof.Proof.Gen.Kernel13.Frame
public import proofs.«01_k».proof.Proof.Gen.Kernel13Ideal
public import proofs.«01_k».proof.Proof.Gen.Kernel13Ideal.Frame
public import proofs.«01_k».proof.Proof.Gen.Kernel13Ideal.Value
public import proofs.«01_k».proof.Proof.Gen.Reference13Ideal
public import proofs.«01_k».proof.Proof.Gen.Reference13Ideal.Run
public import proofs.«01_k».proof.Proof.Gen.Kernel14
public import proofs.«01_k».proof.Proof.Gen.Kernel14.Frame
public import proofs.«01_k».proof.Proof.Gen.Kernel14Ideal
public import proofs.«01_k».proof.Proof.Gen.Kernel14Ideal.Frame
public import proofs.«01_k».proof.Proof.Gen.Kernel14Ideal.Value
public import proofs.«01_k».proof.Proof.Gen.Reference14Ideal
public import proofs.«01_k».proof.Proof.Gen.Reference14Ideal.Run
public import proofs.«01_k».proof.Proof.Gen.Kernel15
public import proofs.«01_k».proof.Proof.Gen.Kernel15.Frame
public import proofs.«01_k».proof.Proof.Gen.Kernel15Ideal
public import proofs.«01_k».proof.Proof.Gen.Kernel15Ideal.Frame
public import proofs.«01_k».proof.Proof.Gen.Kernel15Ideal.Value
public import proofs.«01_k».proof.Proof.Gen.Reference15Ideal
public import proofs.«01_k».proof.Proof.Gen.Reference15Ideal.Run
public import proofs.«01_k».proof.Proof.Gen.Kernel16
public import proofs.«01_k».proof.Proof.Gen.Kernel16.Frame
public import proofs.«01_k».proof.Proof.Gen.Kernel16Ideal
public import proofs.«01_k».proof.Proof.Gen.Kernel16Ideal.Frame
public import proofs.«01_k».proof.Proof.Gen.Kernel16Ideal.Value
public import proofs.«01_k».proof.Proof.Gen.Reference16Ideal
public import proofs.«01_k».proof.Proof.Gen.Reference16Ideal.Run
public import proofs.«01_k».proof.Proof.Gen.Kernel17
public import proofs.«01_k».proof.Proof.Gen.Kernel17.Frame
public import proofs.«01_k».proof.Proof.Gen.Kernel17Ideal
public import proofs.«01_k».proof.Proof.Gen.Kernel17Ideal.Frame
public import proofs.«01_k».proof.Proof.Gen.Kernel17Ideal.Value
public import proofs.«01_k».proof.Proof.Gen.Reference17Ideal
public import proofs.«01_k».proof.Proof.Gen.Reference17Ideal.Run
public import proofs.«01_k».proof.Proof.Gen.Kernel18
public import proofs.«01_k».proof.Proof.Gen.Kernel18.Frame
public import proofs.«01_k».proof.Proof.Gen.Kernel18Ideal
public import proofs.«01_k».proof.Proof.Gen.Kernel18Ideal.Frame
public import proofs.«01_k».proof.Proof.Gen.Kernel18Ideal.Value
public import proofs.«01_k».proof.Proof.Gen.Reference18Ideal
public import proofs.«01_k».proof.Proof.Gen.Reference18Ideal.Run
public import proofs.«01_k».proof.Proof.Gen.Kernel19
public import proofs.«01_k».proof.Proof.Gen.Kernel19.Frame
public import proofs.«01_k».proof.Proof.Gen.Kernel19Ideal
public import proofs.«01_k».proof.Proof.Gen.Kernel19Ideal.Frame
public import proofs.«01_k».proof.Proof.Gen.Kernel19Ideal.Value
public import proofs.«01_k».proof.Proof.Gen.Reference19Ideal
public import proofs.«01_k».proof.Proof.Gen.Reference19Ideal.Run
public import proofs.«01_k».proof.Proof.Gen.Kernel20
public import proofs.«01_k».proof.Proof.Gen.Kernel20.Frame
public import proofs.«01_k».proof.Proof.Gen.Kernel20Ideal
public import proofs.«01_k».proof.Proof.Gen.Kernel20Ideal.Frame
public import proofs.«01_k».proof.Proof.Gen.Kernel20Ideal.Value
public import proofs.«01_k».proof.Proof.Gen.Reference20Ideal
public import proofs.«01_k».proof.Proof.Gen.Reference20Ideal.Run
public import proofs.«01_k».proof.Proof.Gen.Kernel21
public import proofs.«01_k».proof.Proof.Gen.Kernel21.Frame
public import proofs.«01_k».proof.Proof.Gen.Kernel21Ideal
public import proofs.«01_k».proof.Proof.Gen.Kernel21Ideal.Frame
public import proofs.«01_k».proof.Proof.Gen.Kernel21Ideal.Value
public import proofs.«01_k».proof.Proof.Gen.Reference21Ideal
public import proofs.«01_k».proof.Proof.Gen.Reference21Ideal.Run
public import proofs.«01_k».proof.Proof.Gen.Kernel22
public import proofs.«01_k».proof.Proof.Gen.Kernel22.Frame
public import proofs.«01_k».proof.Proof.Gen.Kernel22Ideal
public import proofs.«01_k».proof.Proof.Gen.Kernel22Ideal.Frame
public import proofs.«01_k».proof.Proof.Gen.Kernel22Ideal.Value
public import proofs.«01_k».proof.Proof.Gen.Reference22Ideal
public import proofs.«01_k».proof.Proof.Gen.Reference22Ideal.Run
public import proofs.«01_k».proof.Proof.Gen.Kernel23
public import proofs.«01_k».proof.Proof.Gen.Kernel23.Frame
public import proofs.«01_k».proof.Proof.Gen.Kernel23Ideal
public import proofs.«01_k».proof.Proof.Gen.Kernel23Ideal.Frame
public import proofs.«01_k».proof.Proof.Gen.Kernel23Ideal.Value
public import proofs.«01_k».proof.Proof.Gen.Reference23Ideal
public import proofs.«01_k».proof.Proof.Gen.Reference23Ideal.Run
public import proofs.«01_k».proof.Proof.Gen.Kernel24
public import proofs.«01_k».proof.Proof.Gen.Kernel24.Frame
public import proofs.«01_k».proof.Proof.Gen.Kernel24Ideal
public import proofs.«01_k».proof.Proof.Gen.Kernel24Ideal.Frame
public import proofs.«01_k».proof.Proof.Gen.Kernel24Ideal.Value
public import proofs.«01_k».proof.Proof.Gen.Reference24Ideal
public import proofs.«01_k».proof.Proof.Gen.Reference24Ideal.Run
public import proofs.«01_k».proof.Proof.Gen.Kernel25
public import proofs.«01_k».proof.Proof.Gen.Kernel25.Frame
public import proofs.«01_k».proof.Proof.Gen.Kernel25Ideal
public import proofs.«01_k».proof.Proof.Gen.Kernel25Ideal.Frame
public import proofs.«01_k».proof.Proof.Gen.Kernel25Ideal.Value
public import proofs.«01_k».proof.Proof.Gen.Reference25Ideal
public import proofs.«01_k».proof.Proof.Gen.Reference25Ideal.Run
public import proofs.«01_k».proof.Proof.Gen.Kernel26
public import proofs.«01_k».proof.Proof.Gen.Kernel26.Frame
public import proofs.«01_k».proof.Proof.Gen.Kernel26Ideal
public import proofs.«01_k».proof.Proof.Gen.Kernel26Ideal.Frame
public import proofs.«01_k».proof.Proof.Gen.Kernel26Ideal.Value
public import proofs.«01_k».proof.Proof.Gen.Reference26Ideal
public import proofs.«01_k».proof.Proof.Gen.Reference26Ideal.Run
public import proofs.«01_k».proof.Proof.Products
public import proofs.«01_k».proof.Proof.Update
public import proofs.«01_k».proof.Proof.Gates
public import proofs.«01_k».proof.Proof.KernelRun
public import proofs.«01_k».proof.Proof.RefVals
public import proofs.«01_k».proof.Proof.Same
public import Idealize.ShloMosaic.Adequacy
public import Idealize.ShloMosaic.Init

@[expose] public section

noncomputable section

namespace Cert.Proof

open Idealize.ShloMosaic Idealize.SL.Sem

set_option maxHeartbeats 1000000 in
/-- The kernel at the bit-exact instance: the same run as at the extended reals. -/
theorem frame_kernel : quiescent_Kernel := fun m ρ _ => by
  refine cast ?_ (KernelIdeal.Two.run_kept (F := Bits) m ρ)
  exact congrArg (fun d => θ_run d _ _ _) Cert.Same.table.symm

theorem frame_ideal : quiescent_KernelIdeal := fun m ρ _ => KernelIdeal.Two.run_kept (F := Ideal) m ρ

theorem frame_ref : quiescent_ReferenceIdeal := fun m ρ _ =>
  (θ_run ReferenceIdeal.defs _ _).mono (fun r h =>
    ⟨fun c => ⟨(h c _ (by decide)).trans (ReferenceIdeal.Two.kept_0 m c), (h c _ (by decide)).trans (ReferenceIdeal.Two.kept_1 m c), (h c _ (by decide)).trans (ReferenceIdeal.Two.kept_2 m c), (h c _ (by decide)).trans (ReferenceIdeal.Two.kept_3 m c), (h c _ (by decide)).trans (ReferenceIdeal.Two.kept_4 m c), (h c _ (by decide)).trans (ReferenceIdeal.Two.kept_5 m c), (h c _ (by decide)).trans (ReferenceIdeal.Two.kept_6 m c)⟩,
      sem_eq_zero_of_no_sems (by decide) r.2⟩) (ReferenceIdeal.Two.run_fold (F := Ideal) m ρ)

/-- Both programs end with the six gradients of the recurrence. -/
theorem algebraic : algebraic_KernelIdeal_ReferenceIdeal := by
  intro m ρ m' ρ' _ hagree
  refine ⟨fun c => fun i : KernelIdeal.S8x2048x128.Idx => Cert.Recurrence.gradU (m ((c.tc : Thread KernelIdeal.nD KernelIdeal.τ).loc KernelIdeal.main_arg1)) (m ((c.tc : Thread KernelIdeal.nD KernelIdeal.τ).loc KernelIdeal.main_arg2)) (m ((c.tc : Thread KernelIdeal.nD KernelIdeal.τ).loc KernelIdeal.main_arg3)) (m ((c.tc : Thread KernelIdeal.nD KernelIdeal.τ).loc KernelIdeal.main_arg4)) (m ((c.tc : Thread KernelIdeal.nD KernelIdeal.τ).loc KernelIdeal.main_arg5)) (m ((c.tc : Thread KernelIdeal.nD KernelIdeal.τ).loc KernelIdeal.main_arg6)) i, fun c => fun i : KernelIdeal.S8x2048x128.Idx => Cert.Recurrence.gradW (m ((c.tc : Thread KernelIdeal.nD KernelIdeal.τ).loc KernelIdeal.main_arg0)) (m ((c.tc : Thread KernelIdeal.nD KernelIdeal.τ).loc KernelIdeal.main_arg1)) (m ((c.tc : Thread KernelIdeal.nD KernelIdeal.τ).loc KernelIdeal.main_arg2)) (m ((c.tc : Thread KernelIdeal.nD KernelIdeal.τ).loc KernelIdeal.main_arg3)) (m ((c.tc : Thread KernelIdeal.nD KernelIdeal.τ).loc KernelIdeal.main_arg4)) (m ((c.tc : Thread KernelIdeal.nD KernelIdeal.τ).loc KernelIdeal.main_arg5)) (m ((c.tc : Thread KernelIdeal.nD KernelIdeal.τ).loc KernelIdeal.main_arg6)) i, fun c => fun i : KernelIdeal.S8x2048x64.Idx => Cert.Recurrence.gradA (m ((c.tc : Thread KernelIdeal.nD KernelIdeal.τ).loc KernelIdeal.main_arg0)) (m ((c.tc : Thread KernelIdeal.nD KernelIdeal.τ).loc KernelIdeal.main_arg1)) (m ((c.tc : Thread KernelIdeal.nD KernelIdeal.τ).loc KernelIdeal.main_arg4)) (m ((c.tc : Thread KernelIdeal.nD KernelIdeal.τ).loc KernelIdeal.main_arg5)) (m ((c.tc : Thread KernelIdeal.nD KernelIdeal.τ).loc KernelIdeal.main_arg6)) i, fun c => fun i : KernelIdeal.S8x2048x128.Idx => Cert.Recurrence.gradQD (m ((c.tc : Thread KernelIdeal.nD KernelIdeal.τ).loc KernelIdeal.main_arg0)) (m ((c.tc : Thread KernelIdeal.nD KernelIdeal.τ).loc KernelIdeal.main_arg1)) (m ((c.tc : Thread KernelIdeal.nD KernelIdeal.τ).loc KernelIdeal.main_arg4)) (m ((c.tc : Thread KernelIdeal.nD KernelIdeal.τ).loc KernelIdeal.main_arg5)) (m ((c.tc : Thread KernelIdeal.nD KernelIdeal.τ).loc KernelIdeal.main_arg6)) i, fun c => fun i : KernelIdeal.S8x2048x128.Idx => Cert.Recurrence.gradKD (m ((c.tc : Thread KernelIdeal.nD KernelIdeal.τ).loc KernelIdeal.main_arg0)) (m ((c.tc : Thread KernelIdeal.nD KernelIdeal.τ).loc KernelIdeal.main_arg1)) (m ((c.tc : Thread KernelIdeal.nD KernelIdeal.τ).loc KernelIdeal.main_arg2)) (m ((c.tc : Thread KernelIdeal.nD KernelIdeal.τ).loc KernelIdeal.main_arg3)) (m ((c.tc : Thread KernelIdeal.nD KernelIdeal.τ).loc KernelIdeal.main_arg4)) (m ((c.tc : Thread KernelIdeal.nD KernelIdeal.τ).loc KernelIdeal.main_arg5)) (m ((c.tc : Thread KernelIdeal.nD KernelIdeal.τ).loc KernelIdeal.main_arg6)) i, fun c => fun i : KernelIdeal.S8x32x1x128.Idx => Cert.Recurrence.gradEG (m ((c.tc : Thread KernelIdeal.nD KernelIdeal.τ).loc KernelIdeal.main_arg0)) (m ((c.tc : Thread KernelIdeal.nD KernelIdeal.τ).loc KernelIdeal.main_arg1)) (m ((c.tc : Thread KernelIdeal.nD KernelIdeal.τ).loc KernelIdeal.main_arg2)) (m ((c.tc : Thread KernelIdeal.nD KernelIdeal.τ).loc KernelIdeal.main_arg3)) (m ((c.tc : Thread KernelIdeal.nD KernelIdeal.τ).loc KernelIdeal.main_arg4)) (m ((c.tc : Thread KernelIdeal.nD KernelIdeal.τ).loc KernelIdeal.main_arg5)) (m ((c.tc : Thread KernelIdeal.nD KernelIdeal.τ).loc KernelIdeal.main_arg6)) i, KernelIdeal.Two.run_main m ρ, ?_⟩
  refine (θ_run ReferenceIdeal.defs _ _).mono (fun r h c => ?_) (ReferenceIdeal.Two.run_fold (F := Ideal) m' ρ')
  obtain ⟨h0, h1, h2, h3, h4, h5, h6⟩ := hagree c
  refine ⟨(h c _ (by decide)).trans ((ReferenceIdeal.Two.result_main_v39 m' c).trans ?_), (h c _ (by decide)).trans ((ReferenceIdeal.Two.result_main_v37 m' c).trans ?_), (h c _ (by decide)).trans ((ReferenceIdeal.Two.result_main_v35 m' c).trans ?_), (h c _ (by decide)).trans ((ReferenceIdeal.Two.result_main_v33 m' c).trans ?_), (h c _ (by decide)).trans ((ReferenceIdeal.Two.result_main_v31 m' c).trans ?_), (h c _ (by decide)).trans ((ReferenceIdeal.Two.result_main_v29 m' c).trans ?_), (h c _ (by decide)).trans (ReferenceIdeal.Two.kept_0 m' c), (h c _ (by decide)).trans (ReferenceIdeal.Two.kept_1 m' c), (h c _ (by decide)).trans (ReferenceIdeal.Two.kept_2 m' c), (h c _ (by decide)).trans (ReferenceIdeal.Two.kept_3 m' c), (h c _ (by decide)).trans (ReferenceIdeal.Two.kept_4 m' c), (h c _ (by decide)).trans (ReferenceIdeal.Two.kept_5 m' c), (h c _ (by decide)).trans (ReferenceIdeal.Two.kept_6 m' c)⟩
  all_goals simp only [h0, h1, h2, h3, h4, h5, h6]

theorem claim : Cert.Claim := ⟨Kernel.Gen.facts, KernelIdeal.Gen.facts, ReferenceIdeal.Gen.facts, Kernel2.Gen.facts, Kernel2Ideal.Gen.facts, Reference2Ideal.Gen.facts, Kernel3.Gen.facts, Kernel3Ideal.Gen.facts, Reference3Ideal.Gen.facts, Kernel4.Gen.facts, Kernel4Ideal.Gen.facts, Reference4Ideal.Gen.facts, Kernel5.Gen.facts, Kernel5Ideal.Gen.facts, Reference5Ideal.Gen.facts, Kernel6.Gen.facts, Kernel6Ideal.Gen.facts, Reference6Ideal.Gen.facts, Kernel7.Gen.facts, Kernel7Ideal.Gen.facts, Reference7Ideal.Gen.facts, Kernel8.Gen.facts, Kernel8Ideal.Gen.facts, Reference8Ideal.Gen.facts, Kernel9.Gen.facts, Kernel9Ideal.Gen.facts, Reference9Ideal.Gen.facts, Kernel10.Gen.facts, Kernel10Ideal.Gen.facts, Reference10Ideal.Gen.facts, Kernel11.Gen.facts, Kernel11Ideal.Gen.facts, Reference11Ideal.Gen.facts, Kernel12.Gen.facts, Kernel12Ideal.Gen.facts, Reference12Ideal.Gen.facts, Kernel13.Gen.facts, Kernel13Ideal.Gen.facts, Reference13Ideal.Gen.facts, Kernel14.Gen.facts, Kernel14Ideal.Gen.facts, Reference14Ideal.Gen.facts, Kernel15.Gen.facts, Kernel15Ideal.Gen.facts, Reference15Ideal.Gen.facts, Kernel16.Gen.facts, Kernel16Ideal.Gen.facts, Reference16Ideal.Gen.facts, Kernel17.Gen.facts, Kernel17Ideal.Gen.facts, Reference17Ideal.Gen.facts, Kernel18.Gen.facts, Kernel18Ideal.Gen.facts, Reference18Ideal.Gen.facts, Kernel19.Gen.facts, Kernel19Ideal.Gen.facts, Reference19Ideal.Gen.facts, Kernel20.Gen.facts, Kernel20Ideal.Gen.facts, Reference20Ideal.Gen.facts, Kernel21.Gen.facts, Kernel21Ideal.Gen.facts, Reference21Ideal.Gen.facts, Kernel22.Gen.facts, Kernel22Ideal.Gen.facts, Reference22Ideal.Gen.facts, Kernel23.Gen.facts, Kernel23Ideal.Gen.facts, Reference23Ideal.Gen.facts, Kernel24.Gen.facts, Kernel24Ideal.Gen.facts, Reference24Ideal.Gen.facts, Kernel25.Gen.facts, Kernel25Ideal.Gen.facts, Reference25Ideal.Gen.facts, Kernel26.Gen.facts, Kernel26Ideal.Gen.facts, Reference26Ideal.Gen.facts,
  frame_kernel, frame_ideal, frame_ref, Products.frame_2, Products.frame_2_ideal, Products.frame_2_ref, Products.frame_3, Products.frame_3_ideal, Products.frame_3_ref, Products.frame_4, Products.frame_4_ideal, Products.frame_4_ref, Products.frame_5, Products.frame_5_ideal, Products.frame_5_ref, Products.frame_6, Products.frame_6_ideal, Products.frame_6_ref, Products.frame_7, Products.frame_7_ideal, Products.frame_7_ref, Products.frame_8, Products.frame_8_ideal, Products.frame_8_ref, Products.frame_9, Products.frame_9_ideal, Products.frame_9_ref, Products.frame_10, Products.frame_10_ideal, Products.frame_10_ref, Products.frame_11, Products.frame_11_ideal, Products.frame_11_ref, Products.frame_12, Products.frame_12_ideal, Products.frame_12_ref, Products.frame_13, Products.frame_13_ideal, Products.frame_13_ref, Products.frame_14, Products.frame_14_ideal, Products.frame_14_ref, Gates.frame_15, Gates.frame_15_ideal, Gates.frame_15_ref, Gates.frame_16, Gates.frame_16_ideal, Gates.frame_16_ref, Gates.frame_17, Gates.frame_17_ideal, Gates.frame_17_ref, Gates.frame_18, Gates.frame_18_ideal, Gates.frame_18_ref, Gates.frame_19, Gates.frame_19_ideal, Gates.frame_19_ref, Gates.frame_20, Gates.frame_20_ideal, Gates.frame_20_ref, Gates.frame_21, Gates.frame_21_ideal, Gates.frame_21_ref, Update.frame_22, Update.frame_22_ideal, Update.frame_22_ref, Update.frame_23, Update.frame_23_ideal, Update.frame_23_ref, Update.frame_24, Update.frame_24_ideal, Update.frame_24_ref, Update.frame_25, Update.frame_25_ideal, Update.frame_25_ref, Update.frame_26, Update.frame_26_ideal, Update.frame_26_ref,
  trivial, algebraic, trivial, Products.algebraic_2, trivial, Products.algebraic_3, trivial, Products.algebraic_4, trivial, Products.algebraic_5, trivial, Products.algebraic_6, trivial, Products.algebraic_7, trivial, Products.algebraic_8, trivial, Products.algebraic_9, trivial, Products.algebraic_10, trivial, Products.algebraic_11, trivial, Products.algebraic_12, trivial, Products.algebraic_13, trivial, Products.algebraic_14, trivial, Gates.algebraic_15, trivial, Gates.algebraic_16, trivial, Gates.algebraic_17, trivial, Gates.algebraic_18, trivial, Gates.algebraic_19, trivial, Gates.algebraic_20, trivial, Gates.algebraic_21, trivial, Update.algebraic_22, trivial, Update.algebraic_23, trivial, Update.algebraic_24, trivial, Update.algebraic_25, trivial, Update.algebraic_26⟩

end Cert.Proof

end
